-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_MemAtt (m : (ℓ : Loc Cert.MemAtt.nD Cert.MemAtt.τ Cert.MemAtt.sig) → Buf (Elt Bits) ℓ) : Prop :=
  True

def Pre_MemAttIdeal (m : (ℓ : Loc Cert.MemAttIdeal.nD Cert.MemAttIdeal.τ Cert.MemAttIdeal.sig) → Buf (Elt Ideal) ℓ) : Prop :=
  True

def Pre_MemAttIdeal_mem_finite [hPre_mem_finite : Cert.Pre_mem_finite.Facts] (m : (ℓ : Loc Cert.MemAttIdeal.nD Cert.MemAttIdeal.τ Cert.MemAttIdeal.sig) → Buf (Elt Ideal) ℓ) : Prop :=
  ∀ c : Dev Cert.MemAttIdeal.nD,
    (Cert.Pre_mem_finite.fn (F := Ideal) (m ((c.tc : Thread Cert.MemAttIdeal.nD Cert.MemAttIdeal.τ).loc Cert.MemAttIdeal.main_arg0)) (m ((c.tc : Thread Cert.MemAttIdeal.nD Cert.MemAttIdeal.τ).loc Cert.MemAttIdeal.main_arg1)) (m ((c.tc : Thread Cert.MemAttIdeal.nD Cert.MemAttIdeal.τ).loc Cert.MemAttIdeal.main_arg2))).1 = (fun _ => 1#1)
    ∧ (Cert.Pre_mem_finite.fn (F := Ideal) (m ((c.tc : Thread Cert.MemAttIdeal.nD Cert.MemAttIdeal.τ).loc Cert.MemAttIdeal.main_arg0)) (m ((c.tc : Thread Cert.MemAttIdeal.nD Cert.MemAttIdeal.τ).loc Cert.MemAttIdeal.main_arg1)) (m ((c.tc : Thread Cert.MemAttIdeal.nD Cert.MemAttIdeal.τ).loc Cert.MemAttIdeal.main_arg2))).2.1 = (fun _ => 1#1)
    ∧ (Cert.Pre_mem_finite.fn (F := Ideal) (m ((c.tc : Thread Cert.MemAttIdeal.nD Cert.MemAttIdeal.τ).loc Cert.MemAttIdeal.main_arg0)) (m ((c.tc : Thread Cert.MemAttIdeal.nD Cert.MemAttIdeal.τ).loc Cert.MemAttIdeal.main_arg1)) (m ((c.tc : Thread Cert.MemAttIdeal.nD Cert.MemAttIdeal.τ).loc Cert.MemAttIdeal.main_arg2))).2.2 = (fun _ => 1#1)

def Pre_MemAttRefIdeal (m : (ℓ : Loc Cert.MemAttRefIdeal.nD Cert.MemAttRefIdeal.τ Cert.MemAttRefIdeal.sig) → Buf (Elt Ideal) ℓ) : Prop :=
  True

def Pre_MemAttRefIdeal_mem_finite [hPre_mem_finite : Cert.Pre_mem_finite.Facts] (m : (ℓ : Loc Cert.MemAttRefIdeal.nD Cert.MemAttRefIdeal.τ Cert.MemAttRefIdeal.sig) → Buf (Elt Ideal) ℓ) : Prop :=
  ∀ c : Dev Cert.MemAttRefIdeal.nD,
    (Cert.Pre_mem_finite.fn (F := Ideal) (m ((c.tc : Thread Cert.MemAttRefIdeal.nD Cert.MemAttRefIdeal.τ).loc Cert.MemAttRefIdeal.main_arg0)) (m ((c.tc : Thread Cert.MemAttRefIdeal.nD Cert.MemAttRefIdeal.τ).loc Cert.MemAttRefIdeal.main_arg1)) (m ((c.tc : Thread Cert.MemAttRefIdeal.nD Cert.MemAttRefIdeal.τ).loc Cert.MemAttRefIdeal.main_arg2))).1 = (fun _ => 1#1)
    ∧ (Cert.Pre_mem_finite.fn (F := Ideal) (m ((c.tc : Thread Cert.MemAttRefIdeal.nD Cert.MemAttRefIdeal.τ).loc Cert.MemAttRefIdeal.main_arg0)) (m ((c.tc : Thread Cert.MemAttRefIdeal.nD Cert.MemAttRefIdeal.τ).loc Cert.MemAttRefIdeal.main_arg1)) (m ((c.tc : Thread Cert.MemAttRefIdeal.nD Cert.MemAttRefIdeal.τ).loc Cert.MemAttRefIdeal.main_arg2))).2.1 = (fun _ => 1#1)
    ∧ (Cert.Pre_mem_finite.fn (F := Ideal) (m ((c.tc : Thread Cert.MemAttRefIdeal.nD Cert.MemAttRefIdeal.τ).loc Cert.MemAttRefIdeal.main_arg0)) (m ((c.tc : Thread Cert.MemAttRefIdeal.nD Cert.MemAttRefIdeal.τ).loc Cert.MemAttRefIdeal.main_arg1)) (m ((c.tc : Thread Cert.MemAttRefIdeal.nD Cert.MemAttRefIdeal.τ).loc Cert.MemAttRefIdeal.main_arg2))).2.2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_finite [hPre_ffn_in_finite : Cert.Pre_ffn_in_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.2.2.2 = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_in_finite [hPre_ffn_in_finite : Cert.Pre_ffn_in_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_finite [hPre_up_finite : Cert.Pre_up_finite.Facts] (m : (ℓ : Loc Cert.UpIdeal.nD Cert.UpIdeal.τ Cert.UpIdeal.sig) → Buf (Elt Ideal) ℓ) : Prop :=
  ∀ c : Dev Cert.UpIdeal.nD,
    (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))).1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))).2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))).1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))).2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBRefIdeal (m : (ℓ : Loc Cert.OutBRefIdeal.nD Cert.OutBRefIdeal.τ Cert.OutBRefIdeal.sig) → Buf (Elt Ideal) ℓ) : Prop :=
  True

def Pre_InWA (m : (ℓ : Loc Cert.InWA.nD Cert.InWA.τ Cert.InWA.sig) → Buf (Elt Bits) ℓ) : Prop :=
  True

def Pre_InWAIdeal (m : (ℓ : Loc Cert.InWAIdeal.nD Cert.InWAIdeal.τ Cert.InWAIdeal.sig) → Buf (Elt Ideal) ℓ) : Prop :=
  True

def Pre_InWARefIdeal (m : (ℓ : Loc Cert.InWARefIdeal.nD Cert.InWARefIdeal.τ Cert.InWARefIdeal.sig) → Buf (Elt Ideal) ℓ) : Prop :=
  True

def Pre_InWB (m : (ℓ : Loc Cert.InWB.nD Cert.InWB.τ Cert.InWB.sig) → Buf (Elt Bits) ℓ) : Prop :=
  True

def Pre_InWBIdeal (m : (ℓ : Loc Cert.InWBIdeal.nD Cert.InWBIdeal.τ Cert.InWBIdeal.sig) → Buf (Elt Ideal) ℓ) : Prop :=
  True

def Pre_InWBRefIdeal (m : (ℓ : Loc Cert.InWBRefIdeal.nD Cert.InWBRefIdeal.τ Cert.InWBRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InAIdeal_in_a_finite [hPre_in_a_finite : Cert.Pre_in_a_finite.Facts] (m : (ℓ : Loc Cert.InAIdeal.nD Cert.InAIdeal.τ Cert.InAIdeal.sig) → Buf (Elt Ideal) ℓ) : Prop :=
  ∀ c : Dev Cert.InAIdeal.nD,
    (Cert.Pre_in_a_finite.fn (F := Ideal) (m ((c.tc : Thread Cert.InAIdeal.nD Cert.InAIdeal.τ).loc Cert.InAIdeal.main_arg0)) (m ((c.tc : Thread Cert.InAIdeal.nD Cert.InAIdeal.τ).loc Cert.InAIdeal.main_arg1)) (m ((c.tc : Thread Cert.InAIdeal.nD Cert.InAIdeal.τ).loc Cert.InAIdeal.main_arg2)) (m ((c.tc : Thread Cert.InAIdeal.nD Cert.InAIdeal.τ).loc Cert.InAIdeal.main_arg3)) (m ((c.tc : Thread Cert.InAIdeal.nD Cert.InAIdeal.τ).loc Cert.InAIdeal.main_arg4))).1 = (fun _ => 1#1)
    ∧ (Cert.Pre_in_a_finite.fn (F := Ideal) (m ((c.tc : Thread Cert.InAIdeal.nD Cert.InAIdeal.τ).loc Cert.InAIdeal.main_arg0)) (m ((c.tc : Thread Cert.InAIdeal.nD Cert.InAIdeal.τ).loc Cert.InAIdeal.main_arg1)) (m ((c.tc : Thread Cert.InAIdeal.nD Cert.InAIdeal.τ).loc Cert.InAIdeal.main_arg2)) (m ((c.tc : Thread Cert.InAIdeal.nD Cert.InAIdeal.τ).loc Cert.InAIdeal.main_arg3)) (m ((c.tc : Thread Cert.InAIdeal.nD Cert.InAIdeal.τ).loc Cert.InAIdeal.main_arg4))).2.1 = (fun _ => 1#1)
    ∧ (Cert.Pre_in_a_finite.fn (F := Ideal) (m ((c.tc : Thread Cert.InAIdeal.nD Cert.InAIdeal.τ).loc Cert.InAIdeal.main_arg0)) (m ((c.tc : Thread Cert.InAIdeal.nD Cert.InAIdeal.τ).loc Cert.InAIdeal.main_arg1)) (m ((c.tc : Thread Cert.InAIdeal.nD Cert.InAIdeal.τ).loc Cert.InAIdeal.main_arg2)) (m ((c.tc : Thread Cert.InAIdeal.nD Cert.InAIdeal.τ).loc Cert.InAIdeal.main_arg3)) (m ((c.tc : Thread Cert.InAIdeal.nD Cert.InAIdeal.τ).loc Cert.InAIdeal.main_arg4))).2.2.1 = (fun _ => 1#1)
    ∧ (Cert.Pre_in_a_finite.fn (F := Ideal) (m ((c.tc : Thread Cert.InAIdeal.nD Cert.InAIdeal.τ).loc Cert.InAIdeal.main_arg0)) (m ((c.tc : Thread Cert.InAIdeal.nD Cert.InAIdeal.τ).loc Cert.InAIdeal.main_arg1)) (m ((c.tc : Thread Cert.InAIdeal.nD Cert.InAIdeal.τ).loc Cert.InAIdeal.main_arg2)) (m ((c.tc : Thread Cert.InAIdeal.nD Cert.InAIdeal.τ).loc Cert.InAIdeal.main_arg3)) (m ((c.tc : Thread Cert.InAIdeal.nD Cert.InAIdeal.τ).loc Cert.InAIdeal.main_arg4))).2.2.2.1 = (fun _ => 1#1)
    ∧ (Cert.Pre_in_a_finite.fn (F := Ideal) (m ((c.tc : Thread Cert.InAIdeal.nD Cert.InAIdeal.τ).loc Cert.InAIdeal.main_arg0)) (m ((c.tc : Thread Cert.InAIdeal.nD Cert.InAIdeal.τ).loc Cert.InAIdeal.main_arg1)) (m ((c.tc : Thread Cert.InAIdeal.nD Cert.InAIdeal.τ).loc Cert.InAIdeal.main_arg2)) (m ((c.tc : Thread Cert.InAIdeal.nD Cert.InAIdeal.τ).loc Cert.InAIdeal.main_arg3)) (m ((c.tc : Thread Cert.InAIdeal.nD Cert.InAIdeal.τ).loc Cert.InAIdeal.main_arg4))).2.2.2.2 = (fun _ => 1#1)

def Pre_InARefIdeal (m : (ℓ : Loc Cert.InARefIdeal.nD Cert.InARefIdeal.τ Cert.InARefIdeal.sig) → Buf (Elt Ideal) ℓ) : Prop :=
  True

def Pre_InARefIdeal_in_a_finite [hPre_in_a_finite : Cert.Pre_in_a_finite.Facts] (m : (ℓ : Loc Cert.InARefIdeal.nD Cert.InARefIdeal.τ Cert.InARefIdeal.sig) → Buf (Elt Ideal) ℓ) : Prop :=
  ∀ c : Dev Cert.InARefIdeal.nD,
    (Cert.Pre_in_a_finite.fn (F := Ideal) (m ((c.tc : Thread Cert.InARefIdeal.nD Cert.InARefIdeal.τ).loc Cert.InARefIdeal.main_arg0)) (m ((c.tc : Thread Cert.InARefIdeal.nD Cert.InARefIdeal.τ).loc Cert.InARefIdeal.main_arg1)) (m ((c.tc : Thread Cert.InARefIdeal.nD Cert.InARefIdeal.τ).loc Cert.InARefIdeal.main_arg2)) (m ((c.tc : Thread Cert.InARefIdeal.nD Cert.InARefIdeal.τ).loc Cert.InARefIdeal.main_arg3)) (m ((c.tc : Thread Cert.InARefIdeal.nD Cert.InARefIdeal.τ).loc Cert.InARefIdeal.main_arg4))).1 = (fun _ => 1#1)
    ∧ (Cert.Pre_in_a_finite.fn (F := Ideal) (m ((c.tc : Thread Cert.InARefIdeal.nD Cert.InARefIdeal.τ).loc Cert.InARefIdeal.main_arg0)) (m ((c.tc : Thread Cert.InARefIdeal.nD Cert.InARefIdeal.τ).loc Cert.InARefIdeal.main_arg1)) (m ((c.tc : Thread Cert.InARefIdeal.nD Cert.InARefIdeal.τ).loc Cert.InARefIdeal.main_arg2)) (m ((c.tc : Thread Cert.InARefIdeal.nD Cert.InARefIdeal.τ).loc Cert.InARefIdeal.main_arg3)) (m ((c.tc : Thread Cert.InARefIdeal.nD Cert.InARefIdeal.τ).loc Cert.InARefIdeal.main_arg4))).2.1 = (fun _ => 1#1)
    ∧ (Cert.Pre_in_a_finite.fn (F := Ideal) (m ((c.tc : Thread Cert.InARefIdeal.nD Cert.InARefIdeal.τ).loc Cert.InARefIdeal.main_arg0)) (m ((c.tc : Thread Cert.InARefIdeal.nD Cert.InARefIdeal.τ).loc Cert.InARefIdeal.main_arg1)) (m ((c.tc : Thread Cert.InARefIdeal.nD Cert.InARefIdeal.τ).loc Cert.InARefIdeal.main_arg2)) (m ((c.tc : Thread Cert.InARefIdeal.nD Cert.InARefIdeal.τ).loc Cert.InARefIdeal.main_arg3)) (m ((c.tc : Thread Cert.InARefIdeal.nD Cert.InARefIdeal.τ).loc Cert.InARefIdeal.main_arg4))).2.2.1 = (fun _ => 1#1)
    ∧ (Cert.Pre_in_a_finite.fn (F := Ideal) (m ((c.tc : Thread Cert.InARefIdeal.nD Cert.InARefIdeal.τ).loc Cert.InARefIdeal.main_arg0)) (m ((c.tc : Thread Cert.InARefIdeal.nD Cert.InARefIdeal.τ).loc Cert.InARefIdeal.main_arg1)) (m ((c.tc : Thread Cert.InARefIdeal.nD Cert.InARefIdeal.τ).loc Cert.InARefIdeal.main_arg2)) (m ((c.tc : Thread Cert.InARefIdeal.nD Cert.InARefIdeal.τ).loc Cert.InARefIdeal.main_arg3)) (m ((c.tc : Thread Cert.InARefIdeal.nD Cert.InARefIdeal.τ).loc Cert.InARefIdeal.main_arg4))).2.2.2.1 = (fun _ => 1#1)
    ∧ (Cert.Pre_in_a_finite.fn (F := Ideal) (m ((c.tc : Thread Cert.InARefIdeal.nD Cert.InARefIdeal.τ).loc Cert.InARefIdeal.main_arg0)) (m ((c.tc : Thread Cert.InARefIdeal.nD Cert.InARefIdeal.τ).loc Cert.InARefIdeal.main_arg1)) (m ((c.tc : Thread Cert.InARefIdeal.nD Cert.InARefIdeal.τ).loc Cert.InARefIdeal.main_arg2)) (m ((c.tc : Thread Cert.InARefIdeal.nD Cert.InARefIdeal.τ).loc Cert.InARefIdeal.main_arg3)) (m ((c.tc : Thread Cert.InARefIdeal.nD Cert.InARefIdeal.τ).loc Cert.InARefIdeal.main_arg4))).2.2.2.2 = (fun _ => 1#1)

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBIdeal_in_b_finite [hPre_in_b_finite : Cert.Pre_in_b_finite.Facts] (m : (ℓ : Loc Cert.InBIdeal.nD Cert.InBIdeal.τ Cert.InBIdeal.sig) → Buf (Elt Ideal) ℓ) : Prop :=
  ∀ c : Dev Cert.InBIdeal.nD,
    (Cert.Pre_in_b_finite.fn (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4))).1 = (fun _ => 1#1)
    ∧ (Cert.Pre_in_b_finite.fn (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4))).2.1 = (fun _ => 1#1)
    ∧ (Cert.Pre_in_b_finite.fn (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4))).2.2.1 = (fun _ => 1#1)
    ∧ (Cert.Pre_in_b_finite.fn (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4))).2.2.2.1 = (fun _ => 1#1)
    ∧ (Cert.Pre_in_b_finite.fn (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4))).2.2.2.2 = (fun _ => 1#1)

def Pre_InBRefIdeal (m : (ℓ : Loc Cert.InBRefIdeal.nD Cert.InBRefIdeal.τ Cert.InBRefIdeal.sig) → Buf (Elt Ideal) ℓ) : Prop :=
  True

def Pre_InBRefIdeal_in_b_finite [hPre_in_b_finite : Cert.Pre_in_b_finite.Facts] (m : (ℓ : Loc Cert.InBRefIdeal.nD Cert.InBRefIdeal.τ Cert.InBRefIdeal.sig) → Buf (Elt Ideal) ℓ) : Prop :=
  ∀ c : Dev Cert.InBRefIdeal.nD,
    (Cert.Pre_in_b_finite.fn (F := Ideal) (m ((c.tc : Thread Cert.InBRefIdeal.nD Cert.InBRefIdeal.τ).loc Cert.InBRefIdeal.main_arg0)) (m ((c.tc : Thread Cert.InBRefIdeal.nD Cert.InBRefIdeal.τ).loc Cert.InBRefIdeal.main_arg1)) (m ((c.tc : Thread Cert.InBRefIdeal.nD Cert.InBRefIdeal.τ).loc Cert.InBRefIdeal.main_arg2)) (m ((c.tc : Thread Cert.InBRefIdeal.nD Cert.InBRefIdeal.τ).loc Cert.InBRefIdeal.main_arg3)) (m ((c.tc : Thread Cert.InBRefIdeal.nD Cert.InBRefIdeal.τ).loc Cert.InBRefIdeal.main_arg4))).1 = (fun _ => 1#1)
    ∧ (Cert.Pre_in_b_finite.fn (F := Ideal) (m ((c.tc : Thread Cert.InBRefIdeal.nD Cert.InBRefIdeal.τ).loc Cert.InBRefIdeal.main_arg0)) (m ((c.tc : Thread Cert.InBRefIdeal.nD Cert.InBRefIdeal.τ).loc Cert.InBRefIdeal.main_arg1)) (m ((c.tc : Thread Cert.InBRefIdeal.nD Cert.InBRefIdeal.τ).loc Cert.InBRefIdeal.main_arg2)) (m ((c.tc : Thread Cert.InBRefIdeal.nD Cert.InBRefIdeal.τ).loc Cert.InBRefIdeal.main_arg3)) (m ((c.tc : Thread Cert.InBRefIdeal.nD Cert.InBRefIdeal.τ).loc Cert.InBRefIdeal.main_arg4))).2.1 = (fun _ => 1#1)
    ∧ (Cert.Pre_in_b_finite.fn (F := Ideal) (m ((c.tc : Thread Cert.InBRefIdeal.nD Cert.InBRefIdeal.τ).loc Cert.InBRefIdeal.main_arg0)) (m ((c.tc : Thread Cert.InBRefIdeal.nD Cert.InBRefIdeal.τ).loc Cert.InBRefIdeal.main_arg1)) (m ((c.tc : Thread Cert.InBRefIdeal.nD Cert.InBRefIdeal.τ).loc Cert.InBRefIdeal.main_arg2)) (m ((c.tc : Thread Cert.InBRefIdeal.nD Cert.InBRefIdeal.τ).loc Cert.InBRefIdeal.main_arg3)) (m ((c.tc : Thread Cert.InBRefIdeal.nD Cert.InBRefIdeal.τ).loc Cert.InBRefIdeal.main_arg4))).2.2.1 = (fun _ => 1#1)
    ∧ (Cert.Pre_in_b_finite.fn (F := Ideal) (m ((c.tc : Thread Cert.InBRefIdeal.nD Cert.InBRefIdeal.τ).loc Cert.InBRefIdeal.main_arg0)) (m ((c.tc : Thread Cert.InBRefIdeal.nD Cert.InBRefIdeal.τ).loc Cert.InBRefIdeal.main_arg1)) (m ((c.tc : Thread Cert.InBRefIdeal.nD Cert.InBRefIdeal.τ).loc Cert.InBRefIdeal.main_arg2)) (m ((c.tc : Thread Cert.InBRefIdeal.nD Cert.InBRefIdeal.τ).loc Cert.InBRefIdeal.main_arg3)) (m ((c.tc : Thread Cert.InBRefIdeal.nD Cert.InBRefIdeal.τ).loc Cert.InBRefIdeal.main_arg4))).2.2.2.1 = (fun _ => 1#1)
    ∧ (Cert.Pre_in_b_finite.fn (F := Ideal) (m ((c.tc : Thread Cert.InBRefIdeal.nD Cert.InBRefIdeal.τ).loc Cert.InBRefIdeal.main_arg0)) (m ((c.tc : Thread Cert.InBRefIdeal.nD Cert.InBRefIdeal.τ).loc Cert.InBRefIdeal.main_arg1)) (m ((c.tc : Thread Cert.InBRefIdeal.nD Cert.InBRefIdeal.τ).loc Cert.InBRefIdeal.main_arg2)) (m ((c.tc : Thread Cert.InBRefIdeal.nD Cert.InBRefIdeal.τ).loc Cert.InBRefIdeal.main_arg3)) (m ((c.tc : Thread Cert.InBRefIdeal.nD Cert.InBRefIdeal.τ).loc Cert.InBRefIdeal.main_arg4))).2.2.2.2 = (fun _ => 1#1)

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_OutN (m : (ℓ : Loc Cert.OutN.nD Cert.OutN.τ Cert.OutN.sig) → Buf (Elt Bits) ℓ) : Prop :=
  True

def Pre_OutNIdeal (m : (ℓ : Loc Cert.OutNIdeal.nD Cert.OutNIdeal.τ Cert.OutNIdeal.sig) → Buf (Elt Ideal) ℓ) : Prop :=
  True

def Pre_OutNRefIdeal (m : (ℓ : Loc Cert.OutNRefIdeal.nD Cert.OutNRefIdeal.τ Cert.OutNRefIdeal.sig) → Buf (Elt Ideal) ℓ) : Prop :=
  True

def Pre_ProjX (m : (ℓ : Loc Cert.ProjX.nD Cert.ProjX.τ Cert.ProjX.sig) → Buf (Elt Bits) ℓ) : Prop :=
  True

def Pre_ProjXIdeal (m : (ℓ : Loc Cert.ProjXIdeal.nD Cert.ProjXIdeal.τ Cert.ProjXIdeal.sig) → Buf (Elt Ideal) ℓ) : Prop :=
  True

def Pre_ProjXRefIdeal (m : (ℓ : Loc Cert.ProjXRefIdeal.nD Cert.ProjXRefIdeal.τ Cert.ProjXRefIdeal.sig) → Buf (Elt Ideal) ℓ) : Prop :=
  True

def Pre_InWX (m : (ℓ : Loc Cert.InWX.nD Cert.InWX.τ Cert.InWX.sig) → Buf (Elt Bits) ℓ) : Prop :=
  True

def Pre_InWXIdeal (m : (ℓ : Loc Cert.InWXIdeal.nD Cert.InWXIdeal.τ Cert.InWXIdeal.sig) → Buf (Elt Ideal) ℓ) : Prop :=
  True

def Pre_InWXRefIdeal (m : (ℓ : Loc Cert.InWXRefIdeal.nD Cert.InWXRefIdeal.τ Cert.InWXRefIdeal.sig) → Buf (Elt Ideal) ℓ) : Prop :=
  True

def Pre_MkvF (m : (ℓ : Loc Cert.MkvF.nD Cert.MkvF.τ Cert.MkvF.sig) → Buf (Elt Bits) ℓ) : Prop :=
  True

def Pre_MkvFIdeal (m : (ℓ : Loc Cert.MkvFIdeal.nD Cert.MkvFIdeal.τ Cert.MkvFIdeal.sig) → Buf (Elt Ideal) ℓ) : Prop :=
  True

def Pre_MkvFRefIdeal (m : (ℓ : Loc Cert.MkvFRefIdeal.nD Cert.MkvFRefIdeal.τ Cert.MkvFRefIdeal.sig) → Buf (Elt Ideal) ℓ) : Prop :=
  True

def Pre_MkvW (m : (ℓ : Loc Cert.MkvW.nD Cert.MkvW.τ Cert.MkvW.sig) → Buf (Elt Bits) ℓ) : Prop :=
  True

def Pre_MkvWIdeal (m : (ℓ : Loc Cert.MkvWIdeal.nD Cert.MkvWIdeal.τ Cert.MkvWIdeal.sig) → Buf (Elt Ideal) ℓ) : Prop :=
  True

def Pre_MkvWRefIdeal (m : (ℓ : Loc Cert.MkvWRefIdeal.nD Cert.MkvWRefIdeal.τ Cert.MkvWRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.2 = (fun _ => 1#1)

def Pre_MemF (m : (ℓ : Loc Cert.MemF.nD Cert.MemF.τ Cert.MemF.sig) → Buf (Elt Bits) ℓ) : Prop :=
  True

def Pre_MemFIdeal (m : (ℓ : Loc Cert.MemFIdeal.nD Cert.MemFIdeal.τ Cert.MemFIdeal.sig) → Buf (Elt Ideal) ℓ) : Prop :=
  True

def Pre_MemFRefIdeal (m : (ℓ : Loc Cert.MemFRefIdeal.nD Cert.MemFRefIdeal.τ Cert.MemFRefIdeal.sig) → Buf (Elt Ideal) ℓ) : Prop :=
  True

def Pre_AdamAIn (m : (ℓ : Loc Cert.AdamAIn.nD Cert.AdamAIn.τ Cert.AdamAIn.sig) → Buf (Elt Bits) ℓ) : Prop :=
  True

def Pre_AdamAInIdeal (m : (ℓ : Loc Cert.AdamAInIdeal.nD Cert.AdamAInIdeal.τ Cert.AdamAInIdeal.sig) → Buf (Elt Ideal) ℓ) : Prop :=
  True

def Pre_AdamAInRefIdeal (m : (ℓ : Loc Cert.AdamAInRefIdeal.nD Cert.AdamAInRefIdeal.τ Cert.AdamAInRefIdeal.sig) → Buf (Elt Ideal) ℓ) : Prop :=
  True

def Pre_AdamBIn (m : (ℓ : Loc Cert.AdamBIn.nD Cert.AdamBIn.τ Cert.AdamBIn.sig) → Buf (Elt Bits) ℓ) : Prop :=
  True

def Pre_AdamBInIdeal (m : (ℓ : Loc Cert.AdamBInIdeal.nD Cert.AdamBInIdeal.τ Cert.AdamBInIdeal.sig) → Buf (Elt Ideal) ℓ) : Prop :=
  True

def Pre_AdamBInRefIdeal (m : (ℓ : Loc Cert.AdamBInRefIdeal.nD Cert.AdamBInRefIdeal.τ Cert.AdamBInRefIdeal.sig) → Buf (Elt Ideal) ℓ) : Prop :=
  True

def Pre_AdamMem (m : (ℓ : Loc Cert.AdamMem.nD Cert.AdamMem.τ Cert.AdamMem.sig) → Buf (Elt Bits) ℓ) : Prop :=
  True

def Pre_AdamMemIdeal (m : (ℓ : Loc Cert.AdamMemIdeal.nD Cert.AdamMemIdeal.τ Cert.AdamMemIdeal.sig) → Buf (Elt Ideal) ℓ) : Prop :=
  True

def Pre_AdamMemRefIdeal (m : (ℓ : Loc Cert.AdamMemRefIdeal.nD Cert.AdamMemRefIdeal.τ Cert.AdamMemRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_MemAttA (m : (ℓ : Loc Cert.MemAttA.nD Cert.MemAttA.τ Cert.MemAttA.sig) → Buf (Elt Bits) ℓ) : Prop :=
  True

def Pre_MemAttAIdeal (m : (ℓ : Loc Cert.MemAttAIdeal.nD Cert.MemAttAIdeal.τ Cert.MemAttAIdeal.sig) → Buf (Elt Ideal) ℓ) : Prop :=
  True

def Pre_MemAttAIdeal_mem_a_finite [hPre_mem_a_finite : Cert.Pre_mem_a_finite.Facts] (m : (ℓ : Loc Cert.MemAttAIdeal.nD Cert.MemAttAIdeal.τ Cert.MemAttAIdeal.sig) → Buf (Elt Ideal) ℓ) : Prop :=
  ∀ c : Dev Cert.MemAttAIdeal.nD,
    (Cert.Pre_mem_a_finite.fn (F := Ideal) (m ((c.tc : Thread Cert.MemAttAIdeal.nD Cert.MemAttAIdeal.τ).loc Cert.MemAttAIdeal.main_arg0)) (m ((c.tc : Thread Cert.MemAttAIdeal.nD Cert.MemAttAIdeal.τ).loc Cert.MemAttAIdeal.main_arg1)) (m ((c.tc : Thread Cert.MemAttAIdeal.nD Cert.MemAttAIdeal.τ).loc Cert.MemAttAIdeal.main_arg2))).1 = (fun _ => 1#1)
    ∧ (Cert.Pre_mem_a_finite.fn (F := Ideal) (m ((c.tc : Thread Cert.MemAttAIdeal.nD Cert.MemAttAIdeal.τ).loc Cert.MemAttAIdeal.main_arg0)) (m ((c.tc : Thread Cert.MemAttAIdeal.nD Cert.MemAttAIdeal.τ).loc Cert.MemAttAIdeal.main_arg1)) (m ((c.tc : Thread Cert.MemAttAIdeal.nD Cert.MemAttAIdeal.τ).loc Cert.MemAttAIdeal.main_arg2))).2.1 = (fun _ => 1#1)
    ∧ (Cert.Pre_mem_a_finite.fn (F := Ideal) (m ((c.tc : Thread Cert.MemAttAIdeal.nD Cert.MemAttAIdeal.τ).loc Cert.MemAttAIdeal.main_arg0)) (m ((c.tc : Thread Cert.MemAttAIdeal.nD Cert.MemAttAIdeal.τ).loc Cert.MemAttAIdeal.main_arg1)) (m ((c.tc : Thread Cert.MemAttAIdeal.nD Cert.MemAttAIdeal.τ).loc Cert.MemAttAIdeal.main_arg2))).2.2 = (fun _ => 1#1)

def Pre_MemAttARefIdeal (m : (ℓ : Loc Cert.MemAttARefIdeal.nD Cert.MemAttARefIdeal.τ Cert.MemAttARefIdeal.sig) → Buf (Elt Ideal) ℓ) : Prop :=
  True

def Pre_MemAttARefIdeal_mem_a_finite [hPre_mem_a_finite : Cert.Pre_mem_a_finite.Facts] (m : (ℓ : Loc Cert.MemAttARefIdeal.nD Cert.MemAttARefIdeal.τ Cert.MemAttARefIdeal.sig) → Buf (Elt Ideal) ℓ) : Prop :=
  ∀ c : Dev Cert.MemAttARefIdeal.nD,
    (Cert.Pre_mem_a_finite.fn (F := Ideal) (m ((c.tc : Thread Cert.MemAttARefIdeal.nD Cert.MemAttARefIdeal.τ).loc Cert.MemAttARefIdeal.main_arg0)) (m ((c.tc : Thread Cert.MemAttARefIdeal.nD Cert.MemAttARefIdeal.τ).loc Cert.MemAttARefIdeal.main_arg1)) (m ((c.tc : Thread Cert.MemAttARefIdeal.nD Cert.MemAttARefIdeal.τ).loc Cert.MemAttARefIdeal.main_arg2))).1 = (fun _ => 1#1)
    ∧ (Cert.Pre_mem_a_finite.fn (F := Ideal) (m ((c.tc : Thread Cert.MemAttARefIdeal.nD Cert.MemAttARefIdeal.τ).loc Cert.MemAttARefIdeal.main_arg0)) (m ((c.tc : Thread Cert.MemAttARefIdeal.nD Cert.MemAttARefIdeal.τ).loc Cert.MemAttARefIdeal.main_arg1)) (m ((c.tc : Thread Cert.MemAttARefIdeal.nD Cert.MemAttARefIdeal.τ).loc Cert.MemAttARefIdeal.main_arg2))).2.1 = (fun _ => 1#1)
    ∧ (Cert.Pre_mem_a_finite.fn (F := Ideal) (m ((c.tc : Thread Cert.MemAttARefIdeal.nD Cert.MemAttARefIdeal.τ).loc Cert.MemAttARefIdeal.main_arg0)) (m ((c.tc : Thread Cert.MemAttARefIdeal.nD Cert.MemAttARefIdeal.τ).loc Cert.MemAttARefIdeal.main_arg1)) (m ((c.tc : Thread Cert.MemAttARefIdeal.nD Cert.MemAttARefIdeal.τ).loc Cert.MemAttARefIdeal.main_arg2))).2.2 = (fun _ => 1#1)

def Pre_MemFA (m : (ℓ : Loc Cert.MemFA.nD Cert.MemFA.τ Cert.MemFA.sig) → Buf (Elt Bits) ℓ) : Prop :=
  True

def Pre_MemFAIdeal (m : (ℓ : Loc Cert.MemFAIdeal.nD Cert.MemFAIdeal.τ Cert.MemFAIdeal.sig) → Buf (Elt Ideal) ℓ) : Prop :=
  True

def Pre_MemFARefIdeal (m : (ℓ : Loc Cert.MemFARefIdeal.nD Cert.MemFARefIdeal.τ Cert.MemFARefIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_MemAtt [hMemAtt : Cert.MemAtt.Facts] : Prop :=
  ∀ (m : (ℓ : Loc Cert.MemAtt.nD Cert.MemAtt.τ Cert.MemAtt.sig) → Buf (Elt Bits) ℓ) (g : Dev Cert.MemAtt.nD → PrngReg), Pre_MemAtt m →
    θ_run (Cert.MemAtt.defs (F := Bits)) (onTc (τ := Cert.MemAtt.τ) (Cert.MemAtt.main (F := Bits))) ⟨m, fun _ => 0, g⟩ (fun r => (∀ c : Dev Cert.MemAtt.nD,
      r.2.mem ((c.tc : Thread Cert.MemAtt.nD Cert.MemAtt.τ).loc Cert.MemAtt.main_arg0) = m ((c.tc : Thread Cert.MemAtt.nD Cert.MemAtt.τ).loc Cert.MemAtt.main_arg0)
      ∧ r.2.mem ((c.tc : Thread Cert.MemAtt.nD Cert.MemAtt.τ).loc Cert.MemAtt.main_arg1) = m ((c.tc : Thread Cert.MemAtt.nD Cert.MemAtt.τ).loc Cert.MemAtt.main_arg1)
      ∧ r.2.mem ((c.tc : Thread Cert.MemAtt.nD Cert.MemAtt.τ).loc Cert.MemAtt.main_arg2) = m ((c.tc : Thread Cert.MemAtt.nD Cert.MemAtt.τ).loc Cert.MemAtt.main_arg2))
      ∧ r.2.sem = fun _ => 0)

def quiescent_MemAttIdeal [hMemAttIdeal : Cert.MemAttIdeal.Facts] : Prop :=
  ∀ (m : (ℓ : Loc Cert.MemAttIdeal.nD Cert.MemAttIdeal.τ Cert.MemAttIdeal.sig) → Buf (Elt Ideal) ℓ) (g : Dev Cert.MemAttIdeal.nD → PrngReg), Pre_MemAttIdeal m →
    θ_run (Cert.MemAttIdeal.defs (F := Ideal)) (onTc (τ := Cert.MemAttIdeal.τ) (Cert.MemAttIdeal.main (F := Ideal))) ⟨m, fun _ => 0, g⟩ (fun r => (∀ c : Dev Cert.MemAttIdeal.nD,
      r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
      ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
      ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2))
      ∧ r.2.sem = fun _ => 0)

def quiescent_MemAttIdeal_pre_mem_finite [hMemAttIdeal : Cert.MemAttIdeal.Facts] [hPre_mem_finite : Cert.Pre_mem_finite.Facts] : Prop :=
  ∀ (m : (ℓ : Loc Cert.MemAttIdeal.nD Cert.MemAttIdeal.τ Cert.MemAttIdeal.sig) → Buf (Elt Ideal) ℓ) (g : Dev Cert.MemAttIdeal.nD → PrngReg), Pre_MemAttIdeal_mem_finite m →
    θ_run (Cert.MemAttIdeal.defs (F := Ideal)) (onTc (τ := Cert.MemAttIdeal.τ) (Cert.MemAttIdeal.main (F := Ideal))) ⟨m, fun _ => 0, g⟩ (fun r => (∀ c : Dev Cert.MemAttIdeal.nD,
      r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
      ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
      ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2))
      ∧ r.2.sem = fun _ => 0)

def quiescent_MemAttRefIdeal [hMemAttRefIdeal : Cert.MemAttRefIdeal.Facts] : Prop :=
  ∀ (m : (ℓ : Loc Cert.MemAttRefIdeal.nD Cert.MemAttRefIdeal.τ Cert.MemAttRefIdeal.sig) → Buf (Elt Ideal) ℓ) (g : Dev Cert.MemAttRefIdeal.nD → PrngReg), Pre_MemAttRefIdeal m →
    θ_run (Cert.MemAttRefIdeal.defs (F := Ideal)) (onTc (τ := Cert.MemAttRefIdeal.τ) (Cert.MemAttRefIdeal.main (F := Ideal))) ⟨m, fun _ => 0, g⟩ (fun r => (∀ c : Dev Cert.MemAttRefIdeal.nD,
      r.2.mem ((c.tc : Thread Cert.MemAttRefIdeal.nD Cert.MemAttRefIdeal.τ).loc Cert.MemAttRefIdeal.main_arg0) = m ((c.tc : Thread Cert.MemAttRefIdeal.nD Cert.MemAttRefIdeal.τ).loc Cert.MemAttRefIdeal.main_arg0)
      ∧ r.2.mem ((c.tc : Thread Cert.MemAttRefIdeal.nD Cert.MemAttRefIdeal.τ).loc Cert.MemAttRefIdeal.main_arg1) = m ((c.tc : Thread Cert.MemAttRefIdeal.nD Cert.MemAttRefIdeal.τ).loc Cert.MemAttRefIdeal.main_arg1)
      ∧ r.2.mem ((c.tc : Thread Cert.MemAttRefIdeal.nD Cert.MemAttRefIdeal.τ).loc Cert.MemAttRefIdeal.main_arg2) = m ((c.tc : Thread Cert.MemAttRefIdeal.nD Cert.MemAttRefIdeal.τ).loc Cert.MemAttRefIdeal.main_arg2))
      ∧ r.2.sem = fun _ => 0)

def quiescent_MemAttRefIdeal_pre_mem_finite [hMemAttRefIdeal : Cert.MemAttRefIdeal.Facts] [hPre_mem_finite : Cert.Pre_mem_finite.Facts] : Prop :=
  ∀ (m : (ℓ : Loc Cert.MemAttRefIdeal.nD Cert.MemAttRefIdeal.τ Cert.MemAttRefIdeal.sig) → Buf (Elt Ideal) ℓ) (g : Dev Cert.MemAttRefIdeal.nD → PrngReg), Pre_MemAttRefIdeal_mem_finite m →
    θ_run (Cert.MemAttRefIdeal.defs (F := Ideal)) (onTc (τ := Cert.MemAttRefIdeal.τ) (Cert.MemAttRefIdeal.main (F := Ideal))) ⟨m, fun _ => 0, g⟩ (fun r => (∀ c : Dev Cert.MemAttRefIdeal.nD,
      r.2.mem ((c.tc : Thread Cert.MemAttRefIdeal.nD Cert.MemAttRefIdeal.τ).loc Cert.MemAttRefIdeal.main_arg0) = m ((c.tc : Thread Cert.MemAttRefIdeal.nD Cert.MemAttRefIdeal.τ).loc Cert.MemAttRefIdeal.main_arg0)
      ∧ r.2.mem ((c.tc : Thread Cert.MemAttRefIdeal.nD Cert.MemAttRefIdeal.τ).loc Cert.MemAttRefIdeal.main_arg1) = m ((c.tc : Thread Cert.MemAttRefIdeal.nD Cert.MemAttRefIdeal.τ).loc Cert.MemAttRefIdeal.main_arg1)
      ∧ r.2.mem ((c.tc : Thread Cert.MemAttRefIdeal.nD Cert.MemAttRefIdeal.τ).loc Cert.MemAttRefIdeal.main_arg2) = m ((c.tc : Thread Cert.MemAttRefIdeal.nD Cert.MemAttRefIdeal.τ).loc Cert.MemAttRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInIdeal_pre_ffn_in_finite [hFfnInIdeal : Cert.FfnInIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnInRefIdeal_pre_ffn_in_finite [hFfnInRefIdeal : Cert.FfnInRefIdeal.Facts] [hPre_ffn_in_finite : Cert.Pre_ffn_in_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_in_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpIdeal_pre_up_finite [hUpIdeal : Cert.UpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1))
      ∧ r.2.sem = fun _ => 0)

def quiescent_OutBRefIdeal [hOutBRefIdeal : Cert.OutBRefIdeal.Facts] : Prop :=
  ∀ (m : (ℓ : Loc Cert.OutBRefIdeal.nD Cert.OutBRefIdeal.τ Cert.OutBRefIdeal.sig) → Buf (Elt Ideal) ℓ) (g : Dev Cert.OutBRefIdeal.nD → PrngReg), Pre_OutBRefIdeal m →
    θ_run (Cert.OutBRefIdeal.defs (F := Ideal)) (onTc (τ := Cert.OutBRefIdeal.τ) (Cert.OutBRefIdeal.main (F := Ideal))) ⟨m, fun _ => 0, g⟩ (fun r => (∀ c : Dev Cert.OutBRefIdeal.nD,
      r.2.mem ((c.tc : Thread Cert.OutBRefIdeal.nD Cert.OutBRefIdeal.τ).loc Cert.OutBRefIdeal.main_arg0) = m ((c.tc : Thread Cert.OutBRefIdeal.nD Cert.OutBRefIdeal.τ).loc Cert.OutBRefIdeal.main_arg0)
      ∧ r.2.mem ((c.tc : Thread Cert.OutBRefIdeal.nD Cert.OutBRefIdeal.τ).loc Cert.OutBRefIdeal.main_arg1) = m ((c.tc : Thread Cert.OutBRefIdeal.nD Cert.OutBRefIdeal.τ).loc Cert.OutBRefIdeal.main_arg1))
      ∧ r.2.sem = fun _ => 0)

def quiescent_InWA [hInWA : Cert.InWA.Facts] : Prop :=
  ∀ (m : (ℓ : Loc Cert.InWA.nD Cert.InWA.τ Cert.InWA.sig) → Buf (Elt Bits) ℓ) (g : Dev Cert.InWA.nD → PrngReg), Pre_InWA m →
    θ_run (Cert.InWA.defs (F := Bits)) (onTc (τ := Cert.InWA.τ) (Cert.InWA.main (F := Bits))) ⟨m, fun _ => 0, g⟩ (fun r => (∀ c : Dev Cert.InWA.nD,
      r.2.mem ((c.tc : Thread Cert.InWA.nD Cert.InWA.τ).loc Cert.InWA.main_arg0) = m ((c.tc : Thread Cert.InWA.nD Cert.InWA.τ).loc Cert.InWA.main_arg0)
      ∧ r.2.mem ((c.tc : Thread Cert.InWA.nD Cert.InWA.τ).loc Cert.InWA.main_arg1) = m ((c.tc : Thread Cert.InWA.nD Cert.InWA.τ).loc Cert.InWA.main_arg1))
      ∧ r.2.sem = fun _ => 0)

def quiescent_InWAIdeal [hInWAIdeal : Cert.InWAIdeal.Facts] : Prop :=
  ∀ (m : (ℓ : Loc Cert.InWAIdeal.nD Cert.InWAIdeal.τ Cert.InWAIdeal.sig) → Buf (Elt Ideal) ℓ) (g : Dev Cert.InWAIdeal.nD → PrngReg), Pre_InWAIdeal m →
    θ_run (Cert.InWAIdeal.defs (F := Ideal)) (onTc (τ := Cert.InWAIdeal.τ) (Cert.InWAIdeal.main (F := Ideal))) ⟨m, fun _ => 0, g⟩ (fun r => (∀ c : Dev Cert.InWAIdeal.nD,
      r.2.mem ((c.tc : Thread Cert.InWAIdeal.nD Cert.InWAIdeal.τ).loc Cert.InWAIdeal.main_arg0) = m ((c.tc : Thread Cert.InWAIdeal.nD Cert.InWAIdeal.τ).loc Cert.InWAIdeal.main_arg0)
      ∧ r.2.mem ((c.tc : Thread Cert.InWAIdeal.nD Cert.InWAIdeal.τ).loc Cert.InWAIdeal.main_arg1) = m ((c.tc : Thread Cert.InWAIdeal.nD Cert.InWAIdeal.τ).loc Cert.InWAIdeal.main_arg1))
      ∧ r.2.sem = fun _ => 0)

def quiescent_InWARefIdeal [hInWARefIdeal : Cert.InWARefIdeal.Facts] : Prop :=
  ∀ (m : (ℓ : Loc Cert.InWARefIdeal.nD Cert.InWARefIdeal.τ Cert.InWARefIdeal.sig) → Buf (Elt Ideal) ℓ) (g : Dev Cert.InWARefIdeal.nD → PrngReg), Pre_InWARefIdeal m →
    θ_run (Cert.InWARefIdeal.defs (F := Ideal)) (onTc (τ := Cert.InWARefIdeal.τ) (Cert.InWARefIdeal.main (F := Ideal))) ⟨m, fun _ => 0, g⟩ (fun r => (∀ c : Dev Cert.InWARefIdeal.nD,
      r.2.mem ((c.tc : Thread Cert.InWARefIdeal.nD Cert.InWARefIdeal.τ).loc Cert.InWARefIdeal.main_arg0) = m ((c.tc : Thread Cert.InWARefIdeal.nD Cert.InWARefIdeal.τ).loc Cert.InWARefIdeal.main_arg0)
      ∧ r.2.mem ((c.tc : Thread Cert.InWARefIdeal.nD Cert.InWARefIdeal.τ).loc Cert.InWARefIdeal.main_arg1) = m ((c.tc : Thread Cert.InWARefIdeal.nD Cert.InWARefIdeal.τ).loc Cert.InWARefIdeal.main_arg1))
      ∧ r.2.sem = fun _ => 0)

def quiescent_InWB [hInWB : Cert.InWB.Facts] : Prop :=
  ∀ (m : (ℓ : Loc Cert.InWB.nD Cert.InWB.τ Cert.InWB.sig) → Buf (Elt Bits) ℓ) (g : Dev Cert.InWB.nD → PrngReg), Pre_InWB m →
    θ_run (Cert.InWB.defs (F := Bits)) (onTc (τ := Cert.InWB.τ) (Cert.InWB.main (F := Bits))) ⟨m, fun _ => 0, g⟩ (fun r => (∀ c : Dev Cert.InWB.nD,
      r.2.mem ((c.tc : Thread Cert.InWB.nD Cert.InWB.τ).loc Cert.InWB.main_arg0) = m ((c.tc : Thread Cert.InWB.nD Cert.InWB.τ).loc Cert.InWB.main_arg0)
      ∧ r.2.mem ((c.tc : Thread Cert.InWB.nD Cert.InWB.τ).loc Cert.InWB.main_arg1) = m ((c.tc : Thread Cert.InWB.nD Cert.InWB.τ).loc Cert.InWB.main_arg1))
      ∧ r.2.sem = fun _ => 0)

def quiescent_InWBIdeal [hInWBIdeal : Cert.InWBIdeal.Facts] : Prop :=
  ∀ (m : (ℓ : Loc Cert.InWBIdeal.nD Cert.InWBIdeal.τ Cert.InWBIdeal.sig) → Buf (Elt Ideal) ℓ) (g : Dev Cert.InWBIdeal.nD → PrngReg), Pre_InWBIdeal m →
    θ_run (Cert.InWBIdeal.defs (F := Ideal)) (onTc (τ := Cert.InWBIdeal.τ) (Cert.InWBIdeal.main (F := Ideal))) ⟨m, fun _ => 0, g⟩ (fun r => (∀ c : Dev Cert.InWBIdeal.nD,
      r.2.mem ((c.tc : Thread Cert.InWBIdeal.nD Cert.InWBIdeal.τ).loc Cert.InWBIdeal.main_arg0) = m ((c.tc : Thread Cert.InWBIdeal.nD Cert.InWBIdeal.τ).loc Cert.InWBIdeal.main_arg0)
      ∧ r.2.mem ((c.tc : Thread Cert.InWBIdeal.nD Cert.InWBIdeal.τ).loc Cert.InWBIdeal.main_arg1) = m ((c.tc : Thread Cert.InWBIdeal.nD Cert.InWBIdeal.τ).loc Cert.InWBIdeal.main_arg1))
      ∧ r.2.sem = fun _ => 0)

def quiescent_InWBRefIdeal [hInWBRefIdeal : Cert.InWBRefIdeal.Facts] : Prop :=
  ∀ (m : (ℓ : Loc Cert.InWBRefIdeal.nD Cert.InWBRefIdeal.τ Cert.InWBRefIdeal.sig) → Buf (Elt Ideal) ℓ) (g : Dev Cert.InWBRefIdeal.nD → PrngReg), Pre_InWBRefIdeal m →
    θ_run (Cert.InWBRefIdeal.defs (F := Ideal)) (onTc (τ := Cert.InWBRefIdeal.τ) (Cert.InWBRefIdeal.main (F := Ideal))) ⟨m, fun _ => 0, g⟩ (fun r => (∀ c : Dev Cert.InWBRefIdeal.nD,
      r.2.mem ((c.tc : Thread Cert.InWBRefIdeal.nD Cert.InWBRefIdeal.τ).loc Cert.InWBRefIdeal.main_arg0) = m ((c.tc : Thread Cert.InWBRefIdeal.nD Cert.InWBRefIdeal.τ).loc Cert.InWBRefIdeal.main_arg0)
      ∧ r.2.mem ((c.tc : Thread Cert.InWBRefIdeal.nD Cert.InWBRefIdeal.τ).loc Cert.InWBRefIdeal.main_arg1) = m ((c.tc : Thread Cert.InWBRefIdeal.nD Cert.InWBRefIdeal.τ).loc Cert.InWBRefIdeal.main_arg1))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2)
      ∧ r.2.mem ((c.tc : Thread Cert.InA.nD Cert.InA.τ).loc Cert.InA.main_arg3) = m ((c.tc : Thread Cert.InA.nD Cert.InA.τ).loc Cert.InA.main_arg3)
      ∧ r.2.mem ((c.tc : Thread Cert.InA.nD Cert.InA.τ).loc Cert.InA.main_arg4) = m ((c.tc : Thread Cert.InA.nD Cert.InA.τ).loc Cert.InA.main_arg4))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
      ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
      ∧ r.2.mem ((c.tc : Thread Cert.InAIdeal.nD Cert.InAIdeal.τ).loc Cert.InAIdeal.main_arg4) = m ((c.tc : Thread Cert.InAIdeal.nD Cert.InAIdeal.τ).loc Cert.InAIdeal.main_arg4))
      ∧ r.2.sem = fun _ => 0)

def quiescent_InAIdeal_pre_in_a_finite [hInAIdeal : Cert.InAIdeal.Facts] [hPre_in_a_finite : Cert.Pre_in_a_finite.Facts] : Prop :=
  ∀ (m : (ℓ : Loc Cert.InAIdeal.nD Cert.InAIdeal.τ Cert.InAIdeal.sig) → Buf (Elt Ideal) ℓ) (g : Dev Cert.InAIdeal.nD → PrngReg), Pre_InAIdeal_in_a_finite m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
      ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
      ∧ r.2.mem ((c.tc : Thread Cert.InAIdeal.nD Cert.InAIdeal.τ).loc Cert.InAIdeal.main_arg4) = m ((c.tc : Thread Cert.InAIdeal.nD Cert.InAIdeal.τ).loc Cert.InAIdeal.main_arg4))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1)
      ∧ r.2.mem ((c.tc : Thread Cert.InARefIdeal.nD Cert.InARefIdeal.τ).loc Cert.InARefIdeal.main_arg2) = m ((c.tc : Thread Cert.InARefIdeal.nD Cert.InARefIdeal.τ).loc Cert.InARefIdeal.main_arg2)
      ∧ r.2.mem ((c.tc : Thread Cert.InARefIdeal.nD Cert.InARefIdeal.τ).loc Cert.InARefIdeal.main_arg3) = m ((c.tc : Thread Cert.InARefIdeal.nD Cert.InARefIdeal.τ).loc Cert.InARefIdeal.main_arg3)
      ∧ r.2.mem ((c.tc : Thread Cert.InARefIdeal.nD Cert.InARefIdeal.τ).loc Cert.InARefIdeal.main_arg4) = m ((c.tc : Thread Cert.InARefIdeal.nD Cert.InARefIdeal.τ).loc Cert.InARefIdeal.main_arg4))
      ∧ r.2.sem = fun _ => 0)

def quiescent_InARefIdeal_pre_in_a_finite [hInARefIdeal : Cert.InARefIdeal.Facts] [hPre_in_a_finite : Cert.Pre_in_a_finite.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal_in_a_finite m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1)
      ∧ r.2.mem ((c.tc : Thread Cert.InARefIdeal.nD Cert.InARefIdeal.τ).loc Cert.InARefIdeal.main_arg2) = m ((c.tc : Thread Cert.InARefIdeal.nD Cert.InARefIdeal.τ).loc Cert.InARefIdeal.main_arg2)
      ∧ r.2.mem ((c.tc : Thread Cert.InARefIdeal.nD Cert.InARefIdeal.τ).loc Cert.InARefIdeal.main_arg3) = m ((c.tc : Thread Cert.InARefIdeal.nD Cert.InARefIdeal.τ).loc Cert.InARefIdeal.main_arg3)
      ∧ r.2.mem ((c.tc : Thread Cert.InARefIdeal.nD Cert.InARefIdeal.τ).loc Cert.InARefIdeal.main_arg4) = m ((c.tc : Thread Cert.InARefIdeal.nD Cert.InARefIdeal.τ).loc Cert.InARefIdeal.main_arg4))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2)
      ∧ r.2.mem ((c.tc : Thread Cert.InB.nD Cert.InB.τ).loc Cert.InB.main_arg3) = m ((c.tc : Thread Cert.InB.nD Cert.InB.τ).loc Cert.InB.main_arg3)
      ∧ r.2.mem ((c.tc : Thread Cert.InB.nD Cert.InB.τ).loc Cert.InB.main_arg4) = m ((c.tc : Thread Cert.InB.nD Cert.InB.τ).loc Cert.InB.main_arg4))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
      ∧ r.2.mem ((c.tc : Thread Cert.InBIdeal.nD Cert.InBIdeal.τ).loc Cert.InBIdeal.main_arg4) = m ((c.tc : Thread Cert.InBIdeal.nD Cert.InBIdeal.τ).loc Cert.InBIdeal.main_arg4))
      ∧ r.2.sem = fun _ => 0)

def quiescent_InBIdeal_pre_in_b_finite [hInBIdeal : Cert.InBIdeal.Facts] [hPre_in_b_finite : Cert.Pre_in_b_finite.Facts] : Prop :=
  ∀ (m : (ℓ : Loc Cert.InBIdeal.nD Cert.InBIdeal.τ Cert.InBIdeal.sig) → Buf (Elt Ideal) ℓ) (g : Dev Cert.InBIdeal.nD → PrngReg), Pre_InBIdeal_in_b_finite m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
      ∧ r.2.mem ((c.tc : Thread Cert.InBIdeal.nD Cert.InBIdeal.τ).loc Cert.InBIdeal.main_arg4) = m ((c.tc : Thread Cert.InBIdeal.nD Cert.InBIdeal.τ).loc Cert.InBIdeal.main_arg4))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2)
      ∧ r.2.mem ((c.tc : Thread Cert.InBRefIdeal.nD Cert.InBRefIdeal.τ).loc Cert.InBRefIdeal.main_arg3) = m ((c.tc : Thread Cert.InBRefIdeal.nD Cert.InBRefIdeal.τ).loc Cert.InBRefIdeal.main_arg3)
      ∧ r.2.mem ((c.tc : Thread Cert.InBRefIdeal.nD Cert.InBRefIdeal.τ).loc Cert.InBRefIdeal.main_arg4) = m ((c.tc : Thread Cert.InBRefIdeal.nD Cert.InBRefIdeal.τ).loc Cert.InBRefIdeal.main_arg4))
      ∧ r.2.sem = fun _ => 0)

def quiescent_InBRefIdeal_pre_in_b_finite [hInBRefIdeal : Cert.InBRefIdeal.Facts] [hPre_in_b_finite : Cert.Pre_in_b_finite.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal_in_b_finite m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2)
      ∧ r.2.mem ((c.tc : Thread Cert.InBRefIdeal.nD Cert.InBRefIdeal.τ).loc Cert.InBRefIdeal.main_arg3) = m ((c.tc : Thread Cert.InBRefIdeal.nD Cert.InBRefIdeal.τ).loc Cert.InBRefIdeal.main_arg3)
      ∧ r.2.mem ((c.tc : Thread Cert.InBRefIdeal.nD Cert.InBRefIdeal.τ).loc Cert.InBRefIdeal.main_arg4) = m ((c.tc : Thread Cert.InBRefIdeal.nD Cert.InBRefIdeal.τ).loc Cert.InBRefIdeal.main_arg4))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_OutN [hOutN : Cert.OutN.Facts] : Prop :=
  ∀ (m : (ℓ : Loc Cert.OutN.nD Cert.OutN.τ Cert.OutN.sig) → Buf (Elt Bits) ℓ) (g : Dev Cert.OutN.nD → PrngReg), Pre_OutN m →
    θ_run (Cert.OutN.defs (F := Bits)) (onTc (τ := Cert.OutN.τ) (Cert.OutN.main (F := Bits))) ⟨m, fun _ => 0, g⟩ (fun r => (∀ c : Dev Cert.OutN.nD,
      r.2.mem ((c.tc : Thread Cert.OutN.nD Cert.OutN.τ).loc Cert.OutN.main_arg0) = m ((c.tc : Thread Cert.OutN.nD Cert.OutN.τ).loc Cert.OutN.main_arg0)
      ∧ r.2.mem ((c.tc : Thread Cert.OutN.nD Cert.OutN.τ).loc Cert.OutN.main_arg1) = m ((c.tc : Thread Cert.OutN.nD Cert.OutN.τ).loc Cert.OutN.main_arg1)
      ∧ r.2.mem ((c.tc : Thread Cert.OutN.nD Cert.OutN.τ).loc Cert.OutN.main_arg2) = m ((c.tc : Thread Cert.OutN.nD Cert.OutN.τ).loc Cert.OutN.main_arg2)
      ∧ r.2.mem ((c.tc : Thread Cert.OutN.nD Cert.OutN.τ).loc Cert.OutN.main_arg3) = m ((c.tc : Thread Cert.OutN.nD Cert.OutN.τ).loc Cert.OutN.main_arg3)
      ∧ r.2.mem ((c.tc : Thread Cert.OutN.nD Cert.OutN.τ).loc Cert.OutN.main_arg4) = m ((c.tc : Thread Cert.OutN.nD Cert.OutN.τ).loc Cert.OutN.main_arg4))
      ∧ r.2.sem = fun _ => 0)

def quiescent_OutNIdeal [hOutNIdeal : Cert.OutNIdeal.Facts] : Prop :=
  ∀ (m : (ℓ : Loc Cert.OutNIdeal.nD Cert.OutNIdeal.τ Cert.OutNIdeal.sig) → Buf (Elt Ideal) ℓ) (g : Dev Cert.OutNIdeal.nD → PrngReg), Pre_OutNIdeal m →
    θ_run (Cert.OutNIdeal.defs (F := Ideal)) (onTc (τ := Cert.OutNIdeal.τ) (Cert.OutNIdeal.main (F := Ideal))) ⟨m, fun _ => 0, g⟩ (fun r => (∀ c : Dev Cert.OutNIdeal.nD,
      r.2.mem ((c.tc : Thread Cert.OutNIdeal.nD Cert.OutNIdeal.τ).loc Cert.OutNIdeal.main_arg0) = m ((c.tc : Thread Cert.OutNIdeal.nD Cert.OutNIdeal.τ).loc Cert.OutNIdeal.main_arg0)
      ∧ r.2.mem ((c.tc : Thread Cert.OutNIdeal.nD Cert.OutNIdeal.τ).loc Cert.OutNIdeal.main_arg1) = m ((c.tc : Thread Cert.OutNIdeal.nD Cert.OutNIdeal.τ).loc Cert.OutNIdeal.main_arg1)
      ∧ r.2.mem ((c.tc : Thread Cert.OutNIdeal.nD Cert.OutNIdeal.τ).loc Cert.OutNIdeal.main_arg2) = m ((c.tc : Thread Cert.OutNIdeal.nD Cert.OutNIdeal.τ).loc Cert.OutNIdeal.main_arg2)
      ∧ r.2.mem ((c.tc : Thread Cert.OutNIdeal.nD Cert.OutNIdeal.τ).loc Cert.OutNIdeal.main_arg3) = m ((c.tc : Thread Cert.OutNIdeal.nD Cert.OutNIdeal.τ).loc Cert.OutNIdeal.main_arg3)
      ∧ r.2.mem ((c.tc : Thread Cert.OutNIdeal.nD Cert.OutNIdeal.τ).loc Cert.OutNIdeal.main_arg4) = m ((c.tc : Thread Cert.OutNIdeal.nD Cert.OutNIdeal.τ).loc Cert.OutNIdeal.main_arg4))
      ∧ r.2.sem = fun _ => 0)

def quiescent_OutNRefIdeal [hOutNRefIdeal : Cert.OutNRefIdeal.Facts] : Prop :=
  ∀ (m : (ℓ : Loc Cert.OutNRefIdeal.nD Cert.OutNRefIdeal.τ Cert.OutNRefIdeal.sig) → Buf (Elt Ideal) ℓ) (g : Dev Cert.OutNRefIdeal.nD → PrngReg), Pre_OutNRefIdeal m →
    θ_run (Cert.OutNRefIdeal.defs (F := Ideal)) (onTc (τ := Cert.OutNRefIdeal.τ) (Cert.OutNRefIdeal.main (F := Ideal))) ⟨m, fun _ => 0, g⟩ (fun r => (∀ c : Dev Cert.OutNRefIdeal.nD,
      r.2.mem ((c.tc : Thread Cert.OutNRefIdeal.nD Cert.OutNRefIdeal.τ).loc Cert.OutNRefIdeal.main_arg0) = m ((c.tc : Thread Cert.OutNRefIdeal.nD Cert.OutNRefIdeal.τ).loc Cert.OutNRefIdeal.main_arg0)
      ∧ r.2.mem ((c.tc : Thread Cert.OutNRefIdeal.nD Cert.OutNRefIdeal.τ).loc Cert.OutNRefIdeal.main_arg1) = m ((c.tc : Thread Cert.OutNRefIdeal.nD Cert.OutNRefIdeal.τ).loc Cert.OutNRefIdeal.main_arg1)
      ∧ r.2.mem ((c.tc : Thread Cert.OutNRefIdeal.nD Cert.OutNRefIdeal.τ).loc Cert.OutNRefIdeal.main_arg2) = m ((c.tc : Thread Cert.OutNRefIdeal.nD Cert.OutNRefIdeal.τ).loc Cert.OutNRefIdeal.main_arg2)
      ∧ r.2.mem ((c.tc : Thread Cert.OutNRefIdeal.nD Cert.OutNRefIdeal.τ).loc Cert.OutNRefIdeal.main_arg3) = m ((c.tc : Thread Cert.OutNRefIdeal.nD Cert.OutNRefIdeal.τ).loc Cert.OutNRefIdeal.main_arg3)
      ∧ r.2.mem ((c.tc : Thread Cert.OutNRefIdeal.nD Cert.OutNRefIdeal.τ).loc Cert.OutNRefIdeal.main_arg4) = m ((c.tc : Thread Cert.OutNRefIdeal.nD Cert.OutNRefIdeal.τ).loc Cert.OutNRefIdeal.main_arg4))
      ∧ r.2.sem = fun _ => 0)

def quiescent_ProjX [hProjX : Cert.ProjX.Facts] : Prop :=
  ∀ (m : (ℓ : Loc Cert.ProjX.nD Cert.ProjX.τ Cert.ProjX.sig) → Buf (Elt Bits) ℓ) (g : Dev Cert.ProjX.nD → PrngReg), Pre_ProjX m →
    θ_run (Cert.ProjX.defs (F := Bits)) (onTc (τ := Cert.ProjX.τ) (Cert.ProjX.main (F := Bits))) ⟨m, fun _ => 0, g⟩ (fun r => (∀ c : Dev Cert.ProjX.nD,
      r.2.mem ((c.tc : Thread Cert.ProjX.nD Cert.ProjX.τ).loc Cert.ProjX.main_arg0) = m ((c.tc : Thread Cert.ProjX.nD Cert.ProjX.τ).loc Cert.ProjX.main_arg0)
      ∧ r.2.mem ((c.tc : Thread Cert.ProjX.nD Cert.ProjX.τ).loc Cert.ProjX.main_arg1) = m ((c.tc : Thread Cert.ProjX.nD Cert.ProjX.τ).loc Cert.ProjX.main_arg1))
      ∧ r.2.sem = fun _ => 0)

def quiescent_ProjXIdeal [hProjXIdeal : Cert.ProjXIdeal.Facts] : Prop :=
  ∀ (m : (ℓ : Loc Cert.ProjXIdeal.nD Cert.ProjXIdeal.τ Cert.ProjXIdeal.sig) → Buf (Elt Ideal) ℓ) (g : Dev Cert.ProjXIdeal.nD → PrngReg), Pre_ProjXIdeal m →
    θ_run (Cert.ProjXIdeal.defs (F := Ideal)) (onTc (τ := Cert.ProjXIdeal.τ) (Cert.ProjXIdeal.main (F := Ideal))) ⟨m, fun _ => 0, g⟩ (fun r => (∀ c : Dev Cert.ProjXIdeal.nD,
      r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
      ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1))
      ∧ r.2.sem = fun _ => 0)

def quiescent_ProjXRefIdeal [hProjXRefIdeal : Cert.ProjXRefIdeal.Facts] : Prop :=
  ∀ (m : (ℓ : Loc Cert.ProjXRefIdeal.nD Cert.ProjXRefIdeal.τ Cert.ProjXRefIdeal.sig) → Buf (Elt Ideal) ℓ) (g : Dev Cert.ProjXRefIdeal.nD → PrngReg), Pre_ProjXRefIdeal m →
    θ_run (Cert.ProjXRefIdeal.defs (F := Ideal)) (onTc (τ := Cert.ProjXRefIdeal.τ) (Cert.ProjXRefIdeal.main (F := Ideal))) ⟨m, fun _ => 0, g⟩ (fun r => (∀ c : Dev Cert.ProjXRefIdeal.nD,
      r.2.mem ((c.tc : Thread Cert.ProjXRefIdeal.nD Cert.ProjXRefIdeal.τ).loc Cert.ProjXRefIdeal.main_arg0) = m ((c.tc : Thread Cert.ProjXRefIdeal.nD Cert.ProjXRefIdeal.τ).loc Cert.ProjXRefIdeal.main_arg0)
      ∧ r.2.mem ((c.tc : Thread Cert.ProjXRefIdeal.nD Cert.ProjXRefIdeal.τ).loc Cert.ProjXRefIdeal.main_arg1) = m ((c.tc : Thread Cert.ProjXRefIdeal.nD Cert.ProjXRefIdeal.τ).loc Cert.ProjXRefIdeal.main_arg1))
      ∧ r.2.sem = fun _ => 0)

def quiescent_InWX [hInWX : Cert.InWX.Facts] : Prop :=
  ∀ (m : (ℓ : Loc Cert.InWX.nD Cert.InWX.τ Cert.InWX.sig) → Buf (Elt Bits) ℓ) (g : Dev Cert.InWX.nD → PrngReg), Pre_InWX m →
    θ_run (Cert.InWX.defs (F := Bits)) (onTc (τ := Cert.InWX.τ) (Cert.InWX.main (F := Bits))) ⟨m, fun _ => 0, g⟩ (fun r => (∀ c : Dev Cert.InWX.nD,
      r.2.mem ((c.tc : Thread Cert.InWX.nD Cert.InWX.τ).loc Cert.InWX.main_arg0) = m ((c.tc : Thread Cert.InWX.nD Cert.InWX.τ).loc Cert.InWX.main_arg0)
      ∧ r.2.mem ((c.tc : Thread Cert.InWX.nD Cert.InWX.τ).loc Cert.InWX.main_arg1) = m ((c.tc : Thread Cert.InWX.nD Cert.InWX.τ).loc Cert.InWX.main_arg1))
      ∧ r.2.sem = fun _ => 0)

def quiescent_InWXIdeal [hInWXIdeal : Cert.InWXIdeal.Facts] : Prop :=
  ∀ (m : (ℓ : Loc Cert.InWXIdeal.nD Cert.InWXIdeal.τ Cert.InWXIdeal.sig) → Buf (Elt Ideal) ℓ) (g : Dev Cert.InWXIdeal.nD → PrngReg), Pre_InWXIdeal m →
    θ_run (Cert.InWXIdeal.defs (F := Ideal)) (onTc (τ := Cert.InWXIdeal.τ) (Cert.InWXIdeal.main (F := Ideal))) ⟨m, fun _ => 0, g⟩ (fun r => (∀ c : Dev Cert.InWXIdeal.nD,
      r.2.mem ((c.tc : Thread Cert.InWXIdeal.nD Cert.InWXIdeal.τ).loc Cert.InWXIdeal.main_arg0) = m ((c.tc : Thread Cert.InWXIdeal.nD Cert.InWXIdeal.τ).loc Cert.InWXIdeal.main_arg0)
      ∧ r.2.mem ((c.tc : Thread Cert.InWXIdeal.nD Cert.InWXIdeal.τ).loc Cert.InWXIdeal.main_arg1) = m ((c.tc : Thread Cert.InWXIdeal.nD Cert.InWXIdeal.τ).loc Cert.InWXIdeal.main_arg1))
      ∧ r.2.sem = fun _ => 0)

def quiescent_InWXRefIdeal [hInWXRefIdeal : Cert.InWXRefIdeal.Facts] : Prop :=
  ∀ (m : (ℓ : Loc Cert.InWXRefIdeal.nD Cert.InWXRefIdeal.τ Cert.InWXRefIdeal.sig) → Buf (Elt Ideal) ℓ) (g : Dev Cert.InWXRefIdeal.nD → PrngReg), Pre_InWXRefIdeal m →
    θ_run (Cert.InWXRefIdeal.defs (F := Ideal)) (onTc (τ := Cert.InWXRefIdeal.τ) (Cert.InWXRefIdeal.main (F := Ideal))) ⟨m, fun _ => 0, g⟩ (fun r => (∀ c : Dev Cert.InWXRefIdeal.nD,
      r.2.mem ((c.tc : Thread Cert.InWXRefIdeal.nD Cert.InWXRefIdeal.τ).loc Cert.InWXRefIdeal.main_arg0) = m ((c.tc : Thread Cert.InWXRefIdeal.nD Cert.InWXRefIdeal.τ).loc Cert.InWXRefIdeal.main_arg0)
      ∧ r.2.mem ((c.tc : Thread Cert.InWXRefIdeal.nD Cert.InWXRefIdeal.τ).loc Cert.InWXRefIdeal.main_arg1) = m ((c.tc : Thread Cert.InWXRefIdeal.nD Cert.InWXRefIdeal.τ).loc Cert.InWXRefIdeal.main_arg1))
      ∧ r.2.sem = fun _ => 0)

def quiescent_MkvF [hMkvF : Cert.MkvF.Facts] : Prop :=
  ∀ (m : (ℓ : Loc Cert.MkvF.nD Cert.MkvF.τ Cert.MkvF.sig) → Buf (Elt Bits) ℓ) (g : Dev Cert.MkvF.nD → PrngReg), Pre_MkvF m →
    θ_run (Cert.MkvF.defs (F := Bits)) (onTc (τ := Cert.MkvF.τ) (Cert.MkvF.main (F := Bits))) ⟨m, fun _ => 0, g⟩ (fun r => (∀ c : Dev Cert.MkvF.nD,
      r.2.mem ((c.tc : Thread Cert.MkvF.nD Cert.MkvF.τ).loc Cert.MkvF.main_arg0) = m ((c.tc : Thread Cert.MkvF.nD Cert.MkvF.τ).loc Cert.MkvF.main_arg0)
      ∧ r.2.mem ((c.tc : Thread Cert.MkvF.nD Cert.MkvF.τ).loc Cert.MkvF.main_arg1) = m ((c.tc : Thread Cert.MkvF.nD Cert.MkvF.τ).loc Cert.MkvF.main_arg1))
      ∧ r.2.sem = fun _ => 0)

def quiescent_MkvFIdeal [hMkvFIdeal : Cert.MkvFIdeal.Facts] : Prop :=
  ∀ (m : (ℓ : Loc Cert.MkvFIdeal.nD Cert.MkvFIdeal.τ Cert.MkvFIdeal.sig) → Buf (Elt Ideal) ℓ) (g : Dev Cert.MkvFIdeal.nD → PrngReg), Pre_MkvFIdeal m →
    θ_run (Cert.MkvFIdeal.defs (F := Ideal)) (onTc (τ := Cert.MkvFIdeal.τ) (Cert.MkvFIdeal.main (F := Ideal))) ⟨m, fun _ => 0, g⟩ (fun r => (∀ c : Dev Cert.MkvFIdeal.nD,
      r.2.mem ((c.tc : Thread Cert.MkvFIdeal.nD Cert.MkvFIdeal.τ).loc Cert.MkvFIdeal.main_arg0) = m ((c.tc : Thread Cert.MkvFIdeal.nD Cert.MkvFIdeal.τ).loc Cert.MkvFIdeal.main_arg0)
      ∧ r.2.mem ((c.tc : Thread Cert.MkvFIdeal.nD Cert.MkvFIdeal.τ).loc Cert.MkvFIdeal.main_arg1) = m ((c.tc : Thread Cert.MkvFIdeal.nD Cert.MkvFIdeal.τ).loc Cert.MkvFIdeal.main_arg1))
      ∧ r.2.sem = fun _ => 0)

def quiescent_MkvFRefIdeal [hMkvFRefIdeal : Cert.MkvFRefIdeal.Facts] : Prop :=
  ∀ (m : (ℓ : Loc Cert.MkvFRefIdeal.nD Cert.MkvFRefIdeal.τ Cert.MkvFRefIdeal.sig) → Buf (Elt Ideal) ℓ) (g : Dev Cert.MkvFRefIdeal.nD → PrngReg), Pre_MkvFRefIdeal m →
    θ_run (Cert.MkvFRefIdeal.defs (F := Ideal)) (onTc (τ := Cert.MkvFRefIdeal.τ) (Cert.MkvFRefIdeal.main (F := Ideal))) ⟨m, fun _ => 0, g⟩ (fun r => (∀ c : Dev Cert.MkvFRefIdeal.nD,
      r.2.mem ((c.tc : Thread Cert.MkvFRefIdeal.nD Cert.MkvFRefIdeal.τ).loc Cert.MkvFRefIdeal.main_arg0) = m ((c.tc : Thread Cert.MkvFRefIdeal.nD Cert.MkvFRefIdeal.τ).loc Cert.MkvFRefIdeal.main_arg0)
      ∧ r.2.mem ((c.tc : Thread Cert.MkvFRefIdeal.nD Cert.MkvFRefIdeal.τ).loc Cert.MkvFRefIdeal.main_arg1) = m ((c.tc : Thread Cert.MkvFRefIdeal.nD Cert.MkvFRefIdeal.τ).loc Cert.MkvFRefIdeal.main_arg1))
      ∧ r.2.sem = fun _ => 0)

def quiescent_MkvW [hMkvW : Cert.MkvW.Facts] : Prop :=
  ∀ (m : (ℓ : Loc Cert.MkvW.nD Cert.MkvW.τ Cert.MkvW.sig) → Buf (Elt Bits) ℓ) (g : Dev Cert.MkvW.nD → PrngReg), Pre_MkvW m →
    θ_run (Cert.MkvW.defs (F := Bits)) (onTc (τ := Cert.MkvW.τ) (Cert.MkvW.main (F := Bits))) ⟨m, fun _ => 0, g⟩ (fun r => (∀ c : Dev Cert.MkvW.nD,
      r.2.mem ((c.tc : Thread Cert.MkvW.nD Cert.MkvW.τ).loc Cert.MkvW.main_arg0) = m ((c.tc : Thread Cert.MkvW.nD Cert.MkvW.τ).loc Cert.MkvW.main_arg0)
      ∧ r.2.mem ((c.tc : Thread Cert.MkvW.nD Cert.MkvW.τ).loc Cert.MkvW.main_arg1) = m ((c.tc : Thread Cert.MkvW.nD Cert.MkvW.τ).loc Cert.MkvW.main_arg1))
      ∧ r.2.sem = fun _ => 0)

def quiescent_MkvWIdeal [hMkvWIdeal : Cert.MkvWIdeal.Facts] : Prop :=
  ∀ (m : (ℓ : Loc Cert.MkvWIdeal.nD Cert.MkvWIdeal.τ Cert.MkvWIdeal.sig) → Buf (Elt Ideal) ℓ) (g : Dev Cert.MkvWIdeal.nD → PrngReg), Pre_MkvWIdeal m →
    θ_run (Cert.MkvWIdeal.defs (F := Ideal)) (onTc (τ := Cert.MkvWIdeal.τ) (Cert.MkvWIdeal.main (F := Ideal))) ⟨m, fun _ => 0, g⟩ (fun r => (∀ c : Dev Cert.MkvWIdeal.nD,
      r.2.mem ((c.tc : Thread Cert.MkvWIdeal.nD Cert.MkvWIdeal.τ).loc Cert.MkvWIdeal.main_arg0) = m ((c.tc : Thread Cert.MkvWIdeal.nD Cert.MkvWIdeal.τ).loc Cert.MkvWIdeal.main_arg0)
      ∧ r.2.mem ((c.tc : Thread Cert.MkvWIdeal.nD Cert.MkvWIdeal.τ).loc Cert.MkvWIdeal.main_arg1) = m ((c.tc : Thread Cert.MkvWIdeal.nD Cert.MkvWIdeal.τ).loc Cert.MkvWIdeal.main_arg1))
      ∧ r.2.sem = fun _ => 0)

def quiescent_MkvWRefIdeal [hMkvWRefIdeal : Cert.MkvWRefIdeal.Facts] : Prop :=
  ∀ (m : (ℓ : Loc Cert.MkvWRefIdeal.nD Cert.MkvWRefIdeal.τ Cert.MkvWRefIdeal.sig) → Buf (Elt Ideal) ℓ) (g : Dev Cert.MkvWRefIdeal.nD → PrngReg), Pre_MkvWRefIdeal m →
    θ_run (Cert.MkvWRefIdeal.defs (F := Ideal)) (onTc (τ := Cert.MkvWRefIdeal.τ) (Cert.MkvWRefIdeal.main (F := Ideal))) ⟨m, fun _ => 0, g⟩ (fun r => (∀ c : Dev Cert.MkvWRefIdeal.nD,
      r.2.mem ((c.tc : Thread Cert.MkvWRefIdeal.nD Cert.MkvWRefIdeal.τ).loc Cert.MkvWRefIdeal.main_arg0) = m ((c.tc : Thread Cert.MkvWRefIdeal.nD Cert.MkvWRefIdeal.τ).loc Cert.MkvWRefIdeal.main_arg0)
      ∧ r.2.mem ((c.tc : Thread Cert.MkvWRefIdeal.nD Cert.MkvWRefIdeal.τ).loc Cert.MkvWRefIdeal.main_arg1) = m ((c.tc : Thread Cert.MkvWRefIdeal.nD Cert.MkvWRefIdeal.τ).loc Cert.MkvWRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_MemF [hMemF : Cert.MemF.Facts] : Prop :=
  ∀ (m : (ℓ : Loc Cert.MemF.nD Cert.MemF.τ Cert.MemF.sig) → Buf (Elt Bits) ℓ) (g : Dev Cert.MemF.nD → PrngReg), Pre_MemF m →
    θ_run (Cert.MemF.defs (F := Bits)) (onTc (τ := Cert.MemF.τ) (Cert.MemF.main (F := Bits))) ⟨m, fun _ => 0, g⟩ (fun r => (∀ c : Dev Cert.MemF.nD,
      r.2.mem ((c.tc : Thread Cert.MemF.nD Cert.MemF.τ).loc Cert.MemF.main_arg0) = m ((c.tc : Thread Cert.MemF.nD Cert.MemF.τ).loc Cert.MemF.main_arg0)
      ∧ r.2.mem ((c.tc : Thread Cert.MemF.nD Cert.MemF.τ).loc Cert.MemF.main_arg1) = m ((c.tc : Thread Cert.MemF.nD Cert.MemF.τ).loc Cert.MemF.main_arg1))
      ∧ r.2.sem = fun _ => 0)

def quiescent_MemFIdeal [hMemFIdeal : Cert.MemFIdeal.Facts] : Prop :=
  ∀ (m : (ℓ : Loc Cert.MemFIdeal.nD Cert.MemFIdeal.τ Cert.MemFIdeal.sig) → Buf (Elt Ideal) ℓ) (g : Dev Cert.MemFIdeal.nD → PrngReg), Pre_MemFIdeal m →
    θ_run (Cert.MemFIdeal.defs (F := Ideal)) (onTc (τ := Cert.MemFIdeal.τ) (Cert.MemFIdeal.main (F := Ideal))) ⟨m, fun _ => 0, g⟩ (fun r => (∀ c : Dev Cert.MemFIdeal.nD,
      r.2.mem ((c.tc : Thread Cert.MemFIdeal.nD Cert.MemFIdeal.τ).loc Cert.MemFIdeal.main_arg0) = m ((c.tc : Thread Cert.MemFIdeal.nD Cert.MemFIdeal.τ).loc Cert.MemFIdeal.main_arg0)
      ∧ r.2.mem ((c.tc : Thread Cert.MemFIdeal.nD Cert.MemFIdeal.τ).loc Cert.MemFIdeal.main_arg1) = m ((c.tc : Thread Cert.MemFIdeal.nD Cert.MemFIdeal.τ).loc Cert.MemFIdeal.main_arg1))
      ∧ r.2.sem = fun _ => 0)

def quiescent_MemFRefIdeal [hMemFRefIdeal : Cert.MemFRefIdeal.Facts] : Prop :=
  ∀ (m : (ℓ : Loc Cert.MemFRefIdeal.nD Cert.MemFRefIdeal.τ Cert.MemFRefIdeal.sig) → Buf (Elt Ideal) ℓ) (g : Dev Cert.MemFRefIdeal.nD → PrngReg), Pre_MemFRefIdeal m →
    θ_run (Cert.MemFRefIdeal.defs (F := Ideal)) (onTc (τ := Cert.MemFRefIdeal.τ) (Cert.MemFRefIdeal.main (F := Ideal))) ⟨m, fun _ => 0, g⟩ (fun r => (∀ c : Dev Cert.MemFRefIdeal.nD,
      r.2.mem ((c.tc : Thread Cert.MemFRefIdeal.nD Cert.MemFRefIdeal.τ).loc Cert.MemFRefIdeal.main_arg0) = m ((c.tc : Thread Cert.MemFRefIdeal.nD Cert.MemFRefIdeal.τ).loc Cert.MemFRefIdeal.main_arg0)
      ∧ r.2.mem ((c.tc : Thread Cert.MemFRefIdeal.nD Cert.MemFRefIdeal.τ).loc Cert.MemFRefIdeal.main_arg1) = m ((c.tc : Thread Cert.MemFRefIdeal.nD Cert.MemFRefIdeal.τ).loc Cert.MemFRefIdeal.main_arg1))
      ∧ r.2.sem = fun _ => 0)

def quiescent_AdamAIn [hAdamAIn : Cert.AdamAIn.Facts] : Prop :=
  ∀ (m : (ℓ : Loc Cert.AdamAIn.nD Cert.AdamAIn.τ Cert.AdamAIn.sig) → Buf (Elt Bits) ℓ) (g : Dev Cert.AdamAIn.nD → PrngReg), Pre_AdamAIn m →
    θ_run (Cert.AdamAIn.defs (F := Bits)) (onTc (τ := Cert.AdamAIn.τ) (Cert.AdamAIn.main (F := Bits))) ⟨m, fun _ => 0, g⟩ (fun r => (∀ c : Dev Cert.AdamAIn.nD,
      r.2.mem ((c.tc : Thread Cert.AdamAIn.nD Cert.AdamAIn.τ).loc Cert.AdamAIn.main_arg0) = m ((c.tc : Thread Cert.AdamAIn.nD Cert.AdamAIn.τ).loc Cert.AdamAIn.main_arg0)
      ∧ r.2.mem ((c.tc : Thread Cert.AdamAIn.nD Cert.AdamAIn.τ).loc Cert.AdamAIn.main_arg1) = m ((c.tc : Thread Cert.AdamAIn.nD Cert.AdamAIn.τ).loc Cert.AdamAIn.main_arg1)
      ∧ r.2.mem ((c.tc : Thread Cert.AdamAIn.nD Cert.AdamAIn.τ).loc Cert.AdamAIn.main_arg2) = m ((c.tc : Thread Cert.AdamAIn.nD Cert.AdamAIn.τ).loc Cert.AdamAIn.main_arg2)
      ∧ r.2.mem ((c.tc : Thread Cert.AdamAIn.nD Cert.AdamAIn.τ).loc Cert.AdamAIn.main_arg3) = m ((c.tc : Thread Cert.AdamAIn.nD Cert.AdamAIn.τ).loc Cert.AdamAIn.main_arg3))
      ∧ r.2.sem = fun _ => 0)

def quiescent_AdamAInIdeal [hAdamAInIdeal : Cert.AdamAInIdeal.Facts] : Prop :=
  ∀ (m : (ℓ : Loc Cert.AdamAInIdeal.nD Cert.AdamAInIdeal.τ Cert.AdamAInIdeal.sig) → Buf (Elt Ideal) ℓ) (g : Dev Cert.AdamAInIdeal.nD → PrngReg), Pre_AdamAInIdeal m →
    θ_run (Cert.AdamAInIdeal.defs (F := Ideal)) (onTc (τ := Cert.AdamAInIdeal.τ) (Cert.AdamAInIdeal.main (F := Ideal))) ⟨m, fun _ => 0, g⟩ (fun r => (∀ c : Dev Cert.AdamAInIdeal.nD,
      r.2.mem ((c.tc : Thread Cert.AdamAInIdeal.nD Cert.AdamAInIdeal.τ).loc Cert.AdamAInIdeal.main_arg0) = m ((c.tc : Thread Cert.AdamAInIdeal.nD Cert.AdamAInIdeal.τ).loc Cert.AdamAInIdeal.main_arg0)
      ∧ r.2.mem ((c.tc : Thread Cert.AdamAInIdeal.nD Cert.AdamAInIdeal.τ).loc Cert.AdamAInIdeal.main_arg1) = m ((c.tc : Thread Cert.AdamAInIdeal.nD Cert.AdamAInIdeal.τ).loc Cert.AdamAInIdeal.main_arg1)
      ∧ r.2.mem ((c.tc : Thread Cert.AdamAInIdeal.nD Cert.AdamAInIdeal.τ).loc Cert.AdamAInIdeal.main_arg2) = m ((c.tc : Thread Cert.AdamAInIdeal.nD Cert.AdamAInIdeal.τ).loc Cert.AdamAInIdeal.main_arg2)
      ∧ r.2.mem ((c.tc : Thread Cert.AdamAInIdeal.nD Cert.AdamAInIdeal.τ).loc Cert.AdamAInIdeal.main_arg3) = m ((c.tc : Thread Cert.AdamAInIdeal.nD Cert.AdamAInIdeal.τ).loc Cert.AdamAInIdeal.main_arg3))
      ∧ r.2.sem = fun _ => 0)

def quiescent_AdamAInRefIdeal [hAdamAInRefIdeal : Cert.AdamAInRefIdeal.Facts] : Prop :=
  ∀ (m : (ℓ : Loc Cert.AdamAInRefIdeal.nD Cert.AdamAInRefIdeal.τ Cert.AdamAInRefIdeal.sig) → Buf (Elt Ideal) ℓ) (g : Dev Cert.AdamAInRefIdeal.nD → PrngReg), Pre_AdamAInRefIdeal m →
    θ_run (Cert.AdamAInRefIdeal.defs (F := Ideal)) (onTc (τ := Cert.AdamAInRefIdeal.τ) (Cert.AdamAInRefIdeal.main (F := Ideal))) ⟨m, fun _ => 0, g⟩ (fun r => (∀ c : Dev Cert.AdamAInRefIdeal.nD,
      r.2.mem ((c.tc : Thread Cert.AdamAInRefIdeal.nD Cert.AdamAInRefIdeal.τ).loc Cert.AdamAInRefIdeal.main_arg0) = m ((c.tc : Thread Cert.AdamAInRefIdeal.nD Cert.AdamAInRefIdeal.τ).loc Cert.AdamAInRefIdeal.main_arg0)
      ∧ r.2.mem ((c.tc : Thread Cert.AdamAInRefIdeal.nD Cert.AdamAInRefIdeal.τ).loc Cert.AdamAInRefIdeal.main_arg1) = m ((c.tc : Thread Cert.AdamAInRefIdeal.nD Cert.AdamAInRefIdeal.τ).loc Cert.AdamAInRefIdeal.main_arg1)
      ∧ r.2.mem ((c.tc : Thread Cert.AdamAInRefIdeal.nD Cert.AdamAInRefIdeal.τ).loc Cert.AdamAInRefIdeal.main_arg2) = m ((c.tc : Thread Cert.AdamAInRefIdeal.nD Cert.AdamAInRefIdeal.τ).loc Cert.AdamAInRefIdeal.main_arg2)
      ∧ r.2.mem ((c.tc : Thread Cert.AdamAInRefIdeal.nD Cert.AdamAInRefIdeal.τ).loc Cert.AdamAInRefIdeal.main_arg3) = m ((c.tc : Thread Cert.AdamAInRefIdeal.nD Cert.AdamAInRefIdeal.τ).loc Cert.AdamAInRefIdeal.main_arg3))
      ∧ r.2.sem = fun _ => 0)

def quiescent_AdamBIn [hAdamBIn : Cert.AdamBIn.Facts] : Prop :=
  ∀ (m : (ℓ : Loc Cert.AdamBIn.nD Cert.AdamBIn.τ Cert.AdamBIn.sig) → Buf (Elt Bits) ℓ) (g : Dev Cert.AdamBIn.nD → PrngReg), Pre_AdamBIn m →
    θ_run (Cert.AdamBIn.defs (F := Bits)) (onTc (τ := Cert.AdamBIn.τ) (Cert.AdamBIn.main (F := Bits))) ⟨m, fun _ => 0, g⟩ (fun r => (∀ c : Dev Cert.AdamBIn.nD,
      r.2.mem ((c.tc : Thread Cert.AdamBIn.nD Cert.AdamBIn.τ).loc Cert.AdamBIn.main_arg0) = m ((c.tc : Thread Cert.AdamBIn.nD Cert.AdamBIn.τ).loc Cert.AdamBIn.main_arg0)
      ∧ r.2.mem ((c.tc : Thread Cert.AdamBIn.nD Cert.AdamBIn.τ).loc Cert.AdamBIn.main_arg1) = m ((c.tc : Thread Cert.AdamBIn.nD Cert.AdamBIn.τ).loc Cert.AdamBIn.main_arg1)
      ∧ r.2.mem ((c.tc : Thread Cert.AdamBIn.nD Cert.AdamBIn.τ).loc Cert.AdamBIn.main_arg2) = m ((c.tc : Thread Cert.AdamBIn.nD Cert.AdamBIn.τ).loc Cert.AdamBIn.main_arg2)
      ∧ r.2.mem ((c.tc : Thread Cert.AdamBIn.nD Cert.AdamBIn.τ).loc Cert.AdamBIn.main_arg3) = m ((c.tc : Thread Cert.AdamBIn.nD Cert.AdamBIn.τ).loc Cert.AdamBIn.main_arg3))
      ∧ r.2.sem = fun _ => 0)

def quiescent_AdamBInIdeal [hAdamBInIdeal : Cert.AdamBInIdeal.Facts] : Prop :=
  ∀ (m : (ℓ : Loc Cert.AdamBInIdeal.nD Cert.AdamBInIdeal.τ Cert.AdamBInIdeal.sig) → Buf (Elt Ideal) ℓ) (g : Dev Cert.AdamBInIdeal.nD → PrngReg), Pre_AdamBInIdeal m →
    θ_run (Cert.AdamBInIdeal.defs (F := Ideal)) (onTc (τ := Cert.AdamBInIdeal.τ) (Cert.AdamBInIdeal.main (F := Ideal))) ⟨m, fun _ => 0, g⟩ (fun r => (∀ c : Dev Cert.AdamBInIdeal.nD,
      r.2.mem ((c.tc : Thread Cert.AdamBInIdeal.nD Cert.AdamBInIdeal.τ).loc Cert.AdamBInIdeal.main_arg0) = m ((c.tc : Thread Cert.AdamBInIdeal.nD Cert.AdamBInIdeal.τ).loc Cert.AdamBInIdeal.main_arg0)
      ∧ r.2.mem ((c.tc : Thread Cert.AdamBInIdeal.nD Cert.AdamBInIdeal.τ).loc Cert.AdamBInIdeal.main_arg1) = m ((c.tc : Thread Cert.AdamBInIdeal.nD Cert.AdamBInIdeal.τ).loc Cert.AdamBInIdeal.main_arg1)
      ∧ r.2.mem ((c.tc : Thread Cert.AdamBInIdeal.nD Cert.AdamBInIdeal.τ).loc Cert.AdamBInIdeal.main_arg2) = m ((c.tc : Thread Cert.AdamBInIdeal.nD Cert.AdamBInIdeal.τ).loc Cert.AdamBInIdeal.main_arg2)
      ∧ r.2.mem ((c.tc : Thread Cert.AdamBInIdeal.nD Cert.AdamBInIdeal.τ).loc Cert.AdamBInIdeal.main_arg3) = m ((c.tc : Thread Cert.AdamBInIdeal.nD Cert.AdamBInIdeal.τ).loc Cert.AdamBInIdeal.main_arg3))
      ∧ r.2.sem = fun _ => 0)

def quiescent_AdamBInRefIdeal [hAdamBInRefIdeal : Cert.AdamBInRefIdeal.Facts] : Prop :=
  ∀ (m : (ℓ : Loc Cert.AdamBInRefIdeal.nD Cert.AdamBInRefIdeal.τ Cert.AdamBInRefIdeal.sig) → Buf (Elt Ideal) ℓ) (g : Dev Cert.AdamBInRefIdeal.nD → PrngReg), Pre_AdamBInRefIdeal m →
    θ_run (Cert.AdamBInRefIdeal.defs (F := Ideal)) (onTc (τ := Cert.AdamBInRefIdeal.τ) (Cert.AdamBInRefIdeal.main (F := Ideal))) ⟨m, fun _ => 0, g⟩ (fun r => (∀ c : Dev Cert.AdamBInRefIdeal.nD,
      r.2.mem ((c.tc : Thread Cert.AdamBInRefIdeal.nD Cert.AdamBInRefIdeal.τ).loc Cert.AdamBInRefIdeal.main_arg0) = m ((c.tc : Thread Cert.AdamBInRefIdeal.nD Cert.AdamBInRefIdeal.τ).loc Cert.AdamBInRefIdeal.main_arg0)
      ∧ r.2.mem ((c.tc : Thread Cert.AdamBInRefIdeal.nD Cert.AdamBInRefIdeal.τ).loc Cert.AdamBInRefIdeal.main_arg1) = m ((c.tc : Thread Cert.AdamBInRefIdeal.nD Cert.AdamBInRefIdeal.τ).loc Cert.AdamBInRefIdeal.main_arg1)
      ∧ r.2.mem ((c.tc : Thread Cert.AdamBInRefIdeal.nD Cert.AdamBInRefIdeal.τ).loc Cert.AdamBInRefIdeal.main_arg2) = m ((c.tc : Thread Cert.AdamBInRefIdeal.nD Cert.AdamBInRefIdeal.τ).loc Cert.AdamBInRefIdeal.main_arg2)
      ∧ r.2.mem ((c.tc : Thread Cert.AdamBInRefIdeal.nD Cert.AdamBInRefIdeal.τ).loc Cert.AdamBInRefIdeal.main_arg3) = m ((c.tc : Thread Cert.AdamBInRefIdeal.nD Cert.AdamBInRefIdeal.τ).loc Cert.AdamBInRefIdeal.main_arg3))
      ∧ r.2.sem = fun _ => 0)

def quiescent_AdamMem [hAdamMem : Cert.AdamMem.Facts] : Prop :=
  ∀ (m : (ℓ : Loc Cert.AdamMem.nD Cert.AdamMem.τ Cert.AdamMem.sig) → Buf (Elt Bits) ℓ) (g : Dev Cert.AdamMem.nD → PrngReg), Pre_AdamMem m →
    θ_run (Cert.AdamMem.defs (F := Bits)) (onTc (τ := Cert.AdamMem.τ) (Cert.AdamMem.main (F := Bits))) ⟨m, fun _ => 0, g⟩ (fun r => (∀ c : Dev Cert.AdamMem.nD,
      r.2.mem ((c.tc : Thread Cert.AdamMem.nD Cert.AdamMem.τ).loc Cert.AdamMem.main_arg0) = m ((c.tc : Thread Cert.AdamMem.nD Cert.AdamMem.τ).loc Cert.AdamMem.main_arg0)
      ∧ r.2.mem ((c.tc : Thread Cert.AdamMem.nD Cert.AdamMem.τ).loc Cert.AdamMem.main_arg1) = m ((c.tc : Thread Cert.AdamMem.nD Cert.AdamMem.τ).loc Cert.AdamMem.main_arg1)
      ∧ r.2.mem ((c.tc : Thread Cert.AdamMem.nD Cert.AdamMem.τ).loc Cert.AdamMem.main_arg2) = m ((c.tc : Thread Cert.AdamMem.nD Cert.AdamMem.τ).loc Cert.AdamMem.main_arg2)
      ∧ r.2.mem ((c.tc : Thread Cert.AdamMem.nD Cert.AdamMem.τ).loc Cert.AdamMem.main_arg3) = m ((c.tc : Thread Cert.AdamMem.nD Cert.AdamMem.τ).loc Cert.AdamMem.main_arg3))
      ∧ r.2.sem = fun _ => 0)

def quiescent_AdamMemIdeal [hAdamMemIdeal : Cert.AdamMemIdeal.Facts] : Prop :=
  ∀ (m : (ℓ : Loc Cert.AdamMemIdeal.nD Cert.AdamMemIdeal.τ Cert.AdamMemIdeal.sig) → Buf (Elt Ideal) ℓ) (g : Dev Cert.AdamMemIdeal.nD → PrngReg), Pre_AdamMemIdeal m →
    θ_run (Cert.AdamMemIdeal.defs (F := Ideal)) (onTc (τ := Cert.AdamMemIdeal.τ) (Cert.AdamMemIdeal.main (F := Ideal))) ⟨m, fun _ => 0, g⟩ (fun r => (∀ c : Dev Cert.AdamMemIdeal.nD,
      r.2.mem ((c.tc : Thread Cert.AdamMemIdeal.nD Cert.AdamMemIdeal.τ).loc Cert.AdamMemIdeal.main_arg0) = m ((c.tc : Thread Cert.AdamMemIdeal.nD Cert.AdamMemIdeal.τ).loc Cert.AdamMemIdeal.main_arg0)
      ∧ r.2.mem ((c.tc : Thread Cert.AdamMemIdeal.nD Cert.AdamMemIdeal.τ).loc Cert.AdamMemIdeal.main_arg1) = m ((c.tc : Thread Cert.AdamMemIdeal.nD Cert.AdamMemIdeal.τ).loc Cert.AdamMemIdeal.main_arg1)
      ∧ r.2.mem ((c.tc : Thread Cert.AdamMemIdeal.nD Cert.AdamMemIdeal.τ).loc Cert.AdamMemIdeal.main_arg2) = m ((c.tc : Thread Cert.AdamMemIdeal.nD Cert.AdamMemIdeal.τ).loc Cert.AdamMemIdeal.main_arg2)
      ∧ r.2.mem ((c.tc : Thread Cert.AdamMemIdeal.nD Cert.AdamMemIdeal.τ).loc Cert.AdamMemIdeal.main_arg3) = m ((c.tc : Thread Cert.AdamMemIdeal.nD Cert.AdamMemIdeal.τ).loc Cert.AdamMemIdeal.main_arg3))
      ∧ r.2.sem = fun _ => 0)

def quiescent_AdamMemRefIdeal [hAdamMemRefIdeal : Cert.AdamMemRefIdeal.Facts] : Prop :=
  ∀ (m : (ℓ : Loc Cert.AdamMemRefIdeal.nD Cert.AdamMemRefIdeal.τ Cert.AdamMemRefIdeal.sig) → Buf (Elt Ideal) ℓ) (g : Dev Cert.AdamMemRefIdeal.nD → PrngReg), Pre_AdamMemRefIdeal m →
    θ_run (Cert.AdamMemRefIdeal.defs (F := Ideal)) (onTc (τ := Cert.AdamMemRefIdeal.τ) (Cert.AdamMemRefIdeal.main (F := Ideal))) ⟨m, fun _ => 0, g⟩ (fun r => (∀ c : Dev Cert.AdamMemRefIdeal.nD,
      r.2.mem ((c.tc : Thread Cert.AdamMemRefIdeal.nD Cert.AdamMemRefIdeal.τ).loc Cert.AdamMemRefIdeal.main_arg0) = m ((c.tc : Thread Cert.AdamMemRefIdeal.nD Cert.AdamMemRefIdeal.τ).loc Cert.AdamMemRefIdeal.main_arg0)
      ∧ r.2.mem ((c.tc : Thread Cert.AdamMemRefIdeal.nD Cert.AdamMemRefIdeal.τ).loc Cert.AdamMemRefIdeal.main_arg1) = m ((c.tc : Thread Cert.AdamMemRefIdeal.nD Cert.AdamMemRefIdeal.τ).loc Cert.AdamMemRefIdeal.main_arg1)
      ∧ r.2.mem ((c.tc : Thread Cert.AdamMemRefIdeal.nD Cert.AdamMemRefIdeal.τ).loc Cert.AdamMemRefIdeal.main_arg2) = m ((c.tc : Thread Cert.AdamMemRefIdeal.nD Cert.AdamMemRefIdeal.τ).loc Cert.AdamMemRefIdeal.main_arg2)
      ∧ r.2.mem ((c.tc : Thread Cert.AdamMemRefIdeal.nD Cert.AdamMemRefIdeal.τ).loc Cert.AdamMemRefIdeal.main_arg3) = m ((c.tc : Thread Cert.AdamMemRefIdeal.nD Cert.AdamMemRefIdeal.τ).loc Cert.AdamMemRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_MemAttA [hMemAttA : Cert.MemAttA.Facts] : Prop :=
  ∀ (m : (ℓ : Loc Cert.MemAttA.nD Cert.MemAttA.τ Cert.MemAttA.sig) → Buf (Elt Bits) ℓ) (g : Dev Cert.MemAttA.nD → PrngReg), Pre_MemAttA m →
    θ_run (Cert.MemAttA.defs (F := Bits)) (onTc (τ := Cert.MemAttA.τ) (Cert.MemAttA.main (F := Bits))) ⟨m, fun _ => 0, g⟩ (fun r => (∀ c : Dev Cert.MemAttA.nD,
      r.2.mem ((c.tc : Thread Cert.MemAttA.nD Cert.MemAttA.τ).loc Cert.MemAttA.main_arg0) = m ((c.tc : Thread Cert.MemAttA.nD Cert.MemAttA.τ).loc Cert.MemAttA.main_arg0)
      ∧ r.2.mem ((c.tc : Thread Cert.MemAttA.nD Cert.MemAttA.τ).loc Cert.MemAttA.main_arg1) = m ((c.tc : Thread Cert.MemAttA.nD Cert.MemAttA.τ).loc Cert.MemAttA.main_arg1)
      ∧ r.2.mem ((c.tc : Thread Cert.MemAttA.nD Cert.MemAttA.τ).loc Cert.MemAttA.main_arg2) = m ((c.tc : Thread Cert.MemAttA.nD Cert.MemAttA.τ).loc Cert.MemAttA.main_arg2))
      ∧ r.2.sem = fun _ => 0)

def quiescent_MemAttAIdeal [hMemAttAIdeal : Cert.MemAttAIdeal.Facts] : Prop :=
  ∀ (m : (ℓ : Loc Cert.MemAttAIdeal.nD Cert.MemAttAIdeal.τ Cert.MemAttAIdeal.sig) → Buf (Elt Ideal) ℓ) (g : Dev Cert.MemAttAIdeal.nD → PrngReg), Pre_MemAttAIdeal m →
    θ_run (Cert.MemAttAIdeal.defs (F := Ideal)) (onTc (τ := Cert.MemAttAIdeal.τ) (Cert.MemAttAIdeal.main (F := Ideal))) ⟨m, fun _ => 0, g⟩ (fun r => (∀ c : Dev Cert.MemAttAIdeal.nD,
      r.2.mem ((c.tc : Thread Cert.MemAttAIdeal.nD Cert.MemAttAIdeal.τ).loc Cert.MemAttAIdeal.main_arg0) = m ((c.tc : Thread Cert.MemAttAIdeal.nD Cert.MemAttAIdeal.τ).loc Cert.MemAttAIdeal.main_arg0)
      ∧ r.2.mem ((c.tc : Thread Cert.MemAttAIdeal.nD Cert.MemAttAIdeal.τ).loc Cert.MemAttAIdeal.main_arg1) = m ((c.tc : Thread Cert.MemAttAIdeal.nD Cert.MemAttAIdeal.τ).loc Cert.MemAttAIdeal.main_arg1)
      ∧ r.2.mem ((c.tc : Thread Cert.MemAttAIdeal.nD Cert.MemAttAIdeal.τ).loc Cert.MemAttAIdeal.main_arg2) = m ((c.tc : Thread Cert.MemAttAIdeal.nD Cert.MemAttAIdeal.τ).loc Cert.MemAttAIdeal.main_arg2))
      ∧ r.2.sem = fun _ => 0)

def quiescent_MemAttAIdeal_pre_mem_a_finite [hMemAttAIdeal : Cert.MemAttAIdeal.Facts] [hPre_mem_a_finite : Cert.Pre_mem_a_finite.Facts] : Prop :=
  ∀ (m : (ℓ : Loc Cert.MemAttAIdeal.nD Cert.MemAttAIdeal.τ Cert.MemAttAIdeal.sig) → Buf (Elt Ideal) ℓ) (g : Dev Cert.MemAttAIdeal.nD → PrngReg), Pre_MemAttAIdeal_mem_a_finite m →
    θ_run (Cert.MemAttAIdeal.defs (F := Ideal)) (onTc (τ := Cert.MemAttAIdeal.τ) (Cert.MemAttAIdeal.main (F := Ideal))) ⟨m, fun _ => 0, g⟩ (fun r => (∀ c : Dev Cert.MemAttAIdeal.nD,
      r.2.mem ((c.tc : Thread Cert.MemAttAIdeal.nD Cert.MemAttAIdeal.τ).loc Cert.MemAttAIdeal.main_arg0) = m ((c.tc : Thread Cert.MemAttAIdeal.nD Cert.MemAttAIdeal.τ).loc Cert.MemAttAIdeal.main_arg0)
      ∧ r.2.mem ((c.tc : Thread Cert.MemAttAIdeal.nD Cert.MemAttAIdeal.τ).loc Cert.MemAttAIdeal.main_arg1) = m ((c.tc : Thread Cert.MemAttAIdeal.nD Cert.MemAttAIdeal.τ).loc Cert.MemAttAIdeal.main_arg1)
      ∧ r.2.mem ((c.tc : Thread Cert.MemAttAIdeal.nD Cert.MemAttAIdeal.τ).loc Cert.MemAttAIdeal.main_arg2) = m ((c.tc : Thread Cert.MemAttAIdeal.nD Cert.MemAttAIdeal.τ).loc Cert.MemAttAIdeal.main_arg2))
      ∧ r.2.sem = fun _ => 0)

def quiescent_MemAttARefIdeal [hMemAttARefIdeal : Cert.MemAttARefIdeal.Facts] : Prop :=
  ∀ (m : (ℓ : Loc Cert.MemAttARefIdeal.nD Cert.MemAttARefIdeal.τ Cert.MemAttARefIdeal.sig) → Buf (Elt Ideal) ℓ) (g : Dev Cert.MemAttARefIdeal.nD → PrngReg), Pre_MemAttARefIdeal m →
    θ_run (Cert.MemAttARefIdeal.defs (F := Ideal)) (onTc (τ := Cert.MemAttARefIdeal.τ) (Cert.MemAttARefIdeal.main (F := Ideal))) ⟨m, fun _ => 0, g⟩ (fun r => (∀ c : Dev Cert.MemAttARefIdeal.nD,
      r.2.mem ((c.tc : Thread Cert.MemAttARefIdeal.nD Cert.MemAttARefIdeal.τ).loc Cert.MemAttARefIdeal.main_arg0) = m ((c.tc : Thread Cert.MemAttARefIdeal.nD Cert.MemAttARefIdeal.τ).loc Cert.MemAttARefIdeal.main_arg0)
      ∧ r.2.mem ((c.tc : Thread Cert.MemAttARefIdeal.nD Cert.MemAttARefIdeal.τ).loc Cert.MemAttARefIdeal.main_arg1) = m ((c.tc : Thread Cert.MemAttARefIdeal.nD Cert.MemAttARefIdeal.τ).loc Cert.MemAttARefIdeal.main_arg1)
      ∧ r.2.mem ((c.tc : Thread Cert.MemAttARefIdeal.nD Cert.MemAttARefIdeal.τ).loc Cert.MemAttARefIdeal.main_arg2) = m ((c.tc : Thread Cert.MemAttARefIdeal.nD Cert.MemAttARefIdeal.τ).loc Cert.MemAttARefIdeal.main_arg2))
      ∧ r.2.sem = fun _ => 0)

def quiescent_MemAttARefIdeal_pre_mem_a_finite [hMemAttARefIdeal : Cert.MemAttARefIdeal.Facts] [hPre_mem_a_finite : Cert.Pre_mem_a_finite.Facts] : Prop :=
  ∀ (m : (ℓ : Loc Cert.MemAttARefIdeal.nD Cert.MemAttARefIdeal.τ Cert.MemAttARefIdeal.sig) → Buf (Elt Ideal) ℓ) (g : Dev Cert.MemAttARefIdeal.nD → PrngReg), Pre_MemAttARefIdeal_mem_a_finite m →
    θ_run (Cert.MemAttARefIdeal.defs (F := Ideal)) (onTc (τ := Cert.MemAttARefIdeal.τ) (Cert.MemAttARefIdeal.main (F := Ideal))) ⟨m, fun _ => 0, g⟩ (fun r => (∀ c : Dev Cert.MemAttARefIdeal.nD,
      r.2.mem ((c.tc : Thread Cert.MemAttARefIdeal.nD Cert.MemAttARefIdeal.τ).loc Cert.MemAttARefIdeal.main_arg0) = m ((c.tc : Thread Cert.MemAttARefIdeal.nD Cert.MemAttARefIdeal.τ).loc Cert.MemAttARefIdeal.main_arg0)
      ∧ r.2.mem ((c.tc : Thread Cert.MemAttARefIdeal.nD Cert.MemAttARefIdeal.τ).loc Cert.MemAttARefIdeal.main_arg1) = m ((c.tc : Thread Cert.MemAttARefIdeal.nD Cert.MemAttARefIdeal.τ).loc Cert.MemAttARefIdeal.main_arg1)
      ∧ r.2.mem ((c.tc : Thread Cert.MemAttARefIdeal.nD Cert.MemAttARefIdeal.τ).loc Cert.MemAttARefIdeal.main_arg2) = m ((c.tc : Thread Cert.MemAttARefIdeal.nD Cert.MemAttARefIdeal.τ).loc Cert.MemAttARefIdeal.main_arg2))
      ∧ r.2.sem = fun _ => 0)

def quiescent_MemFA [hMemFA : Cert.MemFA.Facts] : Prop :=
  ∀ (m : (ℓ : Loc Cert.MemFA.nD Cert.MemFA.τ Cert.MemFA.sig) → Buf (Elt Bits) ℓ) (g : Dev Cert.MemFA.nD → PrngReg), Pre_MemFA m →
    θ_run (Cert.MemFA.defs (F := Bits)) (onTc (τ := Cert.MemFA.τ) (Cert.MemFA.main (F := Bits))) ⟨m, fun _ => 0, g⟩ (fun r => (∀ c : Dev Cert.MemFA.nD,
      r.2.mem ((c.tc : Thread Cert.MemFA.nD Cert.MemFA.τ).loc Cert.MemFA.main_arg0) = m ((c.tc : Thread Cert.MemFA.nD Cert.MemFA.τ).loc Cert.MemFA.main_arg0)
      ∧ r.2.mem ((c.tc : Thread Cert.MemFA.nD Cert.MemFA.τ).loc Cert.MemFA.main_arg1) = m ((c.tc : Thread Cert.MemFA.nD Cert.MemFA.τ).loc Cert.MemFA.main_arg1))
      ∧ r.2.sem = fun _ => 0)

def quiescent_MemFAIdeal [hMemFAIdeal : Cert.MemFAIdeal.Facts] : Prop :=
  ∀ (m : (ℓ : Loc Cert.MemFAIdeal.nD Cert.MemFAIdeal.τ Cert.MemFAIdeal.sig) → Buf (Elt Ideal) ℓ) (g : Dev Cert.MemFAIdeal.nD → PrngReg), Pre_MemFAIdeal m →
    θ_run (Cert.MemFAIdeal.defs (F := Ideal)) (onTc (τ := Cert.MemFAIdeal.τ) (Cert.MemFAIdeal.main (F := Ideal))) ⟨m, fun _ => 0, g⟩ (fun r => (∀ c : Dev Cert.MemFAIdeal.nD,
      r.2.mem ((c.tc : Thread Cert.MemFAIdeal.nD Cert.MemFAIdeal.τ).loc Cert.MemFAIdeal.main_arg0) = m ((c.tc : Thread Cert.MemFAIdeal.nD Cert.MemFAIdeal.τ).loc Cert.MemFAIdeal.main_arg0)
      ∧ r.2.mem ((c.tc : Thread Cert.MemFAIdeal.nD Cert.MemFAIdeal.τ).loc Cert.MemFAIdeal.main_arg1) = m ((c.tc : Thread Cert.MemFAIdeal.nD Cert.MemFAIdeal.τ).loc Cert.MemFAIdeal.main_arg1))
      ∧ r.2.sem = fun _ => 0)

def quiescent_MemFARefIdeal [hMemFARefIdeal : Cert.MemFARefIdeal.Facts] : Prop :=
  ∀ (m : (ℓ : Loc Cert.MemFARefIdeal.nD Cert.MemFARefIdeal.τ Cert.MemFARefIdeal.sig) → Buf (Elt Ideal) ℓ) (g : Dev Cert.MemFARefIdeal.nD → PrngReg), Pre_MemFARefIdeal m →
    θ_run (Cert.MemFARefIdeal.defs (F := Ideal)) (onTc (τ := Cert.MemFARefIdeal.τ) (Cert.MemFARefIdeal.main (F := Ideal))) ⟨m, fun _ => 0, g⟩ (fun r => (∀ c : Dev Cert.MemFARefIdeal.nD,
      r.2.mem ((c.tc : Thread Cert.MemFARefIdeal.nD Cert.MemFARefIdeal.τ).loc Cert.MemFARefIdeal.main_arg0) = m ((c.tc : Thread Cert.MemFARefIdeal.nD Cert.MemFARefIdeal.τ).loc Cert.MemFARefIdeal.main_arg0)
      ∧ r.2.mem ((c.tc : Thread Cert.MemFARefIdeal.nD Cert.MemFARefIdeal.τ).loc Cert.MemFARefIdeal.main_arg1) = m ((c.tc : Thread Cert.MemFARefIdeal.nD Cert.MemFARefIdeal.τ).loc Cert.MemFARefIdeal.main_arg1))
      ∧ r.2.sem = fun _ => 0)

def preserves_Sgu_SguIdeal : Prop :=
  IdealRules.named_const.Statement Cert.SguIdeal.κ "c3" .f32 0x3D372713#32 ((8943 / 200000 : ℝ) : EReal)
  ∧ IdealRules.named_const.Statement Cert.SguIdeal.κ "c3d" .f32 0x3E095D4F#32 ((26829 / 200000 : ℝ) : EReal)

def preserves_MemAtt_MemAttIdeal : Prop :=
  True

def algebraic_MemAttIdeal_MemAttRefIdeal_pre_mem_finite [hMemAttIdeal : Cert.MemAttIdeal.Facts] [hMemAttRefIdeal : Cert.MemAttRefIdeal.Facts] [hPre_mem_finite : Cert.Pre_mem_finite.Facts] : Prop :=
  ∀ (m : (ℓ : Loc Cert.MemAttIdeal.nD Cert.MemAttIdeal.τ Cert.MemAttIdeal.sig) → Buf (Elt Ideal) ℓ) (g : Dev Cert.MemAttIdeal.nD → PrngReg)
    (m' : (ℓ : Loc Cert.MemAttRefIdeal.nD Cert.MemAttRefIdeal.τ Cert.MemAttRefIdeal.sig) → Buf (Elt Ideal) ℓ) (g' : Dev Cert.MemAttRefIdeal.nD → PrngReg), Pre_MemAttIdeal_mem_finite m →
    (∀ c : Dev Cert.MemAttIdeal.nD,
      m' ((c.tc : Thread Cert.MemAttRefIdeal.nD Cert.MemAttRefIdeal.τ).loc Cert.MemAttRefIdeal.main_arg0) = m ((c.tc : Thread Cert.MemAttIdeal.nD Cert.MemAttIdeal.τ).loc Cert.MemAttIdeal.main_arg0)
      ∧ m' ((c.tc : Thread Cert.MemAttRefIdeal.nD Cert.MemAttRefIdeal.τ).loc Cert.MemAttRefIdeal.main_arg1) = m ((c.tc : Thread Cert.MemAttIdeal.nD Cert.MemAttIdeal.τ).loc Cert.MemAttIdeal.main_arg1)
      ∧ m' ((c.tc : Thread Cert.MemAttRefIdeal.nD Cert.MemAttRefIdeal.τ).loc Cert.MemAttRefIdeal.main_arg2) = m ((c.tc : Thread Cert.MemAttIdeal.nD Cert.MemAttIdeal.τ).loc Cert.MemAttIdeal.main_arg2)) →
    ∃ (v0 : (c : Dev Cert.MemAttIdeal.nD) → Buf (Elt Ideal) ((c.tc : Thread Cert.MemAttIdeal.nD Cert.MemAttIdeal.τ).loc Cert.MemAttIdeal.main_v0_0)) (v1 : (c : Dev Cert.MemAttIdeal.nD) → Buf (Elt Ideal) ((c.tc : Thread Cert.MemAttIdeal.nD Cert.MemAttIdeal.τ).loc Cert.MemAttIdeal.main_v0_1)),
      θ_run (Cert.MemAttIdeal.defs (F := Ideal)) (onTc (τ := Cert.MemAttIdeal.τ) (Cert.MemAttIdeal.main (F := Ideal))) ⟨m, fun _ => 0, g⟩ (fun r => ∀ c : Dev Cert.MemAttIdeal.nD,
          r.2.mem ((c.tc : Thread Cert.MemAttIdeal.nD Cert.MemAttIdeal.τ).loc Cert.MemAttIdeal.main_v0_0) = v0 c
          ∧ r.2.mem ((c.tc : Thread Cert.MemAttIdeal.nD Cert.MemAttIdeal.τ).loc Cert.MemAttIdeal.main_v0_1) = v1 c
          ∧ r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
          ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
          ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2))
      ∧ θ_run (Cert.MemAttRefIdeal.defs (F := Ideal)) (onTc (τ := Cert.MemAttRefIdeal.τ) (Cert.MemAttRefIdeal.main (F := Ideal))) ⟨m', fun _ => 0, g'⟩ (fun r => ∀ c : Dev Cert.MemAttRefIdeal.nD,
          r.2.mem ((c.tc : Thread Cert.MemAttRefIdeal.nD Cert.MemAttRefIdeal.τ).loc Cert.MemAttRefIdeal.main_v68) = v0 c
          ∧ r.2.mem ((c.tc : Thread Cert.MemAttRefIdeal.nD Cert.MemAttRefIdeal.τ).loc Cert.MemAttRefIdeal.main_v67) = v1 c
          ∧ r.2.mem ((c.tc : Thread Cert.MemAttRefIdeal.nD Cert.MemAttRefIdeal.τ).loc Cert.MemAttRefIdeal.main_arg0) = m' ((c.tc : Thread Cert.MemAttRefIdeal.nD Cert.MemAttRefIdeal.τ).loc Cert.MemAttRefIdeal.main_arg0)
          ∧ r.2.mem ((c.tc : Thread Cert.MemAttRefIdeal.nD Cert.MemAttRefIdeal.τ).loc Cert.MemAttRefIdeal.main_arg1) = m' ((c.tc : Thread Cert.MemAttRefIdeal.nD Cert.MemAttRefIdeal.τ).loc Cert.MemAttRefIdeal.main_arg1)
          ∧ r.2.mem ((c.tc : Thread Cert.MemAttRefIdeal.nD Cert.MemAttRefIdeal.τ).loc Cert.MemAttRefIdeal.main_arg2) = m' ((c.tc : Thread Cert.MemAttRefIdeal.nD Cert.MemAttRefIdeal.τ).loc Cert.MemAttRefIdeal.main_arg2))

def preserves_FfnIn_FfnInIdeal : Prop :=
  True

def algebraic_FfnInIdeal_FfnInRefIdeal_pre_ffn_in_finite [hFfnInIdeal : Cert.FfnInIdeal.Facts] [hFfnInRefIdeal : Cert.FfnInRefIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffn_in_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v1_0)) (v1 : (c : Dev Cert.FfnInIdeal.nD) → Buf (Elt Ideal) ((c.tc : Thread Cert.FfnInIdeal.nD Cert.FfnInIdeal.τ).loc Cert.FfnInIdeal.main_v1_1)) (v2 : (c : Dev Cert.FfnInIdeal.nD) → Buf (Elt Ideal) ((c.tc : Thread Cert.FfnInIdeal.nD Cert.FfnInIdeal.τ).loc Cert.FfnInIdeal.main_v1_2)) (v3 : (c : Dev Cert.FfnInIdeal.nD) → Buf (Elt Ideal) ((c.tc : Thread Cert.FfnInIdeal.nD Cert.FfnInIdeal.τ).loc Cert.FfnInIdeal.main_v1_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v1_0) = v0 c
          ∧ r.2.mem ((c.tc : Thread Cert.FfnInIdeal.nD Cert.FfnInIdeal.τ).loc Cert.FfnInIdeal.main_v1_1) = v1 c
          ∧ r.2.mem ((c.tc : Thread Cert.FfnInIdeal.nD Cert.FfnInIdeal.τ).loc Cert.FfnInIdeal.main_v1_2) = v2 c
          ∧ r.2.mem ((c.tc : Thread Cert.FfnInIdeal.nD Cert.FfnInIdeal.τ).loc Cert.FfnInIdeal.main_v1_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v78) = v0 c
          ∧ r.2.mem ((c.tc : Thread Cert.FfnInRefIdeal.nD Cert.FfnInRefIdeal.τ).loc Cert.FfnInRefIdeal.main_v79) = v1 c
          ∧ r.2.mem ((c.tc : Thread Cert.FfnInRefIdeal.nD Cert.FfnInRefIdeal.τ).loc Cert.FfnInRefIdeal.main_v80) = v2 c
          ∧ r.2.mem ((c.tc : Thread Cert.FfnInRefIdeal.nD Cert.FfnInRefIdeal.τ).loc Cert.FfnInRefIdeal.main_v81) = v3 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v8_0)) (v1 : (c : Dev Cert.GateIdeal.nD) → Buf (Elt Ideal) ((c.tc : Thread Cert.GateIdeal.nD Cert.GateIdeal.τ).loc Cert.GateIdeal.main_v8_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v8_0) = v0 c
          ∧ r.2.mem ((c.tc : Thread Cert.GateIdeal.nD Cert.GateIdeal.τ).loc Cert.GateIdeal.main_v8_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v9) = v0 c
          ∧ r.2.mem ((c.tc : Thread Cert.GateRefIdeal.nD Cert.GateRefIdeal.τ).loc Cert.GateRefIdeal.main_v10) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Up_UpIdeal : Prop :=
  True

def algebraic_UpIdeal_UpRefIdeal_pre_up_finite [hUpIdeal : Cert.UpIdeal.Facts] [hUpRefIdeal : Cert.UpRefIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v14) = v0 c
          ∧ r.2.mem ((c.tc : Thread Cert.UpRefIdeal.nD Cert.UpRefIdeal.τ).loc Cert.UpRefIdeal.main_v15) = v1 c
          ∧ r.2.mem ((c.tc : Thread Cert.UpRefIdeal.nD Cert.UpRefIdeal.τ).loc Cert.UpRefIdeal.main_v16) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)) (v2 : (c : Dev Cert.NormIdeal.nD) → Buf (Elt Ideal) ((c.tc : Thread Cert.NormIdeal.nD Cert.NormIdeal.τ).loc Cert.NormIdeal.main_v2_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_v2_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v5) = v0 c
          ∧ r.2.mem ((c.tc : Thread Cert.NormRefIdeal.nD Cert.NormRefIdeal.τ).loc Cert.NormRefIdeal.main_v29) = v1 c
          ∧ r.2.mem ((c.tc : Thread Cert.NormRefIdeal.nD Cert.NormRefIdeal.τ).loc Cert.NormRefIdeal.main_v30) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v5) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_OutB_OutBIdeal : Prop :=
  True

def algebraic_OutBIdeal_OutBRefIdeal [hOutBIdeal : Cert.OutBIdeal.Facts] [hOutBRefIdeal : Cert.OutBRefIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBRefIdeal.nD Cert.OutBRefIdeal.τ Cert.OutBRefIdeal.sig) → Buf (Elt Ideal) ℓ) (g' : Dev Cert.OutBRefIdeal.nD → PrngReg), Pre_OutBIdeal m →
    (∀ c : Dev Cert.OutBIdeal.nD,
      m' ((c.tc : Thread Cert.OutBRefIdeal.nD Cert.OutBRefIdeal.τ).loc Cert.OutBRefIdeal.main_arg0) = m ((c.tc : Thread Cert.OutBIdeal.nD Cert.OutBIdeal.τ).loc Cert.OutBIdeal.main_arg0)
      ∧ m' ((c.tc : Thread Cert.OutBRefIdeal.nD Cert.OutBRefIdeal.τ).loc Cert.OutBRefIdeal.main_arg1) = m ((c.tc : Thread Cert.OutBIdeal.nD Cert.OutBIdeal.τ).loc Cert.OutBIdeal.main_arg1)) →
    ∃ (v0 : (c : Dev Cert.OutBIdeal.nD) → Buf (Elt Ideal) ((c.tc : Thread Cert.OutBIdeal.nD Cert.OutBIdeal.τ).loc Cert.OutBIdeal.main_v0)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v0) = v0 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1))
      ∧ θ_run (Cert.OutBRefIdeal.defs (F := Ideal)) (onTc (τ := Cert.OutBRefIdeal.τ) (Cert.OutBRefIdeal.main (F := Ideal))) ⟨m', fun _ => 0, g'⟩ (fun r => ∀ c : Dev Cert.OutBRefIdeal.nD,
          r.2.mem ((c.tc : Thread Cert.OutBRefIdeal.nD Cert.OutBRefIdeal.τ).loc Cert.OutBRefIdeal.main_v4) = v0 c
          ∧ r.2.mem ((c.tc : Thread Cert.OutBRefIdeal.nD Cert.OutBRefIdeal.τ).loc Cert.OutBRefIdeal.main_arg0) = m' ((c.tc : Thread Cert.OutBRefIdeal.nD Cert.OutBRefIdeal.τ).loc Cert.OutBRefIdeal.main_arg0)
          ∧ r.2.mem ((c.tc : Thread Cert.OutBRefIdeal.nD Cert.OutBRefIdeal.τ).loc Cert.OutBRefIdeal.main_arg1) = m' ((c.tc : Thread Cert.OutBRefIdeal.nD Cert.OutBRefIdeal.τ).loc Cert.OutBRefIdeal.main_arg1))

def preserves_InWA_InWAIdeal : Prop :=
  True

def algebraic_InWAIdeal_InWARefIdeal [hInWAIdeal : Cert.InWAIdeal.Facts] [hInWARefIdeal : Cert.InWARefIdeal.Facts] : Prop :=
  ∀ (m : (ℓ : Loc Cert.InWAIdeal.nD Cert.InWAIdeal.τ Cert.InWAIdeal.sig) → Buf (Elt Ideal) ℓ) (g : Dev Cert.InWAIdeal.nD → PrngReg)
    (m' : (ℓ : Loc Cert.InWARefIdeal.nD Cert.InWARefIdeal.τ Cert.InWARefIdeal.sig) → Buf (Elt Ideal) ℓ) (g' : Dev Cert.InWARefIdeal.nD → PrngReg), Pre_InWAIdeal m →
    (∀ c : Dev Cert.InWAIdeal.nD,
      m' ((c.tc : Thread Cert.InWARefIdeal.nD Cert.InWARefIdeal.τ).loc Cert.InWARefIdeal.main_arg0) = m ((c.tc : Thread Cert.InWAIdeal.nD Cert.InWAIdeal.τ).loc Cert.InWAIdeal.main_arg0)
      ∧ m' ((c.tc : Thread Cert.InWARefIdeal.nD Cert.InWARefIdeal.τ).loc Cert.InWARefIdeal.main_arg1) = m ((c.tc : Thread Cert.InWAIdeal.nD Cert.InWAIdeal.τ).loc Cert.InWAIdeal.main_arg1)) →
    ∃ (v0 : (c : Dev Cert.InWAIdeal.nD) → Buf (Elt Ideal) ((c.tc : Thread Cert.InWAIdeal.nD Cert.InWAIdeal.τ).loc Cert.InWAIdeal.main_v0)),
      θ_run (Cert.InWAIdeal.defs (F := Ideal)) (onTc (τ := Cert.InWAIdeal.τ) (Cert.InWAIdeal.main (F := Ideal))) ⟨m, fun _ => 0, g⟩ (fun r => ∀ c : Dev Cert.InWAIdeal.nD,
          r.2.mem ((c.tc : Thread Cert.InWAIdeal.nD Cert.InWAIdeal.τ).loc Cert.InWAIdeal.main_v0) = v0 c
          ∧ r.2.mem ((c.tc : Thread Cert.InWAIdeal.nD Cert.InWAIdeal.τ).loc Cert.InWAIdeal.main_arg0) = m ((c.tc : Thread Cert.InWAIdeal.nD Cert.InWAIdeal.τ).loc Cert.InWAIdeal.main_arg0)
          ∧ r.2.mem ((c.tc : Thread Cert.InWAIdeal.nD Cert.InWAIdeal.τ).loc Cert.InWAIdeal.main_arg1) = m ((c.tc : Thread Cert.InWAIdeal.nD Cert.InWAIdeal.τ).loc Cert.InWAIdeal.main_arg1))
      ∧ θ_run (Cert.InWARefIdeal.defs (F := Ideal)) (onTc (τ := Cert.InWARefIdeal.τ) (Cert.InWARefIdeal.main (F := Ideal))) ⟨m', fun _ => 0, g'⟩ (fun r => ∀ c : Dev Cert.InWARefIdeal.nD,
          r.2.mem ((c.tc : Thread Cert.InWARefIdeal.nD Cert.InWARefIdeal.τ).loc Cert.InWARefIdeal.main_v7) = v0 c
          ∧ r.2.mem ((c.tc : Thread Cert.InWARefIdeal.nD Cert.InWARefIdeal.τ).loc Cert.InWARefIdeal.main_arg0) = m' ((c.tc : Thread Cert.InWARefIdeal.nD Cert.InWARefIdeal.τ).loc Cert.InWARefIdeal.main_arg0)
          ∧ r.2.mem ((c.tc : Thread Cert.InWARefIdeal.nD Cert.InWARefIdeal.τ).loc Cert.InWARefIdeal.main_arg1) = m' ((c.tc : Thread Cert.InWARefIdeal.nD Cert.InWARefIdeal.τ).loc Cert.InWARefIdeal.main_arg1))

def preserves_InWB_InWBIdeal : Prop :=
  True

def algebraic_InWBIdeal_InWBRefIdeal [hInWBIdeal : Cert.InWBIdeal.Facts] [hInWBRefIdeal : Cert.InWBRefIdeal.Facts] : Prop :=
  ∀ (m : (ℓ : Loc Cert.InWBIdeal.nD Cert.InWBIdeal.τ Cert.InWBIdeal.sig) → Buf (Elt Ideal) ℓ) (g : Dev Cert.InWBIdeal.nD → PrngReg)
    (m' : (ℓ : Loc Cert.InWBRefIdeal.nD Cert.InWBRefIdeal.τ Cert.InWBRefIdeal.sig) → Buf (Elt Ideal) ℓ) (g' : Dev Cert.InWBRefIdeal.nD → PrngReg), Pre_InWBIdeal m →
    (∀ c : Dev Cert.InWBIdeal.nD,
      m' ((c.tc : Thread Cert.InWBRefIdeal.nD Cert.InWBRefIdeal.τ).loc Cert.InWBRefIdeal.main_arg0) = m ((c.tc : Thread Cert.InWBIdeal.nD Cert.InWBIdeal.τ).loc Cert.InWBIdeal.main_arg0)
      ∧ m' ((c.tc : Thread Cert.InWBRefIdeal.nD Cert.InWBRefIdeal.τ).loc Cert.InWBRefIdeal.main_arg1) = m ((c.tc : Thread Cert.InWBIdeal.nD Cert.InWBIdeal.τ).loc Cert.InWBIdeal.main_arg1)) →
    ∃ (v0 : (c : Dev Cert.InWBIdeal.nD) → Buf (Elt Ideal) ((c.tc : Thread Cert.InWBIdeal.nD Cert.InWBIdeal.τ).loc Cert.InWBIdeal.main_v0)),
      θ_run (Cert.InWBIdeal.defs (F := Ideal)) (onTc (τ := Cert.InWBIdeal.τ) (Cert.InWBIdeal.main (F := Ideal))) ⟨m, fun _ => 0, g⟩ (fun r => ∀ c : Dev Cert.InWBIdeal.nD,
          r.2.mem ((c.tc : Thread Cert.InWBIdeal.nD Cert.InWBIdeal.τ).loc Cert.InWBIdeal.main_v0) = v0 c
          ∧ r.2.mem ((c.tc : Thread Cert.InWBIdeal.nD Cert.InWBIdeal.τ).loc Cert.InWBIdeal.main_arg0) = m ((c.tc : Thread Cert.InWBIdeal.nD Cert.InWBIdeal.τ).loc Cert.InWBIdeal.main_arg0)
          ∧ r.2.mem ((c.tc : Thread Cert.InWBIdeal.nD Cert.InWBIdeal.τ).loc Cert.InWBIdeal.main_arg1) = m ((c.tc : Thread Cert.InWBIdeal.nD Cert.InWBIdeal.τ).loc Cert.InWBIdeal.main_arg1))
      ∧ θ_run (Cert.InWBRefIdeal.defs (F := Ideal)) (onTc (τ := Cert.InWBRefIdeal.τ) (Cert.InWBRefIdeal.main (F := Ideal))) ⟨m', fun _ => 0, g'⟩ (fun r => ∀ c : Dev Cert.InWBRefIdeal.nD,
          r.2.mem ((c.tc : Thread Cert.InWBRefIdeal.nD Cert.InWBRefIdeal.τ).loc Cert.InWBRefIdeal.main_v7) = v0 c
          ∧ r.2.mem ((c.tc : Thread Cert.InWBRefIdeal.nD Cert.InWBRefIdeal.τ).loc Cert.InWBRefIdeal.main_arg0) = m' ((c.tc : Thread Cert.InWBRefIdeal.nD Cert.InWBRefIdeal.τ).loc Cert.InWBRefIdeal.main_arg0)
          ∧ r.2.mem ((c.tc : Thread Cert.InWBRefIdeal.nD Cert.InWBRefIdeal.τ).loc Cert.InWBRefIdeal.main_arg1) = m' ((c.tc : Thread Cert.InWBRefIdeal.nD Cert.InWBRefIdeal.τ).loc Cert.InWBRefIdeal.main_arg1))

def preserves_InA_InAIdeal : Prop :=
  True

def algebraic_InAIdeal_InARefIdeal_pre_in_a_finite [hInAIdeal : Cert.InAIdeal.Facts] [hInARefIdeal : Cert.InARefIdeal.Facts] [hPre_in_a_finite : Cert.Pre_in_a_finite.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal_in_a_finite m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)
      ∧ m' ((c.tc : Thread Cert.InARefIdeal.nD Cert.InARefIdeal.τ).loc Cert.InARefIdeal.main_arg2) = m ((c.tc : Thread Cert.InAIdeal.nD Cert.InAIdeal.τ).loc Cert.InAIdeal.main_arg2)
      ∧ m' ((c.tc : Thread Cert.InARefIdeal.nD Cert.InARefIdeal.τ).loc Cert.InARefIdeal.main_arg3) = m ((c.tc : Thread Cert.InAIdeal.nD Cert.InAIdeal.τ).loc Cert.InAIdeal.main_arg3)
      ∧ m' ((c.tc : Thread Cert.InARefIdeal.nD Cert.InARefIdeal.τ).loc Cert.InARefIdeal.main_arg4) = m ((c.tc : Thread Cert.InAIdeal.nD Cert.InAIdeal.τ).loc Cert.InAIdeal.main_arg4)) →
    ∃ (v0 : (c : Dev Cert.InAIdeal.nD) → Buf (Elt Ideal) ((c.tc : Thread Cert.InAIdeal.nD Cert.InAIdeal.τ).loc Cert.InAIdeal.main_v1_0)) (v1 : (c : Dev Cert.InAIdeal.nD) → Buf (Elt Ideal) ((c.tc : Thread Cert.InAIdeal.nD Cert.InAIdeal.τ).loc Cert.InAIdeal.main_v1_1)) (v2 : (c : Dev Cert.InAIdeal.nD) → Buf (Elt Ideal) ((c.tc : Thread Cert.InAIdeal.nD Cert.InAIdeal.τ).loc Cert.InAIdeal.main_v1_2)) (v3 : (c : Dev Cert.InAIdeal.nD) → Buf (Elt Ideal) ((c.tc : Thread Cert.InAIdeal.nD Cert.InAIdeal.τ).loc Cert.InAIdeal.main_v1_3)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v1_0) = v0 c
          ∧ r.2.mem ((c.tc : Thread Cert.InAIdeal.nD Cert.InAIdeal.τ).loc Cert.InAIdeal.main_v1_1) = v1 c
          ∧ r.2.mem ((c.tc : Thread Cert.InAIdeal.nD Cert.InAIdeal.τ).loc Cert.InAIdeal.main_v1_2) = v2 c
          ∧ r.2.mem ((c.tc : Thread Cert.InAIdeal.nD Cert.InAIdeal.τ).loc Cert.InAIdeal.main_v1_3) = v3 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
          ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
          ∧ r.2.mem ((c.tc : Thread Cert.InAIdeal.nD Cert.InAIdeal.τ).loc Cert.InAIdeal.main_arg4) = m ((c.tc : Thread Cert.InAIdeal.nD Cert.InAIdeal.τ).loc Cert.InAIdeal.main_arg4))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v72) = v0 c
          ∧ r.2.mem ((c.tc : Thread Cert.InARefIdeal.nD Cert.InARefIdeal.τ).loc Cert.InARefIdeal.main_v73) = v1 c
          ∧ r.2.mem ((c.tc : Thread Cert.InARefIdeal.nD Cert.InARefIdeal.τ).loc Cert.InARefIdeal.main_v74) = v2 c
          ∧ r.2.mem ((c.tc : Thread Cert.InARefIdeal.nD Cert.InARefIdeal.τ).loc Cert.InARefIdeal.main_v75) = v3 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1)
          ∧ r.2.mem ((c.tc : Thread Cert.InARefIdeal.nD Cert.InARefIdeal.τ).loc Cert.InARefIdeal.main_arg2) = m' ((c.tc : Thread Cert.InARefIdeal.nD Cert.InARefIdeal.τ).loc Cert.InARefIdeal.main_arg2)
          ∧ r.2.mem ((c.tc : Thread Cert.InARefIdeal.nD Cert.InARefIdeal.τ).loc Cert.InARefIdeal.main_arg3) = m' ((c.tc : Thread Cert.InARefIdeal.nD Cert.InARefIdeal.τ).loc Cert.InARefIdeal.main_arg3)
          ∧ r.2.mem ((c.tc : Thread Cert.InARefIdeal.nD Cert.InARefIdeal.τ).loc Cert.InARefIdeal.main_arg4) = m' ((c.tc : Thread Cert.InARefIdeal.nD Cert.InARefIdeal.τ).loc Cert.InARefIdeal.main_arg4))

def preserves_InB_InBIdeal : Prop :=
  True

def algebraic_InBIdeal_InBRefIdeal_pre_in_b_finite [hInBIdeal : Cert.InBIdeal.Facts] [hInBRefIdeal : Cert.InBRefIdeal.Facts] [hPre_in_b_finite : Cert.Pre_in_b_finite.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal_in_b_finite m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)
      ∧ m' ((c.tc : Thread Cert.InBRefIdeal.nD Cert.InBRefIdeal.τ).loc Cert.InBRefIdeal.main_arg3) = m ((c.tc : Thread Cert.InBIdeal.nD Cert.InBIdeal.τ).loc Cert.InBIdeal.main_arg3)
      ∧ m' ((c.tc : Thread Cert.InBRefIdeal.nD Cert.InBRefIdeal.τ).loc Cert.InBRefIdeal.main_arg4) = m ((c.tc : Thread Cert.InBIdeal.nD Cert.InBIdeal.τ).loc Cert.InBIdeal.main_arg4)) →
    ∃ (v0 : (c : Dev Cert.InBIdeal.nD) → Buf (Elt Ideal) ((c.tc : Thread Cert.InBIdeal.nD Cert.InBIdeal.τ).loc Cert.InBIdeal.main_v1_0)) (v1 : (c : Dev Cert.InBIdeal.nD) → Buf (Elt Ideal) ((c.tc : Thread Cert.InBIdeal.nD Cert.InBIdeal.τ).loc Cert.InBIdeal.main_v1_1)) (v2 : (c : Dev Cert.InBIdeal.nD) → Buf (Elt Ideal) ((c.tc : Thread Cert.InBIdeal.nD Cert.InBIdeal.τ).loc Cert.InBIdeal.main_v1_2)) (v3 : (c : Dev Cert.InBIdeal.nD) → Buf (Elt Ideal) ((c.tc : Thread Cert.InBIdeal.nD Cert.InBIdeal.τ).loc Cert.InBIdeal.main_v1_3)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v1_0) = v0 c
          ∧ r.2.mem ((c.tc : Thread Cert.InBIdeal.nD Cert.InBIdeal.τ).loc Cert.InBIdeal.main_v1_1) = v1 c
          ∧ r.2.mem ((c.tc : Thread Cert.InBIdeal.nD Cert.InBIdeal.τ).loc Cert.InBIdeal.main_v1_2) = v2 c
          ∧ r.2.mem ((c.tc : Thread Cert.InBIdeal.nD Cert.InBIdeal.τ).loc Cert.InBIdeal.main_v1_3) = v3 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
          ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
          ∧ r.2.mem ((c.tc : Thread Cert.InBIdeal.nD Cert.InBIdeal.τ).loc Cert.InBIdeal.main_arg4) = m ((c.tc : Thread Cert.InBIdeal.nD Cert.InBIdeal.τ).loc Cert.InBIdeal.main_arg4))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v72) = v0 c
          ∧ r.2.mem ((c.tc : Thread Cert.InBRefIdeal.nD Cert.InBRefIdeal.τ).loc Cert.InBRefIdeal.main_v73) = v1 c
          ∧ r.2.mem ((c.tc : Thread Cert.InBRefIdeal.nD Cert.InBRefIdeal.τ).loc Cert.InBRefIdeal.main_v74) = v2 c
          ∧ r.2.mem ((c.tc : Thread Cert.InBRefIdeal.nD Cert.InBRefIdeal.τ).loc Cert.InBRefIdeal.main_v75) = v3 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2)
          ∧ r.2.mem ((c.tc : Thread Cert.InBRefIdeal.nD Cert.InBRefIdeal.τ).loc Cert.InBRefIdeal.main_arg3) = m' ((c.tc : Thread Cert.InBRefIdeal.nD Cert.InBRefIdeal.τ).loc Cert.InBRefIdeal.main_arg3)
          ∧ r.2.mem ((c.tc : Thread Cert.InBRefIdeal.nD Cert.InBRefIdeal.τ).loc Cert.InBRefIdeal.main_arg4) = m' ((c.tc : Thread Cert.InBRefIdeal.nD Cert.InBRefIdeal.τ).loc Cert.InBRefIdeal.main_arg4))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)) →
    ∃ (v0 : (c : Dev Cert.InXIdeal.nD) → Buf (Elt Ideal) ((c.tc : Thread Cert.InXIdeal.nD Cert.InXIdeal.τ).loc Cert.InXIdeal.main_v0)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v10) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v3) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v3) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_OutN_OutNIdeal : Prop :=
  True

def algebraic_OutNIdeal_OutNRefIdeal [hOutNIdeal : Cert.OutNIdeal.Facts] [hOutNRefIdeal : Cert.OutNRefIdeal.Facts] : Prop :=
  ∀ (m : (ℓ : Loc Cert.OutNIdeal.nD Cert.OutNIdeal.τ Cert.OutNIdeal.sig) → Buf (Elt Ideal) ℓ) (g : Dev Cert.OutNIdeal.nD → PrngReg)
    (m' : (ℓ : Loc Cert.OutNRefIdeal.nD Cert.OutNRefIdeal.τ Cert.OutNRefIdeal.sig) → Buf (Elt Ideal) ℓ) (g' : Dev Cert.OutNRefIdeal.nD → PrngReg), Pre_OutNIdeal m →
    (∀ c : Dev Cert.OutNIdeal.nD,
      m' ((c.tc : Thread Cert.OutNRefIdeal.nD Cert.OutNRefIdeal.τ).loc Cert.OutNRefIdeal.main_arg0) = m ((c.tc : Thread Cert.OutNIdeal.nD Cert.OutNIdeal.τ).loc Cert.OutNIdeal.main_arg0)
      ∧ m' ((c.tc : Thread Cert.OutNRefIdeal.nD Cert.OutNRefIdeal.τ).loc Cert.OutNRefIdeal.main_arg1) = m ((c.tc : Thread Cert.OutNIdeal.nD Cert.OutNIdeal.τ).loc Cert.OutNIdeal.main_arg1)
      ∧ m' ((c.tc : Thread Cert.OutNRefIdeal.nD Cert.OutNRefIdeal.τ).loc Cert.OutNRefIdeal.main_arg2) = m ((c.tc : Thread Cert.OutNIdeal.nD Cert.OutNIdeal.τ).loc Cert.OutNIdeal.main_arg2)
      ∧ m' ((c.tc : Thread Cert.OutNRefIdeal.nD Cert.OutNRefIdeal.τ).loc Cert.OutNRefIdeal.main_arg3) = m ((c.tc : Thread Cert.OutNIdeal.nD Cert.OutNIdeal.τ).loc Cert.OutNIdeal.main_arg3)
      ∧ m' ((c.tc : Thread Cert.OutNRefIdeal.nD Cert.OutNRefIdeal.τ).loc Cert.OutNRefIdeal.main_arg4) = m ((c.tc : Thread Cert.OutNIdeal.nD Cert.OutNIdeal.τ).loc Cert.OutNIdeal.main_arg4)) →
    ∃ (v0 : (c : Dev Cert.OutNIdeal.nD) → Buf (Elt Ideal) ((c.tc : Thread Cert.OutNIdeal.nD Cert.OutNIdeal.τ).loc Cert.OutNIdeal.main_v2_0)) (v1 : (c : Dev Cert.OutNIdeal.nD) → Buf (Elt Ideal) ((c.tc : Thread Cert.OutNIdeal.nD Cert.OutNIdeal.τ).loc Cert.OutNIdeal.main_v2_1)) (v2 : (c : Dev Cert.OutNIdeal.nD) → Buf (Elt Ideal) ((c.tc : Thread Cert.OutNIdeal.nD Cert.OutNIdeal.τ).loc Cert.OutNIdeal.main_v2_2)),
      θ_run (Cert.OutNIdeal.defs (F := Ideal)) (onTc (τ := Cert.OutNIdeal.τ) (Cert.OutNIdeal.main (F := Ideal))) ⟨m, fun _ => 0, g⟩ (fun r => ∀ c : Dev Cert.OutNIdeal.nD,
          r.2.mem ((c.tc : Thread Cert.OutNIdeal.nD Cert.OutNIdeal.τ).loc Cert.OutNIdeal.main_v2_0) = v0 c
          ∧ r.2.mem ((c.tc : Thread Cert.OutNIdeal.nD Cert.OutNIdeal.τ).loc Cert.OutNIdeal.main_v2_1) = v1 c
          ∧ r.2.mem ((c.tc : Thread Cert.OutNIdeal.nD Cert.OutNIdeal.τ).loc Cert.OutNIdeal.main_v2_2) = v2 c
          ∧ r.2.mem ((c.tc : Thread Cert.OutNIdeal.nD Cert.OutNIdeal.τ).loc Cert.OutNIdeal.main_arg0) = m ((c.tc : Thread Cert.OutNIdeal.nD Cert.OutNIdeal.τ).loc Cert.OutNIdeal.main_arg0)
          ∧ r.2.mem ((c.tc : Thread Cert.OutNIdeal.nD Cert.OutNIdeal.τ).loc Cert.OutNIdeal.main_arg1) = m ((c.tc : Thread Cert.OutNIdeal.nD Cert.OutNIdeal.τ).loc Cert.OutNIdeal.main_arg1)
          ∧ r.2.mem ((c.tc : Thread Cert.OutNIdeal.nD Cert.OutNIdeal.τ).loc Cert.OutNIdeal.main_arg2) = m ((c.tc : Thread Cert.OutNIdeal.nD Cert.OutNIdeal.τ).loc Cert.OutNIdeal.main_arg2)
          ∧ r.2.mem ((c.tc : Thread Cert.OutNIdeal.nD Cert.OutNIdeal.τ).loc Cert.OutNIdeal.main_arg3) = m ((c.tc : Thread Cert.OutNIdeal.nD Cert.OutNIdeal.τ).loc Cert.OutNIdeal.main_arg3)
          ∧ r.2.mem ((c.tc : Thread Cert.OutNIdeal.nD Cert.OutNIdeal.τ).loc Cert.OutNIdeal.main_arg4) = m ((c.tc : Thread Cert.OutNIdeal.nD Cert.OutNIdeal.τ).loc Cert.OutNIdeal.main_arg4))
      ∧ θ_run (Cert.OutNRefIdeal.defs (F := Ideal)) (onTc (τ := Cert.OutNRefIdeal.τ) (Cert.OutNRefIdeal.main (F := Ideal))) ⟨m', fun _ => 0, g'⟩ (fun r => ∀ c : Dev Cert.OutNRefIdeal.nD,
          r.2.mem ((c.tc : Thread Cert.OutNRefIdeal.nD Cert.OutNRefIdeal.τ).loc Cert.OutNRefIdeal.main_v5) = v0 c
          ∧ r.2.mem ((c.tc : Thread Cert.OutNRefIdeal.nD Cert.OutNRefIdeal.τ).loc Cert.OutNRefIdeal.main_v29) = v1 c
          ∧ r.2.mem ((c.tc : Thread Cert.OutNRefIdeal.nD Cert.OutNRefIdeal.τ).loc Cert.OutNRefIdeal.main_v30) = v2 c
          ∧ r.2.mem ((c.tc : Thread Cert.OutNRefIdeal.nD Cert.OutNRefIdeal.τ).loc Cert.OutNRefIdeal.main_arg0) = m' ((c.tc : Thread Cert.OutNRefIdeal.nD Cert.OutNRefIdeal.τ).loc Cert.OutNRefIdeal.main_arg0)
          ∧ r.2.mem ((c.tc : Thread Cert.OutNRefIdeal.nD Cert.OutNRefIdeal.τ).loc Cert.OutNRefIdeal.main_arg1) = m' ((c.tc : Thread Cert.OutNRefIdeal.nD Cert.OutNRefIdeal.τ).loc Cert.OutNRefIdeal.main_arg1)
          ∧ r.2.mem ((c.tc : Thread Cert.OutNRefIdeal.nD Cert.OutNRefIdeal.τ).loc Cert.OutNRefIdeal.main_arg2) = m' ((c.tc : Thread Cert.OutNRefIdeal.nD Cert.OutNRefIdeal.τ).loc Cert.OutNRefIdeal.main_arg2)
          ∧ r.2.mem ((c.tc : Thread Cert.OutNRefIdeal.nD Cert.OutNRefIdeal.τ).loc Cert.OutNRefIdeal.main_arg3) = m' ((c.tc : Thread Cert.OutNRefIdeal.nD Cert.OutNRefIdeal.τ).loc Cert.OutNRefIdeal.main_arg3)
          ∧ r.2.mem ((c.tc : Thread Cert.OutNRefIdeal.nD Cert.OutNRefIdeal.τ).loc Cert.OutNRefIdeal.main_arg4) = m' ((c.tc : Thread Cert.OutNRefIdeal.nD Cert.OutNRefIdeal.τ).loc Cert.OutNRefIdeal.main_arg4))

def preserves_ProjX_ProjXIdeal : Prop :=
  True

def algebraic_ProjXIdeal_ProjXRefIdeal [hProjXIdeal : Cert.ProjXIdeal.Facts] [hProjXRefIdeal : Cert.ProjXRefIdeal.Facts] : Prop :=
  ∀ (m : (ℓ : Loc Cert.ProjXIdeal.nD Cert.ProjXIdeal.τ Cert.ProjXIdeal.sig) → Buf (Elt Ideal) ℓ) (g : Dev Cert.ProjXIdeal.nD → PrngReg)
    (m' : (ℓ : Loc Cert.ProjXRefIdeal.nD Cert.ProjXRefIdeal.τ Cert.ProjXRefIdeal.sig) → Buf (Elt Ideal) ℓ) (g' : Dev Cert.ProjXRefIdeal.nD → PrngReg), Pre_ProjXIdeal m →
    (∀ c : Dev Cert.ProjXIdeal.nD,
      m' ((c.tc : Thread Cert.ProjXRefIdeal.nD Cert.ProjXRefIdeal.τ).loc Cert.ProjXRefIdeal.main_arg0) = m ((c.tc : Thread Cert.ProjXIdeal.nD Cert.ProjXIdeal.τ).loc Cert.ProjXIdeal.main_arg0)
      ∧ m' ((c.tc : Thread Cert.ProjXRefIdeal.nD Cert.ProjXRefIdeal.τ).loc Cert.ProjXRefIdeal.main_arg1) = m ((c.tc : Thread Cert.ProjXIdeal.nD Cert.ProjXIdeal.τ).loc Cert.ProjXIdeal.main_arg1)) →
    ∃ (v0 : (c : Dev Cert.ProjXIdeal.nD) → Buf (Elt Ideal) ((c.tc : Thread Cert.ProjXIdeal.nD Cert.ProjXIdeal.τ).loc Cert.ProjXIdeal.main_v0)),
      θ_run (Cert.ProjXIdeal.defs (F := Ideal)) (onTc (τ := Cert.ProjXIdeal.τ) (Cert.ProjXIdeal.main (F := Ideal))) ⟨m, fun _ => 0, g⟩ (fun r => ∀ c : Dev Cert.ProjXIdeal.nD,
          r.2.mem ((c.tc : Thread Cert.ProjXIdeal.nD Cert.ProjXIdeal.τ).loc Cert.ProjXIdeal.main_v0) = v0 c
          ∧ r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
          ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1))
      ∧ θ_run (Cert.ProjXRefIdeal.defs (F := Ideal)) (onTc (τ := Cert.ProjXRefIdeal.τ) (Cert.ProjXRefIdeal.main (F := Ideal))) ⟨m', fun _ => 0, g'⟩ (fun r => ∀ c : Dev Cert.ProjXRefIdeal.nD,
          r.2.mem ((c.tc : Thread Cert.ProjXRefIdeal.nD Cert.ProjXRefIdeal.τ).loc Cert.ProjXRefIdeal.main_v2) = v0 c
          ∧ r.2.mem ((c.tc : Thread Cert.ProjXRefIdeal.nD Cert.ProjXRefIdeal.τ).loc Cert.ProjXRefIdeal.main_arg0) = m' ((c.tc : Thread Cert.ProjXRefIdeal.nD Cert.ProjXRefIdeal.τ).loc Cert.ProjXRefIdeal.main_arg0)
          ∧ r.2.mem ((c.tc : Thread Cert.ProjXRefIdeal.nD Cert.ProjXRefIdeal.τ).loc Cert.ProjXRefIdeal.main_arg1) = m' ((c.tc : Thread Cert.ProjXRefIdeal.nD Cert.ProjXRefIdeal.τ).loc Cert.ProjXRefIdeal.main_arg1))

def preserves_InWX_InWXIdeal : Prop :=
  True

def algebraic_InWXIdeal_InWXRefIdeal [hInWXIdeal : Cert.InWXIdeal.Facts] [hInWXRefIdeal : Cert.InWXRefIdeal.Facts] : Prop :=
  ∀ (m : (ℓ : Loc Cert.InWXIdeal.nD Cert.InWXIdeal.τ Cert.InWXIdeal.sig) → Buf (Elt Ideal) ℓ) (g : Dev Cert.InWXIdeal.nD → PrngReg)
    (m' : (ℓ : Loc Cert.InWXRefIdeal.nD Cert.InWXRefIdeal.τ Cert.InWXRefIdeal.sig) → Buf (Elt Ideal) ℓ) (g' : Dev Cert.InWXRefIdeal.nD → PrngReg), Pre_InWXIdeal m →
    (∀ c : Dev Cert.InWXIdeal.nD,
      m' ((c.tc : Thread Cert.InWXRefIdeal.nD Cert.InWXRefIdeal.τ).loc Cert.InWXRefIdeal.main_arg0) = m ((c.tc : Thread Cert.InWXIdeal.nD Cert.InWXIdeal.τ).loc Cert.InWXIdeal.main_arg0)
      ∧ m' ((c.tc : Thread Cert.InWXRefIdeal.nD Cert.InWXRefIdeal.τ).loc Cert.InWXRefIdeal.main_arg1) = m ((c.tc : Thread Cert.InWXIdeal.nD Cert.InWXIdeal.τ).loc Cert.InWXIdeal.main_arg1)) →
    ∃ (v0 : (c : Dev Cert.InWXIdeal.nD) → Buf (Elt Ideal) ((c.tc : Thread Cert.InWXIdeal.nD Cert.InWXIdeal.τ).loc Cert.InWXIdeal.main_v0)),
      θ_run (Cert.InWXIdeal.defs (F := Ideal)) (onTc (τ := Cert.InWXIdeal.τ) (Cert.InWXIdeal.main (F := Ideal))) ⟨m, fun _ => 0, g⟩ (fun r => ∀ c : Dev Cert.InWXIdeal.nD,
          r.2.mem ((c.tc : Thread Cert.InWXIdeal.nD Cert.InWXIdeal.τ).loc Cert.InWXIdeal.main_v0) = v0 c
          ∧ r.2.mem ((c.tc : Thread Cert.InWXIdeal.nD Cert.InWXIdeal.τ).loc Cert.InWXIdeal.main_arg0) = m ((c.tc : Thread Cert.InWXIdeal.nD Cert.InWXIdeal.τ).loc Cert.InWXIdeal.main_arg0)
          ∧ r.2.mem ((c.tc : Thread Cert.InWXIdeal.nD Cert.InWXIdeal.τ).loc Cert.InWXIdeal.main_arg1) = m ((c.tc : Thread Cert.InWXIdeal.nD Cert.InWXIdeal.τ).loc Cert.InWXIdeal.main_arg1))
      ∧ θ_run (Cert.InWXRefIdeal.defs (F := Ideal)) (onTc (τ := Cert.InWXRefIdeal.τ) (Cert.InWXRefIdeal.main (F := Ideal))) ⟨m', fun _ => 0, g'⟩ (fun r => ∀ c : Dev Cert.InWXRefIdeal.nD,
          r.2.mem ((c.tc : Thread Cert.InWXRefIdeal.nD Cert.InWXRefIdeal.τ).loc Cert.InWXRefIdeal.main_v6) = v0 c
          ∧ r.2.mem ((c.tc : Thread Cert.InWXRefIdeal.nD Cert.InWXRefIdeal.τ).loc Cert.InWXRefIdeal.main_arg0) = m' ((c.tc : Thread Cert.InWXRefIdeal.nD Cert.InWXRefIdeal.τ).loc Cert.InWXRefIdeal.main_arg0)
          ∧ r.2.mem ((c.tc : Thread Cert.InWXRefIdeal.nD Cert.InWXRefIdeal.τ).loc Cert.InWXRefIdeal.main_arg1) = m' ((c.tc : Thread Cert.InWXRefIdeal.nD Cert.InWXRefIdeal.τ).loc Cert.InWXRefIdeal.main_arg1))

def preserves_MkvF_MkvFIdeal : Prop :=
  True

def algebraic_MkvFIdeal_MkvFRefIdeal [hMkvFIdeal : Cert.MkvFIdeal.Facts] [hMkvFRefIdeal : Cert.MkvFRefIdeal.Facts] : Prop :=
  ∀ (m : (ℓ : Loc Cert.MkvFIdeal.nD Cert.MkvFIdeal.τ Cert.MkvFIdeal.sig) → Buf (Elt Ideal) ℓ) (g : Dev Cert.MkvFIdeal.nD → PrngReg)
    (m' : (ℓ : Loc Cert.MkvFRefIdeal.nD Cert.MkvFRefIdeal.τ Cert.MkvFRefIdeal.sig) → Buf (Elt Ideal) ℓ) (g' : Dev Cert.MkvFRefIdeal.nD → PrngReg), Pre_MkvFIdeal m →
    (∀ c : Dev Cert.MkvFIdeal.nD,
      m' ((c.tc : Thread Cert.MkvFRefIdeal.nD Cert.MkvFRefIdeal.τ).loc Cert.MkvFRefIdeal.main_arg0) = m ((c.tc : Thread Cert.MkvFIdeal.nD Cert.MkvFIdeal.τ).loc Cert.MkvFIdeal.main_arg0)
      ∧ m' ((c.tc : Thread Cert.MkvFRefIdeal.nD Cert.MkvFRefIdeal.τ).loc Cert.MkvFRefIdeal.main_arg1) = m ((c.tc : Thread Cert.MkvFIdeal.nD Cert.MkvFIdeal.τ).loc Cert.MkvFIdeal.main_arg1)) →
    ∃ (v0 : (c : Dev Cert.MkvFIdeal.nD) → Buf (Elt Ideal) ((c.tc : Thread Cert.MkvFIdeal.nD Cert.MkvFIdeal.τ).loc Cert.MkvFIdeal.main_v0)),
      θ_run (Cert.MkvFIdeal.defs (F := Ideal)) (onTc (τ := Cert.MkvFIdeal.τ) (Cert.MkvFIdeal.main (F := Ideal))) ⟨m, fun _ => 0, g⟩ (fun r => ∀ c : Dev Cert.MkvFIdeal.nD,
          r.2.mem ((c.tc : Thread Cert.MkvFIdeal.nD Cert.MkvFIdeal.τ).loc Cert.MkvFIdeal.main_v0) = v0 c
          ∧ r.2.mem ((c.tc : Thread Cert.MkvFIdeal.nD Cert.MkvFIdeal.τ).loc Cert.MkvFIdeal.main_arg0) = m ((c.tc : Thread Cert.MkvFIdeal.nD Cert.MkvFIdeal.τ).loc Cert.MkvFIdeal.main_arg0)
          ∧ r.2.mem ((c.tc : Thread Cert.MkvFIdeal.nD Cert.MkvFIdeal.τ).loc Cert.MkvFIdeal.main_arg1) = m ((c.tc : Thread Cert.MkvFIdeal.nD Cert.MkvFIdeal.τ).loc Cert.MkvFIdeal.main_arg1))
      ∧ θ_run (Cert.MkvFRefIdeal.defs (F := Ideal)) (onTc (τ := Cert.MkvFRefIdeal.τ) (Cert.MkvFRefIdeal.main (F := Ideal))) ⟨m', fun _ => 0, g'⟩ (fun r => ∀ c : Dev Cert.MkvFRefIdeal.nD,
          r.2.mem ((c.tc : Thread Cert.MkvFRefIdeal.nD Cert.MkvFRefIdeal.τ).loc Cert.MkvFRefIdeal.main_v1) = v0 c
          ∧ r.2.mem ((c.tc : Thread Cert.MkvFRefIdeal.nD Cert.MkvFRefIdeal.τ).loc Cert.MkvFRefIdeal.main_arg0) = m' ((c.tc : Thread Cert.MkvFRefIdeal.nD Cert.MkvFRefIdeal.τ).loc Cert.MkvFRefIdeal.main_arg0)
          ∧ r.2.mem ((c.tc : Thread Cert.MkvFRefIdeal.nD Cert.MkvFRefIdeal.τ).loc Cert.MkvFRefIdeal.main_arg1) = m' ((c.tc : Thread Cert.MkvFRefIdeal.nD Cert.MkvFRefIdeal.τ).loc Cert.MkvFRefIdeal.main_arg1))

def preserves_MkvW_MkvWIdeal : Prop :=
  True

def algebraic_MkvWIdeal_MkvWRefIdeal [hMkvWIdeal : Cert.MkvWIdeal.Facts] [hMkvWRefIdeal : Cert.MkvWRefIdeal.Facts] : Prop :=
  ∀ (m : (ℓ : Loc Cert.MkvWIdeal.nD Cert.MkvWIdeal.τ Cert.MkvWIdeal.sig) → Buf (Elt Ideal) ℓ) (g : Dev Cert.MkvWIdeal.nD → PrngReg)
    (m' : (ℓ : Loc Cert.MkvWRefIdeal.nD Cert.MkvWRefIdeal.τ Cert.MkvWRefIdeal.sig) → Buf (Elt Ideal) ℓ) (g' : Dev Cert.MkvWRefIdeal.nD → PrngReg), Pre_MkvWIdeal m →
    (∀ c : Dev Cert.MkvWIdeal.nD,
      m' ((c.tc : Thread Cert.MkvWRefIdeal.nD Cert.MkvWRefIdeal.τ).loc Cert.MkvWRefIdeal.main_arg0) = m ((c.tc : Thread Cert.MkvWIdeal.nD Cert.MkvWIdeal.τ).loc Cert.MkvWIdeal.main_arg0)
      ∧ m' ((c.tc : Thread Cert.MkvWRefIdeal.nD Cert.MkvWRefIdeal.τ).loc Cert.MkvWRefIdeal.main_arg1) = m ((c.tc : Thread Cert.MkvWIdeal.nD Cert.MkvWIdeal.τ).loc Cert.MkvWIdeal.main_arg1)) →
    ∃ (v0 : (c : Dev Cert.MkvWIdeal.nD) → Buf (Elt Ideal) ((c.tc : Thread Cert.MkvWIdeal.nD Cert.MkvWIdeal.τ).loc Cert.MkvWIdeal.main_v0)),
      θ_run (Cert.MkvWIdeal.defs (F := Ideal)) (onTc (τ := Cert.MkvWIdeal.τ) (Cert.MkvWIdeal.main (F := Ideal))) ⟨m, fun _ => 0, g⟩ (fun r => ∀ c : Dev Cert.MkvWIdeal.nD,
          r.2.mem ((c.tc : Thread Cert.MkvWIdeal.nD Cert.MkvWIdeal.τ).loc Cert.MkvWIdeal.main_v0) = v0 c
          ∧ r.2.mem ((c.tc : Thread Cert.MkvWIdeal.nD Cert.MkvWIdeal.τ).loc Cert.MkvWIdeal.main_arg0) = m ((c.tc : Thread Cert.MkvWIdeal.nD Cert.MkvWIdeal.τ).loc Cert.MkvWIdeal.main_arg0)
          ∧ r.2.mem ((c.tc : Thread Cert.MkvWIdeal.nD Cert.MkvWIdeal.τ).loc Cert.MkvWIdeal.main_arg1) = m ((c.tc : Thread Cert.MkvWIdeal.nD Cert.MkvWIdeal.τ).loc Cert.MkvWIdeal.main_arg1))
      ∧ θ_run (Cert.MkvWRefIdeal.defs (F := Ideal)) (onTc (τ := Cert.MkvWRefIdeal.τ) (Cert.MkvWRefIdeal.main (F := Ideal))) ⟨m', fun _ => 0, g'⟩ (fun r => ∀ c : Dev Cert.MkvWRefIdeal.nD,
          r.2.mem ((c.tc : Thread Cert.MkvWRefIdeal.nD Cert.MkvWRefIdeal.τ).loc Cert.MkvWRefIdeal.main_v3) = v0 c
          ∧ r.2.mem ((c.tc : Thread Cert.MkvWRefIdeal.nD Cert.MkvWRefIdeal.τ).loc Cert.MkvWRefIdeal.main_arg0) = m' ((c.tc : Thread Cert.MkvWRefIdeal.nD Cert.MkvWRefIdeal.τ).loc Cert.MkvWRefIdeal.main_arg0)
          ∧ r.2.mem ((c.tc : Thread Cert.MkvWRefIdeal.nD Cert.MkvWRefIdeal.τ).loc Cert.MkvWRefIdeal.main_arg1) = m' ((c.tc : Thread Cert.MkvWRefIdeal.nD Cert.MkvWRefIdeal.τ).loc Cert.MkvWRefIdeal.main_arg1))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)) (v4 : (c : Dev Cert.LossIdeal.nD) → Buf (Elt Ideal) ((c.tc : Thread Cert.LossIdeal.nD Cert.LossIdeal.τ).loc Cert.LossIdeal.main_v1_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_v1_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v79) = v0 c
          ∧ r.2.mem ((c.tc : Thread Cert.LossRefIdeal.nD Cert.LossRefIdeal.τ).loc Cert.LossRefIdeal.main_v78) = v1 c
          ∧ r.2.mem ((c.tc : Thread Cert.LossRefIdeal.nD Cert.LossRefIdeal.τ).loc Cert.LossRefIdeal.main_v80) = v2 c
          ∧ r.2.mem ((c.tc : Thread Cert.LossRefIdeal.nD Cert.LossRefIdeal.τ).loc Cert.LossRefIdeal.main_v81) = v3 c
          ∧ r.2.mem ((c.tc : Thread Cert.LossRefIdeal.nD Cert.LossRefIdeal.τ).loc Cert.LossRefIdeal.main_v82) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_MemF_MemFIdeal : Prop :=
  True

def algebraic_MemFIdeal_MemFRefIdeal [hMemFIdeal : Cert.MemFIdeal.Facts] [hMemFRefIdeal : Cert.MemFRefIdeal.Facts] : Prop :=
  ∀ (m : (ℓ : Loc Cert.MemFIdeal.nD Cert.MemFIdeal.τ Cert.MemFIdeal.sig) → Buf (Elt Ideal) ℓ) (g : Dev Cert.MemFIdeal.nD → PrngReg)
    (m' : (ℓ : Loc Cert.MemFRefIdeal.nD Cert.MemFRefIdeal.τ Cert.MemFRefIdeal.sig) → Buf (Elt Ideal) ℓ) (g' : Dev Cert.MemFRefIdeal.nD → PrngReg), Pre_MemFIdeal m →
    (∀ c : Dev Cert.MemFIdeal.nD,
      m' ((c.tc : Thread Cert.MemFRefIdeal.nD Cert.MemFRefIdeal.τ).loc Cert.MemFRefIdeal.main_arg0) = m ((c.tc : Thread Cert.MemFIdeal.nD Cert.MemFIdeal.τ).loc Cert.MemFIdeal.main_arg0)
      ∧ m' ((c.tc : Thread Cert.MemFRefIdeal.nD Cert.MemFRefIdeal.τ).loc Cert.MemFRefIdeal.main_arg1) = m ((c.tc : Thread Cert.MemFIdeal.nD Cert.MemFIdeal.τ).loc Cert.MemFIdeal.main_arg1)) →
    ∃ (v0 : (c : Dev Cert.MemFIdeal.nD) → Buf (Elt Ideal) ((c.tc : Thread Cert.MemFIdeal.nD Cert.MemFIdeal.τ).loc Cert.MemFIdeal.main_v0)),
      θ_run (Cert.MemFIdeal.defs (F := Ideal)) (onTc (τ := Cert.MemFIdeal.τ) (Cert.MemFIdeal.main (F := Ideal))) ⟨m, fun _ => 0, g⟩ (fun r => ∀ c : Dev Cert.MemFIdeal.nD,
          r.2.mem ((c.tc : Thread Cert.MemFIdeal.nD Cert.MemFIdeal.τ).loc Cert.MemFIdeal.main_v0) = v0 c
          ∧ r.2.mem ((c.tc : Thread Cert.MemFIdeal.nD Cert.MemFIdeal.τ).loc Cert.MemFIdeal.main_arg0) = m ((c.tc : Thread Cert.MemFIdeal.nD Cert.MemFIdeal.τ).loc Cert.MemFIdeal.main_arg0)
          ∧ r.2.mem ((c.tc : Thread Cert.MemFIdeal.nD Cert.MemFIdeal.τ).loc Cert.MemFIdeal.main_arg1) = m ((c.tc : Thread Cert.MemFIdeal.nD Cert.MemFIdeal.τ).loc Cert.MemFIdeal.main_arg1))
      ∧ θ_run (Cert.MemFRefIdeal.defs (F := Ideal)) (onTc (τ := Cert.MemFRefIdeal.τ) (Cert.MemFRefIdeal.main (F := Ideal))) ⟨m', fun _ => 0, g'⟩ (fun r => ∀ c : Dev Cert.MemFRefIdeal.nD,
          r.2.mem ((c.tc : Thread Cert.MemFRefIdeal.nD Cert.MemFRefIdeal.τ).loc Cert.MemFRefIdeal.main_v23) = v0 c
          ∧ r.2.mem ((c.tc : Thread Cert.MemFRefIdeal.nD Cert.MemFRefIdeal.τ).loc Cert.MemFRefIdeal.main_arg0) = m' ((c.tc : Thread Cert.MemFRefIdeal.nD Cert.MemFRefIdeal.τ).loc Cert.MemFRefIdeal.main_arg0)
          ∧ r.2.mem ((c.tc : Thread Cert.MemFRefIdeal.nD Cert.MemFRefIdeal.τ).loc Cert.MemFRefIdeal.main_arg1) = m' ((c.tc : Thread Cert.MemFRefIdeal.nD Cert.MemFRefIdeal.τ).loc Cert.MemFRefIdeal.main_arg1))

def preserves_AdamAIn_AdamAInIdeal : Prop :=
  True

def algebraic_AdamAInIdeal_AdamAInRefIdeal [hAdamAInIdeal : Cert.AdamAInIdeal.Facts] [hAdamAInRefIdeal : Cert.AdamAInRefIdeal.Facts] : Prop :=
  ∀ (m : (ℓ : Loc Cert.AdamAInIdeal.nD Cert.AdamAInIdeal.τ Cert.AdamAInIdeal.sig) → Buf (Elt Ideal) ℓ) (g : Dev Cert.AdamAInIdeal.nD → PrngReg)
    (m' : (ℓ : Loc Cert.AdamAInRefIdeal.nD Cert.AdamAInRefIdeal.τ Cert.AdamAInRefIdeal.sig) → Buf (Elt Ideal) ℓ) (g' : Dev Cert.AdamAInRefIdeal.nD → PrngReg), Pre_AdamAInIdeal m →
    (∀ c : Dev Cert.AdamAInIdeal.nD,
      m' ((c.tc : Thread Cert.AdamAInRefIdeal.nD Cert.AdamAInRefIdeal.τ).loc Cert.AdamAInRefIdeal.main_arg0) = m ((c.tc : Thread Cert.AdamAInIdeal.nD Cert.AdamAInIdeal.τ).loc Cert.AdamAInIdeal.main_arg0)
      ∧ m' ((c.tc : Thread Cert.AdamAInRefIdeal.nD Cert.AdamAInRefIdeal.τ).loc Cert.AdamAInRefIdeal.main_arg1) = m ((c.tc : Thread Cert.AdamAInIdeal.nD Cert.AdamAInIdeal.τ).loc Cert.AdamAInIdeal.main_arg1)
      ∧ m' ((c.tc : Thread Cert.AdamAInRefIdeal.nD Cert.AdamAInRefIdeal.τ).loc Cert.AdamAInRefIdeal.main_arg2) = m ((c.tc : Thread Cert.AdamAInIdeal.nD Cert.AdamAInIdeal.τ).loc Cert.AdamAInIdeal.main_arg2)
      ∧ m' ((c.tc : Thread Cert.AdamAInRefIdeal.nD Cert.AdamAInRefIdeal.τ).loc Cert.AdamAInRefIdeal.main_arg3) = m ((c.tc : Thread Cert.AdamAInIdeal.nD Cert.AdamAInIdeal.τ).loc Cert.AdamAInIdeal.main_arg3)) →
    ∃ (v0 : (c : Dev Cert.AdamAInIdeal.nD) → Buf (Elt Ideal) ((c.tc : Thread Cert.AdamAInIdeal.nD Cert.AdamAInIdeal.τ).loc Cert.AdamAInIdeal.main_v0_0)) (v1 : (c : Dev Cert.AdamAInIdeal.nD) → Buf (Elt Ideal) ((c.tc : Thread Cert.AdamAInIdeal.nD Cert.AdamAInIdeal.τ).loc Cert.AdamAInIdeal.main_v0_1)) (v2 : (c : Dev Cert.AdamAInIdeal.nD) → Buf (Elt Ideal) ((c.tc : Thread Cert.AdamAInIdeal.nD Cert.AdamAInIdeal.τ).loc Cert.AdamAInIdeal.main_v0_2)),
      θ_run (Cert.AdamAInIdeal.defs (F := Ideal)) (onTc (τ := Cert.AdamAInIdeal.τ) (Cert.AdamAInIdeal.main (F := Ideal))) ⟨m, fun _ => 0, g⟩ (fun r => ∀ c : Dev Cert.AdamAInIdeal.nD,
          r.2.mem ((c.tc : Thread Cert.AdamAInIdeal.nD Cert.AdamAInIdeal.τ).loc Cert.AdamAInIdeal.main_v0_0) = v0 c
          ∧ r.2.mem ((c.tc : Thread Cert.AdamAInIdeal.nD Cert.AdamAInIdeal.τ).loc Cert.AdamAInIdeal.main_v0_1) = v1 c
          ∧ r.2.mem ((c.tc : Thread Cert.AdamAInIdeal.nD Cert.AdamAInIdeal.τ).loc Cert.AdamAInIdeal.main_v0_2) = v2 c
          ∧ r.2.mem ((c.tc : Thread Cert.AdamAInIdeal.nD Cert.AdamAInIdeal.τ).loc Cert.AdamAInIdeal.main_arg0) = m ((c.tc : Thread Cert.AdamAInIdeal.nD Cert.AdamAInIdeal.τ).loc Cert.AdamAInIdeal.main_arg0)
          ∧ r.2.mem ((c.tc : Thread Cert.AdamAInIdeal.nD Cert.AdamAInIdeal.τ).loc Cert.AdamAInIdeal.main_arg1) = m ((c.tc : Thread Cert.AdamAInIdeal.nD Cert.AdamAInIdeal.τ).loc Cert.AdamAInIdeal.main_arg1)
          ∧ r.2.mem ((c.tc : Thread Cert.AdamAInIdeal.nD Cert.AdamAInIdeal.τ).loc Cert.AdamAInIdeal.main_arg2) = m ((c.tc : Thread Cert.AdamAInIdeal.nD Cert.AdamAInIdeal.τ).loc Cert.AdamAInIdeal.main_arg2)
          ∧ r.2.mem ((c.tc : Thread Cert.AdamAInIdeal.nD Cert.AdamAInIdeal.τ).loc Cert.AdamAInIdeal.main_arg3) = m ((c.tc : Thread Cert.AdamAInIdeal.nD Cert.AdamAInIdeal.τ).loc Cert.AdamAInIdeal.main_arg3))
      ∧ θ_run (Cert.AdamAInRefIdeal.defs (F := Ideal)) (onTc (τ := Cert.AdamAInRefIdeal.τ) (Cert.AdamAInRefIdeal.main (F := Ideal))) ⟨m', fun _ => 0, g'⟩ (fun r => ∀ c : Dev Cert.AdamAInRefIdeal.nD,
          r.2.mem ((c.tc : Thread Cert.AdamAInRefIdeal.nD Cert.AdamAInRefIdeal.τ).loc Cert.AdamAInRefIdeal.main_v23) = v0 c
          ∧ r.2.mem ((c.tc : Thread Cert.AdamAInRefIdeal.nD Cert.AdamAInRefIdeal.τ).loc Cert.AdamAInRefIdeal.main_v4) = v1 c
          ∧ r.2.mem ((c.tc : Thread Cert.AdamAInRefIdeal.nD Cert.AdamAInRefIdeal.τ).loc Cert.AdamAInRefIdeal.main_v10) = v2 c
          ∧ r.2.mem ((c.tc : Thread Cert.AdamAInRefIdeal.nD Cert.AdamAInRefIdeal.τ).loc Cert.AdamAInRefIdeal.main_arg0) = m' ((c.tc : Thread Cert.AdamAInRefIdeal.nD Cert.AdamAInRefIdeal.τ).loc Cert.AdamAInRefIdeal.main_arg0)
          ∧ r.2.mem ((c.tc : Thread Cert.AdamAInRefIdeal.nD Cert.AdamAInRefIdeal.τ).loc Cert.AdamAInRefIdeal.main_arg1) = m' ((c.tc : Thread Cert.AdamAInRefIdeal.nD Cert.AdamAInRefIdeal.τ).loc Cert.AdamAInRefIdeal.main_arg1)
          ∧ r.2.mem ((c.tc : Thread Cert.AdamAInRefIdeal.nD Cert.AdamAInRefIdeal.τ).loc Cert.AdamAInRefIdeal.main_arg2) = m' ((c.tc : Thread Cert.AdamAInRefIdeal.nD Cert.AdamAInRefIdeal.τ).loc Cert.AdamAInRefIdeal.main_arg2)
          ∧ r.2.mem ((c.tc : Thread Cert.AdamAInRefIdeal.nD Cert.AdamAInRefIdeal.τ).loc Cert.AdamAInRefIdeal.main_arg3) = m' ((c.tc : Thread Cert.AdamAInRefIdeal.nD Cert.AdamAInRefIdeal.τ).loc Cert.AdamAInRefIdeal.main_arg3))

def preserves_AdamBIn_AdamBInIdeal : Prop :=
  True

def algebraic_AdamBInIdeal_AdamBInRefIdeal [hAdamBInIdeal : Cert.AdamBInIdeal.Facts] [hAdamBInRefIdeal : Cert.AdamBInRefIdeal.Facts] : Prop :=
  ∀ (m : (ℓ : Loc Cert.AdamBInIdeal.nD Cert.AdamBInIdeal.τ Cert.AdamBInIdeal.sig) → Buf (Elt Ideal) ℓ) (g : Dev Cert.AdamBInIdeal.nD → PrngReg)
    (m' : (ℓ : Loc Cert.AdamBInRefIdeal.nD Cert.AdamBInRefIdeal.τ Cert.AdamBInRefIdeal.sig) → Buf (Elt Ideal) ℓ) (g' : Dev Cert.AdamBInRefIdeal.nD → PrngReg), Pre_AdamBInIdeal m →
    (∀ c : Dev Cert.AdamBInIdeal.nD,
      m' ((c.tc : Thread Cert.AdamBInRefIdeal.nD Cert.AdamBInRefIdeal.τ).loc Cert.AdamBInRefIdeal.main_arg0) = m ((c.tc : Thread Cert.AdamBInIdeal.nD Cert.AdamBInIdeal.τ).loc Cert.AdamBInIdeal.main_arg0)
      ∧ m' ((c.tc : Thread Cert.AdamBInRefIdeal.nD Cert.AdamBInRefIdeal.τ).loc Cert.AdamBInRefIdeal.main_arg1) = m ((c.tc : Thread Cert.AdamBInIdeal.nD Cert.AdamBInIdeal.τ).loc Cert.AdamBInIdeal.main_arg1)
      ∧ m' ((c.tc : Thread Cert.AdamBInRefIdeal.nD Cert.AdamBInRefIdeal.τ).loc Cert.AdamBInRefIdeal.main_arg2) = m ((c.tc : Thread Cert.AdamBInIdeal.nD Cert.AdamBInIdeal.τ).loc Cert.AdamBInIdeal.main_arg2)
      ∧ m' ((c.tc : Thread Cert.AdamBInRefIdeal.nD Cert.AdamBInRefIdeal.τ).loc Cert.AdamBInRefIdeal.main_arg3) = m ((c.tc : Thread Cert.AdamBInIdeal.nD Cert.AdamBInIdeal.τ).loc Cert.AdamBInIdeal.main_arg3)) →
    ∃ (v0 : (c : Dev Cert.AdamBInIdeal.nD) → Buf (Elt Ideal) ((c.tc : Thread Cert.AdamBInIdeal.nD Cert.AdamBInIdeal.τ).loc Cert.AdamBInIdeal.main_v0_0)) (v1 : (c : Dev Cert.AdamBInIdeal.nD) → Buf (Elt Ideal) ((c.tc : Thread Cert.AdamBInIdeal.nD Cert.AdamBInIdeal.τ).loc Cert.AdamBInIdeal.main_v0_1)) (v2 : (c : Dev Cert.AdamBInIdeal.nD) → Buf (Elt Ideal) ((c.tc : Thread Cert.AdamBInIdeal.nD Cert.AdamBInIdeal.τ).loc Cert.AdamBInIdeal.main_v0_2)),
      θ_run (Cert.AdamBInIdeal.defs (F := Ideal)) (onTc (τ := Cert.AdamBInIdeal.τ) (Cert.AdamBInIdeal.main (F := Ideal))) ⟨m, fun _ => 0, g⟩ (fun r => ∀ c : Dev Cert.AdamBInIdeal.nD,
          r.2.mem ((c.tc : Thread Cert.AdamBInIdeal.nD Cert.AdamBInIdeal.τ).loc Cert.AdamBInIdeal.main_v0_0) = v0 c
          ∧ r.2.mem ((c.tc : Thread Cert.AdamBInIdeal.nD Cert.AdamBInIdeal.τ).loc Cert.AdamBInIdeal.main_v0_1) = v1 c
          ∧ r.2.mem ((c.tc : Thread Cert.AdamBInIdeal.nD Cert.AdamBInIdeal.τ).loc Cert.AdamBInIdeal.main_v0_2) = v2 c
          ∧ r.2.mem ((c.tc : Thread Cert.AdamBInIdeal.nD Cert.AdamBInIdeal.τ).loc Cert.AdamBInIdeal.main_arg0) = m ((c.tc : Thread Cert.AdamBInIdeal.nD Cert.AdamBInIdeal.τ).loc Cert.AdamBInIdeal.main_arg0)
          ∧ r.2.mem ((c.tc : Thread Cert.AdamBInIdeal.nD Cert.AdamBInIdeal.τ).loc Cert.AdamBInIdeal.main_arg1) = m ((c.tc : Thread Cert.AdamBInIdeal.nD Cert.AdamBInIdeal.τ).loc Cert.AdamBInIdeal.main_arg1)
          ∧ r.2.mem ((c.tc : Thread Cert.AdamBInIdeal.nD Cert.AdamBInIdeal.τ).loc Cert.AdamBInIdeal.main_arg2) = m ((c.tc : Thread Cert.AdamBInIdeal.nD Cert.AdamBInIdeal.τ).loc Cert.AdamBInIdeal.main_arg2)
          ∧ r.2.mem ((c.tc : Thread Cert.AdamBInIdeal.nD Cert.AdamBInIdeal.τ).loc Cert.AdamBInIdeal.main_arg3) = m ((c.tc : Thread Cert.AdamBInIdeal.nD Cert.AdamBInIdeal.τ).loc Cert.AdamBInIdeal.main_arg3))
      ∧ θ_run (Cert.AdamBInRefIdeal.defs (F := Ideal)) (onTc (τ := Cert.AdamBInRefIdeal.τ) (Cert.AdamBInRefIdeal.main (F := Ideal))) ⟨m', fun _ => 0, g'⟩ (fun r => ∀ c : Dev Cert.AdamBInRefIdeal.nD,
          r.2.mem ((c.tc : Thread Cert.AdamBInRefIdeal.nD Cert.AdamBInRefIdeal.τ).loc Cert.AdamBInRefIdeal.main_v23) = v0 c
          ∧ r.2.mem ((c.tc : Thread Cert.AdamBInRefIdeal.nD Cert.AdamBInRefIdeal.τ).loc Cert.AdamBInRefIdeal.main_v4) = v1 c
          ∧ r.2.mem ((c.tc : Thread Cert.AdamBInRefIdeal.nD Cert.AdamBInRefIdeal.τ).loc Cert.AdamBInRefIdeal.main_v10) = v2 c
          ∧ r.2.mem ((c.tc : Thread Cert.AdamBInRefIdeal.nD Cert.AdamBInRefIdeal.τ).loc Cert.AdamBInRefIdeal.main_arg0) = m' ((c.tc : Thread Cert.AdamBInRefIdeal.nD Cert.AdamBInRefIdeal.τ).loc Cert.AdamBInRefIdeal.main_arg0)
          ∧ r.2.mem ((c.tc : Thread Cert.AdamBInRefIdeal.nD Cert.AdamBInRefIdeal.τ).loc Cert.AdamBInRefIdeal.main_arg1) = m' ((c.tc : Thread Cert.AdamBInRefIdeal.nD Cert.AdamBInRefIdeal.τ).loc Cert.AdamBInRefIdeal.main_arg1)
          ∧ r.2.mem ((c.tc : Thread Cert.AdamBInRefIdeal.nD Cert.AdamBInRefIdeal.τ).loc Cert.AdamBInRefIdeal.main_arg2) = m' ((c.tc : Thread Cert.AdamBInRefIdeal.nD Cert.AdamBInRefIdeal.τ).loc Cert.AdamBInRefIdeal.main_arg2)
          ∧ r.2.mem ((c.tc : Thread Cert.AdamBInRefIdeal.nD Cert.AdamBInRefIdeal.τ).loc Cert.AdamBInRefIdeal.main_arg3) = m' ((c.tc : Thread Cert.AdamBInRefIdeal.nD Cert.AdamBInRefIdeal.τ).loc Cert.AdamBInRefIdeal.main_arg3))

def preserves_AdamMem_AdamMemIdeal : Prop :=
  True

def algebraic_AdamMemIdeal_AdamMemRefIdeal [hAdamMemIdeal : Cert.AdamMemIdeal.Facts] [hAdamMemRefIdeal : Cert.AdamMemRefIdeal.Facts] : Prop :=
  ∀ (m : (ℓ : Loc Cert.AdamMemIdeal.nD Cert.AdamMemIdeal.τ Cert.AdamMemIdeal.sig) → Buf (Elt Ideal) ℓ) (g : Dev Cert.AdamMemIdeal.nD → PrngReg)
    (m' : (ℓ : Loc Cert.AdamMemRefIdeal.nD Cert.AdamMemRefIdeal.τ Cert.AdamMemRefIdeal.sig) → Buf (Elt Ideal) ℓ) (g' : Dev Cert.AdamMemRefIdeal.nD → PrngReg), Pre_AdamMemIdeal m →
    (∀ c : Dev Cert.AdamMemIdeal.nD,
      m' ((c.tc : Thread Cert.AdamMemRefIdeal.nD Cert.AdamMemRefIdeal.τ).loc Cert.AdamMemRefIdeal.main_arg0) = m ((c.tc : Thread Cert.AdamMemIdeal.nD Cert.AdamMemIdeal.τ).loc Cert.AdamMemIdeal.main_arg0)
      ∧ m' ((c.tc : Thread Cert.AdamMemRefIdeal.nD Cert.AdamMemRefIdeal.τ).loc Cert.AdamMemRefIdeal.main_arg1) = m ((c.tc : Thread Cert.AdamMemIdeal.nD Cert.AdamMemIdeal.τ).loc Cert.AdamMemIdeal.main_arg1)
      ∧ m' ((c.tc : Thread Cert.AdamMemRefIdeal.nD Cert.AdamMemRefIdeal.τ).loc Cert.AdamMemRefIdeal.main_arg2) = m ((c.tc : Thread Cert.AdamMemIdeal.nD Cert.AdamMemIdeal.τ).loc Cert.AdamMemIdeal.main_arg2)
      ∧ m' ((c.tc : Thread Cert.AdamMemRefIdeal.nD Cert.AdamMemRefIdeal.τ).loc Cert.AdamMemRefIdeal.main_arg3) = m ((c.tc : Thread Cert.AdamMemIdeal.nD Cert.AdamMemIdeal.τ).loc Cert.AdamMemIdeal.main_arg3)) →
    ∃ (v0 : (c : Dev Cert.AdamMemIdeal.nD) → Buf (Elt Ideal) ((c.tc : Thread Cert.AdamMemIdeal.nD Cert.AdamMemIdeal.τ).loc Cert.AdamMemIdeal.main_v0_0)) (v1 : (c : Dev Cert.AdamMemIdeal.nD) → Buf (Elt Ideal) ((c.tc : Thread Cert.AdamMemIdeal.nD Cert.AdamMemIdeal.τ).loc Cert.AdamMemIdeal.main_v0_1)) (v2 : (c : Dev Cert.AdamMemIdeal.nD) → Buf (Elt Ideal) ((c.tc : Thread Cert.AdamMemIdeal.nD Cert.AdamMemIdeal.τ).loc Cert.AdamMemIdeal.main_v0_2)),
      θ_run (Cert.AdamMemIdeal.defs (F := Ideal)) (onTc (τ := Cert.AdamMemIdeal.τ) (Cert.AdamMemIdeal.main (F := Ideal))) ⟨m, fun _ => 0, g⟩ (fun r => ∀ c : Dev Cert.AdamMemIdeal.nD,
          r.2.mem ((c.tc : Thread Cert.AdamMemIdeal.nD Cert.AdamMemIdeal.τ).loc Cert.AdamMemIdeal.main_v0_0) = v0 c
          ∧ r.2.mem ((c.tc : Thread Cert.AdamMemIdeal.nD Cert.AdamMemIdeal.τ).loc Cert.AdamMemIdeal.main_v0_1) = v1 c
          ∧ r.2.mem ((c.tc : Thread Cert.AdamMemIdeal.nD Cert.AdamMemIdeal.τ).loc Cert.AdamMemIdeal.main_v0_2) = v2 c
          ∧ r.2.mem ((c.tc : Thread Cert.AdamMemIdeal.nD Cert.AdamMemIdeal.τ).loc Cert.AdamMemIdeal.main_arg0) = m ((c.tc : Thread Cert.AdamMemIdeal.nD Cert.AdamMemIdeal.τ).loc Cert.AdamMemIdeal.main_arg0)
          ∧ r.2.mem ((c.tc : Thread Cert.AdamMemIdeal.nD Cert.AdamMemIdeal.τ).loc Cert.AdamMemIdeal.main_arg1) = m ((c.tc : Thread Cert.AdamMemIdeal.nD Cert.AdamMemIdeal.τ).loc Cert.AdamMemIdeal.main_arg1)
          ∧ r.2.mem ((c.tc : Thread Cert.AdamMemIdeal.nD Cert.AdamMemIdeal.τ).loc Cert.AdamMemIdeal.main_arg2) = m ((c.tc : Thread Cert.AdamMemIdeal.nD Cert.AdamMemIdeal.τ).loc Cert.AdamMemIdeal.main_arg2)
          ∧ r.2.mem ((c.tc : Thread Cert.AdamMemIdeal.nD Cert.AdamMemIdeal.τ).loc Cert.AdamMemIdeal.main_arg3) = m ((c.tc : Thread Cert.AdamMemIdeal.nD Cert.AdamMemIdeal.τ).loc Cert.AdamMemIdeal.main_arg3))
      ∧ θ_run (Cert.AdamMemRefIdeal.defs (F := Ideal)) (onTc (τ := Cert.AdamMemRefIdeal.τ) (Cert.AdamMemRefIdeal.main (F := Ideal))) ⟨m', fun _ => 0, g'⟩ (fun r => ∀ c : Dev Cert.AdamMemRefIdeal.nD,
          r.2.mem ((c.tc : Thread Cert.AdamMemRefIdeal.nD Cert.AdamMemRefIdeal.τ).loc Cert.AdamMemRefIdeal.main_v23) = v0 c
          ∧ r.2.mem ((c.tc : Thread Cert.AdamMemRefIdeal.nD Cert.AdamMemRefIdeal.τ).loc Cert.AdamMemRefIdeal.main_v4) = v1 c
          ∧ r.2.mem ((c.tc : Thread Cert.AdamMemRefIdeal.nD Cert.AdamMemRefIdeal.τ).loc Cert.AdamMemRefIdeal.main_v10) = v2 c
          ∧ r.2.mem ((c.tc : Thread Cert.AdamMemRefIdeal.nD Cert.AdamMemRefIdeal.τ).loc Cert.AdamMemRefIdeal.main_arg0) = m' ((c.tc : Thread Cert.AdamMemRefIdeal.nD Cert.AdamMemRefIdeal.τ).loc Cert.AdamMemRefIdeal.main_arg0)
          ∧ r.2.mem ((c.tc : Thread Cert.AdamMemRefIdeal.nD Cert.AdamMemRefIdeal.τ).loc Cert.AdamMemRefIdeal.main_arg1) = m' ((c.tc : Thread Cert.AdamMemRefIdeal.nD Cert.AdamMemRefIdeal.τ).loc Cert.AdamMemRefIdeal.main_arg1)
          ∧ r.2.mem ((c.tc : Thread Cert.AdamMemRefIdeal.nD Cert.AdamMemRefIdeal.τ).loc Cert.AdamMemRefIdeal.main_arg2) = m' ((c.tc : Thread Cert.AdamMemRefIdeal.nD Cert.AdamMemRefIdeal.τ).loc Cert.AdamMemRefIdeal.main_arg2)
          ∧ r.2.mem ((c.tc : Thread Cert.AdamMemRefIdeal.nD Cert.AdamMemRefIdeal.τ).loc Cert.AdamMemRefIdeal.main_arg3) = m' ((c.tc : Thread Cert.AdamMemRefIdeal.nD Cert.AdamMemRefIdeal.τ).loc Cert.AdamMemRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_MemAttA_MemAttAIdeal : Prop :=
  True

def algebraic_MemAttAIdeal_MemAttARefIdeal_pre_mem_a_finite [hMemAttAIdeal : Cert.MemAttAIdeal.Facts] [hMemAttARefIdeal : Cert.MemAttARefIdeal.Facts] [hPre_mem_a_finite : Cert.Pre_mem_a_finite.Facts] : Prop :=
  ∀ (m : (ℓ : Loc Cert.MemAttAIdeal.nD Cert.MemAttAIdeal.τ Cert.MemAttAIdeal.sig) → Buf (Elt Ideal) ℓ) (g : Dev Cert.MemAttAIdeal.nD → PrngReg)
    (m' : (ℓ : Loc Cert.MemAttARefIdeal.nD Cert.MemAttARefIdeal.τ Cert.MemAttARefIdeal.sig) → Buf (Elt Ideal) ℓ) (g' : Dev Cert.MemAttARefIdeal.nD → PrngReg), Pre_MemAttAIdeal_mem_a_finite m →
    (∀ c : Dev Cert.MemAttAIdeal.nD,
      m' ((c.tc : Thread Cert.MemAttARefIdeal.nD Cert.MemAttARefIdeal.τ).loc Cert.MemAttARefIdeal.main_arg0) = m ((c.tc : Thread Cert.MemAttAIdeal.nD Cert.MemAttAIdeal.τ).loc Cert.MemAttAIdeal.main_arg0)
      ∧ m' ((c.tc : Thread Cert.MemAttARefIdeal.nD Cert.MemAttARefIdeal.τ).loc Cert.MemAttARefIdeal.main_arg1) = m ((c.tc : Thread Cert.MemAttAIdeal.nD Cert.MemAttAIdeal.τ).loc Cert.MemAttAIdeal.main_arg1)
      ∧ m' ((c.tc : Thread Cert.MemAttARefIdeal.nD Cert.MemAttARefIdeal.τ).loc Cert.MemAttARefIdeal.main_arg2) = m ((c.tc : Thread Cert.MemAttAIdeal.nD Cert.MemAttAIdeal.τ).loc Cert.MemAttAIdeal.main_arg2)) →
    ∃ (v0 : (c : Dev Cert.MemAttAIdeal.nD) → Buf (Elt Ideal) ((c.tc : Thread Cert.MemAttAIdeal.nD Cert.MemAttAIdeal.τ).loc Cert.MemAttAIdeal.main_v0_0)) (v1 : (c : Dev Cert.MemAttAIdeal.nD) → Buf (Elt Ideal) ((c.tc : Thread Cert.MemAttAIdeal.nD Cert.MemAttAIdeal.τ).loc Cert.MemAttAIdeal.main_v0_1)),
      θ_run (Cert.MemAttAIdeal.defs (F := Ideal)) (onTc (τ := Cert.MemAttAIdeal.τ) (Cert.MemAttAIdeal.main (F := Ideal))) ⟨m, fun _ => 0, g⟩ (fun r => ∀ c : Dev Cert.MemAttAIdeal.nD,
          r.2.mem ((c.tc : Thread Cert.MemAttAIdeal.nD Cert.MemAttAIdeal.τ).loc Cert.MemAttAIdeal.main_v0_0) = v0 c
          ∧ r.2.mem ((c.tc : Thread Cert.MemAttAIdeal.nD Cert.MemAttAIdeal.τ).loc Cert.MemAttAIdeal.main_v0_1) = v1 c
          ∧ r.2.mem ((c.tc : Thread Cert.MemAttAIdeal.nD Cert.MemAttAIdeal.τ).loc Cert.MemAttAIdeal.main_arg0) = m ((c.tc : Thread Cert.MemAttAIdeal.nD Cert.MemAttAIdeal.τ).loc Cert.MemAttAIdeal.main_arg0)
          ∧ r.2.mem ((c.tc : Thread Cert.MemAttAIdeal.nD Cert.MemAttAIdeal.τ).loc Cert.MemAttAIdeal.main_arg1) = m ((c.tc : Thread Cert.MemAttAIdeal.nD Cert.MemAttAIdeal.τ).loc Cert.MemAttAIdeal.main_arg1)
          ∧ r.2.mem ((c.tc : Thread Cert.MemAttAIdeal.nD Cert.MemAttAIdeal.τ).loc Cert.MemAttAIdeal.main_arg2) = m ((c.tc : Thread Cert.MemAttAIdeal.nD Cert.MemAttAIdeal.τ).loc Cert.MemAttAIdeal.main_arg2))
      ∧ θ_run (Cert.MemAttARefIdeal.defs (F := Ideal)) (onTc (τ := Cert.MemAttARefIdeal.τ) (Cert.MemAttARefIdeal.main (F := Ideal))) ⟨m', fun _ => 0, g'⟩ (fun r => ∀ c : Dev Cert.MemAttARefIdeal.nD,
          r.2.mem ((c.tc : Thread Cert.MemAttARefIdeal.nD Cert.MemAttARefIdeal.τ).loc Cert.MemAttARefIdeal.main_v68) = v0 c
          ∧ r.2.mem ((c.tc : Thread Cert.MemAttARefIdeal.nD Cert.MemAttARefIdeal.τ).loc Cert.MemAttARefIdeal.main_v67) = v1 c
          ∧ r.2.mem ((c.tc : Thread Cert.MemAttARefIdeal.nD Cert.MemAttARefIdeal.τ).loc Cert.MemAttARefIdeal.main_arg0) = m' ((c.tc : Thread Cert.MemAttARefIdeal.nD Cert.MemAttARefIdeal.τ).loc Cert.MemAttARefIdeal.main_arg0)
          ∧ r.2.mem ((c.tc : Thread Cert.MemAttARefIdeal.nD Cert.MemAttARefIdeal.τ).loc Cert.MemAttARefIdeal.main_arg1) = m' ((c.tc : Thread Cert.MemAttARefIdeal.nD Cert.MemAttARefIdeal.τ).loc Cert.MemAttARefIdeal.main_arg1)
          ∧ r.2.mem ((c.tc : Thread Cert.MemAttARefIdeal.nD Cert.MemAttARefIdeal.τ).loc Cert.MemAttARefIdeal.main_arg2) = m' ((c.tc : Thread Cert.MemAttARefIdeal.nD Cert.MemAttARefIdeal.τ).loc Cert.MemAttARefIdeal.main_arg2))

def preserves_MemFA_MemFAIdeal : Prop :=
  True

def algebraic_MemFAIdeal_MemFARefIdeal [hMemFAIdeal : Cert.MemFAIdeal.Facts] [hMemFARefIdeal : Cert.MemFARefIdeal.Facts] : Prop :=
  ∀ (m : (ℓ : Loc Cert.MemFAIdeal.nD Cert.MemFAIdeal.τ Cert.MemFAIdeal.sig) → Buf (Elt Ideal) ℓ) (g : Dev Cert.MemFAIdeal.nD → PrngReg)
    (m' : (ℓ : Loc Cert.MemFARefIdeal.nD Cert.MemFARefIdeal.τ Cert.MemFARefIdeal.sig) → Buf (Elt Ideal) ℓ) (g' : Dev Cert.MemFARefIdeal.nD → PrngReg), Pre_MemFAIdeal m →
    (∀ c : Dev Cert.MemFAIdeal.nD,
      m' ((c.tc : Thread Cert.MemFARefIdeal.nD Cert.MemFARefIdeal.τ).loc Cert.MemFARefIdeal.main_arg0) = m ((c.tc : Thread Cert.MemFAIdeal.nD Cert.MemFAIdeal.τ).loc Cert.MemFAIdeal.main_arg0)
      ∧ m' ((c.tc : Thread Cert.MemFARefIdeal.nD Cert.MemFARefIdeal.τ).loc Cert.MemFARefIdeal.main_arg1) = m ((c.tc : Thread Cert.MemFAIdeal.nD Cert.MemFAIdeal.τ).loc Cert.MemFAIdeal.main_arg1)) →
    ∃ (v0 : (c : Dev Cert.MemFAIdeal.nD) → Buf (Elt Ideal) ((c.tc : Thread Cert.MemFAIdeal.nD Cert.MemFAIdeal.τ).loc Cert.MemFAIdeal.main_v0)),
      θ_run (Cert.MemFAIdeal.defs (F := Ideal)) (onTc (τ := Cert.MemFAIdeal.τ) (Cert.MemFAIdeal.main (F := Ideal))) ⟨m, fun _ => 0, g⟩ (fun r => ∀ c : Dev Cert.MemFAIdeal.nD,
          r.2.mem ((c.tc : Thread Cert.MemFAIdeal.nD Cert.MemFAIdeal.τ).loc Cert.MemFAIdeal.main_v0) = v0 c
          ∧ r.2.mem ((c.tc : Thread Cert.MemFAIdeal.nD Cert.MemFAIdeal.τ).loc Cert.MemFAIdeal.main_arg0) = m ((c.tc : Thread Cert.MemFAIdeal.nD Cert.MemFAIdeal.τ).loc Cert.MemFAIdeal.main_arg0)
          ∧ r.2.mem ((c.tc : Thread Cert.MemFAIdeal.nD Cert.MemFAIdeal.τ).loc Cert.MemFAIdeal.main_arg1) = m ((c.tc : Thread Cert.MemFAIdeal.nD Cert.MemFAIdeal.τ).loc Cert.MemFAIdeal.main_arg1))
      ∧ θ_run (Cert.MemFARefIdeal.defs (F := Ideal)) (onTc (τ := Cert.MemFARefIdeal.τ) (Cert.MemFARefIdeal.main (F := Ideal))) ⟨m', fun _ => 0, g'⟩ (fun r => ∀ c : Dev Cert.MemFARefIdeal.nD,
          r.2.mem ((c.tc : Thread Cert.MemFARefIdeal.nD Cert.MemFARefIdeal.τ).loc Cert.MemFARefIdeal.main_v23) = v0 c
          ∧ r.2.mem ((c.tc : Thread Cert.MemFARefIdeal.nD Cert.MemFARefIdeal.τ).loc Cert.MemFARefIdeal.main_arg0) = m' ((c.tc : Thread Cert.MemFARefIdeal.nD Cert.MemFARefIdeal.τ).loc Cert.MemFARefIdeal.main_arg0)
          ∧ r.2.mem ((c.tc : Thread Cert.MemFARefIdeal.nD Cert.MemFARefIdeal.τ).loc Cert.MemFARefIdeal.main_arg1) = m' ((c.tc : Thread Cert.MemFARefIdeal.nD Cert.MemFARefIdeal.τ).loc Cert.MemFARefIdeal.main_arg1))

def Claim : Prop :=
  ∃ (hSgu : Cert.Sgu.Facts) (hSguIdeal : Cert.SguIdeal.Facts) (hSguRefIdeal : Cert.SguRefIdeal.Facts) (hMemAtt : Cert.MemAtt.Facts) (hMemAttIdeal : Cert.MemAttIdeal.Facts) (hMemAttRefIdeal : Cert.MemAttRefIdeal.Facts) (hFfnIn : Cert.FfnIn.Facts) (hFfnInIdeal : Cert.FfnInIdeal.Facts) (hFfnInRefIdeal : Cert.FfnInRefIdeal.Facts) (hGate : Cert.Gate.Facts) (hGateIdeal : Cert.GateIdeal.Facts) (hGateRefIdeal : Cert.GateRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hNorm : Cert.Norm.Facts) (hNormIdeal : Cert.NormIdeal.Facts) (hNormRefIdeal : Cert.NormRefIdeal.Facts) (hOutW : Cert.OutW.Facts) (hOutWIdeal : Cert.OutWIdeal.Facts) (hOutWRefIdeal : Cert.OutWRefIdeal.Facts) (hOutB : Cert.OutB.Facts) (hOutBIdeal : Cert.OutBIdeal.Facts) (hOutBRefIdeal : Cert.OutBRefIdeal.Facts) (hInWA : Cert.InWA.Facts) (hInWAIdeal : Cert.InWAIdeal.Facts) (hInWARefIdeal : Cert.InWARefIdeal.Facts) (hInWB : Cert.InWB.Facts) (hInWBIdeal : Cert.InWBIdeal.Facts) (hInWBRefIdeal : Cert.InWBRefIdeal.Facts) (hInA : Cert.InA.Facts) (hInAIdeal : Cert.InAIdeal.Facts) (hInARefIdeal : Cert.InARefIdeal.Facts) (hInB : Cert.InB.Facts) (hInBIdeal : Cert.InBIdeal.Facts) (hInBRefIdeal : Cert.InBRefIdeal.Facts) (hInX : Cert.InX.Facts) (hInXIdeal : Cert.InXIdeal.Facts) (hInXRefIdeal : Cert.InXRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hOutN : Cert.OutN.Facts) (hOutNIdeal : Cert.OutNIdeal.Facts) (hOutNRefIdeal : Cert.OutNRefIdeal.Facts) (hProjX : Cert.ProjX.Facts) (hProjXIdeal : Cert.ProjXIdeal.Facts) (hProjXRefIdeal : Cert.ProjXRefIdeal.Facts) (hInWX : Cert.InWX.Facts) (hInWXIdeal : Cert.InWXIdeal.Facts) (hInWXRefIdeal : Cert.InWXRefIdeal.Facts) (hMkvF : Cert.MkvF.Facts) (hMkvFIdeal : Cert.MkvFIdeal.Facts) (hMkvFRefIdeal : Cert.MkvFRefIdeal.Facts) (hMkvW : Cert.MkvW.Facts) (hMkvWIdeal : Cert.MkvWIdeal.Facts) (hMkvWRefIdeal : Cert.MkvWRefIdeal.Facts) (hLoss : Cert.Loss.Facts) (hLossIdeal : Cert.LossIdeal.Facts) (hLossRefIdeal : Cert.LossRefIdeal.Facts) (hMemF : Cert.MemF.Facts) (hMemFIdeal : Cert.MemFIdeal.Facts) (hMemFRefIdeal : Cert.MemFRefIdeal.Facts) (hAdamAIn : Cert.AdamAIn.Facts) (hAdamAInIdeal : Cert.AdamAInIdeal.Facts) (hAdamAInRefIdeal : Cert.AdamAInRefIdeal.Facts) (hAdamBIn : Cert.AdamBIn.Facts) (hAdamBInIdeal : Cert.AdamBInIdeal.Facts) (hAdamBInRefIdeal : Cert.AdamBInRefIdeal.Facts) (hAdamMem : Cert.AdamMem.Facts) (hAdamMemIdeal : Cert.AdamMemIdeal.Facts) (hAdamMemRefIdeal : Cert.AdamMemRefIdeal.Facts) (hAdamOut : Cert.AdamOut.Facts) (hAdamOutIdeal : Cert.AdamOutIdeal.Facts) (hAdamOutRefIdeal : Cert.AdamOutRefIdeal.Facts) (hAdamGate : Cert.AdamGate.Facts) (hAdamGateIdeal : Cert.AdamGateIdeal.Facts) (hAdamGateRefIdeal : Cert.AdamGateRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hMemAttA : Cert.MemAttA.Facts) (hMemAttAIdeal : Cert.MemAttAIdeal.Facts) (hMemAttARefIdeal : Cert.MemAttARefIdeal.Facts) (hMemFA : Cert.MemFA.Facts) (hMemFAIdeal : Cert.MemFAIdeal.Facts) (hMemFARefIdeal : Cert.MemFARefIdeal.Facts) (hPre_mem_finite : Cert.Pre_mem_finite.Facts) (hPre_ffn_in_finite : Cert.Pre_ffn_in_finite.Facts) (hPre_gate_finite : Cert.Pre_gate_finite.Facts) (hPre_up_finite : Cert.Pre_up_finite.Facts) (hPre_in_a_finite : Cert.Pre_in_a_finite.Facts) (hPre_in_b_finite : Cert.Pre_in_b_finite.Facts) (hPre_loss_finite : Cert.Pre_loss_finite.Facts) (hPre_mem_a_finite : Cert.Pre_mem_a_finite.Facts),
    quiescent_Sgu (hSgu := hSgu)
    ∧ quiescent_SguIdeal (hSguIdeal := hSguIdeal)
    ∧ quiescent_SguRefIdeal (hSguRefIdeal := hSguRefIdeal)
    ∧ quiescent_MemAtt (hMemAtt := hMemAtt)
    ∧ quiescent_MemAttIdeal (hMemAttIdeal := hMemAttIdeal)
    ∧ quiescent_MemAttIdeal_pre_mem_finite (hMemAttIdeal := hMemAttIdeal) (hPre_mem_finite := hPre_mem_finite)
    ∧ quiescent_MemAttRefIdeal (hMemAttRefIdeal := hMemAttRefIdeal)
    ∧ quiescent_MemAttRefIdeal_pre_mem_finite (hMemAttRefIdeal := hMemAttRefIdeal) (hPre_mem_finite := hPre_mem_finite)
    ∧ quiescent_FfnIn (hFfnIn := hFfnIn)
    ∧ quiescent_FfnInIdeal (hFfnInIdeal := hFfnInIdeal)
    ∧ quiescent_FfnInIdeal_pre_ffn_in_finite (hFfnInIdeal := hFfnInIdeal) (hPre_ffn_in_finite := hPre_ffn_in_finite)
    ∧ quiescent_FfnInRefIdeal (hFfnInRefIdeal := hFfnInRefIdeal)
    ∧ quiescent_FfnInRefIdeal_pre_ffn_in_finite (hFfnInRefIdeal := hFfnInRefIdeal) (hPre_ffn_in_finite := hPre_ffn_in_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpIdeal_pre_up_finite (hUpIdeal := hUpIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_Norm (hNorm := hNorm)
    ∧ quiescent_NormIdeal (hNormIdeal := hNormIdeal)
    ∧ quiescent_NormRefIdeal (hNormRefIdeal := hNormRefIdeal)
    ∧ quiescent_OutW (hOutW := hOutW)
    ∧ quiescent_OutWIdeal (hOutWIdeal := hOutWIdeal)
    ∧ quiescent_OutWRefIdeal (hOutWRefIdeal := hOutWRefIdeal)
    ∧ quiescent_OutB (hOutB := hOutB)
    ∧ quiescent_OutBIdeal (hOutBIdeal := hOutBIdeal)
    ∧ quiescent_OutBRefIdeal (hOutBRefIdeal := hOutBRefIdeal)
    ∧ quiescent_InWA (hInWA := hInWA)
    ∧ quiescent_InWAIdeal (hInWAIdeal := hInWAIdeal)
    ∧ quiescent_InWARefIdeal (hInWARefIdeal := hInWARefIdeal)
    ∧ quiescent_InWB (hInWB := hInWB)
    ∧ quiescent_InWBIdeal (hInWBIdeal := hInWBIdeal)
    ∧ quiescent_InWBRefIdeal (hInWBRefIdeal := hInWBRefIdeal)
    ∧ quiescent_InA (hInA := hInA)
    ∧ quiescent_InAIdeal (hInAIdeal := hInAIdeal)
    ∧ quiescent_InAIdeal_pre_in_a_finite (hInAIdeal := hInAIdeal) (hPre_in_a_finite := hPre_in_a_finite)
    ∧ quiescent_InARefIdeal (hInARefIdeal := hInARefIdeal)
    ∧ quiescent_InARefIdeal_pre_in_a_finite (hInARefIdeal := hInARefIdeal) (hPre_in_a_finite := hPre_in_a_finite)
    ∧ quiescent_InB (hInB := hInB)
    ∧ quiescent_InBIdeal (hInBIdeal := hInBIdeal)
    ∧ quiescent_InBIdeal_pre_in_b_finite (hInBIdeal := hInBIdeal) (hPre_in_b_finite := hPre_in_b_finite)
    ∧ quiescent_InBRefIdeal (hInBRefIdeal := hInBRefIdeal)
    ∧ quiescent_InBRefIdeal_pre_in_b_finite (hInBRefIdeal := hInBRefIdeal) (hPre_in_b_finite := hPre_in_b_finite)
    ∧ quiescent_InX (hInX := hInX)
    ∧ quiescent_InXIdeal (hInXIdeal := hInXIdeal)
    ∧ quiescent_InXRefIdeal (hInXRefIdeal := hInXRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_OutN (hOutN := hOutN)
    ∧ quiescent_OutNIdeal (hOutNIdeal := hOutNIdeal)
    ∧ quiescent_OutNRefIdeal (hOutNRefIdeal := hOutNRefIdeal)
    ∧ quiescent_ProjX (hProjX := hProjX)
    ∧ quiescent_ProjXIdeal (hProjXIdeal := hProjXIdeal)
    ∧ quiescent_ProjXRefIdeal (hProjXRefIdeal := hProjXRefIdeal)
    ∧ quiescent_InWX (hInWX := hInWX)
    ∧ quiescent_InWXIdeal (hInWXIdeal := hInWXIdeal)
    ∧ quiescent_InWXRefIdeal (hInWXRefIdeal := hInWXRefIdeal)
    ∧ quiescent_MkvF (hMkvF := hMkvF)
    ∧ quiescent_MkvFIdeal (hMkvFIdeal := hMkvFIdeal)
    ∧ quiescent_MkvFRefIdeal (hMkvFRefIdeal := hMkvFRefIdeal)
    ∧ quiescent_MkvW (hMkvW := hMkvW)
    ∧ quiescent_MkvWIdeal (hMkvWIdeal := hMkvWIdeal)
    ∧ quiescent_MkvWRefIdeal (hMkvWRefIdeal := hMkvWRefIdeal)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_MemF (hMemF := hMemF)
    ∧ quiescent_MemFIdeal (hMemFIdeal := hMemFIdeal)
    ∧ quiescent_MemFRefIdeal (hMemFRefIdeal := hMemFRefIdeal)
    ∧ quiescent_AdamAIn (hAdamAIn := hAdamAIn)
    ∧ quiescent_AdamAInIdeal (hAdamAInIdeal := hAdamAInIdeal)
    ∧ quiescent_AdamAInRefIdeal (hAdamAInRefIdeal := hAdamAInRefIdeal)
    ∧ quiescent_AdamBIn (hAdamBIn := hAdamBIn)
    ∧ quiescent_AdamBInIdeal (hAdamBInIdeal := hAdamBInIdeal)
    ∧ quiescent_AdamBInRefIdeal (hAdamBInRefIdeal := hAdamBInRefIdeal)
    ∧ quiescent_AdamMem (hAdamMem := hAdamMem)
    ∧ quiescent_AdamMemIdeal (hAdamMemIdeal := hAdamMemIdeal)
    ∧ quiescent_AdamMemRefIdeal (hAdamMemRefIdeal := hAdamMemRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_MemAttA (hMemAttA := hMemAttA)
    ∧ quiescent_MemAttAIdeal (hMemAttAIdeal := hMemAttAIdeal)
    ∧ quiescent_MemAttAIdeal_pre_mem_a_finite (hMemAttAIdeal := hMemAttAIdeal) (hPre_mem_a_finite := hPre_mem_a_finite)
    ∧ quiescent_MemAttARefIdeal (hMemAttARefIdeal := hMemAttARefIdeal)
    ∧ quiescent_MemAttARefIdeal_pre_mem_a_finite (hMemAttARefIdeal := hMemAttARefIdeal) (hPre_mem_a_finite := hPre_mem_a_finite)
    ∧ quiescent_MemFA (hMemFA := hMemFA)
    ∧ quiescent_MemFAIdeal (hMemFAIdeal := hMemFAIdeal)
    ∧ quiescent_MemFARefIdeal (hMemFARefIdeal := hMemFARefIdeal)
    ∧ preserves_Sgu_SguIdeal
    ∧ preserves_MemAtt_MemAttIdeal
    ∧ algebraic_MemAttIdeal_MemAttRefIdeal_pre_mem_finite (hMemAttIdeal := hMemAttIdeal) (hMemAttRefIdeal := hMemAttRefIdeal) (hPre_mem_finite := hPre_mem_finite)
    ∧ preserves_FfnIn_FfnInIdeal
    ∧ algebraic_FfnInIdeal_FfnInRefIdeal_pre_ffn_in_finite (hFfnInIdeal := hFfnInIdeal) (hFfnInRefIdeal := hFfnInRefIdeal) (hPre_ffn_in_finite := hPre_ffn_in_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal_pre_up_finite (hUpIdeal := hUpIdeal) (hUpRefIdeal := hUpRefIdeal) (hPre_up_finite := hPre_up_finite)
    ∧ preserves_Norm_NormIdeal
    ∧ algebraic_NormIdeal_NormRefIdeal (hNormIdeal := hNormIdeal) (hNormRefIdeal := hNormRefIdeal)
    ∧ preserves_OutW_OutWIdeal
    ∧ algebraic_OutWIdeal_OutWRefIdeal (hOutWIdeal := hOutWIdeal) (hOutWRefIdeal := hOutWRefIdeal)
    ∧ preserves_OutB_OutBIdeal
    ∧ algebraic_OutBIdeal_OutBRefIdeal (hOutBIdeal := hOutBIdeal) (hOutBRefIdeal := hOutBRefIdeal)
    ∧ preserves_InWA_InWAIdeal
    ∧ algebraic_InWAIdeal_InWARefIdeal (hInWAIdeal := hInWAIdeal) (hInWARefIdeal := hInWARefIdeal)
    ∧ preserves_InWB_InWBIdeal
    ∧ algebraic_InWBIdeal_InWBRefIdeal (hInWBIdeal := hInWBIdeal) (hInWBRefIdeal := hInWBRefIdeal)
    ∧ preserves_InA_InAIdeal
    ∧ algebraic_InAIdeal_InARefIdeal_pre_in_a_finite (hInAIdeal := hInAIdeal) (hInARefIdeal := hInARefIdeal) (hPre_in_a_finite := hPre_in_a_finite)
    ∧ preserves_InB_InBIdeal
    ∧ algebraic_InBIdeal_InBRefIdeal_pre_in_b_finite (hInBIdeal := hInBIdeal) (hInBRefIdeal := hInBRefIdeal) (hPre_in_b_finite := hPre_in_b_finite)
    ∧ preserves_InX_InXIdeal
    ∧ algebraic_InXIdeal_InXRefIdeal (hInXIdeal := hInXIdeal) (hInXRefIdeal := hInXRefIdeal)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_OutN_OutNIdeal
    ∧ algebraic_OutNIdeal_OutNRefIdeal (hOutNIdeal := hOutNIdeal) (hOutNRefIdeal := hOutNRefIdeal)
    ∧ preserves_ProjX_ProjXIdeal
    ∧ algebraic_ProjXIdeal_ProjXRefIdeal (hProjXIdeal := hProjXIdeal) (hProjXRefIdeal := hProjXRefIdeal)
    ∧ preserves_InWX_InWXIdeal
    ∧ algebraic_InWXIdeal_InWXRefIdeal (hInWXIdeal := hInWXIdeal) (hInWXRefIdeal := hInWXRefIdeal)
    ∧ preserves_MkvF_MkvFIdeal
    ∧ algebraic_MkvFIdeal_MkvFRefIdeal (hMkvFIdeal := hMkvFIdeal) (hMkvFRefIdeal := hMkvFRefIdeal)
    ∧ preserves_MkvW_MkvWIdeal
    ∧ algebraic_MkvWIdeal_MkvWRefIdeal (hMkvWIdeal := hMkvWIdeal) (hMkvWRefIdeal := hMkvWRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_MemF_MemFIdeal
    ∧ algebraic_MemFIdeal_MemFRefIdeal (hMemFIdeal := hMemFIdeal) (hMemFRefIdeal := hMemFRefIdeal)
    ∧ preserves_AdamAIn_AdamAInIdeal
    ∧ algebraic_AdamAInIdeal_AdamAInRefIdeal (hAdamAInIdeal := hAdamAInIdeal) (hAdamAInRefIdeal := hAdamAInRefIdeal)
    ∧ preserves_AdamBIn_AdamBInIdeal
    ∧ algebraic_AdamBInIdeal_AdamBInRefIdeal (hAdamBInIdeal := hAdamBInIdeal) (hAdamBInRefIdeal := hAdamBInRefIdeal)
    ∧ preserves_AdamMem_AdamMemIdeal
    ∧ algebraic_AdamMemIdeal_AdamMemRefIdeal (hAdamMemIdeal := hAdamMemIdeal) (hAdamMemRefIdeal := hAdamMemRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_MemAttA_MemAttAIdeal
    ∧ algebraic_MemAttAIdeal_MemAttARefIdeal_pre_mem_a_finite (hMemAttAIdeal := hMemAttAIdeal) (hMemAttARefIdeal := hMemAttARefIdeal) (hPre_mem_a_finite := hPre_mem_a_finite)
    ∧ preserves_MemFA_MemFAIdeal
    ∧ algebraic_MemFAIdeal_MemFARefIdeal (hMemFAIdeal := hMemFAIdeal) (hMemFARefIdeal := hMemFARefIdeal)
-- ==== Pre_ffn_in_finite.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn_part1 {F : FTy → Type} [FloatOps F] (main_arg6 : FVec F S1024 .f32) (main_v2 : IVec S8192x2816 1) (main_v5 : IVec S8192x2816 1) (main_v8 : IVec S2816x1024 1) (main_v11 : IVec S2816x1024 1) (main_v14 : IVec S8192x1024 1) (main_v17 : IVec S8192x1024 1) : IVec S8192x2816 1 × IVec S8192x2816 1 × IVec S2816x1024 1 × IVec S2816x1024 1 × IVec S8192x1024 1 × IVec S8192x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S8192x2816 .bf16) (main_arg1 : FVec F S8192x2816 .bf16) (main_arg2 : FVec F S2816x1024 .bf16) (main_arg3 : FVec F S2816x1024 .bf16) (main_arg4 : FVec F S8192x1024 .f32) (main_arg5 : FVec F S8192x1024 .f32) (main_arg6 : FVec F S1024 .f32) : IVec S8192x2816 1 × IVec S8192x2816 1 × IVec S2816x1024 1 × IVec S2816x1024 1 × IVec S8192x1024 1 × IVec S8192x1024 1 × IVec S1024 1 :=
  let main_v0 : FVec F S8192x2816 .bf16 := Host.absf main_arg0
  let main_cst : FVec F S_ .bf16 := constant S_ .bf16 0x7F80#16
  let main_v1 : FVec F S8192x2816 .bf16 := broadcastInDim S8192x2816 ![] bcast_S_S8192x2816 main_cst
  let main_v2 : IVec S8192x2816 1 := cmpf .olt main_v0 main_v1
  let main_v3 : FVec F S8192x2816 .bf16 := Host.absf main_arg1
  let main_cst_0 : FVec F S_ .bf16 := constant S_ .bf16 0x7F80#16
  let main_v4 : FVec F S8192x2816 .bf16 := broadcastInDim S8192x2816 ![] bcast_S_S8192x2816 main_cst_0
  let main_v5 : IVec S8192x2816 1 := cmpf .olt main_v3 main_v4
  let main_v6 : FVec F S2816x1024 .bf16 := Host.absf main_arg2
  let main_cst_1 : FVec F S_ .bf16 := constant S_ .bf16 0x7F80#16
  let main_v7 : FVec F S2816x1024 .bf16 := broadcastInDim S2816x1024 ![] bcast_S_S2816x1024 main_cst_1
  let main_v8 : IVec S2816x1024 1 := cmpf .olt main_v6 main_v7
  let main_v9 : FVec F S2816x1024 .bf16 := Host.absf main_arg3
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  fn_part1 (F := F) main_arg6 main_v2 main_v5 main_v8 main_v11 main_v14 main_v17
-- ==== Pre_gate_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .bf16) (main_arg1 : FVec F S2816x1024 .bf16) (main_arg2 : FVec F S8192x2816 .f32) (main_arg3 : FVec F S8192x2816 .f32) : IVec S8192x1024 1 × IVec S2816x1024 1 × IVec S8192x2816 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S8192x2816 .f32 := Host.absf main_arg3
  let main_cst_1 : FVec F S_ .f32 := constant S_ .f32 0x7F800000#32
  let main_v7 : FVec F S8192x2816 .f32 := broadcastInDim S8192x2816 ![] bcast_S_S8192x2816 main_cst_1
  let main_v8 : IVec S8192x2816 1 := cmpf .olt main_v6 main_v7
  (main_v2, main_v5, main_v8)
-- ==== Pre_in_a_finite.lean ====
abbrev S8192x2560 : Shape := ⟨2, ![8192, 2560]⟩
abbrev S2560x1024 : Shape := ⟨2, ![2560, 1024]⟩
abbrev S8192x1024 : Shape := ⟨2, ![8192, 1024]⟩
abbrev S1024 : Shape := ⟨1, ![1024]⟩
abbrev S_ : Shape := ⟨0, ![]⟩

class Facts : Prop where
  bcast_S_S8192x2560 : S_.BroadcastsInDim S8192x2560 (![] : Fin 0 → Fin S8192x2560.rank)
  bcast_S_S2560x1024 : S_.BroadcastsInDim S2560x1024 (![] : Fin 0 → Fin S2560x1024.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x2560 .bf16) (main_arg1 : FVec F S2560x1024 .bf16) (main_arg2 : FVec F S8192x1024 .f32) (main_arg3 : FVec F S8192x1024 .f32) (main_arg4 : FVec F S1024 .f32) : IVec S8192x2560 1 × IVec S2560x1024 1 × IVec S8192x1024 1 × IVec S8192x1024 1 × IVec S1024 1 :=
  let main_v0 : FVec F S8192x2560 .bf16 := Host.absf main_arg0
  let main_cst : FVec F S_ .bf16 := constant S_ .bf16 0x7F80#16
  let main_v1 : FVec F S8192x2560 .bf16 := broadcastInDim S8192x2560 ![] bcast_S_S8192x2560 main_cst
  let main_v2 : IVec S8192x2560 1 := cmpf .olt main_v0 main_v1
  let main_v3 : FVec F S2560x1024 .bf16 := Host.absf main_arg1
  let main_cst_0 : FVec F S_ .bf16 := constant S_ .bf16 0x7F80#16
  let main_v4 : FVec F S2560x1024 .bf16 := broadcastInDim S2560x1024 ![] bcast_S_S2560x1024 main_cst_0
  let main_v5 : IVec S2560x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_in_b_finite.lean ====
abbrev S8192x1792 : Shape := ⟨2, ![8192, 1792]⟩
abbrev S1792x1024 : Shape := ⟨2, ![1792, 1024]⟩
abbrev S8192x1024 : Shape := ⟨2, ![8192, 1024]⟩
abbrev S1024 : Shape := ⟨1, ![1024]⟩
abbrev S_ : Shape := ⟨0, ![]⟩

class Facts : Prop where
  bcast_S_S8192x1792 : S_.BroadcastsInDim S8192x1792 (![] : Fin 0 → Fin S8192x1792.rank)
  bcast_S_S1792x1024 : S_.BroadcastsInDim S1792x1024 (![] : Fin 0 → Fin S1792x1024.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1792 .bf16) (main_arg1 : FVec F S1792x1024 .bf16) (main_arg2 : FVec F S8192x1024 .f32) (main_arg3 : FVec F S8192x1024 .f32) (main_arg4 : FVec F S1024 .f32) : IVec S8192x1792 1 × IVec S1792x1024 1 × IVec S8192x1024 1 × IVec S8192x1024 1 × IVec S1024 1 :=
  let main_v0 : FVec F S8192x1792 .bf16 := Host.absf main_arg0
  let main_cst : FVec F S_ .bf16 := constant S_ .bf16 0x7F80#16
  let main_v1 : FVec F S8192x1792 .bf16 := broadcastInDim S8192x1792 ![] bcast_S_S8192x1792 main_cst
  let main_v2 : IVec S8192x1792 1 := cmpf .olt main_v0 main_v1
  let main_v3 : FVec F S1792x1024 .bf16 := Host.absf main_arg1
  let main_cst_0 : FVec F S_ .bf16 := constant S_ .bf16 0x7F80#16
  let main_v4 : FVec F S1792x1024 .bf16 := broadcastInDim S1792x1024 ![] bcast_S_S1792x1024 main_cst_0
  let main_v5 : IVec S1792x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_loss_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S8192x1024 .f32) (main_arg3 : FVec F S1024 .f32) : IVec S8192x1024 1 × IVec S8192x1024 1 × IVec S8192x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_mem_a_finite.lean ====
abbrev S4x2048x2560 : Shape := ⟨3, ![4, 2048, 2560]⟩
abbrev S4x256x512 : Shape := ⟨3, ![4, 256, 512]⟩
abbrev S4x2048x1024 : Shape := ⟨3, ![4, 2048, 1024]⟩
abbrev S4x2048x256 : Shape := ⟨3, ![4, 2048, 256]⟩
abbrev S_ : Shape := ⟨0, ![]⟩

class Facts : Prop where
  slices_S4x2048x2560_S4x2048x256_0_0_2304 : S4x2048x2560.Slices ![0, 0, 2304] S4x2048x256
  slices_S4x2048x1024_S4x2048x256_0_0_768 : S4x2048x1024.Slices ![0, 0, 768] S4x2048x256
  bcast_S_S4x2048x256 : S_.BroadcastsInDim S4x2048x256 (![] : Fin 0 → Fin S4x2048x256.rank)
  bcast_S_S4x256x512 : S_.BroadcastsInDim S4x256x512 (![] : Fin 0 → Fin S4x256x512.rank)

variable [Facts]

def fn {F : FTy → Type} [FloatOps F] (main_arg0 : FVec F S4x2048x2560 .f32) (main_arg1 : FVec F S4x256x512 .f32) (main_arg2 : FVec F S4x2048x1024 .f32) : IVec S4x2048x256 1 × IVec S4x256x512 1 × IVec S4x2048x256 1 :=
  let main_v0 : FVec F S4x2048x256 .f32 := (extractStridedSlice S4x2048x256 ![0, 0, 2304] · slices_S4x2048x2560_S4x2048x256_0_0_2304) main_arg0
  let main_v1 : FVec F S4x2048x256 .f32 := (extractStridedSlice S4x2048x256 ![0, 0, 768] · slices_S4x2048x1024_S4x2048x256_0_0_768) main_arg2
  let main_v2 : FVec F S4x2048x256 .f32 := Host.absf main_v0
  let main_cst : FVec F S_ .f32 := constant S_ .f32 0x7F800000#32
  let main_v3 : FVec F S4x2048x256 .f32 := broadcastInDim S4x2048x256 ![] bcast_S_S4x2048x256 main_cst
  let main_v4 : IVec S4x2048x256 1 := cmpf .olt main_v2 main_v3
  let main_v5 : FVec F S4x256x512 .f32 := Host.absf main_arg1
  let main_cst_0 : FVec F S_ .f32 := constant S_ .f32 0x7F800000#32
  let main_v6 : FVec F S4x256x512 .f32 := broadcastInDim S4x256x512 ![] bcast_S_S4x256x512 main_cst_0
  let main_v7 : IVec S4x256x512 1 := cmpf .olt main_v5 main_v6
  let main_v8 : FVec F S4x2048x256 .f32 := Host.absf main_v1
  let main_cst_1 : FVec F S_ .f32 := constant S_ .f32 0x7F800000#32
  let main_v9 : FVec F S4x2048x256 .f32 := broadcastInDim S4x2048x256 ![] bcast_S_S4x2048x256 main_cst_1
  let main_v10 : IVec S4x2048x256 1 := cmpf .olt main_v8 main_v9
  (main_v4, main_v7, main_v10)
-- ==== Pre_mem_finite.lean ====
abbrev S4x2048x1792 : Shape := ⟨3, ![4, 2048, 1792]⟩
abbrev S4x256x512 : Shape := ⟨3, ![4, 256, 512]⟩
abbrev S4x2048x1024 : Shape := ⟨3, ![4, 2048, 1024]⟩
abbrev S4x2048x256 : Shape := ⟨3, ![4, 2048, 256]⟩
abbrev S_ : Shape := ⟨0, ![]⟩

class Facts : Prop where
  slices_S4x2048x1792_S4x2048x256_0_0_1536 : S4x2048x1792.Slices ![0, 0, 1536] S4x2048x256
  slices_S4x2048x1024_S4x2048x256_0_0_768 : S4x2048x1024.Slices ![0, 0, 768] S4x2048x256
  bcast_S_S4x2048x256 : S_.BroadcastsInDim S4x2048x256 (![] : Fin 0 → Fin S4x2048x256.rank)
  bcast_S_S4x256x512 : S_.BroadcastsInDim S4x256x512 (![] : Fin 0 → Fin S4x256x512.rank)

variable [Facts]

def fn {F : FTy → Type} [FloatOps F] (main_arg0 : FVec F S4x2048x1792 .f32) (main_arg1 : FVec F S4x256x512 .f32) (main_arg2 : FVec F S4x2048x1024 .f32) : IVec S4x2048x256 1 × IVec S4x256x512 1 × IVec S4x2048x256 1 :=
  let main_v0 : FVec F S4x2048x256 .f32 := (extractStridedSlice S4x2048x256 ![0, 0, 1536] · slices_S4x2048x1792_S4x2048x256_0_0_1536) main_arg0
  let main_v1 : FVec F S4x2048x256 .f32 := (extractStridedSlice S4x2048x256 ![0, 0, 768] · slices_S4x2048x1024_S4x2048x256_0_0_768) main_arg2
  let main_v2 : FVec F S4x2048x256 .f32 := Host.absf main_v0
  let main_cst : FVec F S_ .f32 := constant S_ .f32 0x7F800000#32
  let main_v3 : FVec F S4x2048x256 .f32 := broadcastInDim S4x2048x256 ![] bcast_S_S4x2048x256 main_cst
  let main_v4 : IVec S4x2048x256 1 := cmpf .olt main_v2 main_v3
  let main_v5 : FVec F S4x256x512 .f32 := Host.absf main_arg1
  let main_cst_0 : FVec F S_ .f32 := constant S_ .f32 0x7F800000#32
  let main_v6 : FVec F S4x256x512 .f32 := broadcastInDim S4x256x512 ![] bcast_S_S4x256x512 main_cst_0
  let main_v7 : IVec S4x256x512 1 := cmpf .olt main_v5 main_v6
  let main_v8 : FVec F S4x2048x256 .f32 := Host.absf main_v1
  let main_cst_1 : FVec F S_ .f32 := constant S_ .f32 0x7F800000#32
  let main_v9 : FVec F S4x2048x256 .f32 := broadcastInDim S4x2048x256 ![] bcast_S_S4x2048x256 main_cst_1
  let main_v10 : IVec S4x2048x256 1 := cmpf .olt main_v8 main_v9
  (main_v4, main_v7, main_v10)
-- ==== Pre_up_finite.lean ====
abbrev S8192x1024 : Shape := ⟨2, ![8192, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)

variable [Facts]

def fn {F : FTy → Type} [FloatOps F] (main_arg0 : FVec F S8192x1024 .bf16) (main_arg1 : FVec F S2816x1024 .bf16) (main_arg2 : FVec F S2816x1024 .bf16) : IVec S8192x1024 1 × IVec S2816x1024 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S2816x1024 .bf16 := Host.absf main_arg2
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  (main_v2, main_v5)
-- ==== Sgu.lean ====
abbrev S8192x1792 : Shape := ⟨2, ![8192, 1792]⟩
abbrev S8192x1024 : Shape := ⟨2, ![8192, 1024]⟩
abbrev S768 : Shape := ⟨1, ![768]⟩
abbrev S12x128x128 : Shape := ⟨3, ![12, 128, 128]⟩
abbrev S12x128 : Shape := ⟨2, ![12, 128]⟩
abbrev S1x768 : Shape := ⟨2, ![1, 768]⟩
abbrev S128x12 : Shape := ⟨2, ![128, 12]⟩
abbrev S128x12x64 : Shape := ⟨3, ![128, 12, 64]⟩
abbrev S128x768 : Shape := ⟨2, ![128, 768]⟩
abbrev S8192x768 : Shape := ⟨2, ![8192, 768]⟩
abbrev S128x128 : Shape := ⟨2, ![128, 128]⟩
abbrev S512x768 : Shape := ⟨2, ![512, 768]⟩
abbrev S512 : Shape := ⟨1, ![512]⟩
abbrev S512x1 : Shape := ⟨2, ![512, 1]⟩
abbrev S1x128x128 : Shape := ⟨3, ![1, 128, 128]⟩
abbrev S128 : Shape := ⟨1, ![128]⟩
abbrev S128x1 : Shape := ⟨2, ![128, 1]⟩

abbrev nBuf : Space → Nat
  | .hbm => 17
  | .vmem => 23
  | .smem => 0
  | _ => 0

abbrev bufTy : (tb : Table) → Fin (tcTables nBuf tb) → BufTy
  | .hbm, ⟨0, _⟩ => ⟨S8192x1792, .f32⟩
  | .hbm, ⟨1, _⟩ => ⟨S8192x1024, .f32⟩
  | .hbm, ⟨2, _⟩ => ⟨S768, .f32⟩
  | .hbm, ⟨3, _⟩ => ⟨S768, .f32⟩
  | .hbm, ⟨4, _⟩ => ⟨S12x128x128, .f32⟩
  | .hbm, ⟨5, _⟩ => ⟨S12x128, .f32⟩
  | .hbm, ⟨6, _⟩ => ⟨S1x768, .f32⟩
  | .hbm, ⟨7, _⟩ => ⟨S1x768, .f32⟩
  | .hbm, ⟨8, _⟩ => ⟨S128x12, .f32⟩
  | .hbm, ⟨9, _⟩ => ⟨S128x12x64, .f32⟩
  | .hbm, ⟨10, _⟩ => ⟨S128x768, .f32⟩
  | .hbm, ⟨11, _⟩ => ⟨S8192x768, .bf16⟩
  | .hbm, ⟨12, _⟩ => ⟨S8192x768, .bf16⟩
  | .hbm, ⟨13, _⟩ => ⟨S12x128x128, .f32⟩
  | .hbm, ⟨14, _⟩ => ⟨S128x128, .f32⟩
  | .hbm, ⟨15, _⟩ => ⟨S1x768, .f32⟩
  | .hbm, ⟨16, _⟩ => ⟨S1x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S1x768, .f32⟩
  | .local _ .vmem, ⟨7, _⟩ => ⟨S1x768, .f32⟩
  | .local _ .vmem, ⟨8, _⟩ => ⟨S12x128x128, .f32⟩
  | .local _ .vmem, ⟨9, _⟩ => ⟨S128x768, .f32⟩
  | .local _ .vmem, ⟨10, _⟩ => ⟨S512x768, .bf16⟩
  | .local _ .vmem, ⟨11, _⟩ => ⟨S512x768, .bf16⟩
  | .local _ .vmem, ⟨12, _⟩ => ⟨S512x768, .bf16⟩
  | .local _ .vmem, ⟨13, _⟩ => ⟨S512x768, .bf16⟩
  | .local _ .vmem, ⟨14, _⟩ => ⟨S12x128x128, .f32⟩
  | .local _ .vmem, ⟨15, _⟩ => ⟨S128x128, .f32⟩
  | .local _ .vmem, ⟨16, _⟩ => ⟨S1x768, .f32⟩
  | .local _ .vmem, ⟨17, _⟩ => ⟨S1x768, .f32⟩
  | .local _ .vmem, ⟨18, _⟩ => ⟨S512x768, .bf16⟩
  | .local _ .vmem, ⟨19, _⟩ => ⟨S512x768, .f32⟩
  | .local _ .vmem, ⟨20, _⟩ => ⟨S512x768, .f32⟩
  | .local _ .vmem, ⟨21, _⟩ => ⟨S512x768, .f32⟩
  | .local _ .vmem, ⟨22, _⟩ => ⟨S128x768, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v961 : BitVec 1 := Scalar.cmpi .eq arg0 c15_i32
  let v962 : BitVec 32 := Scalar.extui v961
  let c0_i32_604 : BitVec 32 := 0#32
  let v963 : BitVec 1 := Scalar.cmpi .ne v962 c0_i32_604
  v963

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S12x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== SguIdeal.lean ====
variable {F : FTy → Type} [FloatOps F] [Named F]
def κ : String → Option EReal := fun
  | "c3" => some ((8943 / 200000 : ℝ) : EReal)
  | "c3d" => some ((26829 / 200000 : ℝ) : EReal)
  | _ => none
-- ==== SguRefIdeal.lean ====
abbrev S8192x1792 : Shape := ⟨2, ![8192, 1792]⟩
abbrev S8192x1024 : Shape := ⟨2, ![8192, 1024]⟩
abbrev S768 : Shape := ⟨1, ![768]⟩
abbrev S12x128x128 : Shape := ⟨3, ![12, 128, 128]⟩
abbrev S12x128 : Shape := ⟨2, ![12, 128]⟩
abbrev S4x2048x1792 : Shape := ⟨3, ![4, 2048, 1792]⟩
abbrev S4x2048x1024 : Shape := ⟨3, ![4, 2048, 1024]⟩
abbrev S4x2048x768 : Shape := ⟨3, ![4, 2048, 768]⟩
abbrev S_ : Shape := ⟨0, ![]⟩
abbrev S4x2048 : Shape := ⟨2, ![4, 2048]⟩
abbrev S4x2048x1 : Shape := ⟨3, ![4, 2048, 1]⟩
abbrev S1x1x768 : Shape := ⟨3, ![1, 1, 768]⟩
abbrev S4x16x128x12x64 : Shape := ⟨5, ![4, 16, 128, 12, 64]⟩
abbrev S128x128 : Shape := ⟨2, ![128, 128]⟩
abbrev S1x128x128 : Shape := ⟨3, ![1, 128, 128]⟩
abbrev S12x4x16x64x128 : Shape := ⟨5, ![12, 4, 16, 64, 128]⟩
abbrev S128x12 : Shape := ⟨2, ![128, 12]⟩
abbrev S1x1x128x12x1 : Shape := ⟨5, ![1, 1, 128, 12, 1]⟩
abbrev S8192x768 : Shape := ⟨2, ![8192, 768]⟩
abbrev S1x768 : Shape := ⟨2, ![1, 768]⟩

abbrev nBuf : Space → Nat
  | .hbm => 226
  | .vmem => 0
  | .smem => 0
  | _ => 0

abbrev hbmTy0_0 (i : Nat) : BufTy := match i % 128 with
  | 0 => ⟨S8192x1792, .f32⟩
  | 1 => ⟨S8192x1024, .f32⟩
  | 2 => ⟨S768, .f32⟩
  | 3 => ⟨S768, .f32⟩
  | 4 => ⟨S12x128x128, .f32⟩
  | 5 => ⟨S12x128, .f32⟩
  | 6 => ⟨S4x2048x1792, .f32⟩
  | 7 => ⟨S4x2048x1024, .f32⟩
  | 8 => ⟨S4x2048x768, .f32⟩
  | 9 => ⟨S4x2048x768, .f32⟩
  | 10 => ⟨S4x2048x768, .f32⟩
  | 11 => ⟨S4x2048x768, .f32⟩
  | 12 => ⟨S4x2048x768, .f32⟩
  | 13 => ⟨S4x2048x768, .f32⟩
  | 14 => ⟨S_, .f32⟩
  | 15 => ⟨S4x2048x768, .f32⟩
  | 16 => ⟨S4x2048x768, .f32⟩
  | 17 => ⟨S_, .f32⟩
  | 18 => ⟨S4x2048x768, .f32⟩
  | 19 => ⟨S4x2048x768, .f32⟩
  | 20 => ⟨S4x2048x768, .f32⟩
  | 21 => ⟨S_, .f32⟩
  | 22 => ⟨S4x2048x768, .f32⟩
  | 23 => ⟨S4x2048x768, .f32⟩
  | 24 => ⟨S4x2048x768, .f32⟩
  | 25 => ⟨S_, .f32⟩
  | 26 => ⟨S4x2048x768, .f32⟩
  | 27 => ⟨S4x2048x768, .f32⟩
  | 28 => ⟨S_, .f32⟩
  | 29 => ⟨S4x2048x768, .f32⟩
  | 30 => ⟨S4x2048x768, .f32⟩
  | 31 => ⟨S4x2048x768, .f32⟩
  | 32 => ⟨S_, .f32⟩
  | 33 => ⟨S4x2048x768, .f32⟩
  | 34 => ⟨S4x2048x768, .f32⟩
  | 35 => ⟨S_, .f32⟩
  | 36 => ⟨S4x2048x768, .f32⟩
  | 37 => ⟨S4x2048x768, .f32⟩
  | 38 => ⟨S4x2048x768, .f32⟩
  | 39 => ⟨S4x2048x768, .f32⟩
  | 40 => ⟨S4x2048x768, .f32⟩
  | 41 => ⟨S4x2048x768, .f32⟩
  | 42 => ⟨S_, .f32⟩
  | 43 => ⟨S4x2048x768, .f32⟩
  | 44 => ⟨S4x2048x768, .f32⟩
  | 45 => ⟨S_, .f32⟩
  | 46 => ⟨S4x2048x768, .f32⟩
  | 47 => ⟨S4x2048x768, .f32⟩
  | 48 => ⟨S4x2048x768, .f32⟩
  | 49 => ⟨S_, .f32⟩
  | 50 => ⟨S4x2048x768, .f32⟩
  | 51 => ⟨S4x2048x768, .f32⟩
  | 52 => ⟨S4x2048x768, .f32⟩
  | 53 => ⟨S_, .f32⟩
  | 54 => ⟨S4x2048x768, .f32⟩
  | 55 => ⟨S4x2048x768, .f32⟩
  | 56 => ⟨S_, .f32⟩
  | 57 => ⟨S4x2048x768, .f32⟩
  | 58 => ⟨S4x2048x768, .f32⟩
  | 59 => ⟨S4x2048x768, .f32⟩
  | 60 => ⟨S_, .f32⟩
  | 61 => ⟨S4x2048x768, .f32⟩
  | 62 => ⟨S4x2048x768, .f32⟩
  | 63 => ⟨S_, .f32⟩
  | 64 => ⟨S4x2048x768, .f32⟩
  | 65 => ⟨S4x2048x768, .f32⟩
  | 66 => ⟨S4x2048x768, .f32⟩
  | 67 => ⟨S_, .f32⟩
  | 68 => ⟨S4x2048, .f32⟩
  | 69 => ⟨S4x2048x1, .f32⟩
  | 70 => ⟨S_, .f32⟩
  | 71 => ⟨S4x2048x1, .f32⟩
  | 72 => ⟨S4x2048x1, .f32⟩
  | 73 => ⟨S4x2048x768, .f32⟩
  | 74 => ⟨S4x2048x768, .f32⟩
  | 75 => ⟨S4x2048x768, .f32⟩
  | 76 => ⟨S_, .f32⟩
  | 77 => ⟨S4x2048x768, .f32⟩
  | 78 => ⟨S4x2048x768, .f32⟩
  | 79 => ⟨S_, .f32⟩
  | 80 => ⟨S4x2048, .f32⟩
  | 81 => ⟨S4x2048x1, .f32⟩
  | 82 => ⟨S_, .f32⟩
  | 83 => ⟨S4x2048x1, .f32⟩
  | 84 => ⟨S4x2048x1, .f32⟩
  | 85 => ⟨S4x2048x768, .f32⟩
  | 86 => ⟨S4x2048x768, .f32⟩
  | 87 => ⟨S_, .f32⟩
  | 88 => ⟨S4x2048x1, .f32⟩
  | 89 => ⟨S4x2048x1, .f32⟩
  | 90 => ⟨S4x2048x1, .f32⟩
  | 91 => ⟨S4x2048x1, .f32⟩
  | 92 => ⟨S_, .f32⟩
  | 93 => ⟨S4x2048x1, .f32⟩
  | 94 => ⟨S4x2048x1, .f32⟩
  | 95 => ⟨S4x2048x768, .f32⟩
  | 96 => ⟨S4x2048x768, .f32⟩
  | 97 => ⟨S1x1x768, .f32⟩
  | 98 => ⟨S4x2048x768, .f32⟩
  | 99 => ⟨S4x2048x768, .f32⟩
  | 100 => ⟨S1x1x768, .f32⟩
  | 101 => ⟨S4x2048x768, .f32⟩
  | 102 => ⟨S4x2048x768, .f32⟩
  | 103 => ⟨S4x16x128x12x64, .f32⟩
  | 104 => ⟨S_, .f32⟩
  | 105 => ⟨S128x128, .f32⟩
  | 106 => ⟨S128x128, .i32⟩
  | 107 => ⟨S_, .i32⟩
  | 108 => ⟨S128x128, .i32⟩
  | 109 => ⟨S128x128, .i32⟩
  | 110 => ⟨S128x128, .i32⟩
  | 111 => ⟨S128x128, .i1⟩
  | 112 => ⟨S_, .f32⟩
  | 113 => ⟨S128x128, .f32⟩
  | 114 => ⟨S128x128, .f32⟩
  | 115 => ⟨S1x128x128, .f32⟩
  | 116 => ⟨S12x128x128, .f32⟩
  | 117 => ⟨S12x128x128, .f32⟩
  | 118 => ⟨S12x4x16x64x128, .f32⟩
  | 119 => ⟨S4x16x128x12x64, .f32⟩
  | 120 => ⟨S128x12, .f32⟩
  | 121 => ⟨S1x1x128x12x1, .f32⟩
  | 122 => ⟨S4x16x128x12x64, .f32⟩
  | 123 => ⟨S4x16x128x12x64, .f32⟩
  | 124 => ⟨S4x2048x768, .f32⟩
  | 125 => ⟨S4x2048x768, .f32⟩
  | 126 => ⟨S4x2048x768, .f32⟩
  | 127 => ⟨S4x2048x768, .f32⟩
  | _ => ⟨S8192x1792, .f32⟩

abbrev hbmTy0_1 (i : Nat) : BufTy := match i % 128 with
  | 0 => ⟨S4x16x128x12x64, .f32⟩
  | 1 => ⟨S_, .f32⟩
  | 2 => ⟨S128x12, .f32⟩
  | 3 => ⟨S1x1x128x12x1, .f32⟩
  | 4 => ⟨S_, .f32⟩
  | 5 => ⟨S128x12, .f32⟩
  | 6 => ⟨S12x128, .f32⟩
  | 7 => ⟨S12x4x16x64x128, .f32⟩
  | 8 => ⟨S12x128x128, .f32⟩
  | 9 => ⟨S12x4x16x64x128, .f32⟩
  | 10 => ⟨S4x16x128x12x64, .f32⟩
  | 11 => ⟨S12x128x128, .f32⟩
  | 12 => ⟨S12x128x128, .f32⟩
  | 13 => ⟨S4x2048x768, .f32⟩
  | 14 => ⟨S_, .f32⟩
  | 15 => ⟨S768, .f32⟩
  | 16 => ⟨S1x1x768, .f32⟩
  | 17 => ⟨S_, .f32⟩
  | 18 => ⟨S768, .f32⟩
  | 19 => ⟨S4x2048x768, .f32⟩
  | 20 => ⟨S_, .f32⟩
  | 21 => ⟨S768, .f32⟩
  | 22 => ⟨S1x1x768, .f32⟩
  | 23 => ⟨S4x2048x768, .f32⟩
  | 24 => ⟨S4x2048x768, .f32⟩
  | 25 => ⟨S_, .f32⟩
  | 26 => ⟨S768, .f32⟩
  | 27 => ⟨S4x2048x768, .f32⟩
  | 28 => ⟨S_, .f32⟩
  | 29 => ⟨S4x2048, .f32⟩
  | 30 => ⟨S4x2048x1, .f32⟩
  | 31 => ⟨S4x2048x768, .f32⟩
  | 32 => ⟨S4x2048x768, .f32⟩
  | 33 => ⟨S4x2048x1, .f32⟩
  | 34 => ⟨S4x2048x768, .f32⟩
  | 35 => ⟨S_, .f32⟩
  | 36 => ⟨S4x2048, .f32⟩
  | 37 => ⟨S4x2048x1, .f32⟩
  | 38 => ⟨S_, .f32⟩
  | 39 => ⟨S4x2048x1, .f32⟩
  | 40 => ⟨S4x2048x1, .f32⟩
  | 41 => ⟨S_, .f32⟩
  | 42 => ⟨S4x2048, .f32⟩
  | 43 => ⟨S4x2048x768, .f32⟩
  | 44 => ⟨S4x2048x768, .f32⟩
  | 45 => ⟨S4x2048x768, .f32⟩
  | 46 => ⟨S_, .f32⟩
  | 47 => ⟨S4x2048, .f32⟩
  | 48 => ⟨S4x2048x1, .f32⟩
  | 49 => ⟨S4x2048x768, .f32⟩
  | 50 => ⟨S4x2048x1, .f32⟩
  | 51 => ⟨S_, .f32⟩
  | 52 => ⟨S4x2048x1, .f32⟩
  | 53 => ⟨S4x2048x1, .f32⟩
  | 54 => ⟨S_, .f32⟩
  | 55 => ⟨S4x2048, .f32⟩
  | 56 => ⟨S4x2048x768, .f32⟩
  | 57 => ⟨S4x2048x768, .f32⟩
  | 58 => ⟨S4x2048x768, .f32⟩
  | 59 => ⟨S4x2048x768, .f32⟩
  | 60 => ⟨S_, .f32⟩
  | 61 => ⟨S4x2048x768, .f32⟩
  | 62 => ⟨S4x2048x768, .f32⟩
  | 63 => ⟨S4x2048x768, .f32⟩
  | 64 => ⟨S_, .f32⟩
  | 65 => ⟨S4x2048x768, .f32⟩
  | 66 => ⟨S4x2048x768, .f32⟩
  | 67 => ⟨S4x2048x768, .f32⟩
  | 68 => ⟨S_, .f32⟩
  | 69 => ⟨S4x2048x768, .f32⟩
  | 70 => ⟨S4x2048x768, .f32⟩
  | 71 => ⟨S4x2048x768, .f32⟩
  | 72 => ⟨S4x2048x768, .f32⟩
  | 73 => ⟨S4x2048x768, .f32⟩
  | 74 => ⟨S4x2048x768, .f32⟩
  | 75 => ⟨S_, .f32⟩
  | 76 => ⟨S4x2048x768, .f32⟩
  | 77 => ⟨S4x2048x768, .f32⟩
  | 78 => ⟨S4x2048x768, .f32⟩
  | 79 => ⟨S_, .f32⟩
  | 80 => ⟨S4x2048x768, .f32⟩
  | 81 => ⟨S4x2048x768, .f32⟩
  | 82 => ⟨S4x2048x768, .f32⟩
  | 83 => ⟨S_, .f32⟩
  | 84 => ⟨S4x2048x768, .f32⟩
  | 85 => ⟨S4x2048x768, .f32⟩
  | 86 => ⟨S4x2048x768, .f32⟩
  | 87 => ⟨S4x2048x768, .f32⟩
  | 88 => ⟨S8192x768, .f32⟩
  | 89 => ⟨S8192x768, .bf16⟩
  | 90 => ⟨S8192x768, .f32⟩
  | 91 => ⟨S8192x768, .bf16⟩
  | 92 => ⟨S128x12, .f32⟩
  | 93 => ⟨S_, .i32⟩
  | 94 => ⟨S_, .f32⟩
  | 95 => ⟨S128x128, .f32⟩
  | 96 => ⟨S1x768, .f32⟩
  | 97 => ⟨S1x768, .f32⟩
  | _ => ⟨S8192x1792, .f32⟩

abbrev hbmTy (i : Nat) : BufTy := match i / 128 with
  | 0 => hbmTy0_0 i
  | 1 => hbmTy0_1 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_v56 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_19 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_20 : Ref sig .tc := ⟨.hbm, 104, rfl⟩
abbrev main_v77 : Ref sig .tc := ⟨.hbm, 105, rfl⟩
abbrev main_call0_v0 : Ref sig .tc := ⟨.hbm, 106, rfl⟩
abbrev main_call0_c : Ref sig .tc := ⟨.hbm, 107, rfl⟩
abbrev main_call0_v1 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_call0_cst : Ref sig .tc := ⟨.hbm, 112, rfl⟩
abbrev main_call0_v5 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_21 : Ref sig .tc := ⟨.hbm, 129, rfl⟩
abbrev main_v93 : Ref sig .tc := ⟨.hbm, 130, rfl⟩
abbrev main_v94 : Ref sig .tc := ⟨.hbm, 131, rfl⟩
abbrev main_cst_22 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_23 : Ref sig .tc := ⟨.hbm, 142, rfl⟩
abbrev main_v104 : Ref sig .tc := ⟨.hbm, 143, rfl⟩
abbrev main_v105 : Ref sig .tc := ⟨.hbm, 144, rfl⟩
abbrev main_cst_24 : Ref sig .tc := ⟨.hbm, 145, rfl⟩
abbrev main_v106 : Ref sig .tc := ⟨.hbm, 146, rfl⟩
abbrev main_v107 : Ref sig .tc := ⟨.hbm, 147, rfl⟩
abbrev main_cst_25 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_26 : Ref sig .tc := ⟨.hbm, 153, rfl⟩
abbrev main_v112 : Ref sig .tc := ⟨.hbm, 154, rfl⟩
abbrev main_v113 : Ref sig .tc := ⟨.hbm, 155, rfl⟩
abbrev main_cst_27 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_28 : Ref sig .tc := ⟨.hbm, 163, rfl⟩
abbrev main_v120 : Ref sig .tc := ⟨.hbm, 164, rfl⟩
abbrev main_v121 : Ref sig .tc := ⟨.hbm, 165, rfl⟩
abbrev main_cst_29 : Ref sig .tc := ⟨.hbm, 166, rfl⟩
abbrev main_v122 : Ref sig .tc := ⟨.hbm, 167, rfl⟩
abbrev main_v123 : Ref sig .tc := ⟨.hbm, 168, rfl⟩
abbrev main_cst_30 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_31 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_32 : Ref sig .tc := ⟨.hbm, 179, rfl⟩
abbrev main_v132 : Ref sig .tc := ⟨.hbm, 180, rfl⟩
abbrev main_v133 : Ref sig .tc := ⟨.hbm, 181, rfl⟩
abbrev main_cst_33 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_34 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_35 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_cst_36 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_37 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_38 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_cst_39 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_c : Ref sig .tc := ⟨.hbm, 221, rfl⟩
abbrev main_call1_v0 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩

abbrev nD : Nat := 1
abbrev τ : Topo := Topo.v7x

variable {F : FTy → Type} [FloatOps F]

def κ : String → Option EReal := fun
  | "c3" => some ((8943 / 200000 : ℝ) : EReal)
  | _ => none
-- ==== MemAtt.lean ====
abbrev S4x2048x1792 : Shape := ⟨3, ![4, 2048, 1792]⟩
abbrev S4x256x512 : Shape := ⟨3, ![4, 256, 512]⟩
abbrev S4x2048x1024 : Shape := ⟨3, ![4, 2048, 1024]⟩
abbrev S4x2048x256 : Shape := ⟨3, ![4, 2048, 256]⟩
abbrev S1x512x256 : Shape := ⟨3, ![1, 512, 256]⟩
abbrev S1x256x512 : Shape := ⟨3, ![1, 256, 512]⟩
abbrev S256x512 : Shape := ⟨2, ![256, 512]⟩
abbrev S512x128 : Shape := ⟨2, ![512, 128]⟩
abbrev S1x512x128 : Shape := ⟨3, ![1, 512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x1792, .f32⟩
  | .hbm, ⟨1, _⟩ => ⟨S4x256x512, .f32⟩
  | .hbm, ⟨2, _⟩ => ⟨S4x2048x1024, .f32⟩
  | .hbm, ⟨3, _⟩ => ⟨S4x2048x256, .bf16⟩
  | .hbm, ⟨4, _⟩ => ⟨S4x256x512, .f32⟩
  | .local _ .vmem, ⟨0, _⟩ => ⟨S1x512x256, .f32⟩
  | .local _ .vmem, ⟨1, _⟩ => ⟨S1x512x256, .f32⟩
  | .local _ .vmem, ⟨2, _⟩ => ⟨S1x256x512, .f32⟩
  | .local _ .vmem, ⟨3, _⟩ => ⟨S1x256x512, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .bf16⟩
  | .local _ .vmem, ⟨7, _⟩ => ⟨S1x512x256, .bf16⟩
  | .local _ .vmem, ⟨8, _⟩ => ⟨S1x256x512, .f32⟩
  | .local _ .vmem, ⟨9, _⟩ => ⟨S1x256x512, .f32⟩
  | _, _ => ⟨S4x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MemAttRefIdeal.lean ====
abbrev S4x2048x1792 : Shape := ⟨3, ![4, 2048, 1792]⟩
abbrev S4x256x512 : Shape := ⟨3, ![4, 256, 512]⟩
abbrev S4x2048x1024 : Shape := ⟨3, ![4, 2048, 1024]⟩
abbrev S4x2048x256 : Shape := ⟨3, ![4, 2048, 256]⟩
abbrev S4x256x256 : Shape := ⟨3, ![4, 256, 256]⟩
abbrev S4x256x4x64 : Shape := ⟨4, ![4, 256, 4, 64]⟩
abbrev S4x2048x4x64 : Shape := ⟨4, ![4, 2048, 4, 64]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩
abbrev S4x4x64x256 : Shape := ⟨4, ![4, 4, 64, 256]⟩
abbrev S4x4x256x64 : Shape := ⟨4, ![4, 4, 256, 64]⟩
abbrev S4x4x2048x64 : Shape := ⟨4, ![4, 4, 2048, 64]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x1792, .f32⟩
  | .hbm, ⟨1, _⟩ => ⟨S4x256x512, .f32⟩
  | .hbm, ⟨2, _⟩ => ⟨S4x2048x1024, .f32⟩
  | .hbm, ⟨3, _⟩ => ⟨S4x2048x256, .f32⟩
  | .hbm, ⟨4, _⟩ => ⟨S4x256x256, .f32⟩
  | .hbm, ⟨5, _⟩ => ⟨S4x256x256, .f32⟩
  | .hbm, ⟨6, _⟩ => ⟨S4x256x4x64, .f32⟩
  | .hbm, ⟨7, _⟩ => ⟨S4x256x4x64, .f32⟩
  | .hbm, ⟨8, _⟩ => ⟨S4x2048x4x64, .f32⟩
  | .hbm, ⟨9, _⟩ => ⟨S4x4x2048x256, .f32⟩
  | .hbm, ⟨10, _⟩ => ⟨S_, .f32⟩
  | .hbm, ⟨11, _⟩ => ⟨S4x4x2048x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S4x4x2048x1, .f32⟩
  | .hbm, ⟨16, _⟩ => ⟨S4x4x2048x256, .f32⟩
  | .hbm, ⟨17, _⟩ => ⟨S4x4x2048x256, .i1⟩
  | .hbm, ⟨18, _⟩ => ⟨S4x4x2048x256, .f32⟩
  | .hbm, ⟨19, _⟩ => ⟨S_, .f32⟩
  | .hbm, ⟨20, _⟩ => ⟨S4x4x2048, .f32⟩
  | .hbm, ⟨21, _⟩ => ⟨S_, .f32⟩
  | .hbm, ⟨22, _⟩ => ⟨S4x4x2048, .f32⟩
  | .hbm, ⟨23, _⟩ => ⟨S4x4x2048, .f32⟩
  | .hbm, ⟨24, _⟩ => ⟨S_, .f32⟩
  | .hbm, ⟨25, _⟩ => ⟨S4x4x2048, .f32⟩
  | .hbm, ⟨26, _⟩ => ⟨S4x4x2048, .i1⟩
  | .hbm, ⟨27, _⟩ => ⟨S_, .f32⟩
  | .hbm, ⟨28, _⟩ => ⟨S4x4x2048, .f32⟩
  | .hbm, ⟨29, _⟩ => ⟨S4x4x2048, .i1⟩
  | .hbm, ⟨30, _⟩ => ⟨S_, .f32⟩
  | .hbm, ⟨31, _⟩ => ⟨S4x4x2048, .f32⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S4x4x2048, .f32⟩
  | .hbm, ⟨37, _⟩ => ⟨S4x4x2048, .f32⟩
  | .hbm, ⟨38, _⟩ => ⟨S4x4x2048x1, .f32⟩
  | .hbm, ⟨39, _⟩ => ⟨S4x4x2048x256, .f32⟩
  | .hbm, ⟨40, _⟩ => ⟨S4x4x2048x256, .f32⟩
  | .hbm, ⟨41, _⟩ => ⟨S4x4x2048x256, .f32⟩
  | .hbm, ⟨42, _⟩ => ⟨S_, .f32⟩
  | .hbm, ⟨43, _⟩ => ⟨S4x4x2048, .f32⟩
  | .hbm, ⟨44, _⟩ => ⟨S4x4x2048x1, .f32⟩
  | .hbm, ⟨45, _⟩ => ⟨S4x4x2048x256, .f32⟩
  | .hbm, ⟨46, _⟩ => ⟨S4x4x2048x256, .f32⟩
  | .hbm, ⟨47, _⟩ => ⟨S4x4x2048x1, .f32⟩
  | .hbm, ⟨48, _⟩ => ⟨S_, .f32⟩
  | .hbm, ⟨49, _⟩ => ⟨S4x4x2048x1, .f32⟩
  | .hbm, ⟨50, _⟩ => ⟨S4x4x2048x1, .f32⟩
  | .hbm, ⟨51, _⟩ => ⟨S4x4x64x2048, .f32⟩
  | .hbm, ⟨52, _⟩ => ⟨S4x2048x4x64, .f32⟩
  | .hbm, ⟨53, _⟩ => ⟨S4x2048x256, .f32⟩
  | .hbm, ⟨54, _⟩ => ⟨S4x2048x256, .f32⟩
  | .hbm, ⟨55, _⟩ => ⟨S4x2048x4x64, .f32⟩
  | .hbm, ⟨56, _⟩ => ⟨S4x4x64x2048, .f32⟩
  | .hbm, ⟨57, _⟩ => ⟨S4x4x2048x256, .f32⟩
  | .hbm, ⟨58, _⟩ => ⟨S4x4x64x256, .f32⟩
  | .hbm, ⟨59, _⟩ => ⟨S4x256x4x64, .f32⟩
  | .hbm, ⟨60, _⟩ => ⟨S4x4x2048x256, .f32⟩
  | .hbm, ⟨61, _⟩ => ⟨S4x4x2048x256, .f32⟩
  | .hbm, ⟨62, _⟩ => ⟨S4x4x2048x256, .f32⟩
  | .hbm, ⟨63, _⟩ => ⟨S_, .f32⟩
  | .hbm, ⟨64, _⟩ => ⟨S4x4x2048, .f32⟩
  | .hbm, ⟨65, _⟩ => ⟨S4x4x2048x1, .f32⟩
  | .hbm, ⟨66, _⟩ => ⟨S4x4x2048x1, .f32⟩
  | .hbm, ⟨67, _⟩ => ⟨S4x4x2048x256, .f32⟩
  | .hbm, ⟨68, _⟩ => ⟨S4x4x2048x256, .f32⟩
  | .hbm, ⟨69, _⟩ => ⟨S_, .f32⟩
  | .hbm, ⟨70, _⟩ => ⟨S4x4x2048, .f32⟩
  | .hbm, ⟨71, _⟩ => ⟨S4x4x2048x256, .f32⟩
  | .hbm, ⟨72, _⟩ => ⟨S4x4x2048x256, .f32⟩
  | .hbm, ⟨73, _⟩ => ⟨S4x4x2048x256, .f32⟩
  | .hbm, ⟨74, _⟩ => ⟨S_, .f32⟩
  | .hbm, ⟨75, _⟩ => ⟨S4x4x2048x256, .f32⟩
  | .hbm, ⟨76, _⟩ => ⟨S4x4x2048x256, .f32⟩
  | .hbm, ⟨77, _⟩ => ⟨S4x4x256x64, .f32⟩
  | .hbm, ⟨78, _⟩ => ⟨S4x256x4x64, .f32⟩
  | .hbm, ⟨79, _⟩ => ⟨S4x4x2048x64, .f32⟩
  | .hbm, ⟨80, _⟩ => ⟨S4x2048x4x64, .f32⟩
  | .hbm, ⟨81, _⟩ => ⟨S4x2048x256, .f32⟩
  | .hbm, ⟨82, _⟩ => ⟨S4x256x256, .f32⟩
  | .hbm, ⟨83, _⟩ => ⟨S4x256x256, .f32⟩
  | .hbm, ⟨84, _⟩ => ⟨S4x256x512, .f32⟩
  | .hbm, ⟨85, _⟩ => ⟨S4x2048x256, .bf16⟩
  | _, _ => ⟨S4x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== FfnIn.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnInRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2816 : Shape := ⟨2, ![1024, 2816]⟩

abbrev nBuf : Space → Nat
  | .hbm => 110
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S2816x1024, .f32⟩
  | .hbm, ⟨46, _⟩ => ⟨S1024x2816, .f32⟩
  | .hbm, ⟨47, _⟩ => ⟨S8192x2816, .f32⟩
  | .hbm, ⟨48, _⟩ => ⟨S2816x1024, .f32⟩
  | .hbm, ⟨49, _⟩ => ⟨S1024x2816, .f32⟩
  | .hbm, ⟨50, _⟩ => ⟨S8192x2816, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x2816, .f32⟩
  | .hbm, ⟨55, _⟩ => ⟨S8192x2816, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S8192x1024, .f32⟩
  | .hbm, ⟨99, _⟩ => ⟨S8192x1, .f32⟩
  | .hbm, ⟨100, _⟩ => ⟨S_, .f32⟩
  | .hbm, ⟨101, _⟩ => ⟨S8192x1, .f32⟩
  | .hbm, ⟨102, _⟩ => ⟨S8192x1, .f32⟩
  | .hbm, ⟨103, _⟩ => ⟨S_, .f32⟩
  | .hbm, ⟨104, _⟩ => ⟨S8192, .f32⟩
  | .hbm, ⟨105, _⟩ => ⟨S8192x1024, .f32⟩
  | .hbm, ⟨106, _⟩ => ⟨S8192x1024, .f32⟩
  | .hbm, ⟨107, _⟩ => ⟨S8192x1024, .bf16⟩
  | .hbm, ⟨108, _⟩ => ⟨S1x1024, .f32⟩
  | .hbm, ⟨109, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_18 : Ref sig .tc := ⟨.hbm, 100, rfl⟩
abbrev main_v74 : Ref sig .tc := ⟨.hbm, 101, rfl⟩
abbrev main_v75 : Ref sig .tc := ⟨.hbm, 102, rfl⟩
abbrev main_cst_19 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]
-- ==== Gate.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 30
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | .hbm, ⟨28, _⟩ => ⟨S8192x2816, .bf16⟩
  | .hbm, ⟨29, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S2816x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .bf16⟩
  | .hbm, ⟨29, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Down.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S8192x1024, .f32⟩
  | .hbm, ⟨8, _⟩ => ⟨S2816x1024, .f32⟩
  | .hbm, ⟨9, _⟩ => ⟨S1024x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .bf16⟩
  | .hbm, ⟨34, _⟩ => ⟨S8192x2816, .bf16⟩
  | .hbm, ⟨35, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v8_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v8_1 : Ref sig .tc := ⟨.hbm, 22, rfl⟩
abbrev main_v8_0 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Norm.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== NormRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S2816x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== OutW.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutB.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InWA.lean ====
abbrev S8192x2560 : Shape := ⟨2, ![8192, 2560]⟩
abbrev S8192x1024 : Shape := ⟨2, ![8192, 1024]⟩
abbrev S2560x1024 : Shape := ⟨2, ![2560, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S2560x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWAIdeal.lean ====
abbrev S8192x2560 : Shape := ⟨2, ![8192, 2560]⟩
abbrev S8192x1024 : Shape := ⟨2, ![8192, 1024]⟩
abbrev S2560x1024 : Shape := ⟨2, ![2560, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S2560x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWARefIdeal.lean ====
abbrev S8192x2560 : Shape := ⟨2, ![8192, 2560]⟩
abbrev S8192x1024 : Shape := ⟨2, ![8192, 1024]⟩
abbrev S_ : Shape := ⟨0, ![]⟩
abbrev S2560x1024 : Shape := ⟨2, ![2560, 1024]⟩
abbrev S1024x2560 : Shape := ⟨2, ![1024, 2560]⟩

abbrev nBuf : Space → Nat
  | .hbm => 11
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S_, .f32⟩
  | .hbm, ⟨3, _⟩ => ⟨S2560x1024, .f32⟩
  | .hbm, ⟨4, _⟩ => ⟨S8192x1024, .f32⟩
  | .hbm, ⟨5, _⟩ => ⟨S1024x2560, .f32⟩
  | .hbm, ⟨6, _⟩ => ⟨S8192x2560, .f32⟩
  | .hbm, ⟨7, _⟩ => ⟨S8192x2560, .f32⟩
  | .hbm, ⟨8, _⟩ => ⟨S2560x1024, .f32⟩
  | .hbm, ⟨9, _⟩ => ⟨S1024x2560, .f32⟩
  | .hbm, ⟨10, _⟩ => ⟨S2560x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InWB.lean ====
abbrev S8192x1792 : Shape := ⟨2, ![8192, 1792]⟩
abbrev S8192x1024 : Shape := ⟨2, ![8192, 1024]⟩
abbrev S1792x1024 : Shape := ⟨2, ![1792, 1024]⟩
abbrev S1024x896 : Shape := ⟨2, ![1024, 896]⟩
abbrev S1024x1024 : Shape := ⟨2, ![1024, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S1792x1024, .f32⟩
  | .local _ .vmem, ⟨0, _⟩ => ⟨S1024x896, .bf16⟩
  | .local _ .vmem, ⟨1, _⟩ => ⟨S1024x896, .bf16⟩
  | .local _ .vmem, ⟨2, _⟩ => ⟨S1024x1024, .bf16⟩
  | .local _ .vmem, ⟨3, _⟩ => ⟨S1024x1024, .bf16⟩
  | .local _ .vmem, ⟨4, _⟩ => ⟨S896x1024, .f32⟩
  | .local _ .vmem, ⟨5, _⟩ => ⟨S896x1024, .f32⟩
  | .local _ .vmem, ⟨6, _⟩ => ⟨S896x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWBIdeal.lean ====
abbrev S8192x1792 : Shape := ⟨2, ![8192, 1792]⟩
abbrev S8192x1024 : Shape := ⟨2, ![8192, 1024]⟩
abbrev S1792x1024 : Shape := ⟨2, ![1792, 1024]⟩
abbrev S1024x896 : Shape := ⟨2, ![1024, 896]⟩
abbrev S1024x1024 : Shape := ⟨2, ![1024, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S1792x1024, .f32⟩
  | .local _ .vmem, ⟨0, _⟩ => ⟨S1024x896, .bf16⟩
  | .local _ .vmem, ⟨1, _⟩ => ⟨S1024x896, .bf16⟩
  | .local _ .vmem, ⟨2, _⟩ => ⟨S1024x1024, .bf16⟩
  | .local _ .vmem, ⟨3, _⟩ => ⟨S1024x1024, .bf16⟩
  | .local _ .vmem, ⟨4, _⟩ => ⟨S896x1024, .f32⟩
  | .local _ .vmem, ⟨5, _⟩ => ⟨S896x1024, .f32⟩
  | .local _ .vmem, ⟨6, _⟩ => ⟨S896x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWBRefIdeal.lean ====
abbrev S8192x1792 : Shape := ⟨2, ![8192, 1792]⟩
abbrev S8192x1024 : Shape := ⟨2, ![8192, 1024]⟩
abbrev S_ : Shape := ⟨0, ![]⟩
abbrev S1792x1024 : Shape := ⟨2, ![1792, 1024]⟩
abbrev S1024x1792 : Shape := ⟨2, ![1024, 1792]⟩

abbrev nBuf : Space → Nat
  | .hbm => 11
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S_, .f32⟩
  | .hbm, ⟨3, _⟩ => ⟨S1792x1024, .f32⟩
  | .hbm, ⟨4, _⟩ => ⟨S8192x1024, .f32⟩
  | .hbm, ⟨5, _⟩ => ⟨S1024x1792, .f32⟩
  | .hbm, ⟨6, _⟩ => ⟨S8192x1792, .f32⟩
  | .hbm, ⟨7, _⟩ => ⟨S8192x1792, .f32⟩
  | .hbm, ⟨8, _⟩ => ⟨S1792x1024, .f32⟩
  | .hbm, ⟨9, _⟩ => ⟨S1024x1792, .f32⟩
  | .hbm, ⟨10, _⟩ => ⟨S1792x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InA.lean ====
abbrev S8192x2560 : Shape := ⟨2, ![8192, 2560]⟩
abbrev S2560x1024 : Shape := ⟨2, ![2560, 1024]⟩
abbrev S8192x1024 : Shape := ⟨2, ![8192, 1024]⟩
abbrev S1024 : Shape := ⟨1, ![1024]⟩
abbrev S1x1024 : Shape := ⟨2, ![1, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x2560, .bf16⟩
  | .hbm, ⟨1, _⟩ => ⟨S2560x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InAIdeal.lean ====
abbrev S8192x2560 : Shape := ⟨2, ![8192, 2560]⟩
abbrev S2560x1024 : Shape := ⟨2, ![2560, 1024]⟩
abbrev S8192x1024 : Shape := ⟨2, ![8192, 1024]⟩
abbrev S1024 : Shape := ⟨1, ![1024]⟩
abbrev S1x1024 : Shape := ⟨2, ![1, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x2560, .bf16⟩
  | .hbm, ⟨1, _⟩ => ⟨S2560x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InARefIdeal.lean ====
abbrev S8192x2560 : Shape := ⟨2, ![8192, 2560]⟩
abbrev S2560x1024 : Shape := ⟨2, ![2560, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2560 : Shape := ⟨2, ![1024, 2560]⟩

abbrev nBuf : Space → Nat
  | .hbm => 102
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S2560x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S2560x1024, .f32⟩
  | .hbm, ⟨44, _⟩ => ⟨S1024x2560, .f32⟩
  | .hbm, ⟨45, _⟩ => ⟨S8192x2560, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x2560, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .bf16⟩
  | .hbm, ⟨100, _⟩ => ⟨S1x1024, .f32⟩
  | .hbm, ⟨101, _⟩ => ⟨S1x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_18 : Ref sig .tc := ⟨.hbm, 92, rfl⟩
abbrev main_v68 : Ref sig .tc := ⟨.hbm, 93, rfl⟩
abbrev main_v69 : Ref sig .tc := ⟨.hbm, 94, rfl⟩
abbrev main_cst_19 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== InB.lean ====
abbrev S8192x1792 : Shape := ⟨2, ![8192, 1792]⟩
abbrev S1792x1024 : Shape := ⟨2, ![1792, 1024]⟩
abbrev S8192x1024 : Shape := ⟨2, ![8192, 1024]⟩
abbrev S1024 : Shape := ⟨1, ![1024]⟩
abbrev S1x1024 : Shape := ⟨2, ![1, 1024]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x1792, .bf16⟩
  | .hbm, ⟨1, _⟩ => ⟨S1792x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1792x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InBRefIdeal.lean ====
abbrev S8192x1792 : Shape := ⟨2, ![8192, 1792]⟩
abbrev S1792x1024 : Shape := ⟨2, ![1792, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1792 : Shape := ⟨2, ![1024, 1792]⟩

abbrev nBuf : Space → Nat
  | .hbm => 102
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S1792x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1792x1024, .f32⟩
  | .hbm, ⟨44, _⟩ => ⟨S1024x1792, .f32⟩
  | .hbm, ⟨45, _⟩ => ⟨S8192x1792, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1792, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .bf16⟩
  | .hbm, ⟨100, _⟩ => ⟨S1x1024, .f32⟩
  | .hbm, ⟨101, _⟩ => ⟨S1x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_18 : Ref sig .tc := ⟨.hbm, 92, rfl⟩
abbrev main_v68 : Ref sig .tc := ⟨.hbm, 93, rfl⟩
abbrev main_v69 : Ref sig .tc := ⟨.hbm, 94, rfl⟩
abbrev main_cst_19 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== InX.lean ====
abbrev S8192x2560 : Shape := ⟨2, ![8192, 2560]⟩
abbrev S2560x1024 : Shape := ⟨2, ![2560, 1024]⟩
abbrev S8192x1024 : Shape := ⟨2, ![8192, 1024]⟩
abbrev S512x2560 : Shape := ⟨2, ![512, 2560]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2560, .bf16⟩
  | .hbm, ⟨1, _⟩ => ⟨S2560x1024, .bf16⟩
  | .hbm, ⟨2, _⟩ => ⟨S8192x1024, .f32⟩
  | .hbm, ⟨3, _⟩ => ⟨S8192x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InXRefIdeal.lean ====
abbrev S8192x2560 : Shape := ⟨2, ![8192, 2560]⟩
abbrev S2560x1024 : Shape := ⟨2, ![2560, 1024]⟩
abbrev S8192x1024 : Shape := ⟨2, ![8192, 1024]⟩
abbrev S_ : Shape := ⟨0, ![]⟩
abbrev S1024x2560 : Shape := ⟨2, ![1024, 2560]⟩

abbrev nBuf : Space → Nat
  | .hbm => 17
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S2560x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S2560x1024, .f32⟩
  | .hbm, ⟨6, _⟩ => ⟨S1024x2560, .f32⟩
  | .hbm, ⟨7, _⟩ => ⟨S8192x2560, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x2560, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== ProjA.lean ====
abbrev S8192x1024 : Shape := ⟨2, ![8192, 1024]⟩
abbrev S2560x1024 : Shape := ⟨2, ![2560, 1024]⟩
abbrev S8192x2560 : Shape := ⟨2, ![8192, 2560]⟩
abbrev S512x1024 : Shape := ⟨2, ![512, 1024]⟩
abbrev S512x2560 : Shape := ⟨2, ![512, 2560]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2560x1024, .bf16⟩
  | .hbm, ⟨2, _⟩ => ⟨S8192x2560, .f32⟩
  | .local _ .vmem, ⟨0, _⟩ => ⟨S512x1024, .bf16⟩
  | .local _ .vmem, ⟨1, _⟩ => ⟨S512x1024, .bf16⟩
  | .local _ .vmem, ⟨2, _⟩ => ⟨S2560x1024, .bf16⟩
  | .local _ .vmem, ⟨3, _⟩ => ⟨S512x2560, .f32⟩
  | .local _ .vmem, ⟨4, _⟩ => ⟨S512x2560, .f32⟩
  | .local _ .vmem, ⟨5, _⟩ => ⟨S512x2560, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAIdeal.lean ====
abbrev S8192x1024 : Shape := ⟨2, ![8192, 1024]⟩
abbrev S2560x1024 : Shape := ⟨2, ![2560, 1024]⟩
abbrev S8192x2560 : Shape := ⟨2, ![8192, 2560]⟩
abbrev S512x1024 : Shape := ⟨2, ![512, 1024]⟩
abbrev S512x2560 : Shape := ⟨2, ![512, 2560]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2560x1024, .bf16⟩
  | .hbm, ⟨2, _⟩ => ⟨S8192x2560, .f32⟩
  | .local _ .vmem, ⟨0, _⟩ => ⟨S512x1024, .bf16⟩
  | .local _ .vmem, ⟨1, _⟩ => ⟨S512x1024, .bf16⟩
  | .local _ .vmem, ⟨2, _⟩ => ⟨S2560x1024, .bf16⟩
  | .local _ .vmem, ⟨3, _⟩ => ⟨S512x2560, .f32⟩
  | .local _ .vmem, ⟨4, _⟩ => ⟨S512x2560, .f32⟩
  | .local _ .vmem, ⟨5, _⟩ => ⟨S512x2560, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjARefIdeal.lean ====
abbrev S8192x1024 : Shape := ⟨2, ![8192, 1024]⟩
abbrev S2560x1024 : Shape := ⟨2, ![2560, 1024]⟩
abbrev S1024x2560 : Shape := ⟨2, ![1024, 2560]⟩
abbrev S8192x2560 : Shape := ⟨2, ![8192, 2560]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2560x1024, .bf16⟩
  | .hbm, ⟨2, _⟩ => ⟨S8192x1024, .f32⟩
  | .hbm, ⟨3, _⟩ => ⟨S2560x1024, .f32⟩
  | .hbm, ⟨4, _⟩ => ⟨S1024x2560, .f32⟩
  | .hbm, ⟨5, _⟩ => ⟨S8192x2560, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjB.lean ====
abbrev S8192x1024 : Shape := ⟨2, ![8192, 1024]⟩
abbrev S1792x1024 : Shape := ⟨2, ![1792, 1024]⟩
abbrev S8192x1792 : Shape := ⟨2, ![8192, 1792]⟩
abbrev S512x1024 : Shape := ⟨2, ![512, 1024]⟩
abbrev S512x1792 : Shape := ⟨2, ![512, 1792]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1792x1024, .bf16⟩
  | .hbm, ⟨2, _⟩ => ⟨S8192x1792, .f32⟩
  | .local _ .vmem, ⟨0, _⟩ => ⟨S512x1024, .bf16⟩
  | .local _ .vmem, ⟨1, _⟩ => ⟨S512x1024, .bf16⟩
  | .local _ .vmem, ⟨2, _⟩ => ⟨S1792x1024, .bf16⟩
  | .local _ .vmem, ⟨3, _⟩ => ⟨S512x1792, .f32⟩
  | .local _ .vmem, ⟨4, _⟩ => ⟨S512x1792, .f32⟩
  | .local _ .vmem, ⟨5, _⟩ => ⟨S512x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBIdeal.lean ====
abbrev S8192x1024 : Shape := ⟨2, ![8192, 1024]⟩
abbrev S1792x1024 : Shape := ⟨2, ![1792, 1024]⟩
abbrev S8192x1792 : Shape := ⟨2, ![8192, 1792]⟩
abbrev S512x1024 : Shape := ⟨2, ![512, 1024]⟩
abbrev S512x1792 : Shape := ⟨2, ![512, 1792]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1792x1024, .bf16⟩
  | .hbm, ⟨2, _⟩ => ⟨S8192x1792, .f32⟩
  | .local _ .vmem, ⟨0, _⟩ => ⟨S512x1024, .bf16⟩
  | .local _ .vmem, ⟨1, _⟩ => ⟨S512x1024, .bf16⟩
  | .local _ .vmem, ⟨2, _⟩ => ⟨S1792x1024, .bf16⟩
  | .local _ .vmem, ⟨3, _⟩ => ⟨S512x1792, .f32⟩
  | .local _ .vmem, ⟨4, _⟩ => ⟨S512x1792, .f32⟩
  | .local _ .vmem, ⟨5, _⟩ => ⟨S512x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBRefIdeal.lean ====
abbrev S8192x1024 : Shape := ⟨2, ![8192, 1024]⟩
abbrev S1792x1024 : Shape := ⟨2, ![1792, 1024]⟩
abbrev S1024x1792 : Shape := ⟨2, ![1024, 1792]⟩
abbrev S8192x1792 : Shape := ⟨2, ![8192, 1792]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1792x1024, .bf16⟩
  | .hbm, ⟨2, _⟩ => ⟨S8192x1024, .f32⟩
  | .hbm, ⟨3, _⟩ => ⟨S1792x1024, .f32⟩
  | .hbm, ⟨4, _⟩ => ⟨S1024x1792, .f32⟩
  | .hbm, ⟨5, _⟩ => ⟨S8192x1792, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutN.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== OutNRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== ProjX.lean ====
abbrev S8192x1024 : Shape := ⟨2, ![8192, 1024]⟩
abbrev S2560x1024 : Shape := ⟨2, ![2560, 1024]⟩
abbrev S8192x2560 : Shape := ⟨2, ![8192, 2560]⟩
abbrev S512x1024 : Shape := ⟨2, ![512, 1024]⟩
abbrev S512x2560 : Shape := ⟨2, ![512, 2560]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2560x1024, .bf16⟩
  | .hbm, ⟨2, _⟩ => ⟨S8192x2560, .f32⟩
  | .local _ .vmem, ⟨0, _⟩ => ⟨S512x1024, .f32⟩
  | .local _ .vmem, ⟨1, _⟩ => ⟨S512x1024, .f32⟩
  | .local _ .vmem, ⟨2, _⟩ => ⟨S2560x1024, .bf16⟩
  | .local _ .vmem, ⟨3, _⟩ => ⟨S512x2560, .f32⟩
  | .local _ .vmem, ⟨4, _⟩ => ⟨S512x2560, .f32⟩
  | .local _ .vmem, ⟨5, _⟩ => ⟨S512x2560, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjXRefIdeal.lean ====
abbrev S8192x1024 : Shape := ⟨2, ![8192, 1024]⟩
abbrev S2560x1024 : Shape := ⟨2, ![2560, 1024]⟩
abbrev S1024x2560 : Shape := ⟨2, ![1024, 2560]⟩
abbrev S8192x2560 : Shape := ⟨2, ![8192, 2560]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2560x1024, .bf16⟩
  | .hbm, ⟨2, _⟩ => ⟨S2560x1024, .f32⟩
  | .hbm, ⟨3, _⟩ => ⟨S1024x2560, .f32⟩
  | .hbm, ⟨4, _⟩ => ⟨S8192x2560, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InWX.lean ====
abbrev S8192x2560 : Shape := ⟨2, ![8192, 2560]⟩
abbrev S8192x1024 : Shape := ⟨2, ![8192, 1024]⟩
abbrev S2560x1024 : Shape := ⟨2, ![2560, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .f32⟩
  | .hbm, ⟨2, _⟩ => ⟨S2560x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1024, .f32⟩
  | .local _ .vmem, ⟨3, _⟩ => ⟨S1024x1024, .f32⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWXRefIdeal.lean ====
abbrev S8192x2560 : Shape := ⟨2, ![8192, 2560]⟩
abbrev S8192x1024 : Shape := ⟨2, ![8192, 1024]⟩
abbrev S_ : Shape := ⟨0, ![]⟩
abbrev S2560x1024 : Shape := ⟨2, ![2560, 1024]⟩
abbrev S1024x2560 : Shape := ⟨2, ![1024, 2560]⟩

abbrev nBuf : Space → Nat
  | .hbm => 10
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .f32⟩
  | .hbm, ⟨2, _⟩ => ⟨S_, .f32⟩
  | .hbm, ⟨3, _⟩ => ⟨S2560x1024, .f32⟩
  | .hbm, ⟨4, _⟩ => ⟨S1024x2560, .f32⟩
  | .hbm, ⟨5, _⟩ => ⟨S8192x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S2560x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MkvF.lean ====
abbrev S1024x1024 : Shape := ⟨2, ![1024, 1024]⟩
abbrev S1024x512 : Shape := ⟨2, ![1024, 512]⟩

abbrev nBuf : Space → Nat
  | .hbm => 3
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S1024x512, .bf16⟩
  | .hbm, ⟨2, _⟩ => ⟨S1024x512, .f32⟩
  | .local _ .vmem, ⟨0, _⟩ => ⟨S1024x1024, .f32⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MkvFRefIdeal.lean ====
abbrev S1024x1024 : Shape := ⟨2, ![1024, 1024]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x512, .bf16⟩
  | .hbm, ⟨2, _⟩ => ⟨S1024x512, .f32⟩
  | .hbm, ⟨3, _⟩ => ⟨S1024x512, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MkvW.lean ====
abbrev S1024x1024 : Shape := ⟨2, ![1024, 1024]⟩
abbrev S1024x512 : Shape := ⟨2, ![1024, 512]⟩

abbrev nBuf : Space → Nat
  | .hbm => 3
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S1024x512, .f32⟩
  | .hbm, ⟨2, _⟩ => ⟨S1024x512, .f32⟩
  | .local _ .vmem, ⟨0, _⟩ => ⟨S1024x1024, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MkvWRefIdeal.lean ====
abbrev S1024x1024 : Shape := ⟨2, ![1024, 1024]⟩
abbrev S1024x512 : Shape := ⟨2, ![1024, 512]⟩
abbrev S_ : Shape := ⟨0, ![]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x512, .f32⟩
  | .hbm, ⟨2, _⟩ => ⟨S_, .f32⟩
  | .hbm, ⟨3, _⟩ => ⟨S1024x512, .f32⟩
  | .hbm, ⟨4, _⟩ => ⟨S1024x512, .f32⟩
  | .hbm, ⟨5, _⟩ => ⟨S512x1024, .f32⟩
  | .hbm, ⟨6, _⟩ => ⟨S1024x512, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8x128, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 114
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S8192, .f32⟩
  | .hbm, ⟨100, _⟩ => ⟨S8192x1, .f32⟩
  | .hbm, ⟨101, _⟩ => ⟨S8192x1024, .f32⟩
  | .hbm, ⟨102, _⟩ => ⟨S8192x1, .f32⟩
  | .hbm, ⟨103, _⟩ => ⟨S_, .f32⟩
  | .hbm, ⟨104, _⟩ => ⟨S8192x1, .f32⟩
  | .hbm, ⟨105, _⟩ => ⟨S8192x1, .f32⟩
  | .hbm, ⟨106, _⟩ => ⟨S_, .f32⟩
  | .hbm, ⟨107, _⟩ => ⟨S8192, .f32⟩
  | .hbm, ⟨108, _⟩ => ⟨S8192x1024, .f32⟩
  | .hbm, ⟨109, _⟩ => ⟨S8192x1024, .f32⟩
  | .hbm, ⟨110, _⟩ => ⟨S8x128, .f32⟩
  | .hbm, ⟨111, _⟩ => ⟨S8192x1024, .bf16⟩
  | .hbm, ⟨112, _⟩ => ⟨S1x1024, .f32⟩
  | .hbm, ⟨113, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_cst_5 : Ref sig .tc := ⟨.hbm, 19, rfl⟩
abbrev main_v9 : Ref sig .tc := ⟨.hbm, 20, rfl⟩
abbrev main_v10 : Ref sig .tc := ⟨.hbm, 21, rfl⟩
abbrev main_cst_6 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_7 : Ref sig .tc := ⟨.hbm, 27, rfl⟩
abbrev main_v15 : Ref sig .tc := ⟨.hbm, 28, rfl⟩
abbrev main_cst_8 : Ref sig .tc := ⟨.hbm, 29, rfl⟩
abbrev main_v16 : Ref sig .tc := ⟨.hbm, 30, rfl⟩
abbrev main_v17 : Ref sig .tc := ⟨.hbm, 31, rfl⟩
abbrev main_cst_9 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_10 : Ref sig .tc := ⟨.hbm, 38, rfl⟩
abbrev main_v23 : Ref sig .tc := ⟨.hbm, 39, rfl⟩
abbrev main_v24 : Ref sig .tc := ⟨.hbm, 40, rfl⟩
abbrev main_cst_11 : Ref sig .tc := ⟨.hbm, 41, rfl⟩
abbrev main_v25 : Ref sig .tc := ⟨.hbm, 42, rfl⟩
abbrev main_v26 : Ref sig .tc := ⟨.hbm, 43, rfl⟩
abbrev main_cst_12 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_13 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_14 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_cst_17 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_18 : Ref sig .tc := ⟨.hbm, 77, rfl⟩
abbrev main_v54 : Ref sig .tc := ⟨.hbm, 78, rfl⟩
abbrev main_v55 : Ref sig .tc := ⟨.hbm, 79, rfl⟩
abbrev main_cst_19 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_v62 : Ref sig .tc := ⟨.hbm, 88, rfl⟩
abbrev main_v63 : Ref sig .tc := ⟨.hbm, 89, rfl⟩
abbrev main_cst_21 : Ref sig .tc := ⟨.hbm, 90, rfl⟩
abbrev main_v64 : Ref sig .tc := ⟨.hbm, 91, rfl⟩
abbrev main_v65 : Ref sig .tc := ⟨.hbm, 92, rfl⟩
abbrev main_cst_22 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_23 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_24 : Ref sig .tc := ⟨.hbm, 103, rfl⟩
abbrev main_v74 : Ref sig .tc := ⟨.hbm, 104, rfl⟩
abbrev main_v75 : Ref sig .tc := ⟨.hbm, 105, rfl⟩
abbrev main_cst_25 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]
-- ==== MemF.lean ====
abbrev S4x2048x1792 : Shape := ⟨3, ![4, 2048, 1792]⟩
abbrev S4x256x512 : Shape := ⟨3, ![4, 256, 512]⟩
abbrev S4x2048x256 : Shape := ⟨3, ![4, 2048, 256]⟩
abbrev S1x512x256 : Shape := ⟨3, ![1, 512, 256]⟩
abbrev S1x256x512 : Shape := ⟨3, ![1, 256, 512]⟩
abbrev S512x128 : Shape := ⟨2, ![512, 128]⟩
abbrev S1x512x128 : Shape := ⟨3, ![1, 512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x1792, .f32⟩
  | .hbm, ⟨1, _⟩ => ⟨S4x256x512, .f32⟩
  | .hbm, ⟨2, _⟩ => ⟨S4x2048x256, .bf16⟩
  | .local _ .vmem, ⟨0, _⟩ => ⟨S1x512x256, .f32⟩
  | .local _ .vmem, ⟨1, _⟩ => ⟨S1x512x256, .f32⟩
  | .local _ .vmem, ⟨2, _⟩ => ⟨S1x256x512, .f32⟩
  | .local _ .vmem, ⟨3, _⟩ => ⟨S1x256x512, .f32⟩
  | .local _ .vmem, ⟨4, _⟩ => ⟨S1x512x256, .bf16⟩
  | .local _ .vmem, ⟨5, _⟩ => ⟨S1x512x256, .bf16⟩
  | _, _ => ⟨S4x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemFRefIdeal.lean ====
abbrev S4x2048x1792 : Shape := ⟨3, ![4, 2048, 1792]⟩
abbrev S4x256x512 : Shape := ⟨3, ![4, 256, 512]⟩
abbrev S4x256x256 : Shape := ⟨3, ![4, 256, 256]⟩
abbrev S4x256x4x64 : Shape := ⟨4, ![4, 256, 4, 64]⟩
abbrev S4x2048x256 : Shape := ⟨3, ![4, 2048, 256]⟩
abbrev S4x2048x4x64 : Shape := ⟨4, ![4, 2048, 4, 64]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1792, .f32⟩
  | .hbm, ⟨1, _⟩ => ⟨S4x256x512, .f32⟩
  | .hbm, ⟨2, _⟩ => ⟨S4x256x256, .f32⟩
  | .hbm, ⟨3, _⟩ => ⟨S4x256x256, .f32⟩
  | .hbm, ⟨4, _⟩ => ⟨S4x256x4x64, .f32⟩
  | .hbm, ⟨5, _⟩ => ⟨S4x256x4x64, .f32⟩
  | .hbm, ⟨6, _⟩ => ⟨S4x2048x256, .f32⟩
  | .hbm, ⟨7, _⟩ => ⟨S4x2048x4x64, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S_, .f32⟩
  | .hbm, ⟨15, _⟩ => ⟨S4x4x2048, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x64x2048, .f32⟩
  | .hbm, ⟨27, _⟩ => ⟨S4x2048x4x64, .f32⟩
  | .hbm, ⟨28, _⟩ => ⟨S4x2048x256, .f32⟩
  | .hbm, ⟨29, _⟩ => ⟨S4x2048x256, .bf16⟩
  | _, _ => ⟨S4x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== AdamAIn.lean ====
abbrev S2048x640 : Shape := ⟨2, ![2048, 640]⟩
abbrev S256x640 : Shape := ⟨2, ![256, 640]⟩

abbrev nBuf : Space → Nat
  | .hbm => 7
  | .vmem => 14
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAInIdeal.lean ====
abbrev S2048x640 : Shape := ⟨2, ![2048, 640]⟩
abbrev S256x640 : Shape := ⟨2, ![256, 640]⟩

abbrev nBuf : Space → Nat
  | .hbm => 7
  | .vmem => 14
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAInRefIdeal.lean ====
abbrev S2048x640 : Shape := ⟨2, ![2048, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S_, .f32⟩
  | .hbm, ⟨5, _⟩ => ⟨S2048x640, .f32⟩
  | .hbm, ⟨6, _⟩ => ⟨S2048x640, .f32⟩
  | .hbm, ⟨7, _⟩ => ⟨S_, .f32⟩
  | .hbm, ⟨8, _⟩ => ⟨S2048x640, .f32⟩
  | .hbm, ⟨9, _⟩ => ⟨S2048x640, .f32⟩
  | .hbm, ⟨10, _⟩ => ⟨S2048x640, .f32⟩
  | .hbm, ⟨11, _⟩ => ⟨S_, .f32⟩
  | .hbm, ⟨12, _⟩ => ⟨S2048x640, .f32⟩
  | .hbm, ⟨13, _⟩ => ⟨S2048x640, .f32⟩
  | .hbm, ⟨14, _⟩ => ⟨S2048x640, .f32⟩
  | .hbm, ⟨15, _⟩ => ⟨S_, .f32⟩
  | .hbm, ⟨16, _⟩ => ⟨S2048x640, .f32⟩
  | .hbm, ⟨17, _⟩ => ⟨S2048x640, .f32⟩
  | .hbm, ⟨18, _⟩ => ⟨S2048x640, .f32⟩
  | .hbm, ⟨19, _⟩ => ⟨S_, .f32⟩
  | .hbm, ⟨20, _⟩ => ⟨S2048x640, .f32⟩
  | .hbm, ⟨21, _⟩ => ⟨S2048x640, .f32⟩
  | .hbm, ⟨22, _⟩ => ⟨S_, .f32⟩
  | .hbm, ⟨23, _⟩ => ⟨S2048x640, .f32⟩
  | .hbm, ⟨24, _⟩ => ⟨S2048x640, .f32⟩
  | .hbm, ⟨25, _⟩ => ⟨S2048x640, .f32⟩
  | .hbm, ⟨26, _⟩ => ⟨S_, .f32⟩
  | .hbm, ⟨27, _⟩ => ⟨S2048x640, .f32⟩
  | .hbm, ⟨28, _⟩ => ⟨S2048x640, .f32⟩
  | .hbm, ⟨29, _⟩ => ⟨S2048x640, .f32⟩
  | .hbm, ⟨30, _⟩ => ⟨S_, .f32⟩
  | .hbm, ⟨31, _⟩ => ⟨S2048x640, .f32⟩
  | .hbm, ⟨32, _⟩ => ⟨S2048x640, .f32⟩
  | .hbm, ⟨33, _⟩ => ⟨S2048x640, .f32⟩
  | .hbm, ⟨34, _⟩ => ⟨S_, .f32⟩
  | .hbm, ⟨35, _⟩ => ⟨S2048x640, .f32⟩
  | .hbm, ⟨36, _⟩ => ⟨S2048x640, .f32⟩
  | _, _ => ⟨S2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBIn.lean ====
abbrev S2048x448 : Shape := ⟨2, ![2048, 448]⟩
abbrev S512x448 : Shape := ⟨2, ![512, 448]⟩

abbrev nBuf : Space → Nat
  | .hbm => 7
  | .vmem => 14
  | .smem => 0
  | _ => 0

abbrev bufTy : (tb : Table) → Fin (tcTables nBuf tb) → BufTy
  | .hbm, ⟨0, _⟩ => ⟨S2048x448, .f32⟩
  | .hbm, ⟨1, _⟩ => ⟨S2048x448, .f32⟩
  | .hbm, ⟨2, _⟩ => ⟨S2048x448, .f32⟩
  | .hbm, ⟨3, _⟩ => ⟨S2048x448, .f32⟩
  | .hbm, ⟨4, _⟩ => ⟨S2048x448, .f32⟩
  | .hbm, ⟨5, _⟩ => ⟨S2048x448, .f32⟩
  | .hbm, ⟨6, _⟩ => ⟨S2048x448, .f32⟩
  | .local _ .vmem, ⟨0, _⟩ => ⟨S512x448, .f32⟩
  | .local _ .vmem, ⟨1, _⟩ => ⟨S512x448, .f32⟩
  | .local _ .vmem, ⟨2, _⟩ => ⟨S512x448, .f32⟩
  | .local _ .vmem, ⟨3, _⟩ => ⟨S512x448, .f32⟩
  | .local _ .vmem, ⟨4, _⟩ => ⟨S512x448, .f32⟩
  | .local _ .vmem, ⟨5, _⟩ => ⟨S512x448, .f32⟩
  | .local _ .vmem, ⟨6, _⟩ => ⟨S512x448, .f32⟩
  | .local _ .vmem, ⟨7, _⟩ => ⟨S512x448, .f32⟩
  | .local _ .vmem, ⟨8, _⟩ => ⟨S512x448, .f32⟩
  | .local _ .vmem, ⟨9, _⟩ => ⟨S512x448, .f32⟩
  | .local _ .vmem, ⟨10, _⟩ => ⟨S512x448, .f32⟩
  | .local _ .vmem, ⟨11, _⟩ => ⟨S512x448, .f32⟩
  | .local _ .vmem, ⟨12, _⟩ => ⟨S512x448, .f32⟩
  | .local _ .vmem, ⟨13, _⟩ => ⟨S512x448, .f32⟩
  | _, _ => ⟨S2048x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBInIdeal.lean ====
abbrev S2048x448 : Shape := ⟨2, ![2048, 448]⟩
abbrev S512x448 : Shape := ⟨2, ![512, 448]⟩

abbrev nBuf : Space → Nat
  | .hbm => 7
  | .vmem => 14
  | .smem => 0
  | _ => 0

abbrev bufTy : (tb : Table) → Fin (tcTables nBuf tb) → BufTy
  | .hbm, ⟨0, _⟩ => ⟨S2048x448, .f32⟩
  | .hbm, ⟨1, _⟩ => ⟨S2048x448, .f32⟩
  | .hbm, ⟨2, _⟩ => ⟨S2048x448, .f32⟩
  | .hbm, ⟨3, _⟩ => ⟨S2048x448, .f32⟩
  | .hbm, ⟨4, _⟩ => ⟨S2048x448, .f32⟩
  | .hbm, ⟨5, _⟩ => ⟨S2048x448, .f32⟩
  | .hbm, ⟨6, _⟩ => ⟨S2048x448, .f32⟩
  | .local _ .vmem, ⟨0, _⟩ => ⟨S512x448, .f32⟩
  | .local _ .vmem, ⟨1, _⟩ => ⟨S512x448, .f32⟩
  | .local _ .vmem, ⟨2, _⟩ => ⟨S512x448, .f32⟩
  | .local _ .vmem, ⟨3, _⟩ => ⟨S512x448, .f32⟩
  | .local _ .vmem, ⟨4, _⟩ => ⟨S512x448, .f32⟩
  | .local _ .vmem, ⟨5, _⟩ => ⟨S512x448, .f32⟩
  | .local _ .vmem, ⟨6, _⟩ => ⟨S512x448, .f32⟩
  | .local _ .vmem, ⟨7, _⟩ => ⟨S512x448, .f32⟩
  | .local _ .vmem, ⟨8, _⟩ => ⟨S512x448, .f32⟩
  | .local _ .vmem, ⟨9, _⟩ => ⟨S512x448, .f32⟩
  | .local _ .vmem, ⟨10, _⟩ => ⟨S512x448, .f32⟩
  | .local _ .vmem, ⟨11, _⟩ => ⟨S512x448, .f32⟩
  | .local _ .vmem, ⟨12, _⟩ => ⟨S512x448, .f32⟩
  | .local _ .vmem, ⟨13, _⟩ => ⟨S512x448, .f32⟩
  | _, _ => ⟨S2048x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBInRefIdeal.lean ====
abbrev S2048x448 : Shape := ⟨2, ![2048, 448]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x448, .f32⟩
  | .hbm, ⟨1, _⟩ => ⟨S2048x448, .f32⟩
  | .hbm, ⟨2, _⟩ => ⟨S2048x448, .f32⟩
  | .hbm, ⟨3, _⟩ => ⟨S2048x448, .f32⟩
  | .hbm, ⟨4, _⟩ => ⟨S_, .f32⟩
  | .hbm, ⟨5, _⟩ => ⟨S2048x448, .f32⟩
  | .hbm, ⟨6, _⟩ => ⟨S2048x448, .f32⟩
  | .hbm, ⟨7, _⟩ => ⟨S_, .f32⟩
  | .hbm, ⟨8, _⟩ => ⟨S2048x448, .f32⟩
  | .hbm, ⟨9, _⟩ => ⟨S2048x448, .f32⟩
  | .hbm, ⟨10, _⟩ => ⟨S2048x448, .f32⟩
  | .hbm, ⟨11, _⟩ => ⟨S_, .f32⟩
  | .hbm, ⟨12, _⟩ => ⟨S2048x448, .f32⟩
  | .hbm, ⟨13, _⟩ => ⟨S2048x448, .f32⟩
  | .hbm, ⟨14, _⟩ => ⟨S2048x448, .f32⟩
  | .hbm, ⟨15, _⟩ => ⟨S_, .f32⟩
  | .hbm, ⟨16, _⟩ => ⟨S2048x448, .f32⟩
  | .hbm, ⟨17, _⟩ => ⟨S2048x448, .f32⟩
  | .hbm, ⟨18, _⟩ => ⟨S2048x448, .f32⟩
  | .hbm, ⟨19, _⟩ => ⟨S_, .f32⟩
  | .hbm, ⟨20, _⟩ => ⟨S2048x448, .f32⟩
  | .hbm, ⟨21, _⟩ => ⟨S2048x448, .f32⟩
  | .hbm, ⟨22, _⟩ => ⟨S_, .f32⟩
  | .hbm, ⟨23, _⟩ => ⟨S2048x448, .f32⟩
  | .hbm, ⟨24, _⟩ => ⟨S2048x448, .f32⟩
  | .hbm, ⟨25, _⟩ => ⟨S2048x448, .f32⟩
  | .hbm, ⟨26, _⟩ => ⟨S_, .f32⟩
  | .hbm, ⟨27, _⟩ => ⟨S2048x448, .f32⟩
  | .hbm, ⟨28, _⟩ => ⟨S2048x448, .f32⟩
  | .hbm, ⟨29, _⟩ => ⟨S2048x448, .f32⟩
  | .hbm, ⟨30, _⟩ => ⟨S_, .f32⟩
  | .hbm, ⟨31, _⟩ => ⟨S2048x448, .f32⟩
  | .hbm, ⟨32, _⟩ => ⟨S2048x448, .f32⟩
  | .hbm, ⟨33, _⟩ => ⟨S2048x448, .f32⟩
  | .hbm, ⟨34, _⟩ => ⟨S_, .f32⟩
  | .hbm, ⟨35, _⟩ => ⟨S2048x448, .f32⟩
  | .hbm, ⟨36, _⟩ => ⟨S2048x448, .f32⟩
  | _, _ => ⟨S2048x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMem.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMemIdeal.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMemRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S4096x704 : Shape := ⟨2, ![4096, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateIdeal.lean ====
abbrev S4096x704 : Shape := ⟨2, ![4096, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateRefIdeal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S408x1024 : Shape := ⟨2, ![408, 1024]⟩
abbrev S136x1024 : Shape := ⟨2, ![136, 1024]⟩

abbrev nBuf : Space → Nat
  | .hbm => 7
  | .vmem => 14
  | .smem => 0
  | _ => 0

abbrev bufTy : (tb : Table) → Fin (tcTables nBuf tb) → BufTy
  | .hbm, ⟨0, _⟩ => ⟨S408x1024, .f32⟩
  | .hbm, ⟨1, _⟩ => ⟨S408x1024, .f32⟩
  | .hbm, ⟨2, _⟩ => ⟨S408x1024, .f32⟩
  | .hbm, ⟨3, _⟩ => ⟨S408x1024, .f32⟩
  | .hbm, ⟨4, _⟩ => ⟨S408x1024, .f32⟩
  | .hbm, ⟨5, _⟩ => ⟨S408x1024, .f32⟩
  | .hbm, ⟨6, _⟩ => ⟨S408x1024, .f32⟩
  | .local _ .vmem, ⟨0, _⟩ => ⟨S136x1024, .f32⟩
  | .local _ .vmem, ⟨1, _⟩ => ⟨S136x1024, .f32⟩
  | .local _ .vmem, ⟨2, _⟩ => ⟨S136x1024, .f32⟩
  | .local _ .vmem, ⟨3, _⟩ => ⟨S136x1024, .f32⟩
  | .local _ .vmem, ⟨4, _⟩ => ⟨S136x1024, .f32⟩
  | .local _ .vmem, ⟨5, _⟩ => ⟨S136x1024, .f32⟩
  | .local _ .vmem, ⟨6, _⟩ => ⟨S136x1024, .f32⟩
  | .local _ .vmem, ⟨7, _⟩ => ⟨S136x1024, .f32⟩
  | .local _ .vmem, ⟨8, _⟩ => ⟨S136x1024, .f32⟩
  | .local _ .vmem, ⟨9, _⟩ => ⟨S136x1024, .f32⟩
  | .local _ .vmem, ⟨10, _⟩ => ⟨S136x1024, .f32⟩
  | .local _ .vmem, ⟨11, _⟩ => ⟨S136x1024, .f32⟩
  | .local _ .vmem, ⟨12, _⟩ => ⟨S136x1024, .f32⟩
  | .local _ .vmem, ⟨13, _⟩ => ⟨S136x1024, .f32⟩
  | _, _ => ⟨S408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S136x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S136x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S136x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S136x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S136x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S136x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S408x1024 : Shape := ⟨2, ![408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S408x1024, .f32⟩
  | .hbm, ⟨1, _⟩ => ⟨S408x1024, .f32⟩
  | .hbm, ⟨2, _⟩ => ⟨S408x1024, .f32⟩
  | .hbm, ⟨3, _⟩ => ⟨S408x1024, .f32⟩
  | .hbm, ⟨4, _⟩ => ⟨S_, .f32⟩
  | .hbm, ⟨5, _⟩ => ⟨S408x1024, .f32⟩
  | .hbm, ⟨6, _⟩ => ⟨S408x1024, .f32⟩
  | .hbm, ⟨7, _⟩ => ⟨S_, .f32⟩
  | .hbm, ⟨8, _⟩ => ⟨S408x1024, .f32⟩
  | .hbm, ⟨9, _⟩ => ⟨S408x1024, .f32⟩
  | .hbm, ⟨10, _⟩ => ⟨S408x1024, .f32⟩
  | .hbm, ⟨11, _⟩ => ⟨S_, .f32⟩
  | .hbm, ⟨12, _⟩ => ⟨S408x1024, .f32⟩
  | .hbm, ⟨13, _⟩ => ⟨S408x1024, .f32⟩
  | .hbm, ⟨14, _⟩ => ⟨S408x1024, .f32⟩
  | .hbm, ⟨15, _⟩ => ⟨S_, .f32⟩
  | .hbm, ⟨16, _⟩ => ⟨S408x1024, .f32⟩
  | .hbm, ⟨17, _⟩ => ⟨S408x1024, .f32⟩
  | .hbm, ⟨18, _⟩ => ⟨S408x1024, .f32⟩
  | .hbm, ⟨19, _⟩ => ⟨S_, .f32⟩
  | .hbm, ⟨20, _⟩ => ⟨S408x1024, .f32⟩
  | .hbm, ⟨21, _⟩ => ⟨S408x1024, .f32⟩
  | .hbm, ⟨22, _⟩ => ⟨S_, .f32⟩
  | .hbm, ⟨23, _⟩ => ⟨S408x1024, .f32⟩
  | .hbm, ⟨24, _⟩ => ⟨S408x1024, .f32⟩
  | .hbm, ⟨25, _⟩ => ⟨S408x1024, .f32⟩
  | .hbm, ⟨26, _⟩ => ⟨S_, .f32⟩
  | .hbm, ⟨27, _⟩ => ⟨S408x1024, .f32⟩
  | .hbm, ⟨28, _⟩ => ⟨S408x1024, .f32⟩
  | .hbm, ⟨29, _⟩ => ⟨S408x1024, .f32⟩
  | .hbm, ⟨30, _⟩ => ⟨S_, .f32⟩
  | .hbm, ⟨31, _⟩ => ⟨S408x1024, .f32⟩
  | .hbm, ⟨32, _⟩ => ⟨S408x1024, .f32⟩
  | .hbm, ⟨33, _⟩ => ⟨S408x1024, .f32⟩
  | .hbm, ⟨34, _⟩ => ⟨S_, .f32⟩
  | .hbm, ⟨35, _⟩ => ⟨S408x1024, .f32⟩
  | .hbm, ⟨36, _⟩ => ⟨S408x1024, .f32⟩
  | _, _ => ⟨S408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MemAttA.lean ====
abbrev S4x2048x2560 : Shape := ⟨3, ![4, 2048, 2560]⟩
abbrev S4x256x512 : Shape := ⟨3, ![4, 256, 512]⟩
abbrev S4x2048x1024 : Shape := ⟨3, ![4, 2048, 1024]⟩
abbrev S4x2048x256 : Shape := ⟨3, ![4, 2048, 256]⟩
abbrev S1x512x256 : Shape := ⟨3, ![1, 512, 256]⟩
abbrev S1x256x512 : Shape := ⟨3, ![1, 256, 512]⟩
abbrev S256x512 : Shape := ⟨2, ![256, 512]⟩
abbrev S512x128 : Shape := ⟨2, ![512, 128]⟩
abbrev S1x512x128 : Shape := ⟨3, ![1, 512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x2560, .f32⟩
  | .hbm, ⟨1, _⟩ => ⟨S4x256x512, .f32⟩
  | .hbm, ⟨2, _⟩ => ⟨S4x2048x1024, .f32⟩
  | .hbm, ⟨3, _⟩ => ⟨S4x2048x256, .bf16⟩
  | .hbm, ⟨4, _⟩ => ⟨S4x256x512, .f32⟩
  | .local _ .vmem, ⟨0, _⟩ => ⟨S1x512x256, .f32⟩
  | .local _ .vmem, ⟨1, _⟩ => ⟨S1x512x256, .f32⟩
  | .local _ .vmem, ⟨2, _⟩ => ⟨S1x256x512, .f32⟩
  | .local _ .vmem, ⟨3, _⟩ => ⟨S1x256x512, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .bf16⟩
  | .local _ .vmem, ⟨7, _⟩ => ⟨S1x512x256, .bf16⟩
  | .local _ .vmem, ⟨8, _⟩ => ⟨S1x256x512, .f32⟩
  | .local _ .vmem, ⟨9, _⟩ => ⟨S1x256x512, .f32⟩
  | _, _ => ⟨S4x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MemAttARefIdeal.lean ====
abbrev S4x2048x2560 : Shape := ⟨3, ![4, 2048, 2560]⟩
abbrev S4x256x512 : Shape := ⟨3, ![4, 256, 512]⟩
abbrev S4x2048x1024 : Shape := ⟨3, ![4, 2048, 1024]⟩
abbrev S4x2048x256 : Shape := ⟨3, ![4, 2048, 256]⟩
abbrev S4x256x256 : Shape := ⟨3, ![4, 256, 256]⟩
abbrev S4x256x4x64 : Shape := ⟨4, ![4, 256, 4, 64]⟩
abbrev S4x2048x4x64 : Shape := ⟨4, ![4, 2048, 4, 64]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩
abbrev S4x4x64x256 : Shape := ⟨4, ![4, 4, 64, 256]⟩
abbrev S4x4x256x64 : Shape := ⟨4, ![4, 4, 256, 64]⟩
abbrev S4x4x2048x64 : Shape := ⟨4, ![4, 4, 2048, 64]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x2560, .f32⟩
  | .hbm, ⟨1, _⟩ => ⟨S4x256x512, .f32⟩
  | .hbm, ⟨2, _⟩ => ⟨S4x2048x1024, .f32⟩
  | .hbm, ⟨3, _⟩ => ⟨S4x2048x256, .f32⟩
  | .hbm, ⟨4, _⟩ => ⟨S4x256x256, .f32⟩
  | .hbm, ⟨5, _⟩ => ⟨S4x256x256, .f32⟩
  | .hbm, ⟨6, _⟩ => ⟨S4x256x4x64, .f32⟩
  | .hbm, ⟨7, _⟩ => ⟨S4x256x4x64, .f32⟩
  | .hbm, ⟨8, _⟩ => ⟨S4x2048x4x64, .f32⟩
  | .hbm, ⟨9, _⟩ => ⟨S4x4x2048x256, .f32⟩
  | .hbm, ⟨10, _⟩ => ⟨S_, .f32⟩
  | .hbm, ⟨11, _⟩ => ⟨S4x4x2048x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S4x4x2048x1, .f32⟩
  | .hbm, ⟨16, _⟩ => ⟨S4x4x2048x256, .f32⟩
  | .hbm, ⟨17, _⟩ => ⟨S4x4x2048x256, .i1⟩
  | .hbm, ⟨18, _⟩ => ⟨S4x4x2048x256, .f32⟩
  | .hbm, ⟨19, _⟩ => ⟨S_, .f32⟩
  | .hbm, ⟨20, _⟩ => ⟨S4x4x2048, .f32⟩
  | .hbm, ⟨21, _⟩ => ⟨S_, .f32⟩
  | .hbm, ⟨22, _⟩ => ⟨S4x4x2048, .f32⟩
  | .hbm, ⟨23, _⟩ => ⟨S4x4x2048, .f32⟩
  | .hbm, ⟨24, _⟩ => ⟨S_, .f32⟩
  | .hbm, ⟨25, _⟩ => ⟨S4x4x2048, .f32⟩
  | .hbm, ⟨26, _⟩ => ⟨S4x4x2048, .i1⟩
  | .hbm, ⟨27, _⟩ => ⟨S_, .f32⟩
  | .hbm, ⟨28, _⟩ => ⟨S4x4x2048, .f32⟩
  | .hbm, ⟨29, _⟩ => ⟨S4x4x2048, .i1⟩
  | .hbm, ⟨30, _⟩ => ⟨S_, .f32⟩
  | .hbm, ⟨31, _⟩ => ⟨S4x4x2048, .f32⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S4x4x2048, .f32⟩
  | .hbm, ⟨37, _⟩ => ⟨S4x4x2048, .f32⟩
  | .hbm, ⟨38, _⟩ => ⟨S4x4x2048x1, .f32⟩
  | .hbm, ⟨39, _⟩ => ⟨S4x4x2048x256, .f32⟩
  | .hbm, ⟨40, _⟩ => ⟨S4x4x2048x256, .f32⟩
  | .hbm, ⟨41, _⟩ => ⟨S4x4x2048x256, .f32⟩
  | .hbm, ⟨42, _⟩ => ⟨S_, .f32⟩
  | .hbm, ⟨43, _⟩ => ⟨S4x4x2048, .f32⟩
  | .hbm, ⟨44, _⟩ => ⟨S4x4x2048x1, .f32⟩
  | .hbm, ⟨45, _⟩ => ⟨S4x4x2048x256, .f32⟩
  | .hbm, ⟨46, _⟩ => ⟨S4x4x2048x256, .f32⟩
  | .hbm, ⟨47, _⟩ => ⟨S4x4x2048x1, .f32⟩
  | .hbm, ⟨48, _⟩ => ⟨S_, .f32⟩
  | .hbm, ⟨49, _⟩ => ⟨S4x4x2048x1, .f32⟩
  | .hbm, ⟨50, _⟩ => ⟨S4x4x2048x1, .f32⟩
  | .hbm, ⟨51, _⟩ => ⟨S4x4x64x2048, .f32⟩
  | .hbm, ⟨52, _⟩ => ⟨S4x2048x4x64, .f32⟩
  | .hbm, ⟨53, _⟩ => ⟨S4x2048x256, .f32⟩
  | .hbm, ⟨54, _⟩ => ⟨S4x2048x256, .f32⟩
  | .hbm, ⟨55, _⟩ => ⟨S4x2048x4x64, .f32⟩
  | .hbm, ⟨56, _⟩ => ⟨S4x4x64x2048, .f32⟩
  | .hbm, ⟨57, _⟩ => ⟨S4x4x2048x256, .f32⟩
  | .hbm, ⟨58, _⟩ => ⟨S4x4x64x256, .f32⟩
  | .hbm, ⟨59, _⟩ => ⟨S4x256x4x64, .f32⟩
  | .hbm, ⟨60, _⟩ => ⟨S4x4x2048x256, .f32⟩
  | .hbm, ⟨61, _⟩ => ⟨S4x4x2048x256, .f32⟩
  | .hbm, ⟨62, _⟩ => ⟨S4x4x2048x256, .f32⟩
  | .hbm, ⟨63, _⟩ => ⟨S_, .f32⟩
  | .hbm, ⟨64, _⟩ => ⟨S4x4x2048, .f32⟩
  | .hbm, ⟨65, _⟩ => ⟨S4x4x2048x1, .f32⟩
  | .hbm, ⟨66, _⟩ => ⟨S4x4x2048x1, .f32⟩
  | .hbm, ⟨67, _⟩ => ⟨S4x4x2048x256, .f32⟩
  | .hbm, ⟨68, _⟩ => ⟨S4x4x2048x256, .f32⟩
  | .hbm, ⟨69, _⟩ => ⟨S_, .f32⟩
  | .hbm, ⟨70, _⟩ => ⟨S4x4x2048, .f32⟩
  | .hbm, ⟨71, _⟩ => ⟨S4x4x2048x256, .f32⟩
  | .hbm, ⟨72, _⟩ => ⟨S4x4x2048x256, .f32⟩
  | .hbm, ⟨73, _⟩ => ⟨S4x4x2048x256, .f32⟩
  | .hbm, ⟨74, _⟩ => ⟨S_, .f32⟩
  | .hbm, ⟨75, _⟩ => ⟨S4x4x2048x256, .f32⟩
  | .hbm, ⟨76, _⟩ => ⟨S4x4x2048x256, .f32⟩
  | .hbm, ⟨77, _⟩ => ⟨S4x4x256x64, .f32⟩
  | .hbm, ⟨78, _⟩ => ⟨S4x256x4x64, .f32⟩
  | .hbm, ⟨79, _⟩ => ⟨S4x4x2048x64, .f32⟩
  | .hbm, ⟨80, _⟩ => ⟨S4x2048x4x64, .f32⟩
  | .hbm, ⟨81, _⟩ => ⟨S4x2048x256, .f32⟩
  | .hbm, ⟨82, _⟩ => ⟨S4x256x256, .f32⟩
  | .hbm, ⟨83, _⟩ => ⟨S4x256x256, .f32⟩
  | .hbm, ⟨84, _⟩ => ⟨S4x256x512, .f32⟩
  | .hbm, ⟨85, _⟩ => ⟨S4x2048x256, .bf16⟩
  | _, _ => ⟨S4x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== MemFA.lean ====
abbrev S4x2048x2560 : Shape := ⟨3, ![4, 2048, 2560]⟩
abbrev S4x256x512 : Shape := ⟨3, ![4, 256, 512]⟩
abbrev S4x2048x256 : Shape := ⟨3, ![4, 2048, 256]⟩
abbrev S1x512x256 : Shape := ⟨3, ![1, 512, 256]⟩
abbrev S1x256x512 : Shape := ⟨3, ![1, 256, 512]⟩
abbrev S512x128 : Shape := ⟨2, ![512, 128]⟩
abbrev S1x512x128 : Shape := ⟨3, ![1, 512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x2560, .f32⟩
  | .hbm, ⟨1, _⟩ => ⟨S4x256x512, .f32⟩
  | .hbm, ⟨2, _⟩ => ⟨S4x2048x256, .bf16⟩
  | .local _ .vmem, ⟨0, _⟩ => ⟨S1x512x256, .f32⟩
  | .local _ .vmem, ⟨1, _⟩ => ⟨S1x512x256, .f32⟩
  | .local _ .vmem, ⟨2, _⟩ => ⟨S1x256x512, .f32⟩
  | .local _ .vmem, ⟨3, _⟩ => ⟨S1x256x512, .f32⟩
  | .local _ .vmem, ⟨4, _⟩ => ⟨S1x512x256, .bf16⟩
  | .local _ .vmem, ⟨5, _⟩ => ⟨S1x512x256, .bf16⟩
  | _, _ => ⟨S4x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemFARefIdeal.lean ====
abbrev S4x2048x2560 : Shape := ⟨3, ![4, 2048, 2560]⟩
abbrev S4x256x512 : Shape := ⟨3, ![4, 256, 512]⟩
abbrev S4x256x256 : Shape := ⟨3, ![4, 256, 256]⟩
abbrev S4x256x4x64 : Shape := ⟨4, ![4, 256, 4, 64]⟩
abbrev S4x2048x256 : Shape := ⟨3, ![4, 2048, 256]⟩
abbrev S4x2048x4x64 : Shape := ⟨4, ![4, 2048, 4, 64]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x2560, .f32⟩
  | .hbm, ⟨1, _⟩ => ⟨S4x256x512, .f32⟩
  | .hbm, ⟨2, _⟩ => ⟨S4x256x256, .f32⟩
  | .hbm, ⟨3, _⟩ => ⟨S4x256x256, .f32⟩
  | .hbm, ⟨4, _⟩ => ⟨S4x256x4x64, .f32⟩
  | .hbm, ⟨5, _⟩ => ⟨S4x256x4x64, .f32⟩
  | .hbm, ⟨6, _⟩ => ⟨S4x2048x256, .f32⟩
  | .hbm, ⟨7, _⟩ => ⟨S4x2048x4x64, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S_, .f32⟩
  | .hbm, ⟨15, _⟩ => ⟨S4x4x2048, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x64x2048, .f32⟩
  | .hbm, ⟨27, _⟩ => ⟨S4x2048x4x64, .f32⟩
  | .hbm, ⟨28, _⟩ => ⟨S4x2048x256, .f32⟩
  | .hbm, ⟨29, _⟩ => ⟨S4x2048x256, .bf16⟩
  | _, _ => ⟨S4x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Proof.Reals.lean ====
module

public import Idealize.ShloMosaic.Lib.Pipeline.ValueKit
public import Idealize.ShloMosaic.Lib.Pointwise

@[expose] public section

noncomputable section

/-! Extended reals that are real numbers: the operations on them are the operations on the real numbers. -/

namespace Cert.Reals

open Idealize.ShloMosaic

/-- A sum of real numbers taken in the extended reals is their sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of real numbers by a number other than zero is their quotient. -/
theorem div_coe (x y : ℝ) (h : y ≠ 0) : Ideal.div (x : EReal) (y : EReal) = ((x / y : ℝ) : EReal) := by
  rw [Ideal.div_coe h, ← EReal.coe_mul]; congr 1; ring

/-- The greatest of a nonempty family of real numbers, started at minus infinity, is a real number. -/
theorem fold_max_coe {ι : Type*} [Fintype ι] [Nonempty ι] (f : ι → ℝ) :
    ∃ M : ℝ, Finset.fold max (⊥ : EReal) (fun i => ((f i : ℝ) : EReal)) Finset.univ = M := by
  classical
  have h : ∀ s : Finset ι, (s = ∅ ∧ Finset.fold max (⊥ : EReal) (fun i => ((f i : ℝ) : EReal)) s = ⊥)
      ∨ ∃ M : ℝ, Finset.fold max (⊥ : EReal) (fun i => ((f i : ℝ) : EReal)) s = M := by
    intro s
    induction s using Finset.induction_on with
    | empty => left; simp
    | insert a s ha ih =>
      right
      rw [Finset.fold_insert ha]
      rcases ih with ⟨-, h⟩ | ⟨M, h⟩
      · exact ⟨f a, by rw [h]; simp⟩
      · exact ⟨max (f a) M, by rw [h]; exact (EReal.coe_strictMono.monotone.map_max).symm⟩
  rcases h Finset.univ with ⟨h, -⟩ | h
  · exact absurd h (Finset.univ_nonempty).ne_empty
  · exact h

/-- The pattern of minus infinity. -/
theorem ofBits_neg_inf : Ideal.ofBits .f32 0xFF800000#32 = (⊥ : EReal) := by
  simp [Ideal.ofBits, Ideal.ieee]

/-- The pattern of one eighth. -/
theorem ofBits_eighth : Ideal.ofBits .f32 0x3E000000#32 = ((1 / 8 : ℝ) : EReal) := by
  simp [Ideal.ofBits, Ideal.ieee]; rw [← EReal.coe_mul]; norm_num

/-- The weights of a softmax: a real number subtracted from every score does not change them. -/
theorem softmax_coe {ι : Type*} [Fintype ι] [Nonempty ι] (f : ι → ℝ) (M : ℝ) (i : ι) :
    Ideal.div (Ideal.exp ((f i : ℝ) - (M : ℝ) : EReal)) (∑ j, Ideal.exp ((f j : ℝ) - (M : ℝ) : EReal))
      = ((Real.exp (f i) / ∑ j, Real.exp (f j) : ℝ) : EReal) := by
  simp only [← EReal.coe_sub, Ideal.exp_coe, sum_coe]
  have hp : ∀ g : ι → ℝ, (0 : ℝ) < ∑ j, Real.exp (g j) := fun g =>
    Finset.sum_pos (fun _ _ => Real.exp_pos _) Finset.univ_nonempty
  rw [div_coe _ _ (hp fun j => f j - M).ne']
  congr 1
  simp only [Real.exp_sub, ← Finset.sum_div]
  have := (hp f).ne'
  have := (Real.exp_pos M).ne'
  field_simp

/-- A sum over the 128 lanes of a lane group of terms that vanish outside the lanes of head `e` is a sum over that head's 64 lanes. -/
theorem sum_head {A : Type} [AddCommMonoid A] (e : ℕ) (he : e < 2) (f : ℕ → A) :
    ∑ l : Fin 128, (if l.val / 64 = e then f l.val else 0) = ∑ d : Fin 64, f (64 * e + d.val) := by
  rw [Finset.sum_ite, Finset.sum_const_zero, add_zero]
  refine (Finset.sum_bij (fun (d : Fin 64) _ => (⟨64 * e + d.val, by omega⟩ : Fin 128)) ?_ ?_ ?_ ?_).symm
  · intro d _; simp; omega
  · intro a _ b _ h; simp at h; omega
  · intro l hl
    simp at hl
    exact ⟨⟨l.val - 64 * e, by omega⟩, by simp, by ext; simp; omega⟩
  · intro d _; rfl

end Cert.Reals
-- ==== Proof.Lift.lean ====
module

public import proofs.«01_k».proof.Proof.Reals
public import Idealize.ShloMosaic.Lib.Pointwise
public import Idealize.ShloMosaic.Lib.KernelVsHost

@[expose] public section

noncomputable section

/-! From the precondition's comparison with infinity to arrays of real numbers. -/

namespace Cert.Reals

open Idealize.ShloMosaic

/-- A number whose absolute value is below infinity is a real number. -/
theorem real_of_bit {x : EReal} (h : FloatOps.cmpf (F := Ideal) (φ := .f32) .olt (FloatOps.hostAbsf (F := Ideal) (φ := .f32) x) (FloatOps.ofBits (F := Ideal) .f32 0x7F800000#32) = 1#1) :
    x = (x.toReal : EReal) := by
  rw [← Ideal.xori_weird_eq_hostAbsf_olt_inf] at h
  have hw : ¬ (x = ⊤ ∨ x = ⊥) := fun hx => by
    have : FloatOps.weird (F := Ideal) (x : Ideal .f32) = 1#1 := by
      show BitVec.ofBool (decide (x = ⊤ ∨ x = ⊥)) = 1#1
      simp [hx]
    rw [this] at h
    exact absurd h (by decide)
  exact (EReal.coe_toReal (fun e => hw (.inl e)) (fun e => hw (.inr e))).symm

/-- An array of three axes whose entries are real numbers from lane `s` on is a function of its coordinates there. -/
theorem lift3 {n0 n1 n2 : ℕ} (s : ℕ) (x : (⟨3, ![n0, n1, n2]⟩ : Shape).Idx → EReal)
    (h : ∀ i, s ≤ (i 2).val → x i = ((x i).toReal : EReal)) :
    ∃ Q : ℕ → ℕ → ℕ → ℝ, ∀ i, s ≤ (i 2).val → x i = (Q (i 0).val (i 1).val ((i 2).val - s) : EReal) := by
  classical
  refine ⟨fun a b c => if e : ∃ i, s ≤ (i 2).val ∧ (i 0).val = a ∧ (i 1).val = b ∧ (i 2).val - s = c then (x e.choose).toReal else 0, fun i hi => ?_⟩
  have e : ∃ j : (⟨3, ![n0, n1, n2]⟩ : Shape).Idx, s ≤ (j 2).val ∧ (j 0).val = (i 0).val ∧ (j 1).val = (i 1).val ∧ (j 2).val - s = (i 2).val - s :=
    ⟨i, hi, rfl, rfl, rfl⟩
  obtain ⟨a2, a0, a1, a3⟩ := e.choose_spec
  have hx : e.choose = i := funext fun a => match a with
    | ⟨0, _⟩ => Fin.ext a0
    | ⟨1, _⟩ => Fin.ext a1
    | ⟨2, _⟩ => Fin.ext (show (e.choose 2).val = (i 2).val by omega)
  beta_reduce
  rw [dif_pos e, hx]
  exact h i hi

/-- An array of two axes whose entries are real numbers before lane `n` is a function of its coordinates there. -/
theorem lift2 {n0 n1 : ℕ} (n : ℕ) (x : (⟨2, ![n0, n1]⟩ : Shape).Idx → EReal)
    (h : ∀ i, (i 1).val < n → x i = ((x i).toReal : EReal)) :
    ∃ Q : ℕ → ℕ → ℝ, ∀ i, (i 1).val < n → x i = (Q (i 0).val (i 1).val : EReal) := by
  classical
  refine ⟨fun a b => if e : ∃ i, (i 0).val = a ∧ (i 1).val = b then (x e.choose).toReal else 0, fun i hi => ?_⟩
  have e : ∃ j : (⟨2, ![n0, n1]⟩ : Shape).Idx, (j 0).val = (i 0).val ∧ (j 1).val = (i 1).val := ⟨i, rfl, rfl⟩
  obtain ⟨a0, a1⟩ := e.choose_spec
  have hx : e.choose = i := funext fun a => match a with
    | ⟨0, _⟩ => Fin.ext a0
    | ⟨1, _⟩ => Fin.ext a1
  beta_reduce
  rw [dif_pos e, hx]
  exact h i hi

/-- An array of one axis whose entries are real numbers is a function of its coordinate. -/
theorem lift1 {n0 : ℕ} (x : (⟨1, ![n0]⟩ : Shape).Idx → EReal) (h : ∀ i, x i = ((x i).toReal : EReal)) :
    ∃ Q : ℕ → ℝ, ∀ i, x i = (Q (i 0).val : EReal) := by
  classical
  refine ⟨fun a => if e : ∃ i, (i 0).val = a then (x e.choose).toReal else 0, fun i => ?_⟩
  have e : ∃ j : (⟨1, ![n0]⟩ : Shape).Idx, (j 0).val = (i 0).val := ⟨i, rfl⟩
  have hx : e.choose = i := funext fun a => match a with
    | ⟨0, _⟩ => Fin.ext e.choose_spec
  beta_reduce
  rw [dif_pos e, hx]
  exact h i

end Cert.Reals
-- ==== Proof.MemSpec.lean ====
module

public import proofs.«01_k».proof.Proof.Reals

@[expose] public section

noncomputable section

/-! The gradient of the memory attention over the real numbers. A token's queries are `q`, one number per lane; the memory's keys
and values are `k j` and `v j`; `o` is the cotangent of the token's result; a head is the 64 lanes from `a`. -/

namespace Cert.MemSpec

/-- The score of memory token `j`. -/
def score (a : ℕ) (q : ℕ → ℝ) (k : ℕ → ℕ → ℝ) (j : ℕ) : ℝ := (∑ d : Fin 64, q (a + d.val) * k j (a + d.val)) * (1 / 8)

/-- The weight of memory token `j`: the softmax of the scores. -/
def weight (a : ℕ) (q : ℕ → ℝ) (k : ℕ → ℕ → ℝ) (j : ℕ) : ℝ :=
  Real.exp (score a q k j) / ∑ j' : Fin 256, Real.exp (score a q k j'.val)

/-- The cotangent of the weight of memory token `j`. -/
def dweight (a : ℕ) (o : ℕ → ℝ) (v : ℕ → ℕ → ℝ) (j : ℕ) : ℝ := ∑ d : Fin 64, o (a + d.val) * v j (a + d.val)

/-- The cotangent of the score of memory token `j`. -/
def dscore (a : ℕ) (q : ℕ → ℝ) (k : ℕ → ℕ → ℝ) (o : ℕ → ℝ) (v : ℕ → ℕ → ℝ) (j : ℕ) : ℝ :=
  weight a q k j * (dweight a o v j - ∑ j' : Fin 256, weight a q k j'.val * dweight a o v j'.val)

/-- The head of lane `l` begins at this lane. -/
def headOf (l : ℕ) : ℕ := 64 * (l / 64)

/-- The gradient of the query in lane `l`. -/
def dquery (q : ℕ → ℝ) (k : ℕ → ℕ → ℝ) (o : ℕ → ℝ) (v : ℕ → ℕ → ℝ) (l : ℕ) : ℝ :=
  (∑ j : Fin 256, dscore (headOf l) q k o v j.val * k j.val l) * (1 / 8)

/-- What one token adds to the gradient of the key of memory token `j` in lane `l`. -/
def dkey (q : ℕ → ℝ) (k : ℕ → ℕ → ℝ) (o : ℕ → ℝ) (v : ℕ → ℕ → ℝ) (j l : ℕ) : ℝ :=
  dscore (headOf l) q k o v j * (q l * (1 / 8))

/-- What one token adds to the gradient of the value of memory token `j` in lane `l`. -/
def dvalue (q : ℕ → ℝ) (k : ℕ → ℕ → ℝ) (o : ℕ → ℝ) (j l : ℕ) : ℝ :=
  weight (headOf l) q k j * o l

theorem score_shift (s a : ℕ) (q : ℕ → ℝ) (k : ℕ → ℕ → ℝ) (j : ℕ) :
    score a (fun l => q (s + l)) (fun j l => k j (s + l)) j = score (s + a) q k j := by
  simp only [score, Nat.add_assoc]

theorem weight_shift (s a : ℕ) (q : ℕ → ℝ) (k : ℕ → ℕ → ℝ) (j : ℕ) :
    weight a (fun l => q (s + l)) (fun j l => k j (s + l)) j = weight (s + a) q k j := by
  simp only [weight, score_shift]

theorem dweight_shift (s a : ℕ) (o : ℕ → ℝ) (v : ℕ → ℕ → ℝ) (j : ℕ) :
    dweight a (fun l => o (s + l)) (fun j l => v j (s + l)) j = dweight (s + a) o v j := by
  simp only [dweight, Nat.add_assoc]

theorem dscore_shift (s a : ℕ) (q : ℕ → ℝ) (k : ℕ → ℕ → ℝ) (o : ℕ → ℝ) (v : ℕ → ℕ → ℝ) (j : ℕ) :
    dscore a (fun l => q (s + l)) (fun j l => k j (s + l)) (fun l => o (s + l)) (fun j l => v j (s + l)) j
      = dscore (s + a) q k o v j := by
  simp only [dscore, weight_shift, dweight_shift]

theorem headOf_shift (g l : ℕ) : headOf (128 * g + l) = 128 * g + headOf l := by
  unfold headOf; omega

/-- The gradient of a query, read in the lanes of one lane group. -/
theorem dquery_shift (g l : ℕ) (q : ℕ → ℝ) (k : ℕ → ℕ → ℝ) (o : ℕ → ℝ) (v : ℕ → ℕ → ℝ) :
    dquery (fun l => q (128 * g + l)) (fun j l => k j (128 * g + l)) (fun l => o (128 * g + l)) (fun j l => v j (128 * g + l)) l
      = dquery q k o v (128 * g + l) := by
  simp only [dquery, dscore_shift, headOf_shift]

/-- A token's part of the gradient of a key, read in the lanes of one lane group. -/
theorem dkey_shift (g l : ℕ) (q : ℕ → ℝ) (k : ℕ → ℕ → ℝ) (o : ℕ → ℝ) (v : ℕ → ℕ → ℝ) (j : ℕ) :
    dkey (fun l => q (128 * g + l)) (fun j l => k j (128 * g + l)) (fun l => o (128 * g + l)) (fun j l => v j (128 * g + l)) j l
      = dkey q k o v j (128 * g + l) := by
  simp only [dkey, dscore_shift, headOf_shift]

/-- A token's part of the gradient of a value, read in the lanes of one lane group. -/
theorem dvalue_shift (g l : ℕ) (q : ℕ → ℝ) (k : ℕ → ℕ → ℝ) (o : ℕ → ℝ) (j : ℕ) :
    dvalue (fun l => q (128 * g + l)) (fun j l => k j (128 * g + l)) (fun l => o (128 * g + l)) j l
      = dvalue q k o j (128 * g + l) := by
  simp only [dvalue, weight_shift, headOf_shift]

end Cert.MemSpec
-- ==== Proof.MemBody.lean ====
module

public import proofs.«01_k».proof.Proof.Gen.MemAttIdeal.Value
public import Idealize.ShloMosaic.Lib.Pipeline.ValueKit
public import Idealize.ShloMosaic.Lib.Pipeline.ReadBack
public import proofs.«01_k».proof.Proof.MemSpec

@[expose] public section

set_option maxRecDepth 16384

noncomputable section

namespace Cert.MemAttIdeal.Hand

open Cert.MemAttIdeal Cert.MemAttIdeal.Gen Idealize.ShloMosaic Idealize.ShloMosaic.TcCoe Idealize.SL.Sem

/-- The lanes of a lane group's first head. -/
def mask0 : IVec S512x128 1 := cmpi .slt (iota .tc S512x128 32 [1] iota_S512x128_d1_w32) (broadcast S512x128 64#32)

/-- The lanes of a lane group's second head. -/
def mask1 : IVec S512x128 1 := xori mask0 (constantI S512x128 1 1#1)

/-- The queries of one head, scaled, with zeros in the other head's lanes. -/
def qH (hm : IVec S512x128 1) (q : FVec Ideal S512x128 .f32) : FVec Ideal S512x128 .bf16 :=
  truncf .bf16 (mulf (select hm q (broadcast S512x128 (Scalar.ofBits .f32 0x00000000#32))) (broadcast S512x128 (Scalar.ofBits .f32 0x3E000000#32))) bitsLt_bf16_f32

/-- The cotangent of one head, with zeros in the other head's lanes. -/
def oH (hm : IVec S512x128 1) (o : FVec Ideal S512x128 .f32) : FVec Ideal S512x128 .bf16 :=
  truncf .bf16 (select hm o (broadcast S512x128 (Scalar.ofBits .f32 0x00000000#32))) bitsLt_bf16_f32

/-- The weights of the softmax over the memory, from a head's queries and the keys. -/
def wH (q : FVec Ideal S512x128 .bf16) (k : FVec Ideal S256x128 .bf16) : FVec Ideal S512x256 .f32 :=
  have s := matmul dot_S512x128_S256x128_S512x256_1_1_0_0_n_n none q k (constant S512x256 .f32 0x00000000#32)
  have e := exp (subf s (broadcastTo S512x256 (shapeCast S512x1 (multiReduction .maximumf [1] S512 s 0xFF800000#32 reduces_S512x256_S512 (.inl rfl) rfl) shapeCasts_S512_S512x1) broadcasts_S512x1_S512x256))
  divf e (broadcastTo S512x256 (shapeCast S512x1 (multiReduction .add [1] S512 e 0x00000000#32 reduces_S512x256_S512 (.inl rfl) rfl) shapeCasts_S512_S512x1) broadcasts_S512x1_S512x256)

/-- The cotangent of the scores from the weights, a head's cotangent and the values. -/
def sH (w : FVec Ideal S512x256 .f32) (o : FVec Ideal S512x128 .bf16) (v : FVec Ideal S256x128 .bf16) : FVec Ideal S512x256 .bf16 :=
  have dp := matmul dot_S512x128_S256x128_S512x256_1_1_0_0_n_n none o v (constant S512x256 .f32 0x00000000#32)
  truncf .bf16 (mulf w (subf dp (broadcastTo S512x256 (shapeCast S512x1 (multiReduction .add [1] S512 (mulf (extf .f32 (truncf .bf16 w bitsLt_bf16_f32) bitsLt_bf16_f32) dp) 0x00000000#32 reduces_S512x256_S512 (.inl rfl) rfl) shapeCasts_S512_S512x1) broadcasts_S512x1_S512x256))) bitsLt_bf16_f32

/-- A vector of one bit per lane marks the lanes of head `e` of its lane group. -/
def Marks (hm : IVec S512x128 1) (e : ℕ) : Prop := ∀ r l, hm (ix2 r l) = if l.val / 64 = e then 1#1 else 0#1

theorem marks0 : Marks mask0 0 := by
  intro r l
  pointwise [mask0]
  revert l
  decide +kernel

theorem marks1 : Marks mask1 1 := by
  intro r l
  pointwise [mask1, mask0]
  revert l
  decide +kernel

/-- A selection of real numbers by a mark. -/
theorem select_coe (p : Prop) [Decidable p] (x : ℝ) :
    Scalar.select (if p then 1#1 else 0#1) (x : EReal) 0 = ((if p then x else 0 : ℝ) : EReal) := by
  split <;> simp [Scalar.select]

variable {hm : IVec S512x128 1} {e : ℕ} {q o : FVec Ideal S512x128 .f32} {k v : FVec Ideal S256x128 .bf16}
  {Q O : ℕ → ℕ → ℝ} {K V : ℕ → ℕ → ℝ}

theorem qH_apply (hmk : Marks hm e) (hq : ∀ r l, q (ix2 r l) = (Q r.val l.val : EReal)) (r : Fin 512) (l : Fin 128) :
    qH hm q (ix2 r l) = ((if l.val / 64 = e then Q r.val l.val * (1 / 8) else 0 : ℝ) : EReal) := by
  pointwise [qH]
  rw [hmk, hq, Cert.Reals.ofBits_eighth, ← EReal.coe_mul, select_coe]

theorem oH_apply (hmk : Marks hm e) (ho : ∀ r l, o (ix2 r l) = (O r.val l.val : EReal)) (r : Fin 512) (l : Fin 128) :
    oH hm o (ix2 r l) = ((if l.val / 64 = e then O r.val l.val else 0 : ℝ) : EReal) := by
  pointwise [oH]
  rw [hmk, ho, select_coe]

theorem wH_apply (he : e < 2) (hmk : Marks hm e) (hq : ∀ r l, q (ix2 r l) = (Q r.val l.val : EReal))
    (hk : ∀ j l, k (ix2 j l) = (K j.val l.val : EReal)) (r : Fin 512) (j : Fin 256) :
    wH (qH hm q) k (ix2 r j) = (MemSpec.weight (64 * e) (Q r.val) K j.val : EReal) := by
  pointwise [wH]
  have hs : ∀ j : Fin 256, ∑ l : Fin 128, qH hm q (ix2 r l) * k (ix2 j l) = (MemSpec.score (64 * e) (Q r.val) K j.val : EReal) := by
    intro j
    simp only [qH_apply hmk hq, hk, ← EReal.coe_mul, Cert.Reals.sum_coe, ite_mul, zero_mul]
    rw [Cert.Reals.sum_head e he fun l => Q r.val l * (1 / 8) * K j.val l, MemSpec.score, Finset.sum_mul]
    congr 1
    exact Finset.sum_congr rfl fun d _ => by ring
  simp only [hs]
  obtain ⟨M, hM⟩ := Cert.Reals.fold_max_coe fun j : Fin 256 => MemSpec.score (64 * e) (Q r.val) K j.val
  rw [Cert.Reals.ofBits_neg_inf, hM]
  exact Cert.Reals.softmax_coe (fun j : Fin 256 => MemSpec.score (64 * e) (Q r.val) K j.val) M j

theorem sH_apply (he : e < 2) (hmk : Marks hm e) (hq : ∀ r l, q (ix2 r l) = (Q r.val l.val : EReal))
    (ho : ∀ r l, o (ix2 r l) = (O r.val l.val : EReal))
    (hk : ∀ j l, k (ix2 j l) = (K j.val l.val : EReal)) (hv : ∀ j l, v (ix2 j l) = (V j.val l.val : EReal)) (r : Fin 512) (j : Fin 256) :
    sH (wH (qH hm q) k) (oH hm o) v (ix2 r j) = (MemSpec.dscore (64 * e) (Q r.val) K (O r.val) V j.val : EReal) := by
  pointwise [sH]
  have hd : ∀ j : Fin 256, ∑ l : Fin 128, oH hm o (ix2 r l) * v (ix2 j l) = (MemSpec.dweight (64 * e) (O r.val) V j.val : EReal) := by
    intro j
    simp only [oH_apply hmk ho, hv, ← EReal.coe_mul, Cert.Reals.sum_coe, ite_mul, zero_mul]
    rw [Cert.Reals.sum_head e he fun l => O r.val l * V j.val l, MemSpec.dweight]
  simp only [hd, wH_apply he hmk hq hk, ← EReal.coe_mul, Cert.Reals.sum_coe, ← EReal.coe_sub]
  rfl

/-- The gradient of the queries in one lane group, from the loaded lanes of the queries, keys, cotangent and values. -/
def dqBlock (q o : FVec Ideal S512x128 .f32) (k v : FVec Ideal S256x128 .bf16) : FVec Ideal S512x128 .bf16 :=
  truncf .bf16 (addf (addf (broadcast S512x128 (Scalar.ofBits .f32 0x00000000#32))
    (mulf (select mask0 (matmul dot_S512x256_S256x128_S512x128_1_0_0_1_n_n none (sH (wH (qH mask0 q) k) (oH mask0 o) v) k (constant S512x128 .f32 0x00000000#32)) (broadcast S512x128 (Scalar.ofBits .f32 0x00000000#32))) (broadcast S512x128 (Scalar.ofBits .f32 0x3E000000#32))))
    (mulf (select mask1 (matmul dot_S512x256_S256x128_S512x128_1_0_0_1_n_n none (sH (wH (qH mask1 q) k) (oH mask1 o) v) k (constant S512x128 .f32 0x00000000#32)) (broadcast S512x128 (Scalar.ofBits .f32 0x00000000#32))) (broadcast S512x128 (Scalar.ofBits .f32 0x3E000000#32)))) bitsLt_bf16_f32

/-- What a block of tokens adds to the gradient of the keys in one lane group. -/
def dkBlock (q o : FVec Ideal S512x128 .f32) (k v : FVec Ideal S256x128 .bf16) : FVec Ideal S256x128 .f32 :=
  addf (addf (broadcast S256x128 (Scalar.ofBits .f32 0x00000000#32))
    (matmul dot_S512x256_S512x128_S256x128_0_0_1_1_n_n none (sH (wH (qH mask0 q) k) (oH mask0 o) v) (qH mask0 q) (constant S256x128 .f32 0x00000000#32)))
    (matmul dot_S512x256_S512x128_S256x128_0_0_1_1_n_n none (sH (wH (qH mask1 q) k) (oH mask1 o) v) (qH mask1 q) (constant S256x128 .f32 0x00000000#32))

/-- What a block of tokens adds to the gradient of the values in one lane group. -/
def dvBlock (q o : FVec Ideal S512x128 .f32) (k : FVec Ideal S256x128 .bf16) : FVec Ideal S256x128 .f32 :=
  addf (addf (broadcast S256x128 (Scalar.ofBits .f32 0x00000000#32))
    (matmul dot_S512x256_S512x128_S256x128_0_0_1_1_n_n none (truncf .bf16 (wH (qH mask0 q) k) bitsLt_bf16_f32) (oH mask0 o) (constant S256x128 .f32 0x00000000#32)))
    (matmul dot_S512x256_S512x128_S256x128_0_0_1_1_n_n none (truncf .bf16 (wH (qH mask1 q) k) bitsLt_bf16_f32) (oH mask1 o) (constant S256x128 .f32 0x00000000#32))

theorem lane_cases (l : Fin 128) : (l.val / 64 = 0 ∧ l.val / 64 ≠ 1 ∧ MemSpec.headOf l.val = 64 * 0)
    ∨ (l.val / 64 ≠ 0 ∧ l.val / 64 = 1 ∧ MemSpec.headOf l.val = 64 * 1) := by
  have := l.isLt
  unfold MemSpec.headOf
  omega

theorem dqBlock_apply (hq : ∀ r l, q (ix2 r l) = (Q r.val l.val : EReal)) (ho : ∀ r l, o (ix2 r l) = (O r.val l.val : EReal))
    (hk : ∀ j l, k (ix2 j l) = (K j.val l.val : EReal)) (hv : ∀ j l, v (ix2 j l) = (V j.val l.val : EReal)) (r : Fin 512) (l : Fin 128) :
    dqBlock q o k v (ix2 r l) = (MemSpec.dquery (Q r.val) K (O r.val) V l.val : EReal) := by
  pointwise [dqBlock]
  simp only [sH_apply (by decide) marks0 hq ho hk hv, sH_apply (by decide) marks1 hq ho hk hv, hk, marks0 r l, marks1 r l,
    Cert.Reals.ofBits_eighth, ← EReal.coe_mul, Cert.Reals.sum_coe, select_coe, ← EReal.coe_add]
  unfold MemSpec.dquery
  rcases lane_cases l with ⟨h0, h1, h⟩ | ⟨h0, h1, h⟩ <;> simp [h0, h1, h]

theorem dkBlock_apply (hq : ∀ r l, q (ix2 r l) = (Q r.val l.val : EReal)) (ho : ∀ r l, o (ix2 r l) = (O r.val l.val : EReal))
    (hk : ∀ j l, k (ix2 j l) = (K j.val l.val : EReal)) (hv : ∀ j l, v (ix2 j l) = (V j.val l.val : EReal)) (j : Fin 256) (l : Fin 128) :
    dkBlock q o k v (ix2 j l) = ((∑ r : Fin 512, MemSpec.dkey (Q r.val) K (O r.val) V j.val l.val : ℝ) : EReal) := by
  pointwise [dkBlock]
  simp only [sH_apply (by decide) marks0 hq ho hk hv, sH_apply (by decide) marks1 hq ho hk hv, qH_apply marks0 hq, qH_apply marks1 hq,
    ← EReal.coe_mul, Cert.Reals.sum_coe, ← EReal.coe_add]
  unfold MemSpec.dkey
  rcases lane_cases l with ⟨h0, h1, h⟩ | ⟨h0, h1, h⟩ <;> simp [h0, h1, h]

theorem dvBlock_apply (hq : ∀ r l, q (ix2 r l) = (Q r.val l.val : EReal)) (ho : ∀ r l, o (ix2 r l) = (O r.val l.val : EReal))
    (hk : ∀ j l, k (ix2 j l) = (K j.val l.val : EReal)) (j : Fin 256) (l : Fin 128) :
    dvBlock q o k (ix2 j l) = ((∑ r : Fin 512, MemSpec.dvalue (Q r.val) K (O r.val) j.val l.val : ℝ) : EReal) := by
  pointwise [dvBlock]
  simp only [wH_apply (by decide) marks0 hq hk, wH_apply (by decide) marks1 hq hk, oH_apply marks0 ho, oH_apply marks1 ho,
    ← EReal.coe_mul, Cert.Reals.sum_coe, ← EReal.coe_add]
  unfold MemSpec.dvalue
  rcases lane_cases l with ⟨h0, h1, h⟩ | ⟨h0, h1, h⟩ <;> simp [h0, h1, h]

end Cert.MemAttIdeal.Hand
-- ==== Proof.MemStep.lean ====
module

public import proofs.«01_k».proof.Proof.MemBody
public import Idealize.ShloMosaic.Lib.Pipeline.ReadBack

@[expose] public section

set_option maxRecDepth 16384

noncomputable section

/-! One grid point of the memory attention's gradient: what it stores, at every index of its two output blocks. -/

namespace Cert.MemAttIdeal.Hand

open Cert.MemAttIdeal Cert.MemAttIdeal.Gen Idealize.ShloMosaic Idealize.ShloMosaic.TcCoe Idealize.SL.Sem

/-- The lanes from `g` of a block of tokens. -/
def toks (x : Vec Ideal S1x512x256 .f32) (g : ℕ) (inb : ∀ a, (![0, 0, g] : Fin 3 → ℕ) a + (![1, 512, 128] : Fin 3 → ℕ) a ≤ S1x512x256.size a) :
    FVec Ideal S512x128 .f32 :=
  shapeCast S512x128 (View.ld x (Rect.unit (s := S1x512x256) ![0, 0, g] ![1, 512, 128] inb)) shapeCasts_S1x512x128_S512x128

/-- The lanes from `g` of the memory tokens. -/
def mems (x : Vec Ideal S1x256x512 .f32) (g : ℕ) (inb : ∀ a, (![0, 0, g] : Fin 3 → ℕ) a + (![1, 256, 128] : Fin 3 → ℕ) a ≤ S1x256x512.size a) :
    FVec Ideal S256x128 .bf16 :=
  truncf .bf16 (shapeCast S256x128 (View.ld x (Rect.unit (s := S1x256x512) ![0, 0, g] ![1, 256, 128] inb)) shapeCasts_S1x256x128_S256x128) bitsLt_bf16_f32

theorem castRows_apply (v : FVec Ideal S1x512x128 .f32) (r : Fin 512) (l : Fin 128) :
    shapeCast S512x128 v shapeCasts_S1x512x128_S512x128 (ix2 r l) = v (ix3 0 r l) := by
  pointwise

theorem uncastRows_apply (v : FVec Ideal S512x128 .bf16) (r : Fin 512) (l : Fin 128) :
    (shapeCast S1x512x128 v shapeCasts_S512x128_S1x512x128 : FVec Ideal S1x512x128 .bf16) (ix3 0 r l) = v (ix2 r l) := by
  pointwise

theorem castMem_apply (v : FVec Ideal S1x256x128 .f32) (j : Fin 256) (l : Fin 128) :
    shapeCast S256x128 v shapeCasts_S1x256x128_S256x128 (ix2 j l) = v (ix3 0 j l) := by
  pointwise

theorem ldRows_apply (x : Vec Ideal S1x512x256 .f32) (g : ℕ) (inb) (r : Fin 512) (l : Fin 128) (l' : Fin 256) (e : l'.val = g + l.val) :
    View.ld x (Rect.unit (s := S1x512x256) ![0, 0, g] ![1, 512, 128] inb) (ix3 0 r l : S1x512x128.Idx) = x (ix3 0 r l') := by
  refine View.ld_unit_apply_of x ![0, 0, g] ![1, 512, 128] inb _ _ fun a => ?_
  match a with
  | 0 => rfl
  | 1 => exact (Nat.zero_add _).symm
  | 2 => exact e

theorem ldMem_apply (x : Vec Ideal S1x256x512 .f32) (g : ℕ) (inb) (r : Fin 256) (l : Fin 128) (l' : Fin 512) (e : l'.val = g + l.val) :
    View.ld x (Rect.unit (s := S1x256x512) ![0, 0, g] ![1, 256, 128] inb) (ix3 0 r l : S1x256x128.Idx) = x (ix3 0 r l') := by
  refine View.ld_unit_apply_of x ![0, 0, g] ![1, 256, 128] inb _ _ fun a => ?_
  match a with
  | 0 => rfl
  | 1 => exact (Nat.zero_add _).symm
  | 2 => exact e

theorem toks_apply {x : Vec Ideal S1x512x256 .f32} {Q : ℕ → ℕ → ℝ} (hx : ∀ (r : Fin 512) (l : Fin 256), x (ix3 0 r l) = (Q r.val l.val : EReal))
    (g : ℕ) (hg : g + 128 ≤ 256) (inb) (r : Fin 512) (l : Fin 128) : toks x g inb (ix2 r l) = (Q r.val (g + l.val) : EReal) :=
  (castRows_apply _ r l).trans ((ldRows_apply x g inb r l ⟨g + l.val, by omega⟩ rfl).trans (hx r _))

theorem mems_apply {x : Vec Ideal S1x256x512 .f32} {M : ℕ → ℕ → ℝ} (hx : ∀ (j : Fin 256) (l : Fin 512), x (ix3 0 j l) = (M j.val l.val : EReal))
    (g : ℕ) (hg : g + 128 ≤ 512) (inb) (j : Fin 256) (l : Fin 128) : mems x g inb (ix2 j l) = (M j.val (g + l.val) : EReal) :=
  (castMem_apply _ j l).trans ((ldMem_apply x g inb j l ⟨g + l.val, by omega⟩ rfl).trans (hx j _))

/-- A block added to what a lane group of the memory tokens' gradient held. -/
def added (old : FVec Ideal S1x256x128 .f32) (b : FVec Ideal S256x128 .f32) : FVec Ideal S1x256x128 .f32 :=
  shapeCast S1x256x128 (addf (shapeCast S256x128 old shapeCasts_S1x256x128_S256x128) b) shapeCasts_S256x128_S1x256x128

theorem added_apply (old : FVec Ideal S1x256x128 .f32) (b : FVec Ideal S256x128 .f32) (j : Fin 256) (l : Fin 128) :
    added old b (ix3 0 j l) = old (ix3 0 j l) + b (ix2 j l) := by
  pointwise [added]

/-- What a block of tokens adds to the memory tokens' gradient: keys in the first 256 lanes, values in the last 256. -/
def tileGrad (Q O M : ℕ → ℕ → ℝ) (j l : ℕ) : ℝ :=
  if l < 256 then ∑ r : Fin 512, MemSpec.dkey (Q r.val) M (O r.val) (fun j l => M j (256 + l)) j l
  else ∑ r : Fin 512, MemSpec.dvalue (Q r.val) M (O r.val) j (l - 256)

theorem idx_eq (x : S1x256x128.Idx) : ∃ j l, x = ix3 0 j l := by
  idx_vars x
  exact ⟨x1, x2, by rw [Subsingleton.elim x0 0]⟩

theorem rows_eq (x : S1x512x128.Idx) : ∃ r l, x = ix3 0 r l := by
  idx_vars x
  exact ⟨x1, x2, by rw [Subsingleton.elim x0 0]⟩

section

variable {x0 x2 : Vec Ideal S1x512x256 .f32} {x1 base : Vec Ideal S1x256x512 .f32} {Q O M : ℕ → ℕ → ℝ}
  (h0 : ∀ (r : Fin 512) (l : Fin 256), x0 (ix3 0 r l) = (Q r.val l.val : EReal))
  (h1 : ∀ (j : Fin 256) (l : Fin 512), x1 (ix3 0 j l) = (M j.val l.val : EReal))
  (h2 : ∀ (r : Fin 512) (l : Fin 256), x2 (ix3 0 r l) = (O r.val l.val : EReal))

include h0 h1 h2

/-- The gradient of the queries in the lane group from `128 * g`. -/
theorem dq_piece (g : ℕ) (hg : g < 2) (a v : ℕ) (ha : a = 128 * g) (hv : v = 256 + 128 * g) (y : S1x512x256.Idx) (x : S1x512x128.Idx) (inb inb' inb'')
    (e1 : (y 1 : ℕ) = x 1) (e2 : (y 2 : ℕ) = a + x 2) :
    (shapeCast S1x512x128 (dqBlock (toks x0 a inb) (toks x2 a inb) (mems x1 a inb') (mems x1 v inb''))
      shapeCasts_S512x128_S1x512x128 : FVec Ideal S1x512x128 .bf16) x
      = (MemSpec.dquery (Q (y 1).val) M (O (y 1).val) (fun j l => M j (256 + l)) (y 2).val : EReal) := by
  subst ha hv
  obtain ⟨r, l, rfl⟩ := rows_eq x
  have e1 : (y 1 : ℕ) = r := e1
  have e2 : (y 2 : ℕ) = 128 * g + l := e2
  rw [uncastRows_apply, dqBlock_apply (Q := fun r l => Q r (128 * g + l)) (O := fun r l => O r (128 * g + l)) (K := fun j l => M j (128 * g + l)) (V := fun j l => M j (256 + 128 * g + l))
    (toks_apply h0 _ (by omega) inb) (toks_apply h2 _ (by omega) inb) (mems_apply h1 _ (by omega) inb') (mems_apply h1 _ (by omega) inb''), e1, e2]
  simp only [Nat.add_assoc, ← MemSpec.dquery_shift]

omit h0 h1 h2 in
theorem base_apply {g : ℕ} (y : S1x256x512.Idx) (j : Fin 256) (l : Fin 128) (inb) (e1 : (y 1 : ℕ) = j) (e2 : (y 2 : ℕ) = g + l) :
    View.ld base (Rect.unit (s := S1x256x512) ![0, 0, g] ![1, 256, 128] inb) (ix3 0 j l : S1x256x128.Idx) = base y := by
  refine View.ld_unit_apply_of base ![0, 0, g] ![1, 256, 128] inb _ _ fun a => ?_
  match a with
  | 0 => exact Nat.lt_one_iff.mp (y 0).isLt
  | 1 => exact e1.trans (Nat.zero_add _).symm
  | 2 => exact e2

/-- The gradient of the keys in the lane group from `128 * g`. -/
theorem dk_piece (g : ℕ) (hg : g < 2) (a v : ℕ) (ha : a = 128 * g) (hv : v = 256 + 128 * g) (y : S1x256x512.Idx) (x : S1x256x128.Idx) (inb inb' inb'' inb3)
    (e1 : (y 1 : ℕ) = x 1) (e2 : (y 2 : ℕ) = a + x 2) :
    added (View.ld base (Rect.unit (s := S1x256x512) ![0, 0, a] ![1, 256, 128] inb3)) (dkBlock (toks x0 a inb) (toks x2 a inb) (mems x1 a inb') (mems x1 v inb'')) x
      = base y + (tileGrad Q O M (y 1).val (y 2).val : EReal) := by
  subst ha hv
  obtain ⟨j, l, rfl⟩ := idx_eq x
  have e1 : (y 1 : ℕ) = j := e1
  have e2 : (y 2 : ℕ) = 128 * g + l := e2
  rw [added_apply, base_apply y j l _ e1 e2, dkBlock_apply (Q := fun r l => Q r (128 * g + l)) (O := fun r l => O r (128 * g + l)) (K := fun j l => M j (128 * g + l)) (V := fun j l => M j (256 + 128 * g + l))
    (toks_apply h0 _ (by omega) inb) (toks_apply h2 _ (by omega) inb) (mems_apply h1 _ (by omega) inb') (mems_apply h1 _ (by omega) inb''), e1, e2,
    tileGrad, if_pos (by omega)]
  simp only [Nat.add_assoc, ← MemSpec.dkey_shift]

/-- The gradient of the values in the lane group from `128 * g`. -/
theorem dv_piece (g : ℕ) (hg : g < 2) (a v : ℕ) (ha : a = 128 * g) (hv : v = 256 + 128 * g) (y : S1x256x512.Idx) (x : S1x256x128.Idx) (inb inb' inb3)
    (e1 : (y 1 : ℕ) = x 1) (e2 : (y 2 : ℕ) = v + x 2) :
    added (View.ld base (Rect.unit (s := S1x256x512) ![0, 0, v] ![1, 256, 128] inb3)) (dvBlock (toks x0 a inb) (toks x2 a inb) (mems x1 a inb')) x
      = base y + (tileGrad Q O M (y 1).val (y 2).val : EReal) := by
  subst ha hv
  obtain ⟨j, l, rfl⟩ := idx_eq x
  have e1 : (y 1 : ℕ) = j := e1
  have e2 : (y 2 : ℕ) = 256 + 128 * g + l := e2
  rw [added_apply, base_apply y j l _ e1 e2, dvBlock_apply (Q := fun r l => Q r (128 * g + l)) (O := fun r l => O r (128 * g + l)) (K := fun j l => M j (128 * g + l))
    (toks_apply h0 _ (by omega) inb) (toks_apply h2 _ (by omega) inb) (mems_apply h1 _ (by omega) inb'), e1, e2,
    tileGrad, if_neg (by omega), show 256 + 128 * g + l.val - 256 = 128 * g + l.val by omega]
  simp only [← MemSpec.dvalue_shift]

end

theorem emb_one (g : ℕ) (inb) (x : S1x256x128.Idx) : ((Rect.unit (s := S1x256x512) ![0, 0, g] ![1, 256, 128] inb).emb x 1 : ℕ) = x 1 :=
  by blk_simp

theorem emb_two (g : ℕ) (inb) (x : S1x256x128.Idx) : ((Rect.unit (s := S1x256x512) ![0, 0, g] ![1, 256, 128] inb).emb x 2 : ℕ) = g + x 2 :=
  by blk_simp

theorem fill_apply (y : S1x256x512.Idx) : k0_pay4 (F := Ideal) y = 0 := by
  idx_vars y
  pointwise [k0_pay4]

variable (m : (ℓ : Loc nD τ sig) → Buf (Elt Ideal) ℓ) (c : Dev nD) (t : Fin cfg0.N) {Q O M : ℕ → ℕ → ℝ}
  (hq : ∀ (r : Fin 512) (l : Fin 256), iblk m c 0 t (ix3 0 r l : S1x512x256.Idx) = (Q r.val l.val : EReal))
  (hm : ∀ (j : Fin 256) (l : Fin 512), iblk m c 1 t (ix3 0 j l : S1x256x512.Idx) = (M j.val l.val : EReal))
  (ho : ∀ (r : Fin 512) (l : Fin 256), iblk m c 2 t (ix3 0 r l : S1x512x256.Idx) = (O r.val l.val : EReal))

include hq hm ho

/-- The block of the queries' gradient that a grid point writes. -/
theorem dq_point (y : S1x512x256.Idx) :
    (dats m 0 c).flushed 3 t y = (MemSpec.dquery (Q (y 1).val) M (O (y 1).val) (fun j l => M j (256 + l)) (y 2).val : EReal) := by
  by_cases hc : t.val % 4 = 0
  · rw [Value.flushed3_A m c t hc]
    frame_out
    change View.canon _ y = _
    canon_tiles x h
    · exact dq_piece hq hm ho 1 (by decide) _ _ rfl rfl y x _ _ _ (by omega) (by omega)
    · exact dq_piece hq hm ho 0 (by decide) _ _ rfl rfl y x _ _ _ (by omega) (by omega)
  · rw [Value.flushed3_B m c t hc]
    frame_out
    change View.canon _ y = _
    canon_tiles x h
    · exact dq_piece hq hm ho 1 (by decide) _ _ rfl rfl y x _ _ _ (by omega) (by omega)
    · exact dq_piece hq hm ho 0 (by decide) _ _ rfl rfl y x _ _ _ (by omega) (by omega)

/-- What the running gradient of the memory tokens holds after a grid point that does not begin a batch. -/
theorem dmem_point (hc : ¬t.val % 4 = 0) (y : S1x256x512.Idx) :
    (outsAt0 m c t.val t.isLt).2 y
      = (outsAt0 m c (t.val - 1) (Nat.lt_of_le_of_lt (Nat.sub_le _ _) t.isLt)).2 y + (tileGrad Q O M (y 1).val (y 2).val : EReal) := by
  rw [outsAt0_B m c t hc]
  dsimp only
  frame_open
  simp (disch := decide) only [↓ View.readCov_skip, ↓ View.readCov_cons_toLoadRect, ↓ View.readCov_fill]
  frame_out
  canon_tiles x h
  · exact dv_piece hq hm ho 1 (by decide) _ _ rfl rfl y x _ _ _ (by omega) (by omega)
  · exact dk_piece hq hm ho 1 (by decide) _ _ rfl rfl y x _ _ _ _ (by omega) (by omega)
  · exact dv_piece hq hm ho 0 (by decide) _ _ rfl rfl y x _ _ _ (by omega) (by omega)
  · exact dk_piece hq hm ho 0 (by decide) _ _ rfl rfl y x _ _ _ _ (by omega) (by omega)

/-- What the running gradient of the memory tokens holds after the grid point that begins a batch. -/
theorem dmem_first (hc : t.val % 4 = 0) (y : S1x256x512.Idx) :
    (outsAt0 m c t.val t.isLt).2 y = (tileGrad Q O M (y 1).val (y 2).val : EReal) := by
  rw [outsAt0_A m c t hc]
  dsimp only
  frame_open
  simp (disch := decide) only [↓ View.readCov_skip, ↓ View.readCov_cons_toLoadRect, ↓ View.readCov_fill]
  frame_out
  refine Eq.trans ?_ (show k0_pay4 (F := Ideal) y + (tileGrad Q O M (y 1).val (y 2).val : EReal) = _ by rw [fill_apply, zero_add])
  refine View.canon_append_of_piecesOf (Val := Elt Ideal) (e := .f32) (fun y : S1x256x512.Idx => k0_pay4 (F := Ideal) y + (tileGrad Q O M (y 1).val (y 2).val : EReal))
    [_] [_, _, _, _] ⟨fun (x : S1x256x128.Idx) => ?_, fun (x : S1x256x128.Idx) => ?_, fun (x : S1x256x128.Idx) => ?_, fun (x : S1x256x128.Idx) => ?_, trivial⟩ y ?_
  · exact dv_piece hq hm ho 1 (by decide) _ _ rfl rfl _ x _ _ _ (emb_one _ (by decide) x) (emb_two _ (by decide) x)
  · exact dk_piece hq hm ho 1 (by decide) _ _ rfl rfl _ x _ _ _ _ (emb_one _ (by decide) x) (emb_two _ (by decide) x)
  · exact dv_piece hq hm ho 0 (by decide) _ _ rfl rfl _ x _ _ _ (emb_one _ (by decide) x) (emb_two _ (by decide) x)
  · exact dk_piece hq hm ho 0 (by decide) _ _ rfl rfl _ x _ _ _ _ (emb_one _ (by decide) x) (emb_two _ (by decide) x)
  · exact View.cover_of_tiledL _ ![1, 256, 128] (by sl_kernel_rfl) y

end Cert.MemAttIdeal.Hand
-- ==== Proof.MemKernel.lean ====
module

public import proofs.«01_k».proof.Proof.MemStep

@[expose] public section

set_option maxRecDepth 16384

noncomputable section

/-! The two arrays that the memory attention's gradient leaves, at every index, when the entries it reads are real numbers. -/

namespace Cert.MemAttIdeal.Hand

open Cert.MemAttIdeal Cert.MemAttIdeal.Gen Idealize.ShloMosaic Idealize.ShloMosaic.TcCoe Idealize.SL.Sem

theorem where0 : ∀ t : Fin cfg0.N, win0_0.index t = ![t.val / 4, t.val % 4, 6] := (by decide +kernel : ∀ t : Fin grid0.N, _)
theorem where1 : ∀ t : Fin cfg0.N, win0_1.index t = ![t.val / 4, 0, 0] := (by decide +kernel : ∀ t : Fin grid0.N, _)
theorem where2 : ∀ t : Fin cfg0.N, win0_2.index t = ![t.val / 4, t.val % 4, 3] := (by decide +kernel : ∀ t : Fin grid0.N, _)
theorem where3 : ∀ t : Fin cfg0.N, win0_3.index t = ![t.val / 4, t.val % 4, 0] := (by decide +kernel : ∀ t : Fin grid0.N, _)
theorem where4 : ∀ t : Fin cfg0.N, win0_4.index t = ![t.val / 4, 0, 0] := (by decide +kernel : ∀ t : Fin grid0.N, _)

variable (m : (ℓ : Loc nD τ sig) → Buf (Elt Ideal) ℓ) (c : Dev nD) {Q O M : ℕ → ℕ → ℕ → ℝ}
  (hq : ∀ i : S4x2048x1792.Idx, 1536 ≤ (i 2).val → m ((c : Thread nD τ).loc main_arg0) i = (Q (i 0).val (i 1).val ((i 2).val - 1536) : EReal))
  (hm : ∀ i : S4x256x512.Idx, m ((c : Thread nD τ).loc main_arg1) i = (M (i 0).val (i 1).val (i 2).val : EReal))
  (ho : ∀ i : S4x2048x1024.Idx, 768 ≤ (i 2).val → m ((c : Thread nD τ).loc main_arg2) i = (O (i 0).val (i 1).val ((i 2).val - 768) : EReal))

include hq in
theorem block0 (t : Fin cfg0.N) (r : Fin 512) (l : Fin 256) :
    iblk m c 0 t (ix3 0 r l : S1x512x256.Idx) = (Q (t.val / 4) (t.val % 4 * 512 + r.val) l.val : EReal) := by
  blk_simp [iblk]
  rw [V_main_arg0, hq _ (by blk_simp [where0]; omega)]
  blk_simp [where0]
  simp

include hm in
theorem block1 (t : Fin cfg0.N) (j : Fin 256) (l : Fin 512) :
    iblk m c 1 t (ix3 0 j l : S1x256x512.Idx) = (M (t.val / 4) j.val l.val : EReal) := by
  blk_simp [iblk]
  rw [V_main_arg1, hm]
  blk_simp [where1]
  simp

include ho in
theorem block2 (t : Fin cfg0.N) (r : Fin 512) (l : Fin 256) :
    iblk m c 2 t (ix3 0 r l : S1x512x256.Idx) = (O (t.val / 4) (t.val % 4 * 512 + r.val) l.val : EReal) := by
  blk_simp [iblk]
  rw [V_main_arg2, ho _ (by blk_simp [where2]; omega)]
  blk_simp [where2]
  simp

/-- The gradient of the queries, over the whole array. -/
def dqArray (Q O M : ℕ → ℕ → ℕ → ℝ) (i : S4x2048x256.Idx) : EReal :=
  (MemSpec.dquery (Q (i 0).val (i 1).val) (M (i 0).val) (O (i 0).val (i 1).val) (fun j l => M (i 0).val j (256 + l)) (i 2).val : ℝ)

/-- The gradient of memory token `j` of batch `b` in lane `l`: keys in the first 256 lanes, values in the last 256. -/
def dmemAt (Q O M : ℕ → ℕ → ℕ → ℝ) (b j l : ℕ) : ℝ :=
  if l < 256 then ∑ s : Fin 2048, MemSpec.dkey (Q b s.val) (M b) (O b s.val) (fun j l => M b j (256 + l)) j l
  else ∑ s : Fin 2048, MemSpec.dvalue (Q b s.val) (M b) (O b s.val) j (l - 256)

/-- The gradient of the memory tokens, over the whole array. -/
def dmemArray (Q O M : ℕ → ℕ → ℕ → ℝ) (i : S4x256x512.Idx) : EReal := (dmemAt Q O M (i 0).val (i 1).val (i 2).val : ℝ)

include hq hm ho in
theorem dq_array : (dats m 0 c).arrAt 3 cfg0.N = dqArray Q O M := by
  refine (dats m 0 c).arrAt_eq_of_covers 3 _ (by decide +kernel) fun t hf y => ?_
  refine (dq_point m c t (Q := fun r => Q (t.val / 4) (t.val % 4 * 512 + r)) (O := fun r => O (t.val / 4) (t.val % 4 * 512 + r)) (M := M (t.val / 4)) (block0 m c hq t) (block1 m c hm t) (block2 m c ho t) y).trans ?_
  blk_simp [dqArray, where3]

/-- The four tiles of a batch, added, are the sum over the batch's tokens. -/
theorem tiles_sum (Q O M : ℕ → ℕ → ℕ → ℝ) (b j l : ℕ) :
    ∑ s : Fin 4, tileGrad (fun r => Q b (s.val * 512 + r)) (fun r => O b (s.val * 512 + r)) (M b) j l = dmemAt Q O M b j l := by
  unfold tileGrad dmemAt
  split
  · exact Fin.sum_mul_add_congr fun s k h => rfl
  · exact Fin.sum_mul_add_congr fun s k h => rfl

include hq hm ho in
theorem dmem_flush (t : Fin cfg0.N) (h : t.val % 4 = 3) (y : S1x256x512.Idx) :
    (outsAt0 m c t.val t.isLt).2 y = (dmemAt Q O M (t.val / 4) (y 1).val (y 2).val : EReal) := by
  rw [Pipeline.eq_sum_fin_of_reset_step_apply_of_flush (fun n h => (outsAt0 m c n h).2) 4 (fun _ => (0 : EReal))
    (fun t y => (tileGrad (fun r => Q (t.val / 4) (t.val % 4 * 512 + r)) (fun r => O (t.val / 4) (t.val % 4 * 512 + r)) (M (t.val / 4)) (y 1).val (y 2).val : EReal))
    (fun t hc y => (dmem_first m c t (block0 m c hq t) (block1 m c hm t) (block2 m c ho t) hc y).trans (zero_add _).symm)
    (fun t hc y => dmem_point m c t (block0 m c hq t) (block1 m c hm t) (block2 m c ho t) hc y) t h y]
  have hd : ∀ s : Fin 4, (4 * (t.val / 4) + s.val) / 4 = t.val / 4 := fun s => by omega
  have hr : ∀ s : Fin 4, (4 * (t.val / 4) + s.val) % 4 = s.val := fun s => by omega
  simp only [hd, hr, Cert.Reals.sum_coe, tiles_sum, zero_add]

include hq hm ho in
theorem dmem_array : (dats m 0 c).arrAt 4 cfg0.N = dmemArray Q O M := by
  refine (dats m 0 c).arrAt_eq_of_covers 4 _ (by decide +kernel) fun t hf y => ?_
  have h := dmem_flush m c hq hm ho t ((flush0_4 t).mp hf) y
  blk_simp
  rw [after0_4, h, dmemArray]
  blk_simp [where4]

end Cert.MemAttIdeal.Hand
-- ==== Proof.MemRef.lean ====
module

public import proofs.«01_k».proof.Proof.Reals
public import proofs.«01_k».proof.Proof.MemSpec
public import proofs.«01_k».proof.Proof.Gen.MemAttRefIdeal.Read
public import Idealize.ShloMosaic.Lib.Pointwise

@[expose] public section

set_option maxRecDepth 16384

noncomputable section

/-! The gradient of the memory attention as the reference computes it, at every index, when the entries it reads are real numbers. -/

namespace Cert.MemAttRefIdeal.Hand

open Cert.MemAttRefIdeal Cert.MemAttRefIdeal.Value Cert.MemAttRefIdeal.Read Idealize.ShloMosaic Idealize.ShloMosaic.TcCoe Idealize.SL.Sem

variable {x0 : S4x2048x1792.Idx → EReal} {x1 : S4x256x512.Idx → EReal} {x2 : S4x2048x1024.Idx → EReal} {Q O M : ℕ → ℕ → ℕ → ℝ}
  (hq : ∀ i : S4x2048x1792.Idx, 1536 ≤ (i 2).val → x0 i = (Q (i 0).val (i 1).val ((i 2).val - 1536) : EReal))
  (hm : ∀ i : S4x256x512.Idx, x1 i = (M (i 0).val (i 1).val (i 2).val : EReal))
  (ho : ∀ i : S4x2048x1024.Idx, 768 ≤ (i 2).val → x2 i = (O (i 0).val (i 1).val ((i 2).val - 768) : EReal))

theorem coe_congr {f : ℕ → ℕ → ℕ → ℝ} {a b c a' b' c' : ℕ} (ha : a = a') (hb : b = b') (hc : c = c') :
    ((f a b c : ℝ) : EReal) = ((f a' b' c' : ℝ) : EReal) := by subst ha hb hc; rfl

include hq in
/-- The queries, split into heads. -/
theorem queries (i : S4x2048x4x64.Idx) : val_main_v5 (F := Ideal) x0 i = (Q (i 0).val (i 1).val (64 * (i 2).val + (i 3).val) : EReal) := by
  have b0 : (i 0).val < 4 := (i 0).isLt
  have b1 : (i 1).val < 2048 := (i 1).isLt
  have b2 : (i 2).val < 4 := (i 2).isLt
  have b3 : (i 3).val < 64 := (i 3).isLt
  rw [val_main_v5_apply, val_main_v0_apply, hq _ (Nat.le_add_right _ _)]
  dsimp only [idx_main_v0, idx_main_v5]
  exact coe_congr (by omega) (by omega) (by omega)

include ho in
/-- The cotangent, split into heads. -/
theorem cots (i : S4x4x64x2048.Idx) : val_main_v42 (F := Ideal) x2 i = (O (i 0).val (i 3).val (64 * (i 1).val + (i 2).val) : EReal) := by
  have b0 : (i 0).val < 4 := (i 0).isLt
  have b1 : (i 1).val < 4 := (i 1).isLt
  have b2 : (i 2).val < 64 := (i 2).isLt
  have b3 : (i 3).val < 2048 := (i 3).isLt
  rw [val_main_v42_apply, val_main_v41_apply, val_main_v40_apply, ho _ (Nat.le_add_right _ _)]
  dsimp only [idx_main_v40, idx_main_v41, idx_main_v42]
  exact coe_congr (by omega) (by omega) (by omega)

include hm in
/-- The memory tokens' keys, split into heads. -/
theorem keys (i : S4x256x4x64.Idx) : val_main_v3 (F := Ideal) x1 i = (M (i 0).val (i 1).val (64 * (i 2).val + (i 3).val) : EReal) := by
  have b0 : (i 0).val < 4 := (i 0).isLt
  have b1 : (i 1).val < 256 := (i 1).isLt
  have b2 : (i 2).val < 4 := (i 2).isLt
  have b3 : (i 3).val < 64 := (i 3).isLt
  rw [val_main_v3_apply, val_main_v1_apply, hm]
  dsimp only [idx_main_v1, idx_main_v3]
  exact coe_congr (by omega) (by omega) (by omega)

include hm in
/-- The memory tokens' values, split into heads. -/
theorem values (i : S4x256x4x64.Idx) : val_main_v4 (F := Ideal) x1 i = (M (i 0).val (i 1).val (256 + (64 * (i 2).val + (i 3).val)) : EReal) := by
  have b0 : (i 0).val < 4 := (i 0).isLt
  have b1 : (i 1).val < 256 := (i 1).isLt
  have b2 : (i 2).val < 4 := (i 2).isLt
  have b3 : (i 3).val < 64 := (i 3).isLt
  rw [val_main_v4_apply, val_main_v2_apply, hm]
  dsimp only [idx_main_v2, idx_main_v4]
  exact coe_congr (by omega) (by omega) (by omega)

include hq hm in
/-- The scores. -/
theorem scores (i : S4x4x2048x256.Idx) :
    val_main_v8 (F := Ideal) x0 x1 i = (MemSpec.score (64 * (i 1).val) (Q (i 0).val (i 2).val) (M (i 0).val) (i 3).val : EReal) := by
  rw [val_main_v8_apply, val_main_v6_apply, val_main_v7_apply, val_main_cst_apply]
  simp only [queries hq, keys hm]
  show _ * Ideal.ofBits .f32 0x3E000000#32 = _
  rw [Cert.Reals.ofBits_eighth]
  simp only [← EReal.coe_mul, Cert.Reals.sum_coe]
  rfl

include hq hm in
/-- The number subtracted from a row's scores is a real number. -/
theorem greatest (i : S4x4x2048.Idx) : ∃ X : ℝ, val_main_v16 (F := Ideal) x0 x1 i = (X : EReal) := by
  rw [val_main_v16_apply, val_main_v15_apply, val_main_cst_2_apply]
  idx_vars i
  pointwise [val_main_v9, val_main_cst_0]
  rw [Cert.Reals.ofBits_neg_inf]
  simp only [scores hq hm]
  obtain ⟨X, hX⟩ := Cert.Reals.fold_max_coe fun x : Fin 256 => MemSpec.score (64 * i1.val) (Q i0.val i2.val) (M i0.val) x.val
  exact ⟨X, (max_eq_right bot_le).trans hX⟩

/-- A row's exponentials, for a number subtracted from its scores. -/
def expo (Q M : ℕ → ℕ → ℕ → ℝ) (X : S4x4x2048.Idx → ℝ) (i : S4x4x2048.Idx) (j : ℕ) : ℝ :=
  Real.exp (MemSpec.score (64 * (i 1).val) (Q (i 0).val (i 2).val) (M (i 0).val) j - X i)

/-- The sum of a row's exponentials. -/
def denom (Q M : ℕ → ℕ → ℕ → ℝ) (X : S4x4x2048.Idx → ℝ) (i : S4x4x2048.Idx) : ℝ := ∑ j : Fin 256, expo Q M X i j.val

theorem denom_pos (X : S4x4x2048.Idx → ℝ) (i : S4x4x2048.Idx) : 0 < denom Q M X i :=
  Finset.sum_pos (fun _ _ => Real.exp_pos _) Finset.univ_nonempty

/-- An exponential over the row's sum is the weight. -/
theorem expo_div (X : S4x4x2048.Idx → ℝ) (i : S4x4x2048.Idx) (j : ℕ) :
    expo Q M X i j / denom Q M X i = MemSpec.weight (64 * (i 1).val) (Q (i 0).val (i 2).val) (M (i 0).val) j := by
  unfold expo denom expo MemSpec.weight
  simp only [Real.exp_sub, ← Finset.sum_div]
  exact div_div_div_cancel_right₀ (Real.exp_pos _).ne' _ _

/-- A coordinate of an array of 256 lanes, split into heads. -/
theorem split_lane {a b c n : ℕ} (hb : b < n) (hc : c < 256) :
    ((a * n + b) * 256 + c) / (256 * n) = a ∧ ((a * n + b) * 256 + c) / 256 % n = b ∧ ((a * n + b) * 256 + c) / 64 % 4 = c / 64
      ∧ ((a * n + b) * 256 + c) % 64 = c % 64 := by
  have e : ((a * n + b) * 256 + c) / 256 = a * n + b := by omega
  refine ⟨?_, ?_, by omega, by omega⟩
  · rw [← Nat.div_div_eq_div_mul, e, Nat.mul_comm, Nat.mul_add_div (by omega), Nat.div_eq_of_lt hb, Nat.add_zero]
  · rw [e, Nat.mul_comm, Nat.mul_add_mod, Nat.mod_eq_of_lt hb]

/-- The row of an index of the scores. -/
def row (i : S4x4x2048x256.Idx) : S4x4x2048.Idx := fun a => match a with
  | ⟨0, _⟩ => i 0
  | ⟨1, _⟩ => i 1
  | ⟨2, _⟩ => i 2

section

variable {X : S4x4x2048.Idx → ℝ} (hX : ∀ i, val_main_v16 (F := Ideal) x0 x1 i = (X i : EReal))

include hq hm hX

/-- The exponentials. -/
theorem expos (i : S4x4x2048x256.Idx) : val_main_v29 (F := Ideal) x0 x1 i = (expo Q M X (row i) (i 3).val : EReal) := by
  rw [val_main_v29_apply, val_main_v28_apply, val_main_v27_apply, val_main_v26_apply, scores hq hm, hX]
  have h : idx_main_v26 (idx_main_v27 i) = row i := by
    funext a; match a with
    | ⟨0, _⟩ => rfl
    | ⟨1, _⟩ => rfl
    | ⟨2, _⟩ => rfl
  rw [h]
  rw [Ideal.hostUnary_exp_def, Ideal.subf_def, ← EReal.coe_sub, Ideal.exp_coe]
  rfl

/-- Their sums. -/
theorem denoms (i : S4x4x2048.Idx) : val_main_v30 (F := Ideal) x0 x1 i = (denom Q M X i : EReal) := by
  rw [val_main_v30_apply, val_main_cst_8_apply]
  simp only [expos hq hm hX, Cert.Reals.sum_coe]
  have h : ∀ k, row (idx_main_v30 i k) = i := fun k => by
    funext a; match a with
    | ⟨0, _⟩ => rfl
    | ⟨1, _⟩ => rfl
    | ⟨2, _⟩ => rfl
  simp only [h]
  show Ideal.ofBits .f32 0x00000000#32 + _ = _
  rw [show Ideal.ofBits .f32 0x00000000#32 = 0 by simp [Ideal.ofBits, Ideal.ieee], zero_add]
  rfl

/-- The weights. -/
theorem weights (i : S4x4x2048x256.Idx) :
    val_main_v33 (F := Ideal) x0 x1 i = (MemSpec.weight (64 * (i 1).val) (Q (i 0).val (i 2).val) (M (i 0).val) (i 3).val : EReal) := by
  rw [val_main_v33_apply, expos hq hm hX, val_main_v32_apply, val_main_v31_apply, denoms hq hm hX]
  have h : idx_main_v31 (idx_main_v32 i) = row i := by
    funext a; match a with
    | ⟨0, _⟩ => rfl
    | ⟨1, _⟩ => rfl
    | ⟨2, _⟩ => rfl
  rw [h]
  show Ideal.div _ _ = _
  rw [Cert.Reals.div_coe _ _ (denom_pos X (row i)).ne', expo_div]
  rfl

include ho

omit hq hX in
/-- The weights' cotangents. -/
theorem dweights (i : S4x4x2048x256.Idx) :
    val_main_v43 (F := Ideal) x1 x2 i = (MemSpec.dweight (64 * (i 1).val) (O (i 0).val (i 2).val) (fun j l => M (i 0).val j (256 + l)) (i 3).val : EReal) := by
  rw [val_main_v43_apply]
  simp only [cots ho, values hm, ← EReal.coe_mul, Cert.Reals.sum_coe]
  rfl

/-- The scores' cotangents, times one eighth. -/
theorem dscores (i : S4x4x2048x256.Idx) :
    val_main_v59 (F := Ideal) x0 x1 x2 i
      = (MemSpec.dscore (64 * (i 1).val) (Q (i 0).val (i 2).val) (M (i 0).val) (O (i 0).val (i 2).val) (fun j l => M (i 0).val j (256 + l)) (i 3).val * (1 / 8) : ℝ) := by
  have hr : idx_main_v31 (idx_main_v52 i) = row i := by
    funext a; match a with
    | ⟨0, _⟩ => rfl
    | ⟨1, _⟩ => rfl
    | ⟨2, _⟩ => rfl
  have h49 : ∀ r : S4x4x2048.Idx, val_main_v49 (F := Ideal) x0 x1 x2 r
      = ((∑ j : Fin 256, MemSpec.dweight (64 * (r 1).val) (O (r 0).val (r 2).val) (fun j l => M (r 0).val j (256 + l)) j.val
          * (1 / (denom Q M X r * denom Q M X r)) * expo Q M X r j.val : ℝ) : EReal) := by
    intro r
    have e1 : ∀ k, idx_main_v31 (idx_main_v46 (idx_main_v49 r k)) = r := fun k => by
      funext a; match a with
      | ⟨0, _⟩ => rfl
      | ⟨1, _⟩ => rfl
      | ⟨2, _⟩ => rfl
    have e2 : ∀ k, row (idx_main_v49 r k) = r := fun k => by
      funext a; match a with
      | ⟨0, _⟩ => rfl
      | ⟨1, _⟩ => rfl
      | ⟨2, _⟩ => rfl
    rw [val_main_v49_apply, val_main_cst_10_apply]
    simp only [val_main_v48_apply, val_main_v47_apply, val_main_v46_apply, val_main_v36_apply, val_main_v35_apply, val_main_cst_9_apply,
      val_main_v34_apply, val_main_v31_apply, dweights hm ho, expos hq hm hX, denoms hq hm hX, e1, e2, Ideal.mulf_def, Ideal.hostDivf_def,
      Ideal.ofBits_def, ← EReal.coe_mul]
    have hd : ∀ x : ℝ, Ideal.div (1 : EReal) ((denom Q M X r * denom Q M X r : ℝ) : EReal) = ((1 / (denom Q M X r * denom Q M X r) : ℝ) : EReal) := fun _ =>
      Cert.Reals.div_coe 1 _ (mul_pos (denom_pos X r) (denom_pos X r)).ne'
    simp only [Ideal.ofBits_zero_f32, Ideal.ofBits_one_f32, hd 0, ← EReal.coe_mul, Cert.Reals.sum_coe, zero_add]
  have h54 : ∀ k, idx_main_v50 (idx_main_v54 (idx_main_v55 i) k) = row i := fun k => by
    have b0 : (i 0).val < 4 := (i 0).isLt
    have b1 : (i 1).val < 4 := (i 1).isLt
    have b2 : (i 2).val < 2048 := (i 2).isLt
    funext a; match a with
    | ⟨0, _⟩ => exact Fin.ext (by dsimp only [idx_main_v50, idx_main_v54, idx_main_v55, row]; omega)
    | ⟨1, _⟩ => exact Fin.ext (by dsimp only [idx_main_v50, idx_main_v54, idx_main_v55, row]; omega)
    | ⟨2, _⟩ => exact Fin.ext (by dsimp only [idx_main_v50, idx_main_v54, idx_main_v55, row]; omega)
  have hp := denom_pos (Q := Q) (M := M) X (row i)
  rw [val_main_v59_apply, val_main_v57_apply, val_main_v56_apply, val_main_v53_apply, val_main_v52_apply, val_main_v31_apply, val_main_v55_apply,
    val_main_v54_apply, val_main_v58_apply, val_main_cst_12_apply, val_main_cst_11_apply]
  simp only [val_main_v51_apply, val_main_v50_apply, h54, h49, hr, dweights hm ho, expos hq hm hX, denoms hq hm hX, Ideal.mulf_def, Ideal.hostDivf_def,
    Ideal.addf_def, Ideal.hostNegf_def, Ideal.negf_def, Fin.sum_univ_one, Ideal.ofBits_def, Ideal.ofBits_zero_f32, Cert.Reals.ofBits_eighth, Cert.Reals.div_coe _ _ hp.ne', ← EReal.coe_neg,
    Cert.Reals.sum_coe, zero_add, ← EReal.coe_add, ← EReal.coe_mul]
  congr 2
  unfold MemSpec.dscore
  simp only [show ∀ j, MemSpec.weight (64 * (i 1).val) (Q (i 0).val (i 2).val) (M (i 0).val) j = expo Q M X (row i) j / denom Q M X (row i) from
    fun j => (expo_div X (row i) j).symm]
  have hd := hp.ne'
  generalize denom Q M X (row i) = D at hd ⊢
  rw [show (row i 0).val = (i 0).val from rfl, show (row i 1).val = (i 1).val from rfl, show (row i 2).val = (i 2).val from rfl]
  have hs : ∀ w : ℕ → ℝ, ∑ j : Fin 256, w j.val * (1 / (D * D)) * expo Q M X (row i) j.val
      = (∑ j : Fin 256, expo Q M X (row i) j.val / D * w j.val) / D := fun w => by
    rw [Finset.sum_div]
    exact Finset.sum_congr rfl fun j _ => by field_simp
  rw [hs]
  ring

/-- The gradient of the queries. -/
theorem dq_ref (i : S4x2048x256.Idx) : val_main_v68 (F := Ideal) x0 x1 x2 i
    = (MemSpec.dquery (Q (i 0).val (i 1).val) (M (i 0).val) (O (i 0).val (i 1).val) (fun j l => M (i 0).val j (256 + l)) (i 2).val : ℝ) := by
  have b0 : (i 0).val < 4 := (i 0).isLt
  have b1 : (i 1).val < 2048 := (i 1).isLt
  have b2 : (i 2).val < 256 := (i 2).isLt
  rw [val_main_v68_apply, val_main_v64_apply, val_main_v63_apply, val_main_v62_apply]
  simp only [dscores hq hm ho hX, keys hm, Ideal.truncf_def, ← EReal.coe_mul, Cert.Reals.sum_coe]
  unfold MemSpec.dquery
  rw [Finset.sum_mul]
  refine congrArg _ (Finset.sum_congr rfl fun j _ => ?_)
  obtain ⟨e0, e1, e2, e3⟩ := split_lane (a := (i 0).val) b1 b2
  have e4 : 64 * ((i 2).val / 64) + (i 2).val % 64 = (i 2).val := Nat.div_add_mod _ _
  norm_num only at e0
  unfold MemSpec.headOf
  simp only [e0, e1, e2, e3, e4]
  ring

/-- The gradient of the memory tokens' keys. -/
theorem dk_ref (i : S4x256x256.Idx) : val_main_v66 (F := Ideal) x0 x1 x2 i
    = (∑ s : Fin 2048, MemSpec.dkey (Q (i 0).val s.val) (M (i 0).val) (O (i 0).val s.val) (fun j l => M (i 0).val j (256 + l)) (i 1).val (i 2).val : ℝ) := by
  have b0 : (i 0).val < 4 := (i 0).isLt
  have b1 : (i 1).val < 256 := (i 1).isLt
  have b2 : (i 2).val < 256 := (i 2).isLt
  rw [val_main_v66_apply, val_main_v61_apply, val_main_v60_apply]
  simp only [dscores hq hm ho hX, queries hq, ← EReal.coe_mul, Cert.Reals.sum_coe]
  refine congrArg _ (Finset.sum_congr rfl fun s _ => ?_)
  unfold MemSpec.dkey
  obtain ⟨e0, e1, e2, e3⟩ := split_lane (a := (i 0).val) b1 b2
  have e4 : 64 * ((i 2).val / 64) + (i 2).val % 64 = (i 2).val := Nat.div_add_mod _ _
  norm_num only at e0
  unfold MemSpec.headOf
  simp only [e0, e1, e2, e3, e4]
  ring

/-- The gradient of the memory tokens' values. -/
theorem dv_ref (i : S4x256x256.Idx) : val_main_v65 (F := Ideal) x0 x1 x2 i
    = (∑ s : Fin 2048, MemSpec.dvalue (Q (i 0).val s.val) (M (i 0).val) (O (i 0).val s.val) (i 1).val (i 2).val : ℝ) := by
  have b0 : (i 0).val < 4 := (i 0).isLt
  have b1 : (i 1).val < 256 := (i 1).isLt
  have b2 : (i 2).val < 256 := (i 2).isLt
  rw [val_main_v65_apply, val_main_v45_apply, val_main_v44_apply]
  simp only [weights hq hm hX, cots ho, ← EReal.coe_mul, Cert.Reals.sum_coe]
  refine congrArg _ (Finset.sum_congr rfl fun s _ => ?_)
  unfold MemSpec.dvalue
  obtain ⟨e0, e1, e2, e3⟩ := split_lane (a := (i 0).val) b1 b2
  have e4 : 64 * ((i 2).val / 64) + (i 2).val % 64 = (i 2).val := Nat.div_add_mod _ _
  norm_num only at e0
  unfold MemSpec.headOf
  simp only [e0, e1, e2, e3, e4]
  ring

/-- The gradient of the memory tokens. -/
theorem dmem_ref (i : S4x256x512.Idx) : val_main_v67 (F := Ideal) x0 x1 x2 i
    = if (i 2).val < 256 then (∑ s : Fin 2048, MemSpec.dkey (Q (i 0).val s.val) (M (i 0).val) (O (i 0).val s.val) (fun j l => M (i 0).val j (256 + l)) (i 1).val (i 2).val : ℝ)
      else (∑ s : Fin 2048, MemSpec.dvalue (Q (i 0).val s.val) (M (i 0).val) (O (i 0).val s.val) (i 1).val ((i 2).val - 256) : ℝ) := by
  idx_vars i
  pointwise [val_main_v67]
  split
  · exact dk_ref hq hm ho hX _
  · exact dv_ref hq hm ho hX _

end

end Cert.MemAttRefIdeal.Hand
-- ==== Proof.MemClaim.lean ====
module

public import proofs.«01_k».proof.Defs
public import proofs.«01_k».proof.Proof.Lift
public import proofs.«01_k».proof.Proof.MemKernel
public import proofs.«01_k».proof.Proof.MemRef
public import proofs.«01_k».proof.Proof.Gen.MemAtt.Frame
public import proofs.«01_k».proof.Proof.Gen.MemAttIdeal.Value
public import proofs.«01_k».proof.Proof.Gen.MemAttRefIdeal.Run

@[expose] public section

set_option maxRecDepth 16384

noncomputable section

/-! The claims about the gradient of the memory attention. -/

namespace Cert.MemClaim

open Idealize.ShloMosaic Idealize.ShloMosaic.TcCoe Idealize.SL.Sem Cert.Reals

/-- The side conditions that the precondition states. -/
theorem pre_facts : Cert.Pre_mem_finite.Facts where
  slices_S4x2048x1792_S4x2048x256_0_0_1536 := by decide
  slices_S4x2048x1024_S4x2048x256_0_0_768 := by decide
  bcast_S_S4x2048x256 := by decide
  bcast_S_S4x256x512 := by decide

variable [h : Cert.Pre_mem_finite.Facts]

/-- What the precondition says of the three arguments. -/
theorem reals_of_pre (x0 : Cert.Pre_mem_finite.S4x2048x1792.Idx → EReal) (x1 : Cert.Pre_mem_finite.S4x256x512.Idx → EReal)
    (x2 : Cert.Pre_mem_finite.S4x2048x1024.Idx → EReal)
    (h0 : (Cert.Pre_mem_finite.fn (F := Ideal) x0 x1 x2).1 = fun _ => 1#1) (h1 : (Cert.Pre_mem_finite.fn (F := Ideal) x0 x1 x2).2.1 = fun _ => 1#1)
    (h2 : (Cert.Pre_mem_finite.fn (F := Ideal) x0 x1 x2).2.2 = fun _ => 1#1) :
    (∀ i, 1536 ≤ (i 2).val → x0 i = ((x0 i).toReal : EReal)) ∧ (∀ i, x1 i = ((x1 i).toReal : EReal))
      ∧ (∀ i, 768 ≤ (i 2).val → x2 i = ((x2 i).toReal : EReal)) := by
  refine ⟨fun i hi => ?_, fun i => real_of_bit (congrFun h1 i), fun i hi => ?_⟩
  · have b : (i 2).val < 1792 := (i 2).isLt
    have e := real_of_bit (congrFun h0 (ix3 (i 0) (i 1) ⟨(i 2).val - 1536, by omega⟩))
    have hx : ∀ j, j = i → x0 j = ((x0 j).toReal : EReal) → x0 i = ((x0 i).toReal : EReal) := fun j hj => by subst hj; exact id
    refine hx _ ?_ e
    funext a; match a with
    | ⟨0, _⟩ => exact Fin.ext (Nat.zero_add _)
    | ⟨1, _⟩ => exact Fin.ext (Nat.zero_add _)
    | ⟨2, _⟩ => exact Fin.ext (by show 1536 + ((i 2).val - 1536) = (i 2).val; omega)
  · have b : (i 2).val < 1024 := (i 2).isLt
    have e := real_of_bit (congrFun h2 (ix3 (i 0) (i 1) ⟨(i 2).val - 768, by omega⟩))
    have hx : ∀ j, j = i → x2 j = ((x2 j).toReal : EReal) → x2 i = ((x2 i).toReal : EReal) := fun j hj => by subst hj; exact id
    refine hx _ ?_ e
    funext a; match a with
    | ⟨0, _⟩ => exact Fin.ext (Nat.zero_add _)
    | ⟨1, _⟩ => exact Fin.ext (Nat.zero_add _)
    | ⟨2, _⟩ => exact Fin.ext (by show 768 + ((i 2).val - 768) = (i 2).val; omega)

omit h in
/-- The reference ends with its arguments unchanged. -/
theorem frame_ref (m : (ℓ : Loc Cert.MemAttRefIdeal.nD Cert.MemAttRefIdeal.τ Cert.MemAttRefIdeal.sig) → Buf (Elt Ideal) ℓ) (g : Dev Cert.MemAttRefIdeal.nD → PrngReg) :
    θ_run (Cert.MemAttRefIdeal.defs (F := Ideal)) (onTc (τ := Cert.MemAttRefIdeal.τ) (Cert.MemAttRefIdeal.main (F := Ideal))) ⟨m, fun _ => 0, g⟩ (fun r => (∀ c : Dev Cert.MemAttRefIdeal.nD,
      r.2.mem ((c.tc : Thread Cert.MemAttRefIdeal.nD Cert.MemAttRefIdeal.τ).loc Cert.MemAttRefIdeal.main_arg0) = m ((c.tc : Thread Cert.MemAttRefIdeal.nD Cert.MemAttRefIdeal.τ).loc Cert.MemAttRefIdeal.main_arg0)
      ∧ r.2.mem ((c.tc : Thread Cert.MemAttRefIdeal.nD Cert.MemAttRefIdeal.τ).loc Cert.MemAttRefIdeal.main_arg1) = m ((c.tc : Thread Cert.MemAttRefIdeal.nD Cert.MemAttRefIdeal.τ).loc Cert.MemAttRefIdeal.main_arg1)
      ∧ r.2.mem ((c.tc : Thread Cert.MemAttRefIdeal.nD Cert.MemAttRefIdeal.τ).loc Cert.MemAttRefIdeal.main_arg2) = m ((c.tc : Thread Cert.MemAttRefIdeal.nD Cert.MemAttRefIdeal.τ).loc Cert.MemAttRefIdeal.main_arg2))
      ∧ r.2.sem = fun _ => 0) :=
  (θ_run Cert.MemAttRefIdeal.defs _ _).mono (fun r h => ⟨fun c => (h c).2.2, sem_eq_zero_of_no_sems (by decide) r.2⟩) (Cert.MemAttRefIdeal.Value.run m g)

/-- The kernel and the reference end with the same gradients. -/
theorem algebraic : Cert.algebraic_MemAttIdeal_MemAttRefIdeal_pre_mem_finite := by
  intro m g m' g' hpre hargs
  have key : ∀ c : Dev Cert.MemAttIdeal.nD,
      Cert.MemAttRefIdeal.Value.res_main_v68 m' c = (Cert.MemAttIdeal.Gen.dats m 0 c).arrAt 3 Cert.MemAttIdeal.cfg0.N
      ∧ Cert.MemAttRefIdeal.Value.res_main_v67 m' c = (Cert.MemAttIdeal.Gen.dats m 0 c).arrAt 4 Cert.MemAttIdeal.cfg0.N := fun c => by
    obtain ⟨p0, p1, p2⟩ := hpre c
    obtain ⟨r0, r1, r2⟩ := reals_of_pre _ _ _ p0 p1 p2
    obtain ⟨Q, hq⟩ := lift3 1536 _ r0
    obtain ⟨M, hm⟩ := lift3 0 _ fun i _ => r1 i
    obtain ⟨O, ho⟩ := lift3 768 _ r2
    obtain ⟨e0, e1, e2⟩ := hargs c
    have hm' := fun i => hm i (Nat.zero_le _)
    choose X hX using Cert.MemAttRefIdeal.Hand.greatest (x0 := m' ((c.tc : Thread Cert.MemAttRefIdeal.nD Cert.MemAttRefIdeal.τ).loc Cert.MemAttRefIdeal.main_arg0))
      (x1 := m' ((c.tc : Thread Cert.MemAttRefIdeal.nD Cert.MemAttRefIdeal.τ).loc Cert.MemAttRefIdeal.main_arg1)) (Q := Q) (M := M) (by rw [e0]; exact hq) (by rw [e1]; exact hm')
    rw [Cert.MemAttRefIdeal.Read.val_main_v68_eq, Cert.MemAttRefIdeal.Read.val_main_v67_eq, Cert.MemAttIdeal.Hand.dq_array m c hq hm' ho, Cert.MemAttIdeal.Hand.dmem_array m c hq hm' ho]
    constructor
    · funext i
      exact Cert.MemAttRefIdeal.Hand.dq_ref (by rw [e0]; exact hq) (by rw [e1]; exact hm') (by rw [e2]; exact ho) hX i
    · funext i
      refine (Cert.MemAttRefIdeal.Hand.dmem_ref (by rw [e0]; exact hq) (by rw [e1]; exact hm') (by rw [e2]; exact ho) hX i).trans ?_
      rfl
  refine ⟨_, _, Cert.MemAttIdeal.Value.run_blocks m g, ?_⟩
  exact (θ_run Cert.MemAttRefIdeal.defs _ _).mono (fun r h c => ⟨(h c).1.trans (key c).1, (h c).2.1.trans (key c).2, (h c).2.2⟩) (Cert.MemAttRefIdeal.Value.run m' g')

end Cert.MemClaim
-- ==== Proof.NormSpec.lean ====
module

public import Idealize.ShloMosaic.PureOps.Ideal.Laws

@[expose] public section

noncomputable section

/-! The layer norm of one row of 1024 numbers, over the extended reals. -/

namespace Cert.NormSpec

open Idealize.ShloMosaic

/-- The divisor of a mean over a row, the number added to a variance, and the factor of a residual. -/
def width : EReal := Ideal.ofBits .f32 0x44800000#32
def eps : EReal := Ideal.ofBits .f32 0x3727C5AC#32
def alpha : EReal := Ideal.ofBits .f32 0x3FD744FD#32

def mean (z : Fin 1024 → EReal) : EReal := Ideal.div (∑ l, z l) width

def variance (z : Fin 1024 → EReal) : EReal := mean fun l => (z l - mean z) * (z l - mean z)

/-- Entry `l` of the row's layer norm with gain `g` and bias `b`. -/
def norm (z g b : Fin 1024 → EReal) (l : Fin 1024) : EReal :=
  (z l - mean z) * Ideal.rsqrt (variance z + eps) * g l + b l

/-- A row of a product with the residual: the residual's row `x`, the hidden row `h`, the matrix `w`. -/
def summed {n : ℕ} (x : Fin 1024 → EReal) (h : Fin n → EReal) (w : Fin n → Fin 1024 → EReal) (l : Fin 1024) : EReal :=
  alpha * x l + ∑ k, h k * w k l

end Cert.NormSpec
-- ==== Proof.BackSpec.lean ====
module

public import proofs.«01_k».proof.Proof.NormSpec
public import proofs.«01_k».proof.Proof.Lift

@[expose] public section

noncomputable section

/-! The cotangent that a layer norm of one row of 1024 numbers hands back, written in two ways. -/

namespace Cert.BackSpec

open Idealize.ShloMosaic Cert.Reals Cert.NormSpec

/-- An entry less the row's mean. -/
def center (z : Fin 1024 → EReal) (l : Fin 1024) : EReal := z l - mean z

/-- One over the row's standard deviation. -/
def scale (z : Fin 1024 → EReal) : EReal := Ideal.rsqrt (variance z + eps)

/-- The normalised row. -/
def hat (z : Fin 1024 → EReal) (l : Fin 1024) : EReal := center z l * scale z

/-- The cotangent of the row, for a cotangent `y` of the layer norm with gain `g`: the two means are taken off. -/
def pulled (z y g : Fin 1024 → EReal) (l : Fin 1024) : EReal :=
  scale z * ((y l * g l - mean fun k => y k * g k) - hat z l * mean fun k => y k * g k * hat z k)

/-- The numbers two and minus one half. -/
def two : EReal := Ideal.ofBits .f32 0x40000000#32
def half : EReal := Ideal.ofBits .f32 0xBF000000#32

/-- What the chain rule hands to the squares of the variance. -/
def spread (z y g : Fin 1024 → EReal) : EReal :=
  Ideal.div ((∑ k, center z k * (y k * g k)) * (half * Ideal.div (scale z) (variance z + eps))) width

/-- The cotangent of the row as the chain rule leaves it: through the scale, through the variance and through the mean. -/
def chain (z y g : Fin 1024 → EReal) (l : Fin 1024) : EReal :=
  (y l * g l * scale z + spread z y g * (two * center z l))
    + Ideal.div ((∑ k, -(y k * g k * scale z)) + ∑ k, -(spread z y g * (two * center z k))) width

theorem width_coe : width = ((1024 : ℝ) : EReal) := by
  simp [width, Ideal.ofBits, Ideal.ieee]; norm_cast; norm_num

theorem two_coe : two = ((2 : ℝ) : EReal) := by
  simp [two, Ideal.ofBits, Ideal.ieee]; norm_cast; norm_num

theorem half_coe : half = ((-(1 / 2) : ℝ) : EReal) := by
  simp [half, Ideal.ofBits, Ideal.ieee]; norm_cast; norm_num

theorem eps_coe : ∃ e : ℝ, 0 < e ∧ eps = (e : EReal) := by
  refine ⟨10995116 / 2 ^ 40, by positivity, ?_⟩
  simp [eps, Ideal.ofBits, Ideal.ieee]; norm_cast

theorem alpha_coe : ∃ a : ℝ, alpha = (a : EReal) := by
  refine ⟨14107901 / 2 ^ 23, ?_⟩
  simp [alpha, Ideal.ofBits, Ideal.ieee]; norm_cast

theorem mean_coe (f : Fin 1024 → ℝ) : mean (fun l => (f l : EReal)) = (((∑ l, f l) / 1024 : ℝ) : EReal) := by
  rw [mean, sum_coe, width_coe, div_coe _ _ (by norm_num)]

theorem rsqrt_coe (x : ℝ) (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr h.le), if_neg h.ne']

/-- The entries less their mean add up to nothing. -/
theorem sum_center (f : Fin 1024 → ℝ) : ∑ l, (f l - (∑ k, f k) / 1024) = 0 := by
  rw [Finset.sum_sub_distrib, Finset.sum_const, Finset.card_univ, Fintype.card_fin, nsmul_eq_mul]
  push_cast
  ring

/-- The parts of the two formulas for a row of real numbers: the entries less their mean, and the scale. -/
theorem parts (z : Fin 1024 → ℝ) : ∃ (c : Fin 1024 → ℝ) (v s : ℝ), (∑ l, c l = 0) ∧ v ≠ 0 ∧ s * s * v = 1
    ∧ (∀ l, center (fun l => (z l : EReal)) l = (c l : EReal)) ∧ variance (fun l => (z l : EReal)) + eps = (v : EReal) ∧ scale (fun l => (z l : EReal)) = (s : EReal) := by
  obtain ⟨e, he, hE⟩ := eps_coe
  have hc : ∀ l, center (fun l => (z l : EReal)) l = ((z l - (∑ k, z k) / 1024 : ℝ) : EReal) := fun l => by
    rw [center, mean_coe, ← EReal.coe_sub]
  generalize hq : (fun l => z l - (∑ k, z k) / 1024) = c
  have hc' : ∀ l, center (fun l => (z l : EReal)) l = (c l : EReal) := fun l => by rw [hc, ← hq]
  have hv : variance (fun l => (z l : EReal)) + eps = (((∑ l, c l * c l) / 1024 + e : ℝ) : EReal) := by
    have : variance (fun l => (z l : EReal)) = mean fun l => ((c l * c l : ℝ) : EReal) :=
      congrArg mean (funext fun l => by rw [EReal.coe_mul, ← hc' l]; rfl)
    rw [this, mean_coe, hE, ← EReal.coe_add]
  have hp : 0 < (∑ l, c l * c l) / 1024 + e := by
    have : 0 ≤ ∑ l, c l * c l := Finset.sum_nonneg fun l _ => mul_self_nonneg _
    positivity
  refine ⟨c, _, _, by rw [← hq]; exact sum_center z, hp.ne', ?_, hc', hv, (congrArg Ideal.rsqrt hv).trans (rsqrt_coe _ hp)⟩
  generalize (∑ l, c l * c l) / 1024 + e = x at hp
  have h := Real.mul_self_sqrt hp.le
  rw [← mul_inv, h, inv_mul_cancel₀ hp.ne']

/-- The two formulas agree on real numbers. -/
theorem chain_eq (z y g : Fin 1024 → ℝ) (l : Fin 1024) :
    chain (fun l => (z l : EReal)) (fun l => (y l : EReal)) (fun l => (g l : EReal)) l
      = pulled (fun l => (z l : EReal)) (fun l => (y l : EReal)) (fun l => (g l : EReal)) l := by
  obtain ⟨c, v, s, h0, hv, hs, hc, hV, hS⟩ := parts z
  have e1 : spread (fun l => (z l : EReal)) (fun l => (y l : EReal)) (fun l => (g l : EReal))
      = (((∑ k, c k * (y k * g k)) * (-(1 / 2) * (s / v)) / 1024 : ℝ) : EReal) := by
    rw [spread, hV, hS, half_coe, width_coe, div_coe _ _ hv]
    simp only [hc, ← EReal.coe_mul, sum_coe]
    rw [div_coe _ _ (by norm_num)]
  have e2 : ∀ k, hat (fun l => (z l : EReal)) k = ((c k * s : ℝ) : EReal) := fun k => by rw [hat, hc, hS, ← EReal.coe_mul]
  rw [chain, pulled, e1, hS, two_coe, width_coe]
  simp only [hc, e2, ← EReal.coe_mul, ← EReal.coe_neg, sum_coe, mean_coe, ← EReal.coe_add, ← EReal.coe_sub]
  rw [div_coe _ _ (by norm_num), ← EReal.coe_add]
  refine congrArg _ ?_
  have f1 : ∑ k, -(y k * g k * s) = -(s * ∑ k, y k * g k) := by
    rw [Finset.mul_sum, ← Finset.sum_neg_distrib]
    exact Finset.sum_congr rfl fun k _ => by ring
  have f2 : ∀ p : ℝ, ∑ k, -(p * (2 * c k)) = 0 := fun p => by
    rw [← mul_zero (-(2 * p)), ← h0, Finset.mul_sum]
    exact Finset.sum_congr rfl fun k _ => by ring
  have f3 : ∑ k, y k * g k * (c k * s) = s * ∑ k, c k * (y k * g k) := by
    rw [Finset.mul_sum]
    exact Finset.sum_congr rfl fun k _ => by ring
  have f4 : s / v = s * s * s := by
    rw [div_eq_iff hv]
    linear_combination -s * hs
  rw [f1, f2, f3, f4]
  ring

/-- The two formulas agree on rows whose entries are all real numbers. -/
theorem chain_eq_pulled (z y g : Fin 1024 → EReal) (hz : ∀ l, z l = ((z l).toReal : EReal)) (hy : ∀ l, ∃ r : ℝ, y l = (r : EReal))
    (hg : ∀ l, g l = ((g l).toReal : EReal)) (l : Fin 1024) : chain z y g l = pulled z y g l := by
  choose r hr using hy
  have ez : z = fun l => ((z l).toReal : EReal) := funext hz
  have ey : y = fun l => (r l : EReal) := funext hr
  have eg : g = fun l => ((g l).toReal : EReal) := funext hg
  rw [ez, ey, eg]
  exact chain_eq _ _ _ l

end Cert.BackSpec
-- ==== Proof.FfnInKernel.lean ====
module

public import proofs.«01_k».proof.Proof.BackSpec
public import proofs.«01_k».proof.Proof.Gen.FfnInIdeal.Value
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.PureOps.Ideal.Laws

@[expose] public section

set_option maxRecDepth 16384

noncomputable section

/-! The four arrays that the backward products of the feed-forward layer's input and the layer norm's cotangent leave, at every index. -/

namespace Cert.FfnInIdeal.Hand

open Cert.FfnInIdeal Cert.FfnInIdeal.Gen Idealize.ShloMosaic Idealize.ShloMosaic.TcCoe Idealize.SL.Sem Cert.NormSpec Cert.BackSpec

theorem where0 : ∀ t : Fin cfg0.N, win0_0.index t = ![t.val, 0] := (by decide +kernel : ∀ t : Fin grid0.N, _)
theorem where1 : ∀ t : Fin cfg0.N, win0_1.index t = ![t.val, 0] := (by decide +kernel : ∀ t : Fin grid0.N, _)
theorem where2 : ∀ t : Fin cfg0.N, win0_2.index t = ![0, 0] := (by decide +kernel : ∀ t : Fin grid0.N, _)
theorem where3 : ∀ t : Fin cfg0.N, win0_3.index t = ![0, 0] := (by decide +kernel : ∀ t : Fin grid0.N, _)
theorem where4 : ∀ t : Fin cfg0.N, win0_4.index t = ![t.val, 0] := (by decide +kernel : ∀ t : Fin grid0.N, _)
theorem where5 : ∀ t : Fin cfg0.N, win0_5.index t = ![t.val, 0] := (by decide +kernel : ∀ t : Fin grid0.N, _)
theorem where6 : ∀ t : Fin cfg0.N, win0_6.index t = ![0, 0] := (by decide +kernel : ∀ t : Fin grid0.N, _)
theorem where7 : ∀ t : Fin cfg0.N, win0_7.index t = ![t.val, 0] := (by decide +kernel : ∀ t : Fin grid0.N, _)
theorem where8 : ∀ t : Fin cfg0.N, win0_8.index t = ![t.val, 0] := (by decide +kernel : ∀ t : Fin grid0.N, _)
theorem where9 : ∀ t : Fin cfg0.N, win0_9.index t = ![0, 0] := (by decide +kernel : ∀ t : Fin grid0.N, _)
theorem where10 : ∀ t : Fin cfg0.N, win0_10.index t = ![0, 0] := (by decide +kernel : ∀ t : Fin grid0.N, _)

theorem cotangent_apply (x : Vec Ideal S512x1024 .f32) (a : Vec Ideal S512x2816 .bf16) (w : Vec Ideal S2816x1024 .bf16) (b : Vec Ideal S512x2816 .bf16)
    (u : Vec Ideal S2816x1024 .bf16) (r : Fin 512) (l : Fin 1024) :
    k0_pay5 x a w b u (ix2 r l) = alpha * x (ix2 r l) + (∑ k : Fin 2816, a (ix2 r k) * w (ix2 k l)) + ∑ k : Fin 2816, b (ix2 r k) * u (ix2 k l) := by
  pointwise [k0_pay5]
  rfl

theorem center_apply (z : Vec Ideal S512x1024 .f32) (r : Fin 512) (l : Fin 1024) : k0_pay8 z (ix2 r l) = center (fun l => z (ix2 r l)) l := by
  pointwise [k0_pay8]
  rfl

theorem scale_apply (z : Vec Ideal S512x1024 .f32) (r : Fin 512) : k0_pay9 z (ix2 r 0) = scale fun l => z (ix2 r l) := by
  pointwise [k0_pay9]
  simp only [center_apply]
  rfl

theorem hat_apply (z : Vec Ideal S512x1024 .f32) (r : Fin 512) (l : Fin 1024) : k0_pay10 z (ix2 r l) = hat (fun l => z (ix2 r l)) l := by
  pointwise [k0_pay10]
  rw [center_apply, scale_apply]
  rfl

theorem gain_apply (g : Vec Ideal S1x1024 .f32) (r : Fin 512) (l : Fin 1024) : k0_pay11 g (ix2 r l) = g (ix2 0 l) := by
  pointwise [k0_pay11]

/-- A row of the cotangent, from the row's parts. -/
theorem pulled_apply (y : Vec Ideal S512x1024 .f32) (s : Vec Ideal S512x1 .f32) (h g : Vec Ideal S512x1024 .f32) (r : Fin 512) (l : Fin 1024) :
    k0_pay1 (F := Ideal) y s h g (ix2 r l) = s (ix2 r 0) * ((y (ix2 r l) * g (ix2 r l) - mean fun k => y (ix2 r k) * g (ix2 r k))
      - h (ix2 r l) * mean fun k => y (ix2 r k) * g (ix2 r k) * h (ix2 r k)) := by
  pointwise [k0_pay1]
  rfl

theorem narrow_apply (y : Vec Ideal S512x1024 .f32) (s : Vec Ideal S512x1 .f32) (h g : Vec Ideal S512x1024 .f32) (i : S512x1024.Idx) :
    k0_pay2 (F := Ideal) y s h g i = k0_pay1 (F := Ideal) y s h g i := rfl

theorem gain_step (y h : Vec Ideal S512x1024 .f32) (acc : Vec Ideal S1x1024 .f32) (l : Fin 1024) :
    k0_pay3 (F := Ideal) y h acc (ix2 0 l) = acc (ix2 0 l) + ∑ r : Fin 512, y (ix2 r l) * h (ix2 r l) := by
  pointwise [k0_pay3]

theorem bias_step (y : Vec Ideal S512x1024 .f32) (acc : Vec Ideal S1x1024 .f32) (l : Fin 1024) :
    k0_pay4 (F := Ideal) y acc (ix2 0 l) = acc (ix2 0 l) + ∑ r : Fin 512, y (ix2 r l) := by
  pointwise [k0_pay4]

theorem gain_fill (l : Fin 1024) : k0_pay6 (F := Ideal) (ix2 0 l) = 0 := by
  pointwise [k0_pay6]

theorem bias_fill (l : Fin 1024) : k0_pay7 (F := Ideal) (ix2 0 l) = 0 := by
  pointwise [k0_pay7]

variable (m : (ℓ : Loc nD τ sig) → Buf (Elt Ideal) ℓ) (c : Dev nD)

theorem block0 (t : Fin cfg0.N) (r : Fin 512) (k : Fin 2816) :
    iblk m c 0 t (ix2 r k : S512x2816.Idx) = m ((c : Thread nD τ).loc main_arg0) (ix2 ⟨t.val * 512 + r.val, by have := t.isLt; have : cfg0.N = 16 := N_0; omega⟩ k : S8192x2816.Idx) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (r : Fin 512) (k : Fin 2816) :
    iblk m c 1 t (ix2 r k : S512x2816.Idx) = m ((c : Thread nD τ).loc main_arg1) (ix2 ⟨t.val * 512 + r.val, by have := t.isLt; have : cfg0.N = 16 := N_0; omega⟩ k : S8192x2816.Idx) := by
  blk_simp [iblk]
  rw [V_main_arg1]
  refine congrArg _ (funext fun a => Fin.ext ?_)
  match a with
  | ⟨0, _⟩ => blk_simp [where1]
  | ⟨1, _⟩ => blk_simp [where1]

theorem block2 (t : Fin cfg0.N) (k : Fin 2816) (l : Fin 1024) :
    iblk m c 2 t (ix2 k l : S2816x1024.Idx) = m ((c : Thread nD τ).loc main_arg2) (ix2 k l : S2816x1024.Idx) := by
  blk_simp [iblk]
  rw [V_main_arg2]
  refine congrArg _ (funext fun a => Fin.ext ?_)
  match a with
  | ⟨0, _⟩ => blk_simp [where2]
  | ⟨1, _⟩ => blk_simp [where2]

theorem block3 (t : Fin cfg0.N) (k : Fin 2816) (l : Fin 1024) :
    iblk m c 3 t (ix2 k l : S2816x1024.Idx) = m ((c : Thread nD τ).loc main_arg3) (ix2 k l : S2816x1024.Idx) := by
  blk_simp [iblk]
  rw [V_main_arg3]
  refine congrArg _ (funext fun a => Fin.ext ?_)
  match a with
  | ⟨0, _⟩ => blk_simp [where3]
  | ⟨1, _⟩ => blk_simp [where3]

theorem block4 (t : Fin cfg0.N) (r : Fin 512) (l : Fin 1024) :
    iblk m c 4 t (ix2 r l : S512x1024.Idx) = m ((c : Thread nD τ).loc main_arg4) (ix2 ⟨t.val * 512 + r.val, by have := t.isLt; have : cfg0.N = 16 := N_0; omega⟩ l : S8192x1024.Idx) := by
  blk_simp [iblk]
  rw [V_main_arg4]
  refine congrArg _ (funext fun a => Fin.ext ?_)
  match a with
  | ⟨0, _⟩ => blk_simp [where4]
  | ⟨1, _⟩ => blk_simp [where4]

theorem block5 (t : Fin cfg0.N) (r : Fin 512) (l : Fin 1024) :
    iblk m c 5 t (ix2 r l : S512x1024.Idx) = m ((c : Thread nD τ).loc main_arg5) (ix2 ⟨t.val * 512 + r.val, by have := t.isLt; have : cfg0.N = 16 := N_0; omega⟩ l : S8192x1024.Idx) := by
  blk_simp [iblk]
  rw [V_main_arg5]
  refine congrArg _ (funext fun a => Fin.ext ?_)
  match a with
  | ⟨0, _⟩ => blk_simp [where5]
  | ⟨1, _⟩ => blk_simp [where5]

theorem gain_row (l : Fin 1024) : V m c main_v0 (ix2 0 l : S1x1024.Idx) = m ((c : Thread nD τ).loc main_arg6) (ix1 l : S1024.Idx) := by
  unfold V
  after_reads_at

theorem block6 (t : Fin cfg0.N) (l : Fin 1024) :
    iblk m c 6 t (ix2 0 l : S1x1024.Idx) = m ((c : Thread nD τ).loc main_arg6) (ix1 l : S1024.Idx) := by
  refine Eq.trans ?_ (gain_row m c l)
  blk_simp [iblk]
  refine congrArg _ (funext fun a => Fin.ext ?_)
  match a with
  | ⟨0, _⟩ => blk_simp [where6]
  | ⟨1, _⟩ => blk_simp [where6]

/-- The cotangent of the layer norm's output at a grid point, and the block of the layer norm's input. -/
abbrev cotBlk (t : Fin cfg0.N) : Vec Ideal S512x1024 .f32 := k0_pay5 (iblk m c 4 t) (iblk m c 0 t) (iblk m c 2 t) (iblk m c 1 t) (iblk m c 3 t)

/-- The cotangent of the layer norm's input at a grid point. -/
abbrev backBlk (t : Fin cfg0.N) : Vec Ideal S512x1024 .f32 :=
  k0_pay1 (F := Ideal) (cotBlk m c t) (k0_pay9 (iblk m c 5 t)) (k0_pay10 (iblk m c 5 t)) (k0_pay11 (iblk m c 6 t))

theorem flush7 (t : Fin cfg0.N) (y : S512x1024.Idx) : (dats m 0 c).flushed 7 t y = backBlk m c t y := by
  by_cases h : t.val % 16 = 0
  · rw [Value.flushed7_A m c t h]
    frame_out
    rfl
  · rw [Value.flushed7_B m c t h]
    frame_out
    rfl

theorem flush8 (t : Fin cfg0.N) (y : S512x1024.Idx) : (dats m 0 c).flushed 8 t y = backBlk m c t y := by
  by_cases h : t.val % 16 = 0
  · rw [Value.flushed8_A m c t h]
    frame_out
    rfl
  · rw [Value.flushed8_B m c t h]
    frame_out
    rfl

theorem gain_first (t : Fin cfg0.N) (h : t.val % 16 = 0) (y : S1x1024.Idx) :
    (outsAt0 m c t.val t.isLt).2.2.1 y = k0_pay3 (F := Ideal) (cotBlk m c t) (k0_pay10 (iblk m c 5 t)) (k0_pay6 (F := Ideal)) y := by
  rw [outsAt0_A m c t h]
  dsimp only
  frame_open
  simp (disch := decide) only [↓ View.readCov_skip, ↓ View.readCov_cons_toLoadRect, ↓ View.readCov_fill]
  frame_out

theorem gain_next (t : Fin cfg0.N) (h : ¬t.val % 16 = 0) (y : S1x1024.Idx) :
    (outsAt0 m c t.val t.isLt).2.2.1 y
      = k0_pay3 (F := Ideal) (cotBlk m c t) (k0_pay10 (iblk m c 5 t)) (outsAt0 m c (t.val - 1) (Nat.lt_of_le_of_lt (Nat.sub_le _ _) t.isLt)).2.2.1 y := by
  rw [outsAt0_B m c t h]
  dsimp only
  frame_open
  simp (disch := decide) only [↓ View.readCov_skip, ↓ View.readCov_cons_toLoadRect, ↓ View.readCov_fill]
  frame_out

theorem bias_first (t : Fin cfg0.N) (h : t.val % 16 = 0) (y : S1x1024.Idx) :
    (outsAt0 m c t.val t.isLt).2.2.2 y = k0_pay4 (F := Ideal) (cotBlk m c t) (k0_pay7 (F := Ideal)) y := by
  rw [outsAt0_A m c t h]
  dsimp only
  frame_open
  simp (disch := decide) only [↓ View.readCov_skip, ↓ View.readCov_cons_toLoadRect, ↓ View.readCov_fill]
  frame_out

theorem bias_next (t : Fin cfg0.N) (h : ¬t.val % 16 = 0) (y : S1x1024.Idx) :
    (outsAt0 m c t.val t.isLt).2.2.2 y
      = k0_pay4 (F := Ideal) (cotBlk m c t) (outsAt0 m c (t.val - 1) (Nat.lt_of_le_of_lt (Nat.sub_le _ _) t.isLt)).2.2.2 y := by
  rw [outsAt0_B m c t h]
  dsimp only
  frame_open
  simp (disch := decide) only [↓ View.readCov_skip, ↓ View.readCov_cons_toLoadRect, ↓ View.readCov_fill]
  frame_out

/-- The arrays that the program is given. -/
abbrev gateCot : S8192x2816.Idx → EReal := m ((c : Thread nD τ).loc main_arg0)
abbrev upCot : S8192x2816.Idx → EReal := m ((c : Thread nD τ).loc main_arg1)
abbrev gateW : S2816x1024.Idx → EReal := m ((c : Thread nD τ).loc main_arg2)
abbrev upW : S2816x1024.Idx → EReal := m ((c : Thread nD τ).loc main_arg3)
abbrev resCot : S8192x1024.Idx → EReal := m ((c : Thread nD τ).loc main_arg4)
abbrev normIn : S8192x1024.Idx → EReal := m ((c : Thread nD τ).loc main_arg5)
abbrev normGain : S1024.Idx → EReal := m ((c : Thread nD τ).loc main_arg6)

/-- Row `s` of the layer norm's input, the gain, and row `s` of the cotangent of the layer norm's output. -/
def inRow (s : Fin 8192) (l : Fin 1024) : EReal := normIn m c (ix2 s l)
def gainRow (l : Fin 1024) : EReal := normGain m c (ix1 l)
def cotRow (s : Fin 8192) (l : Fin 1024) : EReal :=
  alpha * resCot m c (ix2 s l) + (∑ k : Fin 2816, gateCot m c (ix2 s k) * gateW m c (ix2 k l)) + ∑ k : Fin 2816, upCot m c (ix2 s k) * upW m c (ix2 k l)

/-- The cotangent of the layer norm's input. -/
def back (s : Fin 8192) (l : Fin 1024) : EReal := pulled (inRow m c s) (cotRow m c s) (gainRow m c) l

theorem cot_point (t : Fin cfg0.N) (r : Fin 512) (l : Fin 1024) :
    cotBlk m c t (ix2 r l) = cotRow m c ⟨t.val * 512 + r.val, by have := t.isLt; have : cfg0.N = 16 := N_0; omega⟩ l := by
  refine (cotangent_apply _ _ _ _ _ r l).trans ?_
  rw [block4]
  simp only [block0, block1, block2, block3]
  rfl

theorem hat_point (t : Fin cfg0.N) (r : Fin 512) (l : Fin 1024) :
    k0_pay10 (iblk m c 5 t) (ix2 r l) = hat (inRow m c ⟨t.val * 512 + r.val, by have := t.isLt; have : cfg0.N = 16 := N_0; omega⟩) l := by
  rw [hat_apply]
  simp only [block5]
  rfl

theorem back_point (t : Fin cfg0.N) (r : Fin 512) (l : Fin 1024) :
    backBlk m c t (ix2 r l) = back m c ⟨t.val * 512 + r.val, by have := t.isLt; have : cfg0.N = 16 := N_0; omega⟩ l := by
  refine (pulled_apply _ _ _ _ r l).trans ?_
  rw [scale_apply]
  simp only [cot_point, hat_point, gain_apply, block5, block6]
  rfl

theorem wide_array : (dats m 0 c).arrAt 7 cfg0.N = fun i : S8192x1024.Idx => back m c (i 0) (i 1) := by
  refine (dats m 0 c).arrAt_eq_of_covers 7 _ (by decide +kernel) fun t hf y => ?_
  refine (flush7 m c t y).trans ?_
  idx_vars y
  rw [back_point]
  refine congrArg₂ (back m c) (Fin.ext ?_) (Fin.ext ?_) <;> blk_simp [where7]

theorem narrow_array : (dats m 0 c).arrAt 8 cfg0.N = fun i : S8192x1024.Idx => back m c (i 0) (i 1) := by
  refine (dats m 0 c).arrAt_eq_of_covers 8 _ (by decide +kernel) fun t hf y => ?_
  refine (flush8 m c t y).trans ?_
  idx_vars y
  rw [back_point]
  refine congrArg₂ (back m c) (Fin.ext ?_) (Fin.ext ?_) <;> blk_simp [where8]

/-- Row `s`'s term of the gain's gradient and of the bias's gradient at lane `l`. -/
def gainTerm (l s : ℕ) : EReal := if h : l < 1024 ∧ s < 8192 then cotRow m c ⟨s, h.2⟩ ⟨l, h.1⟩ * hat (inRow m c ⟨s, h.2⟩) ⟨l, h.1⟩ else 0
def biasTerm (l s : ℕ) : EReal := if h : l < 1024 ∧ s < 8192 then cotRow m c ⟨s, h.2⟩ ⟨l, h.1⟩ else 0

theorem gain_tile (t : Fin cfg0.N) (y : S1x1024.Idx) (acc : Vec Ideal S1x1024 .f32) :
    k0_pay3 (F := Ideal) (cotBlk m c t) (k0_pay10 (iblk m c 5 t)) acc y = acc y + ∑ r : Fin 512, gainTerm m c (y 1).val (t.val * 512 + r.val) := by
  have hN : t.val < 16 := lt_of_lt_of_eq t.isLt N_0
  idx_vars y
  obtain rfl : y0 = 0 := Fin.ext (by have := y0.isLt; omega)
  rw [gain_step]
  refine congrArg _ (Finset.sum_congr rfl fun r _ => ?_)
  rw [cot_point, hat_point, gainTerm, dif_pos ⟨y1.isLt, by omega⟩]

theorem bias_tile (t : Fin cfg0.N) (y : S1x1024.Idx) (acc : Vec Ideal S1x1024 .f32) :
    k0_pay4 (F := Ideal) (cotBlk m c t) acc y = acc y + ∑ r : Fin 512, biasTerm m c (y 1).val (t.val * 512 + r.val) := by
  have hN : t.val < 16 := lt_of_lt_of_eq t.isLt N_0
  idx_vars y
  obtain rfl : y0 = 0 := Fin.ext (by have := y0.isLt; omega)
  rw [bias_step]
  refine congrArg _ (Finset.sum_congr rfl fun r _ => ?_)
  rw [cot_point, biasTerm, dif_pos ⟨y1.isLt, by omega⟩]

theorem gain_flush (t : Fin cfg0.N) (h : t.val % 16 = 15) (y : S1x1024.Idx) :
    (outsAt0 m c t.val t.isLt).2.2.1 y = ∑ s : Fin 8192, gainTerm m c (y 1).val s.val := by
  have hN : t.val < 16 := lt_of_lt_of_eq t.isLt N_0
  rw [Pipeline.eq_sum_fin_of_reset_step_apply_of_flush (fun n h => (outsAt0 m c n h).2.2.1) 16 (fun _ => (0 : EReal))
    (fun t y => ∑ r : Fin 512, gainTerm m c (y 1).val (t.val * 512 + r.val))
    (fun t hc y => (gain_first m c t hc y).trans ((gain_tile m c t y _).trans (congrArg (· + _) (by
      idx_vars y
      obtain rfl : y0 = 0 := Fin.ext (by have := y0.isLt; omega)
      exact gain_fill _))))
    (fun t hc y => (gain_next m c t hc y).trans (gain_tile m c t y _)) t h y]
  have hr : ∀ s : Fin 16, 16 * (t.val / 16) + s.val = s.val := fun s => by omega
  simp only [hr, zero_add]
  exact Fin.sum_mul_add_congr fun s k h => rfl

theorem bias_flush (t : Fin cfg0.N) (h : t.val % 16 = 15) (y : S1x1024.Idx) :
    (outsAt0 m c t.val t.isLt).2.2.2 y = ∑ s : Fin 8192, biasTerm m c (y 1).val s.val := by
  have hN : t.val < 16 := lt_of_lt_of_eq t.isLt N_0
  rw [Pipeline.eq_sum_fin_of_reset_step_apply_of_flush (fun n h => (outsAt0 m c n h).2.2.2) 16 (fun _ => (0 : EReal))
    (fun t y => ∑ r : Fin 512, biasTerm m c (y 1).val (t.val * 512 + r.val))
    (fun t hc y => (bias_first m c t hc y).trans ((bias_tile m c t y _).trans (congrArg (· + _) (by
      idx_vars y
      obtain rfl : y0 = 0 := Fin.ext (by have := y0.isLt; omega)
      exact bias_fill _))))
    (fun t hc y => (bias_next m c t hc y).trans (bias_tile m c t y _)) t h y]
  have hr : ∀ s : Fin 16, 16 * (t.val / 16) + s.val = s.val := fun s => by omega
  simp only [hr, zero_add]
  exact Fin.sum_mul_add_congr fun s k h => rfl

/-- The gradients of the gain and of the bias at lane `l`: sums over all rows. -/
def gainGrad (l : Fin 1024) : EReal := ∑ s : Fin 8192, cotRow m c s l * hat (inRow m c s) l
def biasGrad (l : Fin 1024) : EReal := ∑ s : Fin 8192, cotRow m c s l

theorem gainGrad_eq (l : Fin 1024) : gainGrad m c l = ∑ s : Fin 8192, gainTerm m c l.val s.val :=
  Finset.sum_congr rfl fun s _ => by rw [gainTerm, dif_pos ⟨l.isLt, s.isLt⟩]

theorem biasGrad_eq (l : Fin 1024) : biasGrad m c l = ∑ s : Fin 8192, biasTerm m c l.val s.val :=
  Finset.sum_congr rfl fun s _ => by rw [biasTerm, dif_pos ⟨l.isLt, s.isLt⟩]

theorem gain_array : (dats m 0 c).arrAt 9 cfg0.N = fun i : S1x1024.Idx => gainGrad m c (i 1) := by
  refine (dats m 0 c).arrAt_eq_of_covers 9 _ (by decide +kernel) fun t hf y => ?_
  have h := gain_flush m c t ((flush0_9 t).mp hf) y
  blk_simp
  rw [after0_9, h]
  refine Eq.trans ?_ (gainGrad_eq m c _).symm
  blk_simp [where9]

theorem bias_array : (dats m 0 c).arrAt 10 cfg0.N = fun i : S1x1024.Idx => biasGrad m c (i 1) := by
  refine (dats m 0 c).arrAt_eq_of_covers 10 _ (by decide +kernel) fun t hf y => ?_
  have h := bias_flush m c t ((flush0_10 t).mp hf) y
  blk_simp
  rw [after0_10, h]
  refine Eq.trans ?_ (biasGrad_eq m c _).symm
  blk_simp [where10]

end Cert.FfnInIdeal.Hand
-- ==== Proof.GateSpec.lean ====
module

public import proofs.«01_k».proof.Proof.Lift

@[expose] public section

noncomputable section

/-! The gate of the feed-forward layer, its derivative, and the two ways to multiply a cotangent into it. -/

namespace Cert.GateSpec

open Idealize.ShloMosaic Cert.Reals

/-- The logistic function. -/
def sigmoid (a : EReal) : EReal := Ideal.div 1 (1 + Ideal.exp (-a))

/-- The gate. -/
def gate (a : EReal) : EReal := a * sigmoid a

/-- The derivative of `gate a * b` in `a`, times `t`, as the chain rule leaves it. -/
def gradient (t a : EReal) : EReal := t * sigmoid a + a * t * (sigmoid a * (1 - sigmoid a))

/-- The logistic function of a real number. -/
theorem sigmoid_coe (x : ℝ) : sigmoid (x : EReal) = ((1 / (1 + Real.exp (-x)) : ℝ) : EReal) := by
  rw [sigmoid, ← EReal.coe_neg, Ideal.exp_coe, ← EReal.coe_one, ← EReal.coe_add, div_coe _ _ (by positivity)]

theorem sigmoid_top : sigmoid ⊤ = 1 := by
  rw [sigmoid, EReal.neg_top, Ideal.exp_bot, add_zero, ← EReal.coe_one, div_coe _ _ one_ne_zero, div_one]

theorem sigmoid_bot : sigmoid ⊥ = 0 := by
  rw [sigmoid, EReal.neg_bot, Ideal.exp_top, EReal.add_top_of_ne_bot (by decide), Ideal.div, if_neg (by decide), EReal.inv_top, mul_zero]

theorem one_sub_one : (1 : EReal) - 1 = 0 := by
  rw [← EReal.coe_one, ← EReal.coe_sub, sub_self, EReal.coe_zero]

/-- The derivative of the gate with a real number multiplied into it at the end, whatever the gate's argument. -/
theorem gradient_factored (t : ℝ) (a : EReal) : (t : EReal) * (sigmoid a + gate a * (1 - sigmoid a)) = gradient t a := by
  rw [gradient, gate]
  induction a with
  | bot => simp [sigmoid_bot]
  | top => simp [sigmoid_top, one_sub_one]
  | coe x =>
    rw [sigmoid_coe]
    generalize 1 / (1 + Real.exp (-x)) = s
    norm_cast
    ring

/-- A real number multiplied into the derivative afterwards. -/
theorem gradient_scaled (d t : ℝ) (a : EReal) : (d : EReal) * gradient t a = gradient ((d * t : ℝ) : EReal) a := by
  rw [gradient, gradient]
  induction a with
  | bot => simp [sigmoid_bot]
  | top => simp [sigmoid_top, one_sub_one]
  | coe x =>
    rw [sigmoid_coe]
    generalize 1 / (1 + Real.exp (-x)) = s
    norm_cast
    ring

/-- A sum of products of real numbers is a real number. -/
theorem dot_real {ι : Type*} [Fintype ι] (f g : ι → EReal) (hf : ∀ i, f i = ((f i).toReal : EReal)) (hg : ∀ i, g i = ((g i).toReal : EReal)) :
    ∃ r : ℝ, ∑ i, f i * g i = (r : EReal) :=
  ⟨∑ i, (f i).toReal * (g i).toReal, by rw [← sum_coe]; exact Finset.sum_congr rfl fun i _ => by rw [EReal.coe_mul, ← hf, ← hg]⟩

/-- A number of the half-width format whose absolute value is below infinity is a real number. -/
theorem real_of_half {x : EReal} (h : FloatOps.cmpf (F := Ideal) (φ := .bf16) .olt (FloatOps.hostAbsf (F := Ideal) (φ := .bf16) x) (FloatOps.ofBits (F := Ideal) .bf16 0x7F80#16) = 1#1) :
    x = (x.toReal : EReal) := by
  refine real_of_bit (h ▸ ?_)
  show Ideal.cmp .olt (max x (-x)) (Ideal.ofBits .f32 0x7F800000#32) = Ideal.cmp .olt (max x (-x)) (Ideal.ofBits .bf16 0x7F80#16)
  congr 1

end Cert.GateSpec
-- ==== Proof.FfnInClaim.lean ====
module

public import proofs.«01_k».proof.Defs
public import proofs.«01_k».proof.Proof.FfnInKernel
public import proofs.«01_k».proof.Proof.GateSpec
public import proofs.«01_k».proof.Proof.Gen.FfnInRefIdeal.Run
public import proofs.«01_k».proof.Proof.Gen.FfnInRefIdeal.Read

@[expose] public section

set_option maxRecDepth 16384

noncomputable section

/-! The claims about the backward products of the feed-forward layer's input with the layer norm's cotangent. -/

namespace Cert.FfnInClaim

open Idealize.ShloMosaic Idealize.ShloMosaic.TcCoe Idealize.SL.Sem Cert.FfnInRefIdeal Cert.FfnInRefIdeal.Read Cert.NormSpec Cert.BackSpec Cert.GateSpec

/-- The side conditions that the precondition states. -/
theorem pre_facts : Cert.Pre_ffn_in_finite.Facts where
  bcast_S_S8192x2816 := by decide
  bcast_S_S2816x1024 := by decide
  bcast_S_S8192x1024 := by decide
  bcast_S_S1024 := by decide

section

variable (x0 x1 : S8192x2816.Idx → EReal) (x2 x3 : S2816x1024.Idx → EReal) (x4 x5 : S8192x1024.Idx → EReal) (x6 : S1024.Idx → EReal)

/-- Row `s` of an array. -/
abbrev row (x : S8192x1024.Idx → EReal) (s : Fin 8192) : Fin 1024 → EReal := fun l => x (ix2 s l)

/-- The reference's cotangent of the layer norm's output. -/
abbrev cot : S8192x1024.Idx → EReal := val_main_v45 (F := Ideal) x0 x1 x2 x3 x4

theorem cot_ref (s : Fin 8192) (l : Fin 1024) :
    cot x0 x1 x2 x3 x4 (ix2 s l) = alpha * x4 (ix2 s l) + (∑ k : Fin 2816, x1 (ix2 s k) * x3 (ix2 k l)) + ∑ k : Fin 2816, x0 (ix2 s k) * x2 (ix2 k l) := by
  pointwise [val_main_v45, val_main_v44, val_main_v43, val_main_v42, val_main_v41, val_main_v40, val_main_v39, val_main_v38, val_main_v34, val_main_v33, val_main_v31, val_main_v30]
  rfl

theorem mean_ref (s : Fin 8192) : val_main_v4 (F := Ideal) x5 (ix2 s 0) = mean (row x5 s) := by
  pointwise [val_main_v4, val_main_v3, val_main_v2, val_main_v1, val_main_cst_0, val_main_cst_1]
  rfl

theorem center_ref (s : Fin 8192) (l : Fin 1024) : val_main_v6 (F := Ideal) x5 (ix2 s l) = center (row x5 s) l := by
  rw [center, ← mean_ref]
  generalize e : val_main_v4 (F := Ideal) x5 = z
  pointwise [val_main_v6, val_main_v5, e]

theorem center_ref' (s : Fin 8192) (l : Fin 1024) : val_main_v15 (F := Ideal) x5 (ix2 s l) = center (row x5 s) l := by
  rw [center, ← mean_ref]
  generalize e : val_main_v4 (F := Ideal) x5 = z
  pointwise [val_main_v15, val_main_v14, e]

theorem spread_ref (s : Fin 8192) : val_main_v17 (F := Ideal) x5 (ix2 s 0) = variance (row x5 s) + eps := by
  have h := center_ref x5 s
  generalize e : val_main_v6 (F := Ideal) x5 = z at h
  pointwise [val_main_v17, val_main_v16, val_main_v13, val_main_v12, val_main_v11, val_main_v10, val_main_v7, val_main_cst_3, val_main_cst_4, val_main_cst_5, e]
  simp only [h]
  rfl

theorem scale_ref (s : Fin 8192) : val_main_v18 (F := Ideal) x5 (ix2 s 0) = scale (row x5 s) := by
  rw [scale, ← spread_ref]
  generalize e : val_main_v17 (F := Ideal) x5 = z
  pointwise [val_main_v18, e]

theorem hat_ref (s : Fin 8192) (l : Fin 1024) : val_main_v23 (F := Ideal) x5 (ix2 s l) = hat (row x5 s) l := by
  rw [hat, ← scale_ref, ← center_ref']
  generalize e : val_main_v15 (F := Ideal) x5 = z
  generalize e' : val_main_v18 (F := Ideal) x5 = w
  pointwise [val_main_v23, val_main_v22, e, e']

theorem slope_ref (s : Fin 8192) : val_main_v21 (F := Ideal) x5 (ix2 s 0) = half * Ideal.div (scale (row x5 s)) (variance (row x5 s) + eps) := by
  rw [← scale_ref, ← spread_ref]
  generalize e : val_main_v17 (F := Ideal) x5 = z
  generalize e' : val_main_v18 (F := Ideal) x5 = w
  pointwise [val_main_v21, val_main_v20, val_main_v19, e, e']
  rfl

/-- The cotangent with the gain multiplied in. -/
theorem gained_ref (s : Fin 8192) (l : Fin 1024) :
    val_main_v53 (F := Ideal) x0 x1 x2 x3 x4 x6 (ix2 s l) = cot x0 x1 x2 x3 x4 (ix2 s l) * x6 (ix1 l) := by
  rw [cot]
  generalize e : val_main_v45 (F := Ideal) x0 x1 x2 x3 x4 = z
  pointwise [val_main_v53, val_main_v52, val_main_v24, e]

theorem scaled_ref (s : Fin 8192) (l : Fin 1024) :
    val_main_v59 (F := Ideal) x0 x1 x2 x3 x4 x5 x6 (ix2 s l) = cot x0 x1 x2 x3 x4 (ix2 s l) * x6 (ix1 l) * scale (row x5 s) := by
  rw [← gained_ref, ← scale_ref]
  generalize e : val_main_v53 (F := Ideal) x0 x1 x2 x3 x4 x6 = z
  generalize e' : val_main_v18 (F := Ideal) x5 = w
  pointwise [val_main_v59, val_main_v58, e, e']

theorem pull_ref (s : Fin 8192) :
    val_main_v65 (F := Ideal) x0 x1 x2 x3 x4 x5 x6 (ix2 s 0) = spread (row x5 s) (row (cot x0 x1 x2 x3 x4) s) fun l => x6 (ix1 l) := by
  rw [spread, ← slope_ref]
  simp only [← center_ref', ← gained_ref]
  generalize e : val_main_v53 (F := Ideal) x0 x1 x2 x3 x4 x6 = z
  generalize e' : val_main_v21 (F := Ideal) x5 = w
  generalize e'' : val_main_v15 (F := Ideal) x5 = v
  pointwise [val_main_v65, val_main_v64, val_main_v60, val_main_v57, val_main_v56, val_main_v55, val_main_cst_13, val_main_cst_15, e, e', e'']
  rfl

theorem through_ref (s : Fin 8192) (l : Fin 1024) :
    val_main_v68 (F := Ideal) x0 x1 x2 x3 x4 x5 x6 (ix2 s l)
      = spread (row x5 s) (row (cot x0 x1 x2 x3 x4) s) (fun l => x6 (ix1 l)) * (two * center (row x5 s) l) := by
  rw [← pull_ref, ← center_ref]
  generalize e : val_main_v65 (F := Ideal) x0 x1 x2 x3 x4 x5 x6 = z
  generalize e' : val_main_v6 (F := Ideal) x5 = w
  pointwise [val_main_v68, val_main_v67, val_main_v66, val_main_v9, val_main_v8, val_main_cst_16, val_main_cst_2, e, e']
  simp only [Finset.univ_unique, Finset.sum_singleton]
  rfl

/-- The reference's cotangent of the layer norm's input. -/
theorem back_ref (s : Fin 8192) (l : Fin 1024) :
    val_main_v78 (F := Ideal) x0 x1 x2 x3 x4 x5 x6 (ix2 s l) = chain (row x5 s) (row (cot x0 x1 x2 x3 x4) s) (fun l => x6 (ix1 l)) l := by
  rw [chain]
  simp only [← through_ref, ← scaled_ref]
  generalize e : val_main_v59 (F := Ideal) x0 x1 x2 x3 x4 x5 x6 = z
  generalize e' : val_main_v68 (F := Ideal) x0 x1 x2 x3 x4 x5 x6 = w
  pointwise [val_main_v78, val_main_v77, val_main_v76, val_main_v75, val_main_v74, val_main_v73, val_main_v72, val_main_v71, val_main_v70, val_main_v69, val_main_v63, val_main_v62, val_main_v61, val_main_cst_14, val_main_cst_17, val_main_cst_18, val_main_cst_19, e, e']
  simp only [Finset.univ_unique, Finset.sum_singleton]
  rfl

theorem gain_ref (l : Fin 1024) :
    val_main_v80 (F := Ideal) x0 x1 x2 x3 x4 x5 (ix2 0 l) = ∑ s : Fin 8192, hat (row x5 s) l * cot x0 x1 x2 x3 x4 (ix2 s l) := by
  simp only [← hat_ref, cot]
  generalize e : val_main_v45 (F := Ideal) x0 x1 x2 x3 x4 = z
  generalize e' : val_main_v23 (F := Ideal) x5 = w
  pointwise [val_main_v80, val_main_v54, val_main_v51, val_main_v50, val_main_v49, val_main_cst_11, val_main_cst_12, e, e']
  simp only [Finset.univ_unique, Finset.sum_singleton]

theorem bias_ref (l : Fin 1024) :
    val_main_v81 (F := Ideal) x0 x1 x2 x3 x4 (ix2 0 l) = ∑ s : Fin 8192, cot x0 x1 x2 x3 x4 (ix2 s l) := by
  rw [cot]
  generalize e : val_main_v45 (F := Ideal) x0 x1 x2 x3 x4 = z
  pointwise [val_main_v81, val_main_v48, val_main_v47, val_main_v46, val_main_cst_9, val_main_cst_10, e]
  simp only [Finset.univ_unique, Finset.sum_singleton]

end

/-- The reference ends with its arguments unchanged. -/
theorem frame_ref (m : (ℓ : Loc Cert.FfnInRefIdeal.nD Cert.FfnInRefIdeal.τ Cert.FfnInRefIdeal.sig) → Buf (Elt Ideal) ℓ) (g : Dev Cert.FfnInRefIdeal.nD → PrngReg) :
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0) :=
  (θ_run Cert.FfnInRefIdeal.defs _ _).mono (fun r h => ⟨fun c => (h c).2.2.2.2, sem_eq_zero_of_no_sems (by decide) r.2⟩) (Cert.FfnInRefIdeal.Value.run m g)

section

open Cert.FfnInIdeal.Hand

variable (m : (ℓ : Loc Cert.FfnInIdeal.nD Cert.FfnInIdeal.τ Cert.FfnInIdeal.sig) → Buf (Elt Ideal) ℓ) (c : Dev Cert.FfnInIdeal.nD)

/-- Kernel and reference add up the two products in different orders. -/
theorem cot_eq (s : Fin 8192) (l : Fin 1024) : cot (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (ix2 s l) = cotRow m c s l := by
  rw [cot_ref, add_right_comm]
  rfl

theorem gain_eq : val_main_v80 (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) = fun i => gainGrad m c (i 1) := funext fun i => by
  idx_vars i
  obtain rfl : i0 = 0 := Fin.ext (by have := i0.isLt; omega)
  rw [gain_ref]
  refine Finset.sum_congr rfl fun s _ => ?_
  rw [cot_eq, mul_comm]
  rfl

theorem bias_eq : val_main_v81 (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) = fun i => biasGrad m c (i 1) := funext fun i => by
  idx_vars i
  obtain rfl : i0 = 0 := Fin.ext (by have := i0.isLt; omega)
  rw [bias_ref]
  exact Finset.sum_congr rfl fun s _ => cot_eq m c s _

variable [h : Cert.Pre_ffn_in_finite.Facts]

/-- What the precondition says: the cotangent of the layer norm's output is a real number everywhere. -/
theorem cot_real (hpre : Cert.Pre_FfnInIdeal_ffn_in_finite m) (s : Fin 8192) (l : Fin 1024) : ∃ r : ℝ, cotRow m c s l = (r : EReal) := by
  obtain ⟨h0, h1, h2, h3, h4, h5, h6⟩ := hpre c
  obtain ⟨a, ha⟩ := alpha_coe
  obtain ⟨p, hp⟩ := dot_real (fun k : Fin 2816 => gateCot m c (ix2 s k)) (fun k => gateW m c (ix2 k l)) (fun _ => real_of_half (congrFun h0 _)) (fun _ => real_of_half (congrFun h2 _))
  obtain ⟨q, hq⟩ := dot_real (fun k : Fin 2816 => upCot m c (ix2 s k)) (fun k => upW m c (ix2 k l)) (fun _ => real_of_half (congrFun h1 _)) (fun _ => real_of_half (congrFun h3 _))
  have hx : resCot m c (ix2 s l) = ((resCot m c (ix2 s l)).toReal : EReal) := Cert.Reals.real_of_bit (congrFun h4 _)
  exact ⟨a * (resCot m c (ix2 s l)).toReal + p + q, by rw [cotRow, hp, hq, ha, EReal.coe_add, EReal.coe_add, EReal.coe_mul, ← hx]⟩

theorem wide_eq (hpre : Cert.Pre_FfnInIdeal_ffn_in_finite m) : val_main_v78 (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) = fun i => back m c (i 0) (i 1) := funext fun i => by
  idx_vars i
  rw [back_ref]
  refine Eq.trans ?_ (chain_eq_pulled (inRow m c i0) (cotRow m c i0) (gainRow m c) (fun l => Cert.Reals.real_of_bit (congrFun (hpre c).2.2.2.2.2.1 _)) (cot_real m c hpre i0)
    (fun l => Cert.Reals.real_of_bit (congrFun (hpre c).2.2.2.2.2.2 _)) i1)
  rw [show row (cot (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))) i0 = cotRow m c i0 from funext fun l => cot_eq m c i0 l]
  rfl

theorem narrow_eq (hpre : Cert.Pre_FfnInIdeal_ffn_in_finite m) : val_main_v79 (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) = fun i => back m c (i 0) (i 1) :=
  wide_eq m c hpre

/-- The kernel and the reference end with the same cotangent, in both formats, and the same gradients of the gain and of the bias. -/
theorem algebraic : Cert.algebraic_FfnInIdeal_FfnInRefIdeal_pre_ffn_in_finite := by
  intro m g m' g' hpre hargs
  refine ⟨_, _, _, _, Cert.FfnInIdeal.Value.run_blocks m g, ?_⟩
  refine (θ_run Cert.FfnInRefIdeal.defs _ _).mono (fun r h c => ?_) (Cert.FfnInRefIdeal.Value.run m' g')
  obtain ⟨e0, e1, e2, e3, e4, e5, e6⟩ := hargs c
  obtain ⟨r0, r1, r2, r3, ra⟩ := h c
  rw [val_main_v78_eq, e0, e1, e2, e3, e4, e5, e6] at r0
  rw [val_main_v79_eq, e0, e1, e2, e3, e4, e5, e6] at r1
  rw [val_main_v80_eq, e0, e1, e2, e3, e4, e5] at r2
  rw [val_main_v81_eq, e0, e1, e2, e3, e4] at r3
  refine ⟨r0.trans ?_, r1.trans ?_, r2.trans ?_, r3.trans ?_, ra⟩
  · rw [wide_array]
    exact wide_eq m c hpre
  · rw [narrow_array]
    exact narrow_eq m c hpre
  · rw [gain_array]
    exact gain_eq m c
  · rw [bias_array]
    exact bias_eq m c

end

end Cert.FfnInClaim
-- ==== Proof.GateKernel.lean ====
module

public import proofs.«01_k».proof.Proof.GateSpec
public import proofs.«01_k».proof.Proof.Gen.GateIdeal.Value
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.PureOps.Ideal.Laws

@[expose] public section

set_option maxRecDepth 16384

noncomputable section

/-! The two arrays that the gradient of the gate leaves, at every index. -/

namespace Cert.GateIdeal.Hand

open Cert.GateIdeal Cert.GateIdeal.Gen Idealize.ShloMosaic Idealize.ShloMosaic.TcCoe Idealize.SL.Sem Cert.GateSpec

theorem where0 : ∀ t : Fin cfg0.N, win0_0.index t = ![t.val % 16, 0] := (by decide +kernel : ∀ t : Fin grid0.N, _)
theorem where1 : ∀ t : Fin cfg0.N, win0_1.index t = ![t.val / 16, 0] := (by decide +kernel : ∀ t : Fin grid0.N, _)
theorem where2 : ∀ t : Fin cfg0.N, win0_2.index t = ![t.val % 16, t.val / 16] := (by decide +kernel : ∀ t : Fin grid0.N, _)
theorem where3 : ∀ t : Fin cfg0.N, win0_3.index t = ![t.val % 16, t.val / 16] := (by decide +kernel : ∀ t : Fin grid0.N, _)
theorem where4 : ∀ t : Fin cfg0.N, win0_4.index t = ![t.val % 16, t.val / 16] := (by decide +kernel : ∀ t : Fin grid0.N, _)
theorem where5 : ∀ t : Fin cfg0.N, win0_5.index t = ![t.val % 16, t.val / 16] := (by decide +kernel : ∀ t : Fin grid0.N, _)

theorem product_apply (x : Vec Ideal S512x1024 .bf16) (w : Vec Ideal S1408x1024 .bf16) (r : Fin 512) (l : Fin 1408) :
    k0_pay1 (F := Ideal) x w (ix2 r l) = ∑ k : Fin 1024, x (ix2 r k) * w (ix2 l k) := by
  pointwise [k0_pay1]

theorem first_apply (x : Vec Ideal S512x1024 .bf16) (w : Vec Ideal S1408x1024 .bf16) (g : Vec Ideal S512x1408 .bf16) (r : Fin 512) (l : Fin 1408) :
    k0_pay2 (F := Ideal) x w g (ix2 r l) = k0_pay1 (F := Ideal) x w (ix2 r l) * g (ix2 r l) := by
  generalize e : k0_pay1 (F := Ideal) x w = z
  pointwise [k0_pay2, e]

theorem second_apply (x : Vec Ideal S512x1024 .bf16) (w : Vec Ideal S1408x1024 .bf16) (g : Vec Ideal S512x1408 .bf16) (r : Fin 512) (l : Fin 1408) :
    k0_pay3 (F := Ideal) x w g (ix2 r l) = k0_pay1 (F := Ideal) x w (ix2 r l) * g (ix2 r l) := by
  generalize e : k0_pay1 (F := Ideal) x w = z
  pointwise [k0_pay3, e]

variable (m : (ℓ : Loc nD τ sig) → Buf (Elt Ideal) ℓ) (c : Dev nD)

/-- The derivative in the gate's argument that the host passes in. -/
theorem slope_entry (s : Fin 8192) (l : Fin 2816) : V m c main_v6 (ix2 s l : S8192x2816.Idx)
    = gradient (m ((c : Thread nD τ).loc main_arg3) (ix2 s l : S8192x2816.Idx)) (m ((c : Thread nD τ).loc main_arg2) (ix2 s l : S8192x2816.Idx)) := by
  unfold V
  after_reads_at
  rfl

/-- The derivative in the factor beside the gate that the host passes in. -/
theorem gate_entry (s : Fin 8192) (l : Fin 2816) : V m c main_v7 (ix2 s l : S8192x2816.Idx)
    = gate (m ((c : Thread nD τ).loc main_arg2) (ix2 s l : S8192x2816.Idx)) := by
  unfold V
  after_reads_at
  rfl

theorem block0 (t : Fin cfg0.N) (r : Fin 512) (k : Fin 1024) :
    iblk m c 0 t (ix2 r k : S512x1024.Idx) = m ((c : Thread nD τ).loc main_arg0) (ix2 ⟨t.val % 16 * 512 + r.val, by omega⟩ k : S8192x1024.Idx) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (l : Fin 1408) (k : Fin 1024) :
    iblk m c 1 t (ix2 l k : S1408x1024.Idx) = m ((c : Thread nD τ).loc main_arg1) (ix2 ⟨t.val / 16 * 1408 + l.val, by have := t.isLt; have : cfg0.N = 32 := N_0; omega⟩ k : S2816x1024.Idx) := by
  blk_simp [iblk]
  rw [V_main_arg1]
  refine congrArg _ (funext fun a => Fin.ext ?_)
  match a with
  | ⟨0, _⟩ => blk_simp [where1]
  | ⟨1, _⟩ => blk_simp [where1]

theorem block2 (t : Fin cfg0.N) (r : Fin 512) (l : Fin 1408) :
    iblk m c 2 t (ix2 r l : S512x1408.Idx)
      = V m c main_v6 (ix2 ⟨t.val % 16 * 512 + r.val, by omega⟩ ⟨t.val / 16 * 1408 + l.val, by have := t.isLt; have : cfg0.N = 32 := N_0; omega⟩ : S8192x2816.Idx) := by
  blk_simp [iblk]
  refine congrArg _ (funext fun a => Fin.ext ?_)
  match a with
  | ⟨0, _⟩ => blk_simp [where2]
  | ⟨1, _⟩ => blk_simp [where2]

theorem block3 (t : Fin cfg0.N) (r : Fin 512) (l : Fin 1408) :
    iblk m c 3 t (ix2 r l : S512x1408.Idx)
      = V m c main_v7 (ix2 ⟨t.val % 16 * 512 + r.val, by omega⟩ ⟨t.val / 16 * 1408 + l.val, by have := t.isLt; have : cfg0.N = 32 := N_0; omega⟩ : S8192x2816.Idx) := by
  blk_simp [iblk]
  refine congrArg _ (funext fun a => Fin.ext ?_)
  match a with
  | ⟨0, _⟩ => blk_simp [where3]
  | ⟨1, _⟩ => blk_simp [where3]

theorem flush4 (t : Fin cfg0.N) (y : S512x1408.Idx) :
    (dats m 0 c).flushed 4 t y = k0_pay2 (F := Ideal) (iblk m c 0 t) (iblk m c 1 t) (iblk m c 2 t) y := by
  rw [Value.flushed4]
  frame_out
  rfl

theorem flush5 (t : Fin cfg0.N) (y : S512x1408.Idx) :
    (dats m 0 c).flushed 5 t y = k0_pay3 (F := Ideal) (iblk m c 0 t) (iblk m c 1 t) (iblk m c 3 t) y := by
  rw [Value.flushed5]
  frame_out
  rfl

/-- The product of row `s` of `x` with row `l` of `w`. -/
def product (x : S8192x1024.Idx → EReal) (w : S2816x1024.Idx → EReal) (s : Fin 8192) (l : Fin 2816) : EReal := ∑ k : Fin 1024, x (ix2 s k) * w (ix2 l k)

/-- The cotangent of the hidden layer. -/
def cotangent (s : Fin 8192) (l : Fin 2816) : EReal := product (m ((c : Thread nD τ).loc main_arg0)) (m ((c : Thread nD τ).loc main_arg1)) s l

theorem point_product (t : Fin cfg0.N) (r : Fin 512) (l : Fin 1408) :
    k0_pay1 (F := Ideal) (iblk m c 0 t) (iblk m c 1 t) (ix2 r l)
      = cotangent m c ⟨t.val % 16 * 512 + r.val, by omega⟩ ⟨t.val / 16 * 1408 + l.val, by have := t.isLt; have : cfg0.N = 32 := N_0; omega⟩ := by
  rw [product_apply]
  simp only [block0, block1]
  rfl

/-- The first array: the gradient in the gate's argument. -/
def first (s : Fin 8192) (l : Fin 2816) : EReal :=
  cotangent m c s l * gradient (m ((c : Thread nD τ).loc main_arg3) (ix2 s l : S8192x2816.Idx)) (m ((c : Thread nD τ).loc main_arg2) (ix2 s l : S8192x2816.Idx))

/-- The second array: the gradient in the factor beside the gate. -/
def second (s : Fin 8192) (l : Fin 2816) : EReal := cotangent m c s l * gate (m ((c : Thread nD τ).loc main_arg2) (ix2 s l : S8192x2816.Idx))

theorem first_array : (dats m 0 c).arrAt 4 cfg0.N = fun i : S8192x2816.Idx => first m c (i 0) (i 1) := by
  refine (dats m 0 c).arrAt_eq_of_covers 4 _ (by decide +kernel) fun t hf y => ?_
  refine (flush4 m c t y).trans ?_
  idx_vars y
  rw [first_apply, point_product, block2, slope_entry]
  refine congrArg₂ (first m c) (Fin.ext ?_) (Fin.ext ?_) <;> blk_simp [where4]

theorem second_array : (dats m 0 c).arrAt 5 cfg0.N = fun i : S8192x2816.Idx => second m c (i 0) (i 1) := by
  refine (dats m 0 c).arrAt_eq_of_covers 5 _ (by decide +kernel) fun t hf y => ?_
  refine (flush5 m c t y).trans ?_
  idx_vars y
  rw [second_apply, point_product, block3, gate_entry]
  refine congrArg₂ (second m c) (Fin.ext ?_) (Fin.ext ?_) <;> blk_simp [where5]

end Cert.GateIdeal.Hand
-- ==== Proof.GateClaim.lean ====
module

public import proofs.«01_k».proof.Defs
public import proofs.«01_k».proof.Proof.GateKernel
public import proofs.«01_k».proof.Proof.Gen.GateRefIdeal.Run
public import proofs.«01_k».proof.Proof.Gen.GateRefIdeal.Read

@[expose] public section

set_option maxRecDepth 16384

noncomputable section

/-! The claims about the gradient of the gate. -/

namespace Cert.GateClaim

open Idealize.ShloMosaic Idealize.ShloMosaic.TcCoe Idealize.SL.Sem Cert.GateRefIdeal Cert.GateRefIdeal.Read Cert.GateSpec

/-- The side conditions that the precondition states. -/
theorem pre_facts : Cert.Pre_gate_finite.Facts where
  bcast_S_S8192x1024 := by decide
  bcast_S_S2816x1024 := by decide
  bcast_S_S8192x2816 := by decide

section

variable (x0 : S8192x1024.Idx → EReal) (x1 : S2816x1024.Idx → EReal) (x2 x3 : S8192x2816.Idx → EReal)

/-- The reference's cotangent of the hidden layer. -/
theorem cotangent_ref (s : Fin 8192) (l : Fin 2816) : val_main_v5 (F := Ideal) x0 x1 (ix2 s l) = Cert.GateIdeal.Hand.product x0 x1 s l := by
  pointwise [val_main_v5, val_main_v4, val_main_v2]
  rfl

theorem sigmoid_ref (i : S8192x2816.Idx) : val_main_v0_2 (F := Ideal) x2 i = sigmoid (x2 i) := by
  rw [sigmoid, ← Ideal.ofBits_one_f32]
  rfl

/-- The reference's gradient in the gate's argument. -/
theorem first_ref (i : S8192x2816.Idx) :
    val_main_v9 (F := Ideal) x0 x1 x2 x3 i = gradient (val_main_v5 (F := Ideal) x0 x1 i * x3 i) (x2 i) := by
  rw [gradient, ← sigmoid_ref, ← Ideal.ofBits_one_f32]
  rfl

/-- The reference's gradient in the factor beside the gate. -/
theorem second_ref (i : S8192x2816.Idx) : val_main_v10 (F := Ideal) x0 x1 x2 i = gate (x2 i) * val_main_v5 (F := Ideal) x0 x1 i := by
  rw [gate, ← sigmoid_ref]
  rfl

end

/-- The reference ends with its arguments unchanged. -/
theorem frame_ref (m : (ℓ : Loc Cert.GateRefIdeal.nD Cert.GateRefIdeal.τ Cert.GateRefIdeal.sig) → Buf (Elt Ideal) ℓ) (g : Dev Cert.GateRefIdeal.nD → PrngReg) :
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0) :=
  (θ_run Cert.GateRefIdeal.defs _ _).mono (fun r h => ⟨fun c => (h c).2.2, sem_eq_zero_of_no_sems (by decide) r.2⟩) (Cert.GateRefIdeal.Value.run m g)

section

variable [h : Cert.Pre_gate_finite.Facts]

/-- What the precondition says: the hidden layer's cotangent and the factor beside the gate are real numbers everywhere. -/
theorem reals_of_pre (x0 : S8192x1024.Idx → EReal) (x1 : S2816x1024.Idx → EReal) (x2 x3 : S8192x2816.Idx → EReal)
    (h0 : (Cert.Pre_gate_finite.fn (F := Ideal) x0 x1 x2 x3).1 = fun _ => 1#1) (h1 : (Cert.Pre_gate_finite.fn (F := Ideal) x0 x1 x2 x3).2.1 = fun _ => 1#1)
    (h2 : (Cert.Pre_gate_finite.fn (F := Ideal) x0 x1 x2 x3).2.2 = fun _ => 1#1) (s : Fin 8192) (l : Fin 2816) :
    (∃ d : ℝ, Cert.GateIdeal.Hand.product x0 x1 s l = (d : EReal)) ∧ ∃ t : ℝ, x3 (ix2 s l) = (t : EReal) :=
  ⟨dot_real _ _ (fun _ => real_of_half (congrFun h0 _)) (fun _ => real_of_half (congrFun h1 _)), _, Cert.Reals.real_of_bit (congrFun h2 _)⟩

variable (m : (ℓ : Loc Cert.GateIdeal.nD Cert.GateIdeal.τ Cert.GateIdeal.sig) → Buf (Elt Ideal) ℓ) (c : Dev Cert.GateIdeal.nD)

theorem first_eq (hpre : Cert.Pre_GateIdeal_gate_finite m) : val_main_v9 (F := Ideal) (m ((c.tc : Thread Cert.GateIdeal.nD Cert.GateIdeal.τ).loc Cert.GateIdeal.main_arg0))
    (m ((c.tc : Thread Cert.GateIdeal.nD Cert.GateIdeal.τ).loc Cert.GateIdeal.main_arg1)) (m ((c.tc : Thread Cert.GateIdeal.nD Cert.GateIdeal.τ).loc Cert.GateIdeal.main_arg2))
    (m ((c.tc : Thread Cert.GateIdeal.nD Cert.GateIdeal.τ).loc Cert.GateIdeal.main_arg3)) = fun i => Cert.GateIdeal.Hand.first m c (i 0) (i 1) := funext fun i => by
  idx_vars i
  refine (first_ref _ _ _ _ _).trans ?_
  rw [cotangent_ref]
  obtain ⟨⟨d, hd⟩, t, ht⟩ := reals_of_pre _ _ _ _ (hpre c).1 (hpre c).2.1 (hpre c).2.2 i0 i1
  have e : Cert.GateIdeal.Hand.cotangent m c i0 i1 = (d : EReal) := hd
  show _ = Cert.GateIdeal.Hand.first m c i0 i1
  rw [Cert.GateIdeal.Hand.first, e, hd]
  refine Eq.trans ?_ (congrArg (fun z => (d : EReal) * gradient z _) ht.symm)
  rw [gradient_scaled, EReal.coe_mul]
  exact congrArg (fun z => gradient ((d : EReal) * z) _) ht

omit h in
theorem second_eq : val_main_v10 (F := Ideal) (m ((c.tc : Thread Cert.GateIdeal.nD Cert.GateIdeal.τ).loc Cert.GateIdeal.main_arg0))
    (m ((c.tc : Thread Cert.GateIdeal.nD Cert.GateIdeal.τ).loc Cert.GateIdeal.main_arg1)) (m ((c.tc : Thread Cert.GateIdeal.nD Cert.GateIdeal.τ).loc Cert.GateIdeal.main_arg2))
      = fun i => Cert.GateIdeal.Hand.second m c (i 0) (i 1) := funext fun i => by
  idx_vars i
  refine (second_ref _ _ _ _).trans ?_
  rw [cotangent_ref, mul_comm]
  rfl

/-- The kernel and the reference end with the same two gradients. -/
theorem algebraic : Cert.algebraic_GateIdeal_GateRefIdeal_pre_gate_finite := by
  intro m g m' g' hpre hargs
  refine ⟨_, _, Cert.GateIdeal.Value.run_blocks m g, ?_⟩
  refine (θ_run Cert.GateRefIdeal.defs _ _).mono (fun r h c => ?_) (Cert.GateRefIdeal.Value.run m' g')
  obtain ⟨e0, e1, e2, e3⟩ := hargs c
  obtain ⟨r0, r1, ra⟩ := h c
  rw [val_main_v9_eq, e0, e1, e2, e3] at r0
  rw [val_main_v10_eq, e0, e1, e2] at r1
  refine ⟨r0.trans ?_, r1.trans ?_, ra⟩
  · rw [Cert.GateIdeal.Hand.first_array]
    exact first_eq m c hpre
  · rw [Cert.GateIdeal.Hand.second_array]
    exact second_eq m c

end

end Cert.GateClaim
-- ==== Proof.DownKernel.lean ====
module

public import proofs.«01_k».proof.Proof.Gen.DownIdeal.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

/-! The array that the gradient of a projection's weight leaves, at every index: the sum over all tokens of a hidden value
    times a cotangent. The kernel adds it up over eight tiles of 1024 tokens. -/

namespace Cert.DownIdeal.Hand

open Cert.DownIdeal Cert.DownIdeal.Gen Idealize.ShloMosaic Idealize.ShloMosaic.TcCoe Idealize.SL.Sem

theorem where0 : ∀ t : Fin cfg0.N, win0_0.index t = ![t.val % 8, t.val / 8] := (by decide +kernel : ∀ t : Fin grid0.N, _)
theorem where1 : ∀ t : Fin cfg0.N, win0_1.index t = ![t.val % 8, 0] := (by decide +kernel : ∀ t : Fin grid0.N, _)
theorem where2 : ∀ t : Fin cfg0.N, win0_2.index t = ![t.val / 8, 0] := (by decide +kernel : ∀ t : Fin grid0.N, _)

/-- A tile's sums, added to what was held. -/
theorem step_apply (acc : Vec Ideal S1408x1024 .f32) (a : Vec Ideal S1024x1408 .bf16) (b : Vec Ideal S1024x1024 .bf16) (r : Fin 1408) (l : Fin 1024) :
    k0_pay2 acc a b (ix2 r l) = acc (ix2 r l) + ∑ k : Fin 1024, a (ix2 k r) * b (ix2 k l) := by
  pointwise [k0_pay2]

theorem fill_apply (r : Fin 1408) (l : Fin 1024) : k0_pay1 (F := Ideal) (ix2 r l) = 0 := by
  pointwise [k0_pay1]

variable (m : (ℓ : Loc nD τ sig) → Buf (Elt Ideal) ℓ) (c : Dev nD)

/-- The hidden values and the cotangents that the program is given. -/
abbrev hid : S8192x2816.Idx → EReal := m ((c : Thread nD τ).loc main_arg0)
abbrev cot : S8192x1024.Idx → EReal := m ((c : Thread nD τ).loc main_arg1)

theorem block0 (t : Fin cfg0.N) (k : Fin 1024) (r : Fin 1408) :
    iblk m c 0 t (ix2 k r : S1024x1408.Idx) = hid m c (ix2 ⟨t.val % 8 * 1024 + k.val, by omega⟩ ⟨t.val / 8 * 1408 + r.val, by have := t.isLt; have : cfg0.N = 16 := N_0; omega⟩) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (k : Fin 1024) (l : Fin 1024) :
    iblk m c 1 t (ix2 k l : S1024x1024.Idx) = cot m c (ix2 ⟨t.val % 8 * 1024 + k.val, by omega⟩ l) := by
  blk_simp [iblk]
  rw [V_main_arg1]
  refine congrArg _ (funext fun a => Fin.ext ?_)
  match a with
  | ⟨0, _⟩ => blk_simp [where1]
  | ⟨1, _⟩ => blk_simp [where1]

theorem first (t : Fin cfg0.N) (h : t.val % 8 = 0) (y : S1408x1024.Idx) :
    (outsAt0 m c t.val t.isLt).2 y = k0_pay2 (k0_pay1 (F := Ideal)) (iblk m c 0 t) (iblk m c 1 t) y := by
  rw [outsAt0_A m c t h (by omega)]
  dsimp only
  frame_open
  simp (disch := decide) only [↓ View.readCov_skip, ↓ View.readCov_cons_toLoadRect, ↓ View.readCov_fill]
  frame_out

theorem middle (t : Fin cfg0.N) (h : ¬t.val % 8 = 0) (y : S1408x1024.Idx) :
    (outsAt0 m c t.val t.isLt).2 y
      = k0_pay2 (outsAt0 m c (t.val - 1) (Nat.lt_of_le_of_lt (Nat.sub_le _ _) t.isLt)).2 (iblk m c 0 t) (iblk m c 1 t) y := by
  by_cases h1 : t.val % 8 = 7
  · rw [outsAt0_C m c t h h1]
    dsimp only
    frame_open
    simp (disch := decide) only [↓ View.readCov_skip, ↓ View.readCov_cons_toLoadRect, ↓ View.readCov_fill]
    frame_out
    rw [read_unread_whole]
  · rw [outsAt0_B m c t h h1]
    dsimp only
    frame_open
    simp (disch := decide) only [↓ View.readCov_skip, ↓ View.readCov_cons_toLoadRect, ↓ View.readCov_fill]
    frame_out
    rw [read_unread_whole]

/-- The output's block is what the sums hold at the last tile. -/
theorem last (t : Fin cfg0.N) (h1 : t.val % 8 = 7) (y : S1408x1024.Idx) :
    (outsAt0 m c t.val t.isLt).1 y = (outsAt0 m c t.val t.isLt).2 y := by
  rw [outsAt0_C m c t (by omega) h1]
  dsimp only
  frame_open
  simp (disch := decide) only [↓ View.readCov_skip, ↓ View.readCov_cons_toLoadRect, ↓ View.readCov_fill]
  frame_out

/-- The gradient of the weight: row `i 0` of the hidden values against column `i 1` of the cotangents, over all tokens. -/
def gradient (i : S2816x1024.Idx) : EReal :=
  ∑ s : Fin 8192, hid m c (ix2 s (i 0)) * cot m c (ix2 s (i 1))

/-- Token `s`'s term of the sum at row `r` and lane `l`. -/
def term (r l s : ℕ) : EReal :=
  if h : r < 2816 ∧ l < 1024 ∧ s < 8192 then hid m c (ix2 ⟨s, h.2.2⟩ ⟨r, h.1⟩) * cot m c (ix2 ⟨s, h.2.2⟩ ⟨l, h.2.1⟩) else 0

theorem gradient_eq (i : S2816x1024.Idx) : gradient m c i = ∑ s : Fin 8192, term m c (i 0).val (i 1).val s.val :=
  Finset.sum_congr rfl fun s _ => by rw [term, dif_pos ⟨(i 0).isLt, (i 1).isLt, s.isLt⟩]; rfl

theorem tile_sum (t : Fin cfg0.N) (y : S1408x1024.Idx) (acc : Vec Ideal S1408x1024 .f32) :
    k0_pay2 acc (iblk m c 0 t) (iblk m c 1 t) y
      = acc y + ∑ k : Fin 1024, term m c (t.val / 8 * 1408 + (y 0).val) (y 1).val (t.val % 8 * 1024 + k.val) := by
  have hN : t.val < 16 := lt_of_lt_of_eq t.isLt N_0
  idx_vars y
  rw [step_apply]
  refine congrArg _ (Finset.sum_congr rfl fun k _ => ?_)
  rw [block0, block1, term, dif_pos ⟨by show t.val / 8 * 1408 + y0.val < 2816; omega, y1.isLt, by omega⟩]

theorem sums_flush (t : Fin cfg0.N) (h : t.val % 8 = 7) (y : S1408x1024.Idx) :
    (outsAt0 m c t.val t.isLt).2 y = ∑ s : Fin 8192, term m c (t.val / 8 * 1408 + (y 0).val) (y 1).val s.val := by
  rw [Pipeline.eq_sum_fin_of_reset_step_apply_of_flush (fun n h => (outsAt0 m c n h).2) 8 (fun _ => (0 : EReal))
    (fun t y => ∑ k : Fin 1024, term m c (t.val / 8 * 1408 + (y 0).val) (y 1).val (t.val % 8 * 1024 + k.val))
    (fun t hc y => (first m c t hc y).trans ((tile_sum m c t y _).trans (congrArg (· + _) (by idx_vars y; exact fill_apply _ _))))
    (fun t hc y => (middle m c t hc y).trans (tile_sum m c t y _)) t h y]
  have hd : ∀ s : Fin 8, (8 * (t.val / 8) + s.val) / 8 = t.val / 8 := fun s => by omega
  have hr : ∀ s : Fin 8, (8 * (t.val / 8) + s.val) % 8 = s.val := fun s => by omega
  simp only [hd, hr, zero_add]
  exact Fin.sum_mul_add_congr fun s k h => rfl

theorem array : (dats m 0 c).arrAt 2 cfg0.N = gradient m c := by
  refine (dats m 0 c).arrAt_eq_of_covers 2 _ (by decide +kernel) fun t hf y => ?_
  have h := (last m c t ((flush0_2 t).mp hf) y).trans (sums_flush m c t ((flush0_2 t).mp hf) y)
  blk_simp
  rw [after0_2, h, gradient_eq]
  blk_simp [where2]

end Cert.DownIdeal.Hand
-- ==== Proof.DownClaim.lean ====
module

public import proofs.«01_k».proof.Defs
public import proofs.«01_k».proof.Proof.DownKernel
public import proofs.«01_k».proof.Proof.Gen.DownRefIdeal.Run
public import proofs.«01_k».proof.Proof.Gen.DownRefIdeal.Read

@[expose] public section

set_option maxRecDepth 16384

noncomputable section

/-! The claims about the gradient of a projection's weight. -/

namespace Cert.DownClaim

open Idealize.ShloMosaic Idealize.ShloMosaic.TcCoe Idealize.SL.Sem Cert.DownRefIdeal.Read

/-- The reference's gradient: the cotangents against the hidden values, over all tokens. -/
theorem gradient_ref (x0 : Cert.DownRefIdeal.S8192x2816.Idx → EReal) (x1 : Cert.DownRefIdeal.S8192x1024.Idx → EReal) (i : Cert.DownRefIdeal.S2816x1024.Idx) :
    val_main_v5 (F := Ideal) x0 x1 i = ∑ s : Fin 8192, x0 (ix2 s (i 0)) * x1 (ix2 s (i 1)) := by
  rw [val_main_v5_apply, val_main_v4_apply]
  refine Finset.sum_congr rfl fun s _ => ?_
  rw [mul_comm]
  refine congrArg₂ (· * ·) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-- The reference ends with its arguments unchanged. -/
theorem frame_ref : Cert.quiescent_DownRefIdeal := fun m g _ =>
  (θ_run Cert.DownRefIdeal.defs _ _).mono (fun r h => ⟨fun c => (h c).2, sem_eq_zero_of_no_sems (by decide) r.2⟩) (Cert.DownRefIdeal.Value.run m g)

/-- The kernel and the reference end with the same gradient. -/
theorem algebraic : Cert.algebraic_DownIdeal_DownRefIdeal := by
  intro m g m' g' _ hargs
  refine ⟨_, Cert.DownIdeal.Value.run_blocks m g, ?_⟩
  refine (θ_run Cert.DownRefIdeal.defs _ _).mono (fun r h c => ⟨(h c).1.trans ?_, (h c).2⟩) (Cert.DownRefIdeal.Value.run m' g')
  obtain ⟨e0, e1⟩ := hargs c
  rw [val_main_v5_eq, e0, e1, Cert.DownIdeal.Hand.array]
  exact funext fun i => gradient_ref _ _ i

end Cert.DownClaim
-- ==== Proof.UpKernel.lean ====
module

public import proofs.«01_k».proof.Proof.GateSpec
public import proofs.«01_k».proof.Proof.Gen.UpIdeal.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

/-! The three arrays that the forward products of the feed-forward layer leave, at every index. -/

namespace Cert.UpIdeal.Hand

open Cert.UpIdeal Cert.UpIdeal.Gen Idealize.ShloMosaic Idealize.ShloMosaic.TcCoe Idealize.SL.Sem Cert.GateSpec

theorem where0 : ∀ t : Fin cfg0.N, win0_0.index t = ![t.val % 16, 0] := (by decide +kernel : ∀ t : Fin grid0.N, _)
theorem where1 : ∀ t : Fin cfg0.N, win0_1.index t = ![t.val / 16, 0] := (by decide +kernel : ∀ t : Fin grid0.N, _)
theorem where2 : ∀ t : Fin cfg0.N, win0_2.index t = ![t.val / 16, 0] := (by decide +kernel : ∀ t : Fin grid0.N, _)
theorem where3 : ∀ t : Fin cfg0.N, win0_3.index t = ![t.val % 16, t.val / 16] := (by decide +kernel : ∀ t : Fin grid0.N, _)
theorem where4 : ∀ t : Fin cfg0.N, win0_4.index t = ![t.val % 16, t.val / 16] := (by decide +kernel : ∀ t : Fin grid0.N, _)
theorem where5 : ∀ t : Fin cfg0.N, win0_5.index t = ![t.val % 16, t.val / 16] := (by decide +kernel : ∀ t : Fin grid0.N, _)

theorem gate_product_apply (x : Vec Ideal S512x1024 .bf16) (w : Vec Ideal S1408x1024 .bf16) (r : Fin 512) (l : Fin 1408) :
    k0_pay1 (F := Ideal) x w (ix2 r l) = ∑ k : Fin 1024, x (ix2 r k) * w (ix2 l k) := by
  pointwise [k0_pay1]

theorem up_product_apply (x : Vec Ideal S512x1024 .bf16) (w : Vec Ideal S1408x1024 .bf16) (r : Fin 512) (l : Fin 1408) :
    k0_pay2 (F := Ideal) x w (ix2 r l) = ∑ k : Fin 1024, x (ix2 r k) * w (ix2 l k) := by
  pointwise [k0_pay2]

theorem sigmoid_apply (x : Vec Ideal S512x1024 .bf16) (w : Vec Ideal S1408x1024 .bf16) (y : S512x1408.Idx) :
    k0_pay3 (F := Ideal) x w y = sigmoid (k0_pay1 (F := Ideal) x w y) := by
  rw [sigmoid, ← zero_sub, ← Ideal.ofBits_zero_f32, ← Ideal.ofBits_one_f32]
  rfl

theorem gate_apply (x : Vec Ideal S512x1024 .bf16) (w : Vec Ideal S1408x1024 .bf16) (y : S512x1408.Idx) :
    k0_pay4 (F := Ideal) x w y = gate (k0_pay1 (F := Ideal) x w y) := by
  rw [gate, ← sigmoid_apply]
  rfl

theorem slope_apply (x : Vec Ideal S512x1024 .bf16) (w u : Vec Ideal S1408x1024 .bf16) (y : S512x1408.Idx) :
    k0_pay5 (F := Ideal) x w u y = k0_pay2 (F := Ideal) x u y
      * (sigmoid (k0_pay1 (F := Ideal) x w y) + gate (k0_pay1 (F := Ideal) x w y) * (1 - sigmoid (k0_pay1 (F := Ideal) x w y))) := by
  rw [← gate_apply, ← sigmoid_apply, ← Ideal.ofBits_one_f32]
  rfl

theorem kept_apply (x : Vec Ideal S512x1024 .bf16) (w : Vec Ideal S1408x1024 .bf16) (y : S512x1408.Idx) :
    k0_pay6 (F := Ideal) x w y = gate (k0_pay1 (F := Ideal) x w y) := gate_apply x w y

theorem hidden_apply (x : Vec Ideal S512x1024 .bf16) (w u : Vec Ideal S1408x1024 .bf16) (y : S512x1408.Idx) :
    k0_pay7 (F := Ideal) x w u y = gate (k0_pay1 (F := Ideal) x w y) * k0_pay2 (F := Ideal) x u y := by
  rw [← gate_apply]
  rfl

variable (m : (ℓ : Loc nD τ sig) → Buf (Elt Ideal) ℓ) (c : Dev nD)

theorem block0 (t : Fin cfg0.N) (r : Fin 512) (k : Fin 1024) :
    iblk m c 0 t (ix2 r k : S512x1024.Idx) = m ((c : Thread nD τ).loc main_arg0) (ix2 ⟨t.val % 16 * 512 + r.val, by omega⟩ k : S8192x1024.Idx) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (l : Fin 1408) (k : Fin 1024) :
    iblk m c 1 t (ix2 l k : S1408x1024.Idx) = m ((c : Thread nD τ).loc main_arg1) (ix2 ⟨t.val / 16 * 1408 + l.val, by have := t.isLt; have : cfg0.N = 32 := N_0; omega⟩ k : S2816x1024.Idx) := by
  blk_simp [iblk]
  rw [V_main_arg1]
  refine congrArg _ (funext fun a => Fin.ext ?_)
  match a with
  | ⟨0, _⟩ => blk_simp [where1]
  | ⟨1, _⟩ => blk_simp [where1]

theorem block2 (t : Fin cfg0.N) (l : Fin 1408) (k : Fin 1024) :
    iblk m c 2 t (ix2 l k : S1408x1024.Idx) = m ((c : Thread nD τ).loc main_arg2) (ix2 ⟨t.val / 16 * 1408 + l.val, by have := t.isLt; have : cfg0.N = 32 := N_0; omega⟩ k : S2816x1024.Idx) := by
  blk_simp [iblk]
  rw [V_main_arg2]
  refine congrArg _ (funext fun a => Fin.ext ?_)
  match a with
  | ⟨0, _⟩ => blk_simp [where2]
  | ⟨1, _⟩ => blk_simp [where2]

theorem flush3 (t : Fin cfg0.N) (y : S512x1408.Idx) :
    (dats m 0 c).flushed 3 t y = k0_pay5 (F := Ideal) (iblk m c 0 t) (iblk m c 1 t) (iblk m c 2 t) y := by
  rw [Value.flushed3]
  frame_out
  rfl

theorem flush4 (t : Fin cfg0.N) (y : S512x1408.Idx) :
    (dats m 0 c).flushed 4 t y = k0_pay6 (F := Ideal) (iblk m c 0 t) (iblk m c 1 t) y := by
  rw [Value.flushed4]
  frame_out
  rfl

theorem flush5 (t : Fin cfg0.N) (y : S512x1408.Idx) :
    (dats m 0 c).flushed 5 t y = k0_pay7 (F := Ideal) (iblk m c 0 t) (iblk m c 1 t) (iblk m c 2 t) y := by
  rw [Value.flushed5]
  frame_out
  rfl

/-- The product of row `s` of `x` with row `l` of `w`. -/
def product (x : S8192x1024.Idx → EReal) (w : S2816x1024.Idx → EReal) (s : Fin 8192) (l : Fin 2816) : EReal := ∑ k : Fin 1024, x (ix2 s k) * w (ix2 l k)

/-- The argument of the gate. -/
def gateArg (s : Fin 8192) (l : Fin 2816) : EReal := product (m ((c : Thread nD τ).loc main_arg0)) (m ((c : Thread nD τ).loc main_arg1)) s l

/-- The factor beside the gate. -/
def upArg (s : Fin 8192) (l : Fin 2816) : EReal := product (m ((c : Thread nD τ).loc main_arg0)) (m ((c : Thread nD τ).loc main_arg2)) s l

theorem point_gate (t : Fin cfg0.N) (r : Fin 512) (l : Fin 1408) :
    k0_pay1 (F := Ideal) (iblk m c 0 t) (iblk m c 1 t) (ix2 r l)
      = gateArg m c ⟨t.val % 16 * 512 + r.val, by omega⟩ ⟨t.val / 16 * 1408 + l.val, by have := t.isLt; have : cfg0.N = 32 := N_0; omega⟩ := by
  rw [gate_product_apply]
  simp only [block0, block1]
  rfl

theorem point_up (t : Fin cfg0.N) (r : Fin 512) (l : Fin 1408) :
    k0_pay2 (F := Ideal) (iblk m c 0 t) (iblk m c 2 t) (ix2 r l)
      = upArg m c ⟨t.val % 16 * 512 + r.val, by omega⟩ ⟨t.val / 16 * 1408 + l.val, by have := t.isLt; have : cfg0.N = 32 := N_0; omega⟩ := by
  rw [up_product_apply]
  simp only [block0, block2]
  rfl

/-- The first array: the derivative of the hidden layer in the gate's argument. -/
def slope (s : Fin 8192) (l : Fin 2816) : EReal :=
  upArg m c s l * (sigmoid (gateArg m c s l) + gate (gateArg m c s l) * (1 - sigmoid (gateArg m c s l)))

/-- The second array: the gate, which is the derivative of the hidden layer in the factor beside it. -/
def kept (s : Fin 8192) (l : Fin 2816) : EReal := gate (gateArg m c s l)

/-- The third array: the hidden layer. -/
def hidden (s : Fin 8192) (l : Fin 2816) : EReal := gate (gateArg m c s l) * upArg m c s l

theorem slope_array : (dats m 0 c).arrAt 3 cfg0.N = fun i : S8192x2816.Idx => slope m c (i 0) (i 1) := by
  refine (dats m 0 c).arrAt_eq_of_covers 3 _ (by decide +kernel) fun t hf y => ?_
  refine (flush3 m c t y).trans ?_
  idx_vars y
  rw [slope_apply, point_gate, point_up]
  refine congrArg₂ (slope m c) (Fin.ext ?_) (Fin.ext ?_) <;> blk_simp [where3]

theorem kept_array : (dats m 0 c).arrAt 4 cfg0.N = fun i : S8192x2816.Idx => kept m c (i 0) (i 1) := by
  refine (dats m 0 c).arrAt_eq_of_covers 4 _ (by decide +kernel) fun t hf y => ?_
  refine (flush4 m c t y).trans ?_
  idx_vars y
  rw [kept_apply, point_gate]
  refine congrArg₂ (kept m c) (Fin.ext ?_) (Fin.ext ?_) <;> blk_simp [where4]

theorem hidden_array : (dats m 0 c).arrAt 5 cfg0.N = fun i : S8192x2816.Idx => hidden m c (i 0) (i 1) := by
  refine (dats m 0 c).arrAt_eq_of_covers 5 _ (by decide +kernel) fun t hf y => ?_
  refine (flush5 m c t y).trans ?_
  idx_vars y
  rw [hidden_apply, point_gate, point_up]
  refine congrArg₂ (hidden m c) (Fin.ext ?_) (Fin.ext ?_) <;> blk_simp [where5]

end Cert.UpIdeal.Hand
-- ==== Proof.UpClaim.lean ====
module

public import proofs.«01_k».proof.Defs
public import proofs.«01_k».proof.Proof.UpKernel
public import proofs.«01_k».proof.Proof.Gen.UpRefIdeal.Run
public import proofs.«01_k».proof.Proof.Gen.UpRefIdeal.Read

@[expose] public section

set_option maxRecDepth 16384

noncomputable section

/-! The claims about the forward products of the feed-forward layer. -/

namespace Cert.UpClaim

open Idealize.ShloMosaic Idealize.ShloMosaic.TcCoe Idealize.SL.Sem Cert.UpRefIdeal Cert.UpRefIdeal.Read Cert.GateSpec

/-- The side conditions that the precondition states. -/
theorem pre_facts : Cert.Pre_up_finite.Facts where
  bcast_S_S8192x1024 := by decide
  bcast_S_S2816x1024 := by decide

section

variable (x0 : S8192x1024.Idx → EReal) (x1 x2 : S2816x1024.Idx → EReal)

/-- The reference's argument of the gate. -/
theorem gate_arg_ref (s : Fin 8192) (l : Fin 2816) : val_main_v3 (F := Ideal) x0 x1 (ix2 s l) = Cert.UpIdeal.Hand.product x0 x1 s l := by
  pointwise [val_main_v3, val_main_v2, val_main_v1, val_main_v0]
  rfl

/-- The reference's factor beside the gate. -/
theorem up_arg_ref (s : Fin 8192) (l : Fin 2816) : val_main_v7 (F := Ideal) x0 x2 (ix2 s l) = Cert.UpIdeal.Hand.product x0 x2 s l := by
  pointwise [val_main_v7, val_main_v6, val_main_v5, val_main_v4]
  rfl

theorem sigmoid_ref (i : S8192x2816.Idx) : val_main_v8_2 (F := Ideal) x0 x1 i = sigmoid (val_main_v3 (F := Ideal) x0 x1 i) := by
  rw [sigmoid, ← Ideal.ofBits_one_f32]
  rfl

theorem gate_ref (i : S8192x2816.Idx) : val_main_v8_0 (F := Ideal) x0 x1 i = gate (val_main_v3 (F := Ideal) x0 x1 i) := by
  rw [gate, ← sigmoid_ref]
  rfl

/-- The reference's derivative in the gate's argument. -/
theorem slope_ref (i : S8192x2816.Idx) :
    val_main_v14 (F := Ideal) x0 x1 x2 i = gradient (val_main_v7 (F := Ideal) x0 x2 i) (val_main_v3 (F := Ideal) x0 x1 i) := by
  have e : val_main_v12 (F := Ideal) x0 x2 i = val_main_v7 (F := Ideal) x0 x2 i := by
    refine Eq.trans ?_ (one_mul _)
    rw [← Ideal.ofBits_one_f32]
    rfl
  rw [gradient, ← sigmoid_ref, ← e, ← Ideal.ofBits_one_f32]
  rfl

/-- The reference's derivative in the factor beside the gate. -/
theorem kept_ref (i : S8192x2816.Idx) : val_main_v15 (F := Ideal) x0 x1 i = gate (val_main_v3 (F := Ideal) x0 x1 i) := by
  rw [← gate_ref]
  refine Eq.trans ?_ (mul_one _)
  rw [← Ideal.ofBits_one_f32]
  rfl

/-- The reference's hidden layer. -/
theorem hidden_ref (i : S8192x2816.Idx) :
    val_main_v16 (F := Ideal) x0 x1 x2 i = gate (val_main_v3 (F := Ideal) x0 x1 i) * val_main_v7 (F := Ideal) x0 x2 i := by
  rw [← gate_ref]
  rfl

end

/-- The reference ends with its arguments unchanged. -/
theorem frame_ref (m : (ℓ : Loc Cert.UpRefIdeal.nD Cert.UpRefIdeal.τ Cert.UpRefIdeal.sig) → Buf (Elt Ideal) ℓ) (g : Dev Cert.UpRefIdeal.nD → PrngReg) :
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0) :=
  (θ_run Cert.UpRefIdeal.defs _ _).mono (fun r h => ⟨fun c => (h c).2.2.2, sem_eq_zero_of_no_sems (by decide) r.2⟩) (Cert.UpRefIdeal.Value.run m g)

section

variable [h : Cert.Pre_up_finite.Facts]

/-- What the precondition says: the factor beside the gate is a real number everywhere. -/
theorem up_real (x0 : S8192x1024.Idx → EReal) (x1 x2 : S2816x1024.Idx → EReal)
    (h0 : (Cert.Pre_up_finite.fn (F := Ideal) x0 x1 x2).1 = fun _ => 1#1) (h1 : (Cert.Pre_up_finite.fn (F := Ideal) x0 x1 x2).2 = fun _ => 1#1)
    (s : Fin 8192) (l : Fin 2816) : ∃ r : ℝ, Cert.UpIdeal.Hand.product x0 x2 s l = (r : EReal) :=
  dot_real _ _ (fun _ => real_of_half (congrFun h0 _)) (fun _ => real_of_half (congrFun h1 _))

variable (m : (ℓ : Loc Cert.UpIdeal.nD Cert.UpIdeal.τ Cert.UpIdeal.sig) → Buf (Elt Ideal) ℓ) (c : Dev Cert.UpIdeal.nD)

theorem slope_eq (hpre : Cert.Pre_UpIdeal_up_finite m) : val_main_v14 (F := Ideal) (m ((c.tc : Thread Cert.UpIdeal.nD Cert.UpIdeal.τ).loc Cert.UpIdeal.main_arg0))
    (m ((c.tc : Thread Cert.UpIdeal.nD Cert.UpIdeal.τ).loc Cert.UpIdeal.main_arg1)) (m ((c.tc : Thread Cert.UpIdeal.nD Cert.UpIdeal.τ).loc Cert.UpIdeal.main_arg2))
      = fun i => Cert.UpIdeal.Hand.slope m c (i 0) (i 1) := funext fun i => by
  idx_vars i
  refine (slope_ref _ _ _ _).trans ?_
  rw [gate_arg_ref, up_arg_ref]
  obtain ⟨r, hr⟩ := up_real _ _ _ (hpre c).1 (hpre c).2 i0 i1
  have e : Cert.UpIdeal.Hand.upArg m c i0 i1 = (r : EReal) := hr
  show _ = Cert.UpIdeal.Hand.slope m c i0 i1
  rw [hr, Cert.UpIdeal.Hand.slope, e, gradient_factored]
  rfl

omit h in
theorem kept_eq : val_main_v15 (F := Ideal) (m ((c.tc : Thread Cert.UpIdeal.nD Cert.UpIdeal.τ).loc Cert.UpIdeal.main_arg0))
    (m ((c.tc : Thread Cert.UpIdeal.nD Cert.UpIdeal.τ).loc Cert.UpIdeal.main_arg1)) = fun i => Cert.UpIdeal.Hand.kept m c (i 0) (i 1) := funext fun i => by
  idx_vars i
  refine (kept_ref _ _ _).trans ?_
  rw [gate_arg_ref]
  rfl

omit h in
theorem hidden_eq : val_main_v16 (F := Ideal) (m ((c.tc : Thread Cert.UpIdeal.nD Cert.UpIdeal.τ).loc Cert.UpIdeal.main_arg0))
    (m ((c.tc : Thread Cert.UpIdeal.nD Cert.UpIdeal.τ).loc Cert.UpIdeal.main_arg1)) (m ((c.tc : Thread Cert.UpIdeal.nD Cert.UpIdeal.τ).loc Cert.UpIdeal.main_arg2))
      = fun i => Cert.UpIdeal.Hand.hidden m c (i 0) (i 1) := funext fun i => by
  idx_vars i
  refine (hidden_ref _ _ _ _).trans ?_
  rw [gate_arg_ref, up_arg_ref]
  rfl

/-- The kernel and the reference end with the same two derivatives and the same hidden layer. -/
theorem algebraic : Cert.algebraic_UpIdeal_UpRefIdeal_pre_up_finite := by
  intro m g m' g' hpre hargs
  refine ⟨_, _, _, Cert.UpIdeal.Value.run_blocks m g, ?_⟩
  refine (θ_run Cert.UpRefIdeal.defs _ _).mono (fun r h c => ?_) (Cert.UpRefIdeal.Value.run m' g')
  obtain ⟨e0, e1, e2⟩ := hargs c
  obtain ⟨r0, r1, r2, ra⟩ := h c
  rw [val_main_v14_eq, e0, e1, e2] at r0
  rw [val_main_v15_eq, e0, e1] at r1
  rw [val_main_v16_eq, e0, e1, e2] at r2
  refine ⟨r0.trans ?_, r1.trans ?_, r2.trans ?_, ra⟩
  · rw [Cert.UpIdeal.Hand.slope_array]
    exact slope_eq m c hpre
  · rw [Cert.UpIdeal.Hand.kept_array]
    exact kept_eq m c
  · rw [Cert.UpIdeal.Hand.hidden_array]
    exact hidden_eq m c

end

end Cert.UpClaim
-- ==== Proof.NormKernel.lean ====
module

public import proofs.«01_k».proof.Proof.NormSpec
public import proofs.«01_k».proof.Proof.Gen.NormIdeal.Value
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.PureOps.Ideal.Laws

@[expose] public section

set_option maxRecDepth 16384

noncomputable section

/-! The three arrays that the product with the residual and the layer norm leaves, at every index. -/

namespace Cert.NormIdeal.Hand

open Cert.NormIdeal Cert.NormIdeal.Gen Idealize.ShloMosaic Idealize.ShloMosaic.TcCoe Idealize.SL.Sem Cert.NormSpec

theorem where0 : ∀ t : Fin cfg0.N, win0_0.index t = ![t.val, 0] := (by decide +kernel : ∀ t : Fin grid0.N, _)
theorem where1 : ∀ t : Fin cfg0.N, win0_1.index t = ![0, 0] := (by decide +kernel : ∀ t : Fin grid0.N, _)
theorem where2 : ∀ t : Fin cfg0.N, win0_2.index t = ![t.val, 0] := (by decide +kernel : ∀ t : Fin grid0.N, _)
theorem where3 : ∀ t : Fin cfg0.N, win0_3.index t = ![0, 0] := (by decide +kernel : ∀ t : Fin grid0.N, _)
theorem where4 : ∀ t : Fin cfg0.N, win0_4.index t = ![0, 0] := (by decide +kernel : ∀ t : Fin grid0.N, _)
theorem where5 : ∀ t : Fin cfg0.N, win0_5.index t = ![t.val, 0] := (by decide +kernel : ∀ t : Fin grid0.N, _)
theorem where6 : ∀ t : Fin cfg0.N, win0_6.index t = ![t.val, 0] := (by decide +kernel : ∀ t : Fin grid0.N, _)
theorem where7 : ∀ t : Fin cfg0.N, win0_7.index t = ![t.val, 0] := (by decide +kernel : ∀ t : Fin grid0.N, _)

theorem product_apply (a : Vec Ideal S512x2816 .bf16) (w : Vec Ideal S2816x1024 .bf16) (r : Fin 512) (l : Fin 1024) :
    k0_pay2 (k0_pay1 (F := Ideal)) a w (ix2 r l) = ∑ k : Fin 2816, a (ix2 r k) * w (ix2 k l) := by
  pointwise [k0_pay2, k0_pay1]

theorem residual_apply (x p : Vec Ideal S512x1024 .f32) (r : Fin 512) (l : Fin 1024) :
    k0_pay3 x p (ix2 r l) = alpha * x (ix2 r l) + p (ix2 r l) := by
  pointwise [k0_pay3]
  rfl

theorem norm_apply (x p : Vec Ideal S512x1024 .f32) (g b : Vec Ideal S1x1024 .f32) (r : Fin 512) (l : Fin 1024) :
    k0_pay4 x p g b (ix2 r l) = norm (fun l => k0_pay3 x p (ix2 r l)) (fun l => g (ix2 0 l)) (fun l => b (ix2 0 l)) l := by
  generalize e : k0_pay3 x p = z
  pointwise [k0_pay4, e]
  rfl

theorem out_apply (x p : Vec Ideal S512x1024 .f32) (g b : Vec Ideal S1x1024 .f32) (r : Fin 512) (l : Fin 1024) :
    k0_pay5 x p g b (ix2 r l) = k0_pay4 x p g b (ix2 r l) := rfl

variable (m : (ℓ : Loc nD τ sig) → Buf (Elt Ideal) ℓ) (c : Dev nD)

theorem block0 (t : Fin cfg0.N) (r : Fin 512) (k : Fin 2816) :
    iblk m c 0 t (ix2 r k : S512x2816.Idx) = m ((c : Thread nD τ).loc main_arg0) (ix2 ⟨t.val * 512 + r.val, by have := t.isLt; have : cfg0.N = 16 := N_0; omega⟩ k : S8192x2816.Idx) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (k : Fin 2816) (l : Fin 1024) :
    iblk m c 1 t (ix2 k l : S2816x1024.Idx) = m ((c : Thread nD τ).loc main_arg1) (ix2 k l : S2816x1024.Idx) := by
  blk_simp [iblk]
  rw [V_main_arg1]
  refine congrArg _ (funext fun a => Fin.ext ?_)
  match a with
  | ⟨0, _⟩ => blk_simp [where1]
  | ⟨1, _⟩ => blk_simp [where1]

theorem block2 (t : Fin cfg0.N) (r : Fin 512) (l : Fin 1024) :
    iblk m c 2 t (ix2 r l : S512x1024.Idx) = m ((c : Thread nD τ).loc main_arg2) (ix2 ⟨t.val * 512 + r.val, by have := t.isLt; have : cfg0.N = 16 := N_0; omega⟩ l : S8192x1024.Idx) := by
  blk_simp [iblk]
  rw [V_main_arg2]
  refine congrArg _ (funext fun a => Fin.ext ?_)
  match a with
  | ⟨0, _⟩ => blk_simp [where2]
  | ⟨1, _⟩ => blk_simp [where2]

theorem gain_row (l : Fin 1024) : V m c main_v0 (ix2 0 l : S1x1024.Idx) = m ((c : Thread nD τ).loc main_arg3) (ix1 l : S1024.Idx) := by
  unfold V
  after_reads_at

theorem bias_row (l : Fin 1024) : V m c main_v1 (ix2 0 l : S1x1024.Idx) = m ((c : Thread nD τ).loc main_arg4) (ix1 l : S1024.Idx) := by
  unfold V
  after_reads_at

theorem block3 (t : Fin cfg0.N) (l : Fin 1024) :
    iblk m c 3 t (ix2 0 l : S1x1024.Idx) = m ((c : Thread nD τ).loc main_arg3) (ix1 l : S1024.Idx) := by
  refine Eq.trans ?_ (gain_row m c l)
  blk_simp [iblk]
  refine congrArg _ (funext fun a => Fin.ext ?_)
  match a with
  | ⟨0, _⟩ => blk_simp [where3]
  | ⟨1, _⟩ => blk_simp [where3]

theorem block4 (t : Fin cfg0.N) (l : Fin 1024) :
    iblk m c 4 t (ix2 0 l : S1x1024.Idx) = m ((c : Thread nD τ).loc main_arg4) (ix1 l : S1024.Idx) := by
  refine Eq.trans ?_ (bias_row m c l)
  blk_simp [iblk]
  refine congrArg _ (funext fun a => Fin.ext ?_)
  match a with
  | ⟨0, _⟩ => blk_simp [where4]
  | ⟨1, _⟩ => blk_simp [where4]

theorem flush5 (t : Fin cfg0.N) (y : S512x1024.Idx) :
    (dats m 0 c).flushed 5 t y = k0_pay3 (iblk m c 2 t) (k0_pay2 (k0_pay1 (F := Ideal)) (iblk m c 0 t) (iblk m c 1 t)) y := by
  rw [Value.flushed5_A]
  frame_out
  rfl

theorem flush6 (t : Fin cfg0.N) (y : S512x1024.Idx) :
    (dats m 0 c).flushed 6 t y = k0_pay4 (iblk m c 2 t) (k0_pay2 (k0_pay1 (F := Ideal)) (iblk m c 0 t) (iblk m c 1 t)) (iblk m c 3 t) (iblk m c 4 t) y := by
  rw [Value.flushed6_A]
  frame_out
  rfl

theorem flush7 (t : Fin cfg0.N) (y : S512x1024.Idx) :
    (dats m 0 c).flushed 7 t y = k0_pay5 (iblk m c 2 t) (k0_pay2 (k0_pay1 (F := Ideal)) (iblk m c 0 t) (iblk m c 1 t)) (iblk m c 3 t) (iblk m c 4 t) y := by
  rw [Value.flushed7_A]
  frame_out
  rfl

/-- Row `s` of the product with the residual. -/
def sumRow (s : Fin 8192) : Fin 1024 → EReal :=
  summed (fun l => m ((c : Thread nD τ).loc main_arg2) (ix2 s l : S8192x1024.Idx)) (fun k => m ((c : Thread nD τ).loc main_arg0) (ix2 s k : S8192x2816.Idx))
    fun k l => m ((c : Thread nD τ).loc main_arg1) (ix2 k l : S2816x1024.Idx)

/-- The layer norm of that row. -/
def normRow (s : Fin 8192) (l : Fin 1024) : EReal :=
  norm (sumRow m c s) (fun l => m ((c : Thread nD τ).loc main_arg3) (ix1 l : S1024.Idx)) (fun l => m ((c : Thread nD τ).loc main_arg4) (ix1 l : S1024.Idx)) l

theorem point_sum (t : Fin cfg0.N) (r : Fin 512) (l : Fin 1024) :
    k0_pay3 (iblk m c 2 t) (k0_pay2 (k0_pay1 (F := Ideal)) (iblk m c 0 t) (iblk m c 1 t)) (ix2 r l)
      = sumRow m c ⟨t.val * 512 + r.val, by have := t.isLt; have : cfg0.N = 16 := N_0; omega⟩ l := by
  rw [residual_apply, product_apply, block2]
  simp only [block0, block1]
  rfl

theorem point_norm (t : Fin cfg0.N) (r : Fin 512) (l : Fin 1024) :
    k0_pay4 (iblk m c 2 t) (k0_pay2 (k0_pay1 (F := Ideal)) (iblk m c 0 t) (iblk m c 1 t)) (iblk m c 3 t) (iblk m c 4 t) (ix2 r l)
      = normRow m c ⟨t.val * 512 + r.val, by have := t.isLt; have : cfg0.N = 16 := N_0; omega⟩ l := by
  rw [norm_apply]
  simp only [point_sum, block3, block4]
  rfl

theorem sum_array : (dats m 0 c).arrAt 5 cfg0.N = fun i : S8192x1024.Idx => sumRow m c (i 0) (i 1) := by
  refine (dats m 0 c).arrAt_eq_of_covers 5 _ (by decide +kernel) fun t hf y => ?_
  refine (flush5 m c t y).trans ?_
  idx_vars y
  rw [point_sum]
  refine congrArg₂ (sumRow m c) (Fin.ext ?_) (Fin.ext ?_) <;> blk_simp [where5]

theorem norm_array : (dats m 0 c).arrAt 6 cfg0.N = fun i : S8192x1024.Idx => normRow m c (i 0) (i 1) := by
  refine (dats m 0 c).arrAt_eq_of_covers 6 _ (by decide +kernel) fun t hf y => ?_
  refine (flush6 m c t y).trans ?_
  idx_vars y
  rw [point_norm]
  refine congrArg₂ (normRow m c) (Fin.ext ?_) (Fin.ext ?_) <;> blk_simp [where6]

theorem out_array : (dats m 0 c).arrAt 7 cfg0.N = fun i : S8192x1024.Idx => normRow m c (i 0) (i 1) := by
  refine (dats m 0 c).arrAt_eq_of_covers 7 _ (by decide +kernel) fun t hf y => ?_
  refine (flush7 m c t y).trans ?_
  idx_vars y
  rw [out_apply, point_norm]
  refine congrArg₂ (normRow m c) (Fin.ext ?_) (Fin.ext ?_) <;> blk_simp [where7]

end Cert.NormIdeal.Hand
-- ==== Proof.NormClaim.lean ====
module

public import proofs.«01_k».proof.Defs
public import proofs.«01_k».proof.Proof.NormKernel
public import proofs.«01_k».proof.Proof.Gen.NormRefIdeal.Run
public import proofs.«01_k».proof.Proof.Gen.NormRefIdeal.Read

@[expose] public section

set_option maxRecDepth 16384

noncomputable section

/-! The claims about the product with the residual and the layer norm. -/

namespace Cert.NormClaim

open Idealize.ShloMosaic Idealize.ShloMosaic.TcCoe Idealize.SL.Sem Cert.NormRefIdeal Cert.NormRefIdeal.Read Cert.NormSpec

section

variable (x0 : S8192x2816.Idx → EReal) (x1 : S2816x1024.Idx → EReal) (x2 : S8192x1024.Idx → EReal) (x3 x4 : S1024.Idx → EReal)

/-- A row of the reference's product with the residual. -/
theorem sum_ref (s : Fin 8192) (l : Fin 1024) :
    val_main_v5 (F := Ideal) x0 x1 x2 (ix2 s l) = summed (fun l => x2 (ix2 s l)) (fun k => x0 (ix2 s k)) (fun k l => x1 (ix2 k l)) l := by
  pointwise [val_main_v5, val_main_v4, val_main_v3, val_main_v2, val_main_v1, val_main_v0, val_main_cst]
  rfl

/-- A row of the reference's layer norm. -/
theorem norm_ref (s : Fin 8192) (l : Fin 1024) :
    val_main_v29 (F := Ideal) x0 x1 x2 x3 x4 (ix2 s l)
      = norm (fun l => val_main_v5 (F := Ideal) x0 x1 x2 (ix2 s l)) (fun l => x3 (ix1 l)) (fun l => x4 (ix1 l)) l := by
  unfold val_main_v29 val_main_v26 val_main_v23 val_main_v22 val_main_v21 val_main_v20 val_main_v18 val_main_v17 val_main_v16 val_main_v14 val_main_v13 val_main_v12 val_main_v11 val_main_v10 val_main_v9 val_main_v7 val_main_v6
  generalize val_main_v5 (F := Ideal) x0 x1 x2 = z
  pointwise [val_main_v28, val_main_v27, val_main_v25, val_main_v24, val_main_v19, val_main_v15, val_main_v8, val_main_cst_0, val_main_cst_1, val_main_cst_2, val_main_cst_3, val_main_cst_4]
  rfl

end

/-- The reference ends with its arguments unchanged. -/
theorem frame_ref : Cert.quiescent_NormRefIdeal := fun m g _ =>
  (θ_run Cert.NormRefIdeal.defs _ _).mono (fun r h => ⟨fun c => (h c).2.2.2, sem_eq_zero_of_no_sems (by decide) r.2⟩) (Cert.NormRefIdeal.Value.run m g)

section

variable (m : (ℓ : Loc Cert.NormIdeal.nD Cert.NormIdeal.τ Cert.NormIdeal.sig) → Buf (Elt Ideal) ℓ) (c : Dev Cert.NormIdeal.nD)

/-- The reference's sums are the kernel's. -/
theorem sum_eq : val_main_v5 (F := Ideal) (m ((c.tc : Thread Cert.NormIdeal.nD Cert.NormIdeal.τ).loc Cert.NormIdeal.main_arg0))
    (m ((c.tc : Thread Cert.NormIdeal.nD Cert.NormIdeal.τ).loc Cert.NormIdeal.main_arg1)) (m ((c.tc : Thread Cert.NormIdeal.nD Cert.NormIdeal.τ).loc Cert.NormIdeal.main_arg2))
      = fun i => Cert.NormIdeal.Hand.sumRow m c (i 0) (i 1) := funext fun i => by
  idx_vars i
  exact sum_ref _ _ _ i0 i1

/-- The reference's norms are the kernel's. -/
theorem norm_eq : val_main_v29 (F := Ideal) (m ((c.tc : Thread Cert.NormIdeal.nD Cert.NormIdeal.τ).loc Cert.NormIdeal.main_arg0))
    (m ((c.tc : Thread Cert.NormIdeal.nD Cert.NormIdeal.τ).loc Cert.NormIdeal.main_arg1)) (m ((c.tc : Thread Cert.NormIdeal.nD Cert.NormIdeal.τ).loc Cert.NormIdeal.main_arg2))
    (m ((c.tc : Thread Cert.NormIdeal.nD Cert.NormIdeal.τ).loc Cert.NormIdeal.main_arg3)) (m ((c.tc : Thread Cert.NormIdeal.nD Cert.NormIdeal.τ).loc Cert.NormIdeal.main_arg4))
      = fun i => Cert.NormIdeal.Hand.normRow m c (i 0) (i 1) := funext fun i => by
  idx_vars i
  refine (norm_ref _ _ _ _ _ i0 i1).trans ?_
  rw [sum_eq]
  rfl

end

/-- The kernel and the reference end with the same sums and the same norms. -/
theorem algebraic : Cert.algebraic_NormIdeal_NormRefIdeal := by
  intro m g m' g' _ hargs
  refine ⟨_, _, _, Cert.NormIdeal.Value.run_blocks m g, ?_⟩
  refine (θ_run Cert.NormRefIdeal.defs _ _).mono (fun r h c => ?_) (Cert.NormRefIdeal.Value.run m' g')
  obtain ⟨e0, e1, e2, e3, e4⟩ := hargs c
  obtain ⟨r0, r1, r2, ra⟩ := h c
  rw [val_main_v5_eq, e0, e1, e2] at r0
  rw [val_main_v29_eq, e0, e1, e2, e3, e4] at r1
  rw [val_main_v30_eq, e0, e1, e2, e3, e4] at r2
  refine ⟨r0.trans ?_, r1.trans ?_, r2.trans ?_, ra⟩
  · rw [Cert.NormIdeal.Hand.sum_array]
    exact sum_eq m c
  · rw [Cert.NormIdeal.Hand.norm_array]
    exact norm_eq m c
  · rw [Cert.NormIdeal.Hand.out_array]
    exact norm_eq m c

end Cert.NormClaim
-- ==== Proof.OutWKernel.lean ====
module

public import proofs.«01_k».proof.Proof.Gen.OutWIdeal.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

/-! The array that the gradient of w_out leaves, at every index: the sum over all tokens of an entry of the mixers' output
    times a cotangent. The kernel adds it up over eight tiles of 1024 tokens. -/

namespace Cert.OutWIdeal.Hand

open Cert.OutWIdeal Cert.OutWIdeal.Gen Idealize.ShloMosaic Idealize.ShloMosaic.TcCoe Idealize.SL.Sem

theorem where0 : ∀ t : Fin cfg0.N, win0_0.index t = ![t.val % 8, t.val / 8] := (by decide +kernel : ∀ t : Fin grid0.N, _)
theorem where1 : ∀ t : Fin cfg0.N, win0_1.index t = ![t.val % 8, 0] := (by decide +kernel : ∀ t : Fin grid0.N, _)
theorem where2 : ∀ t : Fin cfg0.N, win0_2.index t = ![t.val / 8, 0] := (by decide +kernel : ∀ t : Fin grid0.N, _)

/-- A tile's sums, added to what was held. -/
theorem step_apply (acc : Vec Ideal S1024x1024 .f32) (a : Vec Ideal S1024x1024 .bf16) (b : Vec Ideal S1024x1024 .bf16) (r : Fin 1024) (l : Fin 1024) :
    k0_pay2 acc a b (ix2 r l) = acc (ix2 r l) + ∑ k : Fin 1024, a (ix2 k r) * b (ix2 k l) := by
  pointwise [k0_pay2]

theorem fill_apply (r : Fin 1024) (l : Fin 1024) : k0_pay1 (F := Ideal) (ix2 r l) = 0 := by
  pointwise [k0_pay1]

variable (m : (ℓ : Loc nD τ sig) → Buf (Elt Ideal) ℓ) (c : Dev nD)

/-- The mixers' output and the cotangents that the program is given. -/
abbrev hid : S8192x1024.Idx → EReal := m ((c : Thread nD τ).loc main_arg0)
abbrev cot : S8192x1024.Idx → EReal := m ((c : Thread nD τ).loc main_arg1)

theorem block0 (t : Fin cfg0.N) (k : Fin 1024) (r : Fin 1024) :
    iblk m c 0 t (ix2 k r : S1024x1024.Idx) = hid m c (ix2 ⟨t.val % 8 * 1024 + k.val, by omega⟩ ⟨t.val / 8 * 1024 + r.val, by have := t.isLt; have : cfg0.N = 8 := N_0; omega⟩) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (k : Fin 1024) (l : Fin 1024) :
    iblk m c 1 t (ix2 k l : S1024x1024.Idx) = cot m c (ix2 ⟨t.val % 8 * 1024 + k.val, by omega⟩ l) := by
  blk_simp [iblk]
  rw [V_main_arg1]
  refine congrArg _ (funext fun a => Fin.ext ?_)
  match a with
  | ⟨0, _⟩ => blk_simp [where1]
  | ⟨1, _⟩ => blk_simp [where1]

theorem first (t : Fin cfg0.N) (h : t.val % 8 = 0) (y : S1024x1024.Idx) :
    (outsAt0 m c t.val t.isLt).2 y = k0_pay2 (k0_pay1 (F := Ideal)) (iblk m c 0 t) (iblk m c 1 t) y := by
  rw [outsAt0_A m c t h (by omega)]
  dsimp only
  frame_open
  simp (disch := decide) only [↓ View.readCov_skip, ↓ View.readCov_cons_toLoadRect, ↓ View.readCov_fill]
  frame_out

theorem middle (t : Fin cfg0.N) (h : ¬t.val % 8 = 0) (y : S1024x1024.Idx) :
    (outsAt0 m c t.val t.isLt).2 y
      = k0_pay2 (outsAt0 m c (t.val - 1) (Nat.lt_of_le_of_lt (Nat.sub_le _ _) t.isLt)).2 (iblk m c 0 t) (iblk m c 1 t) y := by
  by_cases h1 : t.val % 8 = 7
  · rw [outsAt0_C m c t h h1]
    dsimp only
    frame_open
    simp (disch := decide) only [↓ View.readCov_skip, ↓ View.readCov_cons_toLoadRect, ↓ View.readCov_fill]
    frame_out
    rw [read_unread_whole]
  · rw [outsAt0_B m c t h h1]
    dsimp only
    frame_open
    simp (disch := decide) only [↓ View.readCov_skip, ↓ View.readCov_cons_toLoadRect, ↓ View.readCov_fill]
    frame_out
    rw [read_unread_whole]

/-- The output's block is what the sums hold at the last tile. -/
theorem last (t : Fin cfg0.N) (h1 : t.val % 8 = 7) (y : S1024x1024.Idx) :
    (outsAt0 m c t.val t.isLt).1 y = (outsAt0 m c t.val t.isLt).2 y := by
  rw [outsAt0_C m c t (by omega) h1]
  dsimp only
  frame_open
  simp (disch := decide) only [↓ View.readCov_skip, ↓ View.readCov_cons_toLoadRect, ↓ View.readCov_fill]
  frame_out

/-- The gradient of the weight: column `i 0` of the mixers' output against column `i 1` of the cotangents, over all tokens. -/
def gradient (i : S1024x1024.Idx) : EReal :=
  ∑ s : Fin 8192, hid m c (ix2 s (i 0)) * cot m c (ix2 s (i 1))

/-- Token `s`'s term of the sum at row `r` and lane `l`. -/
def term (r l s : ℕ) : EReal :=
  if h : r < 1024 ∧ l < 1024 ∧ s < 8192 then hid m c (ix2 ⟨s, h.2.2⟩ ⟨r, h.1⟩) * cot m c (ix2 ⟨s, h.2.2⟩ ⟨l, h.2.1⟩) else 0

theorem gradient_eq (i : S1024x1024.Idx) : gradient m c i = ∑ s : Fin 8192, term m c (i 0).val (i 1).val s.val :=
  Finset.sum_congr rfl fun s _ => by rw [term, dif_pos ⟨(i 0).isLt, (i 1).isLt, s.isLt⟩]; rfl

theorem tile_sum (t : Fin cfg0.N) (y : S1024x1024.Idx) (acc : Vec Ideal S1024x1024 .f32) :
    k0_pay2 acc (iblk m c 0 t) (iblk m c 1 t) y
      = acc y + ∑ k : Fin 1024, term m c (t.val / 8 * 1024 + (y 0).val) (y 1).val (t.val % 8 * 1024 + k.val) := by
  have hN : t.val < 8 := lt_of_lt_of_eq t.isLt N_0
  idx_vars y
  rw [step_apply]
  refine congrArg _ (Finset.sum_congr rfl fun k _ => ?_)
  rw [block0, block1, term, dif_pos ⟨by show t.val / 8 * 1024 + y0.val < 1024; omega, y1.isLt, by omega⟩]

theorem sums_flush (t : Fin cfg0.N) (h : t.val % 8 = 7) (y : S1024x1024.Idx) :
    (outsAt0 m c t.val t.isLt).2 y = ∑ s : Fin 8192, term m c (t.val / 8 * 1024 + (y 0).val) (y 1).val s.val := by
  rw [Pipeline.eq_sum_fin_of_reset_step_apply_of_flush (fun n h => (outsAt0 m c n h).2) 8 (fun _ => (0 : EReal))
    (fun t y => ∑ k : Fin 1024, term m c (t.val / 8 * 1024 + (y 0).val) (y 1).val (t.val % 8 * 1024 + k.val))
    (fun t hc y => (first m c t hc y).trans ((tile_sum m c t y _).trans (congrArg (· + _) (by idx_vars y; exact fill_apply _ _))))
    (fun t hc y => (middle m c t hc y).trans (tile_sum m c t y _)) t h y]
  have hd : ∀ s : Fin 8, (8 * (t.val / 8) + s.val) / 8 = t.val / 8 := fun s => by omega
  have hr : ∀ s : Fin 8, (8 * (t.val / 8) + s.val) % 8 = s.val := fun s => by omega
  simp only [hd, hr, zero_add]
  exact Fin.sum_mul_add_congr fun s k h => rfl

theorem array : (dats m 0 c).arrAt 2 cfg0.N = gradient m c := by
  refine (dats m 0 c).arrAt_eq_of_covers 2 _ (by decide +kernel) fun t hf y => ?_
  have h := (last m c t ((flush0_2 t).mp hf) y).trans (sums_flush m c t ((flush0_2 t).mp hf) y)
  blk_simp
  rw [after0_2, h, gradient_eq]
  blk_simp [where2]

end Cert.OutWIdeal.Hand
-- ==== Proof.OutWClaim.lean ====
module

public import proofs.«01_k».proof.Defs
public import proofs.«01_k».proof.Proof.OutWKernel
public import proofs.«01_k».proof.Proof.Gen.OutWRefIdeal.Run
public import proofs.«01_k».proof.Proof.Gen.OutWRefIdeal.Read

@[expose] public section

set_option maxRecDepth 16384

noncomputable section

/-! The claims about the gradient of w_out. -/

namespace Cert.OutWClaim

open Idealize.ShloMosaic Idealize.ShloMosaic.TcCoe Idealize.SL.Sem Cert.OutWRefIdeal Cert.OutWRefIdeal.Read

/-- The reference's gradient, over all tokens. -/
theorem gradient_ref (x0 x1 : S8192x1024.Idx → EReal) (r l : Fin 1024) :
    val_main_v5 (F := Ideal) x0 x1 (ix2 r l) = ∑ s : Fin 8192, x0 (ix2 s r) * x1 (ix2 s l) := by
  pointwise [val_main_v5, val_main_v4, val_main_v3, val_main_v1]
  exact Finset.sum_congr rfl fun s _ => mul_comm _ _

/-- The reference ends with its arguments unchanged. -/
theorem frame_ref : Cert.quiescent_OutWRefIdeal := fun m g _ =>
  (θ_run Cert.OutWRefIdeal.defs _ _).mono (fun r h => ⟨fun c => (h c).2, sem_eq_zero_of_no_sems (by decide) r.2⟩) (Cert.OutWRefIdeal.Value.run m g)

/-- The kernel and the reference end with the same array. -/
theorem algebraic : Cert.algebraic_OutWIdeal_OutWRefIdeal := by
  intro m g m' g' _ hargs
  refine ⟨_, Cert.OutWIdeal.Value.run_blocks m g, ?_⟩
  refine (θ_run Cert.OutWRefIdeal.defs _ _).mono (fun r h c => ⟨(h c).1.trans ?_, (h c).2⟩) (Cert.OutWRefIdeal.Value.run m' g')
  obtain ⟨e0, e1⟩ := hargs c
  rw [val_main_v5_eq, e0, e1, Cert.OutWIdeal.Hand.array]
  exact funext fun i => by
    idx_vars i
    exact gradient_ref _ _ i0 i1

end Cert.OutWClaim
-- ==== Proof.OutBKernel.lean ====
module

public import proofs.«01_k».proof.Proof.Gen.OutBIdeal.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

/-! The array that the gradient of the mixers' output leaves, at every index. -/

namespace Cert.OutBIdeal.Hand

open Cert.OutBIdeal Cert.OutBIdeal.Gen Idealize.ShloMosaic Idealize.ShloMosaic.TcCoe Idealize.SL.Sem

theorem where0 : ∀ t : Fin cfg0.N, win0_0.index t = ![t.val, 0] := (by decide +kernel : ∀ t : Fin grid0.N, _)
theorem where1 : ∀ t : Fin cfg0.N, win0_1.index t = ![0, 0] := (by decide +kernel : ∀ t : Fin grid0.N, _)
theorem where2 : ∀ t : Fin cfg0.N, win0_2.index t = ![t.val, 0] := (by decide +kernel : ∀ t : Fin grid0.N, _)

theorem step_apply (a : Vec Ideal S1024x1024 .bf16) (b : Vec Ideal S1024x1024 .bf16) (r : Fin 1024) (l : Fin 1024) :
    k0_pay2 (k0_pay1 (F := Ideal)) a b (ix2 r l) = ∑ k : Fin 1024, a (ix2 r k) * b (ix2 l k) := by
  pointwise [k0_pay2, k0_pay1]

variable (m : (ℓ : Loc nD τ sig) → Buf (Elt Ideal) ℓ) (c : Dev nD)

theorem block0 (t : Fin cfg0.N) (r : Fin 1024) (k : Fin 1024) :
    iblk m c 0 t (ix2 r k : S1024x1024.Idx) = m ((c : Thread nD τ).loc main_arg0) (ix2 ⟨t.val * 1024 + r.val, by have := t.isLt; have : cfg0.N = 8 := N_0; omega⟩ k : S8192x1024.Idx) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (l : Fin 1024) (k : Fin 1024) :
    iblk m c 1 t (ix2 l k : S1024x1024.Idx) = m ((c : Thread nD τ).loc main_arg1) (ix2 l k : S1024x1024.Idx) := by
  blk_simp [iblk]
  rw [V_main_arg1]
  refine congrArg _ (funext fun a => Fin.ext ?_)
  match a with
  | ⟨0, _⟩ => blk_simp [where1]
  | ⟨1, _⟩ => blk_simp [where1]

theorem flush2 (t : Fin cfg0.N) (y : S1024x1024.Idx) :
    (dats m 0 c).flushed 2 t y = k0_pay2 (k0_pay1 (F := Ideal)) (iblk m c 0 t) (iblk m c 1 t) y := by
  rw [Value.flushed2_A]
  frame_out
  rfl

/-- The arrays that the program is given. -/
abbrev left : S8192x1024.Idx → EReal := m ((c : Thread nD τ).loc main_arg0)
abbrev right : S1024x1024.Idx → EReal := m ((c : Thread nD τ).loc main_arg1)

/-- Row `s` of the left array against row `l` of the right one. -/
def product (s : Fin 8192) (l : Fin 1024) : EReal := ∑ k : Fin 1024, left m c (ix2 s k) * right m c (ix2 l k)

theorem point (t : Fin cfg0.N) (r : Fin 1024) (l : Fin 1024) :
    k0_pay2 (k0_pay1 (F := Ideal)) (iblk m c 0 t) (iblk m c 1 t) (ix2 r l)
      = product m c ⟨t.val * 1024 + r.val, by have := t.isLt; have : cfg0.N = 8 := N_0; omega⟩ l := by
  rw [step_apply]
  simp only [block0, block1]
  rfl

theorem array : (dats m 0 c).arrAt 2 cfg0.N = fun i : S8192x1024.Idx => product m c (i 0) (i 1) := by
  refine (dats m 0 c).arrAt_eq_of_covers 2 _ (by decide +kernel) fun t hf y => ?_
  refine (flush2 m c t y).trans ?_
  idx_vars y
  rw [point]
  refine congrArg₂ (product m c) (Fin.ext ?_) (Fin.ext ?_) <;> blk_simp [where2]

end Cert.OutBIdeal.Hand
-- ==== Proof.OutBClaim.lean ====
module

public import proofs.«01_k».proof.Defs
public import proofs.«01_k».proof.Proof.OutBKernel
public import proofs.«01_k».proof.Proof.Gen.OutBRefIdeal.Run
public import proofs.«01_k».proof.Proof.Gen.OutBRefIdeal.Read

@[expose] public section

set_option maxRecDepth 16384

noncomputable section

/-! The claims about the gradient of the mixers' output. -/

namespace Cert.OutBClaim

open Idealize.ShloMosaic Idealize.ShloMosaic.TcCoe Idealize.SL.Sem Cert.OutBRefIdeal Cert.OutBRefIdeal.Read

/-- The reference's gradient: the cotangents against the rows of w_out. -/
theorem product_ref (x0 : S8192x1024.Idx → EReal) (x1 : S1024x1024.Idx → EReal) (s : Fin 8192) (l : Fin 1024) :
    val_main_v4 (F := Ideal) x0 x1 (ix2 s l) = ∑ k : Fin 1024, x0 (ix2 s k) * x1 (ix2 l k) := by
  pointwise [val_main_v4, val_main_v3, val_main_v1]

/-- The reference ends with its arguments unchanged. -/
theorem frame_ref : Cert.quiescent_OutBRefIdeal := fun m g _ =>
  (θ_run Cert.OutBRefIdeal.defs _ _).mono (fun r h => ⟨fun c => (h c).2, sem_eq_zero_of_no_sems (by decide) r.2⟩) (Cert.OutBRefIdeal.Value.run m g)

/-- The kernel and the reference end with the same array. -/
theorem algebraic : Cert.algebraic_OutBIdeal_OutBRefIdeal := by
  intro m g m' g' _ hargs
  refine ⟨_, Cert.OutBIdeal.Value.run_blocks m g, ?_⟩
  refine (θ_run Cert.OutBRefIdeal.defs _ _).mono (fun r h c => ⟨(h c).1.trans ?_, (h c).2⟩) (Cert.OutBRefIdeal.Value.run m' g')
  obtain ⟨e0, e1⟩ := hargs c
  rw [val_main_v4_eq, e0, e1, Cert.OutBIdeal.Hand.array]
  exact funext fun i => by
    idx_vars i
    exact product_ref _ _ i0 i1

end Cert.OutBClaim
-- ==== Proof.InWAKernel.lean ====
module

public import proofs.«01_k».proof.Proof.Gen.InWAIdeal.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

/-! The array that the gradient of w_in leaves, at every index, where w_in has 2560 rows: the sum over all tokens of a cotangent
    times an entry of the layer's input. The kernel adds it up over eight tiles of 1024 tokens. -/

namespace Cert.InWAIdeal.Hand

open Cert.InWAIdeal Cert.InWAIdeal.Gen Idealize.ShloMosaic Idealize.ShloMosaic.TcCoe Idealize.SL.Sem

theorem where0 : ∀ t : Fin cfg0.N, win0_0.index t = ![t.val % 8, t.val / 8] := (by decide +kernel : ∀ t : Fin grid0.N, _)
theorem where1 : ∀ t : Fin cfg0.N, win0_1.index t = ![t.val % 8, 0] := (by decide +kernel : ∀ t : Fin grid0.N, _)
theorem where2 : ∀ t : Fin cfg0.N, win0_2.index t = ![t.val / 8, 0] := (by decide +kernel : ∀ t : Fin grid0.N, _)

/-- A tile's sums, added to what was held. -/
theorem step_apply (acc : Vec Ideal S1280x1024 .f32) (a : Vec Ideal S1024x1280 .bf16) (b : Vec Ideal S1024x1024 .bf16) (r : Fin 1280) (l : Fin 1024) :
    k0_pay2 acc a b (ix2 r l) = acc (ix2 r l) + ∑ k : Fin 1024, a (ix2 k r) * b (ix2 k l) := by
  pointwise [k0_pay2]

theorem fill_apply (r : Fin 1280) (l : Fin 1024) : k0_pay1 (F := Ideal) (ix2 r l) = 0 := by
  pointwise [k0_pay1]

variable (m : (ℓ : Loc nD τ sig) → Buf (Elt Ideal) ℓ) (c : Dev nD)

/-- The cotangents and the layer's input that the program is given. -/
abbrev hid : S8192x2560.Idx → EReal := m ((c : Thread nD τ).loc main_arg0)
abbrev cot : S8192x1024.Idx → EReal := m ((c : Thread nD τ).loc main_arg1)

theorem block0 (t : Fin cfg0.N) (k : Fin 1024) (r : Fin 1280) :
    iblk m c 0 t (ix2 k r : S1024x1280.Idx) = hid m c (ix2 ⟨t.val % 8 * 1024 + k.val, by omega⟩ ⟨t.val / 8 * 1280 + r.val, by have := t.isLt; have : cfg0.N = 16 := N_0; omega⟩) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (k : Fin 1024) (l : Fin 1024) :
    iblk m c 1 t (ix2 k l : S1024x1024.Idx) = cot m c (ix2 ⟨t.val % 8 * 1024 + k.val, by omega⟩ l) := by
  blk_simp [iblk]
  rw [V_main_arg1]
  refine congrArg _ (funext fun a => Fin.ext ?_)
  match a with
  | ⟨0, _⟩ => blk_simp [where1]
  | ⟨1, _⟩ => blk_simp [where1]

theorem first (t : Fin cfg0.N) (h : t.val % 8 = 0) (y : S1280x1024.Idx) :
    (outsAt0 m c t.val t.isLt).2 y = k0_pay2 (k0_pay1 (F := Ideal)) (iblk m c 0 t) (iblk m c 1 t) y := by
  rw [outsAt0_A m c t h (by omega)]
  dsimp only
  frame_open
  simp (disch := decide) only [↓ View.readCov_skip, ↓ View.readCov_cons_toLoadRect, ↓ View.readCov_fill]
  frame_out

theorem middle (t : Fin cfg0.N) (h : ¬t.val % 8 = 0) (y : S1280x1024.Idx) :
    (outsAt0 m c t.val t.isLt).2 y
      = k0_pay2 (outsAt0 m c (t.val - 1) (Nat.lt_of_le_of_lt (Nat.sub_le _ _) t.isLt)).2 (iblk m c 0 t) (iblk m c 1 t) y := by
  by_cases h1 : t.val % 8 = 7
  · rw [outsAt0_C m c t h h1]
    dsimp only
    frame_open
    simp (disch := decide) only [↓ View.readCov_skip, ↓ View.readCov_cons_toLoadRect, ↓ View.readCov_fill]
    frame_out
    rw [read_unread_whole]
  · rw [outsAt0_B m c t h h1]
    dsimp only
    frame_open
    simp (disch := decide) only [↓ View.readCov_skip, ↓ View.readCov_cons_toLoadRect, ↓ View.readCov_fill]
    frame_out
    rw [read_unread_whole]

/-- The output's block is what the sums hold at the last tile. -/
theorem last (t : Fin cfg0.N) (h1 : t.val % 8 = 7) (y : S1280x1024.Idx) :
    (outsAt0 m c t.val t.isLt).1 y = (outsAt0 m c t.val t.isLt).2 y := by
  rw [outsAt0_C m c t (by omega) h1]
  dsimp only
  frame_open
  simp (disch := decide) only [↓ View.readCov_skip, ↓ View.readCov_cons_toLoadRect, ↓ View.readCov_fill]
  frame_out

/-- The gradient of the weight: column `i 0` of the cotangents against column `i 1` of the layer's input, over all tokens. -/
def gradient (i : S2560x1024.Idx) : EReal :=
  ∑ s : Fin 8192, hid m c (ix2 s (i 0)) * cot m c (ix2 s (i 1))

/-- Token `s`'s term of the sum at row `r` and lane `l`. -/
def term (r l s : ℕ) : EReal :=
  if h : r < 2560 ∧ l < 1024 ∧ s < 8192 then hid m c (ix2 ⟨s, h.2.2⟩ ⟨r, h.1⟩) * cot m c (ix2 ⟨s, h.2.2⟩ ⟨l, h.2.1⟩) else 0

theorem gradient_eq (i : S2560x1024.Idx) : gradient m c i = ∑ s : Fin 8192, term m c (i 0).val (i 1).val s.val :=
  Finset.sum_congr rfl fun s _ => by rw [term, dif_pos ⟨(i 0).isLt, (i 1).isLt, s.isLt⟩]; rfl

theorem tile_sum (t : Fin cfg0.N) (y : S1280x1024.Idx) (acc : Vec Ideal S1280x1024 .f32) :
    k0_pay2 acc (iblk m c 0 t) (iblk m c 1 t) y
      = acc y + ∑ k : Fin 1024, term m c (t.val / 8 * 1280 + (y 0).val) (y 1).val (t.val % 8 * 1024 + k.val) := by
  have hN : t.val < 16 := lt_of_lt_of_eq t.isLt N_0
  idx_vars y
  rw [step_apply]
  refine congrArg _ (Finset.sum_congr rfl fun k _ => ?_)
  rw [block0, block1, term, dif_pos ⟨by show t.val / 8 * 1280 + y0.val < 2560; omega, y1.isLt, by omega⟩]

theorem sums_flush (t : Fin cfg0.N) (h : t.val % 8 = 7) (y : S1280x1024.Idx) :
    (outsAt0 m c t.val t.isLt).2 y = ∑ s : Fin 8192, term m c (t.val / 8 * 1280 + (y 0).val) (y 1).val s.val := by
  rw [Pipeline.eq_sum_fin_of_reset_step_apply_of_flush (fun n h => (outsAt0 m c n h).2) 8 (fun _ => (0 : EReal))
    (fun t y => ∑ k : Fin 1024, term m c (t.val / 8 * 1280 + (y 0).val) (y 1).val (t.val % 8 * 1024 + k.val))
    (fun t hc y => (first m c t hc y).trans ((tile_sum m c t y _).trans (congrArg (· + _) (by idx_vars y; exact fill_apply _ _))))
    (fun t hc y => (middle m c t hc y).trans (tile_sum m c t y _)) t h y]
  have hd : ∀ s : Fin 8, (8 * (t.val / 8) + s.val) / 8 = t.val / 8 := fun s => by omega
  have hr : ∀ s : Fin 8, (8 * (t.val / 8) + s.val) % 8 = s.val := fun s => by omega
  simp only [hd, hr, zero_add]
  exact Fin.sum_mul_add_congr fun s k h => rfl

theorem array : (dats m 0 c).arrAt 2 cfg0.N = gradient m c := by
  refine (dats m 0 c).arrAt_eq_of_covers 2 _ (by decide +kernel) fun t hf y => ?_
  have h := (last m c t ((flush0_2 t).mp hf) y).trans (sums_flush m c t ((flush0_2 t).mp hf) y)
  blk_simp
  rw [after0_2, h, gradient_eq]
  blk_simp [where2]

end Cert.InWAIdeal.Hand
-- ==== Proof.InWAClaim.lean ====
module

public import proofs.«01_k».proof.Defs
public import proofs.«01_k».proof.Proof.InWAKernel
public import proofs.«01_k».proof.Proof.Gen.InWARefIdeal.Run
public import proofs.«01_k».proof.Proof.Gen.InWARefIdeal.Read

@[expose] public section

set_option maxRecDepth 16384

noncomputable section

/-! The claims about the gradient of w_in where it has 2560 rows. -/

namespace Cert.InWAClaim

open Idealize.ShloMosaic Idealize.ShloMosaic.TcCoe Idealize.SL.Sem Cert.InWARefIdeal Cert.InWARefIdeal.Read

/-- The reference's gradient, over all tokens. -/
theorem gradient_ref (x0 : S8192x2560.Idx → EReal) (x1 : S8192x1024.Idx → EReal) (r : Fin 2560) (l : Fin 1024) :
    val_main_v7 (F := Ideal) x0 x1 (ix2 r l) = ∑ s : Fin 8192, x0 (ix2 s r) * x1 (ix2 s l) := by
  pointwise [val_main_v7, val_main_v6, val_main_v5, val_main_v4, val_main_v1]

/-- The reference ends with its arguments unchanged. -/
theorem frame_ref : Cert.quiescent_InWARefIdeal := fun m g _ =>
  (θ_run Cert.InWARefIdeal.defs _ _).mono (fun r h => ⟨fun c => (h c).2, sem_eq_zero_of_no_sems (by decide) r.2⟩) (Cert.InWARefIdeal.Value.run m g)

/-- The kernel and the reference end with the same array. -/
theorem algebraic : Cert.algebraic_InWAIdeal_InWARefIdeal := by
  intro m g m' g' _ hargs
  refine ⟨_, Cert.InWAIdeal.Value.run_blocks m g, ?_⟩
  refine (θ_run Cert.InWARefIdeal.defs _ _).mono (fun r h c => ⟨(h c).1.trans ?_, (h c).2⟩) (Cert.InWARefIdeal.Value.run m' g')
  obtain ⟨e0, e1⟩ := hargs c
  rw [val_main_v7_eq, e0, e1, Cert.InWAIdeal.Hand.array]
  exact funext fun i => by
    idx_vars i
    exact gradient_ref _ _ i0 i1

end Cert.InWAClaim
-- ==== Proof.InWBKernel.lean ====
module

public import proofs.«01_k».proof.Proof.Gen.InWBIdeal.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

/-! The array that the gradient of w_in leaves, at every index, where w_in has 1792 rows: the sum over all tokens of a cotangent
    times an entry of the layer's input. The kernel adds it up over eight tiles of 1024 tokens. -/

namespace Cert.InWBIdeal.Hand

open Cert.InWBIdeal Cert.InWBIdeal.Gen Idealize.ShloMosaic Idealize.ShloMosaic.TcCoe Idealize.SL.Sem

theorem where0 : ∀ t : Fin cfg0.N, win0_0.index t = ![t.val % 8, t.val / 8] := (by decide +kernel : ∀ t : Fin grid0.N, _)
theorem where1 : ∀ t : Fin cfg0.N, win0_1.index t = ![t.val % 8, 0] := (by decide +kernel : ∀ t : Fin grid0.N, _)
theorem where2 : ∀ t : Fin cfg0.N, win0_2.index t = ![t.val / 8, 0] := (by decide +kernel : ∀ t : Fin grid0.N, _)

/-- A tile's sums, added to what was held. -/
theorem step_apply (acc : Vec Ideal S896x1024 .f32) (a : Vec Ideal S1024x896 .bf16) (b : Vec Ideal S1024x1024 .bf16) (r : Fin 896) (l : Fin 1024) :
    k0_pay2 acc a b (ix2 r l) = acc (ix2 r l) + ∑ k : Fin 1024, a (ix2 k r) * b (ix2 k l) := by
  pointwise [k0_pay2]

theorem fill_apply (r : Fin 896) (l : Fin 1024) : k0_pay1 (F := Ideal) (ix2 r l) = 0 := by
  pointwise [k0_pay1]

variable (m : (ℓ : Loc nD τ sig) → Buf (Elt Ideal) ℓ) (c : Dev nD)

/-- The cotangents and the layer's input that the program is given. -/
abbrev hid : S8192x1792.Idx → EReal := m ((c : Thread nD τ).loc main_arg0)
abbrev cot : S8192x1024.Idx → EReal := m ((c : Thread nD τ).loc main_arg1)

theorem block0 (t : Fin cfg0.N) (k : Fin 1024) (r : Fin 896) :
    iblk m c 0 t (ix2 k r : S1024x896.Idx) = hid m c (ix2 ⟨t.val % 8 * 1024 + k.val, by omega⟩ ⟨t.val / 8 * 896 + r.val, by have := t.isLt; have : cfg0.N = 16 := N_0; omega⟩) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (k : Fin 1024) (l : Fin 1024) :
    iblk m c 1 t (ix2 k l : S1024x1024.Idx) = cot m c (ix2 ⟨t.val % 8 * 1024 + k.val, by omega⟩ l) := by
  blk_simp [iblk]
  rw [V_main_arg1]
  refine congrArg _ (funext fun a => Fin.ext ?_)
  match a with
  | ⟨0, _⟩ => blk_simp [where1]
  | ⟨1, _⟩ => blk_simp [where1]

theorem first (t : Fin cfg0.N) (h : t.val % 8 = 0) (y : S896x1024.Idx) :
    (outsAt0 m c t.val t.isLt).2 y = k0_pay2 (k0_pay1 (F := Ideal)) (iblk m c 0 t) (iblk m c 1 t) y := by
  rw [outsAt0_A m c t h (by omega)]
  dsimp only
  frame_open
  simp (disch := decide) only [↓ View.readCov_skip, ↓ View.readCov_cons_toLoadRect, ↓ View.readCov_fill]
  frame_out

theorem middle (t : Fin cfg0.N) (h : ¬t.val % 8 = 0) (y : S896x1024.Idx) :
    (outsAt0 m c t.val t.isLt).2 y
      = k0_pay2 (outsAt0 m c (t.val - 1) (Nat.lt_of_le_of_lt (Nat.sub_le _ _) t.isLt)).2 (iblk m c 0 t) (iblk m c 1 t) y := by
  by_cases h1 : t.val % 8 = 7
  · rw [outsAt0_C m c t h h1]
    dsimp only
    frame_open
    simp (disch := decide) only [↓ View.readCov_skip, ↓ View.readCov_cons_toLoadRect, ↓ View.readCov_fill]
    frame_out
    rw [read_unread_whole]
  · rw [outsAt0_B m c t h h1]
    dsimp only
    frame_open
    simp (disch := decide) only [↓ View.readCov_skip, ↓ View.readCov_cons_toLoadRect, ↓ View.readCov_fill]
    frame_out
    rw [read_unread_whole]

/-- The output's block is what the sums hold at the last tile. -/
theorem last (t : Fin cfg0.N) (h1 : t.val % 8 = 7) (y : S896x1024.Idx) :
    (outsAt0 m c t.val t.isLt).1 y = (outsAt0 m c t.val t.isLt).2 y := by
  rw [outsAt0_C m c t (by omega) h1]
  dsimp only
  frame_open
  simp (disch := decide) only [↓ View.readCov_skip, ↓ View.readCov_cons_toLoadRect, ↓ View.readCov_fill]
  frame_out

/-- The gradient of the weight: column `i 0` of the cotangents against column `i 1` of the layer's input, over all tokens. -/
def gradient (i : S1792x1024.Idx) : EReal :=
  ∑ s : Fin 8192, hid m c (ix2 s (i 0)) * cot m c (ix2 s (i 1))

/-- Token `s`'s term of the sum at row `r` and lane `l`. -/
def term (r l s : ℕ) : EReal :=
  if h : r < 1792 ∧ l < 1024 ∧ s < 8192 then hid m c (ix2 ⟨s, h.2.2⟩ ⟨r, h.1⟩) * cot m c (ix2 ⟨s, h.2.2⟩ ⟨l, h.2.1⟩) else 0

theorem gradient_eq (i : S1792x1024.Idx) : gradient m c i = ∑ s : Fin 8192, term m c (i 0).val (i 1).val s.val :=
  Finset.sum_congr rfl fun s _ => by rw [term, dif_pos ⟨(i 0).isLt, (i 1).isLt, s.isLt⟩]; rfl

theorem tile_sum (t : Fin cfg0.N) (y : S896x1024.Idx) (acc : Vec Ideal S896x1024 .f32) :
    k0_pay2 acc (iblk m c 0 t) (iblk m c 1 t) y
      = acc y + ∑ k : Fin 1024, term m c (t.val / 8 * 896 + (y 0).val) (y 1).val (t.val % 8 * 1024 + k.val) := by
  have hN : t.val < 16 := lt_of_lt_of_eq t.isLt N_0
  idx_vars y
  rw [step_apply]
  refine congrArg _ (Finset.sum_congr rfl fun k _ => ?_)
  rw [block0, block1, term, dif_pos ⟨by show t.val / 8 * 896 + y0.val < 1792; omega, y1.isLt, by omega⟩]

theorem sums_flush (t : Fin cfg0.N) (h : t.val % 8 = 7) (y : S896x1024.Idx) :
    (outsAt0 m c t.val t.isLt).2 y = ∑ s : Fin 8192, term m c (t.val / 8 * 896 + (y 0).val) (y 1).val s.val := by
  rw [Pipeline.eq_sum_fin_of_reset_step_apply_of_flush (fun n h => (outsAt0 m c n h).2) 8 (fun _ => (0 : EReal))
    (fun t y => ∑ k : Fin 1024, term m c (t.val / 8 * 896 + (y 0).val) (y 1).val (t.val % 8 * 1024 + k.val))
    (fun t hc y => (first m c t hc y).trans ((tile_sum m c t y _).trans (congrArg (· + _) (by idx_vars y; exact fill_apply _ _))))
    (fun t hc y => (middle m c t hc y).trans (tile_sum m c t y _)) t h y]
  have hd : ∀ s : Fin 8, (8 * (t.val / 8) + s.val) / 8 = t.val / 8 := fun s => by omega
  have hr : ∀ s : Fin 8, (8 * (t.val / 8) + s.val) % 8 = s.val := fun s => by omega
  simp only [hd, hr, zero_add]
  exact Fin.sum_mul_add_congr fun s k h => rfl

theorem array : (dats m 0 c).arrAt 2 cfg0.N = gradient m c := by
  refine (dats m 0 c).arrAt_eq_of_covers 2 _ (by decide +kernel) fun t hf y => ?_
  have h := (last m c t ((flush0_2 t).mp hf) y).trans (sums_flush m c t ((flush0_2 t).mp hf) y)
  blk_simp
  rw [after0_2, h, gradient_eq]
  blk_simp [where2]

end Cert.InWBIdeal.Hand
-- ==== Proof.InWBClaim.lean ====
module

public import proofs.«01_k».proof.Defs
public import proofs.«01_k».proof.Proof.InWBKernel
public import proofs.«01_k».proof.Proof.Gen.InWBRefIdeal.Run
public import proofs.«01_k».proof.Proof.Gen.InWBRefIdeal.Read

@[expose] public section

set_option maxRecDepth 16384

noncomputable section

/-! The claims about the gradient of w_in where it has 1792 rows. -/

namespace Cert.InWBClaim

open Idealize.ShloMosaic Idealize.ShloMosaic.TcCoe Idealize.SL.Sem Cert.InWBRefIdeal Cert.InWBRefIdeal.Read

/-- The reference's gradient, over all tokens. -/
theorem gradient_ref (x0 : S8192x1792.Idx → EReal) (x1 : S8192x1024.Idx → EReal) (r : Fin 1792) (l : Fin 1024) :
    val_main_v7 (F := Ideal) x0 x1 (ix2 r l) = ∑ s : Fin 8192, x0 (ix2 s r) * x1 (ix2 s l) := by
  pointwise [val_main_v7, val_main_v6, val_main_v5, val_main_v4, val_main_v1]

/-- The reference ends with its arguments unchanged. -/
theorem frame_ref : Cert.quiescent_InWBRefIdeal := fun m g _ =>
  (θ_run Cert.InWBRefIdeal.defs _ _).mono (fun r h => ⟨fun c => (h c).2, sem_eq_zero_of_no_sems (by decide) r.2⟩) (Cert.InWBRefIdeal.Value.run m g)

/-- The kernel and the reference end with the same array. -/
theorem algebraic : Cert.algebraic_InWBIdeal_InWBRefIdeal := by
  intro m g m' g' _ hargs
  refine ⟨_, Cert.InWBIdeal.Value.run_blocks m g, ?_⟩
  refine (θ_run Cert.InWBRefIdeal.defs _ _).mono (fun r h c => ⟨(h c).1.trans ?_, (h c).2⟩) (Cert.InWBRefIdeal.Value.run m' g')
  obtain ⟨e0, e1⟩ := hargs c
  rw [val_main_v7_eq, e0, e1, Cert.InWBIdeal.Hand.array]
  exact funext fun i => by
    idx_vars i
    exact gradient_ref _ _ i0 i1

end Cert.InWBClaim
-- ==== Proof.InAKernel.lean ====
module

public import proofs.«01_k».proof.Proof.BackSpec
public import proofs.«01_k».proof.Proof.Gen.InAIdeal.Value
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.PureOps.Ideal.Laws

@[expose] public section

set_option maxRecDepth 16384

noncomputable section

/-! The four arrays that the backward product of the mixers' input and the layer norm's cotangent leave, at every index. -/

namespace Cert.InAIdeal.Hand

open Cert.InAIdeal Cert.InAIdeal.Gen Idealize.ShloMosaic Idealize.ShloMosaic.TcCoe Idealize.SL.Sem Cert.NormSpec Cert.BackSpec

theorem where0 : ∀ t : Fin cfg0.N, win0_0.index t = ![t.val, 0] := (by decide +kernel : ∀ t : Fin grid0.N, _)
theorem where1 : ∀ t : Fin cfg0.N, win0_1.index t = ![0, 0] := (by decide +kernel : ∀ t : Fin grid0.N, _)
theorem where2 : ∀ t : Fin cfg0.N, win0_2.index t = ![t.val, 0] := (by decide +kernel : ∀ t : Fin grid0.N, _)
theorem where3 : ∀ t : Fin cfg0.N, win0_3.index t = ![t.val, 0] := (by decide +kernel : ∀ t : Fin grid0.N, _)
theorem where4 : ∀ t : Fin cfg0.N, win0_4.index t = ![0, 0] := (by decide +kernel : ∀ t : Fin grid0.N, _)
theorem where5 : ∀ t : Fin cfg0.N, win0_5.index t = ![t.val, 0] := (by decide +kernel : ∀ t : Fin grid0.N, _)
theorem where6 : ∀ t : Fin cfg0.N, win0_6.index t = ![t.val, 0] := (by decide +kernel : ∀ t : Fin grid0.N, _)
theorem where7 : ∀ t : Fin cfg0.N, win0_7.index t = ![0, 0] := (by decide +kernel : ∀ t : Fin grid0.N, _)
theorem where8 : ∀ t : Fin cfg0.N, win0_8.index t = ![0, 0] := (by decide +kernel : ∀ t : Fin grid0.N, _)

theorem cotangent_apply (x : Vec Ideal S512x1024 .f32) (a : Vec Ideal S512x2560 .bf16) (w : Vec Ideal S2560x1024 .bf16) (r : Fin 512) (l : Fin 1024) :
    k0_pay5 x a w (ix2 r l) = alpha * x (ix2 r l) + ∑ k : Fin 2560, a (ix2 r k) * w (ix2 k l) := by
  pointwise [k0_pay5]
  rfl

theorem center_apply (z : Vec Ideal S512x1024 .f32) (r : Fin 512) (l : Fin 1024) : k0_pay8 z (ix2 r l) = center (fun l => z (ix2 r l)) l := by
  pointwise [k0_pay8]
  rfl

theorem scale_apply (z : Vec Ideal S512x1024 .f32) (r : Fin 512) : k0_pay9 z (ix2 r 0) = scale fun l => z (ix2 r l) := by
  pointwise [k0_pay9]
  simp only [center_apply]
  rfl

theorem hat_apply (z : Vec Ideal S512x1024 .f32) (r : Fin 512) (l : Fin 1024) : k0_pay10 z (ix2 r l) = hat (fun l => z (ix2 r l)) l := by
  pointwise [k0_pay10]
  rw [center_apply, scale_apply]
  rfl

theorem gained_apply (x : Vec Ideal S512x1024 .f32) (a : Vec Ideal S512x2560 .bf16) (w : Vec Ideal S2560x1024 .bf16) (g : Vec Ideal S1x1024 .f32) (r : Fin 512) (l : Fin 1024) :
    k0_pay11 x a w g (ix2 r l) = k0_pay5 x a w (ix2 r l) * g (ix2 0 l) := by
  generalize e : k0_pay5 x a w = y
  pointwise [k0_pay11, e]

theorem mean_apply (x : Vec Ideal S512x1024 .f32) (a : Vec Ideal S512x2560 .bf16) (w : Vec Ideal S2560x1024 .bf16) (g : Vec Ideal S1x1024 .f32) (r : Fin 512) :
    k0_pay12 x a w g (ix2 r 0) = mean fun k => k0_pay11 x a w g (ix2 r k) := by
  generalize e : k0_pay11 x a w g = y
  pointwise [k0_pay12, e]
  rfl

theorem along_apply (x : Vec Ideal S512x1024 .f32) (a : Vec Ideal S512x2560 .bf16) (w : Vec Ideal S2560x1024 .bf16) (z : Vec Ideal S512x1024 .f32) (g : Vec Ideal S1x1024 .f32)
    (r : Fin 512) (l : Fin 1024) : k0_pay13 x a w z g (ix2 r l) = k0_pay11 x a w g (ix2 r l) * k0_pay10 z (ix2 r l) := rfl

/-- A row of the cotangent, from the row's parts. -/
theorem pulled_apply (s : Vec Ideal S512x1 .f32) (h q : Vec Ideal S512x1024 .f32) (n : Vec Ideal S512x1 .f32) (p : Vec Ideal S512x1024 .f32) (r : Fin 512) (l : Fin 1024) :
    k0_pay1 (F := Ideal) s h q n p (ix2 r l) = s (ix2 r 0) * ((q (ix2 r l) - n (ix2 r 0)) - h (ix2 r l) * mean fun k => p (ix2 r k)) := by
  pointwise [k0_pay1]
  rfl

theorem gain_step (y h : Vec Ideal S512x1024 .f32) (acc : Vec Ideal S1x1024 .f32) (l : Fin 1024) :
    k0_pay3 (F := Ideal) y h acc (ix2 0 l) = acc (ix2 0 l) + ∑ r : Fin 512, y (ix2 r l) * h (ix2 r l) := by
  pointwise [k0_pay3]

theorem bias_step (y : Vec Ideal S512x1024 .f32) (acc : Vec Ideal S1x1024 .f32) (l : Fin 1024) :
    k0_pay4 (F := Ideal) y acc (ix2 0 l) = acc (ix2 0 l) + ∑ r : Fin 512, y (ix2 r l) := by
  pointwise [k0_pay4]

theorem gain_fill (l : Fin 1024) : k0_pay6 (F := Ideal) (ix2 0 l) = 0 := by
  pointwise [k0_pay6]

theorem bias_fill (l : Fin 1024) : k0_pay7 (F := Ideal) (ix2 0 l) = 0 := by
  pointwise [k0_pay7]

variable (m : (ℓ : Loc nD τ sig) → Buf (Elt Ideal) ℓ) (c : Dev nD)

theorem block0 (t : Fin cfg0.N) (r : Fin 512) (k : Fin 2560) :
    iblk m c 0 t (ix2 r k : S512x2560.Idx) = m ((c : Thread nD τ).loc main_arg0) (ix2 ⟨t.val * 512 + r.val, by have := t.isLt; have : cfg0.N = 16 := N_0; omega⟩ k : S8192x2560.Idx) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (k : Fin 2560) (l : Fin 1024) :
    iblk m c 1 t (ix2 k l : S2560x1024.Idx) = m ((c : Thread nD τ).loc main_arg1) (ix2 k l : S2560x1024.Idx) := by
  blk_simp [iblk]
  rw [V_main_arg1]
  refine congrArg _ (funext fun a => Fin.ext ?_)
  match a with
  | ⟨0, _⟩ => blk_simp [where1]
  | ⟨1, _⟩ => blk_simp [where1]

theorem block2 (t : Fin cfg0.N) (r : Fin 512) (l : Fin 1024) :
    iblk m c 2 t (ix2 r l : S512x1024.Idx) = m ((c : Thread nD τ).loc main_arg2) (ix2 ⟨t.val * 512 + r.val, by have := t.isLt; have : cfg0.N = 16 := N_0; omega⟩ l : S8192x1024.Idx) := by
  blk_simp [iblk]
  rw [V_main_arg2]
  refine congrArg _ (funext fun a => Fin.ext ?_)
  match a with
  | ⟨0, _⟩ => blk_simp [where2]
  | ⟨1, _⟩ => blk_simp [where2]

theorem block3 (t : Fin cfg0.N) (r : Fin 512) (l : Fin 1024) :
    iblk m c 3 t (ix2 r l : S512x1024.Idx) = m ((c : Thread nD τ).loc main_arg3) (ix2 ⟨t.val * 512 + r.val, by have := t.isLt; have : cfg0.N = 16 := N_0; omega⟩ l : S8192x1024.Idx) := by
  blk_simp [iblk]
  rw [V_main_arg3]
  refine congrArg _ (funext fun a => Fin.ext ?_)
  match a with
  | ⟨0, _⟩ => blk_simp [where3]
  | ⟨1, _⟩ => blk_simp [where3]

theorem gain_row (l : Fin 1024) : V m c main_v0 (ix2 0 l : S1x1024.Idx) = m ((c : Thread nD τ).loc main_arg4) (ix1 l : S1024.Idx) := by
  unfold V
  after_reads_at

theorem block4 (t : Fin cfg0.N) (l : Fin 1024) :
    iblk m c 4 t (ix2 0 l : S1x1024.Idx) = m ((c : Thread nD τ).loc main_arg4) (ix1 l : S1024.Idx) := by
  refine Eq.trans ?_ (gain_row m c l)
  blk_simp [iblk]
  refine congrArg _ (funext fun a => Fin.ext ?_)
  match a with
  | ⟨0, _⟩ => blk_simp [where4]
  | ⟨1, _⟩ => blk_simp [where4]

/-- The cotangent of the layer norm's output at a grid point, and the block of the layer norm's input. -/
abbrev cotBlk (t : Fin cfg0.N) : Vec Ideal S512x1024 .f32 := k0_pay5 (iblk m c 2 t) (iblk m c 0 t) (iblk m c 1 t)

/-- The cotangent of the layer norm's input at a grid point. -/
abbrev backBlk (t : Fin cfg0.N) : Vec Ideal S512x1024 .f32 :=
  k0_pay1 (F := Ideal) (k0_pay9 (iblk m c 3 t)) (k0_pay10 (iblk m c 3 t)) (k0_pay11 (iblk m c 2 t) (iblk m c 0 t) (iblk m c 1 t) (iblk m c 4 t))
    (k0_pay12 (iblk m c 2 t) (iblk m c 0 t) (iblk m c 1 t) (iblk m c 4 t)) (k0_pay13 (iblk m c 2 t) (iblk m c 0 t) (iblk m c 1 t) (iblk m c 3 t) (iblk m c 4 t))

theorem flush5 (t : Fin cfg0.N) (y : S512x1024.Idx) : (dats m 0 c).flushed 5 t y = backBlk m c t y := by
  by_cases h : t.val % 16 = 0
  · rw [Value.flushed5_A m c t h]
    frame_out
    rfl
  · rw [Value.flushed5_B m c t h]
    frame_out
    rfl

theorem flush6 (t : Fin cfg0.N) (y : S512x1024.Idx) : (dats m 0 c).flushed 6 t y = backBlk m c t y := by
  by_cases h : t.val % 16 = 0
  · rw [Value.flushed6_A m c t h]
    frame_out
    rfl
  · rw [Value.flushed6_B m c t h]
    frame_out
    rfl

theorem gain_first (t : Fin cfg0.N) (h : t.val % 16 = 0) (y : S1x1024.Idx) :
    (outsAt0 m c t.val t.isLt).2.2.1 y = k0_pay3 (F := Ideal) (cotBlk m c t) (k0_pay10 (iblk m c 3 t)) (k0_pay6 (F := Ideal)) y := by
  rw [outsAt0_A m c t h]
  dsimp only
  frame_open
  simp (disch := decide) only [↓ View.readCov_skip, ↓ View.readCov_cons_toLoadRect, ↓ View.readCov_fill]
  frame_out

theorem gain_next (t : Fin cfg0.N) (h : ¬t.val % 16 = 0) (y : S1x1024.Idx) :
    (outsAt0 m c t.val t.isLt).2.2.1 y
      = k0_pay3 (F := Ideal) (cotBlk m c t) (k0_pay10 (iblk m c 3 t)) (outsAt0 m c (t.val - 1) (Nat.lt_of_le_of_lt (Nat.sub_le _ _) t.isLt)).2.2.1 y := by
  rw [outsAt0_B m c t h]
  dsimp only
  frame_open
  simp (disch := decide) only [↓ View.readCov_skip, ↓ View.readCov_cons_toLoadRect, ↓ View.readCov_fill]
  frame_out

theorem bias_first (t : Fin cfg0.N) (h : t.val % 16 = 0) (y : S1x1024.Idx) :
    (outsAt0 m c t.val t.isLt).2.2.2 y = k0_pay4 (F := Ideal) (cotBlk m c t) (k0_pay7 (F := Ideal)) y := by
  rw [outsAt0_A m c t h]
  dsimp only
  frame_open
  simp (disch := decide) only [↓ View.readCov_skip, ↓ View.readCov_cons_toLoadRect, ↓ View.readCov_fill]
  frame_out

theorem bias_next (t : Fin cfg0.N) (h : ¬t.val % 16 = 0) (y : S1x1024.Idx) :
    (outsAt0 m c t.val t.isLt).2.2.2 y
      = k0_pay4 (F := Ideal) (cotBlk m c t) (outsAt0 m c (t.val - 1) (Nat.lt_of_le_of_lt (Nat.sub_le _ _) t.isLt)).2.2.2 y := by
  rw [outsAt0_B m c t h]
  dsimp only
  frame_open
  simp (disch := decide) only [↓ View.readCov_skip, ↓ View.readCov_cons_toLoadRect, ↓ View.readCov_fill]
  frame_out

/-- The arrays that the program is given. -/
abbrev mixCot : S8192x2560.Idx → EReal := m ((c : Thread nD τ).loc main_arg0)
abbrev mixW : S2560x1024.Idx → EReal := m ((c : Thread nD τ).loc main_arg1)
abbrev resCot : S8192x1024.Idx → EReal := m ((c : Thread nD τ).loc main_arg2)
abbrev normIn : S8192x1024.Idx → EReal := m ((c : Thread nD τ).loc main_arg3)
abbrev normGain : S1024.Idx → EReal := m ((c : Thread nD τ).loc main_arg4)

/-- Row `s` of the layer norm's input, the gain, and row `s` of the cotangent of the layer norm's output. -/
def inRow (s : Fin 8192) (l : Fin 1024) : EReal := normIn m c (ix2 s l)
def gainRow (l : Fin 1024) : EReal := normGain m c (ix1 l)
def cotRow (s : Fin 8192) (l : Fin 1024) : EReal :=
  alpha * resCot m c (ix2 s l) + ∑ k : Fin 2560, mixCot m c (ix2 s k) * mixW m c (ix2 k l)

/-- The cotangent of the layer norm's input. -/
def back (s : Fin 8192) (l : Fin 1024) : EReal := pulled (inRow m c s) (cotRow m c s) (gainRow m c) l

theorem cot_point (t : Fin cfg0.N) (r : Fin 512) (l : Fin 1024) :
    cotBlk m c t (ix2 r l) = cotRow m c ⟨t.val * 512 + r.val, by have := t.isLt; have : cfg0.N = 16 := N_0; omega⟩ l := by
  refine (cotangent_apply _ _ _ r l).trans ?_
  rw [block2]
  simp only [block0, block1]
  rfl

theorem hat_point (t : Fin cfg0.N) (r : Fin 512) (l : Fin 1024) :
    k0_pay10 (iblk m c 3 t) (ix2 r l) = hat (inRow m c ⟨t.val * 512 + r.val, by have := t.isLt; have : cfg0.N = 16 := N_0; omega⟩) l := by
  rw [hat_apply]
  simp only [block3]
  rfl

theorem back_point (t : Fin cfg0.N) (r : Fin 512) (l : Fin 1024) :
    backBlk m c t (ix2 r l) = back m c ⟨t.val * 512 + r.val, by have := t.isLt; have : cfg0.N = 16 := N_0; omega⟩ l := by
  refine (pulled_apply _ _ _ _ _ r l).trans ?_
  rw [scale_apply, mean_apply]
  simp only [along_apply, gained_apply, cot_point, hat_point, block3, block4]
  rfl

theorem wide_array : (dats m 0 c).arrAt 5 cfg0.N = fun i : S8192x1024.Idx => back m c (i 0) (i 1) := by
  refine (dats m 0 c).arrAt_eq_of_covers 5 _ (by decide +kernel) fun t hf y => ?_
  refine (flush5 m c t y).trans ?_
  idx_vars y
  rw [back_point]
  refine congrArg₂ (back m c) (Fin.ext ?_) (Fin.ext ?_) <;> blk_simp [where5]

theorem narrow_array : (dats m 0 c).arrAt 6 cfg0.N = fun i : S8192x1024.Idx => back m c (i 0) (i 1) := by
  refine (dats m 0 c).arrAt_eq_of_covers 6 _ (by decide +kernel) fun t hf y => ?_
  refine (flush6 m c t y).trans ?_
  idx_vars y
  rw [back_point]
  refine congrArg₂ (back m c) (Fin.ext ?_) (Fin.ext ?_) <;> blk_simp [where6]

/-- Row `s`'s term of the gain's gradient and of the bias's gradient at lane `l`. -/
def gainTerm (l s : ℕ) : EReal := if h : l < 1024 ∧ s < 8192 then cotRow m c ⟨s, h.2⟩ ⟨l, h.1⟩ * hat (inRow m c ⟨s, h.2⟩) ⟨l, h.1⟩ else 0
def biasTerm (l s : ℕ) : EReal := if h : l < 1024 ∧ s < 8192 then cotRow m c ⟨s, h.2⟩ ⟨l, h.1⟩ else 0

theorem gain_tile (t : Fin cfg0.N) (y : S1x1024.Idx) (acc : Vec Ideal S1x1024 .f32) :
    k0_pay3 (F := Ideal) (cotBlk m c t) (k0_pay10 (iblk m c 3 t)) acc y = acc y + ∑ r : Fin 512, gainTerm m c (y 1).val (t.val * 512 + r.val) := by
  have hN : t.val < 16 := lt_of_lt_of_eq t.isLt N_0
  idx_vars y
  obtain rfl : y0 = 0 := Fin.ext (by have := y0.isLt; omega)
  rw [gain_step]
  refine congrArg _ (Finset.sum_congr rfl fun r _ => ?_)
  rw [cot_point, hat_point, gainTerm, dif_pos ⟨y1.isLt, by omega⟩]

theorem bias_tile (t : Fin cfg0.N) (y : S1x1024.Idx) (acc : Vec Ideal S1x1024 .f32) :
    k0_pay4 (F := Ideal) (cotBlk m c t) acc y = acc y + ∑ r : Fin 512, biasTerm m c (y 1).val (t.val * 512 + r.val) := by
  have hN : t.val < 16 := lt_of_lt_of_eq t.isLt N_0
  idx_vars y
  obtain rfl : y0 = 0 := Fin.ext (by have := y0.isLt; omega)
  rw [bias_step]
  refine congrArg _ (Finset.sum_congr rfl fun r _ => ?_)
  rw [cot_point, biasTerm, dif_pos ⟨y1.isLt, by omega⟩]

theorem gain_flush (t : Fin cfg0.N) (h : t.val % 16 = 15) (y : S1x1024.Idx) :
    (outsAt0 m c t.val t.isLt).2.2.1 y = ∑ s : Fin 8192, gainTerm m c (y 1).val s.val := by
  have hN : t.val < 16 := lt_of_lt_of_eq t.isLt N_0
  rw [Pipeline.eq_sum_fin_of_reset_step_apply_of_flush (fun n h => (outsAt0 m c n h).2.2.1) 16 (fun _ => (0 : EReal))
    (fun t y => ∑ r : Fin 512, gainTerm m c (y 1).val (t.val * 512 + r.val))
    (fun t hc y => (gain_first m c t hc y).trans ((gain_tile m c t y _).trans (congrArg (· + _) (by
      idx_vars y
      obtain rfl : y0 = 0 := Fin.ext (by have := y0.isLt; omega)
      exact gain_fill _))))
    (fun t hc y => (gain_next m c t hc y).trans (gain_tile m c t y _)) t h y]
  have hr : ∀ s : Fin 16, 16 * (t.val / 16) + s.val = s.val := fun s => by omega
  simp only [hr, zero_add]
  exact Fin.sum_mul_add_congr fun s k h => rfl

theorem bias_flush (t : Fin cfg0.N) (h : t.val % 16 = 15) (y : S1x1024.Idx) :
    (outsAt0 m c t.val t.isLt).2.2.2 y = ∑ s : Fin 8192, biasTerm m c (y 1).val s.val := by
  have hN : t.val < 16 := lt_of_lt_of_eq t.isLt N_0
  rw [Pipeline.eq_sum_fin_of_reset_step_apply_of_flush (fun n h => (outsAt0 m c n h).2.2.2) 16 (fun _ => (0 : EReal))
    (fun t y => ∑ r : Fin 512, biasTerm m c (y 1).val (t.val * 512 + r.val))
    (fun t hc y => (bias_first m c t hc y).trans ((bias_tile m c t y _).trans (congrArg (· + _) (by
      idx_vars y
      obtain rfl : y0 = 0 := Fin.ext (by have := y0.isLt; omega)
      exact bias_fill _))))
    (fun t hc y => (bias_next m c t hc y).trans (bias_tile m c t y _)) t h y]
  have hr : ∀ s : Fin 16, 16 * (t.val / 16) + s.val = s.val := fun s => by omega
  simp only [hr, zero_add]
  exact Fin.sum_mul_add_congr fun s k h => rfl

/-- The gradients of the gain and of the bias at lane `l`: sums over all rows. -/
def gainGrad (l : Fin 1024) : EReal := ∑ s : Fin 8192, cotRow m c s l * hat (inRow m c s) l
def biasGrad (l : Fin 1024) : EReal := ∑ s : Fin 8192, cotRow m c s l

theorem gainGrad_eq (l : Fin 1024) : gainGrad m c l = ∑ s : Fin 8192, gainTerm m c l.val s.val :=
  Finset.sum_congr rfl fun s _ => by rw [gainTerm, dif_pos ⟨l.isLt, s.isLt⟩]

theorem biasGrad_eq (l : Fin 1024) : biasGrad m c l = ∑ s : Fin 8192, biasTerm m c l.val s.val :=
  Finset.sum_congr rfl fun s _ => by rw [biasTerm, dif_pos ⟨l.isLt, s.isLt⟩]

theorem gain_array : (dats m 0 c).arrAt 7 cfg0.N = fun i : S1x1024.Idx => gainGrad m c (i 1) := by
  refine (dats m 0 c).arrAt_eq_of_covers 7 _ (by decide +kernel) fun t hf y => ?_
  have h := gain_flush m c t ((flush0_7 t).mp hf) y
  blk_simp
  rw [after0_7, h]
  refine Eq.trans ?_ (gainGrad_eq m c _).symm
  blk_simp [where7]

theorem bias_array : (dats m 0 c).arrAt 8 cfg0.N = fun i : S1x1024.Idx => biasGrad m c (i 1) := by
  refine (dats m 0 c).arrAt_eq_of_covers 8 _ (by decide +kernel) fun t hf y => ?_
  have h := bias_flush m c t ((flush0_8 t).mp hf) y
  blk_simp
  rw [after0_8, h]
  refine Eq.trans ?_ (biasGrad_eq m c _).symm
  blk_simp [where8]

end Cert.InAIdeal.Hand
-- ==== Proof.InAClaim.lean ====
module

public import proofs.«01_k».proof.Defs
public import proofs.«01_k».proof.Proof.InAKernel
public import proofs.«01_k».proof.Proof.GateSpec
public import proofs.«01_k».proof.Proof.Gen.InARefIdeal.Run
public import proofs.«01_k».proof.Proof.Gen.InARefIdeal.Read

@[expose] public section

set_option maxRecDepth 16384

noncomputable section

/-! The claims about the backward product of the mixers' input with the layer norm's cotangent. -/

namespace Cert.InAClaim

open Idealize.ShloMosaic Idealize.ShloMosaic.TcCoe Idealize.SL.Sem Cert.InARefIdeal Cert.InARefIdeal.Read Cert.NormSpec Cert.BackSpec Cert.GateSpec

/-- The side conditions that the precondition states. -/
theorem pre_facts : Cert.Pre_in_a_finite.Facts where
  bcast_S_S8192x2560 := by decide
  bcast_S_S2560x1024 := by decide
  bcast_S_S8192x1024 := by decide
  bcast_S_S1024 := by decide

section

variable (x0 : S8192x2560.Idx → EReal) (x1 : S2560x1024.Idx → EReal) (x2 x3 : S8192x1024.Idx → EReal) (x4 : S1024.Idx → EReal)

/-- Row `s` of an array. -/
abbrev row (x : S8192x1024.Idx → EReal) (s : Fin 8192) : Fin 1024 → EReal := fun l => x (ix2 s l)

/-- The reference's cotangent of the layer norm's output. -/
abbrev cot : S8192x1024.Idx → EReal := val_main_v39 (F := Ideal) x0 x1 x2

theorem cot_ref (s : Fin 8192) (l : Fin 1024) :
    cot x0 x1 x2 (ix2 s l) = alpha * x2 (ix2 s l) + ∑ k : Fin 2560, x0 (ix2 s k) * x1 (ix2 k l) := by
  pointwise [val_main_v39, val_main_v38, val_main_v37, val_main_v36, val_main_v35, val_main_v31, val_main_v30]
  rfl

theorem mean_ref (s : Fin 8192) : val_main_v4 (F := Ideal) x3 (ix2 s 0) = mean (row x3 s) := by
  pointwise [val_main_v4, val_main_v3, val_main_v2, val_main_v1, val_main_cst_0, val_main_cst_1]
  rfl

theorem center_ref (s : Fin 8192) (l : Fin 1024) : val_main_v6 (F := Ideal) x3 (ix2 s l) = center (row x3 s) l := by
  rw [center, ← mean_ref]
  generalize e : val_main_v4 (F := Ideal) x3 = z
  pointwise [val_main_v6, val_main_v5, e]

theorem center_ref' (s : Fin 8192) (l : Fin 1024) : val_main_v15 (F := Ideal) x3 (ix2 s l) = center (row x3 s) l := by
  rw [center, ← mean_ref]
  generalize e : val_main_v4 (F := Ideal) x3 = z
  pointwise [val_main_v15, val_main_v14, e]

theorem spread_ref (s : Fin 8192) : val_main_v17 (F := Ideal) x3 (ix2 s 0) = variance (row x3 s) + eps := by
  have h := center_ref x3 s
  generalize e : val_main_v6 (F := Ideal) x3 = z at h
  pointwise [val_main_v17, val_main_v16, val_main_v13, val_main_v12, val_main_v11, val_main_v10, val_main_v7, val_main_cst_3, val_main_cst_4, val_main_cst_5, e]
  simp only [h]
  rfl

theorem scale_ref (s : Fin 8192) : val_main_v18 (F := Ideal) x3 (ix2 s 0) = scale (row x3 s) := by
  rw [scale, ← spread_ref]
  generalize e : val_main_v17 (F := Ideal) x3 = z
  pointwise [val_main_v18, e]

theorem hat_ref (s : Fin 8192) (l : Fin 1024) : val_main_v23 (F := Ideal) x3 (ix2 s l) = hat (row x3 s) l := by
  rw [hat, ← scale_ref, ← center_ref']
  generalize e : val_main_v15 (F := Ideal) x3 = z
  generalize e' : val_main_v18 (F := Ideal) x3 = w
  pointwise [val_main_v23, val_main_v22, e, e']

theorem slope_ref (s : Fin 8192) : val_main_v21 (F := Ideal) x3 (ix2 s 0) = half * Ideal.div (scale (row x3 s)) (variance (row x3 s) + eps) := by
  rw [← scale_ref, ← spread_ref]
  generalize e : val_main_v17 (F := Ideal) x3 = z
  generalize e' : val_main_v18 (F := Ideal) x3 = w
  pointwise [val_main_v21, val_main_v20, val_main_v19, e, e']
  rfl

/-- The cotangent with the gain multiplied in. -/
theorem gained_ref (s : Fin 8192) (l : Fin 1024) :
    val_main_v47 (F := Ideal) x0 x1 x2 x4 (ix2 s l) = cot x0 x1 x2 (ix2 s l) * x4 (ix1 l) := by
  rw [cot]
  generalize e : val_main_v39 (F := Ideal) x0 x1 x2 = z
  pointwise [val_main_v47, val_main_v46, val_main_v24, e]

theorem scaled_ref (s : Fin 8192) (l : Fin 1024) :
    val_main_v53 (F := Ideal) x0 x1 x2 x3 x4 (ix2 s l) = cot x0 x1 x2 (ix2 s l) * x4 (ix1 l) * scale (row x3 s) := by
  rw [← gained_ref, ← scale_ref]
  generalize e : val_main_v47 (F := Ideal) x0 x1 x2 x4 = z
  generalize e' : val_main_v18 (F := Ideal) x3 = w
  pointwise [val_main_v53, val_main_v52, e, e']

theorem pull_ref (s : Fin 8192) :
    val_main_v59 (F := Ideal) x0 x1 x2 x3 x4 (ix2 s 0) = spread (row x3 s) (row (cot x0 x1 x2) s) fun l => x4 (ix1 l) := by
  rw [spread, ← slope_ref]
  simp only [← center_ref', ← gained_ref]
  generalize e : val_main_v47 (F := Ideal) x0 x1 x2 x4 = z
  generalize e' : val_main_v21 (F := Ideal) x3 = w
  generalize e'' : val_main_v15 (F := Ideal) x3 = v
  pointwise [val_main_v59, val_main_v58, val_main_v54, val_main_v51, val_main_v50, val_main_v49, val_main_cst_13, val_main_cst_15, e, e', e'']
  rfl

theorem through_ref (s : Fin 8192) (l : Fin 1024) :
    val_main_v62 (F := Ideal) x0 x1 x2 x3 x4 (ix2 s l)
      = spread (row x3 s) (row (cot x0 x1 x2) s) (fun l => x4 (ix1 l)) * (two * center (row x3 s) l) := by
  rw [← pull_ref, ← center_ref]
  generalize e : val_main_v59 (F := Ideal) x0 x1 x2 x3 x4 = z
  generalize e' : val_main_v6 (F := Ideal) x3 = w
  pointwise [val_main_v62, val_main_v61, val_main_v60, val_main_v9, val_main_v8, val_main_cst_16, val_main_cst_2, e, e']
  simp only [Finset.univ_unique, Finset.sum_singleton]
  rfl

/-- The reference's cotangent of the layer norm's input. -/
theorem back_ref (s : Fin 8192) (l : Fin 1024) :
    val_main_v72 (F := Ideal) x0 x1 x2 x3 x4 (ix2 s l) = chain (row x3 s) (row (cot x0 x1 x2) s) (fun l => x4 (ix1 l)) l := by
  rw [chain]
  simp only [← through_ref, ← scaled_ref]
  generalize e : val_main_v53 (F := Ideal) x0 x1 x2 x3 x4 = z
  generalize e' : val_main_v62 (F := Ideal) x0 x1 x2 x3 x4 = w
  pointwise [val_main_v72, val_main_v71, val_main_v70, val_main_v69, val_main_v68, val_main_v67, val_main_v66, val_main_v65, val_main_v64, val_main_v63, val_main_v57, val_main_v56, val_main_v55, val_main_cst_14, val_main_cst_17, val_main_cst_18, val_main_cst_19, e, e']
  simp only [Finset.univ_unique, Finset.sum_singleton]
  rfl

theorem gain_ref (l : Fin 1024) :
    val_main_v74 (F := Ideal) x0 x1 x2 x3 (ix2 0 l) = ∑ s : Fin 8192, hat (row x3 s) l * cot x0 x1 x2 (ix2 s l) := by
  simp only [← hat_ref, cot]
  generalize e : val_main_v39 (F := Ideal) x0 x1 x2 = z
  generalize e' : val_main_v23 (F := Ideal) x3 = w
  pointwise [val_main_v74, val_main_v48, val_main_v45, val_main_v44, val_main_v43, val_main_cst_11, val_main_cst_12, e, e']
  simp only [Finset.univ_unique, Finset.sum_singleton]

theorem bias_ref (l : Fin 1024) :
    val_main_v75 (F := Ideal) x0 x1 x2 (ix2 0 l) = ∑ s : Fin 8192, cot x0 x1 x2 (ix2 s l) := by
  rw [cot]
  generalize e : val_main_v39 (F := Ideal) x0 x1 x2 = z
  pointwise [val_main_v75, val_main_v42, val_main_v41, val_main_v40, val_main_cst_9, val_main_cst_10, e]
  simp only [Finset.univ_unique, Finset.sum_singleton]

end

/-- The reference ends with its arguments unchanged. -/
theorem frame_ref (m : (ℓ : Loc Cert.InARefIdeal.nD Cert.InARefIdeal.τ Cert.InARefIdeal.sig) → Buf (Elt Ideal) ℓ) (g : Dev Cert.InARefIdeal.nD → PrngReg) :
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1)
      ∧ r.2.mem ((c.tc : Thread Cert.InARefIdeal.nD Cert.InARefIdeal.τ).loc Cert.InARefIdeal.main_arg2) = m ((c.tc : Thread Cert.InARefIdeal.nD Cert.InARefIdeal.τ).loc Cert.InARefIdeal.main_arg2)
      ∧ r.2.mem ((c.tc : Thread Cert.InARefIdeal.nD Cert.InARefIdeal.τ).loc Cert.InARefIdeal.main_arg3) = m ((c.tc : Thread Cert.InARefIdeal.nD Cert.InARefIdeal.τ).loc Cert.InARefIdeal.main_arg3)
      ∧ r.2.mem ((c.tc : Thread Cert.InARefIdeal.nD Cert.InARefIdeal.τ).loc Cert.InARefIdeal.main_arg4) = m ((c.tc : Thread Cert.InARefIdeal.nD Cert.InARefIdeal.τ).loc Cert.InARefIdeal.main_arg4))
      ∧ r.2.sem = fun _ => 0) :=
  (θ_run Cert.InARefIdeal.defs _ _).mono (fun r h => ⟨fun c => (h c).2.2.2.2, sem_eq_zero_of_no_sems (by decide) r.2⟩) (Cert.InARefIdeal.Value.run m g)

section

open Cert.InAIdeal.Hand

variable (m : (ℓ : Loc Cert.InAIdeal.nD Cert.InAIdeal.τ Cert.InAIdeal.sig) → Buf (Elt Ideal) ℓ) (c : Dev Cert.InAIdeal.nD)

theorem cot_eq (s : Fin 8192) (l : Fin 1024) : cot (m ((c.tc : Thread Cert.InAIdeal.nD Cert.InAIdeal.τ).loc Cert.InAIdeal.main_arg0)) (m ((c.tc : Thread Cert.InAIdeal.nD Cert.InAIdeal.τ).loc Cert.InAIdeal.main_arg1)) (m ((c.tc : Thread Cert.InAIdeal.nD Cert.InAIdeal.τ).loc Cert.InAIdeal.main_arg2)) (ix2 s l) = cotRow m c s l := by
  rw [cot_ref]
  rfl

theorem gain_eq : val_main_v74 (F := Ideal) (m ((c.tc : Thread Cert.InAIdeal.nD Cert.InAIdeal.τ).loc Cert.InAIdeal.main_arg0)) (m ((c.tc : Thread Cert.InAIdeal.nD Cert.InAIdeal.τ).loc Cert.InAIdeal.main_arg1)) (m ((c.tc : Thread Cert.InAIdeal.nD Cert.InAIdeal.τ).loc Cert.InAIdeal.main_arg2)) (m ((c.tc : Thread Cert.InAIdeal.nD Cert.InAIdeal.τ).loc Cert.InAIdeal.main_arg3)) = fun i => gainGrad m c (i 1) := funext fun i => by
  idx_vars i
  obtain rfl : i0 = 0 := Fin.ext (by have := i0.isLt; omega)
  rw [gain_ref]
  refine Finset.sum_congr rfl fun s _ => ?_
  rw [cot_eq, mul_comm]
  rfl

theorem bias_eq : val_main_v75 (F := Ideal) (m ((c.tc : Thread Cert.InAIdeal.nD Cert.InAIdeal.τ).loc Cert.InAIdeal.main_arg0)) (m ((c.tc : Thread Cert.InAIdeal.nD Cert.InAIdeal.τ).loc Cert.InAIdeal.main_arg1)) (m ((c.tc : Thread Cert.InAIdeal.nD Cert.InAIdeal.τ).loc Cert.InAIdeal.main_arg2)) = fun i => biasGrad m c (i 1) := funext fun i => by
  idx_vars i
  obtain rfl : i0 = 0 := Fin.ext (by have := i0.isLt; omega)
  rw [bias_ref]
  exact Finset.sum_congr rfl fun s _ => cot_eq m c s _

variable [h : Cert.Pre_in_a_finite.Facts]

/-- What the precondition says: the cotangent of the layer norm's output is a real number everywhere. -/
theorem cot_real (hpre : Cert.Pre_InAIdeal_in_a_finite m) (s : Fin 8192) (l : Fin 1024) : ∃ r : ℝ, cotRow m c s l = (r : EReal) := by
  obtain ⟨h0, h1, h2, h3, h4⟩ := hpre c
  obtain ⟨a, ha⟩ := alpha_coe
  obtain ⟨p, hp⟩ := dot_real (fun k : Fin 2560 => mixCot m c (ix2 s k)) (fun k => mixW m c (ix2 k l)) (fun _ => real_of_half (congrFun h0 _)) (fun _ => real_of_half (congrFun h1 _))
  have hx : resCot m c (ix2 s l) = ((resCot m c (ix2 s l)).toReal : EReal) := Cert.Reals.real_of_bit (congrFun h2 _)
  exact ⟨a * (resCot m c (ix2 s l)).toReal + p, by rw [cotRow, hp, ha, EReal.coe_add, EReal.coe_mul, ← hx]⟩

theorem wide_eq (hpre : Cert.Pre_InAIdeal_in_a_finite m) : val_main_v72 (F := Ideal) (m ((c.tc : Thread Cert.InAIdeal.nD Cert.InAIdeal.τ).loc Cert.InAIdeal.main_arg0)) (m ((c.tc : Thread Cert.InAIdeal.nD Cert.InAIdeal.τ).loc Cert.InAIdeal.main_arg1)) (m ((c.tc : Thread Cert.InAIdeal.nD Cert.InAIdeal.τ).loc Cert.InAIdeal.main_arg2)) (m ((c.tc : Thread Cert.InAIdeal.nD Cert.InAIdeal.τ).loc Cert.InAIdeal.main_arg3)) (m ((c.tc : Thread Cert.InAIdeal.nD Cert.InAIdeal.τ).loc Cert.InAIdeal.main_arg4)) = fun i => back m c (i 0) (i 1) := funext fun i => by
  idx_vars i
  rw [back_ref]
  refine Eq.trans ?_ (chain_eq_pulled (inRow m c i0) (cotRow m c i0) (gainRow m c) (fun l => Cert.Reals.real_of_bit (congrFun (hpre c).2.2.2.1 _)) (cot_real m c hpre i0)
    (fun l => Cert.Reals.real_of_bit (congrFun (hpre c).2.2.2.2 _)) i1)
  rw [show row (cot (m ((c.tc : Thread Cert.InAIdeal.nD Cert.InAIdeal.τ).loc Cert.InAIdeal.main_arg0)) (m ((c.tc : Thread Cert.InAIdeal.nD Cert.InAIdeal.τ).loc Cert.InAIdeal.main_arg1)) (m ((c.tc : Thread Cert.InAIdeal.nD Cert.InAIdeal.τ).loc Cert.InAIdeal.main_arg2))) i0 = cotRow m c i0 from funext fun l => cot_eq m c i0 l]
  rfl

theorem narrow_eq (hpre : Cert.Pre_InAIdeal_in_a_finite m) : val_main_v73 (F := Ideal) (m ((c.tc : Thread Cert.InAIdeal.nD Cert.InAIdeal.τ).loc Cert.InAIdeal.main_arg0)) (m ((c.tc : Thread Cert.InAIdeal.nD Cert.InAIdeal.τ).loc Cert.InAIdeal.main_arg1)) (m ((c.tc : Thread Cert.InAIdeal.nD Cert.InAIdeal.τ).loc Cert.InAIdeal.main_arg2)) (m ((c.tc : Thread Cert.InAIdeal.nD Cert.InAIdeal.τ).loc Cert.InAIdeal.main_arg3)) (m ((c.tc : Thread Cert.InAIdeal.nD Cert.InAIdeal.τ).loc Cert.InAIdeal.main_arg4)) = fun i => back m c (i 0) (i 1) :=
  wide_eq m c hpre

/-- The kernel and the reference end with the same cotangent, in both formats, and the same gradients of the gain and of the bias. -/
theorem algebraic : Cert.algebraic_InAIdeal_InARefIdeal_pre_in_a_finite := by
  intro m g m' g' hpre hargs
  refine ⟨_, _, _, _, Cert.InAIdeal.Value.run_blocks m g, ?_⟩
  refine (θ_run Cert.InARefIdeal.defs _ _).mono (fun r h c => ?_) (Cert.InARefIdeal.Value.run m' g')
  obtain ⟨e0, e1, e2, e3, e4⟩ := hargs c
  obtain ⟨r0, r1, r2, r3, ra⟩ := h c
  rw [val_main_v72_eq, e0, e1, e2, e3, e4] at r0
  rw [val_main_v73_eq, e0, e1, e2, e3, e4] at r1
  rw [val_main_v74_eq, e0, e1, e2, e3] at r2
  rw [val_main_v75_eq, e0, e1, e2] at r3
  refine ⟨r0.trans ?_, r1.trans ?_, r2.trans ?_, r3.trans ?_, ra⟩
  · rw [wide_array]
    exact wide_eq m c hpre
  · rw [narrow_array]
    exact narrow_eq m c hpre
  · rw [gain_array]
    exact gain_eq m c
  · rw [bias_array]
    exact bias_eq m c

end

end Cert.InAClaim
-- ==== Proof.InBKernel.lean ====
module

public import proofs.«01_k».proof.Proof.BackSpec
public import proofs.«01_k».proof.Proof.Gen.InBIdeal.Value
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.PureOps.Ideal.Laws

@[expose] public section

set_option maxRecDepth 16384

noncomputable section

/-! The four arrays that the backward product of the mixers' input and the layer norm's cotangent leave, at every index. -/

namespace Cert.InBIdeal.Hand

open Cert.InBIdeal Cert.InBIdeal.Gen Idealize.ShloMosaic Idealize.ShloMosaic.TcCoe Idealize.SL.Sem Cert.NormSpec Cert.BackSpec

theorem where0 : ∀ t : Fin cfg0.N, win0_0.index t = ![t.val, 0] := (by decide +kernel : ∀ t : Fin grid0.N, _)
theorem where1 : ∀ t : Fin cfg0.N, win0_1.index t = ![0, 0] := (by decide +kernel : ∀ t : Fin grid0.N, _)
theorem where2 : ∀ t : Fin cfg0.N, win0_2.index t = ![t.val, 0] := (by decide +kernel : ∀ t : Fin grid0.N, _)
theorem where3 : ∀ t : Fin cfg0.N, win0_3.index t = ![t.val, 0] := (by decide +kernel : ∀ t : Fin grid0.N, _)
theorem where4 : ∀ t : Fin cfg0.N, win0_4.index t = ![0, 0] := (by decide +kernel : ∀ t : Fin grid0.N, _)
theorem where5 : ∀ t : Fin cfg0.N, win0_5.index t = ![t.val, 0] := (by decide +kernel : ∀ t : Fin grid0.N, _)
theorem where6 : ∀ t : Fin cfg0.N, win0_6.index t = ![t.val, 0] := (by decide +kernel : ∀ t : Fin grid0.N, _)
theorem where7 : ∀ t : Fin cfg0.N, win0_7.index t = ![0, 0] := (by decide +kernel : ∀ t : Fin grid0.N, _)
theorem where8 : ∀ t : Fin cfg0.N, win0_8.index t = ![0, 0] := (by decide +kernel : ∀ t : Fin grid0.N, _)

theorem cotangent_apply (x : Vec Ideal S512x1024 .f32) (a : Vec Ideal S512x1792 .bf16) (w : Vec Ideal S1792x1024 .bf16) (r : Fin 512) (l : Fin 1024) :
    k0_pay5 x a w (ix2 r l) = alpha * x (ix2 r l) + ∑ k : Fin 1792, a (ix2 r k) * w (ix2 k l) := by
  pointwise [k0_pay5]
  rfl

theorem center_apply (z : Vec Ideal S512x1024 .f32) (r : Fin 512) (l : Fin 1024) : k0_pay8 z (ix2 r l) = center (fun l => z (ix2 r l)) l := by
  pointwise [k0_pay8]
  rfl

theorem scale_apply (z : Vec Ideal S512x1024 .f32) (r : Fin 512) : k0_pay9 z (ix2 r 0) = scale fun l => z (ix2 r l) := by
  pointwise [k0_pay9]
  simp only [center_apply]
  rfl

theorem hat_apply (z : Vec Ideal S512x1024 .f32) (r : Fin 512) (l : Fin 1024) : k0_pay10 z (ix2 r l) = hat (fun l => z (ix2 r l)) l := by
  pointwise [k0_pay10]
  rw [center_apply, scale_apply]
  rfl

theorem gained_apply (x : Vec Ideal S512x1024 .f32) (a : Vec Ideal S512x1792 .bf16) (w : Vec Ideal S1792x1024 .bf16) (g : Vec Ideal S1x1024 .f32) (r : Fin 512) (l : Fin 1024) :
    k0_pay11 x a w g (ix2 r l) = k0_pay5 x a w (ix2 r l) * g (ix2 0 l) := by
  generalize e : k0_pay5 x a w = y
  pointwise [k0_pay11, e]

theorem mean_apply (x : Vec Ideal S512x1024 .f32) (a : Vec Ideal S512x1792 .bf16) (w : Vec Ideal S1792x1024 .bf16) (g : Vec Ideal S1x1024 .f32) (r : Fin 512) :
    k0_pay12 x a w g (ix2 r 0) = mean fun k => k0_pay11 x a w g (ix2 r k) := by
  generalize e : k0_pay11 x a w g = y
  pointwise [k0_pay12, e]
  rfl

theorem along_apply (x : Vec Ideal S512x1024 .f32) (a : Vec Ideal S512x1792 .bf16) (w : Vec Ideal S1792x1024 .bf16) (z : Vec Ideal S512x1024 .f32) (g : Vec Ideal S1x1024 .f32)
    (r : Fin 512) (l : Fin 1024) : k0_pay13 x a w z g (ix2 r l) = k0_pay11 x a w g (ix2 r l) * k0_pay10 z (ix2 r l) := rfl

/-- A row of the cotangent, from the row's parts. -/
theorem pulled_apply (s : Vec Ideal S512x1 .f32) (h q : Vec Ideal S512x1024 .f32) (n : Vec Ideal S512x1 .f32) (p : Vec Ideal S512x1024 .f32) (r : Fin 512) (l : Fin 1024) :
    k0_pay1 (F := Ideal) s h q n p (ix2 r l) = s (ix2 r 0) * ((q (ix2 r l) - n (ix2 r 0)) - h (ix2 r l) * mean fun k => p (ix2 r k)) := by
  pointwise [k0_pay1]
  rfl

theorem gain_step (y h : Vec Ideal S512x1024 .f32) (acc : Vec Ideal S1x1024 .f32) (l : Fin 1024) :
    k0_pay3 (F := Ideal) y h acc (ix2 0 l) = acc (ix2 0 l) + ∑ r : Fin 512, y (ix2 r l) * h (ix2 r l) := by
  pointwise [k0_pay3]

theorem bias_step (y : Vec Ideal S512x1024 .f32) (acc : Vec Ideal S1x1024 .f32) (l : Fin 1024) :
    k0_pay4 (F := Ideal) y acc (ix2 0 l) = acc (ix2 0 l) + ∑ r : Fin 512, y (ix2 r l) := by
  pointwise [k0_pay4]

theorem gain_fill (l : Fin 1024) : k0_pay6 (F := Ideal) (ix2 0 l) = 0 := by
  pointwise [k0_pay6]

theorem bias_fill (l : Fin 1024) : k0_pay7 (F := Ideal) (ix2 0 l) = 0 := by
  pointwise [k0_pay7]

variable (m : (ℓ : Loc nD τ sig) → Buf (Elt Ideal) ℓ) (c : Dev nD)

theorem block0 (t : Fin cfg0.N) (r : Fin 512) (k : Fin 1792) :
    iblk m c 0 t (ix2 r k : S512x1792.Idx) = m ((c : Thread nD τ).loc main_arg0) (ix2 ⟨t.val * 512 + r.val, by have := t.isLt; have : cfg0.N = 16 := N_0; omega⟩ k : S8192x1792.Idx) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (k : Fin 1792) (l : Fin 1024) :
    iblk m c 1 t (ix2 k l : S1792x1024.Idx) = m ((c : Thread nD τ).loc main_arg1) (ix2 k l : S1792x1024.Idx) := by
  blk_simp [iblk]
  rw [V_main_arg1]
  refine congrArg _ (funext fun a => Fin.ext ?_)
  match a with
  | ⟨0, _⟩ => blk_simp [where1]
  | ⟨1, _⟩ => blk_simp [where1]

theorem block2 (t : Fin cfg0.N) (r : Fin 512) (l : Fin 1024) :
    iblk m c 2 t (ix2 r l : S512x1024.Idx) = m ((c : Thread nD τ).loc main_arg2) (ix2 ⟨t.val * 512 + r.val, by have := t.isLt; have : cfg0.N = 16 := N_0; omega⟩ l : S8192x1024.Idx) := by
  blk_simp [iblk]
  rw [V_main_arg2]
  refine congrArg _ (funext fun a => Fin.ext ?_)
  match a with
  | ⟨0, _⟩ => blk_simp [where2]
  | ⟨1, _⟩ => blk_simp [where2]

theorem block3 (t : Fin cfg0.N) (r : Fin 512) (l : Fin 1024) :
    iblk m c 3 t (ix2 r l : S512x1024.Idx) = m ((c : Thread nD τ).loc main_arg3) (ix2 ⟨t.val * 512 + r.val, by have := t.isLt; have : cfg0.N = 16 := N_0; omega⟩ l : S8192x1024.Idx) := by
  blk_simp [iblk]
  rw [V_main_arg3]
  refine congrArg _ (funext fun a => Fin.ext ?_)
  match a with
  | ⟨0, _⟩ => blk_simp [where3]
  | ⟨1, _⟩ => blk_simp [where3]

theorem gain_row (l : Fin 1024) : V m c main_v0 (ix2 0 l : S1x1024.Idx) = m ((c : Thread nD τ).loc main_arg4) (ix1 l : S1024.Idx) := by
  unfold V
  after_reads_at

theorem block4 (t : Fin cfg0.N) (l : Fin 1024) :
    iblk m c 4 t (ix2 0 l : S1x1024.Idx) = m ((c : Thread nD τ).loc main_arg4) (ix1 l : S1024.Idx) := by
  refine Eq.trans ?_ (gain_row m c l)
  blk_simp [iblk]
  refine congrArg _ (funext fun a => Fin.ext ?_)
  match a with
  | ⟨0, _⟩ => blk_simp [where4]
  | ⟨1, _⟩ => blk_simp [where4]

/-- The cotangent of the layer norm's output at a grid point, and the block of the layer norm's input. -/
abbrev cotBlk (t : Fin cfg0.N) : Vec Ideal S512x1024 .f32 := k0_pay5 (iblk m c 2 t) (iblk m c 0 t) (iblk m c 1 t)

/-- The cotangent of the layer norm's input at a grid point. -/
abbrev backBlk (t : Fin cfg0.N) : Vec Ideal S512x1024 .f32 :=
  k0_pay1 (F := Ideal) (k0_pay9 (iblk m c 3 t)) (k0_pay10 (iblk m c 3 t)) (k0_pay11 (iblk m c 2 t) (iblk m c 0 t) (iblk m c 1 t) (iblk m c 4 t))
    (k0_pay12 (iblk m c 2 t) (iblk m c 0 t) (iblk m c 1 t) (iblk m c 4 t)) (k0_pay13 (iblk m c 2 t) (iblk m c 0 t) (iblk m c 1 t) (iblk m c 3 t) (iblk m c 4 t))

theorem flush5 (t : Fin cfg0.N) (y : S512x1024.Idx) : (dats m 0 c).flushed 5 t y = backBlk m c t y := by
  by_cases h : t.val % 16 = 0
  · rw [Value.flushed5_A m c t h]
    frame_out
    rfl
  · rw [Value.flushed5_B m c t h]
    frame_out
    rfl

theorem flush6 (t : Fin cfg0.N) (y : S512x1024.Idx) : (dats m 0 c).flushed 6 t y = backBlk m c t y := by
  by_cases h : t.val % 16 = 0
  · rw [Value.flushed6_A m c t h]
    frame_out
    rfl
  · rw [Value.flushed6_B m c t h]
    frame_out
    rfl

theorem gain_first (t : Fin cfg0.N) (h : t.val % 16 = 0) (y : S1x1024.Idx) :
    (outsAt0 m c t.val t.isLt).2.2.1 y = k0_pay3 (F := Ideal) (cotBlk m c t) (k0_pay10 (iblk m c 3 t)) (k0_pay6 (F := Ideal)) y := by
  rw [outsAt0_A m c t h]
  dsimp only
  frame_open
  simp (disch := decide) only [↓ View.readCov_skip, ↓ View.readCov_cons_toLoadRect, ↓ View.readCov_fill]
  frame_out

theorem gain_next (t : Fin cfg0.N) (h : ¬t.val % 16 = 0) (y : S1x1024.Idx) :
    (outsAt0 m c t.val t.isLt).2.2.1 y
      = k0_pay3 (F := Ideal) (cotBlk m c t) (k0_pay10 (iblk m c 3 t)) (outsAt0 m c (t.val - 1) (Nat.lt_of_le_of_lt (Nat.sub_le _ _) t.isLt)).2.2.1 y := by
  rw [outsAt0_B m c t h]
  dsimp only
  frame_open
  simp (disch := decide) only [↓ View.readCov_skip, ↓ View.readCov_cons_toLoadRect, ↓ View.readCov_fill]
  frame_out

theorem bias_first (t : Fin cfg0.N) (h : t.val % 16 = 0) (y : S1x1024.Idx) :
    (outsAt0 m c t.val t.isLt).2.2.2 y = k0_pay4 (F := Ideal) (cotBlk m c t) (k0_pay7 (F := Ideal)) y := by
  rw [outsAt0_A m c t h]
  dsimp only
  frame_open
  simp (disch := decide) only [↓ View.readCov_skip, ↓ View.readCov_cons_toLoadRect, ↓ View.readCov_fill]
  frame_out

theorem bias_next (t : Fin cfg0.N) (h : ¬t.val % 16 = 0) (y : S1x1024.Idx) :
    (outsAt0 m c t.val t.isLt).2.2.2 y
      = k0_pay4 (F := Ideal) (cotBlk m c t) (outsAt0 m c (t.val - 1) (Nat.lt_of_le_of_lt (Nat.sub_le _ _) t.isLt)).2.2.2 y := by
  rw [outsAt0_B m c t h]
  dsimp only
  frame_open
  simp (disch := decide) only [↓ View.readCov_skip, ↓ View.readCov_cons_toLoadRect, ↓ View.readCov_fill]
  frame_out

/-- The arrays that the program is given. -/
abbrev mixCot : S8192x1792.Idx → EReal := m ((c : Thread nD τ).loc main_arg0)
abbrev mixW : S1792x1024.Idx → EReal := m ((c : Thread nD τ).loc main_arg1)
abbrev resCot : S8192x1024.Idx → EReal := m ((c : Thread nD τ).loc main_arg2)
abbrev normIn : S8192x1024.Idx → EReal := m ((c : Thread nD τ).loc main_arg3)
abbrev normGain : S1024.Idx → EReal := m ((c : Thread nD τ).loc main_arg4)

/-- Row `s` of the layer norm's input, the gain, and row `s` of the cotangent of the layer norm's output. -/
def inRow (s : Fin 8192) (l : Fin 1024) : EReal := normIn m c (ix2 s l)
def gainRow (l : Fin 1024) : EReal := normGain m c (ix1 l)
def cotRow (s : Fin 8192) (l : Fin 1024) : EReal :=
  alpha * resCot m c (ix2 s l) + ∑ k : Fin 1792, mixCot m c (ix2 s k) * mixW m c (ix2 k l)

/-- The cotangent of the layer norm's input. -/
def back (s : Fin 8192) (l : Fin 1024) : EReal := pulled (inRow m c s) (cotRow m c s) (gainRow m c) l

theorem cot_point (t : Fin cfg0.N) (r : Fin 512) (l : Fin 1024) :
    cotBlk m c t (ix2 r l) = cotRow m c ⟨t.val * 512 + r.val, by have := t.isLt; have : cfg0.N = 16 := N_0; omega⟩ l := by
  refine (cotangent_apply _ _ _ r l).trans ?_
  rw [block2]
  simp only [block0, block1]
  rfl

theorem hat_point (t : Fin cfg0.N) (r : Fin 512) (l : Fin 1024) :
    k0_pay10 (iblk m c 3 t) (ix2 r l) = hat (inRow m c ⟨t.val * 512 + r.val, by have := t.isLt; have : cfg0.N = 16 := N_0; omega⟩) l := by
  rw [hat_apply]
  simp only [block3]
  rfl

theorem back_point (t : Fin cfg0.N) (r : Fin 512) (l : Fin 1024) :
    backBlk m c t (ix2 r l) = back m c ⟨t.val * 512 + r.val, by have := t.isLt; have : cfg0.N = 16 := N_0; omega⟩ l := by
  refine (pulled_apply _ _ _ _ _ r l).trans ?_
  rw [scale_apply, mean_apply]
  simp only [along_apply, gained_apply, cot_point, hat_point, block3, block4]
  rfl

theorem wide_array : (dats m 0 c).arrAt 5 cfg0.N = fun i : S8192x1024.Idx => back m c (i 0) (i 1) := by
  refine (dats m 0 c).arrAt_eq_of_covers 5 _ (by decide +kernel) fun t hf y => ?_
  refine (flush5 m c t y).trans ?_
  idx_vars y
  rw [back_point]
  refine congrArg₂ (back m c) (Fin.ext ?_) (Fin.ext ?_) <;> blk_simp [where5]

theorem narrow_array : (dats m 0 c).arrAt 6 cfg0.N = fun i : S8192x1024.Idx => back m c (i 0) (i 1) := by
  refine (dats m 0 c).arrAt_eq_of_covers 6 _ (by decide +kernel) fun t hf y => ?_
  refine (flush6 m c t y).trans ?_
  idx_vars y
  rw [back_point]
  refine congrArg₂ (back m c) (Fin.ext ?_) (Fin.ext ?_) <;> blk_simp [where6]

/-- Row `s`'s term of the gain's gradient and of the bias's gradient at lane `l`. -/
def gainTerm (l s : ℕ) : EReal := if h : l < 1024 ∧ s < 8192 then cotRow m c ⟨s, h.2⟩ ⟨l, h.1⟩ * hat (inRow m c ⟨s, h.2⟩) ⟨l, h.1⟩ else 0
def biasTerm (l s : ℕ) : EReal := if h : l < 1024 ∧ s < 8192 then cotRow m c ⟨s, h.2⟩ ⟨l, h.1⟩ else 0

theorem gain_tile (t : Fin cfg0.N) (y : S1x1024.Idx) (acc : Vec Ideal S1x1024 .f32) :
    k0_pay3 (F := Ideal) (cotBlk m c t) (k0_pay10 (iblk m c 3 t)) acc y = acc y + ∑ r : Fin 512, gainTerm m c (y 1).val (t.val * 512 + r.val) := by
  have hN : t.val < 16 := lt_of_lt_of_eq t.isLt N_0
  idx_vars y
  obtain rfl : y0 = 0 := Fin.ext (by have := y0.isLt; omega)
  rw [gain_step]
  refine congrArg _ (Finset.sum_congr rfl fun r _ => ?_)
  rw [cot_point, hat_point, gainTerm, dif_pos ⟨y1.isLt, by omega⟩]

theorem bias_tile (t : Fin cfg0.N) (y : S1x1024.Idx) (acc : Vec Ideal S1x1024 .f32) :
    k0_pay4 (F := Ideal) (cotBlk m c t) acc y = acc y + ∑ r : Fin 512, biasTerm m c (y 1).val (t.val * 512 + r.val) := by
  have hN : t.val < 16 := lt_of_lt_of_eq t.isLt N_0
  idx_vars y
  obtain rfl : y0 = 0 := Fin.ext (by have := y0.isLt; omega)
  rw [bias_step]
  refine congrArg _ (Finset.sum_congr rfl fun r _ => ?_)
  rw [cot_point, biasTerm, dif_pos ⟨y1.isLt, by omega⟩]

theorem gain_flush (t : Fin cfg0.N) (h : t.val % 16 = 15) (y : S1x1024.Idx) :
    (outsAt0 m c t.val t.isLt).2.2.1 y = ∑ s : Fin 8192, gainTerm m c (y 1).val s.val := by
  have hN : t.val < 16 := lt_of_lt_of_eq t.isLt N_0
  rw [Pipeline.eq_sum_fin_of_reset_step_apply_of_flush (fun n h => (outsAt0 m c n h).2.2.1) 16 (fun _ => (0 : EReal))
    (fun t y => ∑ r : Fin 512, gainTerm m c (y 1).val (t.val * 512 + r.val))
    (fun t hc y => (gain_first m c t hc y).trans ((gain_tile m c t y _).trans (congrArg (· + _) (by
      idx_vars y
      obtain rfl : y0 = 0 := Fin.ext (by have := y0.isLt; omega)
      exact gain_fill _))))
    (fun t hc y => (gain_next m c t hc y).trans (gain_tile m c t y _)) t h y]
  have hr : ∀ s : Fin 16, 16 * (t.val / 16) + s.val = s.val := fun s => by omega
  simp only [hr, zero_add]
  exact Fin.sum_mul_add_congr fun s k h => rfl

theorem bias_flush (t : Fin cfg0.N) (h : t.val % 16 = 15) (y : S1x1024.Idx) :
    (outsAt0 m c t.val t.isLt).2.2.2 y = ∑ s : Fin 8192, biasTerm m c (y 1).val s.val := by
  have hN : t.val < 16 := lt_of_lt_of_eq t.isLt N_0
  rw [Pipeline.eq_sum_fin_of_reset_step_apply_of_flush (fun n h => (outsAt0 m c n h).2.2.2) 16 (fun _ => (0 : EReal))
    (fun t y => ∑ r : Fin 512, biasTerm m c (y 1).val (t.val * 512 + r.val))
    (fun t hc y => (bias_first m c t hc y).trans ((bias_tile m c t y _).trans (congrArg (· + _) (by
      idx_vars y
      obtain rfl : y0 = 0 := Fin.ext (by have := y0.isLt; omega)
      exact bias_fill _))))
    (fun t hc y => (bias_next m c t hc y).trans (bias_tile m c t y _)) t h y]
  have hr : ∀ s : Fin 16, 16 * (t.val / 16) + s.val = s.val := fun s => by omega
  simp only [hr, zero_add]
  exact Fin.sum_mul_add_congr fun s k h => rfl

/-- The gradients of the gain and of the bias at lane `l`: sums over all rows. -/
def gainGrad (l : Fin 1024) : EReal := ∑ s : Fin 8192, cotRow m c s l * hat (inRow m c s) l
def biasGrad (l : Fin 1024) : EReal := ∑ s : Fin 8192, cotRow m c s l

theorem gainGrad_eq (l : Fin 1024) : gainGrad m c l = ∑ s : Fin 8192, gainTerm m c l.val s.val :=
  Finset.sum_congr rfl fun s _ => by rw [gainTerm, dif_pos ⟨l.isLt, s.isLt⟩]

theorem biasGrad_eq (l : Fin 1024) : biasGrad m c l = ∑ s : Fin 8192, biasTerm m c l.val s.val :=
  Finset.sum_congr rfl fun s _ => by rw [biasTerm, dif_pos ⟨l.isLt, s.isLt⟩]

theorem gain_array : (dats m 0 c).arrAt 7 cfg0.N = fun i : S1x1024.Idx => gainGrad m c (i 1) := by
  refine (dats m 0 c).arrAt_eq_of_covers 7 _ (by decide +kernel) fun t hf y => ?_
  have h := gain_flush m c t ((flush0_7 t).mp hf) y
  blk_simp
  rw [after0_7, h]
  refine Eq.trans ?_ (gainGrad_eq m c _).symm
  blk_simp [where7]

theorem bias_array : (dats m 0 c).arrAt 8 cfg0.N = fun i : S1x1024.Idx => biasGrad m c (i 1) := by
  refine (dats m 0 c).arrAt_eq_of_covers 8 _ (by decide +kernel) fun t hf y => ?_
  have h := bias_flush m c t ((flush0_8 t).mp hf) y
  blk_simp
  rw [after0_8, h]
  refine Eq.trans ?_ (biasGrad_eq m c _).symm
  blk_simp [where8]

end Cert.InBIdeal.Hand
-- ==== Proof.InBClaim.lean ====
module

public import proofs.«01_k».proof.Defs
public import proofs.«01_k».proof.Proof.InBKernel
public import proofs.«01_k».proof.Proof.GateSpec
public import proofs.«01_k».proof.Proof.Gen.InBRefIdeal.Run
public import proofs.«01_k».proof.Proof.Gen.InBRefIdeal.Read

@[expose] public section

set_option maxRecDepth 16384

noncomputable section

/-! The claims about the backward product of the mixers' input with the layer norm's cotangent. -/

namespace Cert.InBClaim

open Idealize.ShloMosaic Idealize.ShloMosaic.TcCoe Idealize.SL.Sem Cert.InBRefIdeal Cert.InBRefIdeal.Read Cert.NormSpec Cert.BackSpec Cert.GateSpec

/-- The side conditions that the precondition states. -/
theorem pre_facts : Cert.Pre_in_b_finite.Facts where
  bcast_S_S8192x1792 := by decide
  bcast_S_S1792x1024 := by decide
  bcast_S_S8192x1024 := by decide
  bcast_S_S1024 := by decide

section

variable (x0 : S8192x1792.Idx → EReal) (x1 : S1792x1024.Idx → EReal) (x2 x3 : S8192x1024.Idx → EReal) (x4 : S1024.Idx → EReal)

/-- Row `s` of an array. -/
abbrev row (x : S8192x1024.Idx → EReal) (s : Fin 8192) : Fin 1024 → EReal := fun l => x (ix2 s l)

/-- The reference's cotangent of the layer norm's output. -/
abbrev cot : S8192x1024.Idx → EReal := val_main_v39 (F := Ideal) x0 x1 x2

theorem cot_ref (s : Fin 8192) (l : Fin 1024) :
    cot x0 x1 x2 (ix2 s l) = alpha * x2 (ix2 s l) + ∑ k : Fin 1792, x0 (ix2 s k) * x1 (ix2 k l) := by
  pointwise [val_main_v39, val_main_v38, val_main_v37, val_main_v36, val_main_v35, val_main_v31, val_main_v30]
  rfl

theorem mean_ref (s : Fin 8192) : val_main_v4 (F := Ideal) x3 (ix2 s 0) = mean (row x3 s) := by
  pointwise [val_main_v4, val_main_v3, val_main_v2, val_main_v1, val_main_cst_0, val_main_cst_1]
  rfl

theorem center_ref (s : Fin 8192) (l : Fin 1024) : val_main_v6 (F := Ideal) x3 (ix2 s l) = center (row x3 s) l := by
  rw [center, ← mean_ref]
  generalize e : val_main_v4 (F := Ideal) x3 = z
  pointwise [val_main_v6, val_main_v5, e]

theorem center_ref' (s : Fin 8192) (l : Fin 1024) : val_main_v15 (F := Ideal) x3 (ix2 s l) = center (row x3 s) l := by
  rw [center, ← mean_ref]
  generalize e : val_main_v4 (F := Ideal) x3 = z
  pointwise [val_main_v15, val_main_v14, e]

theorem spread_ref (s : Fin 8192) : val_main_v17 (F := Ideal) x3 (ix2 s 0) = variance (row x3 s) + eps := by
  have h := center_ref x3 s
  generalize e : val_main_v6 (F := Ideal) x3 = z at h
  pointwise [val_main_v17, val_main_v16, val_main_v13, val_main_v12, val_main_v11, val_main_v10, val_main_v7, val_main_cst_3, val_main_cst_4, val_main_cst_5, e]
  simp only [h]
  rfl

theorem scale_ref (s : Fin 8192) : val_main_v18 (F := Ideal) x3 (ix2 s 0) = scale (row x3 s) := by
  rw [scale, ← spread_ref]
  generalize e : val_main_v17 (F := Ideal) x3 = z
  pointwise [val_main_v18, e]

theorem hat_ref (s : Fin 8192) (l : Fin 1024) : val_main_v23 (F := Ideal) x3 (ix2 s l) = hat (row x3 s) l := by
  rw [hat, ← scale_ref, ← center_ref']
  generalize e : val_main_v15 (F := Ideal) x3 = z
  generalize e' : val_main_v18 (F := Ideal) x3 = w
  pointwise [val_main_v23, val_main_v22, e, e']

theorem slope_ref (s : Fin 8192) : val_main_v21 (F := Ideal) x3 (ix2 s 0) = half * Ideal.div (scale (row x3 s)) (variance (row x3 s) + eps) := by
  rw [← scale_ref, ← spread_ref]
  generalize e : val_main_v17 (F := Ideal) x3 = z
  generalize e' : val_main_v18 (F := Ideal) x3 = w
  pointwise [val_main_v21, val_main_v20, val_main_v19, e, e']
  rfl

/-- The cotangent with the gain multiplied in. -/
theorem gained_ref (s : Fin 8192) (l : Fin 1024) :
    val_main_v47 (F := Ideal) x0 x1 x2 x4 (ix2 s l) = cot x0 x1 x2 (ix2 s l) * x4 (ix1 l) := by
  rw [cot]
  generalize e : val_main_v39 (F := Ideal) x0 x1 x2 = z
  pointwise [val_main_v47, val_main_v46, val_main_v24, e]

theorem scaled_ref (s : Fin 8192) (l : Fin 1024) :
    val_main_v53 (F := Ideal) x0 x1 x2 x3 x4 (ix2 s l) = cot x0 x1 x2 (ix2 s l) * x4 (ix1 l) * scale (row x3 s) := by
  rw [← gained_ref, ← scale_ref]
  generalize e : val_main_v47 (F := Ideal) x0 x1 x2 x4 = z
  generalize e' : val_main_v18 (F := Ideal) x3 = w
  pointwise [val_main_v53, val_main_v52, e, e']

theorem pull_ref (s : Fin 8192) :
    val_main_v59 (F := Ideal) x0 x1 x2 x3 x4 (ix2 s 0) = spread (row x3 s) (row (cot x0 x1 x2) s) fun l => x4 (ix1 l) := by
  rw [spread, ← slope_ref]
  simp only [← center_ref', ← gained_ref]
  generalize e : val_main_v47 (F := Ideal) x0 x1 x2 x4 = z
  generalize e' : val_main_v21 (F := Ideal) x3 = w
  generalize e'' : val_main_v15 (F := Ideal) x3 = v
  pointwise [val_main_v59, val_main_v58, val_main_v54, val_main_v51, val_main_v50, val_main_v49, val_main_cst_13, val_main_cst_15, e, e', e'']
  rfl

theorem through_ref (s : Fin 8192) (l : Fin 1024) :
    val_main_v62 (F := Ideal) x0 x1 x2 x3 x4 (ix2 s l)
      = spread (row x3 s) (row (cot x0 x1 x2) s) (fun l => x4 (ix1 l)) * (two * center (row x3 s) l) := by
  rw [← pull_ref, ← center_ref]
  generalize e : val_main_v59 (F := Ideal) x0 x1 x2 x3 x4 = z
  generalize e' : val_main_v6 (F := Ideal) x3 = w
  pointwise [val_main_v62, val_main_v61, val_main_v60, val_main_v9, val_main_v8, val_main_cst_16, val_main_cst_2, e, e']
  simp only [Finset.univ_unique, Finset.sum_singleton]
  rfl

/-- The reference's cotangent of the layer norm's input. -/
theorem back_ref (s : Fin 8192) (l : Fin 1024) :
    val_main_v72 (F := Ideal) x0 x1 x2 x3 x4 (ix2 s l) = chain (row x3 s) (row (cot x0 x1 x2) s) (fun l => x4 (ix1 l)) l := by
  rw [chain]
  simp only [← through_ref, ← scaled_ref]
  generalize e : val_main_v53 (F := Ideal) x0 x1 x2 x3 x4 = z
  generalize e' : val_main_v62 (F := Ideal) x0 x1 x2 x3 x4 = w
  pointwise [val_main_v72, val_main_v71, val_main_v70, val_main_v69, val_main_v68, val_main_v67, val_main_v66, val_main_v65, val_main_v64, val_main_v63, val_main_v57, val_main_v56, val_main_v55, val_main_cst_14, val_main_cst_17, val_main_cst_18, val_main_cst_19, e, e']
  simp only [Finset.univ_unique, Finset.sum_singleton]
  rfl

theorem gain_ref (l : Fin 1024) :
    val_main_v74 (F := Ideal) x0 x1 x2 x3 (ix2 0 l) = ∑ s : Fin 8192, hat (row x3 s) l * cot x0 x1 x2 (ix2 s l) := by
  simp only [← hat_ref, cot]
  generalize e : val_main_v39 (F := Ideal) x0 x1 x2 = z
  generalize e' : val_main_v23 (F := Ideal) x3 = w
  pointwise [val_main_v74, val_main_v48, val_main_v45, val_main_v44, val_main_v43, val_main_cst_11, val_main_cst_12, e, e']
  simp only [Finset.univ_unique, Finset.sum_singleton]

theorem bias_ref (l : Fin 1024) :
    val_main_v75 (F := Ideal) x0 x1 x2 (ix2 0 l) = ∑ s : Fin 8192, cot x0 x1 x2 (ix2 s l) := by
  rw [cot]
  generalize e : val_main_v39 (F := Ideal) x0 x1 x2 = z
  pointwise [val_main_v75, val_main_v42, val_main_v41, val_main_v40, val_main_cst_9, val_main_cst_10, e]
  simp only [Finset.univ_unique, Finset.sum_singleton]

end

/-- The reference ends with its arguments unchanged. -/
theorem frame_ref (m : (ℓ : Loc Cert.InBRefIdeal.nD Cert.InBRefIdeal.τ Cert.InBRefIdeal.sig) → Buf (Elt Ideal) ℓ) (g : Dev Cert.InBRefIdeal.nD → PrngReg) :
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2)
      ∧ r.2.mem ((c.tc : Thread Cert.InBRefIdeal.nD Cert.InBRefIdeal.τ).loc Cert.InBRefIdeal.main_arg3) = m ((c.tc : Thread Cert.InBRefIdeal.nD Cert.InBRefIdeal.τ).loc Cert.InBRefIdeal.main_arg3)
      ∧ r.2.mem ((c.tc : Thread Cert.InBRefIdeal.nD Cert.InBRefIdeal.τ).loc Cert.InBRefIdeal.main_arg4) = m ((c.tc : Thread Cert.InBRefIdeal.nD Cert.InBRefIdeal.τ).loc Cert.InBRefIdeal.main_arg4))
      ∧ r.2.sem = fun _ => 0) :=
  (θ_run Cert.InBRefIdeal.defs _ _).mono (fun r h => ⟨fun c => (h c).2.2.2.2, sem_eq_zero_of_no_sems (by decide) r.2⟩) (Cert.InBRefIdeal.Value.run m g)

section

open Cert.InBIdeal.Hand

variable (m : (ℓ : Loc Cert.InBIdeal.nD Cert.InBIdeal.τ Cert.InBIdeal.sig) → Buf (Elt Ideal) ℓ) (c : Dev Cert.InBIdeal.nD)

theorem cot_eq (s : Fin 8192) (l : Fin 1024) : cot (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (ix2 s l) = cotRow m c s l := by
  rw [cot_ref]
  rfl

theorem gain_eq : val_main_v74 (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) = fun i => gainGrad m c (i 1) := funext fun i => by
  idx_vars i
  obtain rfl : i0 = 0 := Fin.ext (by have := i0.isLt; omega)
  rw [gain_ref]
  refine Finset.sum_congr rfl fun s _ => ?_
  rw [cot_eq, mul_comm]
  rfl

theorem bias_eq : val_main_v75 (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) = fun i => biasGrad m c (i 1) := funext fun i => by
  idx_vars i
  obtain rfl : i0 = 0 := Fin.ext (by have := i0.isLt; omega)
  rw [bias_ref]
  exact Finset.sum_congr rfl fun s _ => cot_eq m c s _

variable [h : Cert.Pre_in_b_finite.Facts]

/-- What the precondition says: the cotangent of the layer norm's output is a real number everywhere. -/
theorem cot_real (hpre : Cert.Pre_InBIdeal_in_b_finite m) (s : Fin 8192) (l : Fin 1024) : ∃ r : ℝ, cotRow m c s l = (r : EReal) := by
  obtain ⟨h0, h1, h2, h3, h4⟩ := hpre c
  obtain ⟨a, ha⟩ := alpha_coe
  obtain ⟨p, hp⟩ := dot_real (fun k : Fin 1792 => mixCot m c (ix2 s k)) (fun k => mixW m c (ix2 k l)) (fun _ => real_of_half (congrFun h0 _)) (fun _ => real_of_half (congrFun h1 _))
  have hx : resCot m c (ix2 s l) = ((resCot m c (ix2 s l)).toReal : EReal) := Cert.Reals.real_of_bit (congrFun h2 _)
  exact ⟨a * (resCot m c (ix2 s l)).toReal + p, by rw [cotRow, hp, ha, EReal.coe_add, EReal.coe_mul, ← hx]⟩

theorem wide_eq (hpre : Cert.Pre_InBIdeal_in_b_finite m) : val_main_v72 (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4)) = fun i => back m c (i 0) (i 1) := funext fun i => by
  idx_vars i
  rw [back_ref]
  refine Eq.trans ?_ (chain_eq_pulled (inRow m c i0) (cotRow m c i0) (gainRow m c) (fun l => Cert.Reals.real_of_bit (congrFun (hpre c).2.2.2.1 _)) (cot_real m c hpre i0)
    (fun l => Cert.Reals.real_of_bit (congrFun (hpre c).2.2.2.2 _)) i1)
  rw [show row (cot (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2))) i0 = cotRow m c i0 from funext fun l => cot_eq m c i0 l]
  rfl

theorem narrow_eq (hpre : Cert.Pre_InBIdeal_in_b_finite m) : val_main_v73 (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4)) = fun i => back m c (i 0) (i 1) :=
  wide_eq m c hpre

/-- The kernel and the reference end with the same cotangent, in both formats, and the same gradients of the gain and of the bias. -/
theorem algebraic : Cert.algebraic_InBIdeal_InBRefIdeal_pre_in_b_finite := by
  intro m g m' g' hpre hargs
  refine ⟨_, _, _, _, Cert.InBIdeal.Value.run_blocks m g, ?_⟩
  refine (θ_run Cert.InBRefIdeal.defs _ _).mono (fun r h c => ?_) (Cert.InBRefIdeal.Value.run m' g')
  obtain ⟨e0, e1, e2, e3, e4⟩ := hargs c
  obtain ⟨r0, r1, r2, r3, ra⟩ := h c
  rw [val_main_v72_eq, e0, e1, e2, e3, e4] at r0
  rw [val_main_v73_eq, e0, e1, e2, e3, e4] at r1
  rw [val_main_v74_eq, e0, e1, e2, e3] at r2
  rw [val_main_v75_eq, e0, e1, e2] at r3
  refine ⟨r0.trans ?_, r1.trans ?_, r2.trans ?_, r3.trans ?_, ra⟩
  · rw [wide_array]
    exact wide_eq m c hpre
  · rw [narrow_array]
    exact narrow_eq m c hpre
  · rw [gain_array]
    exact gain_eq m c
  · rw [bias_array]
    exact bias_eq m c

end

end Cert.InBClaim
-- ==== Proof.InXKernel.lean ====
module

public import proofs.«01_k».proof.Proof.NormSpec
public import proofs.«01_k».proof.Proof.Gen.InXIdeal.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

/-! The array that the gradient of the lowest layer's input leaves, at every index. -/

namespace Cert.InXIdeal.Hand

open Cert.InXIdeal Cert.InXIdeal.Gen Idealize.ShloMosaic Idealize.ShloMosaic.TcCoe Idealize.SL.Sem Cert.NormSpec

theorem where0 : ∀ t : Fin cfg0.N, win0_0.index t = ![t.val, 0] := (by decide +kernel : ∀ t : Fin grid0.N, _)
theorem where1 : ∀ t : Fin cfg0.N, win0_1.index t = ![0, 0] := (by decide +kernel : ∀ t : Fin grid0.N, _)
theorem where2 : ∀ t : Fin cfg0.N, win0_2.index t = ![t.val, 0] := (by decide +kernel : ∀ t : Fin grid0.N, _)
theorem where3 : ∀ t : Fin cfg0.N, win0_3.index t = ![t.val, 0] := (by decide +kernel : ∀ t : Fin grid0.N, _)

theorem step_apply (a : Vec Ideal S512x2560 .bf16) (b : Vec Ideal S2560x1024 .bf16) (r : Fin 512) (l : Fin 1024) :
    k0_pay2 (k0_pay1 (F := Ideal)) a b (ix2 r l) = ∑ k : Fin 2560, a (ix2 r k) * b (ix2 k l) := by
  pointwise [k0_pay2, k0_pay1]

theorem residual_apply (p x : Vec Ideal S512x1024 .f32) (r : Fin 512) (l : Fin 1024) :
    k0_pay3 p x (ix2 r l) = p (ix2 r l) + alpha * x (ix2 r l) := by
  pointwise [k0_pay3]
  rfl

variable (m : (ℓ : Loc nD τ sig) → Buf (Elt Ideal) ℓ) (c : Dev nD)

theorem block0 (t : Fin cfg0.N) (r : Fin 512) (k : Fin 2560) :
    iblk m c 0 t (ix2 r k : S512x2560.Idx) = m ((c : Thread nD τ).loc main_arg0) (ix2 ⟨t.val * 512 + r.val, by have := t.isLt; have : cfg0.N = 16 := N_0; omega⟩ k : S8192x2560.Idx) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (k : Fin 2560) (l : Fin 1024) :
    iblk m c 1 t (ix2 k l : S2560x1024.Idx) = m ((c : Thread nD τ).loc main_arg1) (ix2 k l : S2560x1024.Idx) := by
  blk_simp [iblk]
  rw [V_main_arg1]
  refine congrArg _ (funext fun a => Fin.ext ?_)
  match a with
  | ⟨0, _⟩ => blk_simp [where1]
  | ⟨1, _⟩ => blk_simp [where1]

theorem block2 (t : Fin cfg0.N) (r : Fin 512) (l : Fin 1024) :
    iblk m c 2 t (ix2 r l : S512x1024.Idx) = m ((c : Thread nD τ).loc main_arg2) (ix2 ⟨t.val * 512 + r.val, by have := t.isLt; have : cfg0.N = 16 := N_0; omega⟩ l : S8192x1024.Idx) := by
  blk_simp [iblk]
  rw [V_main_arg2]
  refine congrArg _ (funext fun a => Fin.ext ?_)
  match a with
  | ⟨0, _⟩ => blk_simp [where2]
  | ⟨1, _⟩ => blk_simp [where2]

theorem flush3 (t : Fin cfg0.N) (y : S512x1024.Idx) :
    (dats m 0 c).flushed 3 t y = k0_pay3 (k0_pay2 (k0_pay1 (F := Ideal)) (iblk m c 0 t) (iblk m c 1 t)) (iblk m c 2 t) y := by
  rw [Value.flushed3_A]
  frame_out
  rfl

/-- The arrays that the program is given: the cotangents, the weights and the residual's cotangent. -/
abbrev cot : S8192x2560.Idx → EReal := m ((c : Thread nD τ).loc main_arg0)
abbrev weight : S2560x1024.Idx → EReal := m ((c : Thread nD τ).loc main_arg1)
abbrev resCot : S8192x1024.Idx → EReal := m ((c : Thread nD τ).loc main_arg2)

/-- The gradient: the cotangents against the weights, and the residual's. -/
def gradient (s : Fin 8192) (l : Fin 1024) : EReal := (∑ k : Fin 2560, cot m c (ix2 s k) * weight m c (ix2 k l)) + alpha * resCot m c (ix2 s l)

theorem point (t : Fin cfg0.N) (r : Fin 512) (l : Fin 1024) :
    k0_pay3 (k0_pay2 (k0_pay1 (F := Ideal)) (iblk m c 0 t) (iblk m c 1 t)) (iblk m c 2 t) (ix2 r l)
      = gradient m c ⟨t.val * 512 + r.val, by have := t.isLt; have : cfg0.N = 16 := N_0; omega⟩ l := by
  rw [residual_apply, step_apply, block2]
  simp only [block0, block1]
  rfl

theorem array : (dats m 0 c).arrAt 3 cfg0.N = fun i : S8192x1024.Idx => gradient m c (i 0) (i 1) := by
  refine (dats m 0 c).arrAt_eq_of_covers 3 _ (by decide +kernel) fun t hf y => ?_
  refine (flush3 m c t y).trans ?_
  idx_vars y
  rw [point]
  refine congrArg₂ (gradient m c) (Fin.ext ?_) (Fin.ext ?_) <;> blk_simp [where3]

end Cert.InXIdeal.Hand
-- ==== Proof.InXClaim.lean ====
module

public import proofs.«01_k».proof.Defs
public import proofs.«01_k».proof.Proof.InXKernel
public import proofs.«01_k».proof.Proof.Gen.InXRefIdeal.Run
public import proofs.«01_k».proof.Proof.Gen.InXRefIdeal.Read

@[expose] public section

set_option maxRecDepth 16384

noncomputable section

/-! The claims about the gradient of the lowest layer's input. -/

namespace Cert.InXClaim

open Idealize.ShloMosaic Idealize.ShloMosaic.TcCoe Idealize.SL.Sem Cert.InXRefIdeal Cert.InXRefIdeal.Read Cert.NormSpec

/-- The reference's gradient: the residual's, and the cotangents against the weights. -/
theorem gradient_ref (x0 : S8192x2560.Idx → EReal) (x1 : S2560x1024.Idx → EReal) (x2 : S8192x1024.Idx → EReal) (s : Fin 8192) (l : Fin 1024) :
    val_main_v10 (F := Ideal) x0 x1 x2 (ix2 s l) = (∑ k : Fin 2560, x0 (ix2 s k) * x1 (ix2 k l)) + alpha * x2 (ix2 s l) := by
  rw [add_comm]
  pointwise [val_main_v10, val_main_v9, val_main_v8, val_main_v7, val_main_v6, val_main_v2, val_main_v1]
  rfl

/-- The reference ends with its arguments unchanged. -/
theorem frame_ref : Cert.quiescent_InXRefIdeal := fun m g _ =>
  (θ_run Cert.InXRefIdeal.defs _ _).mono (fun r h => ⟨fun c => (h c).2, sem_eq_zero_of_no_sems (by decide) r.2⟩) (Cert.InXRefIdeal.Value.run m g)

/-- The kernel and the reference end with the same array. -/
theorem algebraic : Cert.algebraic_InXIdeal_InXRefIdeal := by
  intro m g m' g' _ hargs
  refine ⟨_, Cert.InXIdeal.Value.run_blocks m g, ?_⟩
  refine (θ_run Cert.InXRefIdeal.defs _ _).mono (fun r h c => ⟨(h c).1.trans ?_, (h c).2⟩) (Cert.InXRefIdeal.Value.run m' g')
  obtain ⟨e0, e1, e2⟩ := hargs c
  rw [val_main_v10_eq, e0, e1, e2, Cert.InXIdeal.Hand.array]
  exact funext fun i => by
    idx_vars i
    exact gradient_ref _ _ _ i0 i1

end Cert.InXClaim
-- ==== Proof.ProjAKernel.lean ====
module

public import proofs.«01_k».proof.Proof.Gen.ProjAIdeal.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

/-! The array that the product with w_in leaves, at every index, where w_in has 2560 rows. -/

namespace Cert.ProjAIdeal.Hand

open Cert.ProjAIdeal Cert.ProjAIdeal.Gen Idealize.ShloMosaic Idealize.ShloMosaic.TcCoe Idealize.SL.Sem

theorem where0 : ∀ t : Fin cfg0.N, win0_0.index t = ![t.val, 0] := (by decide +kernel : ∀ t : Fin grid0.N, _)
theorem where1 : ∀ t : Fin cfg0.N, win0_1.index t = ![0, 0] := (by decide +kernel : ∀ t : Fin grid0.N, _)
theorem where2 : ∀ t : Fin cfg0.N, win0_2.index t = ![t.val, 0] := (by decide +kernel : ∀ t : Fin grid0.N, _)

theorem step_apply (a : Vec Ideal S512x1024 .bf16) (b : Vec Ideal S2560x1024 .bf16) (r : Fin 512) (l : Fin 2560) :
    k0_pay2 (k0_pay1 (F := Ideal)) a b (ix2 r l) = ∑ k : Fin 1024, a (ix2 r k) * b (ix2 l k) := by
  pointwise [k0_pay2, k0_pay1]

variable (m : (ℓ : Loc nD τ sig) → Buf (Elt Ideal) ℓ) (c : Dev nD)

theorem block0 (t : Fin cfg0.N) (r : Fin 512) (k : Fin 1024) :
    iblk m c 0 t (ix2 r k : S512x1024.Idx) = m ((c : Thread nD τ).loc main_arg0) (ix2 ⟨t.val * 512 + r.val, by have := t.isLt; have : cfg0.N = 16 := N_0; omega⟩ k : S8192x1024.Idx) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (l : Fin 2560) (k : Fin 1024) :
    iblk m c 1 t (ix2 l k : S2560x1024.Idx) = m ((c : Thread nD τ).loc main_arg1) (ix2 l k : S2560x1024.Idx) := by
  blk_simp [iblk]
  rw [V_main_arg1]
  refine congrArg _ (funext fun a => Fin.ext ?_)
  match a with
  | ⟨0, _⟩ => blk_simp [where1]
  | ⟨1, _⟩ => blk_simp [where1]

theorem flush2 (t : Fin cfg0.N) (y : S512x2560.Idx) :
    (dats m 0 c).flushed 2 t y = k0_pay2 (k0_pay1 (F := Ideal)) (iblk m c 0 t) (iblk m c 1 t) y := by
  rw [Value.flushed2_A]
  frame_out
  rfl

/-- The arrays that the program is given. -/
abbrev left : S8192x1024.Idx → EReal := m ((c : Thread nD τ).loc main_arg0)
abbrev right : S2560x1024.Idx → EReal := m ((c : Thread nD τ).loc main_arg1)

/-- Row `s` of the left array against row `l` of the right one. -/
def product (s : Fin 8192) (l : Fin 2560) : EReal := ∑ k : Fin 1024, left m c (ix2 s k) * right m c (ix2 l k)

theorem point (t : Fin cfg0.N) (r : Fin 512) (l : Fin 2560) :
    k0_pay2 (k0_pay1 (F := Ideal)) (iblk m c 0 t) (iblk m c 1 t) (ix2 r l)
      = product m c ⟨t.val * 512 + r.val, by have := t.isLt; have : cfg0.N = 16 := N_0; omega⟩ l := by
  rw [step_apply]
  simp only [block0, block1]
  rfl

theorem array : (dats m 0 c).arrAt 2 cfg0.N = fun i : S8192x2560.Idx => product m c (i 0) (i 1) := by
  refine (dats m 0 c).arrAt_eq_of_covers 2 _ (by decide +kernel) fun t hf y => ?_
  refine (flush2 m c t y).trans ?_
  idx_vars y
  rw [point]
  refine congrArg₂ (product m c) (Fin.ext ?_) (Fin.ext ?_) <;> blk_simp [where2]

end Cert.ProjAIdeal.Hand
-- ==== Proof.ProjAClaim.lean ====
module

public import proofs.«01_k».proof.Defs
public import proofs.«01_k».proof.Proof.ProjAKernel
public import proofs.«01_k».proof.Proof.Gen.ProjARefIdeal.Run
public import proofs.«01_k».proof.Proof.Gen.ProjARefIdeal.Read

@[expose] public section

set_option maxRecDepth 16384

noncomputable section

/-! The claims about the product with w_in where it has 2560 rows. -/

namespace Cert.ProjAClaim

open Idealize.ShloMosaic Idealize.ShloMosaic.TcCoe Idealize.SL.Sem Cert.ProjARefIdeal Cert.ProjARefIdeal.Read

/-- The reference's product. -/
theorem product_ref (x0 : S8192x1024.Idx → EReal) (x1 : S2560x1024.Idx → EReal) (s : Fin 8192) (l : Fin 2560) :
    val_main_v3 (F := Ideal) x0 x1 (ix2 s l) = ∑ k : Fin 1024, x0 (ix2 s k) * x1 (ix2 l k) := by
  pointwise [val_main_v3, val_main_v2, val_main_v1, val_main_v0]

/-- The reference ends with its arguments unchanged. -/
theorem frame_ref : Cert.quiescent_ProjARefIdeal := fun m g _ =>
  (θ_run Cert.ProjARefIdeal.defs _ _).mono (fun r h => ⟨fun c => (h c).2, sem_eq_zero_of_no_sems (by decide) r.2⟩) (Cert.ProjARefIdeal.Value.run m g)

/-- The kernel and the reference end with the same array. -/
theorem algebraic : Cert.algebraic_ProjAIdeal_ProjARefIdeal := by
  intro m g m' g' _ hargs
  refine ⟨_, Cert.ProjAIdeal.Value.run_blocks m g, ?_⟩
  refine (θ_run Cert.ProjARefIdeal.defs _ _).mono (fun r h c => ⟨(h c).1.trans ?_, (h c).2⟩) (Cert.ProjARefIdeal.Value.run m' g')
  obtain ⟨e0, e1⟩ := hargs c
  rw [val_main_v3_eq, e0, e1, Cert.ProjAIdeal.Hand.array]
  exact funext fun i => by
    idx_vars i
    exact product_ref _ _ i0 i1

end Cert.ProjAClaim
-- ==== Proof.ProjBKernel.lean ====
module

public import proofs.«01_k».proof.Proof.Gen.ProjBIdeal.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

/-! The array that the product with w_in leaves, at every index, where w_in has 1792 rows. -/

namespace Cert.ProjBIdeal.Hand

open Cert.ProjBIdeal Cert.ProjBIdeal.Gen Idealize.ShloMosaic Idealize.ShloMosaic.TcCoe Idealize.SL.Sem

theorem where0 : ∀ t : Fin cfg0.N, win0_0.index t = ![t.val, 0] := (by decide +kernel : ∀ t : Fin grid0.N, _)
theorem where1 : ∀ t : Fin cfg0.N, win0_1.index t = ![0, 0] := (by decide +kernel : ∀ t : Fin grid0.N, _)
theorem where2 : ∀ t : Fin cfg0.N, win0_2.index t = ![t.val, 0] := (by decide +kernel : ∀ t : Fin grid0.N, _)

theorem step_apply (a : Vec Ideal S512x1024 .bf16) (b : Vec Ideal S1792x1024 .bf16) (r : Fin 512) (l : Fin 1792) :
    k0_pay2 (k0_pay1 (F := Ideal)) a b (ix2 r l) = ∑ k : Fin 1024, a (ix2 r k) * b (ix2 l k) := by
  pointwise [k0_pay2, k0_pay1]

variable (m : (ℓ : Loc nD τ sig) → Buf (Elt Ideal) ℓ) (c : Dev nD)

theorem block0 (t : Fin cfg0.N) (r : Fin 512) (k : Fin 1024) :
    iblk m c 0 t (ix2 r k : S512x1024.Idx) = m ((c : Thread nD τ).loc main_arg0) (ix2 ⟨t.val * 512 + r.val, by have := t.isLt; have : cfg0.N = 16 := N_0; omega⟩ k : S8192x1024.Idx) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (l : Fin 1792) (k : Fin 1024) :
    iblk m c 1 t (ix2 l k : S1792x1024.Idx) = m ((c : Thread nD τ).loc main_arg1) (ix2 l k : S1792x1024.Idx) := by
  blk_simp [iblk]
  rw [V_main_arg1]
  refine congrArg _ (funext fun a => Fin.ext ?_)
  match a with
  | ⟨0, _⟩ => blk_simp [where1]
  | ⟨1, _⟩ => blk_simp [where1]

theorem flush2 (t : Fin cfg0.N) (y : S512x1792.Idx) :
    (dats m 0 c).flushed 2 t y = k0_pay2 (k0_pay1 (F := Ideal)) (iblk m c 0 t) (iblk m c 1 t) y := by
  rw [Value.flushed2_A]
  frame_out
  rfl

/-- The arrays that the program is given. -/
abbrev left : S8192x1024.Idx → EReal := m ((c : Thread nD τ).loc main_arg0)
abbrev right : S1792x1024.Idx → EReal := m ((c : Thread nD τ).loc main_arg1)

/-- Row `s` of the left array against row `l` of the right one. -/
def product (s : Fin 8192) (l : Fin 1792) : EReal := ∑ k : Fin 1024, left m c (ix2 s k) * right m c (ix2 l k)

theorem point (t : Fin cfg0.N) (r : Fin 512) (l : Fin 1792) :
    k0_pay2 (k0_pay1 (F := Ideal)) (iblk m c 0 t) (iblk m c 1 t) (ix2 r l)
      = product m c ⟨t.val * 512 + r.val, by have := t.isLt; have : cfg0.N = 16 := N_0; omega⟩ l := by
  rw [step_apply]
  simp only [block0, block1]
  rfl

theorem array : (dats m 0 c).arrAt 2 cfg0.N = fun i : S8192x1792.Idx => product m c (i 0) (i 1) := by
  refine (dats m 0 c).arrAt_eq_of_covers 2 _ (by decide +kernel) fun t hf y => ?_
  refine (flush2 m c t y).trans ?_
  idx_vars y
  rw [point]
  refine congrArg₂ (product m c) (Fin.ext ?_) (Fin.ext ?_) <;> blk_simp [where2]

end Cert.ProjBIdeal.Hand
-- ==== Proof.ProjBClaim.lean ====
module

public import proofs.«01_k».proof.Defs
public import proofs.«01_k».proof.Proof.ProjBKernel
public import proofs.«01_k».proof.Proof.Gen.ProjBRefIdeal.Run
public import proofs.«01_k».proof.Proof.Gen.ProjBRefIdeal.Read

@[expose] public section

set_option maxRecDepth 16384

noncomputable section

/-! The claims about the product with w_in where it has 1792 rows. -/

namespace Cert.ProjBClaim

open Idealize.ShloMosaic Idealize.ShloMosaic.TcCoe Idealize.SL.Sem Cert.ProjBRefIdeal Cert.ProjBRefIdeal.Read

/-- The reference's product. -/
theorem product_ref (x0 : S8192x1024.Idx → EReal) (x1 : S1792x1024.Idx → EReal) (s : Fin 8192) (l : Fin 1792) :
    val_main_v3 (F := Ideal) x0 x1 (ix2 s l) = ∑ k : Fin 1024, x0 (ix2 s k) * x1 (ix2 l k) := by
  pointwise [val_main_v3, val_main_v2, val_main_v1, val_main_v0]

/-- The reference ends with its arguments unchanged. -/
theorem frame_ref : Cert.quiescent_ProjBRefIdeal := fun m g _ =>
  (θ_run Cert.ProjBRefIdeal.defs _ _).mono (fun r h => ⟨fun c => (h c).2, sem_eq_zero_of_no_sems (by decide) r.2⟩) (Cert.ProjBRefIdeal.Value.run m g)

/-- The kernel and the reference end with the same array. -/
theorem algebraic : Cert.algebraic_ProjBIdeal_ProjBRefIdeal := by
  intro m g m' g' _ hargs
  refine ⟨_, Cert.ProjBIdeal.Value.run_blocks m g, ?_⟩
  refine (θ_run Cert.ProjBRefIdeal.defs _ _).mono (fun r h c => ⟨(h c).1.trans ?_, (h c).2⟩) (Cert.ProjBRefIdeal.Value.run m' g')
  obtain ⟨e0, e1⟩ := hargs c
  rw [val_main_v3_eq, e0, e1, Cert.ProjBIdeal.Hand.array]
  exact funext fun i => by
    idx_vars i
    exact product_ref _ _ i0 i1

end Cert.ProjBClaim
-- ==== Proof.OutNKernel.lean ====
module

public import proofs.«01_k».proof.Proof.NormSpec
public import proofs.«01_k».proof.Proof.Gen.OutNIdeal.Value
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.PureOps.Ideal.Laws

@[expose] public section

set_option maxRecDepth 16384

noncomputable section

/-! The three arrays that the product with w_out, the residual and the layer norm leaves, at every index. -/

namespace Cert.OutNIdeal.Hand

open Cert.OutNIdeal Cert.OutNIdeal.Gen Idealize.ShloMosaic Idealize.ShloMosaic.TcCoe Idealize.SL.Sem Cert.NormSpec

theorem where0 : ∀ t : Fin cfg0.N, win0_0.index t = ![t.val, 0] := (by decide +kernel : ∀ t : Fin grid0.N, _)
theorem where1 : ∀ t : Fin cfg0.N, win0_1.index t = ![0, 0] := (by decide +kernel : ∀ t : Fin grid0.N, _)
theorem where2 : ∀ t : Fin cfg0.N, win0_2.index t = ![t.val, 0] := (by decide +kernel : ∀ t : Fin grid0.N, _)
theorem where3 : ∀ t : Fin cfg0.N, win0_3.index t = ![0, 0] := (by decide +kernel : ∀ t : Fin grid0.N, _)
theorem where4 : ∀ t : Fin cfg0.N, win0_4.index t = ![0, 0] := (by decide +kernel : ∀ t : Fin grid0.N, _)
theorem where5 : ∀ t : Fin cfg0.N, win0_5.index t = ![t.val, 0] := (by decide +kernel : ∀ t : Fin grid0.N, _)
theorem where6 : ∀ t : Fin cfg0.N, win0_6.index t = ![t.val, 0] := (by decide +kernel : ∀ t : Fin grid0.N, _)
theorem where7 : ∀ t : Fin cfg0.N, win0_7.index t = ![t.val, 0] := (by decide +kernel : ∀ t : Fin grid0.N, _)

theorem product_apply (a : Vec Ideal S512x1024 .bf16) (w : Vec Ideal S1024x1024 .bf16) (r : Fin 512) (l : Fin 1024) :
    k0_pay2 (k0_pay1 (F := Ideal)) a w (ix2 r l) = ∑ k : Fin 1024, a (ix2 r k) * w (ix2 k l) := by
  pointwise [k0_pay2, k0_pay1]

theorem residual_apply (x p : Vec Ideal S512x1024 .f32) (r : Fin 512) (l : Fin 1024) :
    k0_pay3 x p (ix2 r l) = alpha * x (ix2 r l) + p (ix2 r l) := by
  pointwise [k0_pay3]
  rfl

theorem norm_apply (x p : Vec Ideal S512x1024 .f32) (g b : Vec Ideal S1x1024 .f32) (r : Fin 512) (l : Fin 1024) :
    k0_pay4 x p g b (ix2 r l) = norm (fun l => k0_pay3 x p (ix2 r l)) (fun l => g (ix2 0 l)) (fun l => b (ix2 0 l)) l := by
  generalize e : k0_pay3 x p = z
  pointwise [k0_pay4, e]
  rfl

theorem out_apply (x p : Vec Ideal S512x1024 .f32) (g b : Vec Ideal S1x1024 .f32) (r : Fin 512) (l : Fin 1024) :
    k0_pay5 x p g b (ix2 r l) = k0_pay4 x p g b (ix2 r l) := rfl

variable (m : (ℓ : Loc nD τ sig) → Buf (Elt Ideal) ℓ) (c : Dev nD)

theorem block0 (t : Fin cfg0.N) (r : Fin 512) (k : Fin 1024) :
    iblk m c 0 t (ix2 r k : S512x1024.Idx) = m ((c : Thread nD τ).loc main_arg0) (ix2 ⟨t.val * 512 + r.val, by have := t.isLt; have : cfg0.N = 16 := N_0; omega⟩ k : S8192x1024.Idx) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (k : Fin 1024) (l : Fin 1024) :
    iblk m c 1 t (ix2 k l : S1024x1024.Idx) = m ((c : Thread nD τ).loc main_arg1) (ix2 k l : S1024x1024.Idx) := by
  blk_simp [iblk]
  rw [V_main_arg1]
  refine congrArg _ (funext fun a => Fin.ext ?_)
  match a with
  | ⟨0, _⟩ => blk_simp [where1]
  | ⟨1, _⟩ => blk_simp [where1]

theorem block2 (t : Fin cfg0.N) (r : Fin 512) (l : Fin 1024) :
    iblk m c 2 t (ix2 r l : S512x1024.Idx) = m ((c : Thread nD τ).loc main_arg2) (ix2 ⟨t.val * 512 + r.val, by have := t.isLt; have : cfg0.N = 16 := N_0; omega⟩ l : S8192x1024.Idx) := by
  blk_simp [iblk]
  rw [V_main_arg2]
  refine congrArg _ (funext fun a => Fin.ext ?_)
  match a with
  | ⟨0, _⟩ => blk_simp [where2]
  | ⟨1, _⟩ => blk_simp [where2]

theorem gain_row (l : Fin 1024) : V m c main_v0 (ix2 0 l : S1x1024.Idx) = m ((c : Thread nD τ).loc main_arg3) (ix1 l : S1024.Idx) := by
  unfold V
  after_reads_at

theorem bias_row (l : Fin 1024) : V m c main_v1 (ix2 0 l : S1x1024.Idx) = m ((c : Thread nD τ).loc main_arg4) (ix1 l : S1024.Idx) := by
  unfold V
  after_reads_at

theorem block3 (t : Fin cfg0.N) (l : Fin 1024) :
    iblk m c 3 t (ix2 0 l : S1x1024.Idx) = m ((c : Thread nD τ).loc main_arg3) (ix1 l : S1024.Idx) := by
  refine Eq.trans ?_ (gain_row m c l)
  blk_simp [iblk]
  refine congrArg _ (funext fun a => Fin.ext ?_)
  match a with
  | ⟨0, _⟩ => blk_simp [where3]
  | ⟨1, _⟩ => blk_simp [where3]

theorem block4 (t : Fin cfg0.N) (l : Fin 1024) :
    iblk m c 4 t (ix2 0 l : S1x1024.Idx) = m ((c : Thread nD τ).loc main_arg4) (ix1 l : S1024.Idx) := by
  refine Eq.trans ?_ (bias_row m c l)
  blk_simp [iblk]
  refine congrArg _ (funext fun a => Fin.ext ?_)
  match a with
  | ⟨0, _⟩ => blk_simp [where4]
  | ⟨1, _⟩ => blk_simp [where4]

theorem flush5 (t : Fin cfg0.N) (y : S512x1024.Idx) :
    (dats m 0 c).flushed 5 t y = k0_pay3 (iblk m c 2 t) (k0_pay2 (k0_pay1 (F := Ideal)) (iblk m c 0 t) (iblk m c 1 t)) y := by
  rw [Value.flushed5_A]
  frame_out
  rfl

theorem flush6 (t : Fin cfg0.N) (y : S512x1024.Idx) :
    (dats m 0 c).flushed 6 t y = k0_pay4 (iblk m c 2 t) (k0_pay2 (k0_pay1 (F := Ideal)) (iblk m c 0 t) (iblk m c 1 t)) (iblk m c 3 t) (iblk m c 4 t) y := by
  rw [Value.flushed6_A]
  frame_out
  rfl

theorem flush7 (t : Fin cfg0.N) (y : S512x1024.Idx) :
    (dats m 0 c).flushed 7 t y = k0_pay5 (iblk m c 2 t) (k0_pay2 (k0_pay1 (F := Ideal)) (iblk m c 0 t) (iblk m c 1 t)) (iblk m c 3 t) (iblk m c 4 t) y := by
  rw [Value.flushed7_A]
  frame_out
  rfl

/-- Row `s` of the product with the residual. -/
def sumRow (s : Fin 8192) : Fin 1024 → EReal :=
  summed (fun l => m ((c : Thread nD τ).loc main_arg2) (ix2 s l : S8192x1024.Idx)) (fun k => m ((c : Thread nD τ).loc main_arg0) (ix2 s k : S8192x1024.Idx))
    fun k l => m ((c : Thread nD τ).loc main_arg1) (ix2 k l : S1024x1024.Idx)

/-- The layer norm of that row. -/
def normRow (s : Fin 8192) (l : Fin 1024) : EReal :=
  norm (sumRow m c s) (fun l => m ((c : Thread nD τ).loc main_arg3) (ix1 l : S1024.Idx)) (fun l => m ((c : Thread nD τ).loc main_arg4) (ix1 l : S1024.Idx)) l

theorem point_sum (t : Fin cfg0.N) (r : Fin 512) (l : Fin 1024) :
    k0_pay3 (iblk m c 2 t) (k0_pay2 (k0_pay1 (F := Ideal)) (iblk m c 0 t) (iblk m c 1 t)) (ix2 r l)
      = sumRow m c ⟨t.val * 512 + r.val, by have := t.isLt; have : cfg0.N = 16 := N_0; omega⟩ l := by
  rw [residual_apply, product_apply, block2]
  simp only [block0, block1]
  rfl

theorem point_norm (t : Fin cfg0.N) (r : Fin 512) (l : Fin 1024) :
    k0_pay4 (iblk m c 2 t) (k0_pay2 (k0_pay1 (F := Ideal)) (iblk m c 0 t) (iblk m c 1 t)) (iblk m c 3 t) (iblk m c 4 t) (ix2 r l)
      = normRow m c ⟨t.val * 512 + r.val, by have := t.isLt; have : cfg0.N = 16 := N_0; omega⟩ l := by
  rw [norm_apply]
  simp only [point_sum, block3, block4]
  rfl

theorem sum_array : (dats m 0 c).arrAt 5 cfg0.N = fun i : S8192x1024.Idx => sumRow m c (i 0) (i 1) := by
  refine (dats m 0 c).arrAt_eq_of_covers 5 _ (by decide +kernel) fun t hf y => ?_
  refine (flush5 m c t y).trans ?_
  idx_vars y
  rw [point_sum]
  refine congrArg₂ (sumRow m c) (Fin.ext ?_) (Fin.ext ?_) <;> blk_simp [where5]

theorem norm_array : (dats m 0 c).arrAt 6 cfg0.N = fun i : S8192x1024.Idx => normRow m c (i 0) (i 1) := by
  refine (dats m 0 c).arrAt_eq_of_covers 6 _ (by decide +kernel) fun t hf y => ?_
  refine (flush6 m c t y).trans ?_
  idx_vars y
  rw [point_norm]
  refine congrArg₂ (normRow m c) (Fin.ext ?_) (Fin.ext ?_) <;> blk_simp [where6]

theorem out_array : (dats m 0 c).arrAt 7 cfg0.N = fun i : S8192x1024.Idx => normRow m c (i 0) (i 1) := by
  refine (dats m 0 c).arrAt_eq_of_covers 7 _ (by decide +kernel) fun t hf y => ?_
  refine (flush7 m c t y).trans ?_
  idx_vars y
  rw [out_apply, point_norm]
  refine congrArg₂ (normRow m c) (Fin.ext ?_) (Fin.ext ?_) <;> blk_simp [where7]

end Cert.OutNIdeal.Hand
-- ==== Proof.OutNClaim.lean ====
module

public import proofs.«01_k».proof.Defs
public import proofs.«01_k».proof.Proof.OutNKernel
public import proofs.«01_k».proof.Proof.Gen.OutNRefIdeal.Run
public import proofs.«01_k».proof.Proof.Gen.OutNRefIdeal.Read

@[expose] public section

set_option maxRecDepth 16384

noncomputable section

/-! The claims about the product with w_out, the residual and the layer norm. -/

namespace Cert.OutNClaim

open Idealize.ShloMosaic Idealize.ShloMosaic.TcCoe Idealize.SL.Sem Cert.OutNRefIdeal Cert.OutNRefIdeal.Read Cert.NormSpec

section

variable (x0 : S8192x1024.Idx → EReal) (x1 : S1024x1024.Idx → EReal) (x2 : S8192x1024.Idx → EReal) (x3 x4 : S1024.Idx → EReal)

/-- A row of the reference's product with the residual. -/
theorem sum_ref (s : Fin 8192) (l : Fin 1024) :
    val_main_v5 (F := Ideal) x0 x1 x2 (ix2 s l) = summed (fun l => x2 (ix2 s l)) (fun k => x0 (ix2 s k)) (fun k l => x1 (ix2 k l)) l := by
  pointwise [val_main_v5, val_main_v4, val_main_v3, val_main_v2, val_main_v1, val_main_v0, val_main_cst]
  rfl

/-- A row of the reference's layer norm. -/
theorem norm_ref (s : Fin 8192) (l : Fin 1024) :
    val_main_v29 (F := Ideal) x0 x1 x2 x3 x4 (ix2 s l)
      = norm (fun l => val_main_v5 (F := Ideal) x0 x1 x2 (ix2 s l)) (fun l => x3 (ix1 l)) (fun l => x4 (ix1 l)) l := by
  unfold val_main_v29 val_main_v26 val_main_v23 val_main_v22 val_main_v21 val_main_v20 val_main_v18 val_main_v17 val_main_v16 val_main_v14 val_main_v13 val_main_v12 val_main_v11 val_main_v10 val_main_v9 val_main_v7 val_main_v6
  generalize val_main_v5 (F := Ideal) x0 x1 x2 = z
  pointwise [val_main_v28, val_main_v27, val_main_v25, val_main_v24, val_main_v19, val_main_v15, val_main_v8, val_main_cst_0, val_main_cst_1, val_main_cst_2, val_main_cst_3, val_main_cst_4]
  rfl

end

/-- The reference ends with its arguments unchanged. -/
theorem frame_ref : Cert.quiescent_OutNRefIdeal := fun m g _ =>
  (θ_run Cert.OutNRefIdeal.defs _ _).mono (fun r h => ⟨fun c => (h c).2.2.2, sem_eq_zero_of_no_sems (by decide) r.2⟩) (Cert.OutNRefIdeal.Value.run m g)

section

variable (m : (ℓ : Loc Cert.OutNIdeal.nD Cert.OutNIdeal.τ Cert.OutNIdeal.sig) → Buf (Elt Ideal) ℓ) (c : Dev Cert.OutNIdeal.nD)

/-- The reference's sums are the kernel's. -/
theorem sum_eq : val_main_v5 (F := Ideal) (m ((c.tc : Thread Cert.OutNIdeal.nD Cert.OutNIdeal.τ).loc Cert.OutNIdeal.main_arg0))
    (m ((c.tc : Thread Cert.OutNIdeal.nD Cert.OutNIdeal.τ).loc Cert.OutNIdeal.main_arg1)) (m ((c.tc : Thread Cert.OutNIdeal.nD Cert.OutNIdeal.τ).loc Cert.OutNIdeal.main_arg2))
      = fun i => Cert.OutNIdeal.Hand.sumRow m c (i 0) (i 1) := funext fun i => by
  idx_vars i
  exact sum_ref _ _ _ i0 i1

/-- The reference's norms are the kernel's. -/
theorem norm_eq : val_main_v29 (F := Ideal) (m ((c.tc : Thread Cert.OutNIdeal.nD Cert.OutNIdeal.τ).loc Cert.OutNIdeal.main_arg0))
    (m ((c.tc : Thread Cert.OutNIdeal.nD Cert.OutNIdeal.τ).loc Cert.OutNIdeal.main_arg1)) (m ((c.tc : Thread Cert.OutNIdeal.nD Cert.OutNIdeal.τ).loc Cert.OutNIdeal.main_arg2))
    (m ((c.tc : Thread Cert.OutNIdeal.nD Cert.OutNIdeal.τ).loc Cert.OutNIdeal.main_arg3)) (m ((c.tc : Thread Cert.OutNIdeal.nD Cert.OutNIdeal.τ).loc Cert.OutNIdeal.main_arg4))
      = fun i => Cert.OutNIdeal.Hand.normRow m c (i 0) (i 1) := funext fun i => by
  idx_vars i
  refine (norm_ref _ _ _ _ _ i0 i1).trans ?_
  rw [sum_eq]
  rfl

end

/-- The kernel and the reference end with the same sums and the same norms. -/
theorem algebraic : Cert.algebraic_OutNIdeal_OutNRefIdeal := by
  intro m g m' g' _ hargs
  refine ⟨_, _, _, Cert.OutNIdeal.Value.run_blocks m g, ?_⟩
  refine (θ_run Cert.OutNRefIdeal.defs _ _).mono (fun r h c => ?_) (Cert.OutNRefIdeal.Value.run m' g')
  obtain ⟨e0, e1, e2, e3, e4⟩ := hargs c
  obtain ⟨r0, r1, r2, ra⟩ := h c
  rw [val_main_v5_eq, e0, e1, e2] at r0
  rw [val_main_v29_eq, e0, e1, e2, e3, e4] at r1
  rw [val_main_v30_eq, e0, e1, e2, e3, e4] at r2
  refine ⟨r0.trans ?_, r1.trans ?_, r2.trans ?_, ra⟩
  · rw [Cert.OutNIdeal.Hand.sum_array]
    exact sum_eq m c
  · rw [Cert.OutNIdeal.Hand.norm_array]
    exact norm_eq m c
  · rw [Cert.OutNIdeal.Hand.out_array]
    exact norm_eq m c

end Cert.OutNClaim
-- ==== Proof.ProjXKernel.lean ====
module

public import proofs.«01_k».proof.Proof.Gen.ProjXIdeal.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

/-! The array that the product with w_in leaves, at every index, in the lowest layer. -/

namespace Cert.ProjXIdeal.Hand

open Cert.ProjXIdeal Cert.ProjXIdeal.Gen Idealize.ShloMosaic Idealize.ShloMosaic.TcCoe Idealize.SL.Sem

theorem where0 : ∀ t : Fin cfg0.N, win0_0.index t = ![t.val, 0] := (by decide +kernel : ∀ t : Fin grid0.N, _)
theorem where1 : ∀ t : Fin cfg0.N, win0_1.index t = ![0, 0] := (by decide +kernel : ∀ t : Fin grid0.N, _)
theorem where2 : ∀ t : Fin cfg0.N, win0_2.index t = ![t.val, 0] := (by decide +kernel : ∀ t : Fin grid0.N, _)

theorem step_apply (a : Vec Ideal S512x1024 .f32) (b : Vec Ideal S2560x1024 .bf16) (r : Fin 512) (l : Fin 2560) :
    k0_pay2 (k0_pay1 (F := Ideal)) a b (ix2 r l) = ∑ k : Fin 1024, a (ix2 r k) * b (ix2 l k) := by
  pointwise [k0_pay2, k0_pay1]

variable (m : (ℓ : Loc nD τ sig) → Buf (Elt Ideal) ℓ) (c : Dev nD)

theorem block0 (t : Fin cfg0.N) (r : Fin 512) (k : Fin 1024) :
    iblk m c 0 t (ix2 r k : S512x1024.Idx) = m ((c : Thread nD τ).loc main_arg0) (ix2 ⟨t.val * 512 + r.val, by have := t.isLt; have : cfg0.N = 16 := N_0; omega⟩ k : S8192x1024.Idx) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (l : Fin 2560) (k : Fin 1024) :
    iblk m c 1 t (ix2 l k : S2560x1024.Idx) = m ((c : Thread nD τ).loc main_arg1) (ix2 l k : S2560x1024.Idx) := by
  blk_simp [iblk]
  rw [V_main_arg1]
  refine congrArg _ (funext fun a => Fin.ext ?_)
  match a with
  | ⟨0, _⟩ => blk_simp [where1]
  | ⟨1, _⟩ => blk_simp [where1]

theorem flush2 (t : Fin cfg0.N) (y : S512x2560.Idx) :
    (dats m 0 c).flushed 2 t y = k0_pay2 (k0_pay1 (F := Ideal)) (iblk m c 0 t) (iblk m c 1 t) y := by
  rw [Value.flushed2_A]
  frame_out
  rfl

/-- The arrays that the program is given. -/
abbrev left : S8192x1024.Idx → EReal := m ((c : Thread nD τ).loc main_arg0)
abbrev right : S2560x1024.Idx → EReal := m ((c : Thread nD τ).loc main_arg1)

/-- Row `s` of the left array against row `l` of the right one. -/
def product (s : Fin 8192) (l : Fin 2560) : EReal := ∑ k : Fin 1024, left m c (ix2 s k) * right m c (ix2 l k)

theorem point (t : Fin cfg0.N) (r : Fin 512) (l : Fin 2560) :
    k0_pay2 (k0_pay1 (F := Ideal)) (iblk m c 0 t) (iblk m c 1 t) (ix2 r l)
      = product m c ⟨t.val * 512 + r.val, by have := t.isLt; have : cfg0.N = 16 := N_0; omega⟩ l := by
  rw [step_apply]
  simp only [block0, block1]
  rfl

theorem array : (dats m 0 c).arrAt 2 cfg0.N = fun i : S8192x2560.Idx => product m c (i 0) (i 1) := by
  refine (dats m 0 c).arrAt_eq_of_covers 2 _ (by decide +kernel) fun t hf y => ?_
  refine (flush2 m c t y).trans ?_
  idx_vars y
  rw [point]
  refine congrArg₂ (product m c) (Fin.ext ?_) (Fin.ext ?_) <;> blk_simp [where2]

end Cert.ProjXIdeal.Hand
-- ==== Proof.ProjXClaim.lean ====
module

public import proofs.«01_k».proof.Defs
public import proofs.«01_k».proof.Proof.ProjXKernel
public import proofs.«01_k».proof.Proof.Gen.ProjXRefIdeal.Run
public import proofs.«01_k».proof.Proof.Gen.ProjXRefIdeal.Read

@[expose] public section

set_option maxRecDepth 16384

noncomputable section

/-! The claims about the product with w_in in the lowest layer. -/

namespace Cert.ProjXClaim

open Idealize.ShloMosaic Idealize.ShloMosaic.TcCoe Idealize.SL.Sem Cert.ProjXRefIdeal Cert.ProjXRefIdeal.Read

/-- The reference's product. -/
theorem product_ref (x0 : S8192x1024.Idx → EReal) (x1 : S2560x1024.Idx → EReal) (s : Fin 8192) (l : Fin 2560) :
    val_main_v2 (F := Ideal) x0 x1 (ix2 s l) = ∑ k : Fin 1024, x0 (ix2 s k) * x1 (ix2 l k) := by
  pointwise [val_main_v2, val_main_v1, val_main_v0]

/-- The reference ends with its arguments unchanged. -/
theorem frame_ref : Cert.quiescent_ProjXRefIdeal := fun m g _ =>
  (θ_run Cert.ProjXRefIdeal.defs _ _).mono (fun r h => ⟨fun c => (h c).2, sem_eq_zero_of_no_sems (by decide) r.2⟩) (Cert.ProjXRefIdeal.Value.run m g)

/-- The kernel and the reference end with the same array. -/
theorem algebraic : Cert.algebraic_ProjXIdeal_ProjXRefIdeal := by
  intro m g m' g' _ hargs
  refine ⟨_, Cert.ProjXIdeal.Value.run_blocks m g, ?_⟩
  refine (θ_run Cert.ProjXRefIdeal.defs _ _).mono (fun r h c => ⟨(h c).1.trans ?_, (h c).2⟩) (Cert.ProjXRefIdeal.Value.run m' g')
  obtain ⟨e0, e1⟩ := hargs c
  rw [val_main_v2_eq, e0, e1, Cert.ProjXIdeal.Hand.array]
  exact funext fun i => by
    idx_vars i
    exact product_ref _ _ i0 i1

end Cert.ProjXClaim
-- ==== Proof.InWXKernel.lean ====
module

public import proofs.«01_k».proof.Proof.Gen.InWXIdeal.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

/-! The array that the gradient of w_in leaves, at every index, in the lowest layer: the sum over all tokens of a cotangent
    times an entry of the layer's input. The kernel adds it up over eight tiles of 1024 tokens. -/

namespace Cert.InWXIdeal.Hand

open Cert.InWXIdeal Cert.InWXIdeal.Gen Idealize.ShloMosaic Idealize.ShloMosaic.TcCoe Idealize.SL.Sem

theorem where0 : ∀ t : Fin cfg0.N, win0_0.index t = ![t.val % 8, t.val / 8] := (by decide +kernel : ∀ t : Fin grid0.N, _)
theorem where1 : ∀ t : Fin cfg0.N, win0_1.index t = ![t.val % 8, 0] := (by decide +kernel : ∀ t : Fin grid0.N, _)
theorem where2 : ∀ t : Fin cfg0.N, win0_2.index t = ![t.val / 8, 0] := (by decide +kernel : ∀ t : Fin grid0.N, _)

/-- A tile's sums, added to what was held. -/
theorem step_apply (acc : Vec Ideal S1280x1024 .f32) (a : Vec Ideal S1024x1280 .bf16) (b : Vec Ideal S1024x1024 .bf16) (r : Fin 1280) (l : Fin 1024) :
    k0_pay2 acc a b (ix2 r l) = acc (ix2 r l) + ∑ k : Fin 1024, a (ix2 k r) * b (ix2 k l) := by
  pointwise [k0_pay2]

theorem fill_apply (r : Fin 1280) (l : Fin 1024) : k0_pay1 (F := Ideal) (ix2 r l) = 0 := by
  pointwise [k0_pay1]

variable (m : (ℓ : Loc nD τ sig) → Buf (Elt Ideal) ℓ) (c : Dev nD)

/-- The cotangents and the layer's input that the program is given. -/
abbrev hid : S8192x2560.Idx → EReal := m ((c : Thread nD τ).loc main_arg0)
abbrev cot : S8192x1024.Idx → EReal := m ((c : Thread nD τ).loc main_arg1)

theorem block0 (t : Fin cfg0.N) (k : Fin 1024) (r : Fin 1280) :
    iblk m c 0 t (ix2 k r : S1024x1280.Idx) = hid m c (ix2 ⟨t.val % 8 * 1024 + k.val, by omega⟩ ⟨t.val / 8 * 1280 + r.val, by have := t.isLt; have : cfg0.N = 16 := N_0; omega⟩) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (k : Fin 1024) (l : Fin 1024) :
    iblk m c 1 t (ix2 k l : S1024x1024.Idx) = cot m c (ix2 ⟨t.val % 8 * 1024 + k.val, by omega⟩ l) := by
  blk_simp [iblk]
  rw [V_main_arg1]
  refine congrArg _ (funext fun a => Fin.ext ?_)
  match a with
  | ⟨0, _⟩ => blk_simp [where1]
  | ⟨1, _⟩ => blk_simp [where1]

theorem first (t : Fin cfg0.N) (h : t.val % 8 = 0) (y : S1280x1024.Idx) :
    (outsAt0 m c t.val t.isLt).2 y = k0_pay2 (k0_pay1 (F := Ideal)) (iblk m c 0 t) (iblk m c 1 t) y := by
  rw [outsAt0_A m c t h (by omega)]
  dsimp only
  frame_open
  simp (disch := decide) only [↓ View.readCov_skip, ↓ View.readCov_cons_toLoadRect, ↓ View.readCov_fill]
  frame_out

theorem middle (t : Fin cfg0.N) (h : ¬t.val % 8 = 0) (y : S1280x1024.Idx) :
    (outsAt0 m c t.val t.isLt).2 y
      = k0_pay2 (outsAt0 m c (t.val - 1) (Nat.lt_of_le_of_lt (Nat.sub_le _ _) t.isLt)).2 (iblk m c 0 t) (iblk m c 1 t) y := by
  by_cases h1 : t.val % 8 = 7
  · rw [outsAt0_C m c t h h1]
    dsimp only
    frame_open
    simp (disch := decide) only [↓ View.readCov_skip, ↓ View.readCov_cons_toLoadRect, ↓ View.readCov_fill]
    frame_out
    rw [read_unread_whole]
  · rw [outsAt0_B m c t h h1]
    dsimp only
    frame_open
    simp (disch := decide) only [↓ View.readCov_skip, ↓ View.readCov_cons_toLoadRect, ↓ View.readCov_fill]
    frame_out
    rw [read_unread_whole]

/-- The output's block is what the sums hold at the last tile. -/
theorem last (t : Fin cfg0.N) (h1 : t.val % 8 = 7) (y : S1280x1024.Idx) :
    (outsAt0 m c t.val t.isLt).1 y = (outsAt0 m c t.val t.isLt).2 y := by
  rw [outsAt0_C m c t (by omega) h1]
  dsimp only
  frame_open
  simp (disch := decide) only [↓ View.readCov_skip, ↓ View.readCov_cons_toLoadRect, ↓ View.readCov_fill]
  frame_out

/-- The gradient of the weight: column `i 0` of the cotangents against column `i 1` of the layer's input, over all tokens. -/
def gradient (i : S2560x1024.Idx) : EReal :=
  ∑ s : Fin 8192, hid m c (ix2 s (i 0)) * cot m c (ix2 s (i 1))

/-- Token `s`'s term of the sum at row `r` and lane `l`. -/
def term (r l s : ℕ) : EReal :=
  if h : r < 2560 ∧ l < 1024 ∧ s < 8192 then hid m c (ix2 ⟨s, h.2.2⟩ ⟨r, h.1⟩) * cot m c (ix2 ⟨s, h.2.2⟩ ⟨l, h.2.1⟩) else 0

theorem gradient_eq (i : S2560x1024.Idx) : gradient m c i = ∑ s : Fin 8192, term m c (i 0).val (i 1).val s.val :=
  Finset.sum_congr rfl fun s _ => by rw [term, dif_pos ⟨(i 0).isLt, (i 1).isLt, s.isLt⟩]; rfl

theorem tile_sum (t : Fin cfg0.N) (y : S1280x1024.Idx) (acc : Vec Ideal S1280x1024 .f32) :
    k0_pay2 acc (iblk m c 0 t) (iblk m c 1 t) y
      = acc y + ∑ k : Fin 1024, term m c (t.val / 8 * 1280 + (y 0).val) (y 1).val (t.val % 8 * 1024 + k.val) := by
  have hN : t.val < 16 := lt_of_lt_of_eq t.isLt N_0
  idx_vars y
  rw [step_apply]
  refine congrArg _ (Finset.sum_congr rfl fun k _ => ?_)
  rw [block0, block1, term, dif_pos ⟨by show t.val / 8 * 1280 + y0.val < 2560; omega, y1.isLt, by omega⟩]

theorem sums_flush (t : Fin cfg0.N) (h : t.val % 8 = 7) (y : S1280x1024.Idx) :
    (outsAt0 m c t.val t.isLt).2 y = ∑ s : Fin 8192, term m c (t.val / 8 * 1280 + (y 0).val) (y 1).val s.val := by
  rw [Pipeline.eq_sum_fin_of_reset_step_apply_of_flush (fun n h => (outsAt0 m c n h).2) 8 (fun _ => (0 : EReal))
    (fun t y => ∑ k : Fin 1024, term m c (t.val / 8 * 1280 + (y 0).val) (y 1).val (t.val % 8 * 1024 + k.val))
    (fun t hc y => (first m c t hc y).trans ((tile_sum m c t y _).trans (congrArg (· + _) (by idx_vars y; exact fill_apply _ _))))
    (fun t hc y => (middle m c t hc y).trans (tile_sum m c t y _)) t h y]
  have hd : ∀ s : Fin 8, (8 * (t.val / 8) + s.val) / 8 = t.val / 8 := fun s => by omega
  have hr : ∀ s : Fin 8, (8 * (t.val / 8) + s.val) % 8 = s.val := fun s => by omega
  simp only [hd, hr, zero_add]
  exact Fin.sum_mul_add_congr fun s k h => rfl

theorem array : (dats m 0 c).arrAt 2 cfg0.N = gradient m c := by
  refine (dats m 0 c).arrAt_eq_of_covers 2 _ (by decide +kernel) fun t hf y => ?_
  have h := (last m c t ((flush0_2 t).mp hf) y).trans (sums_flush m c t ((flush0_2 t).mp hf) y)
  blk_simp
  rw [after0_2, h, gradient_eq]
  blk_simp [where2]

end Cert.InWXIdeal.Hand
-- ==== Proof.InWXClaim.lean ====
module

public import proofs.«01_k».proof.Defs
public import proofs.«01_k».proof.Proof.InWXKernel
public import proofs.«01_k».proof.Proof.Gen.InWXRefIdeal.Run
public import proofs.«01_k».proof.Proof.Gen.InWXRefIdeal.Read

@[expose] public section

set_option maxRecDepth 16384

noncomputable section

/-! The claims about the gradient of w_in in the lowest layer. -/

namespace Cert.InWXClaim

open Idealize.ShloMosaic Idealize.ShloMosaic.TcCoe Idealize.SL.Sem Cert.InWXRefIdeal Cert.InWXRefIdeal.Read

/-- The reference's gradient, over all tokens. -/
theorem gradient_ref (x0 : S8192x2560.Idx → EReal) (x1 : S8192x1024.Idx → EReal) (r : Fin 2560) (l : Fin 1024) :
    val_main_v6 (F := Ideal) x0 x1 (ix2 r l) = ∑ s : Fin 8192, x0 (ix2 s r) * x1 (ix2 s l) := by
  pointwise [val_main_v6, val_main_v5, val_main_v4, val_main_v3]

/-- The reference ends with its arguments unchanged. -/
theorem frame_ref : Cert.quiescent_InWXRefIdeal := fun m g _ =>
  (θ_run Cert.InWXRefIdeal.defs _ _).mono (fun r h => ⟨fun c => (h c).2, sem_eq_zero_of_no_sems (by decide) r.2⟩) (Cert.InWXRefIdeal.Value.run m g)

/-- The kernel and the reference end with the same array. -/
theorem algebraic : Cert.algebraic_InWXIdeal_InWXRefIdeal := by
  intro m g m' g' _ hargs
  refine ⟨_, Cert.InWXIdeal.Value.run_blocks m g, ?_⟩
  refine (θ_run Cert.InWXRefIdeal.defs _ _).mono (fun r h c => ⟨(h c).1.trans ?_, (h c).2⟩) (Cert.InWXRefIdeal.Value.run m' g')
  obtain ⟨e0, e1⟩ := hargs c
  rw [val_main_v6_eq, e0, e1, Cert.InWXIdeal.Hand.array]
  exact funext fun i => by
    idx_vars i
    exact gradient_ref _ _ i0 i1

end Cert.InWXClaim
-- ==== Proof.MkvFKernel.lean ====
module

public import Idealize.ShloMosaic.PureOps.Ideal.Laws
public import proofs.«01_k».proof.Proof.Gen.MkvFIdeal.Value
public import Idealize.ShloMosaic.Lib.Pipeline.ValueKit
public import Idealize.ShloMosaic.Lib.Pipeline.ReadBack
public import Idealize.ShloMosaic.Lib.Pointwise

@[expose] public section

set_option maxRecDepth 16384

noncomputable section

/-! The array that the memory's projection to keys and values leaves, at every index. -/

namespace Cert.MkvFIdeal.Hand

open Cert.MkvFIdeal Cert.MkvFIdeal.Gen Idealize.ShloMosaic Idealize.ShloMosaic.TcCoe Idealize.SL.Sem

theorem where0 : ∀ t : Fin cfg0.N, win0_0.index t = ![0, 0] := (by decide +kernel : ∀ t : Fin grid0.N, _)
theorem where1 : ∀ t : Fin cfg0.N, win0_1.index t = ![0, 0] := (by decide +kernel : ∀ t : Fin grid0.N, _)
theorem where2 : ∀ t : Fin cfg0.N, win0_2.index t = ![0, 0] := (by decide +kernel : ∀ t : Fin grid0.N, _)

theorem product_apply (a : Vec Ideal S1024x1024 .f32) (b : Vec Ideal S1024x512 .bf16) (r : Fin 1024) (l : Fin 512) :
    k0_pay2 (k0_pay1 (F := Ideal)) a b (ix2 r l) = ∑ k : Fin 1024, a (ix2 r k) * b (ix2 k l) := by
  pointwise [k0_pay2, k0_pay1]

variable (m : (ℓ : Loc nD τ sig) → Buf (Elt Ideal) ℓ) (c : Dev nD)

/-- The memory rows and the second operand that the program is given. -/
abbrev rows : S1024x1024.Idx → EReal := m ((c : Thread nD τ).loc main_arg0)
abbrev other : S1024x512.Idx → EReal := m ((c : Thread nD τ).loc main_arg1)

theorem block0 (t : Fin cfg0.N) (r k : Fin 1024) : iblk m c 0 t (ix2 r k : S1024x1024.Idx) = rows m c (ix2 r k) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (k : Fin 1024) (l : Fin 512) : iblk m c 1 t (ix2 k l : S1024x512.Idx) = other m c (ix2 k l) := by
  blk_simp [iblk]
  rw [V_main_arg1]
  refine congrArg _ (funext fun a => Fin.ext ?_)
  match a with
  | ⟨0, _⟩ => blk_simp [where1]
  | ⟨1, _⟩ => blk_simp [where1]

theorem flush (t : Fin cfg0.N) (y : S1024x512.Idx) :
    (dats m 0 c).flushed 2 t y = k0_pay2 (k0_pay1 (F := Ideal)) (iblk m c 0 t) (iblk m c 1 t) y := by
  rw [Value.flushed2_A]
  frame_out
  rfl

/-- A memory row against a column of the weight. -/
def product (r : Fin 1024) (l : Fin 512) : EReal := ∑ k : Fin 1024, rows m c (ix2 r k) * other m c (ix2 k l)

theorem array : (dats m 0 c).arrAt 2 cfg0.N = fun i : S1024x512.Idx => product m c (i 0) (i 1) := by
  refine (dats m 0 c).arrAt_eq_of_covers 2 _ (by decide +kernel) fun t hf y => ?_
  refine (flush m c t y).trans ?_
  idx_vars y
  rw [product_apply]
  simp only [block0, block1]
  show product m c y0 y1 = _
  refine congrArg₂ (product m c) (Fin.ext ?_) (Fin.ext ?_) <;> blk_simp [where2]

end Cert.MkvFIdeal.Hand
-- ==== Proof.MkvFClaim.lean ====
module

public import proofs.«01_k».proof.Defs
public import proofs.«01_k».proof.Proof.MkvFKernel
public import proofs.«01_k».proof.Proof.Gen.MkvFRefIdeal.Run
public import proofs.«01_k».proof.Proof.Gen.MkvFRefIdeal.Read

@[expose] public section

set_option maxRecDepth 16384

noncomputable section

/-! The claims about the memory's projection to keys and values. -/

namespace Cert.MkvFClaim

open Idealize.ShloMosaic Idealize.ShloMosaic.TcCoe Idealize.SL.Sem Cert.MkvFRefIdeal Cert.MkvFRefIdeal.Read

/-- What the reference computes, at an index. -/
theorem product_ref (x0 : S1024x1024.Idx → EReal) (x1 : S1024x512.Idx → EReal) (r : Fin 1024) (l : Fin 512) :
    val_main_v1 (F := Ideal) x0 x1 (ix2 r l) = ∑ k : Fin 1024, x0 (ix2 r k) * x1 (ix2 k l) := by
  pointwise [val_main_v1, val_main_v0]

/-- The reference ends with its arguments unchanged. -/
theorem frame_ref : Cert.quiescent_MkvFRefIdeal := fun m g _ =>
  (θ_run Cert.MkvFRefIdeal.defs _ _).mono (fun r h => ⟨fun c => (h c).2, sem_eq_zero_of_no_sems (by decide) r.2⟩) (Cert.MkvFRefIdeal.Value.run m g)

/-- The kernel and the reference end with the same array. -/
theorem algebraic : Cert.algebraic_MkvFIdeal_MkvFRefIdeal := by
  intro m g m' g' _ hargs
  refine ⟨_, Cert.MkvFIdeal.Value.run_blocks m g, ?_⟩
  refine (θ_run Cert.MkvFRefIdeal.defs _ _).mono (fun r h c => ⟨(h c).1.trans ?_, (h c).2⟩) (Cert.MkvFRefIdeal.Value.run m' g')
  obtain ⟨e0, e1⟩ := hargs c
  rw [val_main_v1_eq, e0, e1, Cert.MkvFIdeal.Hand.array]
  exact funext fun i => by
    idx_vars i
    exact product_ref _ _ i0 i1

end Cert.MkvFClaim
-- ==== Proof.MkvWKernel.lean ====
module

public import Idealize.ShloMosaic.PureOps.Ideal.Laws
public import proofs.«01_k».proof.Proof.Gen.MkvWIdeal.Value
public import Idealize.ShloMosaic.Lib.Pipeline.ValueKit
public import Idealize.ShloMosaic.Lib.Pipeline.ReadBack
public import Idealize.ShloMosaic.Lib.Pointwise

@[expose] public section

set_option maxRecDepth 16384

noncomputable section

/-! The array that the gradient of the memory's projection leaves, at every index. -/

namespace Cert.MkvWIdeal.Hand

open Cert.MkvWIdeal Cert.MkvWIdeal.Gen Idealize.ShloMosaic Idealize.ShloMosaic.TcCoe Idealize.SL.Sem

theorem where0 : ∀ t : Fin cfg0.N, win0_0.index t = ![0, 0] := (by decide +kernel : ∀ t : Fin grid0.N, _)
theorem where1 : ∀ t : Fin cfg0.N, win0_1.index t = ![0, 0] := (by decide +kernel : ∀ t : Fin grid0.N, _)
theorem where2 : ∀ t : Fin cfg0.N, win0_2.index t = ![0, 0] := (by decide +kernel : ∀ t : Fin grid0.N, _)

theorem product_apply (a : Vec Ideal S1024x1024 .f32) (b : Vec Ideal S1024x512 .f32) (r : Fin 1024) (l : Fin 512) :
    k0_pay2 (k0_pay1 (F := Ideal)) a b (ix2 r l) = ∑ k : Fin 1024, a (ix2 k r) * b (ix2 k l) := by
  pointwise [k0_pay2, k0_pay1]

variable (m : (ℓ : Loc nD τ sig) → Buf (Elt Ideal) ℓ) (c : Dev nD)

/-- The memory rows and the second operand that the program is given. -/
abbrev rows : S1024x1024.Idx → EReal := m ((c : Thread nD τ).loc main_arg0)
abbrev other : S1024x512.Idx → EReal := m ((c : Thread nD τ).loc main_arg1)

theorem block0 (t : Fin cfg0.N) (r k : Fin 1024) : iblk m c 0 t (ix2 r k : S1024x1024.Idx) = rows m c (ix2 r k) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (k : Fin 1024) (l : Fin 512) : iblk m c 1 t (ix2 k l : S1024x512.Idx) = other m c (ix2 k l) := by
  blk_simp [iblk]
  rw [V_main_arg1]
  refine congrArg _ (funext fun a => Fin.ext ?_)
  match a with
  | ⟨0, _⟩ => blk_simp [where1]
  | ⟨1, _⟩ => blk_simp [where1]

theorem flush (t : Fin cfg0.N) (y : S1024x512.Idx) :
    (dats m 0 c).flushed 2 t y = k0_pay2 (k0_pay1 (F := Ideal)) (iblk m c 0 t) (iblk m c 1 t) y := by
  rw [Value.flushed2_A]
  frame_out
  rfl

/-- A column of the memory against a column of the cotangents, over all memory rows. -/
def product (r : Fin 1024) (l : Fin 512) : EReal := ∑ k : Fin 1024, rows m c (ix2 k r) * other m c (ix2 k l)

theorem array : (dats m 0 c).arrAt 2 cfg0.N = fun i : S1024x512.Idx => product m c (i 0) (i 1) := by
  refine (dats m 0 c).arrAt_eq_of_covers 2 _ (by decide +kernel) fun t hf y => ?_
  refine (flush m c t y).trans ?_
  idx_vars y
  rw [product_apply]
  simp only [block0, block1]
  show product m c y0 y1 = _
  refine congrArg₂ (product m c) (Fin.ext ?_) (Fin.ext ?_) <;> blk_simp [where2]

end Cert.MkvWIdeal.Hand
-- ==== Proof.MkvWClaim.lean ====
module

public import proofs.«01_k».proof.Defs
public import proofs.«01_k».proof.Proof.MkvWKernel
public import proofs.«01_k».proof.Proof.Gen.MkvWRefIdeal.Run
public import proofs.«01_k».proof.Proof.Gen.MkvWRefIdeal.Read

@[expose] public section

set_option maxRecDepth 16384

noncomputable section

/-! The claims about the gradient of the memory's projection. -/

namespace Cert.MkvWClaim

open Idealize.ShloMosaic Idealize.ShloMosaic.TcCoe Idealize.SL.Sem Cert.MkvWRefIdeal Cert.MkvWRefIdeal.Read

/-- What the reference computes, at an index. -/
theorem product_ref (x0 : S1024x1024.Idx → EReal) (x1 : S1024x512.Idx → EReal) (r : Fin 1024) (l : Fin 512) :
    val_main_v3 (F := Ideal) x0 x1 (ix2 r l) = ∑ k : Fin 1024, x0 (ix2 k r) * x1 (ix2 k l) := by
  pointwise [val_main_v3, val_main_v2]
  exact Finset.sum_congr rfl fun k _ => mul_comm _ _

/-- The reference ends with its arguments unchanged. -/
theorem frame_ref : Cert.quiescent_MkvWRefIdeal := fun m g _ =>
  (θ_run Cert.MkvWRefIdeal.defs _ _).mono (fun r h => ⟨fun c => (h c).2, sem_eq_zero_of_no_sems (by decide) r.2⟩) (Cert.MkvWRefIdeal.Value.run m g)

/-- The kernel and the reference end with the same array. -/
theorem algebraic : Cert.algebraic_MkvWIdeal_MkvWRefIdeal := by
  intro m g m' g' _ hargs
  refine ⟨_, Cert.MkvWIdeal.Value.run_blocks m g, ?_⟩
  refine (θ_run Cert.MkvWRefIdeal.defs _ _).mono (fun r h c => ⟨(h c).1.trans ?_, (h c).2⟩) (Cert.MkvWRefIdeal.Value.run m' g')
  obtain ⟨e0, e1⟩ := hargs c
  rw [val_main_v3_eq, e0, e1, Cert.MkvWIdeal.Hand.array]
  exact funext fun i => by
    idx_vars i
    exact product_ref _ _ i0 i1

end Cert.MkvWClaim
-- ==== Proof.LossKernel.lean ====
module

public import proofs.«01_k».proof.Proof.BackSpec
public import proofs.«01_k».proof.Proof.Gen.LossIdeal.Value
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.PureOps.Ideal.Laws

@[expose] public section

set_option maxRecDepth 16384

noncomputable section

/-! The five arrays that the loss and the cotangent of the last layer norm leave, at every index. -/

namespace Cert.LossIdeal.Hand

open Cert.LossIdeal Cert.LossIdeal.Gen Idealize.ShloMosaic Idealize.ShloMosaic.TcCoe Idealize.SL.Sem Cert.NormSpec Cert.BackSpec

theorem where0 : ∀ t : Fin cfg0.N, win0_0.index t = ![t.val, 0] := (by decide +kernel : ∀ t : Fin grid0.N, _)
theorem where1 : ∀ t : Fin cfg0.N, win0_1.index t = ![t.val, 0] := (by decide +kernel : ∀ t : Fin grid0.N, _)
theorem where2 : ∀ t : Fin cfg0.N, win0_2.index t = ![t.val, 0] := (by decide +kernel : ∀ t : Fin grid0.N, _)
theorem where3 : ∀ t : Fin cfg0.N, win0_3.index t = ![0, 0] := (by decide +kernel : ∀ t : Fin grid0.N, _)
theorem where4 : ∀ t : Fin cfg0.N, win0_4.index t = ![0, 0] := (by decide +kernel : ∀ t : Fin grid0.N, _)
theorem where5 : ∀ t : Fin cfg0.N, win0_5.index t = ![t.val, 0] := (by decide +kernel : ∀ t : Fin grid0.N, _)
theorem where6 : ∀ t : Fin cfg0.N, win0_6.index t = ![t.val, 0] := (by decide +kernel : ∀ t : Fin grid0.N, _)
theorem where7 : ∀ t : Fin cfg0.N, win0_7.index t = ![0, 0] := (by decide +kernel : ∀ t : Fin grid0.N, _)
theorem where8 : ∀ t : Fin cfg0.N, win0_8.index t = ![0, 0] := (by decide +kernel : ∀ t : Fin grid0.N, _)

/-- The number of lanes as the kernel holds it, one over it, and half of that. -/
abbrev lanes : Ideal .f32 := Scalar.ofBits .f32 0x44800000#32
def each : EReal := Ideal.ofBits .f32 0x3A800000#32
def halfEach : EReal := Ideal.ofBits .f32 0x3A000000#32

theorem diff_apply (x t : Vec Ideal S512x1024 .f32) (r : Fin 512) (l : Fin 1024) : k0_pay3 x t (ix2 r l) = x (ix2 r l) - t (ix2 r l) := rfl

theorem cotangent_apply (x t : Vec Ideal S512x1024 .f32) (r : Fin 512) (l : Fin 1024) : k0_pay5 x t (ix2 r l) = (x (ix2 r l) - t (ix2 r l)) * each := rfl

/-- A tile's squares, added to what was held. -/
theorem loss_step (x t : Vec Ideal S512x1024 .f32) (acc : Vec Ideal S8x128 .f32) (a : Fin 8) (b : Fin 128) :
    k0_pay4 x t acc (ix2 a b) = acc (ix2 a b) + (∑ r : Fin 512, ∑ k : Fin 1024, (x (ix2 r k) - t (ix2 r k)) * (x (ix2 r k) - t (ix2 r k))) * halfEach := by
  have h := diff_apply x t
  generalize e : k0_pay3 x t = d at h
  pointwise [k0_pay4, e]
  simp only [h]
  rfl

theorem loss_fill (i : S8x128.Idx) : k0_pay2 (F := Ideal) i = 0 := by
  idx_vars i
  pointwise [k0_pay2]

theorem center_apply (z : Vec Ideal S512x1024 .f32) (r : Fin 512) (l : Fin 1024) : k0_pay8 z (ix2 r l) = center (fun l => z (ix2 r l)) l := by
  pointwise [k0_pay8]
  rfl

theorem scale_apply (z : Vec Ideal S512x1024 .f32) (r : Fin 512) : k0_pay10 (F := Ideal) (k0_pay9 z) lanes (ix2 r 0) = scale fun l => z (ix2 r l) := by
  have h := center_apply z
  generalize e : k0_pay8 z = w at h
  pointwise [k0_pay10, k0_pay9, e]
  simp only [h]
  rfl

theorem hat_apply (z : Vec Ideal S512x1024 .f32) (r : Fin 512) (l : Fin 1024) :
    k0_pay11 (F := Ideal) (k0_pay8 z) (k0_pay9 z) lanes (ix2 r l) = hat (fun l => z (ix2 r l)) l := by
  rw [hat, ← scale_apply, ← center_apply]
  generalize lanes = n
  generalize e : k0_pay10 (F := Ideal) (k0_pay9 z) n = w
  generalize k0_pay8 z = w'
  pointwise [k0_pay11, e]

/-- A row of the cotangent, from the row's parts. -/
theorem pulled_apply (y z : Vec Ideal S512x1024 .f32) (g : Vec Ideal S1x1024 .f32) (r : Fin 512) (l : Fin 1024) :
    k0_pay12 (F := Ideal) y (k0_pay8 z) (k0_pay9 z) lanes g (ix2 r l)
      = pulled (fun l => z (ix2 r l)) (fun l => y (ix2 r l)) (fun l => g (ix2 0 l)) l := by
  have hh := hat_apply z
  have hs := scale_apply z
  generalize lanes = n at hh hs ⊢
  generalize e : k0_pay11 (F := Ideal) (k0_pay8 z) (k0_pay9 z) n = h at hh
  generalize e' : k0_pay10 (F := Ideal) (k0_pay9 z) n = s at hs
  pointwise [k0_pay12, e, e']
  simp only [hh, hs]
  rfl

theorem gain_step (y z : Vec Ideal S512x1024 .f32) (acc : Vec Ideal S1x1024 .f32) (l : Fin 1024) :
    k0_pay14 (F := Ideal) y (k0_pay8 z) (k0_pay9 z) lanes acc (ix2 0 l) = acc (ix2 0 l) + ∑ r : Fin 512, y (ix2 r l) * hat (fun l => z (ix2 r l)) l := by
  simp only [← hat_apply]
  generalize lanes = n
  generalize e : k0_pay11 (F := Ideal) (k0_pay8 z) (k0_pay9 z) n = h
  pointwise [k0_pay14, e]

theorem bias_step (y : Vec Ideal S512x1024 .f32) (acc : Vec Ideal S1x1024 .f32) (l : Fin 1024) :
    k0_pay1 (F := Ideal) y (k0_pay15 acc) (ix2 0 l) = acc (ix2 0 l) + ∑ r : Fin 512, y (ix2 r l) := by
  pointwise [k0_pay1, k0_pay15]

theorem gain_fill (l : Fin 1024) : k0_pay6 (F := Ideal) (ix2 0 l) = 0 := by
  pointwise [k0_pay6]

theorem bias_fill (l : Fin 1024) : k0_pay7 (F := Ideal) (ix2 0 l) = 0 := by
  pointwise [k0_pay7]

variable (m : (ℓ : Loc nD τ sig) → Buf (Elt Ideal) ℓ) (c : Dev nD)

/-- The arrays that the program is given: the last layer's output, the target, the layer norm's input and its gain. -/
abbrev last : S8192x1024.Idx → EReal := m ((c : Thread nD τ).loc main_arg0)
abbrev target : S8192x1024.Idx → EReal := m ((c : Thread nD τ).loc main_arg1)
abbrev normIn : S8192x1024.Idx → EReal := m ((c : Thread nD τ).loc main_arg2)
abbrev normGain : S1024.Idx → EReal := m ((c : Thread nD τ).loc main_arg3)

theorem block0 (t : Fin cfg0.N) (r : Fin 512) (l : Fin 1024) :
    iblk m c 0 t (ix2 r l : S512x1024.Idx) = last m c (ix2 ⟨t.val * 512 + r.val, by have := t.isLt; have : cfg0.N = 16 := N_0; omega⟩ l) := by
  blk_simp [iblk]
  rw [V_main_arg0]
  refine congrArg _ (funext fun a => Fin.ext ?_)
  match a with
  | ⟨0, _⟩ => blk_simp [where0]
  | ⟨1, _⟩ => blk_simp [where0]

theorem block1 (t : Fin cfg0.N) (r : Fin 512) (l : Fin 1024) :
    iblk m c 1 t (ix2 r l : S512x1024.Idx) = target m c (ix2 ⟨t.val * 512 + r.val, by have := t.isLt; have : cfg0.N = 16 := N_0; omega⟩ l) := by
  blk_simp [iblk]
  rw [V_main_arg1]
  refine congrArg _ (funext fun a => Fin.ext ?_)
  match a with
  | ⟨0, _⟩ => blk_simp [where1]
  | ⟨1, _⟩ => blk_simp [where1]

theorem block2 (t : Fin cfg0.N) (r : Fin 512) (l : Fin 1024) :
    iblk m c 2 t (ix2 r l : S512x1024.Idx) = normIn m c (ix2 ⟨t.val * 512 + r.val, by have := t.isLt; have : cfg0.N = 16 := N_0; omega⟩ l) := by
  blk_simp [iblk]
  rw [V_main_arg2]
  refine congrArg _ (funext fun a => Fin.ext ?_)
  match a with
  | ⟨0, _⟩ => blk_simp [where2]
  | ⟨1, _⟩ => blk_simp [where2]

theorem gain_row (l : Fin 1024) : V m c main_v0 (ix2 0 l : S1x1024.Idx) = normGain m c (ix1 l) := by
  unfold V
  after_reads_at

theorem block3 (t : Fin cfg0.N) (l : Fin 1024) : iblk m c 3 t (ix2 0 l : S1x1024.Idx) = normGain m c (ix1 l) := by
  refine Eq.trans ?_ (gain_row m c l)
  blk_simp [iblk]
  refine congrArg _ (funext fun a => Fin.ext ?_)
  match a with
  | ⟨0, _⟩ => blk_simp [where3]
  | ⟨1, _⟩ => blk_simp [where3]

/-- The cotangent of the layer norm's output at a grid point, and that of its input. -/
abbrev cotBlk (t : Fin cfg0.N) : Vec Ideal S512x1024 .f32 := k0_pay5 (iblk m c 0 t) (iblk m c 1 t)
abbrev backBlk (t : Fin cfg0.N) : Vec Ideal S512x1024 .f32 :=
  k0_pay12 (F := Ideal) (cotBlk m c t) (k0_pay8 (iblk m c 2 t)) (k0_pay9 (iblk m c 2 t)) lanes (iblk m c 3 t)

theorem flush5 (t : Fin cfg0.N) (y : S512x1024.Idx) : (dats m 0 c).flushed 5 t y = backBlk m c t y := by
  by_cases h : t.val % 16 = 0
  · rw [Value.flushed5_A m c t h h]
    frame_out
    rfl
  · rw [Value.flushed5_B m c t h h]
    frame_out
    rfl

theorem flush6 (t : Fin cfg0.N) (y : S512x1024.Idx) : (dats m 0 c).flushed 6 t y = backBlk m c t y := by
  by_cases h : t.val % 16 = 0
  · rw [Value.flushed6_A m c t h h]
    frame_out
    rfl
  · rw [Value.flushed6_B m c t h h]
    frame_out
    rfl

theorem loss_first (t : Fin cfg0.N) (h : t.val % 16 = 0) (y : S8x128.Idx) :
    (outsAt0 m c t.val t.isLt).1 y = k0_pay4 (F := Ideal) (iblk m c 0 t) (iblk m c 1 t) (k0_pay2 (F := Ideal)) y := by
  rw [outsAt0_A m c t h h]
  dsimp only
  frame_open
  simp (disch := decide) only [↓ View.readCov_skip, ↓ View.readCov_cons_toLoadRect, ↓ View.readCov_fill]
  frame_out

theorem loss_next (t : Fin cfg0.N) (h : ¬t.val % 16 = 0) (y : S8x128.Idx) :
    (outsAt0 m c t.val t.isLt).1 y
      = k0_pay4 (F := Ideal) (iblk m c 0 t) (iblk m c 1 t) (outsAt0 m c (t.val - 1) (Nat.lt_of_le_of_lt (Nat.sub_le _ _) t.isLt)).1 y := by
  rw [outsAt0_B m c t h h]
  dsimp only
  frame_open
  simp (disch := decide) only [↓ View.readCov_skip, ↓ View.readCov_cons_toLoadRect, ↓ View.readCov_fill]
  frame_out

theorem gain_first (t : Fin cfg0.N) (h : t.val % 16 = 0) (y : S1x1024.Idx) :
    (outsAt0 m c t.val t.isLt).2.2.2.1 y = k0_pay14 (F := Ideal) (cotBlk m c t) (k0_pay8 (iblk m c 2 t)) (k0_pay9 (iblk m c 2 t)) lanes (k0_pay6 (F := Ideal)) y := by
  rw [outsAt0_A m c t h h]
  dsimp only
  frame_open
  simp (disch := decide) only [↓ View.readCov_skip, ↓ View.readCov_cons_toLoadRect, ↓ View.readCov_fill]
  frame_out

theorem gain_next (t : Fin cfg0.N) (h : ¬t.val % 16 = 0) (y : S1x1024.Idx) :
    (outsAt0 m c t.val t.isLt).2.2.2.1 y
      = k0_pay14 (F := Ideal) (cotBlk m c t) (k0_pay8 (iblk m c 2 t)) (k0_pay9 (iblk m c 2 t)) lanes (outsAt0 m c (t.val - 1) (Nat.lt_of_le_of_lt (Nat.sub_le _ _) t.isLt)).2.2.2.1 y := by
  rw [outsAt0_B m c t h h]
  dsimp only
  frame_open
  simp (disch := decide) only [↓ View.readCov_skip, ↓ View.readCov_cons_toLoadRect, ↓ View.readCov_fill]
  frame_out

theorem bias_first (t : Fin cfg0.N) (h : t.val % 16 = 0) (y : S1x1024.Idx) :
    (outsAt0 m c t.val t.isLt).2.2.2.2 y = k0_pay1 (F := Ideal) (cotBlk m c t) (k0_pay15 (k0_pay7 (F := Ideal))) y := by
  rw [outsAt0_A m c t h h]
  dsimp only
  frame_open
  simp (disch := decide) only [↓ View.readCov_skip, ↓ View.readCov_cons_toLoadRect, ↓ View.readCov_fill]
  frame_out

theorem bias_next (t : Fin cfg0.N) (h : ¬t.val % 16 = 0) (y : S1x1024.Idx) :
    (outsAt0 m c t.val t.isLt).2.2.2.2 y
      = k0_pay1 (F := Ideal) (cotBlk m c t) (k0_pay15 (outsAt0 m c (t.val - 1) (Nat.lt_of_le_of_lt (Nat.sub_le _ _) t.isLt)).2.2.2.2) y := by
  rw [outsAt0_B m c t h h]
  dsimp only
  frame_open
  simp (disch := decide) only [↓ View.readCov_skip, ↓ View.readCov_cons_toLoadRect, ↓ View.readCov_fill]
  frame_out

/-- Row `s` of the layer norm's input, the gain, and row `s` of the cotangent of the layer norm's output. -/
def inRow (s : Fin 8192) (l : Fin 1024) : EReal := normIn m c (ix2 s l)
def gainRow (l : Fin 1024) : EReal := normGain m c (ix1 l)
def cotRow (s : Fin 8192) (l : Fin 1024) : EReal := (last m c (ix2 s l) - target m c (ix2 s l)) * each

/-- The cotangent of the layer norm's input. -/
def back (s : Fin 8192) (l : Fin 1024) : EReal := pulled (inRow m c s) (cotRow m c s) (gainRow m c) l

theorem cot_point (t : Fin cfg0.N) (r : Fin 512) (l : Fin 1024) : cotBlk m c t (ix2 r l) = cotRow m c ⟨t.val * 512 + r.val, by have := t.isLt; have : cfg0.N = 16 := N_0; omega⟩ l := by
  refine (cotangent_apply _ _ r l).trans ?_
  rw [block0, block1]
  rfl

theorem back_point (t : Fin cfg0.N) (r : Fin 512) (l : Fin 1024) :
    backBlk m c t (ix2 r l) = back m c ⟨t.val * 512 + r.val, by have := t.isLt; have : cfg0.N = 16 := N_0; omega⟩ l := by
  refine (pulled_apply _ _ _ r l).trans ?_
  simp only [cot_point, block2, block3]
  rfl

theorem wide_array : (dats m 0 c).arrAt 5 cfg0.N = fun i : S8192x1024.Idx => back m c (i 0) (i 1) := by
  refine (dats m 0 c).arrAt_eq_of_covers 5 _ (by decide +kernel) fun t hf y => ?_
  refine (flush5 m c t y).trans ?_
  idx_vars y
  rw [back_point]
  refine congrArg₂ (back m c) (Fin.ext ?_) (Fin.ext ?_) <;> blk_simp [where5]

theorem narrow_array : (dats m 0 c).arrAt 6 cfg0.N = fun i : S8192x1024.Idx => back m c (i 0) (i 1) := by
  refine (dats m 0 c).arrAt_eq_of_covers 6 _ (by decide +kernel) fun t hf y => ?_
  refine (flush6 m c t y).trans ?_
  idx_vars y
  rw [back_point]
  refine congrArg₂ (back m c) (Fin.ext ?_) (Fin.ext ?_) <;> blk_simp [where6]

/-- The squares of row `s`, added up, and a tile's part of the loss. -/
def squares (s : Fin 8192) : EReal := ∑ k : Fin 1024, (last m c (ix2 s k) - target m c (ix2 s k)) * (last m c (ix2 s k) - target m c (ix2 s k))
def squaresAt (s : ℕ) : EReal := if h : s < 8192 then squares m c ⟨s, h⟩ else 0
def tileLoss (t : ℕ) : EReal := (∑ r : Fin 512, squaresAt m c (t * 512 + r.val)) * halfEach

theorem loss_tile (t : Fin cfg0.N) (y : S8x128.Idx) (acc : Vec Ideal S8x128 .f32) :
    k0_pay4 (F := Ideal) (iblk m c 0 t) (iblk m c 1 t) acc y = acc y + tileLoss m c t.val := by
  have hN : t.val < 16 := lt_of_lt_of_eq t.isLt N_0
  idx_vars y
  rw [loss_step, tileLoss]
  refine congrArg _ (congrArg (· * _) (Finset.sum_congr rfl fun r _ => ?_))
  rw [squaresAt, dif_pos (by omega : t.val * 512 + r.val < 8192)]
  simp only [block0, block1]
  rfl

theorem loss_flush (t : Fin cfg0.N) (h : t.val % 16 = 15) (y : S8x128.Idx) :
    (outsAt0 m c t.val t.isLt).1 y = ∑ s : Fin 16, tileLoss m c s.val := by
  have hN : t.val < 16 := lt_of_lt_of_eq t.isLt N_0
  rw [Pipeline.eq_sum_fin_of_reset_step_apply_of_flush (fun n h => (outsAt0 m c n h).1) 16 (fun _ => (0 : EReal))
    (fun t _ => tileLoss m c t.val)
    (fun t hc y => (loss_first m c t hc y).trans ((loss_tile m c t y _).trans (congrArg (· + _) (loss_fill _))))
    (fun t hc y => (loss_next m c t hc y).trans (loss_tile m c t y _)) t h y]
  have hr : ∀ s : Fin 16, 16 * (t.val / 16) + s.val = s.val := fun s => by omega
  simp only [hr, zero_add]

theorem loss_array : (dats m 0 c).arrAt 4 cfg0.N = fun _ : S8x128.Idx => ∑ s : Fin 16, tileLoss m c s.val := by
  refine (dats m 0 c).arrAt_eq_of_covers 4 _ (by decide +kernel) fun t hf y => ?_
  have h := loss_flush m c t ((flush0_4 t).mp hf) y
  blk_simp
  rw [after0_4, h]

/-- Row `s`'s term of the gain's gradient and of the bias's gradient at lane `l`. -/
def gainTerm (l s : ℕ) : EReal := if h : l < 1024 ∧ s < 8192 then cotRow m c ⟨s, h.2⟩ ⟨l, h.1⟩ * hat (inRow m c ⟨s, h.2⟩) ⟨l, h.1⟩ else 0
def biasTerm (l s : ℕ) : EReal := if h : l < 1024 ∧ s < 8192 then cotRow m c ⟨s, h.2⟩ ⟨l, h.1⟩ else 0

theorem gain_tile (t : Fin cfg0.N) (y : S1x1024.Idx) (acc : Vec Ideal S1x1024 .f32) :
    k0_pay14 (F := Ideal) (cotBlk m c t) (k0_pay8 (iblk m c 2 t)) (k0_pay9 (iblk m c 2 t)) lanes acc y = acc y + ∑ r : Fin 512, gainTerm m c (y 1).val (t.val * 512 + r.val) := by
  have hN : t.val < 16 := lt_of_lt_of_eq t.isLt N_0
  idx_vars y
  obtain rfl : y0 = 0 := Fin.ext (by have := y0.isLt; omega)
  rw [gain_step]
  refine congrArg _ (Finset.sum_congr rfl fun r _ => ?_)
  rw [cot_point, gainTerm, dif_pos ⟨y1.isLt, by omega⟩]
  simp only [block2]
  rfl

theorem bias_tile (t : Fin cfg0.N) (y : S1x1024.Idx) (acc : Vec Ideal S1x1024 .f32) :
    k0_pay1 (F := Ideal) (cotBlk m c t) (k0_pay15 acc) y = acc y + ∑ r : Fin 512, biasTerm m c (y 1).val (t.val * 512 + r.val) := by
  have hN : t.val < 16 := lt_of_lt_of_eq t.isLt N_0
  idx_vars y
  obtain rfl : y0 = 0 := Fin.ext (by have := y0.isLt; omega)
  rw [bias_step]
  refine congrArg _ (Finset.sum_congr rfl fun r _ => ?_)
  rw [cot_point, biasTerm, dif_pos ⟨y1.isLt, by omega⟩]

theorem gain_flush (t : Fin cfg0.N) (h : t.val % 16 = 15) (y : S1x1024.Idx) :
    (outsAt0 m c t.val t.isLt).2.2.2.1 y = ∑ s : Fin 8192, gainTerm m c (y 1).val s.val := by
  have hN : t.val < 16 := lt_of_lt_of_eq t.isLt N_0
  rw [Pipeline.eq_sum_fin_of_reset_step_apply_of_flush (fun n h => (outsAt0 m c n h).2.2.2.1) 16 (fun _ => (0 : EReal))
    (fun t y => ∑ r : Fin 512, gainTerm m c (y 1).val (t.val * 512 + r.val))
    (fun t hc y => (gain_first m c t hc y).trans ((gain_tile m c t y _).trans (congrArg (· + _) (by
      idx_vars y
      obtain rfl : y0 = 0 := Fin.ext (by have := y0.isLt; omega)
      exact gain_fill _))))
    (fun t hc y => (gain_next m c t hc y).trans (gain_tile m c t y _)) t h y]
  have hr : ∀ s : Fin 16, 16 * (t.val / 16) + s.val = s.val := fun s => by omega
  simp only [hr, zero_add]
  exact Fin.sum_mul_add_congr fun s k h => rfl

theorem bias_flush (t : Fin cfg0.N) (h : t.val % 16 = 15) (y : S1x1024.Idx) :
    (outsAt0 m c t.val t.isLt).2.2.2.2 y = ∑ s : Fin 8192, biasTerm m c (y 1).val s.val := by
  have hN : t.val < 16 := lt_of_lt_of_eq t.isLt N_0
  rw [Pipeline.eq_sum_fin_of_reset_step_apply_of_flush (fun n h => (outsAt0 m c n h).2.2.2.2) 16 (fun _ => (0 : EReal))
    (fun t y => ∑ r : Fin 512, biasTerm m c (y 1).val (t.val * 512 + r.val))
    (fun t hc y => (bias_first m c t hc y).trans ((bias_tile m c t y _).trans (congrArg (· + _) (by
      idx_vars y
      obtain rfl : y0 = 0 := Fin.ext (by have := y0.isLt; omega)
      exact bias_fill _))))
    (fun t hc y => (bias_next m c t hc y).trans (bias_tile m c t y _)) t h y]
  have hr : ∀ s : Fin 16, 16 * (t.val / 16) + s.val = s.val := fun s => by omega
  simp only [hr, zero_add]
  exact Fin.sum_mul_add_congr fun s k h => rfl

/-- The gradients of the gain and of the bias at lane `l`: sums over all rows. -/
def gainGrad (l : Fin 1024) : EReal := ∑ s : Fin 8192, cotRow m c s l * hat (inRow m c s) l
def biasGrad (l : Fin 1024) : EReal := ∑ s : Fin 8192, cotRow m c s l

theorem gainGrad_eq (l : Fin 1024) : gainGrad m c l = ∑ s : Fin 8192, gainTerm m c l.val s.val :=
  Finset.sum_congr rfl fun s _ => by rw [gainTerm, dif_pos ⟨l.isLt, s.isLt⟩]

theorem biasGrad_eq (l : Fin 1024) : biasGrad m c l = ∑ s : Fin 8192, biasTerm m c l.val s.val :=
  Finset.sum_congr rfl fun s _ => by rw [biasTerm, dif_pos ⟨l.isLt, s.isLt⟩]

theorem gain_array : (dats m 0 c).arrAt 7 cfg0.N = fun i : S1x1024.Idx => gainGrad m c (i 1) := by
  refine (dats m 0 c).arrAt_eq_of_covers 7 _ (by decide +kernel) fun t hf y => ?_
  have h := gain_flush m c t ((flush0_7 t).mp hf) y
  blk_simp
  rw [after0_7, h]
  refine Eq.trans ?_ (gainGrad_eq m c _).symm
  blk_simp [where7]

theorem bias_array : (dats m 0 c).arrAt 8 cfg0.N = fun i : S1x1024.Idx => biasGrad m c (i 1) := by
  refine (dats m 0 c).arrAt_eq_of_covers 8 _ (by decide +kernel) fun t hf y => ?_
  have h := bias_flush m c t ((flush0_8 t).mp hf) y
  blk_simp
  rw [after0_8, h]
  refine Eq.trans ?_ (biasGrad_eq m c _).symm
  blk_simp [where8]

end Cert.LossIdeal.Hand
-- ==== Proof.LossClaim.lean ====
module

public import proofs.«01_k».proof.Defs
public import proofs.«01_k».proof.Proof.LossKernel
public import proofs.«01_k».proof.Proof.Gen.LossRefIdeal.Run
public import proofs.«01_k».proof.Proof.Gen.LossRefIdeal.Read

@[expose] public section

set_option maxRecDepth 16384

noncomputable section

/-! The claims about the loss with the last layer norm's cotangent. -/

namespace Cert.LossClaim

open Idealize.ShloMosaic Idealize.ShloMosaic.TcCoe Idealize.SL.Sem Cert.LossRefIdeal Cert.LossRefIdeal.Read Cert.NormSpec Cert.BackSpec

/-- The side conditions that the precondition states. -/
theorem pre_facts : Cert.Pre_loss_finite.Facts where
  bcast_S_S8192x1024 := by decide
  bcast_S_S1024 := by decide

/-- The half that the reference multiplies with. -/
def plus : EReal := Ideal.ofBits .f32 0x3F000000#32

theorem plus_coe : plus = ((1 / 2 : ℝ) : EReal) := by
  simp [plus, Ideal.ofBits, Ideal.ieee]; norm_cast; norm_num

theorem each_coe : Cert.LossIdeal.Hand.each = ((1 / 1024 : ℝ) : EReal) := by
  simp [Cert.LossIdeal.Hand.each, Ideal.ofBits, Ideal.ieee]; norm_cast; norm_num

theorem halfEach_coe : Cert.LossIdeal.Hand.halfEach = ((1 / 2048 : ℝ) : EReal) := by
  simp [Cert.LossIdeal.Hand.halfEach, Ideal.ofBits, Ideal.ieee]; norm_cast; norm_num

section

variable (x0 x1 x2 : S8192x1024.Idx → EReal) (x3 : S1024.Idx → EReal)

/-- Row `s` of an array. -/
abbrev row (x : S8192x1024.Idx → EReal) (s : Fin 8192) : Fin 1024 → EReal := fun l => x (ix2 s l)

/-- The reference's cotangent of the layer norm's output. -/
abbrev cot : S8192x1024.Idx → EReal := val_main_v45 (F := Ideal) x0 x1

/-- The reference's factor of a row: a half over the number of lanes. -/
def factor : EReal := Ideal.div plus width

theorem cot_ref' (s : Fin 8192) (l : Fin 1024) : val_main_v14 (F := Ideal) x0 x1 (ix2 s l) = factor * (two * (x0 (ix2 s l) - x1 (ix2 s l))) := by
  pointwise [val_main_v14, val_main_v13, val_main_v12, val_main_v11, val_main_v10, val_main_v9, val_main_v3, val_main_v2, val_main_v0, val_main_cst, val_main_cst_4, val_main_cst_5, val_main_cst_6]
  rfl

theorem cot_ref (s : Fin 8192) (l : Fin 1024) : cot x0 x1 (ix2 s l) = factor * (two * (x0 (ix2 s l) - x1 (ix2 s l))) := by
  rw [← cot_ref', cot]
  generalize e : val_main_v14 (F := Ideal) x0 x1 = z
  pointwise [val_main_v45, e]

/-- The reference's loss: a half of the sum of the rows' means. -/
theorem loss_ref (a : Fin 8) (b : Fin 128) :
    val_main_v79 (F := Ideal) x0 x1 (ix2 a b) = plus * ∑ s : Fin 8192, mean fun k => (x0 (ix2 s k) - x1 (ix2 s k)) * (x0 (ix2 s k) - x1 (ix2 s k)) := by
  pointwise [val_main_v79, val_main_v8, val_main_v7, val_main_v6, val_main_v5, val_main_v4, val_main_v1, val_main_v0, val_main_cst_0, val_main_cst_1, val_main_cst_2, val_main_cst_3]
  rfl

theorem mean_ref (s : Fin 8192) : val_main_v19 (F := Ideal) x2 (ix2 s 0) = mean (row x2 s) := by
  pointwise [val_main_v19, val_main_v18, val_main_v17, val_main_v16, val_main_cst_8, val_main_cst_9]
  rfl

theorem center_ref (s : Fin 8192) (l : Fin 1024) : val_main_v21 (F := Ideal) x2 (ix2 s l) = center (row x2 s) l := by
  rw [center, ← mean_ref]
  generalize e : val_main_v19 (F := Ideal) x2 = z
  pointwise [val_main_v21, val_main_v20, e]

theorem center_ref' (s : Fin 8192) (l : Fin 1024) : val_main_v30 (F := Ideal) x2 (ix2 s l) = center (row x2 s) l := by
  rw [center, ← mean_ref]
  generalize e : val_main_v19 (F := Ideal) x2 = z
  pointwise [val_main_v30, val_main_v29, e]

theorem spread_ref (s : Fin 8192) : val_main_v32 (F := Ideal) x2 (ix2 s 0) = variance (row x2 s) + eps := by
  have h := center_ref x2 s
  generalize e : val_main_v21 (F := Ideal) x2 = z at h
  pointwise [val_main_v32, val_main_v31, val_main_v28, val_main_v27, val_main_v26, val_main_v25, val_main_v22, val_main_cst_11, val_main_cst_12, val_main_cst_13, e]
  simp only [h]
  rfl

theorem scale_ref (s : Fin 8192) : val_main_v33 (F := Ideal) x2 (ix2 s 0) = scale (row x2 s) := by
  rw [scale, ← spread_ref]
  generalize e : val_main_v32 (F := Ideal) x2 = z
  pointwise [val_main_v33, e]

theorem hat_ref (s : Fin 8192) (l : Fin 1024) : val_main_v38 (F := Ideal) x2 (ix2 s l) = hat (row x2 s) l := by
  rw [hat, ← scale_ref, ← center_ref']
  generalize e : val_main_v30 (F := Ideal) x2 = z
  generalize e' : val_main_v33 (F := Ideal) x2 = w
  pointwise [val_main_v38, val_main_v37, e, e']

theorem slope_ref (s : Fin 8192) : val_main_v36 (F := Ideal) x2 (ix2 s 0) = half * Ideal.div (scale (row x2 s)) (variance (row x2 s) + eps) := by
  rw [← scale_ref, ← spread_ref]
  generalize e : val_main_v32 (F := Ideal) x2 = z
  generalize e' : val_main_v33 (F := Ideal) x2 = w
  pointwise [val_main_v36, val_main_v35, val_main_v34, e, e']
  rfl

/-- The cotangent with the gain multiplied in. -/
theorem gained_ref (s : Fin 8192) (l : Fin 1024) :
    val_main_v53 (F := Ideal) x0 x1 x3 (ix2 s l) = cot x0 x1 (ix2 s l) * x3 (ix1 l) := by
  rw [cot]
  generalize e : val_main_v45 (F := Ideal) x0 x1 = z
  pointwise [val_main_v53, val_main_v52, val_main_v39, e]

theorem scaled_ref (s : Fin 8192) (l : Fin 1024) :
    val_main_v59 (F := Ideal) x0 x1 x2 x3 (ix2 s l) = cot x0 x1 (ix2 s l) * x3 (ix1 l) * scale (row x2 s) := by
  rw [← gained_ref, ← scale_ref]
  generalize e : val_main_v53 (F := Ideal) x0 x1 x3 = z
  generalize e' : val_main_v33 (F := Ideal) x2 = w
  pointwise [val_main_v59, val_main_v58, e, e']

theorem pull_ref (s : Fin 8192) :
    val_main_v65 (F := Ideal) x0 x1 x2 x3 (ix2 s 0) = spread (row x2 s) (row (cot x0 x1) s) fun l => x3 (ix1 l) := by
  rw [spread, ← slope_ref]
  simp only [← center_ref', ← gained_ref]
  generalize e : val_main_v53 (F := Ideal) x0 x1 x3 = z
  generalize e' : val_main_v36 (F := Ideal) x2 = w
  generalize e'' : val_main_v30 (F := Ideal) x2 = v
  pointwise [val_main_v65, val_main_v64, val_main_v60, val_main_v57, val_main_v56, val_main_v55, val_main_cst_19, val_main_cst_21, e, e', e'']
  rfl

theorem through_ref (s : Fin 8192) (l : Fin 1024) :
    val_main_v68 (F := Ideal) x0 x1 x2 x3 (ix2 s l)
      = spread (row x2 s) (row (cot x0 x1) s) (fun l => x3 (ix1 l)) * (two * center (row x2 s) l) := by
  rw [← pull_ref, ← center_ref]
  generalize e : val_main_v65 (F := Ideal) x0 x1 x2 x3 = z
  generalize e' : val_main_v21 (F := Ideal) x2 = w
  pointwise [val_main_v68, val_main_v67, val_main_v66, val_main_v24, val_main_v23, val_main_cst_22, val_main_cst_10, e, e']
  simp only [Finset.univ_unique, Finset.sum_singleton]
  rfl

/-- The reference's cotangent of the layer norm's input. -/
theorem back_ref (s : Fin 8192) (l : Fin 1024) :
    val_main_v78 (F := Ideal) x0 x1 x2 x3 (ix2 s l) = chain (row x2 s) (row (cot x0 x1) s) (fun l => x3 (ix1 l)) l := by
  rw [chain]
  simp only [← through_ref, ← scaled_ref]
  generalize e : val_main_v59 (F := Ideal) x0 x1 x2 x3 = z
  generalize e' : val_main_v68 (F := Ideal) x0 x1 x2 x3 = w
  pointwise [val_main_v78, val_main_v77, val_main_v76, val_main_v75, val_main_v74, val_main_v73, val_main_v72, val_main_v71, val_main_v70, val_main_v69, val_main_v63, val_main_v62, val_main_v61, val_main_cst_20, val_main_cst_23, val_main_cst_24, val_main_cst_25, e, e']
  simp only [Finset.univ_unique, Finset.sum_singleton]
  rfl

theorem gain_ref (l : Fin 1024) :
    val_main_v81 (F := Ideal) x0 x1 x2 (ix2 0 l) = ∑ s : Fin 8192, hat (row x2 s) l * cot x0 x1 (ix2 s l) := by
  simp only [← hat_ref, cot]
  generalize e : val_main_v45 (F := Ideal) x0 x1 = z
  generalize e' : val_main_v38 (F := Ideal) x2 = w
  pointwise [val_main_v81, val_main_v54, val_main_v51, val_main_v50, val_main_v49, val_main_cst_17, val_main_cst_18, e, e']
  simp only [Finset.univ_unique, Finset.sum_singleton]

theorem bias_ref (l : Fin 1024) :
    val_main_v82 (F := Ideal) x0 x1 (ix2 0 l) = ∑ s : Fin 8192, cot x0 x1 (ix2 s l) := by
  have h : ∀ s : Fin 8192, cot x0 x1 (ix2 s l) = val_main_v14 (F := Ideal) x0 x1 (ix2 s l) := fun s => (cot_ref x0 x1 s l).trans (cot_ref' x0 x1 s l).symm
  simp only [h]
  generalize e : val_main_v14 (F := Ideal) x0 x1 = z
  pointwise [val_main_v82, val_main_v48, val_main_v47, val_main_v46, val_main_cst_15, val_main_cst_16, e]
  simp only [Finset.univ_unique, Finset.sum_singleton]

end

/-- The reference ends with its arguments unchanged. -/
theorem frame_ref (m : (ℓ : Loc Cert.LossRefIdeal.nD Cert.LossRefIdeal.τ Cert.LossRefIdeal.sig) → Buf (Elt Ideal) ℓ) (g : Dev Cert.LossRefIdeal.nD → PrngReg) :
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0) :=
  (θ_run Cert.LossRefIdeal.defs _ _).mono (fun r h => ⟨fun c => (h c).2.2.2.2.2, sem_eq_zero_of_no_sems (by decide) r.2⟩) (Cert.LossRefIdeal.Value.run m g)

section

open Cert.LossIdeal.Hand

variable (m : (ℓ : Loc Cert.LossIdeal.nD Cert.LossIdeal.τ Cert.LossIdeal.sig) → Buf (Elt Ideal) ℓ) (c : Dev Cert.LossIdeal.nD)

variable [h : Cert.Pre_loss_finite.Facts]

/-- What the precondition says: the error is a real number everywhere. -/
theorem error_real (hpre : Cert.Pre_LossIdeal_loss_finite m) (s : Fin 8192) (l : Fin 1024) : ∃ r : ℝ, last m c (ix2 s l) - target m c (ix2 s l) = (r : EReal) := by
  obtain ⟨h0, h1, -, -⟩ := hpre c
  have hx : last m c (ix2 s l) = ((last m c (ix2 s l)).toReal : EReal) := Cert.Reals.real_of_bit (congrFun h0 _)
  have ht : target m c (ix2 s l) = ((target m c (ix2 s l)).toReal : EReal) := Cert.Reals.real_of_bit (congrFun h1 _)
  exact ⟨(last m c (ix2 s l)).toReal - (target m c (ix2 s l)).toReal, by rw [EReal.coe_sub, ← hx, ← ht]⟩

/-- A half of two times the error over the number of lanes is the error over that number. -/
theorem cot_eq (hpre : Cert.Pre_LossIdeal_loss_finite m) (s : Fin 8192) (l : Fin 1024) : cot (last m c) (target m c) (ix2 s l) = cotRow m c s l := by
  obtain ⟨r, hr⟩ := error_real m c hpre s l
  rw [cot_ref, cotRow, hr, factor, plus_coe, two_coe, each_coe, width_coe, Cert.Reals.div_coe _ _ (by norm_num), ← EReal.coe_mul, ← EReal.coe_mul, ← EReal.coe_mul]
  congr 1
  ring

/-- The tiles' parts of the loss add up to a half of the sum of the rows' means. -/
theorem loss_eq (hpre : Cert.Pre_LossIdeal_loss_finite m) :
    val_main_v79 (F := Ideal) (last m c) (target m c) = fun _ => ∑ t : Fin 16, tileLoss m c t.val := funext fun i => by
  choose d hd using error_real m c hpre
  idx_vars i
  rw [loss_ref]
  have hs : ∀ s, squares m c s = ((∑ k, d s k * d s k : ℝ) : EReal) := fun s => by
    rw [squares, ← Cert.Reals.sum_coe]
    exact Finset.sum_congr rfl fun k _ => by rw [hd, EReal.coe_mul]
  have hm : ∀ s : Fin 8192, (mean fun k => (last m c (ix2 s k) - target m c (ix2 s k)) * (last m c (ix2 s k) - target m c (ix2 s k))) = (((∑ k, d s k * d s k) / 1024 : ℝ) : EReal) := fun s => by
    rw [← mean_coe]
    exact congrArg mean (funext fun k => by rw [hd, EReal.coe_mul])
  let q : ℕ → ℝ := fun s => if h : s < 8192 then ∑ k, d ⟨s, h⟩ k * d ⟨s, h⟩ k else 0
  have q_lt : ∀ (s : ℕ) (h : s < 8192), q s = ∑ k, d ⟨s, h⟩ k * d ⟨s, h⟩ k := fun s h => by simp [q, h]
  have q_ge : ∀ s : ℕ, ¬s < 8192 → q s = 0 := fun s h => by simp [q, h]
  have hq : ∀ s, squaresAt m c s = (q s : EReal) := fun s => by
    by_cases h : s < 8192
    · rw [squaresAt, dif_pos h, hs, q_lt s h]
    · rw [squaresAt, dif_neg h, q_ge s h, EReal.coe_zero]
  have ht : ∀ t : Fin 16, tileLoss m c t.val = (((∑ r : Fin 512, q (t.val * 512 + r.val)) * (1 / 2048) : ℝ) : EReal) := fun t => by
    rw [tileLoss, halfEach_coe, EReal.coe_mul, ← Cert.Reals.sum_coe]
    exact congrArg (· * _) (Finset.sum_congr rfl fun r _ => hq _)
  have e : ∑ t : Fin 16, ∑ r : Fin 512, q (t.val * 512 + r.val) = ∑ s : Fin 8192, q s.val := Fin.sum_mul_add_congr fun s k h => rfl
  have f : ∀ s : Fin 8192, ∑ k, d s k * d s k = q s.val := fun s => (q_lt s.val s.isLt).symm
  simp only [hm, ht]
  rw [plus_coe, Cert.Reals.sum_coe, Cert.Reals.sum_coe, ← EReal.coe_mul, ← Finset.sum_mul, e]
  simp only [f]
  rw [← Finset.sum_div]
  congr 1
  ring

theorem gain_eq (hpre : Cert.Pre_LossIdeal_loss_finite m) :
    val_main_v81 (F := Ideal) (last m c) (target m c) (normIn m c) = fun i => gainGrad m c (i 1) := funext fun i => by
  idx_vars i
  obtain rfl : i0 = 0 := Fin.ext (by have := i0.isLt; omega)
  rw [gain_ref]
  refine Finset.sum_congr rfl fun s _ => ?_
  rw [cot_eq m c hpre, mul_comm]
  rfl

theorem bias_eq (hpre : Cert.Pre_LossIdeal_loss_finite m) : val_main_v82 (F := Ideal) (last m c) (target m c) = fun i => biasGrad m c (i 1) := funext fun i => by
  idx_vars i
  obtain rfl : i0 = 0 := Fin.ext (by have := i0.isLt; omega)
  rw [bias_ref]
  exact Finset.sum_congr rfl fun s _ => cot_eq m c hpre s _

theorem cot_real (hpre : Cert.Pre_LossIdeal_loss_finite m) (s : Fin 8192) (l : Fin 1024) : ∃ r : ℝ, cotRow m c s l = (r : EReal) := by
  obtain ⟨r, hr⟩ := error_real m c hpre s l
  exact ⟨r * (1 / 1024), by rw [cotRow, hr, each_coe, EReal.coe_mul]⟩

theorem wide_eq (hpre : Cert.Pre_LossIdeal_loss_finite m) :
    val_main_v78 (F := Ideal) (last m c) (target m c) (normIn m c) (normGain m c) = fun i => back m c (i 0) (i 1) := funext fun i => by
  idx_vars i
  rw [back_ref]
  refine Eq.trans ?_ (chain_eq_pulled (inRow m c i0) (cotRow m c i0) (gainRow m c) (fun l => Cert.Reals.real_of_bit (congrFun (hpre c).2.2.1 _)) (cot_real m c hpre i0)
    (fun l => Cert.Reals.real_of_bit (congrFun (hpre c).2.2.2 _)) i1)
  rw [show row (cot (last m c) (target m c)) i0 = cotRow m c i0 from funext fun l => cot_eq m c hpre i0 l]
  rfl

theorem narrow_eq (hpre : Cert.Pre_LossIdeal_loss_finite m) :
    val_main_v80 (F := Ideal) (last m c) (target m c) (normIn m c) (normGain m c) = fun i => back m c (i 0) (i 1) :=
  wide_eq m c hpre

/-- The kernel and the reference end with the same loss, the same cotangent in both formats, and the same gradients of the gain and of the bias. -/
theorem algebraic : Cert.algebraic_LossIdeal_LossRefIdeal_pre_loss_finite := by
  intro m g m' g' hpre hargs
  refine ⟨_, _, _, _, _, Cert.LossIdeal.Value.run_blocks m g, ?_⟩
  refine (θ_run Cert.LossRefIdeal.defs _ _).mono (fun r h c => ?_) (Cert.LossRefIdeal.Value.run m' g')
  obtain ⟨e0, e1, e2, e3⟩ := hargs c
  obtain ⟨rl, r0, r1, r2, r3, ra⟩ := h c
  rw [val_main_v79_eq, e0, e1] at rl
  rw [val_main_v78_eq, e0, e1, e2, e3] at r0
  rw [val_main_v80_eq, e0, e1, e2, e3] at r1
  replace r2 := r2.trans (val_main_v81_eq _ _ _)
  rw [e0, e1, e2] at r2
  replace r3 := r3.trans (val_main_v82_eq _ _)
  rw [e0, e1] at r3
  refine ⟨rl.trans ?_, r0.trans ?_, r1.trans ?_, r2.trans ?_, r3.trans ?_, ra⟩
  · rw [loss_array]
    exact loss_eq m c hpre
  · rw [wide_array]
    exact wide_eq m c hpre
  · rw [narrow_array]
    exact narrow_eq m c hpre
  · rw [gain_array]
    exact gain_eq m c hpre
  · rw [bias_array]
    exact bias_eq m c hpre

end

end Cert.LossClaim
-- ==== Proof.Attend.lean ====
module

public import proofs.«01_k».proof.Proof.Reals

@[expose] public section

noncomputable section

/-! Softmax attention of one query on the extended reals, with the scale 1/8 of a head of 64 lanes. -/

namespace Cert.Attend

open Idealize.ShloMosaic

/-- The score of a query against a key. -/
def score (q k : ℕ → EReal) : EReal := (∑ d : Fin 64, q d.val * k d.val) * ((1 / 8 : ℝ) : EReal)

/-- A score less the greatest one, exponentiated. -/
def expo (s : Fin 256 → EReal) (j : Fin 256) : EReal := Ideal.exp (s j - Finset.univ.fold max ⊥ s)

/-- The values weighted by the softmax of the scores. -/
def attend (s v : Fin 256 → EReal) : EReal := ∑ j, Ideal.div (expo s j) (∑ j', expo s j') * v j

/-- Multiplication by a nonnegative real number distributes over a finite sum of extended reals. -/
theorem sum_mul_scale {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s h ih =>
    rw [Finset.sum_insert h, Finset.sum_insert h, EReal.right_distrib_of_nonneg_of_ne_top (EReal.coe_nonneg.mpr hc) (EReal.coe_ne_top c), ih]

/-- The score computed over the 128 lanes of two heads, with zeros in the lanes of the other head. -/
theorem masked_score {e : ℕ} (he : e < 2) (q k : ℕ → EReal) :
    ∑ l : Fin 128, Scalar.select (if l.val / 64 = e then 1#1 else 0#1) (q l.val * Ideal.ofBits .f32 0x3E000000#32 * k l.val) 0
      = score (fun d => q (64 * e + d)) (fun d => k (64 * e + d)) := by
  rw [Cert.Reals.ofBits_eighth]
  have h : ∀ l : Fin 128, Scalar.select (if l.val / 64 = e then 1#1 else 0#1) (q l.val * ((1 / 8 : ℝ) : EReal) * k l.val) 0
      = if l.val / 64 = e then q l.val * k l.val * ((1 / 8 : ℝ) : EReal) else 0 := by
    intro l
    rw [mul_right_comm]
    split <;> rfl
  rw [Finset.sum_congr rfl fun l _ => h l, Cert.Reals.sum_head e he fun l => q l * k l * ((1 / 8 : ℝ) : EReal), score,
    sum_mul_scale _ _ (by norm_num)]

end Cert.Attend
-- ==== Proof.MemFBody.lean ====
module

public import proofs.«01_k».proof.Proof.Gen.MemFIdeal.Value
public import Idealize.ShloMosaic.Lib.Pipeline.ValueKit
public import Idealize.ShloMosaic.Lib.Pipeline.ReadBack
public import proofs.«01_k».proof.Proof.Attend

@[expose] public section

set_option maxRecDepth 16384

noncomputable section

/-! What the memory attention's forward kernel computes for one lane group of 128 lanes, which holds two heads. -/

namespace Cert.MemFIdeal.Hand

open Cert.MemFIdeal Cert.MemFIdeal.Gen Idealize.ShloMosaic Idealize.ShloMosaic.TcCoe Idealize.SL.Sem

/-- The lanes of the second head. -/
def second : IVec S512x128 1 := xori k0_pay2 (constantI S512x128 1 1#1)

/-- The scores of one head: the queries with zeros in the other head's lanes, scaled, against the keys. -/
def scores (hm : IVec S512x128 1) (q : FVec Ideal S512x128 .f32) (k : FVec Ideal S256x128 .bf16) : FVec Ideal S512x256 .f32 :=
  matmul dot_S512x128_S256x128_S512x256_1_1_0_0_n_n none
    (truncf .bf16 (mulf (select hm q (broadcast S512x128 (Scalar.ofBits .f32 0x00000000#32))) (broadcast S512x128 (Scalar.ofBits .f32 0x3E000000#32))) bitsLt_bf16_f32)
    k (constant S512x256 .f32 0x00000000#32)

/-- The values weighted by the softmax of the scores. -/
def attended (s : FVec Ideal S512x256 .f32) (v : FVec Ideal S256x128 .bf16) : FVec Ideal S512x128 .f32 :=
  have e := exp (subf s (broadcastTo S512x256 (shapeCast S512x1 (multiReduction .maximumf [1] S512 s 0xFF800000#32 reduces_S512x256_S512 (.inl rfl) rfl) shapeCasts_S512_S512x1) broadcasts_S512x1_S512x256))
  matmul dot_S512x256_S256x128_S512x128_1_0_0_1_n_n none
    (truncf .bf16 (divf e (broadcastTo S512x256 (shapeCast S512x1 (multiReduction .add [1] S512 e 0x00000000#32 reduces_S512x256_S512 (.inl rfl) rfl) shapeCasts_S512_S512x1) broadcasts_S512x1_S512x256)) bitsLt_bf16_f32)
    v (constant S512x128 .f32 0x00000000#32)

/-- Both heads of a lane group, each in its own lanes. -/
def both (q : FVec Ideal S512x128 .f32) (k v : FVec Ideal S256x128 .bf16) : FVec Ideal S1x512x128 .bf16 :=
  shapeCast S1x512x128 (truncf .bf16 (select k0_pay2 (attended (scores k0_pay2 q k) v) (attended (scores second q k) v)) bitsLt_bf16_f32) shapeCasts_S512x128_S1x512x128

theorem first_apply (r : Fin 512) (l : Fin 128) : k0_pay2 (ix2 r l) = if l.val / 64 = 0 then 1#1 else 0#1 := by
  pointwise [k0_pay2]
  revert l
  decide +kernel

theorem second_apply (r : Fin 512) (l : Fin 128) : second (ix2 r l) = if l.val / 64 = 1 then 1#1 else 0#1 := by
  pointwise [second, k0_pay2]
  revert l
  decide +kernel

theorem scores_apply {e : ℕ} (he : e < 2) {hm : IVec S512x128 1} (hmk : ∀ r l, hm (ix2 r l) = if l.val / 64 = e then 1#1 else 0#1)
    (q : FVec Ideal S512x128 .f32) (k : FVec Ideal S256x128 .bf16) (Q K : ℕ → EReal) (r : Fin 512) (j : Fin 256)
    (hq : ∀ l : Fin 128, q (ix2 r l) = Q l.val) (hk : ∀ l : Fin 128, k (ix2 j l) = K l.val) :
    scores hm q k (ix2 r j) = Attend.score (fun d => Q (64 * e + d)) (fun d => K (64 * e + d)) := by
  pointwise [scores]
  simp only [hmk, hq, hk]
  exact Attend.masked_score he Q K

theorem attended_apply (s : FVec Ideal S512x256 .f32) (v : FVec Ideal S256x128 .bf16) (r : Fin 512) (l : Fin 128) :
    attended s v (ix2 r l) = Attend.attend (fun j => s (ix2 r j)) (fun j => v (ix2 j l)) := by
  pointwise [attended]
  rw [Cert.Reals.ofBits_neg_inf]
  rfl

theorem chosen_apply (hm : IVec S512x128 1) (a b : FVec Ideal S512x128 .f32) (r : Fin 512) (l : Fin 128) :
    (shapeCast S1x512x128 (truncf .bf16 (select hm a b) bitsLt_bf16_f32) shapeCasts_S512x128_S1x512x128 : FVec Ideal S1x512x128 .bf16) (ix3 0 r l)
      = Scalar.select (hm (ix2 r l)) (a (ix2 r l)) (b (ix2 r l)) := by
  pointwise

/-- Entry `l` of a lane group in row `r` is the attention of the head that holds lane `l`. -/
theorem both_apply (q : FVec Ideal S512x128 .f32) (k v : FVec Ideal S256x128 .bf16) (Q : ℕ → EReal) (K V : ℕ → ℕ → EReal) (r : Fin 512) (l : Fin 128)
    (hq : ∀ l : Fin 128, q (ix2 r l) = Q l.val) (hk : ∀ (j : Fin 256) (l : Fin 128), k (ix2 j l) = K j.val l.val)
    (hv : ∀ (j : Fin 256) (l : Fin 128), v (ix2 j l) = V j.val l.val) :
    both q k v (ix3 0 r l) = Attend.attend (fun j => Attend.score (fun d => Q (64 * (l.val / 64) + d)) (fun d => K j.val (64 * (l.val / 64) + d))) (fun j => V j.val l.val) := by
  have h0 : both q k v (ix3 0 r l) = Scalar.select (k0_pay2 (ix2 r l)) (attended (scores k0_pay2 q k) v (ix2 r l)) (attended (scores second q k) v (ix2 r l)) :=
    chosen_apply _ _ _ r l
  have hs0 : ∀ j : Fin 256, scores k0_pay2 q k (ix2 r j) = _ := fun j => scores_apply (e := 0) (by decide) first_apply q k Q (K j.val) r j hq (hk j)
  have hs1 : ∀ j : Fin 256, scores second q k (ix2 r j) = _ := fun j => scores_apply (e := 1) (by decide) second_apply q k Q (K j.val) r j hq (hk j)
  rw [h0, first_apply, attended_apply, attended_apply]
  simp only [hs0, hs1, hv]
  rcases (by omega : l.val / 64 = 0 ∨ l.val / 64 = 1) with h | h <;> rw [h] <;> rfl

end Cert.MemFIdeal.Hand
-- ==== Proof.MemFKernel.lean ====
module

public import proofs.«01_k».proof.Proof.MemFBody

@[expose] public section

set_option maxRecDepth 16384

noncomputable section

/-! The array that the memory attention's forward kernel leaves, at every index. -/

namespace Cert.MemFIdeal.Hand

open Cert.MemFIdeal Cert.MemFIdeal.Gen Idealize.ShloMosaic Idealize.ShloMosaic.TcCoe Idealize.SL.Sem

/-- The lanes from `g` of a block of tokens. -/
def toks (x : Vec Ideal S1x512x256 .f32) (g : ℕ) (inb : ∀ a, (![0, 0, g] : Fin 3 → ℕ) a + (![1, 512, 128] : Fin 3 → ℕ) a ≤ S1x512x256.size a) :
    FVec Ideal S512x128 .f32 :=
  shapeCast S512x128 (View.ld x (Rect.unit (s := S1x512x256) ![0, 0, g] ![1, 512, 128] inb)) shapeCasts_S1x512x128_S512x128

/-- The lanes from `g` of the memory tokens. -/
def mems (x : Vec Ideal S1x256x512 .f32) (g : ℕ) (inb : ∀ a, (![0, 0, g] : Fin 3 → ℕ) a + (![1, 256, 128] : Fin 3 → ℕ) a ≤ S1x256x512.size a) :
    FVec Ideal S256x128 .bf16 :=
  truncf .bf16 (shapeCast S256x128 (View.ld x (Rect.unit (s := S1x256x512) ![0, 0, g] ![1, 256, 128] inb)) shapeCasts_S1x256x128_S256x128) bitsLt_bf16_f32

theorem castRows_apply (v : FVec Ideal S1x512x128 .f32) (r : Fin 512) (l : Fin 128) :
    shapeCast S512x128 v shapeCasts_S1x512x128_S512x128 (ix2 r l) = v (ix3 0 r l) := by
  pointwise

theorem castMem_apply (v : FVec Ideal S1x256x128 .f32) (j : Fin 256) (l : Fin 128) :
    shapeCast S256x128 v shapeCasts_S1x256x128_S256x128 (ix2 j l) = v (ix3 0 j l) := by
  pointwise

theorem toks_apply {x : Vec Ideal S1x512x256 .f32} {Q : ℕ → ℕ → EReal} (hx : ∀ (r : Fin 512) (l : Fin 256), x (ix3 0 r l) = Q r.val l.val)
    (g : ℕ) (hg : g + 128 ≤ 256) (inb) (r : Fin 512) (l : Fin 128) : toks x g inb (ix2 r l) = Q r.val (g + l.val) := by
  refine (castRows_apply _ r l).trans (Eq.trans ?_ (hx r ⟨g + l.val, by omega⟩))
  refine View.ld_unit_apply_of x ![0, 0, g] ![1, 512, 128] inb _ _ fun a => ?_
  match a with
  | 0 => rfl
  | 1 => exact (Nat.zero_add _).symm
  | 2 => rfl

theorem mems_apply {x : Vec Ideal S1x256x512 .f32} {M : ℕ → ℕ → EReal} (hx : ∀ (j : Fin 256) (l : Fin 512), x (ix3 0 j l) = M j.val l.val)
    (g : ℕ) (hg : g + 128 ≤ 512) (inb) (j : Fin 256) (l : Fin 128) : mems x g inb (ix2 j l) = M j.val (g + l.val) := by
  have h := hx j ⟨g + l.val, by omega⟩
  refine (castMem_apply (View.ld x (Rect.unit (s := S1x256x512) ![0, 0, g] ![1, 256, 128] inb)) j l).trans (Eq.trans ?_ h)
  refine View.ld_unit_apply_of x ![0, 0, g] ![1, 256, 128] inb _ _ fun a => ?_
  match a with
  | 0 => rfl
  | 1 => exact (Nat.zero_add _).symm
  | 2 => rfl

theorem rows_eq (x : S1x512x128.Idx) : ∃ r l, x = ix3 0 r l := by
  idx_vars x
  exact ⟨x1, x2, by rw [Subsingleton.elim x0 0]⟩

/-- Lane `c` of a token's output, from the token's queries and the batch's memory tokens: keys in the first 256 lanes, values in the last 256. -/
def lane (q : ℕ → EReal) (mem : ℕ → ℕ → EReal) (c : ℕ) : EReal :=
  Attend.attend (fun j => Attend.score (fun d => q (64 * (c / 64) + d)) (fun d => mem j.val (64 * (c / 64) + d))) (fun j => mem j.val (256 + c))

variable {x0 : Vec Ideal S1x512x256 .f32} {x1 : Vec Ideal S1x256x512 .f32} {Q M : ℕ → ℕ → EReal}

/-- The lane group from `128 * g`. -/
theorem piece (h0 : ∀ (r : Fin 512) (l : Fin 256), x0 (ix3 0 r l) = Q r.val l.val) (h1 : ∀ (j : Fin 256) (l : Fin 512), x1 (ix3 0 j l) = M j.val l.val)
    (g : ℕ) (hg : g < 2) (a v : ℕ) (ha : a = 128 * g) (hv : v = 256 + 128 * g) (y : S1x512x256.Idx) (x : S1x512x128.Idx) (inb inb' inb'')
    (e1 : (y 1 : ℕ) = x 1) (e2 : (y 2 : ℕ) = a + x 2) :
    both (toks x0 a inb) (mems x1 a inb') (mems x1 v inb'') x = lane (Q (y 1).val) M (y 2).val := by
  subst ha hv
  obtain ⟨r, l, rfl⟩ := rows_eq x
  have e1 : (y 1 : ℕ) = r := e1
  have e2 : (y 2 : ℕ) = 128 * g + l := e2
  rw [both_apply _ _ _ (fun l => Q r (128 * g + l)) (fun j l => M j (128 * g + l)) (fun j l => M j (256 + 128 * g + l)) r l
    (toks_apply h0 _ (by omega) inb r) (mems_apply h1 _ (by omega) inb') (mems_apply h1 _ (by omega) inb''), e1, e2, lane,
    show 64 * ((128 * g + l.val) / 64) = 128 * g + 64 * (l.val / 64) by omega]
  simp only [Nat.add_assoc]

theorem where0 : ∀ t : Fin cfg0.N, win0_0.index t = ![t.val / 4, t.val % 4, 6] := (by decide +kernel : ∀ t : Fin grid0.N, _)
theorem where1 : ∀ t : Fin cfg0.N, win0_1.index t = ![t.val / 4, 0, 0] := (by decide +kernel : ∀ t : Fin grid0.N, _)
theorem where2 : ∀ t : Fin cfg0.N, win0_2.index t = ![t.val / 4, t.val % 4, 0] := (by decide +kernel : ∀ t : Fin grid0.N, _)

variable (m : (ℓ : Loc nD τ sig) → Buf (Elt Ideal) ℓ) (c : Dev nD) {Q M : ℕ → ℕ → ℕ → EReal}
  (hq : ∀ i : S4x2048x1792.Idx, 1536 ≤ (i 2).val → m ((c : Thread nD τ).loc main_arg0) i = Q (i 0).val (i 1).val ((i 2).val - 1536))
  (hm : ∀ i : S4x256x512.Idx, m ((c : Thread nD τ).loc main_arg1) i = M (i 0).val (i 1).val (i 2).val)

include hq in
theorem block0 (t : Fin cfg0.N) (r : Fin 512) (l : Fin 256) :
    iblk m c 0 t (ix3 0 r l : S1x512x256.Idx) = Q (t.val / 4) (t.val % 4 * 512 + r.val) l.val := by
  blk_simp [iblk]
  rw [V_main_arg0, hq _ (by blk_simp [where0]; omega)]
  blk_simp [where0]
  simp

include hm in
theorem block1 (t : Fin cfg0.N) (j : Fin 256) (l : Fin 512) :
    iblk m c 1 t (ix3 0 j l : S1x256x512.Idx) = M (t.val / 4) j.val l.val := by
  blk_simp [iblk]
  rw [V_main_arg1, hm]
  blk_simp [where1]
  simp

include hq hm in
/-- The block that a grid point writes. -/
theorem point (t : Fin cfg0.N) (y : S1x512x256.Idx) :
    (dats m 0 c).flushed 2 t y = lane (Q (t.val / 4) (t.val % 4 * 512 + (y 1).val)) (M (t.val / 4)) (y 2).val := by
  rw [Value.flushed2 m c t]
  frame_out
  change View.canon _ y = _
  canon_tiles x h
  · exact piece (Q := fun r => Q (t.val / 4) (t.val % 4 * 512 + r)) (block0 m c hq t) (block1 m c hm t) 1 (by decide) _ _ rfl rfl y x _ _ _ (by omega) (by omega)
  · exact piece (Q := fun r => Q (t.val / 4) (t.val % 4 * 512 + r)) (block0 m c hq t) (block1 m c hm t) 0 (by decide) _ _ rfl rfl y x _ _ _ (by omega) (by omega)

/-- The output, over the whole array. -/
def attArray (Q M : ℕ → ℕ → ℕ → EReal) (i : S4x2048x256.Idx) : EReal := lane (Q (i 0).val (i 1).val) (M (i 0).val) (i 2).val

include hq hm in
theorem array : (dats m 0 c).arrAt 2 cfg0.N = attArray Q M := by
  refine (dats m 0 c).arrAt_eq_of_covers 2 _ (by decide +kernel) fun t hf y => ?_
  refine (point m c hq hm t y).trans ?_
  blk_simp [attArray, where2]

end Cert.MemFIdeal.Hand
-- ==== Proof.MemFClaim.lean ====
module

public import proofs.«01_k».proof.Defs
public import proofs.«01_k».proof.Proof.MemFKernel
public import proofs.«01_k».proof.Proof.Gen.MemFRefIdeal.Run
public import proofs.«01_k».proof.Proof.Gen.MemFRefIdeal.Read

@[expose] public section

set_option maxRecDepth 16384

noncomputable section

/-! The claims about the memory attention of the forward pass. -/

namespace Cert.MemFClaim

open Idealize.ShloMosaic Idealize.ShloMosaic.TcCoe Idealize.SL.Sem Cert.MemFRefIdeal Cert.MemFRefIdeal.Read
open Cert.MemFIdeal.Hand (lane attArray)

variable {x0 : S4x2048x1792.Idx → EReal} {x1 : S4x256x512.Idx → EReal} {Q M : ℕ → ℕ → ℕ → EReal}
  (hq : ∀ i : S4x2048x1792.Idx, 1536 ≤ (i 2).val → x0 i = Q (i 0).val (i 1).val ((i 2).val - 1536))
  (hm : ∀ i : S4x256x512.Idx, x1 i = M (i 0).val (i 1).val (i 2).val)

theorem entry_congr (F : ℕ → ℕ → ℕ → EReal) {a a' b b' c c' : ℕ} (ha : a = a') (hb : b = b') (hc : c = c') : F a b c = F a' b' c' := by
  rw [ha, hb, hc]

include hq in
/-- The queries, split into heads. -/
theorem queries (i : S4x2048x4x64.Idx) : val_main_v5 (F := Ideal) x0 i = Q (i 0).val (i 1).val (64 * (i 2).val + (i 3).val) := by
  have b0 : (i 0).val < 4 := (i 0).isLt
  have b1 : (i 1).val < 2048 := (i 1).isLt
  have b2 : (i 2).val < 4 := (i 2).isLt
  have b3 : (i 3).val < 64 := (i 3).isLt
  rw [val_main_v5_apply, val_main_v4_apply, hq _ (Nat.le_add_right _ _)]
  dsimp only [idx_main_v4, idx_main_v5]
  exact entry_congr Q (by omega) (by omega) (by omega)

include hm in
/-- The memory tokens' keys, split into heads. -/
theorem keys (i : S4x256x4x64.Idx) : val_main_v2 (F := Ideal) x1 i = M (i 0).val (i 1).val (64 * (i 2).val + (i 3).val) := by
  have b0 : (i 0).val < 4 := (i 0).isLt
  have b1 : (i 1).val < 256 := (i 1).isLt
  have b2 : (i 2).val < 4 := (i 2).isLt
  have b3 : (i 3).val < 64 := (i 3).isLt
  rw [val_main_v2_apply, val_main_v0_apply, hm]
  dsimp only [idx_main_v0, idx_main_v2]
  exact entry_congr M (by omega) (by omega) (by omega)

include hm in
/-- The memory tokens' values, split into heads. -/
theorem values (i : S4x256x4x64.Idx) : val_main_v3 (F := Ideal) x1 i = M (i 0).val (i 1).val (256 + (64 * (i 2).val + (i 3).val)) := by
  have b0 : (i 0).val < 4 := (i 0).isLt
  have b1 : (i 1).val < 256 := (i 1).isLt
  have b2 : (i 2).val < 4 := (i 2).isLt
  have b3 : (i 3).val < 64 := (i 3).isLt
  rw [val_main_v3_apply, val_main_v1_apply, hm]
  dsimp only [idx_main_v1, idx_main_v3]
  exact entry_congr M (by omega) (by omega) (by omega)

/-- The scores of head `h` for token `s` of batch `b`. -/
def scoreRow (Q M : ℕ → ℕ → ℕ → EReal) (b h s : ℕ) (j : Fin 256) : EReal :=
  Attend.score (fun d => Q b s (64 * h + d)) (fun d => M b j.val (64 * h + d))

include hq hm in
theorem scores (i : S4x4x2048x256.Idx) : val_main_v8 (F := Ideal) x0 x1 i = scoreRow Q M (i 0).val (i 1).val (i 2).val (i 3) := by
  rw [val_main_v8_apply, val_main_v6_apply, val_main_v7_apply, val_main_cst_apply]
  simp only [queries hq, keys hm]
  show _ * Ideal.ofBits .f32 0x3E000000#32 = _
  rw [Cert.Reals.ofBits_eighth]
  rfl

include hq hm in
/-- The greatest score of a row. -/
theorem greatest (i : S4x4x2048.Idx) :
    val_main_v11 (F := Ideal) x0 x1 i = Finset.univ.fold max ⊥ (scoreRow Q M (i 0).val (i 1).val (i 2).val) := by
  rw [val_main_v11_apply, val_main_v10_apply, val_main_cst_1_apply]
  idx_vars i
  pointwise [val_main_v9, val_main_cst_0]
  rw [Cert.Reals.ofBits_neg_inf]
  simp only [scores hq hm]
  exact max_eq_right bot_le

include hq hm in
theorem exponentials (i : S4x4x2048x256.Idx) :
    val_main_v15 (F := Ideal) x0 x1 i = Attend.expo (scoreRow Q M (i 0).val (i 1).val (i 2).val) (i 3) := by
  rw [val_main_v15_apply, val_main_v14_apply, val_main_v13_apply, val_main_v12_apply, scores hq hm, greatest hq hm]
  rfl

include hq hm in
theorem weights (i : S4x4x2048x256.Idx) :
    val_main_v19 (F := Ideal) x0 x1 i
      = Ideal.div (Attend.expo (scoreRow Q M (i 0).val (i 1).val (i 2).val) (i 3)) (∑ j, Attend.expo (scoreRow Q M (i 0).val (i 1).val (i 2).val) j) := by
  rw [val_main_v19_apply, val_main_v18_apply, val_main_v17_apply, val_main_v16_apply, exponentials hq hm, val_main_cst_2_apply]
  simp only [exponentials hq hm]
  refine congrArg (Ideal.div _) ((congrArg (· + _) ?_).trans (zero_add _))
  simp [Ideal.ofBits, Ideal.ieee]

include hq hm in
/-- The reference's output. -/
theorem output_ref : val_main_v23 (F := Ideal) x0 x1 = attArray Q M := by
  funext i
  have b0 : (i 0).val < 4 := (i 0).isLt
  have b1 : (i 1).val < 2048 := (i 1).isLt
  have b2 : (i 2).val < 256 := (i 2).isLt
  rw [val_main_v23_apply, val_main_v22_apply, val_main_v21_apply, val_main_v20_apply]
  simp only [values hm, weights hq hm]
  have e0 : (((i 0).val * 2048 + (i 1).val) * 256 + (i 2).val) / 524288 = (i 0).val := by omega
  have e1 : (((i 0).val * 2048 + (i 1).val) * 256 + (i 2).val) / 256 % 2048 = (i 1).val := by omega
  have e2 : (((i 0).val * 2048 + (i 1).val) * 256 + (i 2).val) / 64 % 4 = (i 2).val / 64 := by omega
  have e3 : 64 * ((i 2).val / 64) + (((i 0).val * 2048 + (i 1).val) * 256 + (i 2).val) % 64 = (i 2).val := by omega
  simp only [e0, e1, e2, e3]
  exact Finset.sum_congr rfl fun j _ => mul_comm _ _

/-- The reference ends with its arguments unchanged. -/
theorem frame_ref : Cert.quiescent_MemFRefIdeal := fun m g _ =>
  (θ_run Cert.MemFRefIdeal.defs _ _).mono (fun r h => ⟨fun c => (h c).2, sem_eq_zero_of_no_sems (by decide) r.2⟩) (Cert.MemFRefIdeal.Value.run m g)

/-- An array of three axes as a function of numbers. -/
def entries {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem entries_apply {a b c : ℕ} (x : (⟨3, ![a, b, c]⟩ : Shape).Idx → EReal) (i : (⟨3, ![a, b, c]⟩ : Shape).Idx) :
    x i = entries x (i 0).val (i 1).val (i 2).val := by
  rw [entries, dif_pos ⟨(i 0).isLt, (i 1).isLt, (i 2).isLt⟩]
  refine congrArg x (funext fun a => Fin.ext ?_)
  match a with
  | ⟨0, _⟩ => rfl
  | ⟨1, _⟩ => rfl
  | ⟨2, _⟩ => rfl

/-- The kernel and the reference end with the same array. -/
theorem algebraic : Cert.algebraic_MemFIdeal_MemFRefIdeal := by
  intro m g m' g' _ hargs
  refine ⟨_, Cert.MemFIdeal.Value.run_blocks m g, ?_⟩
  refine (θ_run Cert.MemFRefIdeal.defs _ _).mono (fun r h c => ⟨(h c).1.trans ?_, (h c).2⟩) (Cert.MemFRefIdeal.Value.run m' g')
  obtain ⟨e0, e1⟩ := hargs c
  have hq : ∀ i : S4x2048x1792.Idx, 1536 ≤ (i 2).val →
      m ((c.tc : Thread _ _).loc Cert.MemFIdeal.main_arg0) i = entries (m ((c.tc : Thread _ _).loc Cert.MemFIdeal.main_arg0)) (i 0).val (i 1).val (1536 + ((i 2).val - 1536)) :=
    fun i h => (entries_apply _ i).trans (by rw [Nat.add_sub_cancel' h])
  rw [val_main_v23_eq, e0, e1, Cert.MemFIdeal.Hand.array m c (Q := fun b s l => entries (m ((c.tc : Thread _ _).loc Cert.MemFIdeal.main_arg0)) b s (1536 + l)) hq (fun i => entries_apply _ i)]
  exact output_ref (Q := fun b s l => entries (m ((c.tc : Thread _ _).loc Cert.MemFIdeal.main_arg0)) b s (1536 + l)) hq (fun i => entries_apply _ i)

end Cert.MemFClaim
-- ==== Proof.AdamAInClaim.lean ====
module

public import proofs.«01_k».proof.Proof.Gen.AdamAInIdeal.Value
public import proofs.«01_k».proof.Proof.Gen.AdamAInRefIdeal.Run
public import proofs.«01_k».proof.Proof.Gen.AdamAInRefIdeal.Read
public import proofs.«01_k».proof.Defs
public import Idealize.ShloMosaic.PureOps.Ideal.Laws
public import Idealize.ShloMosaic.Lib.Pointwise

@[expose] public section

noncomputable section

/-! The claims about the optimiser's update of 2048 × 640 parameters. -/

namespace Cert.AdamAInClaim

open Idealize.ShloMosaic Idealize.ShloMosaic.TcCoe Idealize.SL.Sem Cert.AdamAInRefIdeal Cert.AdamAInRefIdeal.Read

/-- The reference ends with its arguments unchanged. -/
theorem frame_ref : Cert.quiescent_AdamAInRefIdeal := fun m g _ =>
  (θ_run Cert.AdamAInRefIdeal.defs _ _).mono (fun r h => ⟨fun c => (h c).2.2.2, sem_eq_zero_of_no_sems (by decide) r.2⟩) (Cert.AdamAInRefIdeal.Value.run m g)

/-- The kernel and the reference end with the same change of the parameters and the same two moments. -/
theorem algebraic : Cert.algebraic_AdamAInIdeal_AdamAInRefIdeal := by
  intro m g m' g' _ hargs
  refine ⟨_, _, _, Cert.AdamAInIdeal.Value.run m g, ?_⟩
  refine (θ_run Cert.AdamAInRefIdeal.defs _ _).mono (fun r h c => ⟨(h c).1.trans ?_, (h c).2.1.trans ?_, (h c).2.2.1.trans ?_, (h c).2.2.2⟩) (Cert.AdamAInRefIdeal.Value.run m' g') <;>
    obtain ⟨e0, e1, e2, e3⟩ := hargs c
  · rw [e0, e1, e2, e3]
    rfl
  · rw [e1, e2]
    rfl
  · rw [e1, e3]
    rfl

end Cert.AdamAInClaim
-- ==== Proof.AdamBInClaim.lean ====
module

public import proofs.«01_k».proof.Proof.Gen.AdamBInIdeal.Value
public import proofs.«01_k».proof.Proof.Gen.AdamBInRefIdeal.Run
public import proofs.«01_k».proof.Proof.Gen.AdamBInRefIdeal.Read
public import proofs.«01_k».proof.Defs
public import Idealize.ShloMosaic.PureOps.Ideal.Laws
public import Idealize.ShloMosaic.Lib.Pointwise

@[expose] public section

noncomputable section

/-! The claims about the optimiser's update of 2048 × 448 parameters. -/

namespace Cert.AdamBInClaim

open Idealize.ShloMosaic Idealize.ShloMosaic.TcCoe Idealize.SL.Sem Cert.AdamBInRefIdeal Cert.AdamBInRefIdeal.Read

/-- The reference ends with its arguments unchanged. -/
theorem frame_ref : Cert.quiescent_AdamBInRefIdeal := fun m g _ =>
  (θ_run Cert.AdamBInRefIdeal.defs _ _).mono (fun r h => ⟨fun c => (h c).2.2.2, sem_eq_zero_of_no_sems (by decide) r.2⟩) (Cert.AdamBInRefIdeal.Value.run m g)

/-- The kernel and the reference end with the same change of the parameters and the same two moments. -/
theorem algebraic : Cert.algebraic_AdamBInIdeal_AdamBInRefIdeal := by
  intro m g m' g' _ hargs
  refine ⟨_, _, _, Cert.AdamBInIdeal.Value.run m g, ?_⟩
  refine (θ_run Cert.AdamBInRefIdeal.defs _ _).mono (fun r h c => ⟨(h c).1.trans ?_, (h c).2.1.trans ?_, (h c).2.2.1.trans ?_, (h c).2.2.2⟩) (Cert.AdamBInRefIdeal.Value.run m' g') <;>
    obtain ⟨e0, e1, e2, e3⟩ := hargs c
  · rw [e0, e1, e2, e3]
    rfl
  · rw [e1, e2]
    rfl
  · rw [e1, e3]
    rfl

end Cert.AdamBInClaim
-- ==== Proof.AdamMemClaim.lean ====
module

public import proofs.«01_k».proof.Proof.Gen.AdamMemIdeal.Value
public import proofs.«01_k».proof.Proof.Gen.AdamMemRefIdeal.Run
public import proofs.«01_k».proof.Proof.Gen.AdamMemRefIdeal.Read
public import proofs.«01_k».proof.Defs
public import Idealize.ShloMosaic.PureOps.Ideal.Laws
public import Idealize.ShloMosaic.Lib.Pointwise

@[expose] public section

noncomputable section

/-! The claims about the optimiser's update of 1024 × 512 parameters. -/

namespace Cert.AdamMemClaim

open Idealize.ShloMosaic Idealize.ShloMosaic.TcCoe Idealize.SL.Sem Cert.AdamMemRefIdeal Cert.AdamMemRefIdeal.Read

/-- The reference ends with its arguments unchanged. -/
theorem frame_ref : Cert.quiescent_AdamMemRefIdeal := fun m g _ =>
  (θ_run Cert.AdamMemRefIdeal.defs _ _).mono (fun r h => ⟨fun c => (h c).2.2.2, sem_eq_zero_of_no_sems (by decide) r.2⟩) (Cert.AdamMemRefIdeal.Value.run m g)

/-- The kernel and the reference end with the same change of the parameters and the same two moments. -/
theorem algebraic : Cert.algebraic_AdamMemIdeal_AdamMemRefIdeal := by
  intro m g m' g' _ hargs
  refine ⟨_, _, _, Cert.AdamMemIdeal.Value.run m g, ?_⟩
  refine (θ_run Cert.AdamMemRefIdeal.defs _ _).mono (fun r h c => ⟨(h c).1.trans ?_, (h c).2.1.trans ?_, (h c).2.2.1.trans ?_, (h c).2.2.2⟩) (Cert.AdamMemRefIdeal.Value.run m' g') <;>
    obtain ⟨e0, e1, e2, e3⟩ := hargs c
  · rw [e0, e1, e2, e3]
    rfl
  · rw [e1, e2]
    rfl
  · rw [e1, e3]
    rfl

end Cert.AdamMemClaim
-- ==== Proof.AdamOutClaim.lean ====
module

public import proofs.«01_k».proof.Proof.Gen.AdamOutIdeal.Value
public import proofs.«01_k».proof.Proof.Gen.AdamOutRefIdeal.Run
public import proofs.«01_k».proof.Proof.Gen.AdamOutRefIdeal.Read
public import proofs.«01_k».proof.Defs
public import Idealize.ShloMosaic.PureOps.Ideal.Laws
public import Idealize.ShloMosaic.Lib.Pointwise

@[expose] public section

noncomputable section

/-! The claims about the optimiser's update of 1024 × 1024 parameters. -/

namespace Cert.AdamOutClaim

open Idealize.ShloMosaic Idealize.ShloMosaic.TcCoe Idealize.SL.Sem Cert.AdamOutRefIdeal Cert.AdamOutRefIdeal.Read

/-- The reference ends with its arguments unchanged. -/
theorem frame_ref : Cert.quiescent_AdamOutRefIdeal := fun m g _ =>
  (θ_run Cert.AdamOutRefIdeal.defs _ _).mono (fun r h => ⟨fun c => (h c).2.2.2, sem_eq_zero_of_no_sems (by decide) r.2⟩) (Cert.AdamOutRefIdeal.Value.run m g)

/-- The kernel and the reference end with the same change of the parameters and the same two moments. -/
theorem algebraic : Cert.algebraic_AdamOutIdeal_AdamOutRefIdeal := by
  intro m g m' g' _ hargs
  refine ⟨_, _, _, Cert.AdamOutIdeal.Value.run m g, ?_⟩
  refine (θ_run Cert.AdamOutRefIdeal.defs _ _).mono (fun r h c => ⟨(h c).1.trans ?_, (h c).2.1.trans ?_, (h c).2.2.1.trans ?_, (h c).2.2.2⟩) (Cert.AdamOutRefIdeal.Value.run m' g') <;>
    obtain ⟨e0, e1, e2, e3⟩ := hargs c
  · rw [e0, e1, e2, e3]
    rfl
  · rw [e1, e2]
    rfl
  · rw [e1, e3]
    rfl

end Cert.AdamOutClaim
-- ==== Proof.AdamGateClaim.lean ====
module

public import proofs.«01_k».proof.Proof.Gen.AdamGateIdeal.Value
public import proofs.«01_k».proof.Proof.Gen.AdamGateRefIdeal.Run
public import proofs.«01_k».proof.Proof.Gen.AdamGateRefIdeal.Read
public import proofs.«01_k».proof.Defs
public import Idealize.ShloMosaic.PureOps.Ideal.Laws
public import Idealize.ShloMosaic.Lib.Pointwise

@[expose] public section

noncomputable section

/-! The claims about the optimiser's update of 4096 × 704 parameters. -/

namespace Cert.AdamGateClaim

open Idealize.ShloMosaic Idealize.ShloMosaic.TcCoe Idealize.SL.Sem Cert.AdamGateRefIdeal Cert.AdamGateRefIdeal.Read

/-- The reference ends with its arguments unchanged. -/
theorem frame_ref : Cert.quiescent_AdamGateRefIdeal := fun m g _ =>
  (θ_run Cert.AdamGateRefIdeal.defs _ _).mono (fun r h => ⟨fun c => (h c).2.2.2, sem_eq_zero_of_no_sems (by decide) r.2⟩) (Cert.AdamGateRefIdeal.Value.run m g)

/-- The kernel and the reference end with the same change of the parameters and the same two moments. -/
theorem algebraic : Cert.algebraic_AdamGateIdeal_AdamGateRefIdeal := by
  intro m g m' g' _ hargs
  refine ⟨_, _, _, Cert.AdamGateIdeal.Value.run m g, ?_⟩
  refine (θ_run Cert.AdamGateRefIdeal.defs _ _).mono (fun r h c => ⟨(h c).1.trans ?_, (h c).2.1.trans ?_, (h c).2.2.1.trans ?_, (h c).2.2.2⟩) (Cert.AdamGateRefIdeal.Value.run m' g') <;>
    obtain ⟨e0, e1, e2, e3⟩ := hargs c
  · rw [e0, e1, e2, e3]
    rfl
  · rw [e1, e2]
    rfl
  · rw [e1, e3]
    rfl

end Cert.AdamGateClaim
-- ==== Proof.AdamDownClaim.lean ====
module

public import proofs.«01_k».proof.Proof.Gen.AdamDownIdeal.Value
public import proofs.«01_k».proof.Proof.Gen.AdamDownRefIdeal.Run
public import proofs.«01_k».proof.Proof.Gen.AdamDownRefIdeal.Read
public import proofs.«01_k».proof.Defs
public import Idealize.ShloMosaic.PureOps.Ideal.Laws
public import Idealize.ShloMosaic.Lib.Pointwise

@[expose] public section

noncomputable section

/-! The claims about the optimiser's update of 2816 × 1024 parameters. -/

namespace Cert.AdamDownClaim

open Idealize.ShloMosaic Idealize.ShloMosaic.TcCoe Idealize.SL.Sem Cert.AdamDownRefIdeal Cert.AdamDownRefIdeal.Read

/-- The reference ends with its arguments unchanged. -/
theorem frame_ref : Cert.quiescent_AdamDownRefIdeal := fun m g _ =>
  (θ_run Cert.AdamDownRefIdeal.defs _ _).mono (fun r h => ⟨fun c => (h c).2.2.2, sem_eq_zero_of_no_sems (by decide) r.2⟩) (Cert.AdamDownRefIdeal.Value.run m g)

/-- The kernel and the reference end with the same change of the parameters and the same two moments. -/
theorem algebraic : Cert.algebraic_AdamDownIdeal_AdamDownRefIdeal := by
  intro m g m' g' _ hargs
  refine ⟨_, _, _, Cert.AdamDownIdeal.Value.run m g, ?_⟩
  refine (θ_run Cert.AdamDownRefIdeal.defs _ _).mono (fun r h c => ⟨(h c).1.trans ?_, (h c).2.1.trans ?_, (h c).2.2.1.trans ?_, (h c).2.2.2⟩) (Cert.AdamDownRefIdeal.Value.run m' g') <;>
    obtain ⟨e0, e1, e2, e3⟩ := hargs c
  · rw [e0, e1, e2, e3]
    rfl
  · rw [e1, e2]
    rfl
  · rw [e1, e3]
    rfl

end Cert.AdamDownClaim
-- ==== Proof.AdamSmallClaim.lean ====
module

public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Defs
public import Idealize.ShloMosaic.PureOps.Ideal.Laws
public import Idealize.ShloMosaic.Lib.Pointwise

@[expose] public section

noncomputable section

/-! The claims about the optimiser's update of 408 × 1024 parameters. -/

namespace Cert.AdamSmallClaim

open Idealize.ShloMosaic Idealize.ShloMosaic.TcCoe Idealize.SL.Sem Cert.AdamSmallRefIdeal Cert.AdamSmallRefIdeal.Read

/-- The reference ends with its arguments unchanged. -/
theorem frame_ref : Cert.quiescent_AdamSmallRefIdeal := fun m g _ =>
  (θ_run Cert.AdamSmallRefIdeal.defs _ _).mono (fun r h => ⟨fun c => (h c).2.2.2, sem_eq_zero_of_no_sems (by decide) r.2⟩) (Cert.AdamSmallRefIdeal.Value.run m g)

/-- The kernel and the reference end with the same change of the parameters and the same two moments. -/
theorem algebraic : Cert.algebraic_AdamSmallIdeal_AdamSmallRefIdeal := by
  intro m g m' g' _ hargs
  refine ⟨_, _, _, Cert.AdamSmallIdeal.Value.run m g, ?_⟩
  refine (θ_run Cert.AdamSmallRefIdeal.defs _ _).mono (fun r h c => ⟨(h c).1.trans ?_, (h c).2.1.trans ?_, (h c).2.2.1.trans ?_, (h c).2.2.2⟩) (Cert.AdamSmallRefIdeal.Value.run m' g') <;>
    obtain ⟨e0, e1, e2, e3⟩ := hargs c
  · rw [e0, e1, e2, e3]
    rfl
  · rw [e1, e2]
    rfl
  · rw [e1, e3]
    rfl

end Cert.AdamSmallClaim
-- ==== Proof.Wide.lean ====
module

public import proofs.«01_k».proof.Proof.Lift

@[expose] public section

set_option maxRecDepth 16384

noncomputable section

/-! An array of 2560 lanes without its first 768 lanes. The queries are the last 256 lanes of both. -/

namespace Cert.Wide

open Idealize.ShloMosaic

/-- The array without its first 768 lanes. -/
def shifted (x : (⟨3, ![4, 2048, 2560]⟩ : Shape).Idx → EReal) (i : (⟨3, ![4, 2048, 1792]⟩ : Shape).Idx) : EReal :=
  x (ix3 (i 0) (i 1) ⟨768 + (i 2).val, by have h : (i 2).val < 1792 := (i 2).isLt; omega⟩)

/-- The last lanes of the shorter array, from those of the longer one. -/
theorem shifted_entry {x : (⟨3, ![4, 2048, 2560]⟩ : Shape).Idx → EReal} {Q : ℕ → ℕ → ℕ → EReal}
    (hq : ∀ i, 2304 ≤ (i 2).val → x i = Q (i 0).val (i 1).val ((i 2).val - 2304)) (i : (⟨3, ![4, 2048, 1792]⟩ : Shape).Idx) (hi : 1536 ≤ (i 2).val) :
    shifted x i = Q (i 0).val (i 1).val ((i 2).val - 1536) := by
  refine (hq _ (show 2304 ≤ 768 + (i 2).val by omega)).trans ?_
  show Q (i 0).val (i 1).val (768 + (i 2).val - 2304) = _
  rw [show 768 + (i 2).val - 2304 = (i 2).val - 1536 by omega]

/-- Lane `1536 + l` of the shorter array is lane `2304 + l` of the longer one. -/
theorem shifted_at (x : (⟨3, ![4, 2048, 2560]⟩ : Shape).Idx → EReal) (i : (⟨3, ![4, 2048, 2560]⟩ : Shape).Idx) (j : (⟨3, ![4, 2048, 1792]⟩ : Shape).Idx)
    (e0 : (i 0).val = (j 0).val) (e1 : (i 1).val = (j 1).val) (e2 : (i 2).val = 768 + (j 2).val) : x i = shifted x j := by
  refine congrArg x (funext fun a => Fin.ext ?_)
  match a with
  | ⟨0, _⟩ => exact e0
  | ⟨1, _⟩ => exact e1
  | ⟨2, _⟩ => exact e2

end Cert.Wide
-- ==== Proof.MemAttAKernel.lean ====
module

public import proofs.«01_k».proof.Proof.MemKernel
public import proofs.«01_k».proof.Proof.Gen.MemAttAIdeal.Value

@[expose] public section

set_option maxRecDepth 16384

noncomputable section

/-! The two arrays that the memory attention's gradient leaves where the queries come after 2304 other lanes, when the entries it reads are real
numbers. The blocks it computes are those of the kernel whose queries come after 1536. -/

namespace Cert.MemAttAIdeal.Hand

open Cert.MemAttAIdeal Cert.MemAttAIdeal.Gen Idealize.ShloMosaic Idealize.ShloMosaic.TcCoe Idealize.SL.Sem
open Cert.MemAttIdeal.Hand (tileGrad dq_piece dk_piece dv_piece emb_one emb_two fill_apply dqArray dmemAt dmemArray tiles_sum)

section

variable (m : (ℓ : Loc nD τ sig) → Buf (Elt Ideal) ℓ) (c : Dev nD) (t : Fin cfg0.N) {Q O M : ℕ → ℕ → ℝ}
  (hq : ∀ (r : Fin 512) (l : Fin 256), iblk m c 0 t (ix3 0 r l : S1x512x256.Idx) = (Q r.val l.val : EReal))
  (hm : ∀ (j : Fin 256) (l : Fin 512), iblk m c 1 t (ix3 0 j l : S1x256x512.Idx) = (M j.val l.val : EReal))
  (ho : ∀ (r : Fin 512) (l : Fin 256), iblk m c 2 t (ix3 0 r l : S1x512x256.Idx) = (O r.val l.val : EReal))

include hq hm ho

/-- The block of the queries' gradient that a grid point writes. -/
theorem dq_point (y : S1x512x256.Idx) :
    (dats m 0 c).flushed 3 t y = (MemSpec.dquery (Q (y 1).val) M (O (y 1).val) (fun j l => M j (256 + l)) (y 2).val : EReal) := by
  by_cases hc : t.val % 4 = 0
  · rw [Value.flushed3_A m c t hc]
    frame_out
    change View.canon _ y = _
    canon_tiles x h
    · exact dq_piece hq hm ho 1 (by decide) _ _ rfl rfl y x _ _ _ (by omega) (by omega)
    · exact dq_piece hq hm ho 0 (by decide) _ _ rfl rfl y x _ _ _ (by omega) (by omega)
  · rw [Value.flushed3_B m c t hc]
    frame_out
    change View.canon _ y = _
    canon_tiles x h
    · exact dq_piece hq hm ho 1 (by decide) _ _ rfl rfl y x _ _ _ (by omega) (by omega)
    · exact dq_piece hq hm ho 0 (by decide) _ _ rfl rfl y x _ _ _ (by omega) (by omega)

/-- What the running gradient of the memory tokens holds after a grid point that does not begin a batch. -/
theorem dmem_point (hc : ¬t.val % 4 = 0) (y : S1x256x512.Idx) :
    (outsAt0 m c t.val t.isLt).2 y
      = (outsAt0 m c (t.val - 1) (Nat.lt_of_le_of_lt (Nat.sub_le _ _) t.isLt)).2 y + (tileGrad Q O M (y 1).val (y 2).val : EReal) := by
  rw [outsAt0_B m c t hc]
  dsimp only
  frame_open
  simp (disch := decide) only [↓ View.readCov_skip, ↓ View.readCov_cons_toLoadRect, ↓ View.readCov_fill]
  frame_out
  canon_tiles x h
  · exact dv_piece hq hm ho 1 (by decide) _ _ rfl rfl y x _ _ _ (by omega) (by omega)
  · exact dk_piece hq hm ho 1 (by decide) _ _ rfl rfl y x _ _ _ _ (by omega) (by omega)
  · exact dv_piece hq hm ho 0 (by decide) _ _ rfl rfl y x _ _ _ (by omega) (by omega)
  · exact dk_piece hq hm ho 0 (by decide) _ _ rfl rfl y x _ _ _ _ (by omega) (by omega)

/-- What the running gradient of the memory tokens holds after the grid point that begins a batch. -/
theorem dmem_first (hc : t.val % 4 = 0) (y : S1x256x512.Idx) :
    (outsAt0 m c t.val t.isLt).2 y = (tileGrad Q O M (y 1).val (y 2).val : EReal) := by
  rw [outsAt0_A m c t hc]
  dsimp only
  frame_open
  simp (disch := decide) only [↓ View.readCov_skip, ↓ View.readCov_cons_toLoadRect, ↓ View.readCov_fill]
  frame_out
  refine Eq.trans ?_ (show Cert.MemAttIdeal.Gen.k0_pay4 (F := Ideal) y + (tileGrad Q O M (y 1).val (y 2).val : EReal) = _ by rw [fill_apply, zero_add])
  refine View.canon_append_of_piecesOf (Val := Elt Ideal) (e := .f32) (fun y : S1x256x512.Idx => Cert.MemAttIdeal.Gen.k0_pay4 (F := Ideal) y + (tileGrad Q O M (y 1).val (y 2).val : EReal))
    [_] [_, _, _, _] ⟨fun (x : S1x256x128.Idx) => ?_, fun (x : S1x256x128.Idx) => ?_, fun (x : S1x256x128.Idx) => ?_, fun (x : S1x256x128.Idx) => ?_, trivial⟩ y ?_
  · exact dv_piece hq hm ho 1 (by decide) _ _ rfl rfl _ x _ _ _ (emb_one _ (by decide) x) (emb_two _ (by decide) x)
  · exact dk_piece hq hm ho 1 (by decide) _ _ rfl rfl _ x _ _ _ _ (emb_one _ (by decide) x) (emb_two _ (by decide) x)
  · exact dv_piece hq hm ho 0 (by decide) _ _ rfl rfl _ x _ _ _ (emb_one _ (by decide) x) (emb_two _ (by decide) x)
  · exact dk_piece hq hm ho 0 (by decide) _ _ rfl rfl _ x _ _ _ _ (emb_one _ (by decide) x) (emb_two _ (by decide) x)
  · exact View.cover_of_tiledL _ ![1, 256, 128] (by sl_kernel_rfl) y

end

theorem where0 : ∀ t : Fin cfg0.N, win0_0.index t = ![t.val / 4, t.val % 4, 9] := (by decide +kernel : ∀ t : Fin grid0.N, _)
theorem where1 : ∀ t : Fin cfg0.N, win0_1.index t = ![t.val / 4, 0, 0] := (by decide +kernel : ∀ t : Fin grid0.N, _)
theorem where2 : ∀ t : Fin cfg0.N, win0_2.index t = ![t.val / 4, t.val % 4, 3] := (by decide +kernel : ∀ t : Fin grid0.N, _)
theorem where3 : ∀ t : Fin cfg0.N, win0_3.index t = ![t.val / 4, t.val % 4, 0] := (by decide +kernel : ∀ t : Fin grid0.N, _)
theorem where4 : ∀ t : Fin cfg0.N, win0_4.index t = ![t.val / 4, 0, 0] := (by decide +kernel : ∀ t : Fin grid0.N, _)

variable (m : (ℓ : Loc nD τ sig) → Buf (Elt Ideal) ℓ) (c : Dev nD) {Q O M : ℕ → ℕ → ℕ → ℝ}
  (hq : ∀ i : S4x2048x2560.Idx, 2304 ≤ (i 2).val → m ((c : Thread nD τ).loc main_arg0) i = (Q (i 0).val (i 1).val ((i 2).val - 2304) : EReal))
  (hm : ∀ i : S4x256x512.Idx, m ((c : Thread nD τ).loc main_arg1) i = (M (i 0).val (i 1).val (i 2).val : EReal))
  (ho : ∀ i : S4x2048x1024.Idx, 768 ≤ (i 2).val → m ((c : Thread nD τ).loc main_arg2) i = (O (i 0).val (i 1).val ((i 2).val - 768) : EReal))

include hq in
theorem block0 (t : Fin cfg0.N) (r : Fin 512) (l : Fin 256) :
    iblk m c 0 t (ix3 0 r l : S1x512x256.Idx) = (Q (t.val / 4) (t.val % 4 * 512 + r.val) l.val : EReal) := by
  blk_simp [iblk]
  rw [V_main_arg0, hq _ (by blk_simp [where0]; omega)]
  blk_simp [where0]
  simp

include hm in
theorem block1 (t : Fin cfg0.N) (j : Fin 256) (l : Fin 512) :
    iblk m c 1 t (ix3 0 j l : S1x256x512.Idx) = (M (t.val / 4) j.val l.val : EReal) := by
  blk_simp [iblk]
  rw [V_main_arg1, hm]
  blk_simp [where1]
  simp

include ho in
theorem block2 (t : Fin cfg0.N) (r : Fin 512) (l : Fin 256) :
    iblk m c 2 t (ix3 0 r l : S1x512x256.Idx) = (O (t.val / 4) (t.val % 4 * 512 + r.val) l.val : EReal) := by
  blk_simp [iblk]
  rw [V_main_arg2, ho _ (by blk_simp [where2]; omega)]
  blk_simp [where2]
  simp

include hq hm ho in
theorem dq_array : (dats m 0 c).arrAt 3 cfg0.N = dqArray Q O M := by
  refine (dats m 0 c).arrAt_eq_of_covers 3 _ (by decide +kernel) fun t hf y => ?_
  refine (dq_point m c t (Q := fun r => Q (t.val / 4) (t.val % 4 * 512 + r)) (O := fun r => O (t.val / 4) (t.val % 4 * 512 + r)) (M := M (t.val / 4)) (block0 m c hq t) (block1 m c hm t) (block2 m c ho t) y).trans ?_
  blk_simp [dqArray, where3]

include hq hm ho in
theorem dmem_flush (t : Fin cfg0.N) (h : t.val % 4 = 3) (y : S1x256x512.Idx) :
    (outsAt0 m c t.val t.isLt).2 y = (dmemAt Q O M (t.val / 4) (y 1).val (y 2).val : EReal) := by
  rw [Pipeline.eq_sum_fin_of_reset_step_apply_of_flush (fun n h => (outsAt0 m c n h).2) 4 (fun _ => (0 : EReal))
    (fun t y => (tileGrad (fun r => Q (t.val / 4) (t.val % 4 * 512 + r)) (fun r => O (t.val / 4) (t.val % 4 * 512 + r)) (M (t.val / 4)) (y 1).val (y 2).val : EReal))
    (fun t hc y => (dmem_first m c t (block0 m c hq t) (block1 m c hm t) (block2 m c ho t) hc y).trans (zero_add _).symm)
    (fun t hc y => dmem_point m c t (block0 m c hq t) (block1 m c hm t) (block2 m c ho t) hc y) t h y]
  have hd : ∀ s : Fin 4, (4 * (t.val / 4) + s.val) / 4 = t.val / 4 := fun s => by omega
  have hr : ∀ s : Fin 4, (4 * (t.val / 4) + s.val) % 4 = s.val := fun s => by omega
  simp only [hd, hr, Cert.Reals.sum_coe, tiles_sum, zero_add]

include hq hm ho in
theorem dmem_array : (dats m 0 c).arrAt 4 cfg0.N = dmemArray Q O M := by
  refine (dats m 0 c).arrAt_eq_of_covers 4 _ (by decide +kernel) fun t hf y => ?_
  have h := dmem_flush m c hq hm ho t ((flush0_4 t).mp hf) y
  blk_simp
  rw [after0_4, h, dmemArray]
  blk_simp [where4]

end Cert.MemAttAIdeal.Hand
-- ==== Proof.MemAttAClaim.lean ====
module

public import proofs.«01_k».proof.Defs
public import proofs.«01_k».proof.Proof.Wide
public import proofs.«01_k».proof.Proof.MemAttAKernel
public import proofs.«01_k».proof.Proof.MemRef
public import proofs.«01_k».proof.Proof.Gen.MemAttA.Frame
public import proofs.«01_k».proof.Proof.Gen.MemAttAIdeal.Value
public import proofs.«01_k».proof.Proof.Gen.MemAttARefIdeal.Run
public import proofs.«01_k».proof.Proof.Gen.MemAttARefIdeal.Read

@[expose] public section

set_option maxRecDepth 16384

noncomputable section

/-! The claims about the gradient of the memory attention where the queries come after 2304 other lanes. -/

namespace Cert.MemAttAClaim

open Idealize.ShloMosaic Idealize.ShloMosaic.TcCoe Idealize.SL.Sem Cert.Reals Cert.Wide

/-- The side conditions that the precondition states. -/
theorem pre_facts : Cert.Pre_mem_a_finite.Facts where
  slices_S4x2048x2560_S4x2048x256_0_0_2304 := by decide
  slices_S4x2048x1024_S4x2048x256_0_0_768 := by decide
  bcast_S_S4x2048x256 := by decide
  bcast_S_S4x256x512 := by decide

/-- The queries are those of the shorter array. -/
theorem queries_short (x0 : (⟨Cert.MemAttARefIdeal.S4x2048x2560, .f32⟩ : BufTy).Contents (Elt Ideal))
    (h : Cert.MemAttARefIdeal.S4x2048x2560.Slices ![0, 0, 2304] Cert.MemAttARefIdeal.S4x2048x256) :
    extractStridedSlice Cert.MemAttARefIdeal.S4x2048x256 ![0, 0, 2304] x0 h
      = Cert.MemAttRefIdeal.Read.val_main_v0 (F := Ideal) (shifted x0) := by
  funext i
  refine (Cert.MemAttARefIdeal.Read.val_main_v0_apply (F := Ideal) x0 i).trans (Eq.trans ?_ (Cert.MemAttRefIdeal.Read.val_main_v0_apply (F := Ideal) (shifted x0) i).symm)
  exact shifted_at x0 _ _ rfl rfl (show 2304 + (i 2).val = 768 + (1536 + (i 2).val) by omega)

section

open Cert.MemAttARefIdeal

variable (m : (ℓ : Loc nD τ sig) → Buf (Elt Ideal) ℓ) (c : Dev nD)

/-- The reference's gradient of the queries is that of the shorter array. -/
theorem dq_short : Value.res_main_v68 m c = Cert.MemAttRefIdeal.Read.val_main_v68 (F := Ideal) (shifted (m ((c.tc : Thread nD τ).loc main_arg0)))
    (m ((c.tc : Thread nD τ).loc main_arg1)) (m ((c.tc : Thread nD τ).loc main_arg2)) := by
  unfold Value.res_main_v68
  rw [queries_short]
  rfl

/-- The reference's gradient of the memory tokens is that of the shorter array. -/
theorem dmem_short : Value.res_main_v67 m c = Cert.MemAttRefIdeal.Read.val_main_v67 (F := Ideal) (shifted (m ((c.tc : Thread nD τ).loc main_arg0)))
    (m ((c.tc : Thread nD τ).loc main_arg1)) (m ((c.tc : Thread nD τ).loc main_arg2)) := by
  unfold Value.res_main_v67
  rw [queries_short]
  rfl

end

variable [h : Cert.Pre_mem_a_finite.Facts]

/-- What the precondition says of the three arguments. -/
theorem reals_of_pre (x0 : Cert.Pre_mem_a_finite.S4x2048x2560.Idx → EReal) (x1 : Cert.Pre_mem_a_finite.S4x256x512.Idx → EReal)
    (x2 : Cert.Pre_mem_a_finite.S4x2048x1024.Idx → EReal)
    (h0 : (Cert.Pre_mem_a_finite.fn (F := Ideal) x0 x1 x2).1 = fun _ => 1#1) (h1 : (Cert.Pre_mem_a_finite.fn (F := Ideal) x0 x1 x2).2.1 = fun _ => 1#1)
    (h2 : (Cert.Pre_mem_a_finite.fn (F := Ideal) x0 x1 x2).2.2 = fun _ => 1#1) :
    (∀ i, 2304 ≤ (i 2).val → x0 i = ((x0 i).toReal : EReal)) ∧ (∀ i, x1 i = ((x1 i).toReal : EReal))
      ∧ (∀ i, 768 ≤ (i 2).val → x2 i = ((x2 i).toReal : EReal)) := by
  refine ⟨fun i hi => ?_, fun i => real_of_bit (congrFun h1 i), fun i hi => ?_⟩
  · have b : (i 2).val < 2560 := (i 2).isLt
    have e := real_of_bit (congrFun h0 (ix3 (i 0) (i 1) ⟨(i 2).val - 2304, by omega⟩))
    have hx : ∀ j, j = i → x0 j = ((x0 j).toReal : EReal) → x0 i = ((x0 i).toReal : EReal) := fun j hj => by subst hj; exact id
    refine hx _ ?_ e
    funext a; match a with
    | ⟨0, _⟩ => exact Fin.ext (Nat.zero_add _)
    | ⟨1, _⟩ => exact Fin.ext (Nat.zero_add _)
    | ⟨2, _⟩ => exact Fin.ext (by show 2304 + ((i 2).val - 2304) = (i 2).val; omega)
  · have b : (i 2).val < 1024 := (i 2).isLt
    have e := real_of_bit (congrFun h2 (ix3 (i 0) (i 1) ⟨(i 2).val - 768, by omega⟩))
    have hx : ∀ j, j = i → x2 j = ((x2 j).toReal : EReal) → x2 i = ((x2 i).toReal : EReal) := fun j hj => by subst hj; exact id
    refine hx _ ?_ e
    funext a; match a with
    | ⟨0, _⟩ => exact Fin.ext (Nat.zero_add _)
    | ⟨1, _⟩ => exact Fin.ext (Nat.zero_add _)
    | ⟨2, _⟩ => exact Fin.ext (by show 768 + ((i 2).val - 768) = (i 2).val; omega)

omit h in
/-- The reference ends with its arguments unchanged. -/
theorem frame_ref (m : (ℓ : Loc Cert.MemAttARefIdeal.nD Cert.MemAttARefIdeal.τ Cert.MemAttARefIdeal.sig) → Buf (Elt Ideal) ℓ) (g : Dev Cert.MemAttARefIdeal.nD → PrngReg) :
    θ_run (Cert.MemAttARefIdeal.defs (F := Ideal)) (onTc (τ := Cert.MemAttARefIdeal.τ) (Cert.MemAttARefIdeal.main (F := Ideal))) ⟨m, fun _ => 0, g⟩ (fun r => (∀ c : Dev Cert.MemAttARefIdeal.nD,
      r.2.mem ((c.tc : Thread Cert.MemAttARefIdeal.nD Cert.MemAttARefIdeal.τ).loc Cert.MemAttARefIdeal.main_arg0) = m ((c.tc : Thread Cert.MemAttARefIdeal.nD Cert.MemAttARefIdeal.τ).loc Cert.MemAttARefIdeal.main_arg0)
      ∧ r.2.mem ((c.tc : Thread Cert.MemAttARefIdeal.nD Cert.MemAttARefIdeal.τ).loc Cert.MemAttARefIdeal.main_arg1) = m ((c.tc : Thread Cert.MemAttARefIdeal.nD Cert.MemAttARefIdeal.τ).loc Cert.MemAttARefIdeal.main_arg1)
      ∧ r.2.mem ((c.tc : Thread Cert.MemAttARefIdeal.nD Cert.MemAttARefIdeal.τ).loc Cert.MemAttARefIdeal.main_arg2) = m ((c.tc : Thread Cert.MemAttARefIdeal.nD Cert.MemAttARefIdeal.τ).loc Cert.MemAttARefIdeal.main_arg2))
      ∧ r.2.sem = fun _ => 0) :=
  (θ_run Cert.MemAttARefIdeal.defs _ _).mono (fun r h => ⟨fun c => (h c).2.2, sem_eq_zero_of_no_sems (by decide) r.2⟩) (Cert.MemAttARefIdeal.Value.run m g)

/-- The kernel and the reference end with the same gradients. -/
theorem algebraic : Cert.algebraic_MemAttAIdeal_MemAttARefIdeal_pre_mem_a_finite := by
  intro m g m' g' hpre hargs
  have key : ∀ c : Dev Cert.MemAttAIdeal.nD,
      Cert.MemAttARefIdeal.Value.res_main_v68 m' c = (Cert.MemAttAIdeal.Gen.dats m 0 c).arrAt 3 Cert.MemAttAIdeal.cfg0.N
      ∧ Cert.MemAttARefIdeal.Value.res_main_v67 m' c = (Cert.MemAttAIdeal.Gen.dats m 0 c).arrAt 4 Cert.MemAttAIdeal.cfg0.N := fun c => by
    obtain ⟨p0, p1, p2⟩ := hpre c
    obtain ⟨r0, r1, r2⟩ := reals_of_pre _ _ _ p0 p1 p2
    obtain ⟨Q, hq⟩ := lift3 2304 _ r0
    obtain ⟨M, hm⟩ := lift3 0 _ fun i _ => r1 i
    obtain ⟨O, ho⟩ := lift3 768 _ r2
    obtain ⟨e0, e1, e2⟩ := hargs c
    have hs := shifted_entry (Q := fun b s l => (Q b s l : EReal)) hq
    have hm' := fun i => hm i (Nat.zero_le _)
    choose X hX using Cert.MemAttRefIdeal.Hand.greatest (x0 := shifted (m' ((c.tc : Thread Cert.MemAttARefIdeal.nD Cert.MemAttARefIdeal.τ).loc Cert.MemAttARefIdeal.main_arg0)))
      (x1 := m' ((c.tc : Thread Cert.MemAttARefIdeal.nD Cert.MemAttARefIdeal.τ).loc Cert.MemAttARefIdeal.main_arg1)) (Q := Q) (M := M) (by rw [e0]; exact hs) (by rw [e1]; exact hm')
    rw [dq_short, dmem_short, Cert.MemAttAIdeal.Hand.dq_array m c hq hm' ho, Cert.MemAttAIdeal.Hand.dmem_array m c hq hm' ho]
    constructor
    · funext i
      exact Cert.MemAttRefIdeal.Hand.dq_ref (by rw [e0]; exact hs) (by rw [e1]; exact hm') (by rw [e2]; exact ho) hX i
    · funext i
      refine (Cert.MemAttRefIdeal.Hand.dmem_ref (by rw [e0]; exact hs) (by rw [e1]; exact hm') (by rw [e2]; exact ho) hX i).trans ?_
      rfl
  refine ⟨_, _, Cert.MemAttAIdeal.Value.run_blocks m g, ?_⟩
  exact (θ_run Cert.MemAttARefIdeal.defs _ _).mono (fun r h c => ⟨(h c).1.trans (key c).1, (h c).2.1.trans (key c).2, (h c).2.2⟩) (Cert.MemAttARefIdeal.Value.run m' g')

end Cert.MemAttAClaim
-- ==== Proof.MemFAKernel.lean ====
module

public import proofs.«01_k».proof.Proof.MemFKernel
public import proofs.«01_k».proof.Proof.Gen.MemFAIdeal.Value

@[expose] public section

set_option maxRecDepth 16384

noncomputable section

/-! The array that the memory attention's forward kernel leaves where its queries come after 2304 other lanes. The blocks it computes are those
of the kernel whose queries come after 1536. -/

namespace Cert.MemFAIdeal.Hand

open Cert.MemFAIdeal Cert.MemFAIdeal.Gen Idealize.ShloMosaic Idealize.ShloMosaic.TcCoe Idealize.SL.Sem
open Cert.MemFIdeal.Hand (lane attArray piece)

theorem where0 : ∀ t : Fin cfg0.N, win0_0.index t = ![t.val / 4, t.val % 4, 9] := (by decide +kernel : ∀ t : Fin grid0.N, _)
theorem where1 : ∀ t : Fin cfg0.N, win0_1.index t = ![t.val / 4, 0, 0] := (by decide +kernel : ∀ t : Fin grid0.N, _)
theorem where2 : ∀ t : Fin cfg0.N, win0_2.index t = ![t.val / 4, t.val % 4, 0] := (by decide +kernel : ∀ t : Fin grid0.N, _)

variable (m : (ℓ : Loc nD τ sig) → Buf (Elt Ideal) ℓ) (c : Dev nD) {Q M : ℕ → ℕ → ℕ → EReal}
  (hq : ∀ i : S4x2048x2560.Idx, 2304 ≤ (i 2).val → m ((c : Thread nD τ).loc main_arg0) i = Q (i 0).val (i 1).val ((i 2).val - 2304))
  (hm : ∀ i : S4x256x512.Idx, m ((c : Thread nD τ).loc main_arg1) i = M (i 0).val (i 1).val (i 2).val)

include hq in
theorem block0 (t : Fin cfg0.N) (r : Fin 512) (l : Fin 256) :
    iblk m c 0 t (ix3 0 r l : S1x512x256.Idx) = Q (t.val / 4) (t.val % 4 * 512 + r.val) l.val := by
  blk_simp [iblk]
  rw [V_main_arg0, hq _ (by blk_simp [where0]; omega)]
  blk_simp [where0]
  simp

include hm in
theorem block1 (t : Fin cfg0.N) (j : Fin 256) (l : Fin 512) :
    iblk m c 1 t (ix3 0 j l : S1x256x512.Idx) = M (t.val / 4) j.val l.val := by
  blk_simp [iblk]
  rw [V_main_arg1, hm]
  blk_simp [where1]
  simp

include hq hm in
/-- The block that a grid point writes. -/
theorem point (t : Fin cfg0.N) (y : S1x512x256.Idx) :
    (dats m 0 c).flushed 2 t y = lane (Q (t.val / 4) (t.val % 4 * 512 + (y 1).val)) (M (t.val / 4)) (y 2).val := by
  rw [Value.flushed2 m c t]
  frame_out
  change View.canon _ y = _
  canon_tiles x h
  · exact piece (Q := fun r => Q (t.val / 4) (t.val % 4 * 512 + r)) (block0 m c hq t) (block1 m c hm t) 1 (by decide) _ _ rfl rfl y x _ _ _ (by omega) (by omega)
  · exact piece (Q := fun r => Q (t.val / 4) (t.val % 4 * 512 + r)) (block0 m c hq t) (block1 m c hm t) 0 (by decide) _ _ rfl rfl y x _ _ _ (by omega) (by omega)

include hq hm in
theorem array : (dats m 0 c).arrAt 2 cfg0.N = attArray Q M := by
  refine (dats m 0 c).arrAt_eq_of_covers 2 _ (by decide +kernel) fun t hf y => ?_
  refine (point m c hq hm t y).trans ?_
  blk_simp [attArray, where2]

end Cert.MemFAIdeal.Hand
-- ==== Proof.MemFAClaim.lean ====
module

public import proofs.«01_k».proof.Proof.Wide
public import proofs.«01_k».proof.Proof.MemFClaim
public import proofs.«01_k».proof.Proof.MemFAKernel
public import proofs.«01_k».proof.Proof.Gen.MemFARefIdeal.Run
public import proofs.«01_k».proof.Proof.Gen.MemFARefIdeal.Read

@[expose] public section

set_option maxRecDepth 16384

noncomputable section

/-! The claims about the memory attention of the forward pass where the queries come after 2304 other lanes. -/

namespace Cert.MemFAClaim

open Idealize.ShloMosaic Idealize.ShloMosaic.TcCoe Idealize.SL.Sem Cert.MemFARefIdeal Cert.MemFARefIdeal.Read
open Cert.Wide Cert.MemFClaim

/-- The queries are those of the shorter array. -/
theorem queries_short (x0 : (⟨S4x2048x2560, .f32⟩ : BufTy).Contents (Elt Ideal)) (h : S4x2048x2560.Slices ![0, 0, 2304] S4x2048x256) :
    extractStridedSlice S4x2048x256 ![0, 0, 2304] x0 h = Cert.MemFRefIdeal.Read.val_main_v4 (F := Ideal) (shifted x0) := by
  funext i
  refine (val_main_v4_apply (F := Ideal) x0 i).trans (Eq.trans ?_ (Cert.MemFRefIdeal.Read.val_main_v4_apply (F := Ideal) (shifted x0) i).symm)
  exact shifted_at x0 _ _ rfl rfl (show 2304 + (i 2).val = 768 + (1536 + (i 2).val) by omega)

/-- The reference ends with its arguments unchanged. -/
theorem frame_ref : Cert.quiescent_MemFARefIdeal := fun m g _ =>
  (θ_run Cert.MemFARefIdeal.defs _ _).mono (fun r h => ⟨fun c => (h c).2, sem_eq_zero_of_no_sems (by decide) r.2⟩) (Cert.MemFARefIdeal.Value.run m g)

/-- The kernel and the reference end with the same array. -/
theorem algebraic : Cert.algebraic_MemFAIdeal_MemFARefIdeal := by
  intro m g m' g' _ hargs
  refine ⟨_, Cert.MemFAIdeal.Value.run_blocks m g, ?_⟩
  refine (θ_run Cert.MemFARefIdeal.defs _ _).mono (fun r h c => ⟨(h c).1.trans ?_, (h c).2⟩) (Cert.MemFARefIdeal.Value.run m' g')
  obtain ⟨e0, e1⟩ := hargs c
  have hq : ∀ i : S4x2048x2560.Idx, 2304 ≤ (i 2).val →
      m ((c.tc : Thread _ _).loc Cert.MemFAIdeal.main_arg0) i = entries (m ((c.tc : Thread _ _).loc Cert.MemFAIdeal.main_arg0)) (i 0).val (i 1).val (2304 + ((i 2).val - 2304)) :=
    fun i h => (entries_apply _ i).trans (by rw [Nat.add_sub_cancel' h])
  rw [queries_short, e0, e1, Cert.MemFAIdeal.Hand.array m c (Q := fun b s l => entries (m ((c.tc : Thread _ _).loc Cert.MemFAIdeal.main_arg0)) b s (2304 + l)) hq (fun i => entries_apply _ i)]
  refine Eq.trans (b := Cert.MemFRefIdeal.Read.val_main_v23 (F := Ideal) (shifted (m ((c.tc : Thread _ _).loc Cert.MemFAIdeal.main_arg0))) (m ((c.tc : Thread _ _).loc Cert.MemFAIdeal.main_arg1))) rfl ?_
  exact output_ref (Q := fun b s l => entries (m ((c.tc : Thread _ _).loc Cert.MemFAIdeal.main_arg0)) b s (2304 + l))
    (shifted_entry (Q := fun b s l => entries (m ((c.tc : Thread _ _).loc Cert.MemFAIdeal.main_arg0)) b s (2304 + l)) hq) (fun i => entries_apply _ i)

end Cert.MemFAClaim
-- ==== Proof.lean ====
module

public import proofs.«01_k».proof.Defs
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguIdeal.Value
public import proofs.«01_k».proof.Proof.Gen.SguRefIdeal
public import proofs.«01_k».proof.Proof.Gen.SguRefIdeal.Run
public import proofs.«01_k».proof.Proof.Gen.SguRefIdeal.Read
public import proofs.«01_k».proof.Proof.Gen.MemAtt
public import proofs.«01_k».proof.Proof.Gen.MemAtt.Skeleton
public import proofs.«01_k».proof.Proof.Gen.MemAtt.Launch
public import proofs.«01_k».proof.Proof.Gen.MemAtt.Points
public import proofs.«01_k».proof.Proof.Gen.MemAtt.Frame
public import proofs.«01_k».proof.Proof.Gen.MemAttIdeal
public import proofs.«01_k».proof.Proof.Gen.MemAttIdeal.Skeleton
public import proofs.«01_k».proof.Proof.Gen.MemAttIdeal.Launch
public import proofs.«01_k».proof.Proof.Gen.MemAttIdeal.Points
public import proofs.«01_k».proof.Proof.Gen.MemAttIdeal.Frame
public import proofs.«01_k».proof.Proof.Gen.MemAttIdeal.Value
public import proofs.«01_k».proof.Proof.Gen.MemAttRefIdeal
public import proofs.«01_k».proof.Proof.Gen.MemAttRefIdeal.Run
public import proofs.«01_k».proof.Proof.Gen.MemAttRefIdeal.Read
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.OutW
public import proofs.«01_k».proof.Proof.Gen.OutW.Skeleton
public import proofs.«01_k».proof.Proof.Gen.OutW.Launch
public import proofs.«01_k».proof.Proof.Gen.OutW.Points
public import proofs.«01_k».proof.Proof.Gen.OutW.Frame
public import proofs.«01_k».proof.Proof.Gen.OutWIdeal
public import proofs.«01_k».proof.Proof.Gen.OutWIdeal.Skeleton
public import proofs.«01_k».proof.Proof.Gen.OutWIdeal.Launch
public import proofs.«01_k».proof.Proof.Gen.OutWIdeal.Points
public import proofs.«01_k».proof.Proof.Gen.OutWIdeal.Frame
public import proofs.«01_k».proof.Proof.Gen.OutWIdeal.Value
public import proofs.«01_k».proof.Proof.Gen.OutWRefIdeal
public import proofs.«01_k».proof.Proof.Gen.OutWRefIdeal.Run
public import proofs.«01_k».proof.Proof.Gen.OutWRefIdeal.Read
public import proofs.«01_k».proof.Proof.Gen.OutB
public import proofs.«01_k».proof.Proof.Gen.OutB.Skeleton
public import proofs.«01_k».proof.Proof.Gen.OutB.Launch
public import proofs.«01_k».proof.Proof.Gen.OutB.Points
public import proofs.«01_k».proof.Proof.Gen.OutB.Frame
public import proofs.«01_k».proof.Proof.Gen.OutBIdeal
public import proofs.«01_k».proof.Proof.Gen.OutBIdeal.Skeleton
public import proofs.«01_k».proof.Proof.Gen.OutBIdeal.Launch
public import proofs.«01_k».proof.Proof.Gen.OutBIdeal.Points
public import proofs.«01_k».proof.Proof.Gen.OutBIdeal.Frame
public import proofs.«01_k».proof.Proof.Gen.OutBIdeal.Value
public import proofs.«01_k».proof.Proof.Gen.OutBRefIdeal
public import proofs.«01_k».proof.Proof.Gen.OutBRefIdeal.Run
public import proofs.«01_k».proof.Proof.Gen.OutBRefIdeal.Read
public import proofs.«01_k».proof.Proof.Gen.InWA
public import proofs.«01_k».proof.Proof.Gen.InWA.Skeleton
public import proofs.«01_k».proof.Proof.Gen.InWA.Launch
public import proofs.«01_k».proof.Proof.Gen.InWA.Points
public import proofs.«01_k».proof.Proof.Gen.InWA.Frame
public import proofs.«01_k».proof.Proof.Gen.InWAIdeal
public import proofs.«01_k».proof.Proof.Gen.InWAIdeal.Skeleton
public import proofs.«01_k».proof.Proof.Gen.InWAIdeal.Launch
public import proofs.«01_k».proof.Proof.Gen.InWAIdeal.Points
public import proofs.«01_k».proof.Proof.Gen.InWAIdeal.Frame
public import proofs.«01_k».proof.Proof.Gen.InWAIdeal.Value
public import proofs.«01_k».proof.Proof.Gen.InWARefIdeal
public import proofs.«01_k».proof.Proof.Gen.InWARefIdeal.Run
public import proofs.«01_k».proof.Proof.Gen.InWARefIdeal.Read
public import proofs.«01_k».proof.Proof.Gen.InWB
public import proofs.«01_k».proof.Proof.Gen.InWB.Skeleton
public import proofs.«01_k».proof.Proof.Gen.InWB.Launch
public import proofs.«01_k».proof.Proof.Gen.InWB.Points
public import proofs.«01_k».proof.Proof.Gen.InWB.Frame
public import proofs.«01_k».proof.Proof.Gen.InWBIdeal
public import proofs.«01_k».proof.Proof.Gen.InWBIdeal.Skeleton
public import proofs.«01_k».proof.Proof.Gen.InWBIdeal.Launch
public import proofs.«01_k».proof.Proof.Gen.InWBIdeal.Points
public import proofs.«01_k».proof.Proof.Gen.InWBIdeal.Frame
public import proofs.«01_k».proof.Proof.Gen.InWBIdeal.Value
public import proofs.«01_k».proof.Proof.Gen.InWBRefIdeal
public import proofs.«01_k».proof.Proof.Gen.InWBRefIdeal.Run
public import proofs.«01_k».proof.Proof.Gen.InWBRefIdeal.Read
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.InAIdeal.Value
public import proofs.«01_k».proof.Proof.Gen.InARefIdeal
public import proofs.«01_k».proof.Proof.Gen.InARefIdeal.Run
public import proofs.«01_k».proof.Proof.Gen.InARefIdeal.Read
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBIdeal.Value
public import proofs.«01_k».proof.Proof.Gen.InBRefIdeal
public import proofs.«01_k».proof.Proof.Gen.InBRefIdeal.Run
public import proofs.«01_k».proof.Proof.Gen.InBRefIdeal.Read
public import proofs.«01_k».proof.Proof.Gen.InX
public import proofs.«01_k».proof.Proof.Gen.InX.Skeleton
public import proofs.«01_k».proof.Proof.Gen.InX.Launch
public import proofs.«01_k».proof.Proof.Gen.InX.Points
public import proofs.«01_k».proof.Proof.Gen.InX.Frame
public import proofs.«01_k».proof.Proof.Gen.InXIdeal
public import proofs.«01_k».proof.Proof.Gen.InXIdeal.Skeleton
public import proofs.«01_k».proof.Proof.Gen.InXIdeal.Launch
public import proofs.«01_k».proof.Proof.Gen.InXIdeal.Points
public import proofs.«01_k».proof.Proof.Gen.InXIdeal.Frame
public import proofs.«01_k».proof.Proof.Gen.InXIdeal.Value
public import proofs.«01_k».proof.Proof.Gen.InXRefIdeal
public import proofs.«01_k».proof.Proof.Gen.InXRefIdeal.Run
public import proofs.«01_k».proof.Proof.Gen.InXRefIdeal.Read
public import proofs.«01_k».proof.Proof.Gen.ProjA
public import proofs.«01_k».proof.Proof.Gen.ProjA.Skeleton
public import proofs.«01_k».proof.Proof.Gen.ProjA.Launch
public import proofs.«01_k».proof.Proof.Gen.ProjA.Points
public import proofs.«01_k».proof.Proof.Gen.ProjA.Frame
public import proofs.«01_k».proof.Proof.Gen.ProjAIdeal
public import proofs.«01_k».proof.Proof.Gen.ProjAIdeal.Skeleton
public import proofs.«01_k».proof.Proof.Gen.ProjAIdeal.Launch
public import proofs.«01_k».proof.Proof.Gen.ProjAIdeal.Points
public import proofs.«01_k».proof.Proof.Gen.ProjAIdeal.Frame
public import proofs.«01_k».proof.Proof.Gen.ProjAIdeal.Value
public import proofs.«01_k».proof.Proof.Gen.ProjARefIdeal
public import proofs.«01_k».proof.Proof.Gen.ProjARefIdeal.Run
public import proofs.«01_k».proof.Proof.Gen.ProjARefIdeal.Read
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBIdeal.Value
public import proofs.«01_k».proof.Proof.Gen.ProjBRefIdeal
public import proofs.«01_k».proof.Proof.Gen.ProjBRefIdeal.Run
public import proofs.«01_k».proof.Proof.Gen.ProjBRefIdeal.Read
public import proofs.«01_k».proof.Proof.Gen.OutN
public import proofs.«01_k».proof.Proof.Gen.OutN.Skeleton
public import proofs.«01_k».proof.Proof.Gen.OutN.Launch
public import proofs.«01_k».proof.Proof.Gen.OutN.Points
public import proofs.«01_k».proof.Proof.Gen.OutN.Frame
public import proofs.«01_k».proof.Proof.Gen.OutNIdeal
public import proofs.«01_k».proof.Proof.Gen.OutNIdeal.Skeleton
public import proofs.«01_k».proof.Proof.Gen.OutNIdeal.Launch
public import proofs.«01_k».proof.Proof.Gen.OutNIdeal.Points
public import proofs.«01_k».proof.Proof.Gen.OutNIdeal.Frame
public import proofs.«01_k».proof.Proof.Gen.OutNIdeal.Value
public import proofs.«01_k».proof.Proof.Gen.OutNRefIdeal
public import proofs.«01_k».proof.Proof.Gen.OutNRefIdeal.Run
public import proofs.«01_k».proof.Proof.Gen.OutNRefIdeal.Read
public import proofs.«01_k».proof.Proof.Gen.ProjX
public import proofs.«01_k».proof.Proof.Gen.ProjX.Skeleton
public import proofs.«01_k».proof.Proof.Gen.ProjX.Launch
public import proofs.«01_k».proof.Proof.Gen.ProjX.Points
public import proofs.«01_k».proof.Proof.Gen.ProjX.Frame
public import proofs.«01_k».proof.Proof.Gen.ProjXIdeal
public import proofs.«01_k».proof.Proof.Gen.ProjXIdeal.Skeleton
public import proofs.«01_k».proof.Proof.Gen.ProjXIdeal.Launch
public import proofs.«01_k».proof.Proof.Gen.ProjXIdeal.Points
public import proofs.«01_k».proof.Proof.Gen.ProjXIdeal.Frame
public import proofs.«01_k».proof.Proof.Gen.ProjXIdeal.Value
public import proofs.«01_k».proof.Proof.Gen.ProjXRefIdeal
public import proofs.«01_k».proof.Proof.Gen.ProjXRefIdeal.Run
public import proofs.«01_k».proof.Proof.Gen.ProjXRefIdeal.Read
public import proofs.«01_k».proof.Proof.Gen.InWX
public import proofs.«01_k».proof.Proof.Gen.InWX.Skeleton
public import proofs.«01_k».proof.Proof.Gen.InWX.Launch
public import proofs.«01_k».proof.Proof.Gen.InWX.Points
public import proofs.«01_k».proof.Proof.Gen.InWX.Frame
public import proofs.«01_k».proof.Proof.Gen.InWXIdeal
public import proofs.«01_k».proof.Proof.Gen.InWXIdeal.Skeleton
public import proofs.«01_k».proof.Proof.Gen.InWXIdeal.Launch
public import proofs.«01_k».proof.Proof.Gen.InWXIdeal.Points
public import proofs.«01_k».proof.Proof.Gen.InWXIdeal.Frame
public import proofs.«01_k».proof.Proof.Gen.InWXIdeal.Value
public import proofs.«01_k».proof.Proof.Gen.InWXRefIdeal
public import proofs.«01_k».proof.Proof.Gen.InWXRefIdeal.Run
public import proofs.«01_k».proof.Proof.Gen.InWXRefIdeal.Read
public import proofs.«01_k».proof.Proof.Gen.MkvF
public import proofs.«01_k».proof.Proof.Gen.MkvF.Skeleton
public import proofs.«01_k».proof.Proof.Gen.MkvF.Launch
public import proofs.«01_k».proof.Proof.Gen.MkvF.Points
public import proofs.«01_k».proof.Proof.Gen.MkvF.Frame
public import proofs.«01_k».proof.Proof.Gen.MkvFIdeal
public import proofs.«01_k».proof.Proof.Gen.MkvFIdeal.Skeleton
public import proofs.«01_k».proof.Proof.Gen.MkvFIdeal.Launch
public import proofs.«01_k».proof.Proof.Gen.MkvFIdeal.Points
public import proofs.«01_k».proof.Proof.Gen.MkvFIdeal.Frame
public import proofs.«01_k».proof.Proof.Gen.MkvFIdeal.Value
public import proofs.«01_k».proof.Proof.Gen.MkvFRefIdeal
public import proofs.«01_k».proof.Proof.Gen.MkvFRefIdeal.Run
public import proofs.«01_k».proof.Proof.Gen.MkvFRefIdeal.Read
public import proofs.«01_k».proof.Proof.Gen.MkvW
public import proofs.«01_k».proof.Proof.Gen.MkvW.Skeleton
public import proofs.«01_k».proof.Proof.Gen.MkvW.Launch
public import proofs.«01_k».proof.Proof.Gen.MkvW.Points
public import proofs.«01_k».proof.Proof.Gen.MkvW.Frame
public import proofs.«01_k».proof.Proof.Gen.MkvWIdeal
public import proofs.«01_k».proof.Proof.Gen.MkvWIdeal.Skeleton
public import proofs.«01_k».proof.Proof.Gen.MkvWIdeal.Launch
public import proofs.«01_k».proof.Proof.Gen.MkvWIdeal.Points
public import proofs.«01_k».proof.Proof.Gen.MkvWIdeal.Frame
public import proofs.«01_k».proof.Proof.Gen.MkvWIdeal.Value
public import proofs.«01_k».proof.Proof.Gen.MkvWRefIdeal
public import proofs.«01_k».proof.Proof.Gen.MkvWRefIdeal.Run
public import proofs.«01_k».proof.Proof.Gen.MkvWRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.MemF
public import proofs.«01_k».proof.Proof.Gen.MemF.Skeleton
public import proofs.«01_k».proof.Proof.Gen.MemF.Launch
public import proofs.«01_k».proof.Proof.Gen.MemF.Points
public import proofs.«01_k».proof.Proof.Gen.MemF.Frame
public import proofs.«01_k».proof.Proof.Gen.MemFIdeal
public import proofs.«01_k».proof.Proof.Gen.MemFIdeal.Skeleton
public import proofs.«01_k».proof.Proof.Gen.MemFIdeal.Launch
public import proofs.«01_k».proof.Proof.Gen.MemFIdeal.Points
public import proofs.«01_k».proof.Proof.Gen.MemFIdeal.Frame
public import proofs.«01_k».proof.Proof.Gen.MemFIdeal.Value
public import proofs.«01_k».proof.Proof.Gen.MemFRefIdeal
public import proofs.«01_k».proof.Proof.Gen.MemFRefIdeal.Run
public import proofs.«01_k».proof.Proof.Gen.MemFRefIdeal.Read
public import proofs.«01_k».proof.Proof.Gen.AdamAIn
public import proofs.«01_k».proof.Proof.Gen.AdamAIn.Skeleton
public import proofs.«01_k».proof.Proof.Gen.AdamAIn.Launch
public import proofs.«01_k».proof.Proof.Gen.AdamAIn.Points
public import proofs.«01_k».proof.Proof.Gen.AdamAIn.Frame
public import proofs.«01_k».proof.Proof.Gen.AdamAInIdeal
public import proofs.«01_k».proof.Proof.Gen.AdamAInIdeal.Skeleton
public import proofs.«01_k».proof.Proof.Gen.AdamAInIdeal.Launch
public import proofs.«01_k».proof.Proof.Gen.AdamAInIdeal.Points
public import proofs.«01_k».proof.Proof.Gen.AdamAInIdeal.Frame
public import proofs.«01_k».proof.Proof.Gen.AdamAInIdeal.Value
public import proofs.«01_k».proof.Proof.Gen.AdamAInRefIdeal
public import proofs.«01_k».proof.Proof.Gen.AdamAInRefIdeal.Run
public import proofs.«01_k».proof.Proof.Gen.AdamAInRefIdeal.Read
public import proofs.«01_k».proof.Proof.Gen.AdamBIn
public import proofs.«01_k».proof.Proof.Gen.AdamBIn.Skeleton
public import proofs.«01_k».proof.Proof.Gen.AdamBIn.Launch
public import proofs.«01_k».proof.Proof.Gen.AdamBIn.Points
public import proofs.«01_k».proof.Proof.Gen.AdamBIn.Frame
public import proofs.«01_k».proof.Proof.Gen.AdamBInIdeal
public import proofs.«01_k».proof.Proof.Gen.AdamBInIdeal.Skeleton
public import proofs.«01_k».proof.Proof.Gen.AdamBInIdeal.Launch
public import proofs.«01_k».proof.Proof.Gen.AdamBInIdeal.Points
public import proofs.«01_k».proof.Proof.Gen.AdamBInIdeal.Frame
public import proofs.«01_k».proof.Proof.Gen.AdamBInIdeal.Value
public import proofs.«01_k».proof.Proof.Gen.AdamBInRefIdeal
public import proofs.«01_k».proof.Proof.Gen.AdamBInRefIdeal.Run
public import proofs.«01_k».proof.Proof.Gen.AdamBInRefIdeal.Read
public import proofs.«01_k».proof.Proof.Gen.AdamMem
public import proofs.«01_k».proof.Proof.Gen.AdamMem.Skeleton
public import proofs.«01_k».proof.Proof.Gen.AdamMem.Launch
public import proofs.«01_k».proof.Proof.Gen.AdamMem.Points
public import proofs.«01_k».proof.Proof.Gen.AdamMem.Frame
public import proofs.«01_k».proof.Proof.Gen.AdamMemIdeal
public import proofs.«01_k».proof.Proof.Gen.AdamMemIdeal.Skeleton
public import proofs.«01_k».proof.Proof.Gen.AdamMemIdeal.Launch
public import proofs.«01_k».proof.Proof.Gen.AdamMemIdeal.Points
public import proofs.«01_k».proof.Proof.Gen.AdamMemIdeal.Frame
public import proofs.«01_k».proof.Proof.Gen.AdamMemIdeal.Value
public import proofs.«01_k».proof.Proof.Gen.AdamMemRefIdeal
public import proofs.«01_k».proof.Proof.Gen.AdamMemRefIdeal.Run
public import proofs.«01_k».proof.Proof.Gen.AdamMemRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamGate
public import proofs.«01_k».proof.Proof.Gen.AdamGate.Skeleton
public import proofs.«01_k».proof.Proof.Gen.AdamGate.Launch
public import proofs.«01_k».proof.Proof.Gen.AdamGate.Points
public import proofs.«01_k».proof.Proof.Gen.AdamGate.Frame
public import proofs.«01_k».proof.Proof.Gen.AdamGateIdeal
public import proofs.«01_k».proof.Proof.Gen.AdamGateIdeal.Skeleton
public import proofs.«01_k».proof.Proof.Gen.AdamGateIdeal.Launch
public import proofs.«01_k».proof.Proof.Gen.AdamGateIdeal.Points
public import proofs.«01_k».proof.Proof.Gen.AdamGateIdeal.Frame
public import proofs.«01_k».proof.Proof.Gen.AdamGateIdeal.Value
public import proofs.«01_k».proof.Proof.Gen.AdamGateRefIdeal
public import proofs.«01_k».proof.Proof.Gen.AdamGateRefIdeal.Run
public import proofs.«01_k».proof.Proof.Gen.AdamGateRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.MemAttA
public import proofs.«01_k».proof.Proof.Gen.MemAttA.Skeleton
public import proofs.«01_k».proof.Proof.Gen.MemAttA.Launch
public import proofs.«01_k».proof.Proof.Gen.MemAttA.Points
public import proofs.«01_k».proof.Proof.Gen.MemAttA.Frame
public import proofs.«01_k».proof.Proof.Gen.MemAttAIdeal
public import proofs.«01_k».proof.Proof.Gen.MemAttAIdeal.Skeleton
public import proofs.«01_k».proof.Proof.Gen.MemAttAIdeal.Launch
public import proofs.«01_k».proof.Proof.Gen.MemAttAIdeal.Points
public import proofs.«01_k».proof.Proof.Gen.MemAttAIdeal.Frame
public import proofs.«01_k».proof.Proof.Gen.MemAttAIdeal.Value
public import proofs.«01_k».proof.Proof.Gen.MemAttARefIdeal
public import proofs.«01_k».proof.Proof.Gen.MemAttARefIdeal.Run
public import proofs.«01_k».proof.Proof.Gen.MemAttARefIdeal.Read
public import proofs.«01_k».proof.Proof.Gen.MemFA
public import proofs.«01_k».proof.Proof.Gen.MemFA.Skeleton
public import proofs.«01_k».proof.Proof.Gen.MemFA.Launch
public import proofs.«01_k».proof.Proof.Gen.MemFA.Points
public import proofs.«01_k».proof.Proof.Gen.MemFA.Frame
public import proofs.«01_k».proof.Proof.Gen.MemFAIdeal
public import proofs.«01_k».proof.Proof.Gen.MemFAIdeal.Skeleton
public import proofs.«01_k».proof.Proof.Gen.MemFAIdeal.Launch
public import proofs.«01_k».proof.Proof.Gen.MemFAIdeal.Points
public import proofs.«01_k».proof.Proof.Gen.MemFAIdeal.Frame
public import proofs.«01_k».proof.Proof.Gen.MemFAIdeal.Value
public import proofs.«01_k».proof.Proof.Gen.MemFARefIdeal
public import proofs.«01_k».proof.Proof.Gen.MemFARefIdeal.Run
public import proofs.«01_k».proof.Proof.Gen.MemFARefIdeal.Read
public import proofs.«01_k».proof.Proof.MemClaim
public import proofs.«01_k».proof.Proof.FfnInClaim
public import proofs.«01_k».proof.Proof.GateClaim
public import proofs.«01_k».proof.Proof.DownClaim
public import proofs.«01_k».proof.Proof.UpClaim
public import proofs.«01_k».proof.Proof.NormClaim
public import proofs.«01_k».proof.Proof.OutWClaim
public import proofs.«01_k».proof.Proof.OutBClaim
public import proofs.«01_k».proof.Proof.InWAClaim
public import proofs.«01_k».proof.Proof.InWBClaim
public import proofs.«01_k».proof.Proof.InAClaim
public import proofs.«01_k».proof.Proof.InBClaim
public import proofs.«01_k».proof.Proof.InXClaim
public import proofs.«01_k».proof.Proof.ProjAClaim
public import proofs.«01_k».proof.Proof.ProjBClaim
public import proofs.«01_k».proof.Proof.OutNClaim
public import proofs.«01_k».proof.Proof.ProjXClaim
public import proofs.«01_k».proof.Proof.InWXClaim
public import proofs.«01_k».proof.Proof.MkvFClaim
public import proofs.«01_k».proof.Proof.MkvWClaim
public import proofs.«01_k».proof.Proof.LossClaim
public import proofs.«01_k».proof.Proof.MemFClaim
public import proofs.«01_k».proof.Proof.AdamAInClaim
public import proofs.«01_k».proof.Proof.AdamBInClaim
public import proofs.«01_k».proof.Proof.AdamMemClaim
public import proofs.«01_k».proof.Proof.AdamOutClaim
public import proofs.«01_k».proof.Proof.AdamGateClaim
public import proofs.«01_k».proof.Proof.AdamDownClaim
public import proofs.«01_k».proof.Proof.AdamSmallClaim
public import proofs.«01_k».proof.Proof.MemAttAClaim
public import proofs.«01_k».proof.Proof.MemFAClaim
public import Idealize.ShloMosaic.Adequacy
public import Idealize.ShloMosaic.Init

@[expose] public section

noncomputable section

namespace Cert.Proof

open Idealize.ShloMosaic Idealize.SL.Sem Cert.Sgu

/-- The reference of the gating unit's gradient ends with its arguments unchanged. -/
theorem frame_sgu_ref : Cert.quiescent_SguRefIdeal (hSguRefIdeal := Cert.SguRefIdeal.Gen.facts) := fun m g _ =>
  (θ_run Cert.SguRefIdeal.defs _ _).mono (fun r h => ⟨fun c => (h c).2.2.2.2.2.2, sem_eq_zero_of_no_sems (by decide) r.2⟩) (Cert.SguRefIdeal.Value.run m g)

/-- The two named constants are the numbers whose roundings the program holds. -/
theorem preserves_sgu : Cert.preserves_Sgu_SguIdeal :=
  ⟨IdealRules.named_const.statement Cert.SguIdeal.κ "c3" .f32 0x3D372713#32 _ rfl,
    IdealRules.named_const.statement Cert.SguIdeal.κ "c3d" .f32 0x3E095D4F#32 _ rfl⟩

/-- Everything that the certificate claims. -/
theorem claim : Cert.Claim :=
  ⟨Cert.Sgu.Gen.facts, Cert.SguIdeal.Gen.facts, Cert.SguRefIdeal.Gen.facts,
    Cert.MemAtt.Gen.facts, Cert.MemAttIdeal.Gen.facts, Cert.MemAttRefIdeal.Gen.facts,
    Cert.FfnIn.Gen.facts, Cert.FfnInIdeal.Gen.facts, Cert.FfnInRefIdeal.Gen.facts,
    Cert.Gate.Gen.facts, Cert.GateIdeal.Gen.facts, Cert.GateRefIdeal.Gen.facts,
    Cert.Down.Gen.facts, Cert.DownIdeal.Gen.facts, Cert.DownRefIdeal.Gen.facts,
    Cert.Up.Gen.facts, Cert.UpIdeal.Gen.facts, Cert.UpRefIdeal.Gen.facts,
    Cert.Norm.Gen.facts, Cert.NormIdeal.Gen.facts, Cert.NormRefIdeal.Gen.facts,
    Cert.OutW.Gen.facts, Cert.OutWIdeal.Gen.facts, Cert.OutWRefIdeal.Gen.facts,
    Cert.OutB.Gen.facts, Cert.OutBIdeal.Gen.facts, Cert.OutBRefIdeal.Gen.facts,
    Cert.InWA.Gen.facts, Cert.InWAIdeal.Gen.facts, Cert.InWARefIdeal.Gen.facts,
    Cert.InWB.Gen.facts, Cert.InWBIdeal.Gen.facts, Cert.InWBRefIdeal.Gen.facts,
    Cert.InA.Gen.facts, Cert.InAIdeal.Gen.facts, Cert.InARefIdeal.Gen.facts,
    Cert.InB.Gen.facts, Cert.InBIdeal.Gen.facts, Cert.InBRefIdeal.Gen.facts,
    Cert.InX.Gen.facts, Cert.InXIdeal.Gen.facts, Cert.InXRefIdeal.Gen.facts,
    Cert.ProjA.Gen.facts, Cert.ProjAIdeal.Gen.facts, Cert.ProjARefIdeal.Gen.facts,
    Cert.ProjB.Gen.facts, Cert.ProjBIdeal.Gen.facts, Cert.ProjBRefIdeal.Gen.facts,
    Cert.OutN.Gen.facts, Cert.OutNIdeal.Gen.facts, Cert.OutNRefIdeal.Gen.facts,
    Cert.ProjX.Gen.facts, Cert.ProjXIdeal.Gen.facts, Cert.ProjXRefIdeal.Gen.facts,
    Cert.InWX.Gen.facts, Cert.InWXIdeal.Gen.facts, Cert.InWXRefIdeal.Gen.facts,
    Cert.MkvF.Gen.facts, Cert.MkvFIdeal.Gen.facts, Cert.MkvFRefIdeal.Gen.facts,
    Cert.MkvW.Gen.facts, Cert.MkvWIdeal.Gen.facts, Cert.MkvWRefIdeal.Gen.facts,
    Cert.Loss.Gen.facts, Cert.LossIdeal.Gen.facts, Cert.LossRefIdeal.Gen.facts,
    Cert.MemF.Gen.facts, Cert.MemFIdeal.Gen.facts, Cert.MemFRefIdeal.Gen.facts,
    Cert.AdamAIn.Gen.facts, Cert.AdamAInIdeal.Gen.facts, Cert.AdamAInRefIdeal.Gen.facts,
    Cert.AdamBIn.Gen.facts, Cert.AdamBInIdeal.Gen.facts, Cert.AdamBInRefIdeal.Gen.facts,
    Cert.AdamMem.Gen.facts, Cert.AdamMemIdeal.Gen.facts, Cert.AdamMemRefIdeal.Gen.facts,
    Cert.AdamOut.Gen.facts, Cert.AdamOutIdeal.Gen.facts, Cert.AdamOutRefIdeal.Gen.facts,
    Cert.AdamGate.Gen.facts, Cert.AdamGateIdeal.Gen.facts, Cert.AdamGateRefIdeal.Gen.facts,
    Cert.AdamDown.Gen.facts, Cert.AdamDownIdeal.Gen.facts, Cert.AdamDownRefIdeal.Gen.facts,
    Cert.AdamSmall.Gen.facts, Cert.AdamSmallIdeal.Gen.facts, Cert.AdamSmallRefIdeal.Gen.facts,
    Cert.MemAttA.Gen.facts, Cert.MemAttAIdeal.Gen.facts, Cert.MemAttARefIdeal.Gen.facts,
    Cert.MemFA.Gen.facts, Cert.MemFAIdeal.Gen.facts, Cert.MemFARefIdeal.Gen.facts,
    Cert.MemClaim.pre_facts, Cert.FfnInClaim.pre_facts, Cert.GateClaim.pre_facts, Cert.UpClaim.pre_facts, Cert.InAClaim.pre_facts, Cert.InBClaim.pre_facts, Cert.LossClaim.pre_facts, Cert.MemAttAClaim.pre_facts,
    fun m g _ => Cert.Sgu.Gen.frame m g,
    fun m g _ => Cert.SguIdeal.Gen.frame m g,
    frame_sgu_ref,
    fun m g _ => Cert.MemAtt.Gen.frame m g,
    fun m g _ => Cert.MemAttIdeal.Gen.frame m g,
    fun m g _ => Cert.MemAttIdeal.Gen.frame m g,
    fun m g _ => Cert.MemClaim.frame_ref m g,
    fun m g _ => Cert.MemClaim.frame_ref m g,
    fun m g _ => Cert.FfnIn.Gen.frame m g,
    fun m g _ => Cert.FfnInIdeal.Gen.frame m g,
    fun m g _ => Cert.FfnInIdeal.Gen.frame m g,
    fun m g _ => Cert.FfnInClaim.frame_ref m g,
    fun m g _ => Cert.FfnInClaim.frame_ref m g,
    fun m g _ => Cert.Gate.Gen.frame m g,
    fun m g _ => Cert.GateIdeal.Gen.frame m g,
    fun m g _ => Cert.GateIdeal.Gen.frame m g,
    fun m g _ => Cert.GateClaim.frame_ref m g,
    fun m g _ => Cert.GateClaim.frame_ref m g,
    fun m g _ => Cert.Down.Gen.frame m g,
    fun m g _ => Cert.DownIdeal.Gen.frame m g,
    Cert.DownClaim.frame_ref,
    fun m g _ => Cert.Up.Gen.frame m g,
    fun m g _ => Cert.UpIdeal.Gen.frame m g,
    fun m g _ => Cert.UpIdeal.Gen.frame m g,
    fun m g _ => Cert.UpClaim.frame_ref m g,
    fun m g _ => Cert.UpClaim.frame_ref m g,
    fun m g _ => Cert.Norm.Gen.frame m g,
    fun m g _ => Cert.NormIdeal.Gen.frame m g,
    Cert.NormClaim.frame_ref,
    fun m g _ => Cert.OutW.Gen.frame m g,
    fun m g _ => Cert.OutWIdeal.Gen.frame m g,
    Cert.OutWClaim.frame_ref,
    fun m g _ => Cert.OutB.Gen.frame m g,
    fun m g _ => Cert.OutBIdeal.Gen.frame m g,
    Cert.OutBClaim.frame_ref,
    fun m g _ => Cert.InWA.Gen.frame m g,
    fun m g _ => Cert.InWAIdeal.Gen.frame m g,
    Cert.InWAClaim.frame_ref,
    fun m g _ => Cert.InWB.Gen.frame m g,
    fun m g _ => Cert.InWBIdeal.Gen.frame m g,
    Cert.InWBClaim.frame_ref,
    fun m g _ => Cert.InA.Gen.frame m g,
    fun m g _ => Cert.InAIdeal.Gen.frame m g,
    fun m g _ => Cert.InAIdeal.Gen.frame m g,
    fun m g _ => Cert.InAClaim.frame_ref m g,
    fun m g _ => Cert.InAClaim.frame_ref m g,
    fun m g _ => Cert.InB.Gen.frame m g,
    fun m g _ => Cert.InBIdeal.Gen.frame m g,
    fun m g _ => Cert.InBIdeal.Gen.frame m g,
    fun m g _ => Cert.InBClaim.frame_ref m g,
    fun m g _ => Cert.InBClaim.frame_ref m g,
    fun m g _ => Cert.InX.Gen.frame m g,
    fun m g _ => Cert.InXIdeal.Gen.frame m g,
    Cert.InXClaim.frame_ref,
    fun m g _ => Cert.ProjA.Gen.frame m g,
    fun m g _ => Cert.ProjAIdeal.Gen.frame m g,
    Cert.ProjAClaim.frame_ref,
    fun m g _ => Cert.ProjB.Gen.frame m g,
    fun m g _ => Cert.ProjBIdeal.Gen.frame m g,
    Cert.ProjBClaim.frame_ref,
    fun m g _ => Cert.OutN.Gen.frame m g,
    fun m g _ => Cert.OutNIdeal.Gen.frame m g,
    Cert.OutNClaim.frame_ref,
    fun m g _ => Cert.ProjX.Gen.frame m g,
    fun m g _ => Cert.ProjXIdeal.Gen.frame m g,
    Cert.ProjXClaim.frame_ref,
    fun m g _ => Cert.InWX.Gen.frame m g,
    fun m g _ => Cert.InWXIdeal.Gen.frame m g,
    Cert.InWXClaim.frame_ref,
    fun m g _ => Cert.MkvF.Gen.frame m g,
    fun m g _ => Cert.MkvFIdeal.Gen.frame m g,
    Cert.MkvFClaim.frame_ref,
    fun m g _ => Cert.MkvW.Gen.frame m g,
    fun m g _ => Cert.MkvWIdeal.Gen.frame m g,
    Cert.MkvWClaim.frame_ref,
    fun m g _ => Cert.Loss.Gen.frame m g,
    fun m g _ => Cert.LossIdeal.Gen.frame m g,
    fun m g _ => Cert.LossIdeal.Gen.frame m g,
    fun m g _ => Cert.LossClaim.frame_ref m g,
    fun m g _ => Cert.LossClaim.frame_ref m g,
    fun m g _ => Cert.MemF.Gen.frame m g,
    fun m g _ => Cert.MemFIdeal.Gen.frame m g,
    Cert.MemFClaim.frame_ref,
    fun m g _ => Cert.AdamAIn.Gen.frame m g,
    fun m g _ => Cert.AdamAInIdeal.Gen.frame m g,
    Cert.AdamAInClaim.frame_ref,
    fun m g _ => Cert.AdamBIn.Gen.frame m g,
    fun m g _ => Cert.AdamBInIdeal.Gen.frame m g,
    Cert.AdamBInClaim.frame_ref,
    fun m g _ => Cert.AdamMem.Gen.frame m g,
    fun m g _ => Cert.AdamMemIdeal.Gen.frame m g,
    Cert.AdamMemClaim.frame_ref,
    fun m g _ => Cert.AdamOut.Gen.frame m g,
    fun m g _ => Cert.AdamOutIdeal.Gen.frame m g,
    Cert.AdamOutClaim.frame_ref,
    fun m g _ => Cert.AdamGate.Gen.frame m g,
    fun m g _ => Cert.AdamGateIdeal.Gen.frame m g,
    Cert.AdamGateClaim.frame_ref,
    fun m g _ => Cert.AdamDown.Gen.frame m g,
    fun m g _ => Cert.AdamDownIdeal.Gen.frame m g,
    Cert.AdamDownClaim.frame_ref,
    fun m g _ => Cert.AdamSmall.Gen.frame m g,
    fun m g _ => Cert.AdamSmallIdeal.Gen.frame m g,
    Cert.AdamSmallClaim.frame_ref,
    fun m g _ => Cert.MemAttA.Gen.frame m g,
    fun m g _ => Cert.MemAttAIdeal.Gen.frame m g,
    fun m g _ => Cert.MemAttAIdeal.Gen.frame m g,
    fun m g _ => Cert.MemAttAClaim.frame_ref m g,
    fun m g _ => Cert.MemAttAClaim.frame_ref m g,
    fun m g _ => Cert.MemFA.Gen.frame m g,
    fun m g _ => Cert.MemFAIdeal.Gen.frame m g,
    Cert.MemFAClaim.frame_ref,
    preserves_sgu,
    trivial,
    Cert.MemClaim.algebraic (h := Cert.MemClaim.pre_facts),
    trivial,
    Cert.FfnInClaim.algebraic (h := Cert.FfnInClaim.pre_facts),
    trivial,
    Cert.GateClaim.algebraic (h := Cert.GateClaim.pre_facts),
    trivial,
    Cert.DownClaim.algebraic,
    trivial,
    Cert.UpClaim.algebraic (h := Cert.UpClaim.pre_facts),
    trivial,
    Cert.NormClaim.algebraic,
    trivial,
    Cert.OutWClaim.algebraic,
    trivial,
    Cert.OutBClaim.algebraic,
    trivial,
    Cert.InWAClaim.algebraic,
    trivial,
    Cert.InWBClaim.algebraic,
    trivial,
    Cert.InAClaim.algebraic (h := Cert.InAClaim.pre_facts),
    trivial,
    Cert.InBClaim.algebraic (h := Cert.InBClaim.pre_facts),
    trivial,
    Cert.InXClaim.algebraic,
    trivial,
    Cert.ProjAClaim.algebraic,
    trivial,
    Cert.ProjBClaim.algebraic,
    trivial,
    Cert.OutNClaim.algebraic,
    trivial,
    Cert.ProjXClaim.algebraic,
    trivial,
    Cert.InWXClaim.algebraic,
    trivial,
    Cert.MkvFClaim.algebraic,
    trivial,
    Cert.MkvWClaim.algebraic,
    trivial,
    Cert.LossClaim.algebraic (h := Cert.LossClaim.pre_facts),
    trivial,
    Cert.MemFClaim.algebraic,
    trivial,
    Cert.AdamAInClaim.algebraic,
    trivial,
    Cert.AdamBInClaim.algebraic,
    trivial,
    Cert.AdamMemClaim.algebraic,
    trivial,
    Cert.AdamOutClaim.algebraic,
    trivial,
    Cert.AdamGateClaim.algebraic,
    trivial,
    Cert.AdamDownClaim.algebraic,
    trivial,
    Cert.AdamSmallClaim.algebraic,
    trivial,
    Cert.MemAttAClaim.algebraic (h := Cert.MemAttAClaim.pre_facts),
    trivial,
    Cert.MemFAClaim.algebraic⟩

end Cert.Proof

end
